-- ==== Defs.lean ====
def Pre_Kernel [hPre_near : Cert.Pre_near.Facts] (m : (ℓ : Loc Cert.Kernel.nD Cert.Kernel.τ Cert.Kernel.sig) → Buf (Elt Bits) ℓ) : Prop :=
  ∀ c : Dev Cert.Kernel.nD,
    (Cert.Pre_near.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_near : Cert.Pre_near.Facts] (m : (ℓ : Loc Cert.KernelIdeal.nD Cert.KernelIdeal.τ Cert.KernelIdeal.sig) → Buf (Elt Ideal) ℓ) : Prop :=
  ∀ c : Dev Cert.KernelIdeal.nD,
    (Cert.Pre_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_near [hPre_near : Cert.Pre_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_near : Cert.Pre_near.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_near : Cert.Pre_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_near [hReferenceIdeal : Cert.ReferenceIdeal.Facts] [hPre_near : Cert.Pre_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_near : Cert.Pre_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_near : Cert.Pre_near.Facts),
    quiescent_Kernel (hKernel := hKernel) (hPre_near := hPre_near)
    ∧ quiescent_KernelIdeal (hKernelIdeal := hKernelIdeal) (hPre_near := hPre_near)
    ∧ quiescent_ReferenceIdeal (hReferenceIdeal := hReferenceIdeal)
    ∧ quiescent_ReferenceIdeal_pre_near (hReferenceIdeal := hReferenceIdeal) (hPre_near := hPre_near)
    ∧ preserves_Kernel_KernelIdeal
    ∧ algebraic_KernelIdeal_ReferenceIdeal (hKernelIdeal := hKernelIdeal) (hReferenceIdeal := hReferenceIdeal) (hPre_near := hPre_near)
-- ==== Pre_near.lean ====
abbrev S2048x1024 : Shape := ⟨2, ![2048, 1024]⟩
abbrev S2048x48 : Shape := ⟨2, ![2048, 48]⟩
abbrev S2048x768 : Shape := ⟨2, ![2048, 768]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S2048x33 : Shape := ⟨2, ![2048, 33]⟩
abbrev S_ : Shape := ⟨0, ![]⟩

class Facts : Prop where
  slices_S2048x48_S2048x33_0_0 : S2048x48.Slices ![0, 0] S2048x33
  bcast_S_S2048x33 : S_.BroadcastsInDim S2048x33 (![] : Fin 0 → Fin S2048x33.rank)
  reducesTo_S2048x33_S_d0_1 : S2048x33.ReducesTo [0, 1] S_
  h_S_ : 0 < S_.numel

variable [Facts]

def fn_part1 {F : FTy → Type} [FloatOps F] (main_v13 : IVec S_ 1) (main_v16 : IVec S2048x33 1) : IVec S_ 1 :=
  let main_c_6 : IVec S_ 1 := constantI S_ 1 1#1
  let main_v17 : IVec S_ 1 := (fun x v => Host.reduce IntOp.andi x v reducesTo_S2048x33_S_d0_1 h_S_) main_v16 main_c_6
  let main_v18 : IVec S_ 1 := andi main_v13 main_v17
  main_v18

def fn {F : FTy → Type} [FloatOps F] (main_arg0 : FVec F S2048x1024 .f32) (main_arg1 : IVec S2048x48 32) (main_arg2 : FVec F S2048x768 .f32) (main_arg3 : FVec F S256x1024 .f32) (main_arg4 : FVec F S256 .f32) (main_arg5 : FVec F S1024x256 .f32) (main_arg6 : FVec F S1024 .f32) (main_arg7 : FVec F S1024x1024 .f32) : IVec S_ 1 :=
  let main_v0 : IVec S2048x33 32 := (extractStridedSlice S2048x33 ![0, 0] · slices_S2048x48_S2048x33_0_0) main_arg1
  let main_v1 : IVec S2048x33 32 := iotaInDim S2048x33 32 0
  let main_c : IVec S_ 32 := constantI S_ 32 0#32
  let main_v2 : IVec S2048x33 32 := broadcastInDim S2048x33 ![] bcast_S_S2048x33 main_c
  let main_v3 : IVec S2048x33 1 := cmpi .sge main_v0 main_v2
  let main_c_0 : IVec S_ 1 := constantI S_ 1 1#1
  let main_v4 : IVec S_ 1 := (fun x v => Host.reduce IntOp.andi x v reducesTo_S2048x33_S_d0_1 h_S_) main_v3 main_c_0
  let main_c_1 : IVec S_ 32 := constantI S_ 32 2048#32
  let main_v5 : IVec S2048x33 32 := broadcastInDim S2048x33 ![] bcast_S_S2048x33 main_c_1
  let main_v6 : IVec S2048x33 1 := cmpi .slt main_v0 main_v5
  let main_c_2 : IVec S_ 1 := constantI S_ 1 1#1
  let main_v7 : IVec S_ 1 := (fun x v => Host.reduce IntOp.andi x v reducesTo_S2048x33_S_d0_1 h_S_) main_v6 main_c_2
  let main_v8 : IVec S_ 1 := andi main_v4 main_v7
  let main_c_3 : IVec S_ 32 := constantI S_ 32 272#32
  let main_v9 : IVec S2048x33 32 := broadcastInDim S2048x33 ![] bcast_S_S2048x33 main_c_3
  let main_v10 : IVec S2048x33 32 := addi main_v1 main_v9
  let main_v11 : IVec S2048x33 1 := cmpi .sle main_v0 main_v10
  let main_c_4 : IVec S_ 1 := constantI S_ 1 1#1
  let main_v12 : IVec S_ 1 := (fun x v => Host.reduce IntOp.andi x v reducesTo_S2048x33_S_d0_1 h_S_) main_v11 main_c_4
  let main_v13 : IVec S_ 1 := andi main_v8 main_v12
  let main_c_5 : IVec S_ 32 := constantI S_ 32 272#32
  let main_v14 : IVec S2048x33 32 := broadcastInDim S2048x33 ![] bcast_S_S2048x33 main_c_5
  let main_v15 : IVec S2048x33 32 := subi main_v1 main_v14
  let main_v16 : IVec S2048x33 1 := cmpi .sge main_v0 main_v15
  fn_part1 (F := F) main_v13 main_v16
-- ==== Kernel.lean ====
abbrev S2048x1024 : Shape := ⟨2, ![2048, 1024]⟩
abbrev S2048x48 : Shape := ⟨2, ![2048, 48]⟩
abbrev S2048x768 : Shape := ⟨2, ![2048, 768]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S704x64 : Shape := ⟨2, ![704, 64]⟩
abbrev S128x48 : Shape := ⟨2, ![128, 48]⟩
abbrev S128x64 : Shape := ⟨2, ![128, 64]⟩
abbrev S_ : Shape := ⟨0, ![]⟩
abbrev S16 : Shape := ⟨1, ![16]⟩
abbrev S1x16 : Shape := ⟨2, ![1, 16]⟩
abbrev S1 : Shape := ⟨1, ![1]⟩
abbrev S1x256 : Shape := ⟨2, ![1, 256]⟩
abbrev S1x1024 : Shape := ⟨2, ![1, 1024]⟩
abbrev S256x256 : Shape := ⟨2, ![256, 256]⟩

abbrev nBuf : Table → Nat
  | .hbm => 15
  | .local .tc .vmem => 9
  | .local .scVector .vmem => 5
  | _ => 0

abbrev bufTy : (tb : Table) → Fin (nBuf tb) → BufTy
  | .hbm, ⟨0, _⟩ => ⟨S2048x1024, .f32⟩
  | .hbm, ⟨1, _⟩ => ⟨S2048x48, .i32⟩
  | .hbm, ⟨2, _⟩ => ⟨S2048x768, .f32⟩
  | .hbm, ⟨3, _⟩ => ⟨S256x1024, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S1024x1024, .f32⟩
  | .hbm, ⟨8, _⟩ => ⟨S2048x1024, .f32⟩
  | .hbm, ⟨9, _⟩ => ⟨S256x1024, .bf16⟩
  | .hbm, ⟨10, _⟩ => ⟨S1x256, .f32⟩
  | .hbm, ⟨11, _⟩ => ⟨S1024x256, .bf16⟩
  | .hbm, ⟨12, _⟩ => ⟨S1x1024, .f32⟩
  | .hbm, ⟨13, _⟩ => ⟨S1024x1024, .bf16⟩
  | .hbm, ⟨14, _⟩ => ⟨S2048x1024, .f32⟩
  | .local .tc .vmem, ⟨0, _⟩ => ⟨S256x1024, .f32⟩
  | .local .tc .vmem, ⟨1, _⟩ => ⟨S256x1024, .f32⟩
  | .local .tc .vmem, ⟨2, _⟩ => ⟨S256x1024, .bf16⟩
  | .local .tc .vmem, ⟨3, _⟩ => ⟨S1x256, .f32⟩
  | .local .tc .vmem, ⟨4, _⟩ => ⟨S1024x256, .bf16⟩
  | .local .tc .vmem, ⟨5, _⟩ => ⟨S1x1024, .f32⟩
  | .local .tc .vmem, ⟨6, _⟩ => ⟨S1024x1024, .bf16⟩
  | .local .tc .vmem, ⟨7, _⟩ => ⟨S256x1024, .f32⟩
  | .local .tc .vmem, ⟨8, _⟩ => ⟨S256x1024, .f32⟩
  | .local .scVector .vmem, ⟨0, _⟩ => ⟨S704x64, .f32⟩
  | .local .scVector .vmem, ⟨1, _⟩ => ⟨S704x64, .f32⟩
  | .local .scVector .vmem, ⟨2, _⟩ => ⟨S128x48, .i32⟩
  | .local .scVector .vmem, ⟨3, _⟩ => ⟨S128x48, .f32⟩
  | .local .scVector .vmem, ⟨4, _⟩ => ⟨S128x64, .f32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 26
abbrev cc1_sem0_1 : DmaSem sig := 27
abbrev cc1_sem1_0 : DmaSem sig := 28
abbrev cc1_sem2_0 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem6_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c1344_i32 : BitVec 32 := 1344#32
  let c0_i32_12 : BitVec 32 := 0#32
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32 : BitVec 32 := 8#32
  let v29 : BitVec 32 := Scalar.muli v28 c8_i32
  let c0_i32_10 : BitVec 32 := 0#32
  let v30 : BitVec 32 := Scalar.addi v29 c0_i32_10
  let c128_i32 : BitVec 32 := 128#32
  let v31 : BitVec 32 := Scalar.muli v30 c128_i32
  let v32 : BitVec 32 := Scalar.addi c0_i32_11 v31
  let c288_i32 : BitVec 32 := 288#32
  let v33 : BitVec 32 := Scalar.subi v32 c288_i32
  let v34 : BitVec 32 := Scalar.maxsi c0_i32_12 v33
  let v35 : BitVec 32 := Scalar.minsi c1344_i32 v34
  v35
def k0_off1 (i : grid0.Coords) (c0_i32_10 : BitVec 32) : Fin 2 → Nat :=
  let c1344_i32 : BitVec 32 := 1344#32
  let c0_i32_12 : BitVec 32 := 0#32
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32 : BitVec 32 := 8#32
  let v29 : BitVec 32 := Scalar.muli v28 c8_i32
  let v30 : BitVec 32 := Scalar.addi v29 c0_i32_10
  let c128_i32 : BitVec 32 := 128#32
  let v31 : BitVec 32 := Scalar.muli v30 c128_i32
  let v32 : BitVec 32 := Scalar.addi c0_i32_11 v31
  let c288_i32 : BitVec 32 := 288#32
  let v33 : BitVec 32 := Scalar.subi v32 c288_i32
  let v34 : BitVec 32 := Scalar.maxsi c0_i32_12 v33
  let v35 : BitVec 32 := Scalar.minsi c1344_i32 v34
  let v36 : BitVec 32 := v35
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c64_i32 : BitVec 32 := 64#32
  let v37 : BitVec 32 := Scalar.muli v11 c64_i32
  ![v36.toNat, v37.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_13 : BitVec 32 := 8#32
  let v40 : BitVec 32 := Scalar.muli v28 c8_i32_13
  let c0_i32_14 : BitVec 32 := 0#32
  let v41 : BitVec 32 := Scalar.addi v40 c0_i32_14
  let c128_i32_15 : BitVec 32 := 128#32
  let v42 : BitVec 32 := Scalar.muli v41 c128_i32_15
  v42
def k0_off2 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_13 : BitVec 32 := 8#32
  let v40 : BitVec 32 := Scalar.muli v28 c8_i32_13
  let v41 : BitVec 32 := Scalar.addi v40 c0_i32_14
  let c128_i32_15 : BitVec 32 := 128#32
  let v42 : BitVec 32 := Scalar.muli v41 c128_i32_15
  let v43 : BitVec 32 := v42
  let c0_i32_143_r0 : BitVec 32 := 0#32
  ![v43.toNat, 0]
def k0_off3 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_13 : BitVec 32 := 8#32
  let v40 : BitVec 32 := Scalar.muli v28 c8_i32_13
  let v41 : BitVec 32 := Scalar.addi v40 c0_i32_14
  let c128_i32_15 : BitVec 32 := 128#32
  let v42 : BitVec 32 := Scalar.muli v41 c128_i32_15
  let v43 : BitVec 32 := v42
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c48_i32 : BitVec 32 := 48#32
  let v44 : BitVec 32 := Scalar.muli v11 c48_i32
  ![v43.toNat, v44.toNat]
def k0_mult3 (i : grid0.Coords) : BitVec 32 :=
  let c1344_i32_22 : BitVec 32 := 1344#32
  let c0_i32_21 : BitVec 32 := 0#32
  let c0_i32_19 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_16 : BitVec 32 := 8#32
  let v47 : BitVec 32 := Scalar.muli v28 c8_i32_16
  let c1_i32_17 : BitVec 32 := 1#32
  let v48 : BitVec 32 := Scalar.addi v47 c1_i32_17
  let c128_i32_18 : BitVec 32 := 128#32
  let v49 : BitVec 32 := Scalar.muli v48 c128_i32_18
  let v50 : BitVec 32 := Scalar.addi c0_i32_19 v49
  let c288_i32_20 : BitVec 32 := 288#32
  let v51 : BitVec 32 := Scalar.subi v50 c288_i32_20
  let v52 : BitVec 32 := Scalar.maxsi c0_i32_21 v51
  let v53 : BitVec 32 := Scalar.minsi c1344_i32_22 v52
  v53
@[reducible] def k0_t1_loop : Scf.Loop 32 :=
  let c0_i32_25 : BitVec 32 := 0#32
  let c64_i32_26 : BitVec 32 := 64#32
  let v58 : BitVec 32 := Scalar.addi c0_i32_25 c64_i32_26
  let c1_i32_27 : BitVec 32 := 1#32
  ⟨c0_i32_25, v58, c1_i32_27⟩
def k0_off4 (k0_t1 : Fin k0_t1_loop.trips) : Fin 2 → Nat :=
  let c2_i32_143 : BitVec 32 := 2#32
  let c0_i32_25 : BitVec 32 := 0#32
  let c1_i32_27 : BitVec 32 := 1#32
  let arg13 : BitVec 32 := Scf.iv c0_i32_25 c1_i32_27 k0_t1
  let v189 : BitVec 32 := Scalar.muli c2_i32_143 arg13
  let v192 : Index := Scalar.indexCast v189
  let c0 : Index := 0#32
  ![v192.toNat, 0]
def k0_off5 (k0_t1 : Fin k0_t1_loop.trips) : Fin 2 → Nat :=
  let c2_i32_143 : BitVec 32 := 2#32
  let c0_i32_25 : BitVec 32 := 0#32
  let c1_i32_27 : BitVec 32 := 1#32
  let arg13 : BitVec 32 := Scf.iv c0_i32_25 c1_i32_27 k0_t1
  let v189 : BitVec 32 := Scalar.muli c2_i32_143 arg13
  let v194 : Index := Scalar.indexCast v189
  let c16 : Index := 16#32
  ![v194.toNat, 16]
def k0_off6 (k0_t1 : Fin k0_t1_loop.trips) : Fin 2 → Nat :=
  let c2_i32_143 : BitVec 32 := 2#32
  let c0_i32_25 : BitVec 32 := 0#32
  let c1_i32_27 : BitVec 32 := 1#32
  let arg13 : BitVec 32 := Scf.iv c0_i32_25 c1_i32_27 k0_t1
  let v189 : BitVec 32 := Scalar.muli c2_i32_143 arg13
  let v196 : Index := Scalar.indexCast v189
  let c32 : Index := 32#32
  ![v196.toNat, 32]
def k0_off7 (v218 : BitVec 32) : Fin 2 → Nat :=
  let v219 : Index := Scalar.indexCast v218
  let c0_152 : Index := 0#32
  ![v219.toNat, 0]

def k0_off8 (v218 : BitVec 32) : Fin 2 → Nat :=
  let v223 : Index := Scalar.indexCast v218
  let c16_153 : Index := 16#32
  ![v223.toNat, 16]
def k0_off9 (v218 : BitVec 32) : Fin 2 → Nat :=
  let v227 : Index := Scalar.indexCast v218
  let c32_154 : Index := 32#32
  ![v227.toNat, 32]
def k0_off10 (v218 : BitVec 32) : Fin 2 → Nat :=
  let v231 : Index := Scalar.indexCast v218
  let c48 : Index := 48#32
  ![v231.toNat, 48]

def k0_chk1 (v218 : BitVec 32) : Prop :=
  (∀ a, (k0_off7 v218) a + S1x16.size a ≤ S704x64.size a) ∧
  (∀ a, (k0_off8 v218) a + S1x16.size a ≤ S704x64.size a) ∧
  (∀ a, (k0_off9 v218) a + S1x16.size a ≤ S704x64.size a) ∧
  (∀ a, (k0_off10 v218) a + S1x16.size a ≤ S704x64.size a)
theorem k0_off7_inb : ∀ (v218 : BitVec 32) (k0_hw1 : k0_chk1 v218), ∀ a, (k0_off7 v218) a + S1x16.size a ≤ S704x64.size a := fun v218 k0_hw1 => k0_hw1.1
theorem k0_off8_inb : ∀ (v218 : BitVec 32) (k0_hw1 : k0_chk1 v218), ∀ a, (k0_off8 v218) a + S1x16.size a ≤ S704x64.size a := fun v218 k0_hw1 => k0_hw1.2.1
theorem k0_off9_inb : ∀ (v218 : BitVec 32) (k0_hw1 : k0_chk1 v218), ∀ a, (k0_off9 v218) a + S1x16.size a ≤ S704x64.size a := fun v218 k0_hw1 => k0_hw1.2.2.1
theorem k0_off10_inb : ∀ (v218 : BitVec 32) (k0_hw1 : k0_chk1 v218), ∀ a, (k0_off10 v218) a + S1x16.size a ≤ S704x64.size a := fun v218 k0_hw1 => k0_hw1.2.2.2

def k0_off11 (v239 : BitVec 32) : Fin 2 → Nat :=
  let v240 : Index := Scalar.indexCast v239
  let c0_155 : Index := 0#32
  ![v240.toNat, 0]

def k0_off12 (v239 : BitVec 32) : Fin 2 → Nat :=
  let v244 : Index := Scalar.indexCast v239
  let c16_156 : Index := 16#32
  ![v244.toNat, 16]
def k0_off13 (v239 : BitVec 32) : Fin 2 → Nat :=
  let v248 : Index := Scalar.indexCast v239
  let c32_157 : Index := 32#32
  ![v248.toNat, 32]
def k0_off14 (v239 : BitVec 32) : Fin 2 → Nat :=
  let v252 : Index := Scalar.indexCast v239
  let c48_158 : Index := 48#32
  ![v252.toNat, 48]

def k0_chk2 (v239 : BitVec 32) : Prop :=
  (∀ a, (k0_off11 v239) a + S1x16.size a ≤ S704x64.size a) ∧
  (∀ a, (k0_off12 v239) a + S1x16.size a ≤ S704x64.size a) ∧
  (∀ a, (k0_off13 v239) a + S1x16.size a ≤ S704x64.size a) ∧
  (∀ a, (k0_off14 v239) a + S1x16.size a ≤ S704x64.size a)
theorem k0_off11_inb : ∀ (v239 : BitVec 32) (k0_hw2 : k0_chk2 v239), ∀ a, (k0_off11 v239) a + S1x16.size a ≤ S704x64.size a := fun v239 k0_hw2 => k0_hw2.1
theorem k0_off12_inb : ∀ (v239 : BitVec 32) (k0_hw2 : k0_chk2 v239), ∀ a, (k0_off12 v239) a + S1x16.size a ≤ S704x64.size a := fun v239 k0_hw2 => k0_hw2.2.1
theorem k0_off13_inb : ∀ (v239 : BitVec 32) (k0_hw2 : k0_chk2 v239), ∀ a, (k0_off13 v239) a + S1x16.size a ≤ S704x64.size a := fun v239 k0_hw2 => k0_hw2.2.2.1
theorem k0_off14_inb : ∀ (v239 : BitVec 32) (k0_hw2 : k0_chk2 v239), ∀ a, (k0_off14 v239) a + S1x16.size a ≤ S704x64.size a := fun v239 k0_hw2 => k0_hw2.2.2.2

def k0_off15 (v260 : BitVec 32) : Fin 2 → Nat :=
  let v261 : Index := Scalar.indexCast v260
  let c0_159 : Index := 0#32
  ![v261.toNat, 0]

def k0_off16 (v260 : BitVec 32) : Fin 2 → Nat :=
  let v265 : Index := Scalar.indexCast v260
  let c16_160 : Index := 16#32
  ![v265.toNat, 16]
def k0_off17 (v260 : BitVec 32) : Fin 2 → Nat :=
  let v269 : Index := Scalar.indexCast v260
  let c32_161 : Index := 32#32
  ![v269.toNat, 32]
def k0_off18 (v260 : BitVec 32) : Fin 2 → Nat :=
  let v273 : Index := Scalar.indexCast v260
  let c48_162 : Index := 48#32
  ![v273.toNat, 48]

def k0_chk3 (v260 : BitVec 32) : Prop :=
  (∀ a, (k0_off15 v260) a + S1x16.size a ≤ S704x64.size a) ∧
  (∀ a, (k0_off16 v260) a + S1x16.size a ≤ S704x64.size a) ∧
  (∀ a, (k0_off17 v260) a + S1x16.size a ≤ S704x64.size a) ∧
  (∀ a, (k0_off18 v260) a + S1x16.size a ≤ S704x64.size a)
theorem k0_off15_inb : ∀ (v260 : BitVec 32) (k0_hw3 : k0_chk3 v260), ∀ a, (k0_off15 v260) a + S1x16.size a ≤ S704x64.size a := fun v260 k0_hw3 => k0_hw3.1
theorem k0_off16_inb : ∀ (v260 : BitVec 32) (k0_hw3 : k0_chk3 v260), ∀ a, (k0_off16 v260) a + S1x16.size a ≤ S704x64.size a := fun v260 k0_hw3 => k0_hw3.2.1
theorem k0_off17_inb : ∀ (v260 : BitVec 32) (k0_hw3 : k0_chk3 v260), ∀ a, (k0_off17 v260) a + S1x16.size a ≤ S704x64.size a := fun v260 k0_hw3 => k0_hw3.2.2.1
theorem k0_off18_inb : ∀ (v260 : BitVec 32) (k0_hw3 : k0_chk3 v260), ∀ a, (k0_off18 v260) a + S1x16.size a ≤ S704x64.size a := fun v260 k0_hw3 => k0_hw3.2.2.2

def k0_off19 (v281 : BitVec 32) : Fin 2 → Nat :=
  let v282 : Index := Scalar.indexCast v281
  let c0_163 : Index := 0#32
  ![v282.toNat, 0]

def k0_off20 (v281 : BitVec 32) : Fin 2 → Nat :=
  let v286 : Index := Scalar.indexCast v281
  let c16_164 : Index := 16#32
  ![v286.toNat, 16]
def k0_off21 (v281 : BitVec 32) : Fin 2 → Nat :=
  let v290 : Index := Scalar.indexCast v281
  let c32_165 : Index := 32#32
  ![v290.toNat, 32]
def k0_off22 (v281 : BitVec 32) : Fin 2 → Nat :=
  let v294 : Index := Scalar.indexCast v281
  let c48_166 : Index := 48#32
  ![v294.toNat, 48]

def k0_chk4 (v281 : BitVec 32) : Prop :=
  (∀ a, (k0_off19 v281) a + S1x16.size a ≤ S704x64.size a) ∧
  (∀ a, (k0_off20 v281) a + S1x16.size a ≤ S704x64.size a) ∧
  (∀ a, (k0_off21 v281) a + S1x16.size a ≤ S704x64.size a) ∧
  (∀ a, (k0_off22 v281) a + S1x16.size a ≤ S704x64.size a)
theorem k0_off19_inb : ∀ (v281 : BitVec 32) (k0_hw4 : k0_chk4 v281), ∀ a, (k0_off19 v281) a + S1x16.size a ≤ S704x64.size a := fun v281 k0_hw4 => k0_hw4.1
theorem k0_off20_inb : ∀ (v281 : BitVec 32) (k0_hw4 : k0_chk4 v281), ∀ a, (k0_off20 v281) a + S1x16.size a ≤ S704x64.size a := fun v281 k0_hw4 => k0_hw4.2.1
theorem k0_off21_inb : ∀ (v281 : BitVec 32) (k0_hw4 : k0_chk4 v281), ∀ a, (k0_off21 v281) a + S1x16.size a ≤ S704x64.size a := fun v281 k0_hw4 => k0_hw4.2.2.1
theorem k0_off22_inb : ∀ (v281 : BitVec 32) (k0_hw4 : k0_chk4 v281), ∀ a, (k0_off22 v281) a + S1x16.size a ≤ S704x64.size a := fun v281 k0_hw4 => k0_hw4.2.2.2

def k0_off23 (v302 : BitVec 32) : Fin 2 → Nat :=
  let v303 : Index := Scalar.indexCast v302
  let c0_167 : Index := 0#32
  ![v303.toNat, 0]

def k0_off24 (v302 : BitVec 32) : Fin 2 → Nat :=
  let v307 : Index := Scalar.indexCast v302
  let c16_168 : Index := 16#32
  ![v307.toNat, 16]
def k0_off25 (v302 : BitVec 32) : Fin 2 → Nat :=
  let v311 : Index := Scalar.indexCast v302
  let c32_169 : Index := 32#32
  ![v311.toNat, 32]
def k0_off26 (v302 : BitVec 32) : Fin 2 → Nat :=
  let v315 : Index := Scalar.indexCast v302
  let c48_170 : Index := 48#32
  ![v315.toNat, 48]

def k0_chk5 (v302 : BitVec 32) : Prop :=
  (∀ a, (k0_off23 v302) a + S1x16.size a ≤ S704x64.size a) ∧
  (∀ a, (k0_off24 v302) a + S1x16.size a ≤ S704x64.size a) ∧
  (∀ a, (k0_off25 v302) a + S1x16.size a ≤ S704x64.size a) ∧
  (∀ a, (k0_off26 v302) a + S1x16.size a ≤ S704x64.size a)
theorem k0_off23_inb : ∀ (v302 : BitVec 32) (k0_hw5 : k0_chk5 v302), ∀ a, (k0_off23 v302) a + S1x16.size a ≤ S704x64.size a := fun v302 k0_hw5 => k0_hw5.1
theorem k0_off24_inb : ∀ (v302 : BitVec 32) (k0_hw5 : k0_chk5 v302), ∀ a, (k0_off24 v302) a + S1x16.size a ≤ S704x64.size a := fun v302 k0_hw5 => k0_hw5.2.1
theorem k0_off25_inb : ∀ (v302 : BitVec 32) (k0_hw5 : k0_chk5 v302), ∀ a, (k0_off25 v302) a + S1x16.size a ≤ S704x64.size a := fun v302 k0_hw5 => k0_hw5.2.2.1
theorem k0_off26_inb : ∀ (v302 : BitVec 32) (k0_hw5 : k0_chk5 v302), ∀ a, (k0_off26 v302) a + S1x16.size a ≤ S704x64.size a := fun v302 k0_hw5 => k0_hw5.2.2.2

def k0_off27 (v323 : BitVec 32) : Fin 2 → Nat :=
  let v324 : Index := Scalar.indexCast v323
  let c0_171 : Index := 0#32
  ![v324.toNat, 0]

def k0_off28 (v323 : BitVec 32) : Fin 2 → Nat :=
  let v328 : Index := Scalar.indexCast v323
  let c16_172 : Index := 16#32
  ![v328.toNat, 16]
def k0_off29 (v323 : BitVec 32) : Fin 2 → Nat :=
  let v332 : Index := Scalar.indexCast v323
  let c32_173 : Index := 32#32
  ![v332.toNat, 32]
def k0_off30 (v323 : BitVec 32) : Fin 2 → Nat :=
  let v336 : Index := Scalar.indexCast v323
  let c48_174 : Index := 48#32
  ![v336.toNat, 48]

def k0_chk6 (v323 : BitVec 32) : Prop :=
  (∀ a, (k0_off27 v323) a + S1x16.size a ≤ S704x64.size a) ∧
  (∀ a, (k0_off28 v323) a + S1x16.size a ≤ S704x64.size a) ∧
  (∀ a, (k0_off29 v323) a + S1x16.size a ≤ S704x64.size a) ∧
  (∀ a, (k0_off30 v323) a + S1x16.size a ≤ S704x64.size a)
theorem k0_off27_inb : ∀ (v323 : BitVec 32) (k0_hw6 : k0_chk6 v323), ∀ a, (k0_off27 v323) a + S1x16.size a ≤ S704x64.size a := fun v323 k0_hw6 => k0_hw6.1
theorem k0_off28_inb : ∀ (v323 : BitVec 32) (k0_hw6 : k0_chk6 v323), ∀ a, (k0_off28 v323) a + S1x16.size a ≤ S704x64.size a := fun v323 k0_hw6 => k0_hw6.2.1
theorem k0_off29_inb : ∀ (v323 : BitVec 32) (k0_hw6 : k0_chk6 v323), ∀ a, (k0_off29 v323) a + S1x16.size a ≤ S704x64.size a := fun v323 k0_hw6 => k0_hw6.2.2.1
theorem k0_off30_inb : ∀ (v323 : BitVec 32) (k0_hw6 : k0_chk6 v323), ∀ a, (k0_off30 v323) a + S1x16.size a ≤ S704x64.size a := fun v323 k0_hw6 => k0_hw6.2.2.2

def k0_off31 (v344 : BitVec 32) : Fin 2 → Nat :=
  let v345 : Index := Scalar.indexCast v344
  let c0_175 : Index := 0#32
  ![v345.toNat, 0]

def k0_off32 (v344 : BitVec 32) : Fin 2 → Nat :=
  let v349 : Index := Scalar.indexCast v344
  let c16_176 : Index := 16#32
  ![v349.toNat, 16]
def k0_off33 (v344 : BitVec 32) : Fin 2 → Nat :=
  let v353 : Index := Scalar.indexCast v344
  let c32_177 : Index := 32#32
  ![v353.toNat, 32]
def k0_off34 (v344 : BitVec 32) : Fin 2 → Nat :=
  let v357 : Index := Scalar.indexCast v344
  let c48_178 : Index := 48#32
  ![v357.toNat, 48]

def k0_chk7 (v344 : BitVec 32) : Prop :=
  (∀ a, (k0_off31 v344) a + S1x16.size a ≤ S704x64.size a) ∧
  (∀ a, (k0_off32 v344) a + S1x16.size a ≤ S704x64.size a) ∧
  (∀ a, (k0_off33 v344) a + S1x16.size a ≤ S704x64.size a) ∧
  (∀ a, (k0_off34 v344) a + S1x16.size a ≤ S704x64.size a)
theorem k0_off31_inb : ∀ (v344 : BitVec 32) (k0_hw7 : k0_chk7 v344), ∀ a, (k0_off31 v344) a + S1x16.size a ≤ S704x64.size a := fun v344 k0_hw7 => k0_hw7.1
theorem k0_off32_inb : ∀ (v344 : BitVec 32) (k0_hw7 : k0_chk7 v344), ∀ a, (k0_off32 v344) a + S1x16.size a ≤ S704x64.size a := fun v344 k0_hw7 => k0_hw7.2.1
theorem k0_off33_inb : ∀ (v344 : BitVec 32) (k0_hw7 : k0_chk7 v344), ∀ a, (k0_off33 v344) a + S1x16.size a ≤ S704x64.size a := fun v344 k0_hw7 => k0_hw7.2.2.1
theorem k0_off34_inb : ∀ (v344 : BitVec 32) (k0_hw7 : k0_chk7 v344), ∀ a, (k0_off34 v344) a + S1x16.size a ≤ S704x64.size a := fun v344 k0_hw7 => k0_hw7.2.2.2

def k0_off35 (v365 : BitVec 32) : Fin 2 → Nat :=
  let v366 : Index := Scalar.indexCast v365
  let c0_179 : Index := 0#32
  ![v366.toNat, 0]

def k0_off36 (v365 : BitVec 32) : Fin 2 → Nat :=
  let v370 : Index := Scalar.indexCast v365
  let c16_180 : Index := 16#32
  ![v370.toNat, 16]
def k0_off37 (v365 : BitVec 32) : Fin 2 → Nat :=
  let v374 : Index := Scalar.indexCast v365
  let c32_181 : Index := 32#32
  ![v374.toNat, 32]
def k0_off38 (v365 : BitVec 32) : Fin 2 → Nat :=
  let v378 : Index := Scalar.indexCast v365
  let c48_182 : Index := 48#32
  ![v378.toNat, 48]

def k0_chk8 (v365 : BitVec 32) : Prop :=
  (∀ a, (k0_off35 v365) a + S1x16.size a ≤ S704x64.size a) ∧
  (∀ a, (k0_off36 v365) a + S1x16.size a ≤ S704x64.size a) ∧
  (∀ a, (k0_off37 v365) a + S1x16.size a ≤ S704x64.size a) ∧
  (∀ a, (k0_off38 v365) a + S1x16.size a ≤ S704x64.size a)
theorem k0_off35_inb : ∀ (v365 : BitVec 32) (k0_hw8 : k0_chk8 v365), ∀ a, (k0_off35 v365) a + S1x16.size a ≤ S704x64.size a := fun v365 k0_hw8 => k0_hw8.1
theorem k0_off36_inb : ∀ (v365 : BitVec 32) (k0_hw8 : k0_chk8 v365), ∀ a, (k0_off36 v365) a + S1x16.size a ≤ S704x64.size a := fun v365 k0_hw8 => k0_hw8.2.1
theorem k0_off37_inb : ∀ (v365 : BitVec 32) (k0_hw8 : k0_chk8 v365), ∀ a, (k0_off37 v365) a + S1x16.size a ≤ S704x64.size a := fun v365 k0_hw8 => k0_hw8.2.2.1
theorem k0_off38_inb : ∀ (v365 : BitVec 32) (k0_hw8 : k0_chk8 v365), ∀ a, (k0_off38 v365) a + S1x16.size a ≤ S704x64.size a := fun v365 k0_hw8 => k0_hw8.2.2.2

def k0_off39 (v386 : BitVec 32) : Fin 2 → Nat :=
  let v387 : Index := Scalar.indexCast v386
  let c0_183 : Index := 0#32
  ![v387.toNat, 0]

def k0_off40 (v386 : BitVec 32) : Fin 2 → Nat :=
  let v391 : Index := Scalar.indexCast v386
  let c16_184 : Index := 16#32
  ![v391.toNat, 16]
def k0_off41 (v386 : BitVec 32) : Fin 2 → Nat :=
  let v395 : Index := Scalar.indexCast v386
  let c32_185 : Index := 32#32
  ![v395.toNat, 32]
def k0_off42 (v386 : BitVec 32) : Fin 2 → Nat :=
  let v399 : Index := Scalar.indexCast v386
  let c48_186 : Index := 48#32
  ![v399.toNat, 48]

def k0_chk9 (v386 : BitVec 32) : Prop :=
  (∀ a, (k0_off39 v386) a + S1x16.size a ≤ S704x64.size a) ∧
  (∀ a, (k0_off40 v386) a + S1x16.size a ≤ S704x64.size a) ∧
  (∀ a, (k0_off41 v386) a + S1x16.size a ≤ S704x64.size a) ∧
  (∀ a, (k0_off42 v386) a + S1x16.size a ≤ S704x64.size a)
theorem k0_off39_inb : ∀ (v386 : BitVec 32) (k0_hw9 : k0_chk9 v386), ∀ a, (k0_off39 v386) a + S1x16.size a ≤ S704x64.size a := fun v386 k0_hw9 => k0_hw9.1
theorem k0_off40_inb : ∀ (v386 : BitVec 32) (k0_hw9 : k0_chk9 v386), ∀ a, (k0_off40 v386) a + S1x16.size a ≤ S704x64.size a := fun v386 k0_hw9 => k0_hw9.2.1
theorem k0_off41_inb : ∀ (v386 : BitVec 32) (k0_hw9 : k0_chk9 v386), ∀ a, (k0_off41 v386) a + S1x16.size a ≤ S704x64.size a := fun v386 k0_hw9 => k0_hw9.2.2.1
theorem k0_off42_inb : ∀ (v386 : BitVec 32) (k0_hw9 : k0_chk9 v386), ∀ a, (k0_off42 v386) a + S1x16.size a ≤ S704x64.size a := fun v386 k0_hw9 => k0_hw9.2.2.2

def k0_off43 (v407 : BitVec 32) : Fin 2 → Nat :=
  let v408 : Index := Scalar.indexCast v407
  let c0_187 : Index := 0#32
  ![v408.toNat, 0]

def k0_off44 (v407 : BitVec 32) : Fin 2 → Nat :=
  let v412 : Index := Scalar.indexCast v407
  let c16_188 : Index := 16#32
  ![v412.toNat, 16]
def k0_off45 (v407 : BitVec 32) : Fin 2 → Nat :=
  let v416 : Index := Scalar.indexCast v407
  let c32_189 : Index := 32#32
  ![v416.toNat, 32]
def k0_off46 (v407 : BitVec 32) : Fin 2 → Nat :=
  let v420 : Index := Scalar.indexCast v407
  let c48_190 : Index := 48#32
  ![v420.toNat, 48]

def k0_chk10 (v407 : BitVec 32) : Prop :=
  (∀ a, (k0_off43 v407) a + S1x16.size a ≤ S704x64.size a) ∧
  (∀ a, (k0_off44 v407) a + S1x16.size a ≤ S704x64.size a) ∧
  (∀ a, (k0_off45 v407) a + S1x16.size a ≤ S704x64.size a) ∧
  (∀ a, (k0_off46 v407) a + S1x16.size a ≤ S704x64.size a)
theorem k0_off43_inb : ∀ (v407 : BitVec 32) (k0_hw10 : k0_chk10 v407), ∀ a, (k0_off43 v407) a + S1x16.size a ≤ S704x64.size a := fun v407 k0_hw10 => k0_hw10.1
theorem k0_off44_inb : ∀ (v407 : BitVec 32) (k0_hw10 : k0_chk10 v407), ∀ a, (k0_off44 v407) a + S1x16.size a ≤ S704x64.size a := fun v407 k0_hw10 => k0_hw10.2.1
theorem k0_off45_inb : ∀ (v407 : BitVec 32) (k0_hw10 : k0_chk10 v407), ∀ a, (k0_off45 v407) a + S1x16.size a ≤ S704x64.size a := fun v407 k0_hw10 => k0_hw10.2.2.1
theorem k0_off46_inb : ∀ (v407 : BitVec 32) (k0_hw10 : k0_chk10 v407), ∀ a, (k0_off46 v407) a + S1x16.size a ≤ S704x64.size a := fun v407 k0_hw10 => k0_hw10.2.2.2

def k0_off47 (v428 : BitVec 32) : Fin 2 → Nat :=
  let v429 : Index := Scalar.indexCast v428
  let c0_191 : Index := 0#32
  ![v429.toNat, 0]

def k0_off48 (v428 : BitVec 32) : Fin 2 → Nat :=
  let v433 : Index := Scalar.indexCast v428
  let c16_192 : Index := 16#32
  ![v433.toNat, 16]
def k0_off49 (v428 : BitVec 32) : Fin 2 → Nat :=
  let v437 : Index := Scalar.indexCast v428
  let c32_193 : Index := 32#32
  ![v437.toNat, 32]
def k0_off50 (v428 : BitVec 32) : Fin 2 → Nat :=
  let v441 : Index := Scalar.indexCast v428
  let c48_194 : Index := 48#32
  ![v441.toNat, 48]

def k0_chk11 (v428 : BitVec 32) : Prop :=
  (∀ a, (k0_off47 v428) a + S1x16.size a ≤ S704x64.size a) ∧
  (∀ a, (k0_off48 v428) a + S1x16.size a ≤ S704x64.size a) ∧
  (∀ a, (k0_off49 v428) a + S1x16.size a ≤ S704x64.size a) ∧
  (∀ a, (k0_off50 v428) a + S1x16.size a ≤ S704x64.size a)
theorem k0_off47_inb : ∀ (v428 : BitVec 32) (k0_hw11 : k0_chk11 v428), ∀ a, (k0_off47 v428) a + S1x16.size a ≤ S704x64.size a := fun v428 k0_hw11 => k0_hw11.1
theorem k0_off48_inb : ∀ (v428 : BitVec 32) (k0_hw11 : k0_chk11 v428), ∀ a, (k0_off48 v428) a + S1x16.size a ≤ S704x64.size a := fun v428 k0_hw11 => k0_hw11.2.1
theorem k0_off49_inb : ∀ (v428 : BitVec 32) (k0_hw11 : k0_chk11 v428), ∀ a, (k0_off49 v428) a + S1x16.size a ≤ S704x64.size a := fun v428 k0_hw11 => k0_hw11.2.2.1
theorem k0_off50_inb : ∀ (v428 : BitVec 32) (k0_hw11 : k0_chk11 v428), ∀ a, (k0_off50 v428) a + S1x16.size a ≤ S704x64.size a := fun v428 k0_hw11 => k0_hw11.2.2.2

def k0_off51 (v449 : BitVec 32) : Fin 2 → Nat :=
  let v450 : Index := Scalar.indexCast v449
  let c0_195 : Index := 0#32
  ![v450.toNat, 0]

def k0_off52 (v449 : BitVec 32) : Fin 2 → Nat :=
  let v454 : Index := Scalar.indexCast v449
  let c16_196 : Index := 16#32
  ![v454.toNat, 16]
def k0_off53 (v449 : BitVec 32) : Fin 2 → Nat :=
  let v458 : Index := Scalar.indexCast v449
  let c32_197 : Index := 32#32
  ![v458.toNat, 32]
def k0_off54 (v449 : BitVec 32) : Fin 2 → Nat :=
  let v462 : Index := Scalar.indexCast v449
  let c48_198 : Index := 48#32
  ![v462.toNat, 48]

def k0_chk12 (v449 : BitVec 32) : Prop :=
  (∀ a, (k0_off51 v449) a + S1x16.size a ≤ S704x64.size a) ∧
  (∀ a, (k0_off52 v449) a + S1x16.size a ≤ S704x64.size a) ∧
  (∀ a, (k0_off53 v449) a + S1x16.size a ≤ S704x64.size a) ∧
  (∀ a, (k0_off54 v449) a + S1x16.size a ≤ S704x64.size a)
theorem k0_off51_inb : ∀ (v449 : BitVec 32) (k0_hw12 : k0_chk12 v449), ∀ a, (k0_off51 v449) a + S1x16.size a ≤ S704x64.size a := fun v449 k0_hw12 => k0_hw12.1
theorem k0_off52_inb : ∀ (v449 : BitVec 32) (k0_hw12 : k0_chk12 v449), ∀ a, (k0_off52 v449) a + S1x16.size a ≤ S704x64.size a := fun v449 k0_hw12 => k0_hw12.2.1
theorem k0_off53_inb : ∀ (v449 : BitVec 32) (k0_hw12 : k0_chk12 v449), ∀ a, (k0_off53 v449) a + S1x16.size a ≤ S704x64.size a := fun v449 k0_hw12 => k0_hw12.2.2.1
theorem k0_off54_inb : ∀ (v449 : BitVec 32) (k0_hw12 : k0_chk12 v449), ∀ a, (k0_off54 v449) a + S1x16.size a ≤ S704x64.size a := fun v449 k0_hw12 => k0_hw12.2.2.2

def k0_off55 (v470 : BitVec 32) : Fin 2 → Nat :=
  let v471 : Index := Scalar.indexCast v470
  let c0_199 : Index := 0#32
  ![v471.toNat, 0]

def k0_off56 (v470 : BitVec 32) : Fin 2 → Nat :=
  let v475 : Index := Scalar.indexCast v470
  let c16_200 : Index := 16#32
  ![v475.toNat, 16]
def k0_off57 (v470 : BitVec 32) : Fin 2 → Nat :=
  let v479 : Index := Scalar.indexCast v470
  let c32_201 : Index := 32#32
  ![v479.toNat, 32]
def k0_off58 (v470 : BitVec 32) : Fin 2 → Nat :=
  let v483 : Index := Scalar.indexCast v470
  let c48_202 : Index := 48#32
  ![v483.toNat, 48]

def k0_chk13 (v470 : BitVec 32) : Prop :=
  (∀ a, (k0_off55 v470) a + S1x16.size a ≤ S704x64.size a) ∧
  (∀ a, (k0_off56 v470) a + S1x16.size a ≤ S704x64.size a) ∧
  (∀ a, (k0_off57 v470) a + S1x16.size a ≤ S704x64.size a) ∧
  (∀ a, (k0_off58 v470) a + S1x16.size a ≤ S704x64.size a)
theorem k0_off55_inb : ∀ (v470 : BitVec 32) (k0_hw13 : k0_chk13 v470), ∀ a, (k0_off55 v470) a + S1x16.size a ≤ S704x64.size a := fun v470 k0_hw13 => k0_hw13.1
theorem k0_off56_inb : ∀ (v470 : BitVec 32) (k0_hw13 : k0_chk13 v470), ∀ a, (k0_off56 v470) a + S1x16.size a ≤ S704x64.size a := fun v470 k0_hw13 => k0_hw13.2.1
theorem k0_off57_inb : ∀ (v470 : BitVec 32) (k0_hw13 : k0_chk13 v470), ∀ a, (k0_off57 v470) a + S1x16.size a ≤ S704x64.size a := fun v470 k0_hw13 => k0_hw13.2.2.1
theorem k0_off58_inb : ∀ (v470 : BitVec 32) (k0_hw13 : k0_chk13 v470), ∀ a, (k0_off58 v470) a + S1x16.size a ≤ S704x64.size a := fun v470 k0_hw13 => k0_hw13.2.2.2

def k0_off59 (v491 : BitVec 32) : Fin 2 → Nat :=
  let v492 : Index := Scalar.indexCast v491
  let c0_203 : Index := 0#32
  ![v492.toNat, 0]

def k0_off60 (v491 : BitVec 32) : Fin 2 → Nat :=
  let v496 : Index := Scalar.indexCast v491
  let c16_204 : Index := 16#32
  ![v496.toNat, 16]
def k0_off61 (v491 : BitVec 32) : Fin 2 → Nat :=
  let v500 : Index := Scalar.indexCast v491
  let c32_205 : Index := 32#32
  ![v500.toNat, 32]
def k0_off62 (v491 : BitVec 32) : Fin 2 → Nat :=
  let v504 : Index := Scalar.indexCast v491
  let c48_206 : Index := 48#32
  ![v504.toNat, 48]

def k0_chk14 (v491 : BitVec 32) : Prop :=
  (∀ a, (k0_off59 v491) a + S1x16.size a ≤ S704x64.size a) ∧
  (∀ a, (k0_off60 v491) a + S1x16.size a ≤ S704x64.size a) ∧
  (∀ a, (k0_off61 v491) a + S1x16.size a ≤ S704x64.size a) ∧
  (∀ a, (k0_off62 v491) a + S1x16.size a ≤ S704x64.size a)
theorem k0_off59_inb : ∀ (v491 : BitVec 32) (k0_hw14 : k0_chk14 v491), ∀ a, (k0_off59 v491) a + S1x16.size a ≤ S704x64.size a := fun v491 k0_hw14 => k0_hw14.1
theorem k0_off60_inb : ∀ (v491 : BitVec 32) (k0_hw14 : k0_chk14 v491), ∀ a, (k0_off60 v491) a + S1x16.size a ≤ S704x64.size a := fun v491 k0_hw14 => k0_hw14.2.1
theorem k0_off61_inb : ∀ (v491 : BitVec 32) (k0_hw14 : k0_chk14 v491), ∀ a, (k0_off61 v491) a + S1x16.size a ≤ S704x64.size a := fun v491 k0_hw14 => k0_hw14.2.2.1
theorem k0_off62_inb : ∀ (v491 : BitVec 32) (k0_hw14 : k0_chk14 v491), ∀ a, (k0_off62 v491) a + S1x16.size a ≤ S704x64.size a := fun v491 k0_hw14 => k0_hw14.2.2.2

def k0_off63 (v512 : BitVec 32) : Fin 2 → Nat :=
  let v513 : Index := Scalar.indexCast v512
  let c0_207 : Index := 0#32
  ![v513.toNat, 0]

def k0_off64 (v512 : BitVec 32) : Fin 2 → Nat :=
  let v517 : Index := Scalar.indexCast v512
  let c16_208 : Index := 16#32
  ![v517.toNat, 16]
def k0_off65 (v512 : BitVec 32) : Fin 2 → Nat :=
  let v521 : Index := Scalar.indexCast v512
  let c32_209 : Index := 32#32
  ![v521.toNat, 32]
def k0_off66 (v512 : BitVec 32) : Fin 2 → Nat :=
  let v525 : Index := Scalar.indexCast v512
  let c48_210 : Index := 48#32
  ![v525.toNat, 48]

def k0_chk15 (v512 : BitVec 32) : Prop :=
  (∀ a, (k0_off63 v512) a + S1x16.size a ≤ S704x64.size a) ∧
  (∀ a, (k0_off64 v512) a + S1x16.size a ≤ S704x64.size a) ∧
  (∀ a, (k0_off65 v512) a + S1x16.size a ≤ S704x64.size a) ∧
  (∀ a, (k0_off66 v512) a + S1x16.size a ≤ S704x64.size a)
theorem k0_off63_inb : ∀ (v512 : BitVec 32) (k0_hw15 : k0_chk15 v512), ∀ a, (k0_off63 v512) a + S1x16.size a ≤ S704x64.size a := fun v512 k0_hw15 => k0_hw15.1
theorem k0_off64_inb : ∀ (v512 : BitVec 32) (k0_hw15 : k0_chk15 v512), ∀ a, (k0_off64 v512) a + S1x16.size a ≤ S704x64.size a := fun v512 k0_hw15 => k0_hw15.2.1
theorem k0_off65_inb : ∀ (v512 : BitVec 32) (k0_hw15 : k0_chk15 v512), ∀ a, (k0_off65 v512) a + S1x16.size a ≤ S704x64.size a := fun v512 k0_hw15 => k0_hw15.2.2.1
theorem k0_off66_inb : ∀ (v512 : BitVec 32) (k0_hw15 : k0_chk15 v512), ∀ a, (k0_off66 v512) a + S1x16.size a ≤ S704x64.size a := fun v512 k0_hw15 => k0_hw15.2.2.2

def k0_off67 (v533 : BitVec 32) : Fin 2 → Nat :=
  let v534 : Index := Scalar.indexCast v533
  let c0_211 : Index := 0#32
  ![v534.toNat, 0]

def k0_off68 (v533 : BitVec 32) : Fin 2 → Nat :=
  let v538 : Index := Scalar.indexCast v533
  let c16_212 : Index := 16#32
  ![v538.toNat, 16]
def k0_off69 (v533 : BitVec 32) : Fin 2 → Nat :=
  let v542 : Index := Scalar.indexCast v533
  let c32_213 : Index := 32#32
  ![v542.toNat, 32]
def k0_off70 (v533 : BitVec 32) : Fin 2 → Nat :=
  let v546 : Index := Scalar.indexCast v533
  let c48_214 : Index := 48#32
  ![v546.toNat, 48]

def k0_chk16 (v533 : BitVec 32) : Prop :=
  (∀ a, (k0_off67 v533) a + S1x16.size a ≤ S704x64.size a) ∧
  (∀ a, (k0_off68 v533) a + S1x16.size a ≤ S704x64.size a) ∧
  (∀ a, (k0_off69 v533) a + S1x16.size a ≤ S704x64.size a) ∧
  (∀ a, (k0_off70 v533) a + S1x16.size a ≤ S704x64.size a)
theorem k0_off67_inb : ∀ (v533 : BitVec 32) (k0_hw16 : k0_chk16 v533), ∀ a, (k0_off67 v533) a + S1x16.size a ≤ S704x64.size a := fun v533 k0_hw16 => k0_hw16.1
theorem k0_off68_inb : ∀ (v533 : BitVec 32) (k0_hw16 : k0_chk16 v533), ∀ a, (k0_off68 v533) a + S1x16.size a ≤ S704x64.size a := fun v533 k0_hw16 => k0_hw16.2.1
theorem k0_off69_inb : ∀ (v533 : BitVec 32) (k0_hw16 : k0_chk16 v533), ∀ a, (k0_off69 v533) a + S1x16.size a ≤ S704x64.size a := fun v533 k0_hw16 => k0_hw16.2.2.1
theorem k0_off70_inb : ∀ (v533 : BitVec 32) (k0_hw16 : k0_chk16 v533), ∀ a, (k0_off70 v533) a + S1x16.size a ≤ S704x64.size a := fun v533 k0_hw16 => k0_hw16.2.2.2

def k0_off71 (v554 : BitVec 32) : Fin 2 → Nat :=
  let v555 : Index := Scalar.indexCast v554
  let c0_215 : Index := 0#32
  ![v555.toNat, 0]

def k0_off72 (v554 : BitVec 32) : Fin 2 → Nat :=
  let v559 : Index := Scalar.indexCast v554
  let c16_216 : Index := 16#32
  ![v559.toNat, 16]
def k0_off73 (v554 : BitVec 32) : Fin 2 → Nat :=
  let v563 : Index := Scalar.indexCast v554
  let c32_217 : Index := 32#32
  ![v563.toNat, 32]
def k0_off74 (v554 : BitVec 32) : Fin 2 → Nat :=
  let v567 : Index := Scalar.indexCast v554
  let c48_218 : Index := 48#32
  ![v567.toNat, 48]

def k0_chk17 (v554 : BitVec 32) : Prop :=
  (∀ a, (k0_off71 v554) a + S1x16.size a ≤ S704x64.size a) ∧
  (∀ a, (k0_off72 v554) a + S1x16.size a ≤ S704x64.size a) ∧
  (∀ a, (k0_off73 v554) a + S1x16.size a ≤ S704x64.size a) ∧
  (∀ a, (k0_off74 v554) a + S1x16.size a ≤ S704x64.size a)
theorem k0_off71_inb : ∀ (v554 : BitVec 32) (k0_hw17 : k0_chk17 v554), ∀ a, (k0_off71 v554) a + S1x16.size a ≤ S704x64.size a := fun v554 k0_hw17 => k0_hw17.1
theorem k0_off72_inb : ∀ (v554 : BitVec 32) (k0_hw17 : k0_chk17 v554), ∀ a, (k0_off72 v554) a + S1x16.size a ≤ S704x64.size a := fun v554 k0_hw17 => k0_hw17.2.1
theorem k0_off73_inb : ∀ (v554 : BitVec 32) (k0_hw17 : k0_chk17 v554), ∀ a, (k0_off73 v554) a + S1x16.size a ≤ S704x64.size a := fun v554 k0_hw17 => k0_hw17.2.2.1
theorem k0_off74_inb : ∀ (v554 : BitVec 32) (k0_hw17 : k0_chk17 v554), ∀ a, (k0_off74 v554) a + S1x16.size a ≤ S704x64.size a := fun v554 k0_hw17 => k0_hw17.2.2.2

def k0_off75 (v575 : BitVec 32) : Fin 2 → Nat :=
  let v576 : Index := Scalar.indexCast v575
  let c0_219 : Index := 0#32
  ![v576.toNat, 0]

def k0_off76 (v575 : BitVec 32) : Fin 2 → Nat :=
  let v580 : Index := Scalar.indexCast v575
  let c16_220 : Index := 16#32
  ![v580.toNat, 16]
def k0_off77 (v575 : BitVec 32) : Fin 2 → Nat :=
  let v584 : Index := Scalar.indexCast v575
  let c32_221 : Index := 32#32
  ![v584.toNat, 32]
def k0_off78 (v575 : BitVec 32) : Fin 2 → Nat :=
  let v588 : Index := Scalar.indexCast v575
  let c48_222 : Index := 48#32
  ![v588.toNat, 48]

def k0_chk18 (v575 : BitVec 32) : Prop :=
  (∀ a, (k0_off75 v575) a + S1x16.size a ≤ S704x64.size a) ∧
  (∀ a, (k0_off76 v575) a + S1x16.size a ≤ S704x64.size a) ∧
  (∀ a, (k0_off77 v575) a + S1x16.size a ≤ S704x64.size a) ∧
  (∀ a, (k0_off78 v575) a + S1x16.size a ≤ S704x64.size a)
theorem k0_off75_inb : ∀ (v575 : BitVec 32) (k0_hw18 : k0_chk18 v575), ∀ a, (k0_off75 v575) a + S1x16.size a ≤ S704x64.size a := fun v575 k0_hw18 => k0_hw18.1
theorem k0_off76_inb : ∀ (v575 : BitVec 32) (k0_hw18 : k0_chk18 v575), ∀ a, (k0_off76 v575) a + S1x16.size a ≤ S704x64.size a := fun v575 k0_hw18 => k0_hw18.2.1
theorem k0_off77_inb : ∀ (v575 : BitVec 32) (k0_hw18 : k0_chk18 v575), ∀ a, (k0_off77 v575) a + S1x16.size a ≤ S704x64.size a := fun v575 k0_hw18 => k0_hw18.2.2.1
theorem k0_off78_inb : ∀ (v575 : BitVec 32) (k0_hw18 : k0_chk18 v575), ∀ a, (k0_off78 v575) a + S1x16.size a ≤ S704x64.size a := fun v575 k0_hw18 => k0_hw18.2.2.2

def k0_off79 (v596 : BitVec 32) : Fin 2 → Nat :=
  let v597 : Index := Scalar.indexCast v596
  let c0_223 : Index := 0#32
  ![v597.toNat, 0]

def k0_off80 (v596 : BitVec 32) : Fin 2 → Nat :=
  let v601 : Index := Scalar.indexCast v596
  let c16_224 : Index := 16#32
  ![v601.toNat, 16]
def k0_off81 (v596 : BitVec 32) : Fin 2 → Nat :=
  let v605 : Index := Scalar.indexCast v596
  let c32_225 : Index := 32#32
  ![v605.toNat, 32]
def k0_off82 (v596 : BitVec 32) : Fin 2 → Nat :=
  let v609 : Index := Scalar.indexCast v596
  let c48_226 : Index := 48#32
  ![v609.toNat, 48]

def k0_chk19 (v596 : BitVec 32) : Prop :=
  (∀ a, (k0_off79 v596) a + S1x16.size a ≤ S704x64.size a) ∧
  (∀ a, (k0_off80 v596) a + S1x16.size a ≤ S704x64.size a) ∧
  (∀ a, (k0_off81 v596) a + S1x16.size a ≤ S704x64.size a) ∧
  (∀ a, (k0_off82 v596) a + S1x16.size a ≤ S704x64.size a)
theorem k0_off79_inb : ∀ (v596 : BitVec 32) (k0_hw19 : k0_chk19 v596), ∀ a, (k0_off79 v596) a + S1x16.size a ≤ S704x64.size a := fun v596 k0_hw19 => k0_hw19.1
theorem k0_off80_inb : ∀ (v596 : BitVec 32) (k0_hw19 : k0_chk19 v596), ∀ a, (k0_off80 v596) a + S1x16.size a ≤ S704x64.size a := fun v596 k0_hw19 => k0_hw19.2.1
theorem k0_off81_inb : ∀ (v596 : BitVec 32) (k0_hw19 : k0_chk19 v596), ∀ a, (k0_off81 v596) a + S1x16.size a ≤ S704x64.size a := fun v596 k0_hw19 => k0_hw19.2.2.1
theorem k0_off82_inb : ∀ (v596 : BitVec 32) (k0_hw19 : k0_chk19 v596), ∀ a, (k0_off82 v596) a + S1x16.size a ≤ S704x64.size a := fun v596 k0_hw19 => k0_hw19.2.2.2

def k0_off83 (v617 : BitVec 32) : Fin 2 → Nat :=
  let v618 : Index := Scalar.indexCast v617
  let c0_227 : Index := 0#32
  ![v618.toNat, 0]

def k0_off84 (v617 : BitVec 32) : Fin 2 → Nat :=
  let v622 : Index := Scalar.indexCast v617
  let c16_228 : Index := 16#32
  ![v622.toNat, 16]
def k0_off85 (v617 : BitVec 32) : Fin 2 → Nat :=
  let v626 : Index := Scalar.indexCast v617
  let c32_229 : Index := 32#32
  ![v626.toNat, 32]
def k0_off86 (v617 : BitVec 32) : Fin 2 → Nat :=
  let v630 : Index := Scalar.indexCast v617
  let c48_230 : Index := 48#32
  ![v630.toNat, 48]

def k0_chk20 (v617 : BitVec 32) : Prop :=
  (∀ a, (k0_off83 v617) a + S1x16.size a ≤ S704x64.size a) ∧
  (∀ a, (k0_off84 v617) a + S1x16.size a ≤ S704x64.size a) ∧
  (∀ a, (k0_off85 v617) a + S1x16.size a ≤ S704x64.size a) ∧
  (∀ a, (k0_off86 v617) a + S1x16.size a ≤ S704x64.size a)
theorem k0_off83_inb : ∀ (v617 : BitVec 32) (k0_hw20 : k0_chk20 v617), ∀ a, (k0_off83 v617) a + S1x16.size a ≤ S704x64.size a := fun v617 k0_hw20 => k0_hw20.1
theorem k0_off84_inb : ∀ (v617 : BitVec 32) (k0_hw20 : k0_chk20 v617), ∀ a, (k0_off84 v617) a + S1x16.size a ≤ S704x64.size a := fun v617 k0_hw20 => k0_hw20.2.1
theorem k0_off85_inb : ∀ (v617 : BitVec 32) (k0_hw20 : k0_chk20 v617), ∀ a, (k0_off85 v617) a + S1x16.size a ≤ S704x64.size a := fun v617 k0_hw20 => k0_hw20.2.2.1
theorem k0_off86_inb : ∀ (v617 : BitVec 32) (k0_hw20 : k0_chk20 v617), ∀ a, (k0_off86 v617) a + S1x16.size a ≤ S704x64.size a := fun v617 k0_hw20 => k0_hw20.2.2.2

def k0_off87 (v638 : BitVec 32) : Fin 2 → Nat :=
  let v639 : Index := Scalar.indexCast v638
  let c0_231 : Index := 0#32
  ![v639.toNat, 0]

def k0_off88 (v638 : BitVec 32) : Fin 2 → Nat :=
  let v643 : Index := Scalar.indexCast v638
  let c16_232 : Index := 16#32
  ![v643.toNat, 16]
def k0_off89 (v638 : BitVec 32) : Fin 2 → Nat :=
  let v647 : Index := Scalar.indexCast v638
  let c32_233 : Index := 32#32
  ![v647.toNat, 32]
def k0_off90 (v638 : BitVec 32) : Fin 2 → Nat :=
  let v651 : Index := Scalar.indexCast v638
  let c48_234 : Index := 48#32
  ![v651.toNat, 48]

def k0_chk21 (v638 : BitVec 32) : Prop :=
  (∀ a, (k0_off87 v638) a + S1x16.size a ≤ S704x64.size a) ∧
  (∀ a, (k0_off88 v638) a + S1x16.size a ≤ S704x64.size a) ∧
  (∀ a, (k0_off89 v638) a + S1x16.size a ≤ S704x64.size a) ∧
  (∀ a, (k0_off90 v638) a + S1x16.size a ≤ S704x64.size a)
theorem k0_off87_inb : ∀ (v638 : BitVec 32) (k0_hw21 : k0_chk21 v638), ∀ a, (k0_off87 v638) a + S1x16.size a ≤ S704x64.size a := fun v638 k0_hw21 => k0_hw21.1
theorem k0_off88_inb : ∀ (v638 : BitVec 32) (k0_hw21 : k0_chk21 v638), ∀ a, (k0_off88 v638) a + S1x16.size a ≤ S704x64.size a := fun v638 k0_hw21 => k0_hw21.2.1
theorem k0_off89_inb : ∀ (v638 : BitVec 32) (k0_hw21 : k0_chk21 v638), ∀ a, (k0_off89 v638) a + S1x16.size a ≤ S704x64.size a := fun v638 k0_hw21 => k0_hw21.2.2.1
theorem k0_off90_inb : ∀ (v638 : BitVec 32) (k0_hw21 : k0_chk21 v638), ∀ a, (k0_off90 v638) a + S1x16.size a ≤ S704x64.size a := fun v638 k0_hw21 => k0_hw21.2.2.2

def k0_off91 (v659 : BitVec 32) : Fin 2 → Nat :=
  let v660 : Index := Scalar.indexCast v659
  let c0_235 : Index := 0#32
  ![v660.toNat, 0]

def k0_off92 (v659 : BitVec 32) : Fin 2 → Nat :=
  let v664 : Index := Scalar.indexCast v659
  let c16_236 : Index := 16#32
  ![v664.toNat, 16]
def k0_off93 (v659 : BitVec 32) : Fin 2 → Nat :=
  let v668 : Index := Scalar.indexCast v659
  let c32_237 : Index := 32#32
  ![v668.toNat, 32]
def k0_off94 (v659 : BitVec 32) : Fin 2 → Nat :=
  let v672 : Index := Scalar.indexCast v659
  let c48_238 : Index := 48#32
  ![v672.toNat, 48]

def k0_chk22 (v659 : BitVec 32) : Prop :=
  (∀ a, (k0_off91 v659) a + S1x16.size a ≤ S704x64.size a) ∧
  (∀ a, (k0_off92 v659) a + S1x16.size a ≤ S704x64.size a) ∧
  (∀ a, (k0_off93 v659) a + S1x16.size a ≤ S704x64.size a) ∧
  (∀ a, (k0_off94 v659) a + S1x16.size a ≤ S704x64.size a)
theorem k0_off91_inb : ∀ (v659 : BitVec 32) (k0_hw22 : k0_chk22 v659), ∀ a, (k0_off91 v659) a + S1x16.size a ≤ S704x64.size a := fun v659 k0_hw22 => k0_hw22.1
theorem k0_off92_inb : ∀ (v659 : BitVec 32) (k0_hw22 : k0_chk22 v659), ∀ a, (k0_off92 v659) a + S1x16.size a ≤ S704x64.size a := fun v659 k0_hw22 => k0_hw22.2.1
theorem k0_off93_inb : ∀ (v659 : BitVec 32) (k0_hw22 : k0_chk22 v659), ∀ a, (k0_off93 v659) a + S1x16.size a ≤ S704x64.size a := fun v659 k0_hw22 => k0_hw22.2.2.1
theorem k0_off94_inb : ∀ (v659 : BitVec 32) (k0_hw22 : k0_chk22 v659), ∀ a, (k0_off94 v659) a + S1x16.size a ≤ S704x64.size a := fun v659 k0_hw22 => k0_hw22.2.2.2

def k0_off95 (v680 : BitVec 32) : Fin 2 → Nat :=
  let v681 : Index := Scalar.indexCast v680
  let c0_239 : Index := 0#32
  ![v681.toNat, 0]

def k0_off96 (v680 : BitVec 32) : Fin 2 → Nat :=
  let v685 : Index := Scalar.indexCast v680
  let c16_240 : Index := 16#32
  ![v685.toNat, 16]
def k0_off97 (v680 : BitVec 32) : Fin 2 → Nat :=
  let v689 : Index := Scalar.indexCast v680
  let c32_241 : Index := 32#32
  ![v689.toNat, 32]
def k0_off98 (v680 : BitVec 32) : Fin 2 → Nat :=
  let v693 : Index := Scalar.indexCast v680
  let c48_242 : Index := 48#32
  ![v693.toNat, 48]

def k0_chk23 (v680 : BitVec 32) : Prop :=
  (∀ a, (k0_off95 v680) a + S1x16.size a ≤ S704x64.size a) ∧
  (∀ a, (k0_off96 v680) a + S1x16.size a ≤ S704x64.size a) ∧
  (∀ a, (k0_off97 v680) a + S1x16.size a ≤ S704x64.size a) ∧
  (∀ a, (k0_off98 v680) a + S1x16.size a ≤ S704x64.size a)
theorem k0_off95_inb : ∀ (v680 : BitVec 32) (k0_hw23 : k0_chk23 v680), ∀ a, (k0_off95 v680) a + S1x16.size a ≤ S704x64.size a := fun v680 k0_hw23 => k0_hw23.1
theorem k0_off96_inb : ∀ (v680 : BitVec 32) (k0_hw23 : k0_chk23 v680), ∀ a, (k0_off96 v680) a + S1x16.size a ≤ S704x64.size a := fun v680 k0_hw23 => k0_hw23.2.1
theorem k0_off97_inb : ∀ (v680 : BitVec 32) (k0_hw23 : k0_chk23 v680), ∀ a, (k0_off97 v680) a + S1x16.size a ≤ S704x64.size a := fun v680 k0_hw23 => k0_hw23.2.2.1
theorem k0_off98_inb : ∀ (v680 : BitVec 32) (k0_hw23 : k0_chk23 v680), ∀ a, (k0_off98 v680) a + S1x16.size a ≤ S704x64.size a := fun v680 k0_hw23 => k0_hw23.2.2.2

def k0_off99 (v701 : BitVec 32) : Fin 2 → Nat :=
  let v702 : Index := Scalar.indexCast v701
  let c0_243 : Index := 0#32
  ![v702.toNat, 0]

def k0_off100 (v701 : BitVec 32) : Fin 2 → Nat :=
  let v706 : Index := Scalar.indexCast v701
  let c16_244 : Index := 16#32
  ![v706.toNat, 16]
def k0_off101 (v701 : BitVec 32) : Fin 2 → Nat :=
  let v710 : Index := Scalar.indexCast v701
  let c32_245 : Index := 32#32
  ![v710.toNat, 32]
def k0_off102 (v701 : BitVec 32) : Fin 2 → Nat :=
  let v714 : Index := Scalar.indexCast v701
  let c48_246 : Index := 48#32
  ![v714.toNat, 48]

def k0_chk24 (v701 : BitVec 32) : Prop :=
  (∀ a, (k0_off99 v701) a + S1x16.size a ≤ S704x64.size a) ∧
  (∀ a, (k0_off100 v701) a + S1x16.size a ≤ S704x64.size a) ∧
  (∀ a, (k0_off101 v701) a + S1x16.size a ≤ S704x64.size a) ∧
  (∀ a, (k0_off102 v701) a + S1x16.size a ≤ S704x64.size a)
theorem k0_off99_inb : ∀ (v701 : BitVec 32) (k0_hw24 : k0_chk24 v701), ∀ a, (k0_off99 v701) a + S1x16.size a ≤ S704x64.size a := fun v701 k0_hw24 => k0_hw24.1
theorem k0_off100_inb : ∀ (v701 : BitVec 32) (k0_hw24 : k0_chk24 v701), ∀ a, (k0_off100 v701) a + S1x16.size a ≤ S704x64.size a := fun v701 k0_hw24 => k0_hw24.2.1
theorem k0_off101_inb : ∀ (v701 : BitVec 32) (k0_hw24 : k0_chk24 v701), ∀ a, (k0_off101 v701) a + S1x16.size a ≤ S704x64.size a := fun v701 k0_hw24 => k0_hw24.2.2.1
theorem k0_off102_inb : ∀ (v701 : BitVec 32) (k0_hw24 : k0_chk24 v701), ∀ a, (k0_off102 v701) a + S1x16.size a ≤ S704x64.size a := fun v701 k0_hw24 => k0_hw24.2.2.2

def k0_off103 (v722 : BitVec 32) : Fin 2 → Nat :=
  let v723 : Index := Scalar.indexCast v722
  let c0_247 : Index := 0#32
  ![v723.toNat, 0]

def k0_off104 (v722 : BitVec 32) : Fin 2 → Nat :=
  let v727 : Index := Scalar.indexCast v722
  let c16_248 : Index := 16#32
  ![v727.toNat, 16]
def k0_off105 (v722 : BitVec 32) : Fin 2 → Nat :=
  let v731 : Index := Scalar.indexCast v722
  let c32_249 : Index := 32#32
  ![v731.toNat, 32]
def k0_off106 (v722 : BitVec 32) : Fin 2 → Nat :=
  let v735 : Index := Scalar.indexCast v722
  let c48_250 : Index := 48#32
  ![v735.toNat, 48]

def k0_chk25 (v722 : BitVec 32) : Prop :=
  (∀ a, (k0_off103 v722) a + S1x16.size a ≤ S704x64.size a) ∧
  (∀ a, (k0_off104 v722) a + S1x16.size a ≤ S704x64.size a) ∧
  (∀ a, (k0_off105 v722) a + S1x16.size a ≤ S704x64.size a) ∧
  (∀ a, (k0_off106 v722) a + S1x16.size a ≤ S704x64.size a)
theorem k0_off103_inb : ∀ (v722 : BitVec 32) (k0_hw25 : k0_chk25 v722), ∀ a, (k0_off103 v722) a + S1x16.size a ≤ S704x64.size a := fun v722 k0_hw25 => k0_hw25.1
theorem k0_off104_inb : ∀ (v722 : BitVec 32) (k0_hw25 : k0_chk25 v722), ∀ a, (k0_off104 v722) a + S1x16.size a ≤ S704x64.size a := fun v722 k0_hw25 => k0_hw25.2.1
theorem k0_off105_inb : ∀ (v722 : BitVec 32) (k0_hw25 : k0_chk25 v722), ∀ a, (k0_off105 v722) a + S1x16.size a ≤ S704x64.size a := fun v722 k0_hw25 => k0_hw25.2.2.1
theorem k0_off106_inb : ∀ (v722 : BitVec 32) (k0_hw25 : k0_chk25 v722), ∀ a, (k0_off106 v722) a + S1x16.size a ≤ S704x64.size a := fun v722 k0_hw25 => k0_hw25.2.2.2

def k0_off107 (v743 : BitVec 32) : Fin 2 → Nat :=
  let v744 : Index := Scalar.indexCast v743
  let c0_251 : Index := 0#32
  ![v744.toNat, 0]

def k0_off108 (v743 : BitVec 32) : Fin 2 → Nat :=
  let v748 : Index := Scalar.indexCast v743
  let c16_252 : Index := 16#32
  ![v748.toNat, 16]
def k0_off109 (v743 : BitVec 32) : Fin 2 → Nat :=
  let v752 : Index := Scalar.indexCast v743
  let c32_253 : Index := 32#32
  ![v752.toNat, 32]
def k0_off110 (v743 : BitVec 32) : Fin 2 → Nat :=
  let v756 : Index := Scalar.indexCast v743
  let c48_254 : Index := 48#32
  ![v756.toNat, 48]

def k0_chk26 (v743 : BitVec 32) : Prop :=
  (∀ a, (k0_off107 v743) a + S1x16.size a ≤ S704x64.size a) ∧
  (∀ a, (k0_off108 v743) a + S1x16.size a ≤ S704x64.size a) ∧
  (∀ a, (k0_off109 v743) a + S1x16.size a ≤ S704x64.size a) ∧
  (∀ a, (k0_off110 v743) a + S1x16.size a ≤ S704x64.size a)
theorem k0_off107_inb : ∀ (v743 : BitVec 32) (k0_hw26 : k0_chk26 v743), ∀ a, (k0_off107 v743) a + S1x16.size a ≤ S704x64.size a := fun v743 k0_hw26 => k0_hw26.1
theorem k0_off108_inb : ∀ (v743 : BitVec 32) (k0_hw26 : k0_chk26 v743), ∀ a, (k0_off108 v743) a + S1x16.size a ≤ S704x64.size a := fun v743 k0_hw26 => k0_hw26.2.1
theorem k0_off109_inb : ∀ (v743 : BitVec 32) (k0_hw26 : k0_chk26 v743), ∀ a, (k0_off109 v743) a + S1x16.size a ≤ S704x64.size a := fun v743 k0_hw26 => k0_hw26.2.2.1
theorem k0_off110_inb : ∀ (v743 : BitVec 32) (k0_hw26 : k0_chk26 v743), ∀ a, (k0_off110 v743) a + S1x16.size a ≤ S704x64.size a := fun v743 k0_hw26 => k0_hw26.2.2.2

def k0_off111 (v764 : BitVec 32) : Fin 2 → Nat :=
  let v765 : Index := Scalar.indexCast v764
  let c0_255 : Index := 0#32
  ![v765.toNat, 0]

def k0_off112 (v764 : BitVec 32) : Fin 2 → Nat :=
  let v769 : Index := Scalar.indexCast v764
  let c16_256 : Index := 16#32
  ![v769.toNat, 16]
def k0_off113 (v764 : BitVec 32) : Fin 2 → Nat :=
  let v773 : Index := Scalar.indexCast v764
  let c32_257 : Index := 32#32
  ![v773.toNat, 32]
def k0_off114 (v764 : BitVec 32) : Fin 2 → Nat :=
  let v777 : Index := Scalar.indexCast v764
  let c48_258 : Index := 48#32
  ![v777.toNat, 48]

def k0_chk27 (v764 : BitVec 32) : Prop :=
  (∀ a, (k0_off111 v764) a + S1x16.size a ≤ S704x64.size a) ∧
  (∀ a, (k0_off112 v764) a + S1x16.size a ≤ S704x64.size a) ∧
  (∀ a, (k0_off113 v764) a + S1x16.size a ≤ S704x64.size a) ∧
  (∀ a, (k0_off114 v764) a + S1x16.size a ≤ S704x64.size a)
theorem k0_off111_inb : ∀ (v764 : BitVec 32) (k0_hw27 : k0_chk27 v764), ∀ a, (k0_off111 v764) a + S1x16.size a ≤ S704x64.size a := fun v764 k0_hw27 => k0_hw27.1
theorem k0_off112_inb : ∀ (v764 : BitVec 32) (k0_hw27 : k0_chk27 v764), ∀ a, (k0_off112 v764) a + S1x16.size a ≤ S704x64.size a := fun v764 k0_hw27 => k0_hw27.2.1
theorem k0_off113_inb : ∀ (v764 : BitVec 32) (k0_hw27 : k0_chk27 v764), ∀ a, (k0_off113 v764) a + S1x16.size a ≤ S704x64.size a := fun v764 k0_hw27 => k0_hw27.2.2.1
theorem k0_off114_inb : ∀ (v764 : BitVec 32) (k0_hw27 : k0_chk27 v764), ∀ a, (k0_off114 v764) a + S1x16.size a ≤ S704x64.size a := fun v764 k0_hw27 => k0_hw27.2.2.2

def k0_off115 (v785 : BitVec 32) : Fin 2 → Nat :=
  let v786 : Index := Scalar.indexCast v785
  let c0_259 : Index := 0#32
  ![v786.toNat, 0]

def k0_off116 (v785 : BitVec 32) : Fin 2 → Nat :=
  let v790 : Index := Scalar.indexCast v785
  let c16_260 : Index := 16#32
  ![v790.toNat, 16]
def k0_off117 (v785 : BitVec 32) : Fin 2 → Nat :=
  let v794 : Index := Scalar.indexCast v785
  let c32_261 : Index := 32#32
  ![v794.toNat, 32]
def k0_off118 (v785 : BitVec 32) : Fin 2 → Nat :=
  let v798 : Index := Scalar.indexCast v785
  let c48_262 : Index := 48#32
  ![v798.toNat, 48]

def k0_chk28 (v785 : BitVec 32) : Prop :=
  (∀ a, (k0_off115 v785) a + S1x16.size a ≤ S704x64.size a) ∧
  (∀ a, (k0_off116 v785) a + S1x16.size a ≤ S704x64.size a) ∧
  (∀ a, (k0_off117 v785) a + S1x16.size a ≤ S704x64.size a) ∧
  (∀ a, (k0_off118 v785) a + S1x16.size a ≤ S704x64.size a)
theorem k0_off115_inb : ∀ (v785 : BitVec 32) (k0_hw28 : k0_chk28 v785), ∀ a, (k0_off115 v785) a + S1x16.size a ≤ S704x64.size a := fun v785 k0_hw28 => k0_hw28.1
theorem k0_off116_inb : ∀ (v785 : BitVec 32) (k0_hw28 : k0_chk28 v785), ∀ a, (k0_off116 v785) a + S1x16.size a ≤ S704x64.size a := fun v785 k0_hw28 => k0_hw28.2.1
theorem k0_off117_inb : ∀ (v785 : BitVec 32) (k0_hw28 : k0_chk28 v785), ∀ a, (k0_off117 v785) a + S1x16.size a ≤ S704x64.size a := fun v785 k0_hw28 => k0_hw28.2.2.1
theorem k0_off118_inb : ∀ (v785 : BitVec 32) (k0_hw28 : k0_chk28 v785), ∀ a, (k0_off118 v785) a + S1x16.size a ≤ S704x64.size a := fun v785 k0_hw28 => k0_hw28.2.2.2

def k0_off119 (v806 : BitVec 32) : Fin 2 → Nat :=
  let v807 : Index := Scalar.indexCast v806
  let c0_263 : Index := 0#32
  ![v807.toNat, 0]

def k0_off120 (v806 : BitVec 32) : Fin 2 → Nat :=
  let v811 : Index := Scalar.indexCast v806
  let c16_264 : Index := 16#32
  ![v811.toNat, 16]
def k0_off121 (v806 : BitVec 32) : Fin 2 → Nat :=
  let v815 : Index := Scalar.indexCast v806
  let c32_265 : Index := 32#32
  ![v815.toNat, 32]
def k0_off122 (v806 : BitVec 32) : Fin 2 → Nat :=
  let v819 : Index := Scalar.indexCast v806
  let c48_266 : Index := 48#32
  ![v819.toNat, 48]

def k0_chk29 (v806 : BitVec 32) : Prop :=
  (∀ a, (k0_off119 v806) a + S1x16.size a ≤ S704x64.size a) ∧
  (∀ a, (k0_off120 v806) a + S1x16.size a ≤ S704x64.size a) ∧
  (∀ a, (k0_off121 v806) a + S1x16.size a ≤ S704x64.size a) ∧
  (∀ a, (k0_off122 v806) a + S1x16.size a ≤ S704x64.size a)
theorem k0_off119_inb : ∀ (v806 : BitVec 32) (k0_hw29 : k0_chk29 v806), ∀ a, (k0_off119 v806) a + S1x16.size a ≤ S704x64.size a := fun v806 k0_hw29 => k0_hw29.1
theorem k0_off120_inb : ∀ (v806 : BitVec 32) (k0_hw29 : k0_chk29 v806), ∀ a, (k0_off120 v806) a + S1x16.size a ≤ S704x64.size a := fun v806 k0_hw29 => k0_hw29.2.1
theorem k0_off121_inb : ∀ (v806 : BitVec 32) (k0_hw29 : k0_chk29 v806), ∀ a, (k0_off121 v806) a + S1x16.size a ≤ S704x64.size a := fun v806 k0_hw29 => k0_hw29.2.2.1
theorem k0_off122_inb : ∀ (v806 : BitVec 32) (k0_hw29 : k0_chk29 v806), ∀ a, (k0_off122 v806) a + S1x16.size a ≤ S704x64.size a := fun v806 k0_hw29 => k0_hw29.2.2.2

def k0_off123 (v827 : BitVec 32) : Fin 2 → Nat :=
  let v828 : Index := Scalar.indexCast v827
  let c0_267 : Index := 0#32
  ![v828.toNat, 0]

def k0_off124 (v827 : BitVec 32) : Fin 2 → Nat :=
  let v832 : Index := Scalar.indexCast v827
  let c16_268 : Index := 16#32
  ![v832.toNat, 16]
def k0_off125 (v827 : BitVec 32) : Fin 2 → Nat :=
  let v836 : Index := Scalar.indexCast v827
  let c32_269 : Index := 32#32
  ![v836.toNat, 32]
def k0_off126 (v827 : BitVec 32) : Fin 2 → Nat :=
  let v840 : Index := Scalar.indexCast v827
  let c48_270 : Index := 48#32
  ![v840.toNat, 48]

def k0_chk30 (v827 : BitVec 32) : Prop :=
  (∀ a, (k0_off123 v827) a + S1x16.size a ≤ S704x64.size a) ∧
  (∀ a, (k0_off124 v827) a + S1x16.size a ≤ S704x64.size a) ∧
  (∀ a, (k0_off125 v827) a + S1x16.size a ≤ S704x64.size a) ∧
  (∀ a, (k0_off126 v827) a + S1x16.size a ≤ S704x64.size a)
theorem k0_off123_inb : ∀ (v827 : BitVec 32) (k0_hw30 : k0_chk30 v827), ∀ a, (k0_off123 v827) a + S1x16.size a ≤ S704x64.size a := fun v827 k0_hw30 => k0_hw30.1
theorem k0_off124_inb : ∀ (v827 : BitVec 32) (k0_hw30 : k0_chk30 v827), ∀ a, (k0_off124 v827) a + S1x16.size a ≤ S704x64.size a := fun v827 k0_hw30 => k0_hw30.2.1
theorem k0_off125_inb : ∀ (v827 : BitVec 32) (k0_hw30 : k0_chk30 v827), ∀ a, (k0_off125 v827) a + S1x16.size a ≤ S704x64.size a := fun v827 k0_hw30 => k0_hw30.2.2.1
theorem k0_off126_inb : ∀ (v827 : BitVec 32) (k0_hw30 : k0_chk30 v827), ∀ a, (k0_off126 v827) a + S1x16.size a ≤ S704x64.size a := fun v827 k0_hw30 => k0_hw30.2.2.2

def k0_off127 (v848 : BitVec 32) : Fin 2 → Nat :=
  let v849 : Index := Scalar.indexCast v848
  let c0_271 : Index := 0#32
  ![v849.toNat, 0]

def k0_off128 (v848 : BitVec 32) : Fin 2 → Nat :=
  let v853 : Index := Scalar.indexCast v848
  let c16_272 : Index := 16#32
  ![v853.toNat, 16]
def k0_off129 (v848 : BitVec 32) : Fin 2 → Nat :=
  let v857 : Index := Scalar.indexCast v848
  let c32_273 : Index := 32#32
  ![v857.toNat, 32]
def k0_off130 (v848 : BitVec 32) : Fin 2 → Nat :=
  let v861 : Index := Scalar.indexCast v848
  let c48_274 : Index := 48#32
  ![v861.toNat, 48]

def k0_chk31 (v848 : BitVec 32) : Prop :=
  (∀ a, (k0_off127 v848) a + S1x16.size a ≤ S704x64.size a) ∧
  (∀ a, (k0_off128 v848) a + S1x16.size a ≤ S704x64.size a) ∧
  (∀ a, (k0_off129 v848) a + S1x16.size a ≤ S704x64.size a) ∧
  (∀ a, (k0_off130 v848) a + S1x16.size a ≤ S704x64.size a)
theorem k0_off127_inb : ∀ (v848 : BitVec 32) (k0_hw31 : k0_chk31 v848), ∀ a, (k0_off127 v848) a + S1x16.size a ≤ S704x64.size a := fun v848 k0_hw31 => k0_hw31.1
theorem k0_off128_inb : ∀ (v848 : BitVec 32) (k0_hw31 : k0_chk31 v848), ∀ a, (k0_off128 v848) a + S1x16.size a ≤ S704x64.size a := fun v848 k0_hw31 => k0_hw31.2.1
theorem k0_off129_inb : ∀ (v848 : BitVec 32) (k0_hw31 : k0_chk31 v848), ∀ a, (k0_off129 v848) a + S1x16.size a ≤ S704x64.size a := fun v848 k0_hw31 => k0_hw31.2.2.1
theorem k0_off130_inb : ∀ (v848 : BitVec 32) (k0_hw31 : k0_chk31 v848), ∀ a, (k0_off130 v848) a + S1x16.size a ≤ S704x64.size a := fun v848 k0_hw31 => k0_hw31.2.2.2

def k0_off131 (v869 : BitVec 32) : Fin 2 → Nat :=
  let v870 : Index := Scalar.indexCast v869
  let c0_275 : Index := 0#32
  ![v870.toNat, 0]

def k0_off132 (v869 : BitVec 32) : Fin 2 → Nat :=
  let v874 : Index := Scalar.indexCast v869
  let c16_276 : Index := 16#32
  ![v874.toNat, 16]
def k0_off133 (v869 : BitVec 32) : Fin 2 → Nat :=
  let v878 : Index := Scalar.indexCast v869
  let c32_277 : Index := 32#32
  ![v878.toNat, 32]
def k0_off134 (v869 : BitVec 32) : Fin 2 → Nat :=
  let v882 : Index := Scalar.indexCast v869
  let c48_278 : Index := 48#32
  ![v882.toNat, 48]

def k0_chk32 (v869 : BitVec 32) : Prop :=
  (∀ a, (k0_off131 v869) a + S1x16.size a ≤ S704x64.size a) ∧
  (∀ a, (k0_off132 v869) a + S1x16.size a ≤ S704x64.size a) ∧
  (∀ a, (k0_off133 v869) a + S1x16.size a ≤ S704x64.size a) ∧
  (∀ a, (k0_off134 v869) a + S1x16.size a ≤ S704x64.size a)
theorem k0_off131_inb : ∀ (v869 : BitVec 32) (k0_hw32 : k0_chk32 v869), ∀ a, (k0_off131 v869) a + S1x16.size a ≤ S704x64.size a := fun v869 k0_hw32 => k0_hw32.1
theorem k0_off132_inb : ∀ (v869 : BitVec 32) (k0_hw32 : k0_chk32 v869), ∀ a, (k0_off132 v869) a + S1x16.size a ≤ S704x64.size a := fun v869 k0_hw32 => k0_hw32.2.1
theorem k0_off133_inb : ∀ (v869 : BitVec 32) (k0_hw32 : k0_chk32 v869), ∀ a, (k0_off133 v869) a + S1x16.size a ≤ S704x64.size a := fun v869 k0_hw32 => k0_hw32.2.2.1
theorem k0_off134_inb : ∀ (v869 : BitVec 32) (k0_hw32 : k0_chk32 v869), ∀ a, (k0_off134 v869) a + S1x16.size a ≤ S704x64.size a := fun v869 k0_hw32 => k0_hw32.2.2.2

def k0_off135 (v890 : BitVec 32) : Fin 2 → Nat :=
  let v891 : Index := Scalar.indexCast v890
  let c0_279 : Index := 0#32
  ![v891.toNat, 0]

def k0_off136 (v890 : BitVec 32) : Fin 2 → Nat :=
  let v895 : Index := Scalar.indexCast v890
  let c16_280 : Index := 16#32
  ![v895.toNat, 16]
def k0_off137 (v890 : BitVec 32) : Fin 2 → Nat :=
  let v899 : Index := Scalar.indexCast v890
  let c32_281 : Index := 32#32
  ![v899.toNat, 32]
def k0_off138 (v890 : BitVec 32) : Fin 2 → Nat :=
  let v903 : Index := Scalar.indexCast v890
  let c48_282 : Index := 48#32
  ![v903.toNat, 48]

def k0_chk33 (v890 : BitVec 32) : Prop :=
  (∀ a, (k0_off135 v890) a + S1x16.size a ≤ S704x64.size a) ∧
  (∀ a, (k0_off136 v890) a + S1x16.size a ≤ S704x64.size a) ∧
  (∀ a, (k0_off137 v890) a + S1x16.size a ≤ S704x64.size a) ∧
  (∀ a, (k0_off138 v890) a + S1x16.size a ≤ S704x64.size a)
theorem k0_off135_inb : ∀ (v890 : BitVec 32) (k0_hw33 : k0_chk33 v890), ∀ a, (k0_off135 v890) a + S1x16.size a ≤ S704x64.size a := fun v890 k0_hw33 => k0_hw33.1
theorem k0_off136_inb : ∀ (v890 : BitVec 32) (k0_hw33 : k0_chk33 v890), ∀ a, (k0_off136 v890) a + S1x16.size a ≤ S704x64.size a := fun v890 k0_hw33 => k0_hw33.2.1
theorem k0_off137_inb : ∀ (v890 : BitVec 32) (k0_hw33 : k0_chk33 v890), ∀ a, (k0_off137 v890) a + S1x16.size a ≤ S704x64.size a := fun v890 k0_hw33 => k0_hw33.2.2.1
theorem k0_off138_inb : ∀ (v890 : BitVec 32) (k0_hw33 : k0_chk33 v890), ∀ a, (k0_off138 v890) a + S1x16.size a ≤ S704x64.size a := fun v890 k0_hw33 => k0_hw33.2.2.2

def k0_off139 (k0_t1 : Fin k0_t1_loop.trips) : Fin 2 → Nat :=
  let c2_i32_143 : BitVec 32 := 2#32
  let c0_i32_25 : BitVec 32 := 0#32
  let c1_i32_27 : BitVec 32 := 1#32
  let arg13 : BitVec 32 := Scf.iv c0_i32_25 c1_i32_27 k0_t1
  let v189 : BitVec 32 := Scalar.muli c2_i32_143 arg13
  let v907 : Index := Scalar.indexCast v189
  let c0_283 : Index := 0#32
  ![v907.toNat, 0]
def k0_off140 (k0_t1 : Fin k0_t1_loop.trips) : Fin 2 → Nat :=
  let c2_i32_143 : BitVec 32 := 2#32
  let c0_i32_25 : BitVec 32 := 0#32
  let c1_i32_27 : BitVec 32 := 1#32
  let arg13 : BitVec 32 := Scf.iv c0_i32_25 c1_i32_27 k0_t1
  let v189 : BitVec 32 := Scalar.muli c2_i32_143 arg13
  let v909 : Index := Scalar.indexCast v189
  let c16_284 : Index := 16#32
  ![v909.toNat, 16]
def k0_off141 (k0_t1 : Fin k0_t1_loop.trips) : Fin 2 → Nat :=
  let c2_i32_143 : BitVec 32 := 2#32
  let c0_i32_25 : BitVec 32 := 0#32
  let c1_i32_27 : BitVec 32 := 1#32
  let arg13 : BitVec 32 := Scf.iv c0_i32_25 c1_i32_27 k0_t1
  let v189 : BitVec 32 := Scalar.muli c2_i32_143 arg13
  let v911 : Index := Scalar.indexCast v189
  let c32_285 : Index := 32#32
  ![v911.toNat, 32]
def k0_off142 (k0_t1 : Fin k0_t1_loop.trips) : Fin 2 → Nat :=
  let c2_i32_143 : BitVec 32 := 2#32
  let c0_i32_25 : BitVec 32 := 0#32
  let c1_i32_27 : BitVec 32 := 1#32
  let arg13 : BitVec 32 := Scf.iv c0_i32_25 c1_i32_27 k0_t1
  let v189 : BitVec 32 := Scalar.muli c2_i32_143 arg13
  let v913 : Index := Scalar.indexCast v189
  let c48_286 : Index := 48#32
  ![v913.toNat, 48]
def k0_off143 (k0_t1 : Fin k0_t1_loop.trips) : Fin 2 → Nat :=
  let c2_i32_144 : BitVec 32 := 2#32
  let c0_i32_25 : BitVec 32 := 0#32
  let c1_i32_27 : BitVec 32 := 1#32
  let arg13 : BitVec 32 := Scf.iv c0_i32_25 c1_i32_27 k0_t1
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off144 (k0_t1 : Fin k0_t1_loop.trips) : Fin 2 → Nat :=
  let c2_i32_144 : BitVec 32 := 2#32
  let c0_i32_25 : BitVec 32 := 0#32
  let c1_i32_27 : BitVec 32 := 1#32
  let arg13 : BitVec 32 := Scf.iv c0_i32_25 c1_i32_27 k0_t1
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off145 (k0_t1 : Fin k0_t1_loop.trips) : Fin 2 → Nat :=
  let c2_i32_144 : BitVec 32 := 2#32
  let c0_i32_25 : BitVec 32 := 0#32
  let c1_i32_27 : BitVec 32 := 1#32
  let arg13 : BitVec 32 := Scf.iv c0_i32_25 c1_i32_27 k0_t1
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off146 (v941 : BitVec 32) : Fin 2 → Nat :=
  let v942 : Index := Scalar.indexCast v941
  let c0_297 : Index := 0#32
  ![v942.toNat, 0]

def k0_off147 (v941 : BitVec 32) : Fin 2 → Nat :=
  let v946 : Index := Scalar.indexCast v941
  let c16_298 : Index := 16#32
  ![v946.toNat, 16]
def k0_off148 (v941 : BitVec 32) : Fin 2 → Nat :=
  let v950 : Index := Scalar.indexCast v941
  let c32_299 : Index := 32#32
  ![v950.toNat, 32]
def k0_off149 (v941 : BitVec 32) : Fin 2 → Nat :=
  let v954 : Index := Scalar.indexCast v941
  let c48_300 : Index := 48#32
  ![v954.toNat, 48]

def k0_chk34 (v941 : BitVec 32) : Prop :=
  (∀ a, (k0_off146 v941) a + S1x16.size a ≤ S704x64.size a) ∧
  (∀ a, (k0_off147 v941) a + S1x16.size a ≤ S704x64.size a) ∧
  (∀ a, (k0_off148 v941) a + S1x16.size a ≤ S704x64.size a) ∧
  (∀ a, (k0_off149 v941) a + S1x16.size a ≤ S704x64.size a)
theorem k0_off146_inb : ∀ (v941 : BitVec 32) (k0_hw34 : k0_chk34 v941), ∀ a, (k0_off146 v941) a + S1x16.size a ≤ S704x64.size a := fun v941 k0_hw34 => k0_hw34.1
theorem k0_off147_inb : ∀ (v941 : BitVec 32) (k0_hw34 : k0_chk34 v941), ∀ a, (k0_off147 v941) a + S1x16.size a ≤ S704x64.size a := fun v941 k0_hw34 => k0_hw34.2.1
theorem k0_off148_inb : ∀ (v941 : BitVec 32) (k0_hw34 : k0_chk34 v941), ∀ a, (k0_off148 v941) a + S1x16.size a ≤ S704x64.size a := fun v941 k0_hw34 => k0_hw34.2.2.1
theorem k0_off149_inb : ∀ (v941 : BitVec 32) (k0_hw34 : k0_chk34 v941), ∀ a, (k0_off149 v941) a + S1x16.size a ≤ S704x64.size a := fun v941 k0_hw34 => k0_hw34.2.2.2

def k0_off150 (v962 : BitVec 32) : Fin 2 → Nat :=
  let v963 : Index := Scalar.indexCast v962
  let c0_301 : Index := 0#32
  ![v963.toNat, 0]

def k0_off151 (v962 : BitVec 32) : Fin 2 → Nat :=
  let v967 : Index := Scalar.indexCast v962
  let c16_302 : Index := 16#32
  ![v967.toNat, 16]
def k0_off152 (v962 : BitVec 32) : Fin 2 → Nat :=
  let v971 : Index := Scalar.indexCast v962
  let c32_303 : Index := 32#32
  ![v971.toNat, 32]
def k0_off153 (v962 : BitVec 32) : Fin 2 → Nat :=
  let v975 : Index := Scalar.indexCast v962
  let c48_304 : Index := 48#32
  ![v975.toNat, 48]

def k0_chk35 (v962 : BitVec 32) : Prop :=
  (∀ a, (k0_off150 v962) a + S1x16.size a ≤ S704x64.size a) ∧
  (∀ a, (k0_off151 v962) a + S1x16.size a ≤ S704x64.size a) ∧
  (∀ a, (k0_off152 v962) a + S1x16.size a ≤ S704x64.size a) ∧
  (∀ a, (k0_off153 v962) a + S1x16.size a ≤ S704x64.size a)
theorem k0_off150_inb : ∀ (v962 : BitVec 32) (k0_hw35 : k0_chk35 v962), ∀ a, (k0_off150 v962) a + S1x16.size a ≤ S704x64.size a := fun v962 k0_hw35 => k0_hw35.1
theorem k0_off151_inb : ∀ (v962 : BitVec 32) (k0_hw35 : k0_chk35 v962), ∀ a, (k0_off151 v962) a + S1x16.size a ≤ S704x64.size a := fun v962 k0_hw35 => k0_hw35.2.1
theorem k0_off152_inb : ∀ (v962 : BitVec 32) (k0_hw35 : k0_chk35 v962), ∀ a, (k0_off152 v962) a + S1x16.size a ≤ S704x64.size a := fun v962 k0_hw35 => k0_hw35.2.2.1
theorem k0_off153_inb : ∀ (v962 : BitVec 32) (k0_hw35 : k0_chk35 v962), ∀ a, (k0_off153 v962) a + S1x16.size a ≤ S704x64.size a := fun v962 k0_hw35 => k0_hw35.2.2.2

def k0_off154 (v983 : BitVec 32) : Fin 2 → Nat :=
  let v984 : Index := Scalar.indexCast v983
  let c0_305 : Index := 0#32
  ![v984.toNat, 0]

def k0_off155 (v983 : BitVec 32) : Fin 2 → Nat :=
  let v988 : Index := Scalar.indexCast v983
  let c16_306 : Index := 16#32
  ![v988.toNat, 16]
def k0_off156 (v983 : BitVec 32) : Fin 2 → Nat :=
  let v992 : Index := Scalar.indexCast v983
  let c32_307 : Index := 32#32
  ![v992.toNat, 32]
def k0_off157 (v983 : BitVec 32) : Fin 2 → Nat :=
  let v996 : Index := Scalar.indexCast v983
  let c48_308 : Index := 48#32
  ![v996.toNat, 48]

def k0_chk36 (v983 : BitVec 32) : Prop :=
  (∀ a, (k0_off154 v983) a + S1x16.size a ≤ S704x64.size a) ∧
  (∀ a, (k0_off155 v983) a + S1x16.size a ≤ S704x64.size a) ∧
  (∀ a, (k0_off156 v983) a + S1x16.size a ≤ S704x64.size a) ∧
  (∀ a, (k0_off157 v983) a + S1x16.size a ≤ S704x64.size a)
theorem k0_off154_inb : ∀ (v983 : BitVec 32) (k0_hw36 : k0_chk36 v983), ∀ a, (k0_off154 v983) a + S1x16.size a ≤ S704x64.size a := fun v983 k0_hw36 => k0_hw36.1
theorem k0_off155_inb : ∀ (v983 : BitVec 32) (k0_hw36 : k0_chk36 v983), ∀ a, (k0_off155 v983) a + S1x16.size a ≤ S704x64.size a := fun v983 k0_hw36 => k0_hw36.2.1
theorem k0_off156_inb : ∀ (v983 : BitVec 32) (k0_hw36 : k0_chk36 v983), ∀ a, (k0_off156 v983) a + S1x16.size a ≤ S704x64.size a := fun v983 k0_hw36 => k0_hw36.2.2.1
theorem k0_off157_inb : ∀ (v983 : BitVec 32) (k0_hw36 : k0_chk36 v983), ∀ a, (k0_off157 v983) a + S1x16.size a ≤ S704x64.size a := fun v983 k0_hw36 => k0_hw36.2.2.2

def k0_off158 (v1004 : BitVec 32) : Fin 2 → Nat :=
  let v1005 : Index := Scalar.indexCast v1004
  let c0_309 : Index := 0#32
  ![v1005.toNat, 0]

def k0_off159 (v1004 : BitVec 32) : Fin 2 → Nat :=
  let v1009 : Index := Scalar.indexCast v1004
  let c16_310 : Index := 16#32
  ![v1009.toNat, 16]
def k0_off160 (v1004 : BitVec 32) : Fin 2 → Nat :=
  let v1013 : Index := Scalar.indexCast v1004
  let c32_311 : Index := 32#32
  ![v1013.toNat, 32]
def k0_off161 (v1004 : BitVec 32) : Fin 2 → Nat :=
  let v1017 : Index := Scalar.indexCast v1004
  let c48_312 : Index := 48#32
  ![v1017.toNat, 48]

def k0_chk37 (v1004 : BitVec 32) : Prop :=
  (∀ a, (k0_off158 v1004) a + S1x16.size a ≤ S704x64.size a) ∧
  (∀ a, (k0_off159 v1004) a + S1x16.size a ≤ S704x64.size a) ∧
  (∀ a, (k0_off160 v1004) a + S1x16.size a ≤ S704x64.size a) ∧
  (∀ a, (k0_off161 v1004) a + S1x16.size a ≤ S704x64.size a)
theorem k0_off158_inb : ∀ (v1004 : BitVec 32) (k0_hw37 : k0_chk37 v1004), ∀ a, (k0_off158 v1004) a + S1x16.size a ≤ S704x64.size a := fun v1004 k0_hw37 => k0_hw37.1
theorem k0_off159_inb : ∀ (v1004 : BitVec 32) (k0_hw37 : k0_chk37 v1004), ∀ a, (k0_off159 v1004) a + S1x16.size a ≤ S704x64.size a := fun v1004 k0_hw37 => k0_hw37.2.1
theorem k0_off160_inb : ∀ (v1004 : BitVec 32) (k0_hw37 : k0_chk37 v1004), ∀ a, (k0_off160 v1004) a + S1x16.size a ≤ S704x64.size a := fun v1004 k0_hw37 => k0_hw37.2.2.1
theorem k0_off161_inb : ∀ (v1004 : BitVec 32) (k0_hw37 : k0_chk37 v1004), ∀ a, (k0_off161 v1004) a + S1x16.size a ≤ S704x64.size a := fun v1004 k0_hw37 => k0_hw37.2.2.2

def k0_off162 (v1025 : BitVec 32) : Fin 2 → Nat :=
  let v1026 : Index := Scalar.indexCast v1025
  let c0_313 : Index := 0#32
  ![v1026.toNat, 0]

def k0_off163 (v1025 : BitVec 32) : Fin 2 → Nat :=
  let v1030 : Index := Scalar.indexCast v1025
  let c16_314 : Index := 16#32
  ![v1030.toNat, 16]
def k0_off164 (v1025 : BitVec 32) : Fin 2 → Nat :=
  let v1034 : Index := Scalar.indexCast v1025
  let c32_315 : Index := 32#32
  ![v1034.toNat, 32]
def k0_off165 (v1025 : BitVec 32) : Fin 2 → Nat :=
  let v1038 : Index := Scalar.indexCast v1025
  let c48_316 : Index := 48#32
  ![v1038.toNat, 48]

def k0_chk38 (v1025 : BitVec 32) : Prop :=
  (∀ a, (k0_off162 v1025) a + S1x16.size a ≤ S704x64.size a) ∧
  (∀ a, (k0_off163 v1025) a + S1x16.size a ≤ S704x64.size a) ∧
  (∀ a, (k0_off164 v1025) a + S1x16.size a ≤ S704x64.size a) ∧
  (∀ a, (k0_off165 v1025) a + S1x16.size a ≤ S704x64.size a)
theorem k0_off162_inb : ∀ (v1025 : BitVec 32) (k0_hw38 : k0_chk38 v1025), ∀ a, (k0_off162 v1025) a + S1x16.size a ≤ S704x64.size a := fun v1025 k0_hw38 => k0_hw38.1
theorem k0_off163_inb : ∀ (v1025 : BitVec 32) (k0_hw38 : k0_chk38 v1025), ∀ a, (k0_off163 v1025) a + S1x16.size a ≤ S704x64.size a := fun v1025 k0_hw38 => k0_hw38.2.1
theorem k0_off164_inb : ∀ (v1025 : BitVec 32) (k0_hw38 : k0_chk38 v1025), ∀ a, (k0_off164 v1025) a + S1x16.size a ≤ S704x64.size a := fun v1025 k0_hw38 => k0_hw38.2.2.1
theorem k0_off165_inb : ∀ (v1025 : BitVec 32) (k0_hw38 : k0_chk38 v1025), ∀ a, (k0_off165 v1025) a + S1x16.size a ≤ S704x64.size a := fun v1025 k0_hw38 => k0_hw38.2.2.2

def k0_off166 (v1046 : BitVec 32) : Fin 2 → Nat :=
  let v1047 : Index := Scalar.indexCast v1046
  let c0_317 : Index := 0#32
  ![v1047.toNat, 0]

def k0_off167 (v1046 : BitVec 32) : Fin 2 → Nat :=
  let v1051 : Index := Scalar.indexCast v1046
  let c16_318 : Index := 16#32
  ![v1051.toNat, 16]
def k0_off168 (v1046 : BitVec 32) : Fin 2 → Nat :=
  let v1055 : Index := Scalar.indexCast v1046
  let c32_319 : Index := 32#32
  ![v1055.toNat, 32]
def k0_off169 (v1046 : BitVec 32) : Fin 2 → Nat :=
  let v1059 : Index := Scalar.indexCast v1046
  let c48_320 : Index := 48#32
  ![v1059.toNat, 48]

def k0_chk39 (v1046 : BitVec 32) : Prop :=
  (∀ a, (k0_off166 v1046) a + S1x16.size a ≤ S704x64.size a) ∧
  (∀ a, (k0_off167 v1046) a + S1x16.size a ≤ S704x64.size a) ∧
  (∀ a, (k0_off168 v1046) a + S1x16.size a ≤ S704x64.size a) ∧
  (∀ a, (k0_off169 v1046) a + S1x16.size a ≤ S704x64.size a)
theorem k0_off166_inb : ∀ (v1046 : BitVec 32) (k0_hw39 : k0_chk39 v1046), ∀ a, (k0_off166 v1046) a + S1x16.size a ≤ S704x64.size a := fun v1046 k0_hw39 => k0_hw39.1
theorem k0_off167_inb : ∀ (v1046 : BitVec 32) (k0_hw39 : k0_chk39 v1046), ∀ a, (k0_off167 v1046) a + S1x16.size a ≤ S704x64.size a := fun v1046 k0_hw39 => k0_hw39.2.1
theorem k0_off168_inb : ∀ (v1046 : BitVec 32) (k0_hw39 : k0_chk39 v1046), ∀ a, (k0_off168 v1046) a + S1x16.size a ≤ S704x64.size a := fun v1046 k0_hw39 => k0_hw39.2.2.1
theorem k0_off169_inb : ∀ (v1046 : BitVec 32) (k0_hw39 : k0_chk39 v1046), ∀ a, (k0_off169 v1046) a + S1x16.size a ≤ S704x64.size a := fun v1046 k0_hw39 => k0_hw39.2.2.2

def k0_off170 (v1067 : BitVec 32) : Fin 2 → Nat :=
  let v1068 : Index := Scalar.indexCast v1067
  let c0_321 : Index := 0#32
  ![v1068.toNat, 0]

def k0_off171 (v1067 : BitVec 32) : Fin 2 → Nat :=
  let v1072 : Index := Scalar.indexCast v1067
  let c16_322 : Index := 16#32
  ![v1072.toNat, 16]
def k0_off172 (v1067 : BitVec 32) : Fin 2 → Nat :=
  let v1076 : Index := Scalar.indexCast v1067
  let c32_323 : Index := 32#32
  ![v1076.toNat, 32]
def k0_off173 (v1067 : BitVec 32) : Fin 2 → Nat :=
  let v1080 : Index := Scalar.indexCast v1067
  let c48_324 : Index := 48#32
  ![v1080.toNat, 48]

def k0_chk40 (v1067 : BitVec 32) : Prop :=
  (∀ a, (k0_off170 v1067) a + S1x16.size a ≤ S704x64.size a) ∧
  (∀ a, (k0_off171 v1067) a + S1x16.size a ≤ S704x64.size a) ∧
  (∀ a, (k0_off172 v1067) a + S1x16.size a ≤ S704x64.size a) ∧
  (∀ a, (k0_off173 v1067) a + S1x16.size a ≤ S704x64.size a)
theorem k0_off170_inb : ∀ (v1067 : BitVec 32) (k0_hw40 : k0_chk40 v1067), ∀ a, (k0_off170 v1067) a + S1x16.size a ≤ S704x64.size a := fun v1067 k0_hw40 => k0_hw40.1
theorem k0_off171_inb : ∀ (v1067 : BitVec 32) (k0_hw40 : k0_chk40 v1067), ∀ a, (k0_off171 v1067) a + S1x16.size a ≤ S704x64.size a := fun v1067 k0_hw40 => k0_hw40.2.1
theorem k0_off172_inb : ∀ (v1067 : BitVec 32) (k0_hw40 : k0_chk40 v1067), ∀ a, (k0_off172 v1067) a + S1x16.size a ≤ S704x64.size a := fun v1067 k0_hw40 => k0_hw40.2.2.1
theorem k0_off173_inb : ∀ (v1067 : BitVec 32) (k0_hw40 : k0_chk40 v1067), ∀ a, (k0_off173 v1067) a + S1x16.size a ≤ S704x64.size a := fun v1067 k0_hw40 => k0_hw40.2.2.2

def k0_off174 (v1088 : BitVec 32) : Fin 2 → Nat :=
  let v1089 : Index := Scalar.indexCast v1088
  let c0_325 : Index := 0#32
  ![v1089.toNat, 0]

def k0_off175 (v1088 : BitVec 32) : Fin 2 → Nat :=
  let v1093 : Index := Scalar.indexCast v1088
  let c16_326 : Index := 16#32
  ![v1093.toNat, 16]
def k0_off176 (v1088 : BitVec 32) : Fin 2 → Nat :=
  let v1097 : Index := Scalar.indexCast v1088
  let c32_327 : Index := 32#32
  ![v1097.toNat, 32]
def k0_off177 (v1088 : BitVec 32) : Fin 2 → Nat :=
  let v1101 : Index := Scalar.indexCast v1088
  let c48_328 : Index := 48#32
  ![v1101.toNat, 48]

def k0_chk41 (v1088 : BitVec 32) : Prop :=
  (∀ a, (k0_off174 v1088) a + S1x16.size a ≤ S704x64.size a) ∧
  (∀ a, (k0_off175 v1088) a + S1x16.size a ≤ S704x64.size a) ∧
  (∀ a, (k0_off176 v1088) a + S1x16.size a ≤ S704x64.size a) ∧
  (∀ a, (k0_off177 v1088) a + S1x16.size a ≤ S704x64.size a)
theorem k0_off174_inb : ∀ (v1088 : BitVec 32) (k0_hw41 : k0_chk41 v1088), ∀ a, (k0_off174 v1088) a + S1x16.size a ≤ S704x64.size a := fun v1088 k0_hw41 => k0_hw41.1
theorem k0_off175_inb : ∀ (v1088 : BitVec 32) (k0_hw41 : k0_chk41 v1088), ∀ a, (k0_off175 v1088) a + S1x16.size a ≤ S704x64.size a := fun v1088 k0_hw41 => k0_hw41.2.1
theorem k0_off176_inb : ∀ (v1088 : BitVec 32) (k0_hw41 : k0_chk41 v1088), ∀ a, (k0_off176 v1088) a + S1x16.size a ≤ S704x64.size a := fun v1088 k0_hw41 => k0_hw41.2.2.1
theorem k0_off177_inb : ∀ (v1088 : BitVec 32) (k0_hw41 : k0_chk41 v1088), ∀ a, (k0_off177 v1088) a + S1x16.size a ≤ S704x64.size a := fun v1088 k0_hw41 => k0_hw41.2.2.2

def k0_off178 (v1109 : BitVec 32) : Fin 2 → Nat :=
  let v1110 : Index := Scalar.indexCast v1109
  let c0_329 : Index := 0#32
  ![v1110.toNat, 0]

def k0_off179 (v1109 : BitVec 32) : Fin 2 → Nat :=
  let v1114 : Index := Scalar.indexCast v1109
  let c16_330 : Index := 16#32
  ![v1114.toNat, 16]
def k0_off180 (v1109 : BitVec 32) : Fin 2 → Nat :=
  let v1118 : Index := Scalar.indexCast v1109
  let c32_331 : Index := 32#32
  ![v1118.toNat, 32]
def k0_off181 (v1109 : BitVec 32) : Fin 2 → Nat :=
  let v1122 : Index := Scalar.indexCast v1109
  let c48_332 : Index := 48#32
  ![v1122.toNat, 48]

def k0_chk42 (v1109 : BitVec 32) : Prop :=
  (∀ a, (k0_off178 v1109) a + S1x16.size a ≤ S704x64.size a) ∧
  (∀ a, (k0_off179 v1109) a + S1x16.size a ≤ S704x64.size a) ∧
  (∀ a, (k0_off180 v1109) a + S1x16.size a ≤ S704x64.size a) ∧
  (∀ a, (k0_off181 v1109) a + S1x16.size a ≤ S704x64.size a)
theorem k0_off178_inb : ∀ (v1109 : BitVec 32) (k0_hw42 : k0_chk42 v1109), ∀ a, (k0_off178 v1109) a + S1x16.size a ≤ S704x64.size a := fun v1109 k0_hw42 => k0_hw42.1
theorem k0_off179_inb : ∀ (v1109 : BitVec 32) (k0_hw42 : k0_chk42 v1109), ∀ a, (k0_off179 v1109) a + S1x16.size a ≤ S704x64.size a := fun v1109 k0_hw42 => k0_hw42.2.1
theorem k0_off180_inb : ∀ (v1109 : BitVec 32) (k0_hw42 : k0_chk42 v1109), ∀ a, (k0_off180 v1109) a + S1x16.size a ≤ S704x64.size a := fun v1109 k0_hw42 => k0_hw42.2.2.1
theorem k0_off181_inb : ∀ (v1109 : BitVec 32) (k0_hw42 : k0_chk42 v1109), ∀ a, (k0_off181 v1109) a + S1x16.size a ≤ S704x64.size a := fun v1109 k0_hw42 => k0_hw42.2.2.2

def k0_off182 (v1130 : BitVec 32) : Fin 2 → Nat :=
  let v1131 : Index := Scalar.indexCast v1130
  let c0_333 : Index := 0#32
  ![v1131.toNat, 0]

def k0_off183 (v1130 : BitVec 32) : Fin 2 → Nat :=
  let v1135 : Index := Scalar.indexCast v1130
  let c16_334 : Index := 16#32
  ![v1135.toNat, 16]
def k0_off184 (v1130 : BitVec 32) : Fin 2 → Nat :=
  let v1139 : Index := Scalar.indexCast v1130
  let c32_335 : Index := 32#32
  ![v1139.toNat, 32]
def k0_off185 (v1130 : BitVec 32) : Fin 2 → Nat :=
  let v1143 : Index := Scalar.indexCast v1130
  let c48_336 : Index := 48#32
  ![v1143.toNat, 48]

def k0_chk43 (v1130 : BitVec 32) : Prop :=
  (∀ a, (k0_off182 v1130) a + S1x16.size a ≤ S704x64.size a) ∧
  (∀ a, (k0_off183 v1130) a + S1x16.size a ≤ S704x64.size a) ∧
  (∀ a, (k0_off184 v1130) a + S1x16.size a ≤ S704x64.size a) ∧
  (∀ a, (k0_off185 v1130) a + S1x16.size a ≤ S704x64.size a)
theorem k0_off182_inb : ∀ (v1130 : BitVec 32) (k0_hw43 : k0_chk43 v1130), ∀ a, (k0_off182 v1130) a + S1x16.size a ≤ S704x64.size a := fun v1130 k0_hw43 => k0_hw43.1
theorem k0_off183_inb : ∀ (v1130 : BitVec 32) (k0_hw43 : k0_chk43 v1130), ∀ a, (k0_off183 v1130) a + S1x16.size a ≤ S704x64.size a := fun v1130 k0_hw43 => k0_hw43.2.1
theorem k0_off184_inb : ∀ (v1130 : BitVec 32) (k0_hw43 : k0_chk43 v1130), ∀ a, (k0_off184 v1130) a + S1x16.size a ≤ S704x64.size a := fun v1130 k0_hw43 => k0_hw43.2.2.1
theorem k0_off185_inb : ∀ (v1130 : BitVec 32) (k0_hw43 : k0_chk43 v1130), ∀ a, (k0_off185 v1130) a + S1x16.size a ≤ S704x64.size a := fun v1130 k0_hw43 => k0_hw43.2.2.2

def k0_off186 (v1151 : BitVec 32) : Fin 2 → Nat :=
  let v1152 : Index := Scalar.indexCast v1151
  let c0_337 : Index := 0#32
  ![v1152.toNat, 0]

def k0_off187 (v1151 : BitVec 32) : Fin 2 → Nat :=
  let v1156 : Index := Scalar.indexCast v1151
  let c16_338 : Index := 16#32
  ![v1156.toNat, 16]
def k0_off188 (v1151 : BitVec 32) : Fin 2 → Nat :=
  let v1160 : Index := Scalar.indexCast v1151
  let c32_339 : Index := 32#32
  ![v1160.toNat, 32]
def k0_off189 (v1151 : BitVec 32) : Fin 2 → Nat :=
  let v1164 : Index := Scalar.indexCast v1151
  let c48_340 : Index := 48#32
  ![v1164.toNat, 48]

def k0_chk44 (v1151 : BitVec 32) : Prop :=
  (∀ a, (k0_off186 v1151) a + S1x16.size a ≤ S704x64.size a) ∧
  (∀ a, (k0_off187 v1151) a + S1x16.size a ≤ S704x64.size a) ∧
  (∀ a, (k0_off188 v1151) a + S1x16.size a ≤ S704x64.size a) ∧
  (∀ a, (k0_off189 v1151) a + S1x16.size a ≤ S704x64.size a)
theorem k0_off186_inb : ∀ (v1151 : BitVec 32) (k0_hw44 : k0_chk44 v1151), ∀ a, (k0_off186 v1151) a + S1x16.size a ≤ S704x64.size a := fun v1151 k0_hw44 => k0_hw44.1
theorem k0_off187_inb : ∀ (v1151 : BitVec 32) (k0_hw44 : k0_chk44 v1151), ∀ a, (k0_off187 v1151) a + S1x16.size a ≤ S704x64.size a := fun v1151 k0_hw44 => k0_hw44.2.1
theorem k0_off188_inb : ∀ (v1151 : BitVec 32) (k0_hw44 : k0_chk44 v1151), ∀ a, (k0_off188 v1151) a + S1x16.size a ≤ S704x64.size a := fun v1151 k0_hw44 => k0_hw44.2.2.1
theorem k0_off189_inb : ∀ (v1151 : BitVec 32) (k0_hw44 : k0_chk44 v1151), ∀ a, (k0_off189 v1151) a + S1x16.size a ≤ S704x64.size a := fun v1151 k0_hw44 => k0_hw44.2.2.2

def k0_off190 (v1172 : BitVec 32) : Fin 2 → Nat :=
  let v1173 : Index := Scalar.indexCast v1172
  let c0_341 : Index := 0#32
  ![v1173.toNat, 0]

def k0_off191 (v1172 : BitVec 32) : Fin 2 → Nat :=
  let v1177 : Index := Scalar.indexCast v1172
  let c16_342 : Index := 16#32
  ![v1177.toNat, 16]
def k0_off192 (v1172 : BitVec 32) : Fin 2 → Nat :=
  let v1181 : Index := Scalar.indexCast v1172
  let c32_343 : Index := 32#32
  ![v1181.toNat, 32]
def k0_off193 (v1172 : BitVec 32) : Fin 2 → Nat :=
  let v1185 : Index := Scalar.indexCast v1172
  let c48_344 : Index := 48#32
  ![v1185.toNat, 48]

def k0_chk45 (v1172 : BitVec 32) : Prop :=
  (∀ a, (k0_off190 v1172) a + S1x16.size a ≤ S704x64.size a) ∧
  (∀ a, (k0_off191 v1172) a + S1x16.size a ≤ S704x64.size a) ∧
  (∀ a, (k0_off192 v1172) a + S1x16.size a ≤ S704x64.size a) ∧
  (∀ a, (k0_off193 v1172) a + S1x16.size a ≤ S704x64.size a)
theorem k0_off190_inb : ∀ (v1172 : BitVec 32) (k0_hw45 : k0_chk45 v1172), ∀ a, (k0_off190 v1172) a + S1x16.size a ≤ S704x64.size a := fun v1172 k0_hw45 => k0_hw45.1
theorem k0_off191_inb : ∀ (v1172 : BitVec 32) (k0_hw45 : k0_chk45 v1172), ∀ a, (k0_off191 v1172) a + S1x16.size a ≤ S704x64.size a := fun v1172 k0_hw45 => k0_hw45.2.1
theorem k0_off192_inb : ∀ (v1172 : BitVec 32) (k0_hw45 : k0_chk45 v1172), ∀ a, (k0_off192 v1172) a + S1x16.size a ≤ S704x64.size a := fun v1172 k0_hw45 => k0_hw45.2.2.1
theorem k0_off193_inb : ∀ (v1172 : BitVec 32) (k0_hw45 : k0_chk45 v1172), ∀ a, (k0_off193 v1172) a + S1x16.size a ≤ S704x64.size a := fun v1172 k0_hw45 => k0_hw45.2.2.2

def k0_off194 (v1193 : BitVec 32) : Fin 2 → Nat :=
  let v1194 : Index := Scalar.indexCast v1193
  let c0_345 : Index := 0#32
  ![v1194.toNat, 0]

def k0_off195 (v1193 : BitVec 32) : Fin 2 → Nat :=
  let v1198 : Index := Scalar.indexCast v1193
  let c16_346 : Index := 16#32
  ![v1198.toNat, 16]
def k0_off196 (v1193 : BitVec 32) : Fin 2 → Nat :=
  let v1202 : Index := Scalar.indexCast v1193
  let c32_347 : Index := 32#32
  ![v1202.toNat, 32]
def k0_off197 (v1193 : BitVec 32) : Fin 2 → Nat :=
  let v1206 : Index := Scalar.indexCast v1193
  let c48_348 : Index := 48#32
  ![v1206.toNat, 48]

def k0_chk46 (v1193 : BitVec 32) : Prop :=
  (∀ a, (k0_off194 v1193) a + S1x16.size a ≤ S704x64.size a) ∧
  (∀ a, (k0_off195 v1193) a + S1x16.size a ≤ S704x64.size a) ∧
  (∀ a, (k0_off196 v1193) a + S1x16.size a ≤ S704x64.size a) ∧
  (∀ a, (k0_off197 v1193) a + S1x16.size a ≤ S704x64.size a)
theorem k0_off194_inb : ∀ (v1193 : BitVec 32) (k0_hw46 : k0_chk46 v1193), ∀ a, (k0_off194 v1193) a + S1x16.size a ≤ S704x64.size a := fun v1193 k0_hw46 => k0_hw46.1
theorem k0_off195_inb : ∀ (v1193 : BitVec 32) (k0_hw46 : k0_chk46 v1193), ∀ a, (k0_off195 v1193) a + S1x16.size a ≤ S704x64.size a := fun v1193 k0_hw46 => k0_hw46.2.1
theorem k0_off196_inb : ∀ (v1193 : BitVec 32) (k0_hw46 : k0_chk46 v1193), ∀ a, (k0_off196 v1193) a + S1x16.size a ≤ S704x64.size a := fun v1193 k0_hw46 => k0_hw46.2.2.1
theorem k0_off197_inb : ∀ (v1193 : BitVec 32) (k0_hw46 : k0_chk46 v1193), ∀ a, (k0_off197 v1193) a + S1x16.size a ≤ S704x64.size a := fun v1193 k0_hw46 => k0_hw46.2.2.2

def k0_off198 (v1214 : BitVec 32) : Fin 2 → Nat :=
  let v1215 : Index := Scalar.indexCast v1214
  let c0_349 : Index := 0#32
  ![v1215.toNat, 0]

def k0_off199 (v1214 : BitVec 32) : Fin 2 → Nat :=
  let v1219 : Index := Scalar.indexCast v1214
  let c16_350 : Index := 16#32
  ![v1219.toNat, 16]
def k0_off200 (v1214 : BitVec 32) : Fin 2 → Nat :=
  let v1223 : Index := Scalar.indexCast v1214
  let c32_351 : Index := 32#32
  ![v1223.toNat, 32]
def k0_off201 (v1214 : BitVec 32) : Fin 2 → Nat :=
  let v1227 : Index := Scalar.indexCast v1214
  let c48_352 : Index := 48#32
  ![v1227.toNat, 48]

def k0_chk47 (v1214 : BitVec 32) : Prop :=
  (∀ a, (k0_off198 v1214) a + S1x16.size a ≤ S704x64.size a) ∧
  (∀ a, (k0_off199 v1214) a + S1x16.size a ≤ S704x64.size a) ∧
  (∀ a, (k0_off200 v1214) a + S1x16.size a ≤ S704x64.size a) ∧
  (∀ a, (k0_off201 v1214) a + S1x16.size a ≤ S704x64.size a)
theorem k0_off198_inb : ∀ (v1214 : BitVec 32) (k0_hw47 : k0_chk47 v1214), ∀ a, (k0_off198 v1214) a + S1x16.size a ≤ S704x64.size a := fun v1214 k0_hw47 => k0_hw47.1
theorem k0_off199_inb : ∀ (v1214 : BitVec 32) (k0_hw47 : k0_chk47 v1214), ∀ a, (k0_off199 v1214) a + S1x16.size a ≤ S704x64.size a := fun v1214 k0_hw47 => k0_hw47.2.1
theorem k0_off200_inb : ∀ (v1214 : BitVec 32) (k0_hw47 : k0_chk47 v1214), ∀ a, (k0_off200 v1214) a + S1x16.size a ≤ S704x64.size a := fun v1214 k0_hw47 => k0_hw47.2.2.1
theorem k0_off201_inb : ∀ (v1214 : BitVec 32) (k0_hw47 : k0_chk47 v1214), ∀ a, (k0_off201 v1214) a + S1x16.size a ≤ S704x64.size a := fun v1214 k0_hw47 => k0_hw47.2.2.2

def k0_off202 (v1235 : BitVec 32) : Fin 2 → Nat :=
  let v1236 : Index := Scalar.indexCast v1235
  let c0_353 : Index := 0#32
  ![v1236.toNat, 0]

def k0_off203 (v1235 : BitVec 32) : Fin 2 → Nat :=
  let v1240 : Index := Scalar.indexCast v1235
  let c16_354 : Index := 16#32
  ![v1240.toNat, 16]
def k0_off204 (v1235 : BitVec 32) : Fin 2 → Nat :=
  let v1244 : Index := Scalar.indexCast v1235
  let c32_355 : Index := 32#32
  ![v1244.toNat, 32]
def k0_off205 (v1235 : BitVec 32) : Fin 2 → Nat :=
  let v1248 : Index := Scalar.indexCast v1235
  let c48_356 : Index := 48#32
  ![v1248.toNat, 48]

def k0_chk48 (v1235 : BitVec 32) : Prop :=
  (∀ a, (k0_off202 v1235) a + S1x16.size a ≤ S704x64.size a) ∧
  (∀ a, (k0_off203 v1235) a + S1x16.size a ≤ S704x64.size a) ∧
  (∀ a, (k0_off204 v1235) a + S1x16.size a ≤ S704x64.size a) ∧
  (∀ a, (k0_off205 v1235) a + S1x16.size a ≤ S704x64.size a)
theorem k0_off202_inb : ∀ (v1235 : BitVec 32) (k0_hw48 : k0_chk48 v1235), ∀ a, (k0_off202 v1235) a + S1x16.size a ≤ S704x64.size a := fun v1235 k0_hw48 => k0_hw48.1
theorem k0_off203_inb : ∀ (v1235 : BitVec 32) (k0_hw48 : k0_chk48 v1235), ∀ a, (k0_off203 v1235) a + S1x16.size a ≤ S704x64.size a := fun v1235 k0_hw48 => k0_hw48.2.1
theorem k0_off204_inb : ∀ (v1235 : BitVec 32) (k0_hw48 : k0_chk48 v1235), ∀ a, (k0_off204 v1235) a + S1x16.size a ≤ S704x64.size a := fun v1235 k0_hw48 => k0_hw48.2.2.1
theorem k0_off205_inb : ∀ (v1235 : BitVec 32) (k0_hw48 : k0_chk48 v1235), ∀ a, (k0_off205 v1235) a + S1x16.size a ≤ S704x64.size a := fun v1235 k0_hw48 => k0_hw48.2.2.2

def k0_off206 (v1256 : BitVec 32) : Fin 2 → Nat :=
  let v1257 : Index := Scalar.indexCast v1256
  let c0_357 : Index := 0#32
  ![v1257.toNat, 0]

def k0_off207 (v1256 : BitVec 32) : Fin 2 → Nat :=
  let v1261 : Index := Scalar.indexCast v1256
  let c16_358 : Index := 16#32
  ![v1261.toNat, 16]
def k0_off208 (v1256 : BitVec 32) : Fin 2 → Nat :=
  let v1265 : Index := Scalar.indexCast v1256
  let c32_359 : Index := 32#32
  ![v1265.toNat, 32]
def k0_off209 (v1256 : BitVec 32) : Fin 2 → Nat :=
  let v1269 : Index := Scalar.indexCast v1256
  let c48_360 : Index := 48#32
  ![v1269.toNat, 48]

def k0_chk49 (v1256 : BitVec 32) : Prop :=
  (∀ a, (k0_off206 v1256) a + S1x16.size a ≤ S704x64.size a) ∧
  (∀ a, (k0_off207 v1256) a + S1x16.size a ≤ S704x64.size a) ∧
  (∀ a, (k0_off208 v1256) a + S1x16.size a ≤ S704x64.size a) ∧
  (∀ a, (k0_off209 v1256) a + S1x16.size a ≤ S704x64.size a)
theorem k0_off206_inb : ∀ (v1256 : BitVec 32) (k0_hw49 : k0_chk49 v1256), ∀ a, (k0_off206 v1256) a + S1x16.size a ≤ S704x64.size a := fun v1256 k0_hw49 => k0_hw49.1
theorem k0_off207_inb : ∀ (v1256 : BitVec 32) (k0_hw49 : k0_chk49 v1256), ∀ a, (k0_off207 v1256) a + S1x16.size a ≤ S704x64.size a := fun v1256 k0_hw49 => k0_hw49.2.1
theorem k0_off208_inb : ∀ (v1256 : BitVec 32) (k0_hw49 : k0_chk49 v1256), ∀ a, (k0_off208 v1256) a + S1x16.size a ≤ S704x64.size a := fun v1256 k0_hw49 => k0_hw49.2.2.1
theorem k0_off209_inb : ∀ (v1256 : BitVec 32) (k0_hw49 : k0_chk49 v1256), ∀ a, (k0_off209 v1256) a + S1x16.size a ≤ S704x64.size a := fun v1256 k0_hw49 => k0_hw49.2.2.2

def k0_off210 (v1277 : BitVec 32) : Fin 2 → Nat :=
  let v1278 : Index := Scalar.indexCast v1277
  let c0_361 : Index := 0#32
  ![v1278.toNat, 0]

def k0_off211 (v1277 : BitVec 32) : Fin 2 → Nat :=
  let v1282 : Index := Scalar.indexCast v1277
  let c16_362 : Index := 16#32
  ![v1282.toNat, 16]
def k0_off212 (v1277 : BitVec 32) : Fin 2 → Nat :=
  let v1286 : Index := Scalar.indexCast v1277
  let c32_363 : Index := 32#32
  ![v1286.toNat, 32]
def k0_off213 (v1277 : BitVec 32) : Fin 2 → Nat :=
  let v1290 : Index := Scalar.indexCast v1277
  let c48_364 : Index := 48#32
  ![v1290.toNat, 48]

def k0_chk50 (v1277 : BitVec 32) : Prop :=
  (∀ a, (k0_off210 v1277) a + S1x16.size a ≤ S704x64.size a) ∧
  (∀ a, (k0_off211 v1277) a + S1x16.size a ≤ S704x64.size a) ∧
  (∀ a, (k0_off212 v1277) a + S1x16.size a ≤ S704x64.size a) ∧
  (∀ a, (k0_off213 v1277) a + S1x16.size a ≤ S704x64.size a)
theorem k0_off210_inb : ∀ (v1277 : BitVec 32) (k0_hw50 : k0_chk50 v1277), ∀ a, (k0_off210 v1277) a + S1x16.size a ≤ S704x64.size a := fun v1277 k0_hw50 => k0_hw50.1
theorem k0_off211_inb : ∀ (v1277 : BitVec 32) (k0_hw50 : k0_chk50 v1277), ∀ a, (k0_off211 v1277) a + S1x16.size a ≤ S704x64.size a := fun v1277 k0_hw50 => k0_hw50.2.1
theorem k0_off212_inb : ∀ (v1277 : BitVec 32) (k0_hw50 : k0_chk50 v1277), ∀ a, (k0_off212 v1277) a + S1x16.size a ≤ S704x64.size a := fun v1277 k0_hw50 => k0_hw50.2.2.1
theorem k0_off213_inb : ∀ (v1277 : BitVec 32) (k0_hw50 : k0_chk50 v1277), ∀ a, (k0_off213 v1277) a + S1x16.size a ≤ S704x64.size a := fun v1277 k0_hw50 => k0_hw50.2.2.2

def k0_off214 (v1298 : BitVec 32) : Fin 2 → Nat :=
  let v1299 : Index := Scalar.indexCast v1298
  let c0_365 : Index := 0#32
  ![v1299.toNat, 0]

def k0_off215 (v1298 : BitVec 32) : Fin 2 → Nat :=
  let v1303 : Index := Scalar.indexCast v1298
  let c16_366 : Index := 16#32
  ![v1303.toNat, 16]
def k0_off216 (v1298 : BitVec 32) : Fin 2 → Nat :=
  let v1307 : Index := Scalar.indexCast v1298
  let c32_367 : Index := 32#32
  ![v1307.toNat, 32]
def k0_off217 (v1298 : BitVec 32) : Fin 2 → Nat :=
  let v1311 : Index := Scalar.indexCast v1298
  let c48_368 : Index := 48#32
  ![v1311.toNat, 48]

def k0_chk51 (v1298 : BitVec 32) : Prop :=
  (∀ a, (k0_off214 v1298) a + S1x16.size a ≤ S704x64.size a) ∧
  (∀ a, (k0_off215 v1298) a + S1x16.size a ≤ S704x64.size a) ∧
  (∀ a, (k0_off216 v1298) a + S1x16.size a ≤ S704x64.size a) ∧
  (∀ a, (k0_off217 v1298) a + S1x16.size a ≤ S704x64.size a)
theorem k0_off214_inb : ∀ (v1298 : BitVec 32) (k0_hw51 : k0_chk51 v1298), ∀ a, (k0_off214 v1298) a + S1x16.size a ≤ S704x64.size a := fun v1298 k0_hw51 => k0_hw51.1
theorem k0_off215_inb : ∀ (v1298 : BitVec 32) (k0_hw51 : k0_chk51 v1298), ∀ a, (k0_off215 v1298) a + S1x16.size a ≤ S704x64.size a := fun v1298 k0_hw51 => k0_hw51.2.1
theorem k0_off216_inb : ∀ (v1298 : BitVec 32) (k0_hw51 : k0_chk51 v1298), ∀ a, (k0_off216 v1298) a + S1x16.size a ≤ S704x64.size a := fun v1298 k0_hw51 => k0_hw51.2.2.1
theorem k0_off217_inb : ∀ (v1298 : BitVec 32) (k0_hw51 : k0_chk51 v1298), ∀ a, (k0_off217 v1298) a + S1x16.size a ≤ S704x64.size a := fun v1298 k0_hw51 => k0_hw51.2.2.2

def k0_off218 (v1319 : BitVec 32) : Fin 2 → Nat :=
  let v1320 : Index := Scalar.indexCast v1319
  let c0_369 : Index := 0#32
  ![v1320.toNat, 0]

def k0_off219 (v1319 : BitVec 32) : Fin 2 → Nat :=
  let v1324 : Index := Scalar.indexCast v1319
  let c16_370 : Index := 16#32
  ![v1324.toNat, 16]
def k0_off220 (v1319 : BitVec 32) : Fin 2 → Nat :=
  let v1328 : Index := Scalar.indexCast v1319
  let c32_371 : Index := 32#32
  ![v1328.toNat, 32]
def k0_off221 (v1319 : BitVec 32) : Fin 2 → Nat :=
  let v1332 : Index := Scalar.indexCast v1319
  let c48_372 : Index := 48#32
  ![v1332.toNat, 48]

def k0_chk52 (v1319 : BitVec 32) : Prop :=
  (∀ a, (k0_off218 v1319) a + S1x16.size a ≤ S704x64.size a) ∧
  (∀ a, (k0_off219 v1319) a + S1x16.size a ≤ S704x64.size a) ∧
  (∀ a, (k0_off220 v1319) a + S1x16.size a ≤ S704x64.size a) ∧
  (∀ a, (k0_off221 v1319) a + S1x16.size a ≤ S704x64.size a)
theorem k0_off218_inb : ∀ (v1319 : BitVec 32) (k0_hw52 : k0_chk52 v1319), ∀ a, (k0_off218 v1319) a + S1x16.size a ≤ S704x64.size a := fun v1319 k0_hw52 => k0_hw52.1
theorem k0_off219_inb : ∀ (v1319 : BitVec 32) (k0_hw52 : k0_chk52 v1319), ∀ a, (k0_off219 v1319) a + S1x16.size a ≤ S704x64.size a := fun v1319 k0_hw52 => k0_hw52.2.1
theorem k0_off220_inb : ∀ (v1319 : BitVec 32) (k0_hw52 : k0_chk52 v1319), ∀ a, (k0_off220 v1319) a + S1x16.size a ≤ S704x64.size a := fun v1319 k0_hw52 => k0_hw52.2.2.1
theorem k0_off221_inb : ∀ (v1319 : BitVec 32) (k0_hw52 : k0_chk52 v1319), ∀ a, (k0_off221 v1319) a + S1x16.size a ≤ S704x64.size a := fun v1319 k0_hw52 => k0_hw52.2.2.2

def k0_off222 (v1340 : BitVec 32) : Fin 2 → Nat :=
  let v1341 : Index := Scalar.indexCast v1340
  let c0_373 : Index := 0#32
  ![v1341.toNat, 0]

def k0_off223 (v1340 : BitVec 32) : Fin 2 → Nat :=
  let v1345 : Index := Scalar.indexCast v1340
  let c16_374 : Index := 16#32
  ![v1345.toNat, 16]
def k0_off224 (v1340 : BitVec 32) : Fin 2 → Nat :=
  let v1349 : Index := Scalar.indexCast v1340
  let c32_375 : Index := 32#32
  ![v1349.toNat, 32]
def k0_off225 (v1340 : BitVec 32) : Fin 2 → Nat :=
  let v1353 : Index := Scalar.indexCast v1340
  let c48_376 : Index := 48#32
  ![v1353.toNat, 48]

def k0_chk53 (v1340 : BitVec 32) : Prop :=
  (∀ a, (k0_off222 v1340) a + S1x16.size a ≤ S704x64.size a) ∧
  (∀ a, (k0_off223 v1340) a + S1x16.size a ≤ S704x64.size a) ∧
  (∀ a, (k0_off224 v1340) a + S1x16.size a ≤ S704x64.size a) ∧
  (∀ a, (k0_off225 v1340) a + S1x16.size a ≤ S704x64.size a)
theorem k0_off222_inb : ∀ (v1340 : BitVec 32) (k0_hw53 : k0_chk53 v1340), ∀ a, (k0_off222 v1340) a + S1x16.size a ≤ S704x64.size a := fun v1340 k0_hw53 => k0_hw53.1
theorem k0_off223_inb : ∀ (v1340 : BitVec 32) (k0_hw53 : k0_chk53 v1340), ∀ a, (k0_off223 v1340) a + S1x16.size a ≤ S704x64.size a := fun v1340 k0_hw53 => k0_hw53.2.1
theorem k0_off224_inb : ∀ (v1340 : BitVec 32) (k0_hw53 : k0_chk53 v1340), ∀ a, (k0_off224 v1340) a + S1x16.size a ≤ S704x64.size a := fun v1340 k0_hw53 => k0_hw53.2.2.1
theorem k0_off225_inb : ∀ (v1340 : BitVec 32) (k0_hw53 : k0_chk53 v1340), ∀ a, (k0_off225 v1340) a + S1x16.size a ≤ S704x64.size a := fun v1340 k0_hw53 => k0_hw53.2.2.2

def k0_off226 (v1361 : BitVec 32) : Fin 2 → Nat :=
  let v1362 : Index := Scalar.indexCast v1361
  let c0_377 : Index := 0#32
  ![v1362.toNat, 0]

def k0_off227 (v1361 : BitVec 32) : Fin 2 → Nat :=
  let v1366 : Index := Scalar.indexCast v1361
  let c16_378 : Index := 16#32
  ![v1366.toNat, 16]
def k0_off228 (v1361 : BitVec 32) : Fin 2 → Nat :=
  let v1370 : Index := Scalar.indexCast v1361
  let c32_379 : Index := 32#32
  ![v1370.toNat, 32]
def k0_off229 (v1361 : BitVec 32) : Fin 2 → Nat :=
  let v1374 : Index := Scalar.indexCast v1361
  let c48_380 : Index := 48#32
  ![v1374.toNat, 48]

def k0_chk54 (v1361 : BitVec 32) : Prop :=
  (∀ a, (k0_off226 v1361) a + S1x16.size a ≤ S704x64.size a) ∧
  (∀ a, (k0_off227 v1361) a + S1x16.size a ≤ S704x64.size a) ∧
  (∀ a, (k0_off228 v1361) a + S1x16.size a ≤ S704x64.size a) ∧
  (∀ a, (k0_off229 v1361) a + S1x16.size a ≤ S704x64.size a)
theorem k0_off226_inb : ∀ (v1361 : BitVec 32) (k0_hw54 : k0_chk54 v1361), ∀ a, (k0_off226 v1361) a + S1x16.size a ≤ S704x64.size a := fun v1361 k0_hw54 => k0_hw54.1
theorem k0_off227_inb : ∀ (v1361 : BitVec 32) (k0_hw54 : k0_chk54 v1361), ∀ a, (k0_off227 v1361) a + S1x16.size a ≤ S704x64.size a := fun v1361 k0_hw54 => k0_hw54.2.1
theorem k0_off228_inb : ∀ (v1361 : BitVec 32) (k0_hw54 : k0_chk54 v1361), ∀ a, (k0_off228 v1361) a + S1x16.size a ≤ S704x64.size a := fun v1361 k0_hw54 => k0_hw54.2.2.1
theorem k0_off229_inb : ∀ (v1361 : BitVec 32) (k0_hw54 : k0_chk54 v1361), ∀ a, (k0_off229 v1361) a + S1x16.size a ≤ S704x64.size a := fun v1361 k0_hw54 => k0_hw54.2.2.2

def k0_off230 (v1382 : BitVec 32) : Fin 2 → Nat :=
  let v1383 : Index := Scalar.indexCast v1382
  let c0_381 : Index := 0#32
  ![v1383.toNat, 0]

def k0_off231 (v1382 : BitVec 32) : Fin 2 → Nat :=
  let v1387 : Index := Scalar.indexCast v1382
  let c16_382 : Index := 16#32
  ![v1387.toNat, 16]
def k0_off232 (v1382 : BitVec 32) : Fin 2 → Nat :=
  let v1391 : Index := Scalar.indexCast v1382
  let c32_383 : Index := 32#32
  ![v1391.toNat, 32]
def k0_off233 (v1382 : BitVec 32) : Fin 2 → Nat :=
  let v1395 : Index := Scalar.indexCast v1382
  let c48_384 : Index := 48#32
  ![v1395.toNat, 48]

def k0_chk55 (v1382 : BitVec 32) : Prop :=
  (∀ a, (k0_off230 v1382) a + S1x16.size a ≤ S704x64.size a) ∧
  (∀ a, (k0_off231 v1382) a + S1x16.size a ≤ S704x64.size a) ∧
  (∀ a, (k0_off232 v1382) a + S1x16.size a ≤ S704x64.size a) ∧
  (∀ a, (k0_off233 v1382) a + S1x16.size a ≤ S704x64.size a)
theorem k0_off230_inb : ∀ (v1382 : BitVec 32) (k0_hw55 : k0_chk55 v1382), ∀ a, (k0_off230 v1382) a + S1x16.size a ≤ S704x64.size a := fun v1382 k0_hw55 => k0_hw55.1
theorem k0_off231_inb : ∀ (v1382 : BitVec 32) (k0_hw55 : k0_chk55 v1382), ∀ a, (k0_off231 v1382) a + S1x16.size a ≤ S704x64.size a := fun v1382 k0_hw55 => k0_hw55.2.1
theorem k0_off232_inb : ∀ (v1382 : BitVec 32) (k0_hw55 : k0_chk55 v1382), ∀ a, (k0_off232 v1382) a + S1x16.size a ≤ S704x64.size a := fun v1382 k0_hw55 => k0_hw55.2.2.1
theorem k0_off233_inb : ∀ (v1382 : BitVec 32) (k0_hw55 : k0_chk55 v1382), ∀ a, (k0_off233 v1382) a + S1x16.size a ≤ S704x64.size a := fun v1382 k0_hw55 => k0_hw55.2.2.2

def k0_off234 (v1403 : BitVec 32) : Fin 2 → Nat :=
  let v1404 : Index := Scalar.indexCast v1403
  let c0_385 : Index := 0#32
  ![v1404.toNat, 0]

def k0_off235 (v1403 : BitVec 32) : Fin 2 → Nat :=
  let v1408 : Index := Scalar.indexCast v1403
  let c16_386 : Index := 16#32
  ![v1408.toNat, 16]
def k0_off236 (v1403 : BitVec 32) : Fin 2 → Nat :=
  let v1412 : Index := Scalar.indexCast v1403
  let c32_387 : Index := 32#32
  ![v1412.toNat, 32]
def k0_off237 (v1403 : BitVec 32) : Fin 2 → Nat :=
  let v1416 : Index := Scalar.indexCast v1403
  let c48_388 : Index := 48#32
  ![v1416.toNat, 48]

def k0_chk56 (v1403 : BitVec 32) : Prop :=
  (∀ a, (k0_off234 v1403) a + S1x16.size a ≤ S704x64.size a) ∧
  (∀ a, (k0_off235 v1403) a + S1x16.size a ≤ S704x64.size a) ∧
  (∀ a, (k0_off236 v1403) a + S1x16.size a ≤ S704x64.size a) ∧
  (∀ a, (k0_off237 v1403) a + S1x16.size a ≤ S704x64.size a)
theorem k0_off234_inb : ∀ (v1403 : BitVec 32) (k0_hw56 : k0_chk56 v1403), ∀ a, (k0_off234 v1403) a + S1x16.size a ≤ S704x64.size a := fun v1403 k0_hw56 => k0_hw56.1
theorem k0_off235_inb : ∀ (v1403 : BitVec 32) (k0_hw56 : k0_chk56 v1403), ∀ a, (k0_off235 v1403) a + S1x16.size a ≤ S704x64.size a := fun v1403 k0_hw56 => k0_hw56.2.1
theorem k0_off236_inb : ∀ (v1403 : BitVec 32) (k0_hw56 : k0_chk56 v1403), ∀ a, (k0_off236 v1403) a + S1x16.size a ≤ S704x64.size a := fun v1403 k0_hw56 => k0_hw56.2.2.1
theorem k0_off237_inb : ∀ (v1403 : BitVec 32) (k0_hw56 : k0_chk56 v1403), ∀ a, (k0_off237 v1403) a + S1x16.size a ≤ S704x64.size a := fun v1403 k0_hw56 => k0_hw56.2.2.2

def k0_off238 (v1424 : BitVec 32) : Fin 2 → Nat :=
  let v1425 : Index := Scalar.indexCast v1424
  let c0_389 : Index := 0#32
  ![v1425.toNat, 0]

def k0_off239 (v1424 : BitVec 32) : Fin 2 → Nat :=
  let v1429 : Index := Scalar.indexCast v1424
  let c16_390 : Index := 16#32
  ![v1429.toNat, 16]
def k0_off240 (v1424 : BitVec 32) : Fin 2 → Nat :=
  let v1433 : Index := Scalar.indexCast v1424
  let c32_391 : Index := 32#32
  ![v1433.toNat, 32]
def k0_off241 (v1424 : BitVec 32) : Fin 2 → Nat :=
  let v1437 : Index := Scalar.indexCast v1424
  let c48_392 : Index := 48#32
  ![v1437.toNat, 48]

def k0_chk57 (v1424 : BitVec 32) : Prop :=
  (∀ a, (k0_off238 v1424) a + S1x16.size a ≤ S704x64.size a) ∧
  (∀ a, (k0_off239 v1424) a + S1x16.size a ≤ S704x64.size a) ∧
  (∀ a, (k0_off240 v1424) a + S1x16.size a ≤ S704x64.size a) ∧
  (∀ a, (k0_off241 v1424) a + S1x16.size a ≤ S704x64.size a)
theorem k0_off238_inb : ∀ (v1424 : BitVec 32) (k0_hw57 : k0_chk57 v1424), ∀ a, (k0_off238 v1424) a + S1x16.size a ≤ S704x64.size a := fun v1424 k0_hw57 => k0_hw57.1
theorem k0_off239_inb : ∀ (v1424 : BitVec 32) (k0_hw57 : k0_chk57 v1424), ∀ a, (k0_off239 v1424) a + S1x16.size a ≤ S704x64.size a := fun v1424 k0_hw57 => k0_hw57.2.1
theorem k0_off240_inb : ∀ (v1424 : BitVec 32) (k0_hw57 : k0_chk57 v1424), ∀ a, (k0_off240 v1424) a + S1x16.size a ≤ S704x64.size a := fun v1424 k0_hw57 => k0_hw57.2.2.1
theorem k0_off241_inb : ∀ (v1424 : BitVec 32) (k0_hw57 : k0_chk57 v1424), ∀ a, (k0_off241 v1424) a + S1x16.size a ≤ S704x64.size a := fun v1424 k0_hw57 => k0_hw57.2.2.2

def k0_off242 (v1445 : BitVec 32) : Fin 2 → Nat :=
  let v1446 : Index := Scalar.indexCast v1445
  let c0_393 : Index := 0#32
  ![v1446.toNat, 0]

def k0_off243 (v1445 : BitVec 32) : Fin 2 → Nat :=
  let v1450 : Index := Scalar.indexCast v1445
  let c16_394 : Index := 16#32
  ![v1450.toNat, 16]
def k0_off244 (v1445 : BitVec 32) : Fin 2 → Nat :=
  let v1454 : Index := Scalar.indexCast v1445
  let c32_395 : Index := 32#32
  ![v1454.toNat, 32]
def k0_off245 (v1445 : BitVec 32) : Fin 2 → Nat :=
  let v1458 : Index := Scalar.indexCast v1445
  let c48_396 : Index := 48#32
  ![v1458.toNat, 48]

def k0_chk58 (v1445 : BitVec 32) : Prop :=
  (∀ a, (k0_off242 v1445) a + S1x16.size a ≤ S704x64.size a) ∧
  (∀ a, (k0_off243 v1445) a + S1x16.size a ≤ S704x64.size a) ∧
  (∀ a, (k0_off244 v1445) a + S1x16.size a ≤ S704x64.size a) ∧
  (∀ a, (k0_off245 v1445) a + S1x16.size a ≤ S704x64.size a)
theorem k0_off242_inb : ∀ (v1445 : BitVec 32) (k0_hw58 : k0_chk58 v1445), ∀ a, (k0_off242 v1445) a + S1x16.size a ≤ S704x64.size a := fun v1445 k0_hw58 => k0_hw58.1
theorem k0_off243_inb : ∀ (v1445 : BitVec 32) (k0_hw58 : k0_chk58 v1445), ∀ a, (k0_off243 v1445) a + S1x16.size a ≤ S704x64.size a := fun v1445 k0_hw58 => k0_hw58.2.1
theorem k0_off244_inb : ∀ (v1445 : BitVec 32) (k0_hw58 : k0_chk58 v1445), ∀ a, (k0_off244 v1445) a + S1x16.size a ≤ S704x64.size a := fun v1445 k0_hw58 => k0_hw58.2.2.1
theorem k0_off245_inb : ∀ (v1445 : BitVec 32) (k0_hw58 : k0_chk58 v1445), ∀ a, (k0_off245 v1445) a + S1x16.size a ≤ S704x64.size a := fun v1445 k0_hw58 => k0_hw58.2.2.2

def k0_off246 (v1466 : BitVec 32) : Fin 2 → Nat :=
  let v1467 : Index := Scalar.indexCast v1466
  let c0_397 : Index := 0#32
  ![v1467.toNat, 0]

def k0_off247 (v1466 : BitVec 32) : Fin 2 → Nat :=
  let v1471 : Index := Scalar.indexCast v1466
  let c16_398 : Index := 16#32
  ![v1471.toNat, 16]
def k0_off248 (v1466 : BitVec 32) : Fin 2 → Nat :=
  let v1475 : Index := Scalar.indexCast v1466
  let c32_399 : Index := 32#32
  ![v1475.toNat, 32]
def k0_off249 (v1466 : BitVec 32) : Fin 2 → Nat :=
  let v1479 : Index := Scalar.indexCast v1466
  let c48_400 : Index := 48#32
  ![v1479.toNat, 48]

def k0_chk59 (v1466 : BitVec 32) : Prop :=
  (∀ a, (k0_off246 v1466) a + S1x16.size a ≤ S704x64.size a) ∧
  (∀ a, (k0_off247 v1466) a + S1x16.size a ≤ S704x64.size a) ∧
  (∀ a, (k0_off248 v1466) a + S1x16.size a ≤ S704x64.size a) ∧
  (∀ a, (k0_off249 v1466) a + S1x16.size a ≤ S704x64.size a)
theorem k0_off246_inb : ∀ (v1466 : BitVec 32) (k0_hw59 : k0_chk59 v1466), ∀ a, (k0_off246 v1466) a + S1x16.size a ≤ S704x64.size a := fun v1466 k0_hw59 => k0_hw59.1
theorem k0_off247_inb : ∀ (v1466 : BitVec 32) (k0_hw59 : k0_chk59 v1466), ∀ a, (k0_off247 v1466) a + S1x16.size a ≤ S704x64.size a := fun v1466 k0_hw59 => k0_hw59.2.1
theorem k0_off248_inb : ∀ (v1466 : BitVec 32) (k0_hw59 : k0_chk59 v1466), ∀ a, (k0_off248 v1466) a + S1x16.size a ≤ S704x64.size a := fun v1466 k0_hw59 => k0_hw59.2.2.1
theorem k0_off249_inb : ∀ (v1466 : BitVec 32) (k0_hw59 : k0_chk59 v1466), ∀ a, (k0_off249 v1466) a + S1x16.size a ≤ S704x64.size a := fun v1466 k0_hw59 => k0_hw59.2.2.2

def k0_off250 (v1487 : BitVec 32) : Fin 2 → Nat :=
  let v1488 : Index := Scalar.indexCast v1487
  let c0_401 : Index := 0#32
  ![v1488.toNat, 0]

def k0_off251 (v1487 : BitVec 32) : Fin 2 → Nat :=
  let v1492 : Index := Scalar.indexCast v1487
  let c16_402 : Index := 16#32
  ![v1492.toNat, 16]
def k0_off252 (v1487 : BitVec 32) : Fin 2 → Nat :=
  let v1496 : Index := Scalar.indexCast v1487
  let c32_403 : Index := 32#32
  ![v1496.toNat, 32]
def k0_off253 (v1487 : BitVec 32) : Fin 2 → Nat :=
  let v1500 : Index := Scalar.indexCast v1487
  let c48_404 : Index := 48#32
  ![v1500.toNat, 48]

def k0_chk60 (v1487 : BitVec 32) : Prop :=
  (∀ a, (k0_off250 v1487) a + S1x16.size a ≤ S704x64.size a) ∧
  (∀ a, (k0_off251 v1487) a + S1x16.size a ≤ S704x64.size a) ∧
  (∀ a, (k0_off252 v1487) a + S1x16.size a ≤ S704x64.size a) ∧
  (∀ a, (k0_off253 v1487) a + S1x16.size a ≤ S704x64.size a)
theorem k0_off250_inb : ∀ (v1487 : BitVec 32) (k0_hw60 : k0_chk60 v1487), ∀ a, (k0_off250 v1487) a + S1x16.size a ≤ S704x64.size a := fun v1487 k0_hw60 => k0_hw60.1
theorem k0_off251_inb : ∀ (v1487 : BitVec 32) (k0_hw60 : k0_chk60 v1487), ∀ a, (k0_off251 v1487) a + S1x16.size a ≤ S704x64.size a := fun v1487 k0_hw60 => k0_hw60.2.1
theorem k0_off252_inb : ∀ (v1487 : BitVec 32) (k0_hw60 : k0_chk60 v1487), ∀ a, (k0_off252 v1487) a + S1x16.size a ≤ S704x64.size a := fun v1487 k0_hw60 => k0_hw60.2.2.1
theorem k0_off253_inb : ∀ (v1487 : BitVec 32) (k0_hw60 : k0_chk60 v1487), ∀ a, (k0_off253 v1487) a + S1x16.size a ≤ S704x64.size a := fun v1487 k0_hw60 => k0_hw60.2.2.2

def k0_off254 (v1508 : BitVec 32) : Fin 2 → Nat :=
  let v1509 : Index := Scalar.indexCast v1508
  let c0_405 : Index := 0#32
  ![v1509.toNat, 0]

def k0_off255 (v1508 : BitVec 32) : Fin 2 → Nat :=
  let v1513 : Index := Scalar.indexCast v1508
  let c16_406 : Index := 16#32
  ![v1513.toNat, 16]
def k0_off256 (v1508 : BitVec 32) : Fin 2 → Nat :=
  let v1517 : Index := Scalar.indexCast v1508
  let c32_407 : Index := 32#32
  ![v1517.toNat, 32]
def k0_off257 (v1508 : BitVec 32) : Fin 2 → Nat :=
  let v1521 : Index := Scalar.indexCast v1508
  let c48_408 : Index := 48#32
  ![v1521.toNat, 48]

def k0_chk61 (v1508 : BitVec 32) : Prop :=
  (∀ a, (k0_off254 v1508) a + S1x16.size a ≤ S704x64.size a) ∧
  (∀ a, (k0_off255 v1508) a + S1x16.size a ≤ S704x64.size a) ∧
  (∀ a, (k0_off256 v1508) a + S1x16.size a ≤ S704x64.size a) ∧
  (∀ a, (k0_off257 v1508) a + S1x16.size a ≤ S704x64.size a)
theorem k0_off254_inb : ∀ (v1508 : BitVec 32) (k0_hw61 : k0_chk61 v1508), ∀ a, (k0_off254 v1508) a + S1x16.size a ≤ S704x64.size a := fun v1508 k0_hw61 => k0_hw61.1
theorem k0_off255_inb : ∀ (v1508 : BitVec 32) (k0_hw61 : k0_chk61 v1508), ∀ a, (k0_off255 v1508) a + S1x16.size a ≤ S704x64.size a := fun v1508 k0_hw61 => k0_hw61.2.1
theorem k0_off256_inb : ∀ (v1508 : BitVec 32) (k0_hw61 : k0_chk61 v1508), ∀ a, (k0_off256 v1508) a + S1x16.size a ≤ S704x64.size a := fun v1508 k0_hw61 => k0_hw61.2.2.1
theorem k0_off257_inb : ∀ (v1508 : BitVec 32) (k0_hw61 : k0_chk61 v1508), ∀ a, (k0_off257 v1508) a + S1x16.size a ≤ S704x64.size a := fun v1508 k0_hw61 => k0_hw61.2.2.2

def k0_off258 (v1529 : BitVec 32) : Fin 2 → Nat :=
  let v1530 : Index := Scalar.indexCast v1529
  let c0_409 : Index := 0#32
  ![v1530.toNat, 0]

def k0_off259 (v1529 : BitVec 32) : Fin 2 → Nat :=
  let v1534 : Index := Scalar.indexCast v1529
  let c16_410 : Index := 16#32
  ![v1534.toNat, 16]
def k0_off260 (v1529 : BitVec 32) : Fin 2 → Nat :=
  let v1538 : Index := Scalar.indexCast v1529
  let c32_411 : Index := 32#32
  ![v1538.toNat, 32]
def k0_off261 (v1529 : BitVec 32) : Fin 2 → Nat :=
  let v1542 : Index := Scalar.indexCast v1529
  let c48_412 : Index := 48#32
  ![v1542.toNat, 48]

def k0_chk62 (v1529 : BitVec 32) : Prop :=
  (∀ a, (k0_off258 v1529) a + S1x16.size a ≤ S704x64.size a) ∧
  (∀ a, (k0_off259 v1529) a + S1x16.size a ≤ S704x64.size a) ∧
  (∀ a, (k0_off260 v1529) a + S1x16.size a ≤ S704x64.size a) ∧
  (∀ a, (k0_off261 v1529) a + S1x16.size a ≤ S704x64.size a)
theorem k0_off258_inb : ∀ (v1529 : BitVec 32) (k0_hw62 : k0_chk62 v1529), ∀ a, (k0_off258 v1529) a + S1x16.size a ≤ S704x64.size a := fun v1529 k0_hw62 => k0_hw62.1
theorem k0_off259_inb : ∀ (v1529 : BitVec 32) (k0_hw62 : k0_chk62 v1529), ∀ a, (k0_off259 v1529) a + S1x16.size a ≤ S704x64.size a := fun v1529 k0_hw62 => k0_hw62.2.1
theorem k0_off260_inb : ∀ (v1529 : BitVec 32) (k0_hw62 : k0_chk62 v1529), ∀ a, (k0_off260 v1529) a + S1x16.size a ≤ S704x64.size a := fun v1529 k0_hw62 => k0_hw62.2.2.1
theorem k0_off261_inb : ∀ (v1529 : BitVec 32) (k0_hw62 : k0_chk62 v1529), ∀ a, (k0_off261 v1529) a + S1x16.size a ≤ S704x64.size a := fun v1529 k0_hw62 => k0_hw62.2.2.2

def k0_off262 (v1550 : BitVec 32) : Fin 2 → Nat :=
  let v1551 : Index := Scalar.indexCast v1550
  let c0_413 : Index := 0#32
  ![v1551.toNat, 0]

def k0_off263 (v1550 : BitVec 32) : Fin 2 → Nat :=
  let v1555 : Index := Scalar.indexCast v1550
  let c16_414 : Index := 16#32
  ![v1555.toNat, 16]
def k0_off264 (v1550 : BitVec 32) : Fin 2 → Nat :=
  let v1559 : Index := Scalar.indexCast v1550
  let c32_415 : Index := 32#32
  ![v1559.toNat, 32]
def k0_off265 (v1550 : BitVec 32) : Fin 2 → Nat :=
  let v1563 : Index := Scalar.indexCast v1550
  let c48_416 : Index := 48#32
  ![v1563.toNat, 48]

def k0_chk63 (v1550 : BitVec 32) : Prop :=
  (∀ a, (k0_off262 v1550) a + S1x16.size a ≤ S704x64.size a) ∧
  (∀ a, (k0_off263 v1550) a + S1x16.size a ≤ S704x64.size a) ∧
  (∀ a, (k0_off264 v1550) a + S1x16.size a ≤ S704x64.size a) ∧
  (∀ a, (k0_off265 v1550) a + S1x16.size a ≤ S704x64.size a)
theorem k0_off262_inb : ∀ (v1550 : BitVec 32) (k0_hw63 : k0_chk63 v1550), ∀ a, (k0_off262 v1550) a + S1x16.size a ≤ S704x64.size a := fun v1550 k0_hw63 => k0_hw63.1
theorem k0_off263_inb : ∀ (v1550 : BitVec 32) (k0_hw63 : k0_chk63 v1550), ∀ a, (k0_off263 v1550) a + S1x16.size a ≤ S704x64.size a := fun v1550 k0_hw63 => k0_hw63.2.1
theorem k0_off264_inb : ∀ (v1550 : BitVec 32) (k0_hw63 : k0_chk63 v1550), ∀ a, (k0_off264 v1550) a + S1x16.size a ≤ S704x64.size a := fun v1550 k0_hw63 => k0_hw63.2.2.1
theorem k0_off265_inb : ∀ (v1550 : BitVec 32) (k0_hw63 : k0_chk63 v1550), ∀ a, (k0_off265 v1550) a + S1x16.size a ≤ S704x64.size a := fun v1550 k0_hw63 => k0_hw63.2.2.2

def k0_off266 (v1571 : BitVec 32) : Fin 2 → Nat :=
  let v1572 : Index := Scalar.indexCast v1571
  let c0_417 : Index := 0#32
  ![v1572.toNat, 0]

def k0_off267 (v1571 : BitVec 32) : Fin 2 → Nat :=
  let v1576 : Index := Scalar.indexCast v1571
  let c16_418 : Index := 16#32
  ![v1576.toNat, 16]
def k0_off268 (v1571 : BitVec 32) : Fin 2 → Nat :=
  let v1580 : Index := Scalar.indexCast v1571
  let c32_419 : Index := 32#32
  ![v1580.toNat, 32]
def k0_off269 (v1571 : BitVec 32) : Fin 2 → Nat :=
  let v1584 : Index := Scalar.indexCast v1571
  let c48_420 : Index := 48#32
  ![v1584.toNat, 48]

def k0_chk64 (v1571 : BitVec 32) : Prop :=
  (∀ a, (k0_off266 v1571) a + S1x16.size a ≤ S704x64.size a) ∧
  (∀ a, (k0_off267 v1571) a + S1x16.size a ≤ S704x64.size a) ∧
  (∀ a, (k0_off268 v1571) a + S1x16.size a ≤ S704x64.size a) ∧
  (∀ a, (k0_off269 v1571) a + S1x16.size a ≤ S704x64.size a)
theorem k0_off266_inb : ∀ (v1571 : BitVec 32) (k0_hw64 : k0_chk64 v1571), ∀ a, (k0_off266 v1571) a + S1x16.size a ≤ S704x64.size a := fun v1571 k0_hw64 => k0_hw64.1
theorem k0_off267_inb : ∀ (v1571 : BitVec 32) (k0_hw64 : k0_chk64 v1571), ∀ a, (k0_off267 v1571) a + S1x16.size a ≤ S704x64.size a := fun v1571 k0_hw64 => k0_hw64.2.1
theorem k0_off268_inb : ∀ (v1571 : BitVec 32) (k0_hw64 : k0_chk64 v1571), ∀ a, (k0_off268 v1571) a + S1x16.size a ≤ S704x64.size a := fun v1571 k0_hw64 => k0_hw64.2.2.1
theorem k0_off269_inb : ∀ (v1571 : BitVec 32) (k0_hw64 : k0_chk64 v1571), ∀ a, (k0_off269 v1571) a + S1x16.size a ≤ S704x64.size a := fun v1571 k0_hw64 => k0_hw64.2.2.2

def k0_off270 (v1592 : BitVec 32) : Fin 2 → Nat :=
  let v1593 : Index := Scalar.indexCast v1592
  let c0_421 : Index := 0#32
  ![v1593.toNat, 0]

def k0_off271 (v1592 : BitVec 32) : Fin 2 → Nat :=
  let v1597 : Index := Scalar.indexCast v1592
  let c16_422 : Index := 16#32
  ![v1597.toNat, 16]
def k0_off272 (v1592 : BitVec 32) : Fin 2 → Nat :=
  let v1601 : Index := Scalar.indexCast v1592
  let c32_423 : Index := 32#32
  ![v1601.toNat, 32]
def k0_off273 (v1592 : BitVec 32) : Fin 2 → Nat :=
  let v1605 : Index := Scalar.indexCast v1592
  let c48_424 : Index := 48#32
  ![v1605.toNat, 48]

def k0_chk65 (v1592 : BitVec 32) : Prop :=
  (∀ a, (k0_off270 v1592) a + S1x16.size a ≤ S704x64.size a) ∧
  (∀ a, (k0_off271 v1592) a + S1x16.size a ≤ S704x64.size a) ∧
  (∀ a, (k0_off272 v1592) a + S1x16.size a ≤ S704x64.size a) ∧
  (∀ a, (k0_off273 v1592) a + S1x16.size a ≤ S704x64.size a)
theorem k0_off270_inb : ∀ (v1592 : BitVec 32) (k0_hw65 : k0_chk65 v1592), ∀ a, (k0_off270 v1592) a + S1x16.size a ≤ S704x64.size a := fun v1592 k0_hw65 => k0_hw65.1
theorem k0_off271_inb : ∀ (v1592 : BitVec 32) (k0_hw65 : k0_chk65 v1592), ∀ a, (k0_off271 v1592) a + S1x16.size a ≤ S704x64.size a := fun v1592 k0_hw65 => k0_hw65.2.1
theorem k0_off272_inb : ∀ (v1592 : BitVec 32) (k0_hw65 : k0_chk65 v1592), ∀ a, (k0_off272 v1592) a + S1x16.size a ≤ S704x64.size a := fun v1592 k0_hw65 => k0_hw65.2.2.1
theorem k0_off273_inb : ∀ (v1592 : BitVec 32) (k0_hw65 : k0_chk65 v1592), ∀ a, (k0_off273 v1592) a + S1x16.size a ≤ S704x64.size a := fun v1592 k0_hw65 => k0_hw65.2.2.2

def k0_off274 (v1613 : BitVec 32) : Fin 2 → Nat :=
  let v1614 : Index := Scalar.indexCast v1613
  let c0_425 : Index := 0#32
  ![v1614.toNat, 0]

def k0_off275 (v1613 : BitVec 32) : Fin 2 → Nat :=
  let v1618 : Index := Scalar.indexCast v1613
  let c16_426 : Index := 16#32
  ![v1618.toNat, 16]
def k0_off276 (v1613 : BitVec 32) : Fin 2 → Nat :=
  let v1622 : Index := Scalar.indexCast v1613
  let c32_427 : Index := 32#32
  ![v1622.toNat, 32]
def k0_off277 (v1613 : BitVec 32) : Fin 2 → Nat :=
  let v1626 : Index := Scalar.indexCast v1613
  let c48_428 : Index := 48#32
  ![v1626.toNat, 48]

def k0_chk66 (v1613 : BitVec 32) : Prop :=
  (∀ a, (k0_off274 v1613) a + S1x16.size a ≤ S704x64.size a) ∧
  (∀ a, (k0_off275 v1613) a + S1x16.size a ≤ S704x64.size a) ∧
  (∀ a, (k0_off276 v1613) a + S1x16.size a ≤ S704x64.size a) ∧
  (∀ a, (k0_off277 v1613) a + S1x16.size a ≤ S704x64.size a)
theorem k0_off274_inb : ∀ (v1613 : BitVec 32) (k0_hw66 : k0_chk66 v1613), ∀ a, (k0_off274 v1613) a + S1x16.size a ≤ S704x64.size a := fun v1613 k0_hw66 => k0_hw66.1
theorem k0_off275_inb : ∀ (v1613 : BitVec 32) (k0_hw66 : k0_chk66 v1613), ∀ a, (k0_off275 v1613) a + S1x16.size a ≤ S704x64.size a := fun v1613 k0_hw66 => k0_hw66.2.1
theorem k0_off276_inb : ∀ (v1613 : BitVec 32) (k0_hw66 : k0_chk66 v1613), ∀ a, (k0_off276 v1613) a + S1x16.size a ≤ S704x64.size a := fun v1613 k0_hw66 => k0_hw66.2.2.1
theorem k0_off277_inb : ∀ (v1613 : BitVec 32) (k0_hw66 : k0_chk66 v1613), ∀ a, (k0_off277 v1613) a + S1x16.size a ≤ S704x64.size a := fun v1613 k0_hw66 => k0_hw66.2.2.2

def k0_off278 (k0_t1 : Fin k0_t1_loop.trips) : Fin 2 → Nat :=
  let c2_i32_144 : BitVec 32 := 2#32
  let c0_i32_25 : BitVec 32 := 0#32
  let c1_i32_27 : BitVec 32 := 1#32
  let arg13 : BitVec 32 := Scf.iv c0_i32_25 c1_i32_27 k0_t1
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off279 (k0_t1 : Fin k0_t1_loop.trips) : Fin 2 → Nat :=
  let c2_i32_144 : BitVec 32 := 2#32
  let c0_i32_25 : BitVec 32 := 0#32
  let c1_i32_27 : BitVec 32 := 1#32
  let arg13 : BitVec 32 := Scf.iv c0_i32_25 c1_i32_27 k0_t1
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off280 (k0_t1 : Fin k0_t1_loop.trips) : Fin 2 → Nat :=
  let c2_i32_144 : BitVec 32 := 2#32
  let c0_i32_25 : BitVec 32 := 0#32
  let c1_i32_27 : BitVec 32 := 1#32
  let arg13 : BitVec 32 := Scf.iv c0_i32_25 c1_i32_27 k0_t1
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off281 (k0_t1 : Fin k0_t1_loop.trips) : Fin 2 → Nat :=
  let c2_i32_144 : BitVec 32 := 2#32
  let c0_i32_25 : BitVec 32 := 0#32
  let c1_i32_27 : BitVec 32 := 1#32
  let arg13 : BitVec 32 := Scf.iv c0_i32_25 c1_i32_27 k0_t1
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
def k0_off282 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_13 : BitVec 32 := 8#32
  let v40 : BitVec 32 := Scalar.muli v28 c8_i32_13
  let v41 : BitVec 32 := Scalar.addi v40 c0_i32_14
  let c128_i32_15 : BitVec 32 := 128#32
  let v42 : BitVec 32 := Scalar.muli v41 c128_i32_15
  let v43 : BitVec 32 := v42
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c64_i32_29 : BitVec 32 := 64#32
  let v59 : BitVec 32 := Scalar.muli v11 c64_i32_29
  ![v43.toNat, v59.toNat]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_30 : BitVec 32 := 8#32
  let v60 : BitVec 32 := Scalar.muli v28 c8_i32_30
  let c1_i32_31 : BitVec 32 := 1#32
  let v61 : BitVec 32 := Scalar.addi v60 c1_i32_31
  let c128_i32_32 : BitVec 32 := 128#32
  let v62 : BitVec 32 := Scalar.muli v61 c128_i32_32
  v62
def k0_mult5 (i : grid0.Coords) : BitVec 32 :=
  let c1344_i32_40 : BitVec 32 := 1344#32
  let c0_i32_39 : BitVec 32 := 0#32
  let c0_i32_37 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_34 : BitVec 32 := 8#32
  let v67 : BitVec 32 := Scalar.muli v28 c8_i32_34
  let c2_i32_35 : BitVec 32 := 2#32
  let v68 : BitVec 32 := Scalar.addi v67 c2_i32_35
  let c128_i32_36 : BitVec 32 := 128#32
  let v69 : BitVec 32 := Scalar.muli v68 c128_i32_36
  let v70 : BitVec 32 := Scalar.addi c0_i32_37 v69
  let c288_i32_38 : BitVec 32 := 288#32
  let v71 : BitVec 32 := Scalar.subi v70 c288_i32_38
  let v72 : BitVec 32 := Scalar.maxsi c0_i32_39 v71
  let v73 : BitVec 32 := Scalar.minsi c1344_i32_40 v72
  v73
@[reducible] def k0_t2_loop : Scf.Loop 32 :=
  let c0_i32_43 : BitVec 32 := 0#32
  let c64_i32_44 : BitVec 32 := 64#32
  let v78 : BitVec 32 := Scalar.addi c0_i32_43 c64_i32_44
  let c1_i32_45 : BitVec 32 := 1#32
  ⟨c0_i32_43, v78, c1_i32_45⟩
def k0_off283 (k0_t2 : Fin k0_t2_loop.trips) : Fin 2 → Nat :=
  let c2_i32_143 : BitVec 32 := 2#32
  let c0_i32_43 : BitVec 32 := 0#32
  let c1_i32_45 : BitVec 32 := 1#32
  let arg13 : BitVec 32 := Scf.iv c0_i32_43 c1_i32_45 k0_t2
  let v189 : BitVec 32 := Scalar.muli c2_i32_143 arg13
  let v192 : Index := Scalar.indexCast v189
  let c0 : Index := 0#32
  ![v192.toNat, 0]
def k0_off284 (k0_t2 : Fin k0_t2_loop.trips) : Fin 2 → Nat :=
  let c2_i32_143 : BitVec 32 := 2#32
  let c0_i32_43 : BitVec 32 := 0#32
  let c1_i32_45 : BitVec 32 := 1#32
  let arg13 : BitVec 32 := Scf.iv c0_i32_43 c1_i32_45 k0_t2
  let v189 : BitVec 32 := Scalar.muli c2_i32_143 arg13
  let v194 : Index := Scalar.indexCast v189
  let c16 : Index := 16#32
  ![v194.toNat, 16]
def k0_off285 (k0_t2 : Fin k0_t2_loop.trips) : Fin 2 → Nat :=
  let c2_i32_143 : BitVec 32 := 2#32
  let c0_i32_43 : BitVec 32 := 0#32
  let c1_i32_45 : BitVec 32 := 1#32
  let arg13 : BitVec 32 := Scf.iv c0_i32_43 c1_i32_45 k0_t2
  let v189 : BitVec 32 := Scalar.muli c2_i32_143 arg13
  let v196 : Index := Scalar.indexCast v189
  let c32 : Index := 32#32
  ![v196.toNat, 32]
def k0_off286 (v218 : BitVec 32) : Fin 2 → Nat :=
  let v219 : Index := Scalar.indexCast v218
  let c0_152 : Index := 0#32
  ![v219.toNat, 0]

def k0_off287 (v218 : BitVec 32) : Fin 2 → Nat :=
  let v223 : Index := Scalar.indexCast v218
  let c16_153 : Index := 16#32
  ![v223.toNat, 16]
def k0_off288 (v218 : BitVec 32) : Fin 2 → Nat :=
  let v227 : Index := Scalar.indexCast v218
  let c32_154 : Index := 32#32
  ![v227.toNat, 32]
def k0_off289 (v218 : BitVec 32) : Fin 2 → Nat :=
  let v231 : Index := Scalar.indexCast v218
  let c48 : Index := 48#32
  ![v231.toNat, 48]

def k0_chk67 (v218 : BitVec 32) : Prop :=
  (∀ a, (k0_off286 v218) a + S1x16.size a ≤ S704x64.size a) ∧
  (∀ a, (k0_off287 v218) a + S1x16.size a ≤ S704x64.size a) ∧
  (∀ a, (k0_off288 v218) a + S1x16.size a ≤ S704x64.size a) ∧
  (∀ a, (k0_off289 v218) a + S1x16.size a ≤ S704x64.size a)
theorem k0_off286_inb : ∀ (v218 : BitVec 32) (k0_hw67 : k0_chk67 v218), ∀ a, (k0_off286 v218) a + S1x16.size a ≤ S704x64.size a := fun v218 k0_hw67 => k0_hw67.1
theorem k0_off287_inb : ∀ (v218 : BitVec 32) (k0_hw67 : k0_chk67 v218), ∀ a, (k0_off287 v218) a + S1x16.size a ≤ S704x64.size a := fun v218 k0_hw67 => k0_hw67.2.1
theorem k0_off288_inb : ∀ (v218 : BitVec 32) (k0_hw67 : k0_chk67 v218), ∀ a, (k0_off288 v218) a + S1x16.size a ≤ S704x64.size a := fun v218 k0_hw67 => k0_hw67.2.2.1
theorem k0_off289_inb : ∀ (v218 : BitVec 32) (k0_hw67 : k0_chk67 v218), ∀ a, (k0_off289 v218) a + S1x16.size a ≤ S704x64.size a := fun v218 k0_hw67 => k0_hw67.2.2.2

def k0_off290 (v239 : BitVec 32) : Fin 2 → Nat :=
  let v240 : Index := Scalar.indexCast v239
  let c0_155 : Index := 0#32
  ![v240.toNat, 0]

def k0_off291 (v239 : BitVec 32) : Fin 2 → Nat :=
  let v244 : Index := Scalar.indexCast v239
  let c16_156 : Index := 16#32
  ![v244.toNat, 16]
def k0_off292 (v239 : BitVec 32) : Fin 2 → Nat :=
  let v248 : Index := Scalar.indexCast v239
  let c32_157 : Index := 32#32
  ![v248.toNat, 32]
def k0_off293 (v239 : BitVec 32) : Fin 2 → Nat :=
  let v252 : Index := Scalar.indexCast v239
  let c48_158 : Index := 48#32
  ![v252.toNat, 48]

def k0_chk68 (v239 : BitVec 32) : Prop :=
  (∀ a, (k0_off290 v239) a + S1x16.size a ≤ S704x64.size a) ∧
  (∀ a, (k0_off291 v239) a + S1x16.size a ≤ S704x64.size a) ∧
  (∀ a, (k0_off292 v239) a + S1x16.size a ≤ S704x64.size a) ∧
  (∀ a, (k0_off293 v239) a + S1x16.size a ≤ S704x64.size a)
theorem k0_off290_inb : ∀ (v239 : BitVec 32) (k0_hw68 : k0_chk68 v239), ∀ a, (k0_off290 v239) a + S1x16.size a ≤ S704x64.size a := fun v239 k0_hw68 => k0_hw68.1
theorem k0_off291_inb : ∀ (v239 : BitVec 32) (k0_hw68 : k0_chk68 v239), ∀ a, (k0_off291 v239) a + S1x16.size a ≤ S704x64.size a := fun v239 k0_hw68 => k0_hw68.2.1
theorem k0_off292_inb : ∀ (v239 : BitVec 32) (k0_hw68 : k0_chk68 v239), ∀ a, (k0_off292 v239) a + S1x16.size a ≤ S704x64.size a := fun v239 k0_hw68 => k0_hw68.2.2.1
theorem k0_off293_inb : ∀ (v239 : BitVec 32) (k0_hw68 : k0_chk68 v239), ∀ a, (k0_off293 v239) a + S1x16.size a ≤ S704x64.size a := fun v239 k0_hw68 => k0_hw68.2.2.2

def k0_off294 (v260 : BitVec 32) : Fin 2 → Nat :=
  let v261 : Index := Scalar.indexCast v260
  let c0_159 : Index := 0#32
  ![v261.toNat, 0]

def k0_off295 (v260 : BitVec 32) : Fin 2 → Nat :=
  let v265 : Index := Scalar.indexCast v260
  let c16_160 : Index := 16#32
  ![v265.toNat, 16]
def k0_off296 (v260 : BitVec 32) : Fin 2 → Nat :=
  let v269 : Index := Scalar.indexCast v260
  let c32_161 : Index := 32#32
  ![v269.toNat, 32]
def k0_off297 (v260 : BitVec 32) : Fin 2 → Nat :=
  let v273 : Index := Scalar.indexCast v260
  let c48_162 : Index := 48#32
  ![v273.toNat, 48]

def k0_chk69 (v260 : BitVec 32) : Prop :=
  (∀ a, (k0_off294 v260) a + S1x16.size a ≤ S704x64.size a) ∧
  (∀ a, (k0_off295 v260) a + S1x16.size a ≤ S704x64.size a) ∧
  (∀ a, (k0_off296 v260) a + S1x16.size a ≤ S704x64.size a) ∧
  (∀ a, (k0_off297 v260) a + S1x16.size a ≤ S704x64.size a)
theorem k0_off294_inb : ∀ (v260 : BitVec 32) (k0_hw69 : k0_chk69 v260), ∀ a, (k0_off294 v260) a + S1x16.size a ≤ S704x64.size a := fun v260 k0_hw69 => k0_hw69.1
theorem k0_off295_inb : ∀ (v260 : BitVec 32) (k0_hw69 : k0_chk69 v260), ∀ a, (k0_off295 v260) a + S1x16.size a ≤ S704x64.size a := fun v260 k0_hw69 => k0_hw69.2.1
theorem k0_off296_inb : ∀ (v260 : BitVec 32) (k0_hw69 : k0_chk69 v260), ∀ a, (k0_off296 v260) a + S1x16.size a ≤ S704x64.size a := fun v260 k0_hw69 => k0_hw69.2.2.1
theorem k0_off297_inb : ∀ (v260 : BitVec 32) (k0_hw69 : k0_chk69 v260), ∀ a, (k0_off297 v260) a + S1x16.size a ≤ S704x64.size a := fun v260 k0_hw69 => k0_hw69.2.2.2

def k0_off298 (v281 : BitVec 32) : Fin 2 → Nat :=
  let v282 : Index := Scalar.indexCast v281
  let c0_163 : Index := 0#32
  ![v282.toNat, 0]

def k0_off299 (v281 : BitVec 32) : Fin 2 → Nat :=
  let v286 : Index := Scalar.indexCast v281
  let c16_164 : Index := 16#32
  ![v286.toNat, 16]
def k0_off300 (v281 : BitVec 32) : Fin 2 → Nat :=
  let v290 : Index := Scalar.indexCast v281
  let c32_165 : Index := 32#32
  ![v290.toNat, 32]
def k0_off301 (v281 : BitVec 32) : Fin 2 → Nat :=
  let v294 : Index := Scalar.indexCast v281
  let c48_166 : Index := 48#32
  ![v294.toNat, 48]

def k0_chk70 (v281 : BitVec 32) : Prop :=
  (∀ a, (k0_off298 v281) a + S1x16.size a ≤ S704x64.size a) ∧
  (∀ a, (k0_off299 v281) a + S1x16.size a ≤ S704x64.size a) ∧
  (∀ a, (k0_off300 v281) a + S1x16.size a ≤ S704x64.size a) ∧
  (∀ a, (k0_off301 v281) a + S1x16.size a ≤ S704x64.size a)
theorem k0_off298_inb : ∀ (v281 : BitVec 32) (k0_hw70 : k0_chk70 v281), ∀ a, (k0_off298 v281) a + S1x16.size a ≤ S704x64.size a := fun v281 k0_hw70 => k0_hw70.1
theorem k0_off299_inb : ∀ (v281 : BitVec 32) (k0_hw70 : k0_chk70 v281), ∀ a, (k0_off299 v281) a + S1x16.size a ≤ S704x64.size a := fun v281 k0_hw70 => k0_hw70.2.1
theorem k0_off300_inb : ∀ (v281 : BitVec 32) (k0_hw70 : k0_chk70 v281), ∀ a, (k0_off300 v281) a + S1x16.size a ≤ S704x64.size a := fun v281 k0_hw70 => k0_hw70.2.2.1
theorem k0_off301_inb : ∀ (v281 : BitVec 32) (k0_hw70 : k0_chk70 v281), ∀ a, (k0_off301 v281) a + S1x16.size a ≤ S704x64.size a := fun v281 k0_hw70 => k0_hw70.2.2.2

def k0_off302 (v302 : BitVec 32) : Fin 2 → Nat :=
  let v303 : Index := Scalar.indexCast v302
  let c0_167 : Index := 0#32
  ![v303.toNat, 0]

def k0_off303 (v302 : BitVec 32) : Fin 2 → Nat :=
  let v307 : Index := Scalar.indexCast v302
  let c16_168 : Index := 16#32
  ![v307.toNat, 16]
def k0_off304 (v302 : BitVec 32) : Fin 2 → Nat :=
  let v311 : Index := Scalar.indexCast v302
  let c32_169 : Index := 32#32
  ![v311.toNat, 32]
def k0_off305 (v302 : BitVec 32) : Fin 2 → Nat :=
  let v315 : Index := Scalar.indexCast v302
  let c48_170 : Index := 48#32
  ![v315.toNat, 48]

def k0_chk71 (v302 : BitVec 32) : Prop :=
  (∀ a, (k0_off302 v302) a + S1x16.size a ≤ S704x64.size a) ∧
  (∀ a, (k0_off303 v302) a + S1x16.size a ≤ S704x64.size a) ∧
  (∀ a, (k0_off304 v302) a + S1x16.size a ≤ S704x64.size a) ∧
  (∀ a, (k0_off305 v302) a + S1x16.size a ≤ S704x64.size a)
theorem k0_off302_inb : ∀ (v302 : BitVec 32) (k0_hw71 : k0_chk71 v302), ∀ a, (k0_off302 v302) a + S1x16.size a ≤ S704x64.size a := fun v302 k0_hw71 => k0_hw71.1
theorem k0_off303_inb : ∀ (v302 : BitVec 32) (k0_hw71 : k0_chk71 v302), ∀ a, (k0_off303 v302) a + S1x16.size a ≤ S704x64.size a := fun v302 k0_hw71 => k0_hw71.2.1
theorem k0_off304_inb : ∀ (v302 : BitVec 32) (k0_hw71 : k0_chk71 v302), ∀ a, (k0_off304 v302) a + S1x16.size a ≤ S704x64.size a := fun v302 k0_hw71 => k0_hw71.2.2.1
theorem k0_off305_inb : ∀ (v302 : BitVec 32) (k0_hw71 : k0_chk71 v302), ∀ a, (k0_off305 v302) a + S1x16.size a ≤ S704x64.size a := fun v302 k0_hw71 => k0_hw71.2.2.2

def k0_off306 (v323 : BitVec 32) : Fin 2 → Nat :=
  let v324 : Index := Scalar.indexCast v323
  let c0_171 : Index := 0#32
  ![v324.toNat, 0]

def k0_off307 (v323 : BitVec 32) : Fin 2 → Nat :=
  let v328 : Index := Scalar.indexCast v323
  let c16_172 : Index := 16#32
  ![v328.toNat, 16]
def k0_off308 (v323 : BitVec 32) : Fin 2 → Nat :=
  let v332 : Index := Scalar.indexCast v323
  let c32_173 : Index := 32#32
  ![v332.toNat, 32]
def k0_off309 (v323 : BitVec 32) : Fin 2 → Nat :=
  let v336 : Index := Scalar.indexCast v323
  let c48_174 : Index := 48#32
  ![v336.toNat, 48]

def k0_chk72 (v323 : BitVec 32) : Prop :=
  (∀ a, (k0_off306 v323) a + S1x16.size a ≤ S704x64.size a) ∧
  (∀ a, (k0_off307 v323) a + S1x16.size a ≤ S704x64.size a) ∧
  (∀ a, (k0_off308 v323) a + S1x16.size a ≤ S704x64.size a) ∧
  (∀ a, (k0_off309 v323) a + S1x16.size a ≤ S704x64.size a)
theorem k0_off306_inb : ∀ (v323 : BitVec 32) (k0_hw72 : k0_chk72 v323), ∀ a, (k0_off306 v323) a + S1x16.size a ≤ S704x64.size a := fun v323 k0_hw72 => k0_hw72.1
theorem k0_off307_inb : ∀ (v323 : BitVec 32) (k0_hw72 : k0_chk72 v323), ∀ a, (k0_off307 v323) a + S1x16.size a ≤ S704x64.size a := fun v323 k0_hw72 => k0_hw72.2.1
theorem k0_off308_inb : ∀ (v323 : BitVec 32) (k0_hw72 : k0_chk72 v323), ∀ a, (k0_off308 v323) a + S1x16.size a ≤ S704x64.size a := fun v323 k0_hw72 => k0_hw72.2.2.1
theorem k0_off309_inb : ∀ (v323 : BitVec 32) (k0_hw72 : k0_chk72 v323), ∀ a, (k0_off309 v323) a + S1x16.size a ≤ S704x64.size a := fun v323 k0_hw72 => k0_hw72.2.2.2

def k0_off310 (v344 : BitVec 32) : Fin 2 → Nat :=
  let v345 : Index := Scalar.indexCast v344
  let c0_175 : Index := 0#32
  ![v345.toNat, 0]

def k0_off311 (v344 : BitVec 32) : Fin 2 → Nat :=
  let v349 : Index := Scalar.indexCast v344
  let c16_176 : Index := 16#32
  ![v349.toNat, 16]
def k0_off312 (v344 : BitVec 32) : Fin 2 → Nat :=
  let v353 : Index := Scalar.indexCast v344
  let c32_177 : Index := 32#32
  ![v353.toNat, 32]
def k0_off313 (v344 : BitVec 32) : Fin 2 → Nat :=
  let v357 : Index := Scalar.indexCast v344
  let c48_178 : Index := 48#32
  ![v357.toNat, 48]

def k0_chk73 (v344 : BitVec 32) : Prop :=
  (∀ a, (k0_off310 v344) a + S1x16.size a ≤ S704x64.size a) ∧
  (∀ a, (k0_off311 v344) a + S1x16.size a ≤ S704x64.size a) ∧
  (∀ a, (k0_off312 v344) a + S1x16.size a ≤ S704x64.size a) ∧
  (∀ a, (k0_off313 v344) a + S1x16.size a ≤ S704x64.size a)
theorem k0_off310_inb : ∀ (v344 : BitVec 32) (k0_hw73 : k0_chk73 v344), ∀ a, (k0_off310 v344) a + S1x16.size a ≤ S704x64.size a := fun v344 k0_hw73 => k0_hw73.1
theorem k0_off311_inb : ∀ (v344 : BitVec 32) (k0_hw73 : k0_chk73 v344), ∀ a, (k0_off311 v344) a + S1x16.size a ≤ S704x64.size a := fun v344 k0_hw73 => k0_hw73.2.1
theorem k0_off312_inb : ∀ (v344 : BitVec 32) (k0_hw73 : k0_chk73 v344), ∀ a, (k0_off312 v344) a + S1x16.size a ≤ S704x64.size a := fun v344 k0_hw73 => k0_hw73.2.2.1
theorem k0_off313_inb : ∀ (v344 : BitVec 32) (k0_hw73 : k0_chk73 v344), ∀ a, (k0_off313 v344) a + S1x16.size a ≤ S704x64.size a := fun v344 k0_hw73 => k0_hw73.2.2.2

def k0_off314 (v365 : BitVec 32) : Fin 2 → Nat :=
  let v366 : Index := Scalar.indexCast v365
  let c0_179 : Index := 0#32
  ![v366.toNat, 0]

def k0_off315 (v365 : BitVec 32) : Fin 2 → Nat :=
  let v370 : Index := Scalar.indexCast v365
  let c16_180 : Index := 16#32
  ![v370.toNat, 16]
def k0_off316 (v365 : BitVec 32) : Fin 2 → Nat :=
  let v374 : Index := Scalar.indexCast v365
  let c32_181 : Index := 32#32
  ![v374.toNat, 32]
def k0_off317 (v365 : BitVec 32) : Fin 2 → Nat :=
  let v378 : Index := Scalar.indexCast v365
  let c48_182 : Index := 48#32
  ![v378.toNat, 48]

def k0_chk74 (v365 : BitVec 32) : Prop :=
  (∀ a, (k0_off314 v365) a + S1x16.size a ≤ S704x64.size a) ∧
  (∀ a, (k0_off315 v365) a + S1x16.size a ≤ S704x64.size a) ∧
  (∀ a, (k0_off316 v365) a + S1x16.size a ≤ S704x64.size a) ∧
  (∀ a, (k0_off317 v365) a + S1x16.size a ≤ S704x64.size a)
theorem k0_off314_inb : ∀ (v365 : BitVec 32) (k0_hw74 : k0_chk74 v365), ∀ a, (k0_off314 v365) a + S1x16.size a ≤ S704x64.size a := fun v365 k0_hw74 => k0_hw74.1
theorem k0_off315_inb : ∀ (v365 : BitVec 32) (k0_hw74 : k0_chk74 v365), ∀ a, (k0_off315 v365) a + S1x16.size a ≤ S704x64.size a := fun v365 k0_hw74 => k0_hw74.2.1
theorem k0_off316_inb : ∀ (v365 : BitVec 32) (k0_hw74 : k0_chk74 v365), ∀ a, (k0_off316 v365) a + S1x16.size a ≤ S704x64.size a := fun v365 k0_hw74 => k0_hw74.2.2.1
theorem k0_off317_inb : ∀ (v365 : BitVec 32) (k0_hw74 : k0_chk74 v365), ∀ a, (k0_off317 v365) a + S1x16.size a ≤ S704x64.size a := fun v365 k0_hw74 => k0_hw74.2.2.2

def k0_off318 (v386 : BitVec 32) : Fin 2 → Nat :=
  let v387 : Index := Scalar.indexCast v386
  let c0_183 : Index := 0#32
  ![v387.toNat, 0]

def k0_off319 (v386 : BitVec 32) : Fin 2 → Nat :=
  let v391 : Index := Scalar.indexCast v386
  let c16_184 : Index := 16#32
  ![v391.toNat, 16]
def k0_off320 (v386 : BitVec 32) : Fin 2 → Nat :=
  let v395 : Index := Scalar.indexCast v386
  let c32_185 : Index := 32#32
  ![v395.toNat, 32]
def k0_off321 (v386 : BitVec 32) : Fin 2 → Nat :=
  let v399 : Index := Scalar.indexCast v386
  let c48_186 : Index := 48#32
  ![v399.toNat, 48]

def k0_chk75 (v386 : BitVec 32) : Prop :=
  (∀ a, (k0_off318 v386) a + S1x16.size a ≤ S704x64.size a) ∧
  (∀ a, (k0_off319 v386) a + S1x16.size a ≤ S704x64.size a) ∧
  (∀ a, (k0_off320 v386) a + S1x16.size a ≤ S704x64.size a) ∧
  (∀ a, (k0_off321 v386) a + S1x16.size a ≤ S704x64.size a)
theorem k0_off318_inb : ∀ (v386 : BitVec 32) (k0_hw75 : k0_chk75 v386), ∀ a, (k0_off318 v386) a + S1x16.size a ≤ S704x64.size a := fun v386 k0_hw75 => k0_hw75.1
theorem k0_off319_inb : ∀ (v386 : BitVec 32) (k0_hw75 : k0_chk75 v386), ∀ a, (k0_off319 v386) a + S1x16.size a ≤ S704x64.size a := fun v386 k0_hw75 => k0_hw75.2.1
theorem k0_off320_inb : ∀ (v386 : BitVec 32) (k0_hw75 : k0_chk75 v386), ∀ a, (k0_off320 v386) a + S1x16.size a ≤ S704x64.size a := fun v386 k0_hw75 => k0_hw75.2.2.1
theorem k0_off321_inb : ∀ (v386 : BitVec 32) (k0_hw75 : k0_chk75 v386), ∀ a, (k0_off321 v386) a + S1x16.size a ≤ S704x64.size a := fun v386 k0_hw75 => k0_hw75.2.2.2

def k0_off322 (v407 : BitVec 32) : Fin 2 → Nat :=
  let v408 : Index := Scalar.indexCast v407
  let c0_187 : Index := 0#32
  ![v408.toNat, 0]

def k0_off323 (v407 : BitVec 32) : Fin 2 → Nat :=
  let v412 : Index := Scalar.indexCast v407
  let c16_188 : Index := 16#32
  ![v412.toNat, 16]
def k0_off324 (v407 : BitVec 32) : Fin 2 → Nat :=
  let v416 : Index := Scalar.indexCast v407
  let c32_189 : Index := 32#32
  ![v416.toNat, 32]
def k0_off325 (v407 : BitVec 32) : Fin 2 → Nat :=
  let v420 : Index := Scalar.indexCast v407
  let c48_190 : Index := 48#32
  ![v420.toNat, 48]

def k0_chk76 (v407 : BitVec 32) : Prop :=
  (∀ a, (k0_off322 v407) a + S1x16.size a ≤ S704x64.size a) ∧
  (∀ a, (k0_off323 v407) a + S1x16.size a ≤ S704x64.size a) ∧
  (∀ a, (k0_off324 v407) a + S1x16.size a ≤ S704x64.size a) ∧
  (∀ a, (k0_off325 v407) a + S1x16.size a ≤ S704x64.size a)
theorem k0_off322_inb : ∀ (v407 : BitVec 32) (k0_hw76 : k0_chk76 v407), ∀ a, (k0_off322 v407) a + S1x16.size a ≤ S704x64.size a := fun v407 k0_hw76 => k0_hw76.1
theorem k0_off323_inb : ∀ (v407 : BitVec 32) (k0_hw76 : k0_chk76 v407), ∀ a, (k0_off323 v407) a + S1x16.size a ≤ S704x64.size a := fun v407 k0_hw76 => k0_hw76.2.1
theorem k0_off324_inb : ∀ (v407 : BitVec 32) (k0_hw76 : k0_chk76 v407), ∀ a, (k0_off324 v407) a + S1x16.size a ≤ S704x64.size a := fun v407 k0_hw76 => k0_hw76.2.2.1
theorem k0_off325_inb : ∀ (v407 : BitVec 32) (k0_hw76 : k0_chk76 v407), ∀ a, (k0_off325 v407) a + S1x16.size a ≤ S704x64.size a := fun v407 k0_hw76 => k0_hw76.2.2.2

def k0_off326 (v428 : BitVec 32) : Fin 2 → Nat :=
  let v429 : Index := Scalar.indexCast v428
  let c0_191 : Index := 0#32
  ![v429.toNat, 0]

def k0_off327 (v428 : BitVec 32) : Fin 2 → Nat :=
  let v433 : Index := Scalar.indexCast v428
  let c16_192 : Index := 16#32
  ![v433.toNat, 16]
def k0_off328 (v428 : BitVec 32) : Fin 2 → Nat :=
  let v437 : Index := Scalar.indexCast v428
  let c32_193 : Index := 32#32
  ![v437.toNat, 32]
def k0_off329 (v428 : BitVec 32) : Fin 2 → Nat :=
  let v441 : Index := Scalar.indexCast v428
  let c48_194 : Index := 48#32
  ![v441.toNat, 48]

def k0_chk77 (v428 : BitVec 32) : Prop :=
  (∀ a, (k0_off326 v428) a + S1x16.size a ≤ S704x64.size a) ∧
  (∀ a, (k0_off327 v428) a + S1x16.size a ≤ S704x64.size a) ∧
  (∀ a, (k0_off328 v428) a + S1x16.size a ≤ S704x64.size a) ∧
  (∀ a, (k0_off329 v428) a + S1x16.size a ≤ S704x64.size a)
theorem k0_off326_inb : ∀ (v428 : BitVec 32) (k0_hw77 : k0_chk77 v428), ∀ a, (k0_off326 v428) a + S1x16.size a ≤ S704x64.size a := fun v428 k0_hw77 => k0_hw77.1
theorem k0_off327_inb : ∀ (v428 : BitVec 32) (k0_hw77 : k0_chk77 v428), ∀ a, (k0_off327 v428) a + S1x16.size a ≤ S704x64.size a := fun v428 k0_hw77 => k0_hw77.2.1
theorem k0_off328_inb : ∀ (v428 : BitVec 32) (k0_hw77 : k0_chk77 v428), ∀ a, (k0_off328 v428) a + S1x16.size a ≤ S704x64.size a := fun v428 k0_hw77 => k0_hw77.2.2.1
theorem k0_off329_inb : ∀ (v428 : BitVec 32) (k0_hw77 : k0_chk77 v428), ∀ a, (k0_off329 v428) a + S1x16.size a ≤ S704x64.size a := fun v428 k0_hw77 => k0_hw77.2.2.2

def k0_off330 (v449 : BitVec 32) : Fin 2 → Nat :=
  let v450 : Index := Scalar.indexCast v449
  let c0_195 : Index := 0#32
  ![v450.toNat, 0]

def k0_off331 (v449 : BitVec 32) : Fin 2 → Nat :=
  let v454 : Index := Scalar.indexCast v449
  let c16_196 : Index := 16#32
  ![v454.toNat, 16]
def k0_off332 (v449 : BitVec 32) : Fin 2 → Nat :=
  let v458 : Index := Scalar.indexCast v449
  let c32_197 : Index := 32#32
  ![v458.toNat, 32]
def k0_off333 (v449 : BitVec 32) : Fin 2 → Nat :=
  let v462 : Index := Scalar.indexCast v449
  let c48_198 : Index := 48#32
  ![v462.toNat, 48]

def k0_chk78 (v449 : BitVec 32) : Prop :=
  (∀ a, (k0_off330 v449) a + S1x16.size a ≤ S704x64.size a) ∧
  (∀ a, (k0_off331 v449) a + S1x16.size a ≤ S704x64.size a) ∧
  (∀ a, (k0_off332 v449) a + S1x16.size a ≤ S704x64.size a) ∧
  (∀ a, (k0_off333 v449) a + S1x16.size a ≤ S704x64.size a)
theorem k0_off330_inb : ∀ (v449 : BitVec 32) (k0_hw78 : k0_chk78 v449), ∀ a, (k0_off330 v449) a + S1x16.size a ≤ S704x64.size a := fun v449 k0_hw78 => k0_hw78.1
theorem k0_off331_inb : ∀ (v449 : BitVec 32) (k0_hw78 : k0_chk78 v449), ∀ a, (k0_off331 v449) a + S1x16.size a ≤ S704x64.size a := fun v449 k0_hw78 => k0_hw78.2.1
theorem k0_off332_inb : ∀ (v449 : BitVec 32) (k0_hw78 : k0_chk78 v449), ∀ a, (k0_off332 v449) a + S1x16.size a ≤ S704x64.size a := fun v449 k0_hw78 => k0_hw78.2.2.1
theorem k0_off333_inb : ∀ (v449 : BitVec 32) (k0_hw78 : k0_chk78 v449), ∀ a, (k0_off333 v449) a + S1x16.size a ≤ S704x64.size a := fun v449 k0_hw78 => k0_hw78.2.2.2

def k0_off334 (v470 : BitVec 32) : Fin 2 → Nat :=
  let v471 : Index := Scalar.indexCast v470
  let c0_199 : Index := 0#32
  ![v471.toNat, 0]

def k0_off335 (v470 : BitVec 32) : Fin 2 → Nat :=
  let v475 : Index := Scalar.indexCast v470
  let c16_200 : Index := 16#32
  ![v475.toNat, 16]
def k0_off336 (v470 : BitVec 32) : Fin 2 → Nat :=
  let v479 : Index := Scalar.indexCast v470
  let c32_201 : Index := 32#32
  ![v479.toNat, 32]
def k0_off337 (v470 : BitVec 32) : Fin 2 → Nat :=
  let v483 : Index := Scalar.indexCast v470
  let c48_202 : Index := 48#32
  ![v483.toNat, 48]

def k0_chk79 (v470 : BitVec 32) : Prop :=
  (∀ a, (k0_off334 v470) a + S1x16.size a ≤ S704x64.size a) ∧
  (∀ a, (k0_off335 v470) a + S1x16.size a ≤ S704x64.size a) ∧
  (∀ a, (k0_off336 v470) a + S1x16.size a ≤ S704x64.size a) ∧
  (∀ a, (k0_off337 v470) a + S1x16.size a ≤ S704x64.size a)
theorem k0_off334_inb : ∀ (v470 : BitVec 32) (k0_hw79 : k0_chk79 v470), ∀ a, (k0_off334 v470) a + S1x16.size a ≤ S704x64.size a := fun v470 k0_hw79 => k0_hw79.1
theorem k0_off335_inb : ∀ (v470 : BitVec 32) (k0_hw79 : k0_chk79 v470), ∀ a, (k0_off335 v470) a + S1x16.size a ≤ S704x64.size a := fun v470 k0_hw79 => k0_hw79.2.1
theorem k0_off336_inb : ∀ (v470 : BitVec 32) (k0_hw79 : k0_chk79 v470), ∀ a, (k0_off336 v470) a + S1x16.size a ≤ S704x64.size a := fun v470 k0_hw79 => k0_hw79.2.2.1
theorem k0_off337_inb : ∀ (v470 : BitVec 32) (k0_hw79 : k0_chk79 v470), ∀ a, (k0_off337 v470) a + S1x16.size a ≤ S704x64.size a := fun v470 k0_hw79 => k0_hw79.2.2.2

def k0_off338 (v491 : BitVec 32) : Fin 2 → Nat :=
  let v492 : Index := Scalar.indexCast v491
  let c0_203 : Index := 0#32
  ![v492.toNat, 0]

def k0_off339 (v491 : BitVec 32) : Fin 2 → Nat :=
  let v496 : Index := Scalar.indexCast v491
  let c16_204 : Index := 16#32
  ![v496.toNat, 16]
def k0_off340 (v491 : BitVec 32) : Fin 2 → Nat :=
  let v500 : Index := Scalar.indexCast v491
  let c32_205 : Index := 32#32
  ![v500.toNat, 32]
def k0_off341 (v491 : BitVec 32) : Fin 2 → Nat :=
  let v504 : Index := Scalar.indexCast v491
  let c48_206 : Index := 48#32
  ![v504.toNat, 48]

def k0_chk80 (v491 : BitVec 32) : Prop :=
  (∀ a, (k0_off338 v491) a + S1x16.size a ≤ S704x64.size a) ∧
  (∀ a, (k0_off339 v491) a + S1x16.size a ≤ S704x64.size a) ∧
  (∀ a, (k0_off340 v491) a + S1x16.size a ≤ S704x64.size a) ∧
  (∀ a, (k0_off341 v491) a + S1x16.size a ≤ S704x64.size a)
theorem k0_off338_inb : ∀ (v491 : BitVec 32) (k0_hw80 : k0_chk80 v491), ∀ a, (k0_off338 v491) a + S1x16.size a ≤ S704x64.size a := fun v491 k0_hw80 => k0_hw80.1
theorem k0_off339_inb : ∀ (v491 : BitVec 32) (k0_hw80 : k0_chk80 v491), ∀ a, (k0_off339 v491) a + S1x16.size a ≤ S704x64.size a := fun v491 k0_hw80 => k0_hw80.2.1
theorem k0_off340_inb : ∀ (v491 : BitVec 32) (k0_hw80 : k0_chk80 v491), ∀ a, (k0_off340 v491) a + S1x16.size a ≤ S704x64.size a := fun v491 k0_hw80 => k0_hw80.2.2.1
theorem k0_off341_inb : ∀ (v491 : BitVec 32) (k0_hw80 : k0_chk80 v491), ∀ a, (k0_off341 v491) a + S1x16.size a ≤ S704x64.size a := fun v491 k0_hw80 => k0_hw80.2.2.2

def k0_off342 (v512 : BitVec 32) : Fin 2 → Nat :=
  let v513 : Index := Scalar.indexCast v512
  let c0_207 : Index := 0#32
  ![v513.toNat, 0]

def k0_off343 (v512 : BitVec 32) : Fin 2 → Nat :=
  let v517 : Index := Scalar.indexCast v512
  let c16_208 : Index := 16#32
  ![v517.toNat, 16]
def k0_off344 (v512 : BitVec 32) : Fin 2 → Nat :=
  let v521 : Index := Scalar.indexCast v512
  let c32_209 : Index := 32#32
  ![v521.toNat, 32]
def k0_off345 (v512 : BitVec 32) : Fin 2 → Nat :=
  let v525 : Index := Scalar.indexCast v512
  let c48_210 : Index := 48#32
  ![v525.toNat, 48]

def k0_chk81 (v512 : BitVec 32) : Prop :=
  (∀ a, (k0_off342 v512) a + S1x16.size a ≤ S704x64.size a) ∧
  (∀ a, (k0_off343 v512) a + S1x16.size a ≤ S704x64.size a) ∧
  (∀ a, (k0_off344 v512) a + S1x16.size a ≤ S704x64.size a) ∧
  (∀ a, (k0_off345 v512) a + S1x16.size a ≤ S704x64.size a)
theorem k0_off342_inb : ∀ (v512 : BitVec 32) (k0_hw81 : k0_chk81 v512), ∀ a, (k0_off342 v512) a + S1x16.size a ≤ S704x64.size a := fun v512 k0_hw81 => k0_hw81.1
theorem k0_off343_inb : ∀ (v512 : BitVec 32) (k0_hw81 : k0_chk81 v512), ∀ a, (k0_off343 v512) a + S1x16.size a ≤ S704x64.size a := fun v512 k0_hw81 => k0_hw81.2.1
theorem k0_off344_inb : ∀ (v512 : BitVec 32) (k0_hw81 : k0_chk81 v512), ∀ a, (k0_off344 v512) a + S1x16.size a ≤ S704x64.size a := fun v512 k0_hw81 => k0_hw81.2.2.1
theorem k0_off345_inb : ∀ (v512 : BitVec 32) (k0_hw81 : k0_chk81 v512), ∀ a, (k0_off345 v512) a + S1x16.size a ≤ S704x64.size a := fun v512 k0_hw81 => k0_hw81.2.2.2

def k0_off346 (v533 : BitVec 32) : Fin 2 → Nat :=
  let v534 : Index := Scalar.indexCast v533
  let c0_211 : Index := 0#32
  ![v534.toNat, 0]

def k0_off347 (v533 : BitVec 32) : Fin 2 → Nat :=
  let v538 : Index := Scalar.indexCast v533
  let c16_212 : Index := 16#32
  ![v538.toNat, 16]
def k0_off348 (v533 : BitVec 32) : Fin 2 → Nat :=
  let v542 : Index := Scalar.indexCast v533
  let c32_213 : Index := 32#32
  ![v542.toNat, 32]
def k0_off349 (v533 : BitVec 32) : Fin 2 → Nat :=
  let v546 : Index := Scalar.indexCast v533
  let c48_214 : Index := 48#32
  ![v546.toNat, 48]

def k0_chk82 (v533 : BitVec 32) : Prop :=
  (∀ a, (k0_off346 v533) a + S1x16.size a ≤ S704x64.size a) ∧
  (∀ a, (k0_off347 v533) a + S1x16.size a ≤ S704x64.size a) ∧
  (∀ a, (k0_off348 v533) a + S1x16.size a ≤ S704x64.size a) ∧
  (∀ a, (k0_off349 v533) a + S1x16.size a ≤ S704x64.size a)
theorem k0_off346_inb : ∀ (v533 : BitVec 32) (k0_hw82 : k0_chk82 v533), ∀ a, (k0_off346 v533) a + S1x16.size a ≤ S704x64.size a := fun v533 k0_hw82 => k0_hw82.1
theorem k0_off347_inb : ∀ (v533 : BitVec 32) (k0_hw82 : k0_chk82 v533), ∀ a, (k0_off347 v533) a + S1x16.size a ≤ S704x64.size a := fun v533 k0_hw82 => k0_hw82.2.1
theorem k0_off348_inb : ∀ (v533 : BitVec 32) (k0_hw82 : k0_chk82 v533), ∀ a, (k0_off348 v533) a + S1x16.size a ≤ S704x64.size a := fun v533 k0_hw82 => k0_hw82.2.2.1
theorem k0_off349_inb : ∀ (v533 : BitVec 32) (k0_hw82 : k0_chk82 v533), ∀ a, (k0_off349 v533) a + S1x16.size a ≤ S704x64.size a := fun v533 k0_hw82 => k0_hw82.2.2.2

def k0_off350 (v554 : BitVec 32) : Fin 2 → Nat :=
  let v555 : Index := Scalar.indexCast v554
  let c0_215 : Index := 0#32
  ![v555.toNat, 0]

def k0_off351 (v554 : BitVec 32) : Fin 2 → Nat :=
  let v559 : Index := Scalar.indexCast v554
  let c16_216 : Index := 16#32
  ![v559.toNat, 16]
def k0_off352 (v554 : BitVec 32) : Fin 2 → Nat :=
  let v563 : Index := Scalar.indexCast v554
  let c32_217 : Index := 32#32
  ![v563.toNat, 32]
def k0_off353 (v554 : BitVec 32) : Fin 2 → Nat :=
  let v567 : Index := Scalar.indexCast v554
  let c48_218 : Index := 48#32
  ![v567.toNat, 48]

def k0_chk83 (v554 : BitVec 32) : Prop :=
  (∀ a, (k0_off350 v554) a + S1x16.size a ≤ S704x64.size a) ∧
  (∀ a, (k0_off351 v554) a + S1x16.size a ≤ S704x64.size a) ∧
  (∀ a, (k0_off352 v554) a + S1x16.size a ≤ S704x64.size a) ∧
  (∀ a, (k0_off353 v554) a + S1x16.size a ≤ S704x64.size a)
theorem k0_off350_inb : ∀ (v554 : BitVec 32) (k0_hw83 : k0_chk83 v554), ∀ a, (k0_off350 v554) a + S1x16.size a ≤ S704x64.size a := fun v554 k0_hw83 => k0_hw83.1
theorem k0_off351_inb : ∀ (v554 : BitVec 32) (k0_hw83 : k0_chk83 v554), ∀ a, (k0_off351 v554) a + S1x16.size a ≤ S704x64.size a := fun v554 k0_hw83 => k0_hw83.2.1
theorem k0_off352_inb : ∀ (v554 : BitVec 32) (k0_hw83 : k0_chk83 v554), ∀ a, (k0_off352 v554) a + S1x16.size a ≤ S704x64.size a := fun v554 k0_hw83 => k0_hw83.2.2.1
theorem k0_off353_inb : ∀ (v554 : BitVec 32) (k0_hw83 : k0_chk83 v554), ∀ a, (k0_off353 v554) a + S1x16.size a ≤ S704x64.size a := fun v554 k0_hw83 => k0_hw83.2.2.2

def k0_off354 (v575 : BitVec 32) : Fin 2 → Nat :=
  let v576 : Index := Scalar.indexCast v575
  let c0_219 : Index := 0#32
  ![v576.toNat, 0]

def k0_off355 (v575 : BitVec 32) : Fin 2 → Nat :=
  let v580 : Index := Scalar.indexCast v575
  let c16_220 : Index := 16#32
  ![v580.toNat, 16]
def k0_off356 (v575 : BitVec 32) : Fin 2 → Nat :=
  let v584 : Index := Scalar.indexCast v575
  let c32_221 : Index := 32#32
  ![v584.toNat, 32]
def k0_off357 (v575 : BitVec 32) : Fin 2 → Nat :=
  let v588 : Index := Scalar.indexCast v575
  let c48_222 : Index := 48#32
  ![v588.toNat, 48]

def k0_chk84 (v575 : BitVec 32) : Prop :=
  (∀ a, (k0_off354 v575) a + S1x16.size a ≤ S704x64.size a) ∧
  (∀ a, (k0_off355 v575) a + S1x16.size a ≤ S704x64.size a) ∧
  (∀ a, (k0_off356 v575) a + S1x16.size a ≤ S704x64.size a) ∧
  (∀ a, (k0_off357 v575) a + S1x16.size a ≤ S704x64.size a)
theorem k0_off354_inb : ∀ (v575 : BitVec 32) (k0_hw84 : k0_chk84 v575), ∀ a, (k0_off354 v575) a + S1x16.size a ≤ S704x64.size a := fun v575 k0_hw84 => k0_hw84.1
theorem k0_off355_inb : ∀ (v575 : BitVec 32) (k0_hw84 : k0_chk84 v575), ∀ a, (k0_off355 v575) a + S1x16.size a ≤ S704x64.size a := fun v575 k0_hw84 => k0_hw84.2.1
theorem k0_off356_inb : ∀ (v575 : BitVec 32) (k0_hw84 : k0_chk84 v575), ∀ a, (k0_off356 v575) a + S1x16.size a ≤ S704x64.size a := fun v575 k0_hw84 => k0_hw84.2.2.1
theorem k0_off357_inb : ∀ (v575 : BitVec 32) (k0_hw84 : k0_chk84 v575), ∀ a, (k0_off357 v575) a + S1x16.size a ≤ S704x64.size a := fun v575 k0_hw84 => k0_hw84.2.2.2

def k0_off358 (v596 : BitVec 32) : Fin 2 → Nat :=
  let v597 : Index := Scalar.indexCast v596
  let c0_223 : Index := 0#32
  ![v597.toNat, 0]

def k0_off359 (v596 : BitVec 32) : Fin 2 → Nat :=
  let v601 : Index := Scalar.indexCast v596
  let c16_224 : Index := 16#32
  ![v601.toNat, 16]
def k0_off360 (v596 : BitVec 32) : Fin 2 → Nat :=
  let v605 : Index := Scalar.indexCast v596
  let c32_225 : Index := 32#32
  ![v605.toNat, 32]
def k0_off361 (v596 : BitVec 32) : Fin 2 → Nat :=
  let v609 : Index := Scalar.indexCast v596
  let c48_226 : Index := 48#32
  ![v609.toNat, 48]

def k0_chk85 (v596 : BitVec 32) : Prop :=
  (∀ a, (k0_off358 v596) a + S1x16.size a ≤ S704x64.size a) ∧
  (∀ a, (k0_off359 v596) a + S1x16.size a ≤ S704x64.size a) ∧
  (∀ a, (k0_off360 v596) a + S1x16.size a ≤ S704x64.size a) ∧
  (∀ a, (k0_off361 v596) a + S1x16.size a ≤ S704x64.size a)
theorem k0_off358_inb : ∀ (v596 : BitVec 32) (k0_hw85 : k0_chk85 v596), ∀ a, (k0_off358 v596) a + S1x16.size a ≤ S704x64.size a := fun v596 k0_hw85 => k0_hw85.1
theorem k0_off359_inb : ∀ (v596 : BitVec 32) (k0_hw85 : k0_chk85 v596), ∀ a, (k0_off359 v596) a + S1x16.size a ≤ S704x64.size a := fun v596 k0_hw85 => k0_hw85.2.1
theorem k0_off360_inb : ∀ (v596 : BitVec 32) (k0_hw85 : k0_chk85 v596), ∀ a, (k0_off360 v596) a + S1x16.size a ≤ S704x64.size a := fun v596 k0_hw85 => k0_hw85.2.2.1
theorem k0_off361_inb : ∀ (v596 : BitVec 32) (k0_hw85 : k0_chk85 v596), ∀ a, (k0_off361 v596) a + S1x16.size a ≤ S704x64.size a := fun v596 k0_hw85 => k0_hw85.2.2.2

def k0_off362 (v617 : BitVec 32) : Fin 2 → Nat :=
  let v618 : Index := Scalar.indexCast v617
  let c0_227 : Index := 0#32
  ![v618.toNat, 0]

def k0_off363 (v617 : BitVec 32) : Fin 2 → Nat :=
  let v622 : Index := Scalar.indexCast v617
  let c16_228 : Index := 16#32
  ![v622.toNat, 16]
def k0_off364 (v617 : BitVec 32) : Fin 2 → Nat :=
  let v626 : Index := Scalar.indexCast v617
  let c32_229 : Index := 32#32
  ![v626.toNat, 32]
def k0_off365 (v617 : BitVec 32) : Fin 2 → Nat :=
  let v630 : Index := Scalar.indexCast v617
  let c48_230 : Index := 48#32
  ![v630.toNat, 48]

def k0_chk86 (v617 : BitVec 32) : Prop :=
  (∀ a, (k0_off362 v617) a + S1x16.size a ≤ S704x64.size a) ∧
  (∀ a, (k0_off363 v617) a + S1x16.size a ≤ S704x64.size a) ∧
  (∀ a, (k0_off364 v617) a + S1x16.size a ≤ S704x64.size a) ∧
  (∀ a, (k0_off365 v617) a + S1x16.size a ≤ S704x64.size a)
theorem k0_off362_inb : ∀ (v617 : BitVec 32) (k0_hw86 : k0_chk86 v617), ∀ a, (k0_off362 v617) a + S1x16.size a ≤ S704x64.size a := fun v617 k0_hw86 => k0_hw86.1
theorem k0_off363_inb : ∀ (v617 : BitVec 32) (k0_hw86 : k0_chk86 v617), ∀ a, (k0_off363 v617) a + S1x16.size a ≤ S704x64.size a := fun v617 k0_hw86 => k0_hw86.2.1
theorem k0_off364_inb : ∀ (v617 : BitVec 32) (k0_hw86 : k0_chk86 v617), ∀ a, (k0_off364 v617) a + S1x16.size a ≤ S704x64.size a := fun v617 k0_hw86 => k0_hw86.2.2.1
theorem k0_off365_inb : ∀ (v617 : BitVec 32) (k0_hw86 : k0_chk86 v617), ∀ a, (k0_off365 v617) a + S1x16.size a ≤ S704x64.size a := fun v617 k0_hw86 => k0_hw86.2.2.2

def k0_off366 (v638 : BitVec 32) : Fin 2 → Nat :=
  let v639 : Index := Scalar.indexCast v638
  let c0_231 : Index := 0#32
  ![v639.toNat, 0]

def k0_off367 (v638 : BitVec 32) : Fin 2 → Nat :=
  let v643 : Index := Scalar.indexCast v638
  let c16_232 : Index := 16#32
  ![v643.toNat, 16]
def k0_off368 (v638 : BitVec 32) : Fin 2 → Nat :=
  let v647 : Index := Scalar.indexCast v638
  let c32_233 : Index := 32#32
  ![v647.toNat, 32]
def k0_off369 (v638 : BitVec 32) : Fin 2 → Nat :=
  let v651 : Index := Scalar.indexCast v638
  let c48_234 : Index := 48#32
  ![v651.toNat, 48]

def k0_chk87 (v638 : BitVec 32) : Prop :=
  (∀ a, (k0_off366 v638) a + S1x16.size a ≤ S704x64.size a) ∧
  (∀ a, (k0_off367 v638) a + S1x16.size a ≤ S704x64.size a) ∧
  (∀ a, (k0_off368 v638) a + S1x16.size a ≤ S704x64.size a) ∧
  (∀ a, (k0_off369 v638) a + S1x16.size a ≤ S704x64.size a)
theorem k0_off366_inb : ∀ (v638 : BitVec 32) (k0_hw87 : k0_chk87 v638), ∀ a, (k0_off366 v638) a + S1x16.size a ≤ S704x64.size a := fun v638 k0_hw87 => k0_hw87.1
theorem k0_off367_inb : ∀ (v638 : BitVec 32) (k0_hw87 : k0_chk87 v638), ∀ a, (k0_off367 v638) a + S1x16.size a ≤ S704x64.size a := fun v638 k0_hw87 => k0_hw87.2.1
theorem k0_off368_inb : ∀ (v638 : BitVec 32) (k0_hw87 : k0_chk87 v638), ∀ a, (k0_off368 v638) a + S1x16.size a ≤ S704x64.size a := fun v638 k0_hw87 => k0_hw87.2.2.1
theorem k0_off369_inb : ∀ (v638 : BitVec 32) (k0_hw87 : k0_chk87 v638), ∀ a, (k0_off369 v638) a + S1x16.size a ≤ S704x64.size a := fun v638 k0_hw87 => k0_hw87.2.2.2

def k0_off370 (v659 : BitVec 32) : Fin 2 → Nat :=
  let v660 : Index := Scalar.indexCast v659
  let c0_235 : Index := 0#32
  ![v660.toNat, 0]

def k0_off371 (v659 : BitVec 32) : Fin 2 → Nat :=
  let v664 : Index := Scalar.indexCast v659
  let c16_236 : Index := 16#32
  ![v664.toNat, 16]
def k0_off372 (v659 : BitVec 32) : Fin 2 → Nat :=
  let v668 : Index := Scalar.indexCast v659
  let c32_237 : Index := 32#32
  ![v668.toNat, 32]
def k0_off373 (v659 : BitVec 32) : Fin 2 → Nat :=
  let v672 : Index := Scalar.indexCast v659
  let c48_238 : Index := 48#32
  ![v672.toNat, 48]

def k0_chk88 (v659 : BitVec 32) : Prop :=
  (∀ a, (k0_off370 v659) a + S1x16.size a ≤ S704x64.size a) ∧
  (∀ a, (k0_off371 v659) a + S1x16.size a ≤ S704x64.size a) ∧
  (∀ a, (k0_off372 v659) a + S1x16.size a ≤ S704x64.size a) ∧
  (∀ a, (k0_off373 v659) a + S1x16.size a ≤ S704x64.size a)
theorem k0_off370_inb : ∀ (v659 : BitVec 32) (k0_hw88 : k0_chk88 v659), ∀ a, (k0_off370 v659) a + S1x16.size a ≤ S704x64.size a := fun v659 k0_hw88 => k0_hw88.1
theorem k0_off371_inb : ∀ (v659 : BitVec 32) (k0_hw88 : k0_chk88 v659), ∀ a, (k0_off371 v659) a + S1x16.size a ≤ S704x64.size a := fun v659 k0_hw88 => k0_hw88.2.1
theorem k0_off372_inb : ∀ (v659 : BitVec 32) (k0_hw88 : k0_chk88 v659), ∀ a, (k0_off372 v659) a + S1x16.size a ≤ S704x64.size a := fun v659 k0_hw88 => k0_hw88.2.2.1
theorem k0_off373_inb : ∀ (v659 : BitVec 32) (k0_hw88 : k0_chk88 v659), ∀ a, (k0_off373 v659) a + S1x16.size a ≤ S704x64.size a := fun v659 k0_hw88 => k0_hw88.2.2.2

def k0_off374 (v680 : BitVec 32) : Fin 2 → Nat :=
  let v681 : Index := Scalar.indexCast v680
  let c0_239 : Index := 0#32
  ![v681.toNat, 0]

def k0_off375 (v680 : BitVec 32) : Fin 2 → Nat :=
  let v685 : Index := Scalar.indexCast v680
  let c16_240 : Index := 16#32
  ![v685.toNat, 16]
def k0_off376 (v680 : BitVec 32) : Fin 2 → Nat :=
  let v689 : Index := Scalar.indexCast v680
  let c32_241 : Index := 32#32
  ![v689.toNat, 32]
def k0_off377 (v680 : BitVec 32) : Fin 2 → Nat :=
  let v693 : Index := Scalar.indexCast v680
  let c48_242 : Index := 48#32
  ![v693.toNat, 48]

def k0_chk89 (v680 : BitVec 32) : Prop :=
  (∀ a, (k0_off374 v680) a + S1x16.size a ≤ S704x64.size a) ∧
  (∀ a, (k0_off375 v680) a + S1x16.size a ≤ S704x64.size a) ∧
  (∀ a, (k0_off376 v680) a + S1x16.size a ≤ S704x64.size a) ∧
  (∀ a, (k0_off377 v680) a + S1x16.size a ≤ S704x64.size a)
theorem k0_off374_inb : ∀ (v680 : BitVec 32) (k0_hw89 : k0_chk89 v680), ∀ a, (k0_off374 v680) a + S1x16.size a ≤ S704x64.size a := fun v680 k0_hw89 => k0_hw89.1
theorem k0_off375_inb : ∀ (v680 : BitVec 32) (k0_hw89 : k0_chk89 v680), ∀ a, (k0_off375 v680) a + S1x16.size a ≤ S704x64.size a := fun v680 k0_hw89 => k0_hw89.2.1
theorem k0_off376_inb : ∀ (v680 : BitVec 32) (k0_hw89 : k0_chk89 v680), ∀ a, (k0_off376 v680) a + S1x16.size a ≤ S704x64.size a := fun v680 k0_hw89 => k0_hw89.2.2.1
theorem k0_off377_inb : ∀ (v680 : BitVec 32) (k0_hw89 : k0_chk89 v680), ∀ a, (k0_off377 v680) a + S1x16.size a ≤ S704x64.size a := fun v680 k0_hw89 => k0_hw89.2.2.2

def k0_off378 (v701 : BitVec 32) : Fin 2 → Nat :=
  let v702 : Index := Scalar.indexCast v701
  let c0_243 : Index := 0#32
  ![v702.toNat, 0]

def k0_off379 (v701 : BitVec 32) : Fin 2 → Nat :=
  let v706 : Index := Scalar.indexCast v701
  let c16_244 : Index := 16#32
  ![v706.toNat, 16]
def k0_off380 (v701 : BitVec 32) : Fin 2 → Nat :=
  let v710 : Index := Scalar.indexCast v701
  let c32_245 : Index := 32#32
  ![v710.toNat, 32]
def k0_off381 (v701 : BitVec 32) : Fin 2 → Nat :=
  let v714 : Index := Scalar.indexCast v701
  let c48_246 : Index := 48#32
  ![v714.toNat, 48]

def k0_chk90 (v701 : BitVec 32) : Prop :=
  (∀ a, (k0_off378 v701) a + S1x16.size a ≤ S704x64.size a) ∧
  (∀ a, (k0_off379 v701) a + S1x16.size a ≤ S704x64.size a) ∧
  (∀ a, (k0_off380 v701) a + S1x16.size a ≤ S704x64.size a) ∧
  (∀ a, (k0_off381 v701) a + S1x16.size a ≤ S704x64.size a)
theorem k0_off378_inb : ∀ (v701 : BitVec 32) (k0_hw90 : k0_chk90 v701), ∀ a, (k0_off378 v701) a + S1x16.size a ≤ S704x64.size a := fun v701 k0_hw90 => k0_hw90.1
theorem k0_off379_inb : ∀ (v701 : BitVec 32) (k0_hw90 : k0_chk90 v701), ∀ a, (k0_off379 v701) a + S1x16.size a ≤ S704x64.size a := fun v701 k0_hw90 => k0_hw90.2.1
theorem k0_off380_inb : ∀ (v701 : BitVec 32) (k0_hw90 : k0_chk90 v701), ∀ a, (k0_off380 v701) a + S1x16.size a ≤ S704x64.size a := fun v701 k0_hw90 => k0_hw90.2.2.1
theorem k0_off381_inb : ∀ (v701 : BitVec 32) (k0_hw90 : k0_chk90 v701), ∀ a, (k0_off381 v701) a + S1x16.size a ≤ S704x64.size a := fun v701 k0_hw90 => k0_hw90.2.2.2

def k0_off382 (v722 : BitVec 32) : Fin 2 → Nat :=
  let v723 : Index := Scalar.indexCast v722
  let c0_247 : Index := 0#32
  ![v723.toNat, 0]

def k0_off383 (v722 : BitVec 32) : Fin 2 → Nat :=
  let v727 : Index := Scalar.indexCast v722
  let c16_248 : Index := 16#32
  ![v727.toNat, 16]
def k0_off384 (v722 : BitVec 32) : Fin 2 → Nat :=
  let v731 : Index := Scalar.indexCast v722
  let c32_249 : Index := 32#32
  ![v731.toNat, 32]
def k0_off385 (v722 : BitVec 32) : Fin 2 → Nat :=
  let v735 : Index := Scalar.indexCast v722
  let c48_250 : Index := 48#32
  ![v735.toNat, 48]

def k0_chk91 (v722 : BitVec 32) : Prop :=
  (∀ a, (k0_off382 v722) a + S1x16.size a ≤ S704x64.size a) ∧
  (∀ a, (k0_off383 v722) a + S1x16.size a ≤ S704x64.size a) ∧
  (∀ a, (k0_off384 v722) a + S1x16.size a ≤ S704x64.size a) ∧
  (∀ a, (k0_off385 v722) a + S1x16.size a ≤ S704x64.size a)
theorem k0_off382_inb : ∀ (v722 : BitVec 32) (k0_hw91 : k0_chk91 v722), ∀ a, (k0_off382 v722) a + S1x16.size a ≤ S704x64.size a := fun v722 k0_hw91 => k0_hw91.1
theorem k0_off383_inb : ∀ (v722 : BitVec 32) (k0_hw91 : k0_chk91 v722), ∀ a, (k0_off383 v722) a + S1x16.size a ≤ S704x64.size a := fun v722 k0_hw91 => k0_hw91.2.1
theorem k0_off384_inb : ∀ (v722 : BitVec 32) (k0_hw91 : k0_chk91 v722), ∀ a, (k0_off384 v722) a + S1x16.size a ≤ S704x64.size a := fun v722 k0_hw91 => k0_hw91.2.2.1
theorem k0_off385_inb : ∀ (v722 : BitVec 32) (k0_hw91 : k0_chk91 v722), ∀ a, (k0_off385 v722) a + S1x16.size a ≤ S704x64.size a := fun v722 k0_hw91 => k0_hw91.2.2.2

def k0_off386 (v743 : BitVec 32) : Fin 2 → Nat :=
  let v744 : Index := Scalar.indexCast v743
  let c0_251 : Index := 0#32
  ![v744.toNat, 0]

def k0_off387 (v743 : BitVec 32) : Fin 2 → Nat :=
  let v748 : Index := Scalar.indexCast v743
  let c16_252 : Index := 16#32
  ![v748.toNat, 16]
def k0_off388 (v743 : BitVec 32) : Fin 2 → Nat :=
  let v752 : Index := Scalar.indexCast v743
  let c32_253 : Index := 32#32
  ![v752.toNat, 32]
def k0_off389 (v743 : BitVec 32) : Fin 2 → Nat :=
  let v756 : Index := Scalar.indexCast v743
  let c48_254 : Index := 48#32
  ![v756.toNat, 48]

def k0_chk92 (v743 : BitVec 32) : Prop :=
  (∀ a, (k0_off386 v743) a + S1x16.size a ≤ S704x64.size a) ∧
  (∀ a, (k0_off387 v743) a + S1x16.size a ≤ S704x64.size a) ∧
  (∀ a, (k0_off388 v743) a + S1x16.size a ≤ S704x64.size a) ∧
  (∀ a, (k0_off389 v743) a + S1x16.size a ≤ S704x64.size a)
theorem k0_off386_inb : ∀ (v743 : BitVec 32) (k0_hw92 : k0_chk92 v743), ∀ a, (k0_off386 v743) a + S1x16.size a ≤ S704x64.size a := fun v743 k0_hw92 => k0_hw92.1
theorem k0_off387_inb : ∀ (v743 : BitVec 32) (k0_hw92 : k0_chk92 v743), ∀ a, (k0_off387 v743) a + S1x16.size a ≤ S704x64.size a := fun v743 k0_hw92 => k0_hw92.2.1
theorem k0_off388_inb : ∀ (v743 : BitVec 32) (k0_hw92 : k0_chk92 v743), ∀ a, (k0_off388 v743) a + S1x16.size a ≤ S704x64.size a := fun v743 k0_hw92 => k0_hw92.2.2.1
theorem k0_off389_inb : ∀ (v743 : BitVec 32) (k0_hw92 : k0_chk92 v743), ∀ a, (k0_off389 v743) a + S1x16.size a ≤ S704x64.size a := fun v743 k0_hw92 => k0_hw92.2.2.2

def k0_off390 (v764 : BitVec 32) : Fin 2 → Nat :=
  let v765 : Index := Scalar.indexCast v764
  let c0_255 : Index := 0#32
  ![v765.toNat, 0]

def k0_off391 (v764 : BitVec 32) : Fin 2 → Nat :=
  let v769 : Index := Scalar.indexCast v764
  let c16_256 : Index := 16#32
  ![v769.toNat, 16]
def k0_off392 (v764 : BitVec 32) : Fin 2 → Nat :=
  let v773 : Index := Scalar.indexCast v764
  let c32_257 : Index := 32#32
  ![v773.toNat, 32]
def k0_off393 (v764 : BitVec 32) : Fin 2 → Nat :=
  let v777 : Index := Scalar.indexCast v764
  let c48_258 : Index := 48#32
  ![v777.toNat, 48]

def k0_chk93 (v764 : BitVec 32) : Prop :=
  (∀ a, (k0_off390 v764) a + S1x16.size a ≤ S704x64.size a) ∧
  (∀ a, (k0_off391 v764) a + S1x16.size a ≤ S704x64.size a) ∧
  (∀ a, (k0_off392 v764) a + S1x16.size a ≤ S704x64.size a) ∧
  (∀ a, (k0_off393 v764) a + S1x16.size a ≤ S704x64.size a)
theorem k0_off390_inb : ∀ (v764 : BitVec 32) (k0_hw93 : k0_chk93 v764), ∀ a, (k0_off390 v764) a + S1x16.size a ≤ S704x64.size a := fun v764 k0_hw93 => k0_hw93.1
theorem k0_off391_inb : ∀ (v764 : BitVec 32) (k0_hw93 : k0_chk93 v764), ∀ a, (k0_off391 v764) a + S1x16.size a ≤ S704x64.size a := fun v764 k0_hw93 => k0_hw93.2.1
theorem k0_off392_inb : ∀ (v764 : BitVec 32) (k0_hw93 : k0_chk93 v764), ∀ a, (k0_off392 v764) a + S1x16.size a ≤ S704x64.size a := fun v764 k0_hw93 => k0_hw93.2.2.1
theorem k0_off393_inb : ∀ (v764 : BitVec 32) (k0_hw93 : k0_chk93 v764), ∀ a, (k0_off393 v764) a + S1x16.size a ≤ S704x64.size a := fun v764 k0_hw93 => k0_hw93.2.2.2

def k0_off394 (v785 : BitVec 32) : Fin 2 → Nat :=
  let v786 : Index := Scalar.indexCast v785
  let c0_259 : Index := 0#32
  ![v786.toNat, 0]

def k0_off395 (v785 : BitVec 32) : Fin 2 → Nat :=
  let v790 : Index := Scalar.indexCast v785
  let c16_260 : Index := 16#32
  ![v790.toNat, 16]
def k0_off396 (v785 : BitVec 32) : Fin 2 → Nat :=
  let v794 : Index := Scalar.indexCast v785
  let c32_261 : Index := 32#32
  ![v794.toNat, 32]
def k0_off397 (v785 : BitVec 32) : Fin 2 → Nat :=
  let v798 : Index := Scalar.indexCast v785
  let c48_262 : Index := 48#32
  ![v798.toNat, 48]

def k0_chk94 (v785 : BitVec 32) : Prop :=
  (∀ a, (k0_off394 v785) a + S1x16.size a ≤ S704x64.size a) ∧
  (∀ a, (k0_off395 v785) a + S1x16.size a ≤ S704x64.size a) ∧
  (∀ a, (k0_off396 v785) a + S1x16.size a ≤ S704x64.size a) ∧
  (∀ a, (k0_off397 v785) a + S1x16.size a ≤ S704x64.size a)
theorem k0_off394_inb : ∀ (v785 : BitVec 32) (k0_hw94 : k0_chk94 v785), ∀ a, (k0_off394 v785) a + S1x16.size a ≤ S704x64.size a := fun v785 k0_hw94 => k0_hw94.1
theorem k0_off395_inb : ∀ (v785 : BitVec 32) (k0_hw94 : k0_chk94 v785), ∀ a, (k0_off395 v785) a + S1x16.size a ≤ S704x64.size a := fun v785 k0_hw94 => k0_hw94.2.1
theorem k0_off396_inb : ∀ (v785 : BitVec 32) (k0_hw94 : k0_chk94 v785), ∀ a, (k0_off396 v785) a + S1x16.size a ≤ S704x64.size a := fun v785 k0_hw94 => k0_hw94.2.2.1
theorem k0_off397_inb : ∀ (v785 : BitVec 32) (k0_hw94 : k0_chk94 v785), ∀ a, (k0_off397 v785) a + S1x16.size a ≤ S704x64.size a := fun v785 k0_hw94 => k0_hw94.2.2.2

def k0_off398 (v806 : BitVec 32) : Fin 2 → Nat :=
  let v807 : Index := Scalar.indexCast v806
  let c0_263 : Index := 0#32
  ![v807.toNat, 0]

def k0_off399 (v806 : BitVec 32) : Fin 2 → Nat :=
  let v811 : Index := Scalar.indexCast v806
  let c16_264 : Index := 16#32
  ![v811.toNat, 16]
def k0_off400 (v806 : BitVec 32) : Fin 2 → Nat :=
  let v815 : Index := Scalar.indexCast v806
  let c32_265 : Index := 32#32
  ![v815.toNat, 32]
def k0_off401 (v806 : BitVec 32) : Fin 2 → Nat :=
  let v819 : Index := Scalar.indexCast v806
  let c48_266 : Index := 48#32
  ![v819.toNat, 48]

def k0_chk95 (v806 : BitVec 32) : Prop :=
  (∀ a, (k0_off398 v806) a + S1x16.size a ≤ S704x64.size a) ∧
  (∀ a, (k0_off399 v806) a + S1x16.size a ≤ S704x64.size a) ∧
  (∀ a, (k0_off400 v806) a + S1x16.size a ≤ S704x64.size a) ∧
  (∀ a, (k0_off401 v806) a + S1x16.size a ≤ S704x64.size a)
theorem k0_off398_inb : ∀ (v806 : BitVec 32) (k0_hw95 : k0_chk95 v806), ∀ a, (k0_off398 v806) a + S1x16.size a ≤ S704x64.size a := fun v806 k0_hw95 => k0_hw95.1
theorem k0_off399_inb : ∀ (v806 : BitVec 32) (k0_hw95 : k0_chk95 v806), ∀ a, (k0_off399 v806) a + S1x16.size a ≤ S704x64.size a := fun v806 k0_hw95 => k0_hw95.2.1
theorem k0_off400_inb : ∀ (v806 : BitVec 32) (k0_hw95 : k0_chk95 v806), ∀ a, (k0_off400 v806) a + S1x16.size a ≤ S704x64.size a := fun v806 k0_hw95 => k0_hw95.2.2.1
theorem k0_off401_inb : ∀ (v806 : BitVec 32) (k0_hw95 : k0_chk95 v806), ∀ a, (k0_off401 v806) a + S1x16.size a ≤ S704x64.size a := fun v806 k0_hw95 => k0_hw95.2.2.2

def k0_off402 (v827 : BitVec 32) : Fin 2 → Nat :=
  let v828 : Index := Scalar.indexCast v827
  let c0_267 : Index := 0#32
  ![v828.toNat, 0]

def k0_off403 (v827 : BitVec 32) : Fin 2 → Nat :=
  let v832 : Index := Scalar.indexCast v827
  let c16_268 : Index := 16#32
  ![v832.toNat, 16]
def k0_off404 (v827 : BitVec 32) : Fin 2 → Nat :=
  let v836 : Index := Scalar.indexCast v827
  let c32_269 : Index := 32#32
  ![v836.toNat, 32]
def k0_off405 (v827 : BitVec 32) : Fin 2 → Nat :=
  let v840 : Index := Scalar.indexCast v827
  let c48_270 : Index := 48#32
  ![v840.toNat, 48]

def k0_chk96 (v827 : BitVec 32) : Prop :=
  (∀ a, (k0_off402 v827) a + S1x16.size a ≤ S704x64.size a) ∧
  (∀ a, (k0_off403 v827) a + S1x16.size a ≤ S704x64.size a) ∧
  (∀ a, (k0_off404 v827) a + S1x16.size a ≤ S704x64.size a) ∧
  (∀ a, (k0_off405 v827) a + S1x16.size a ≤ S704x64.size a)
theorem k0_off402_inb : ∀ (v827 : BitVec 32) (k0_hw96 : k0_chk96 v827), ∀ a, (k0_off402 v827) a + S1x16.size a ≤ S704x64.size a := fun v827 k0_hw96 => k0_hw96.1
theorem k0_off403_inb : ∀ (v827 : BitVec 32) (k0_hw96 : k0_chk96 v827), ∀ a, (k0_off403 v827) a + S1x16.size a ≤ S704x64.size a := fun v827 k0_hw96 => k0_hw96.2.1
theorem k0_off404_inb : ∀ (v827 : BitVec 32) (k0_hw96 : k0_chk96 v827), ∀ a, (k0_off404 v827) a + S1x16.size a ≤ S704x64.size a := fun v827 k0_hw96 => k0_hw96.2.2.1
theorem k0_off405_inb : ∀ (v827 : BitVec 32) (k0_hw96 : k0_chk96 v827), ∀ a, (k0_off405 v827) a + S1x16.size a ≤ S704x64.size a := fun v827 k0_hw96 => k0_hw96.2.2.2

def k0_off406 (v848 : BitVec 32) : Fin 2 → Nat :=
  let v849 : Index := Scalar.indexCast v848
  let c0_271 : Index := 0#32
  ![v849.toNat, 0]

def k0_off407 (v848 : BitVec 32) : Fin 2 → Nat :=
  let v853 : Index := Scalar.indexCast v848
  let c16_272 : Index := 16#32
  ![v853.toNat, 16]
def k0_off408 (v848 : BitVec 32) : Fin 2 → Nat :=
  let v857 : Index := Scalar.indexCast v848
  let c32_273 : Index := 32#32
  ![v857.toNat, 32]
def k0_off409 (v848 : BitVec 32) : Fin 2 → Nat :=
  let v861 : Index := Scalar.indexCast v848
  let c48_274 : Index := 48#32
  ![v861.toNat, 48]

def k0_chk97 (v848 : BitVec 32) : Prop :=
  (∀ a, (k0_off406 v848) a + S1x16.size a ≤ S704x64.size a) ∧
  (∀ a, (k0_off407 v848) a + S1x16.size a ≤ S704x64.size a) ∧
  (∀ a, (k0_off408 v848) a + S1x16.size a ≤ S704x64.size a) ∧
  (∀ a, (k0_off409 v848) a + S1x16.size a ≤ S704x64.size a)
theorem k0_off406_inb : ∀ (v848 : BitVec 32) (k0_hw97 : k0_chk97 v848), ∀ a, (k0_off406 v848) a + S1x16.size a ≤ S704x64.size a := fun v848 k0_hw97 => k0_hw97.1
theorem k0_off407_inb : ∀ (v848 : BitVec 32) (k0_hw97 : k0_chk97 v848), ∀ a, (k0_off407 v848) a + S1x16.size a ≤ S704x64.size a := fun v848 k0_hw97 => k0_hw97.2.1
theorem k0_off408_inb : ∀ (v848 : BitVec 32) (k0_hw97 : k0_chk97 v848), ∀ a, (k0_off408 v848) a + S1x16.size a ≤ S704x64.size a := fun v848 k0_hw97 => k0_hw97.2.2.1
theorem k0_off409_inb : ∀ (v848 : BitVec 32) (k0_hw97 : k0_chk97 v848), ∀ a, (k0_off409 v848) a + S1x16.size a ≤ S704x64.size a := fun v848 k0_hw97 => k0_hw97.2.2.2

def k0_off410 (v869 : BitVec 32) : Fin 2 → Nat :=
  let v870 : Index := Scalar.indexCast v869
  let c0_275 : Index := 0#32
  ![v870.toNat, 0]

def k0_off411 (v869 : BitVec 32) : Fin 2 → Nat :=
  let v874 : Index := Scalar.indexCast v869
  let c16_276 : Index := 16#32
  ![v874.toNat, 16]
def k0_off412 (v869 : BitVec 32) : Fin 2 → Nat :=
  let v878 : Index := Scalar.indexCast v869
  let c32_277 : Index := 32#32
  ![v878.toNat, 32]
def k0_off413 (v869 : BitVec 32) : Fin 2 → Nat :=
  let v882 : Index := Scalar.indexCast v869
  let c48_278 : Index := 48#32
  ![v882.toNat, 48]

def k0_chk98 (v869 : BitVec 32) : Prop :=
  (∀ a, (k0_off410 v869) a + S1x16.size a ≤ S704x64.size a) ∧
  (∀ a, (k0_off411 v869) a + S1x16.size a ≤ S704x64.size a) ∧
  (∀ a, (k0_off412 v869) a + S1x16.size a ≤ S704x64.size a) ∧
  (∀ a, (k0_off413 v869) a + S1x16.size a ≤ S704x64.size a)
theorem k0_off410_inb : ∀ (v869 : BitVec 32) (k0_hw98 : k0_chk98 v869), ∀ a, (k0_off410 v869) a + S1x16.size a ≤ S704x64.size a := fun v869 k0_hw98 => k0_hw98.1
theorem k0_off411_inb : ∀ (v869 : BitVec 32) (k0_hw98 : k0_chk98 v869), ∀ a, (k0_off411 v869) a + S1x16.size a ≤ S704x64.size a := fun v869 k0_hw98 => k0_hw98.2.1
theorem k0_off412_inb : ∀ (v869 : BitVec 32) (k0_hw98 : k0_chk98 v869), ∀ a, (k0_off412 v869) a + S1x16.size a ≤ S704x64.size a := fun v869 k0_hw98 => k0_hw98.2.2.1
theorem k0_off413_inb : ∀ (v869 : BitVec 32) (k0_hw98 : k0_chk98 v869), ∀ a, (k0_off413 v869) a + S1x16.size a ≤ S704x64.size a := fun v869 k0_hw98 => k0_hw98.2.2.2

def k0_off414 (v890 : BitVec 32) : Fin 2 → Nat :=
  let v891 : Index := Scalar.indexCast v890
  let c0_279 : Index := 0#32
  ![v891.toNat, 0]

def k0_off415 (v890 : BitVec 32) : Fin 2 → Nat :=
  let v895 : Index := Scalar.indexCast v890
  let c16_280 : Index := 16#32
  ![v895.toNat, 16]
def k0_off416 (v890 : BitVec 32) : Fin 2 → Nat :=
  let v899 : Index := Scalar.indexCast v890
  let c32_281 : Index := 32#32
  ![v899.toNat, 32]
def k0_off417 (v890 : BitVec 32) : Fin 2 → Nat :=
  let v903 : Index := Scalar.indexCast v890
  let c48_282 : Index := 48#32
  ![v903.toNat, 48]

def k0_chk99 (v890 : BitVec 32) : Prop :=
  (∀ a, (k0_off414 v890) a + S1x16.size a ≤ S704x64.size a) ∧
  (∀ a, (k0_off415 v890) a + S1x16.size a ≤ S704x64.size a) ∧
  (∀ a, (k0_off416 v890) a + S1x16.size a ≤ S704x64.size a) ∧
  (∀ a, (k0_off417 v890) a + S1x16.size a ≤ S704x64.size a)
theorem k0_off414_inb : ∀ (v890 : BitVec 32) (k0_hw99 : k0_chk99 v890), ∀ a, (k0_off414 v890) a + S1x16.size a ≤ S704x64.size a := fun v890 k0_hw99 => k0_hw99.1
theorem k0_off415_inb : ∀ (v890 : BitVec 32) (k0_hw99 : k0_chk99 v890), ∀ a, (k0_off415 v890) a + S1x16.size a ≤ S704x64.size a := fun v890 k0_hw99 => k0_hw99.2.1
theorem k0_off416_inb : ∀ (v890 : BitVec 32) (k0_hw99 : k0_chk99 v890), ∀ a, (k0_off416 v890) a + S1x16.size a ≤ S704x64.size a := fun v890 k0_hw99 => k0_hw99.2.2.1
theorem k0_off417_inb : ∀ (v890 : BitVec 32) (k0_hw99 : k0_chk99 v890), ∀ a, (k0_off417 v890) a + S1x16.size a ≤ S704x64.size a := fun v890 k0_hw99 => k0_hw99.2.2.2

def k0_off418 (k0_t2 : Fin k0_t2_loop.trips) : Fin 2 → Nat :=
  let c2_i32_143 : BitVec 32 := 2#32
  let c0_i32_43 : BitVec 32 := 0#32
  let c1_i32_45 : BitVec 32 := 1#32
  let arg13 : BitVec 32 := Scf.iv c0_i32_43 c1_i32_45 k0_t2
  let v189 : BitVec 32 := Scalar.muli c2_i32_143 arg13
  let v907 : Index := Scalar.indexCast v189
  let c0_283 : Index := 0#32
  ![v907.toNat, 0]
def k0_off419 (k0_t2 : Fin k0_t2_loop.trips) : Fin 2 → Nat :=
  let c2_i32_143 : BitVec 32 := 2#32
  let c0_i32_43 : BitVec 32 := 0#32
  let c1_i32_45 : BitVec 32 := 1#32
  let arg13 : BitVec 32 := Scf.iv c0_i32_43 c1_i32_45 k0_t2
  let v189 : BitVec 32 := Scalar.muli c2_i32_143 arg13
  let v909 : Index := Scalar.indexCast v189
  let c16_284 : Index := 16#32
  ![v909.toNat, 16]
def k0_off420 (k0_t2 : Fin k0_t2_loop.trips) : Fin 2 → Nat :=
  let c2_i32_143 : BitVec 32 := 2#32
  let c0_i32_43 : BitVec 32 := 0#32
  let c1_i32_45 : BitVec 32 := 1#32
  let arg13 : BitVec 32 := Scf.iv c0_i32_43 c1_i32_45 k0_t2
  let v189 : BitVec 32 := Scalar.muli c2_i32_143 arg13
  let v911 : Index := Scalar.indexCast v189
  let c32_285 : Index := 32#32
  ![v911.toNat, 32]
def k0_off421 (k0_t2 : Fin k0_t2_loop.trips) : Fin 2 → Nat :=
  let c2_i32_143 : BitVec 32 := 2#32
  let c0_i32_43 : BitVec 32 := 0#32
  let c1_i32_45 : BitVec 32 := 1#32
  let arg13 : BitVec 32 := Scf.iv c0_i32_43 c1_i32_45 k0_t2
  let v189 : BitVec 32 := Scalar.muli c2_i32_143 arg13
  let v913 : Index := Scalar.indexCast v189
  let c48_286 : Index := 48#32
  ![v913.toNat, 48]
def k0_off422 (k0_t2 : Fin k0_t2_loop.trips) : Fin 2 → Nat :=
  let c2_i32_144 : BitVec 32 := 2#32
  let c0_i32_43 : BitVec 32 := 0#32
  let c1_i32_45 : BitVec 32 := 1#32
  let arg13 : BitVec 32 := Scf.iv c0_i32_43 c1_i32_45 k0_t2
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off423 (k0_t2 : Fin k0_t2_loop.trips) : Fin 2 → Nat :=
  let c2_i32_144 : BitVec 32 := 2#32
  let c0_i32_43 : BitVec 32 := 0#32
  let c1_i32_45 : BitVec 32 := 1#32
  let arg13 : BitVec 32 := Scf.iv c0_i32_43 c1_i32_45 k0_t2
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off424 (k0_t2 : Fin k0_t2_loop.trips) : Fin 2 → Nat :=
  let c2_i32_144 : BitVec 32 := 2#32
  let c0_i32_43 : BitVec 32 := 0#32
  let c1_i32_45 : BitVec 32 := 1#32
  let arg13 : BitVec 32 := Scf.iv c0_i32_43 c1_i32_45 k0_t2
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off425 (v941 : BitVec 32) : Fin 2 → Nat :=
  let v942 : Index := Scalar.indexCast v941
  let c0_297 : Index := 0#32
  ![v942.toNat, 0]

def k0_off426 (v941 : BitVec 32) : Fin 2 → Nat :=
  let v946 : Index := Scalar.indexCast v941
  let c16_298 : Index := 16#32
  ![v946.toNat, 16]
def k0_off427 (v941 : BitVec 32) : Fin 2 → Nat :=
  let v950 : Index := Scalar.indexCast v941
  let c32_299 : Index := 32#32
  ![v950.toNat, 32]
def k0_off428 (v941 : BitVec 32) : Fin 2 → Nat :=
  let v954 : Index := Scalar.indexCast v941
  let c48_300 : Index := 48#32
  ![v954.toNat, 48]

def k0_chk100 (v941 : BitVec 32) : Prop :=
  (∀ a, (k0_off425 v941) a + S1x16.size a ≤ S704x64.size a) ∧
  (∀ a, (k0_off426 v941) a + S1x16.size a ≤ S704x64.size a) ∧
  (∀ a, (k0_off427 v941) a + S1x16.size a ≤ S704x64.size a) ∧
  (∀ a, (k0_off428 v941) a + S1x16.size a ≤ S704x64.size a)
theorem k0_off425_inb : ∀ (v941 : BitVec 32) (k0_hw100 : k0_chk100 v941), ∀ a, (k0_off425 v941) a + S1x16.size a ≤ S704x64.size a := fun v941 k0_hw100 => k0_hw100.1
theorem k0_off426_inb : ∀ (v941 : BitVec 32) (k0_hw100 : k0_chk100 v941), ∀ a, (k0_off426 v941) a + S1x16.size a ≤ S704x64.size a := fun v941 k0_hw100 => k0_hw100.2.1
theorem k0_off427_inb : ∀ (v941 : BitVec 32) (k0_hw100 : k0_chk100 v941), ∀ a, (k0_off427 v941) a + S1x16.size a ≤ S704x64.size a := fun v941 k0_hw100 => k0_hw100.2.2.1
theorem k0_off428_inb : ∀ (v941 : BitVec 32) (k0_hw100 : k0_chk100 v941), ∀ a, (k0_off428 v941) a + S1x16.size a ≤ S704x64.size a := fun v941 k0_hw100 => k0_hw100.2.2.2

def k0_off429 (v962 : BitVec 32) : Fin 2 → Nat :=
  let v963 : Index := Scalar.indexCast v962
  let c0_301 : Index := 0#32
  ![v963.toNat, 0]

def k0_off430 (v962 : BitVec 32) : Fin 2 → Nat :=
  let v967 : Index := Scalar.indexCast v962
  let c16_302 : Index := 16#32
  ![v967.toNat, 16]
def k0_off431 (v962 : BitVec 32) : Fin 2 → Nat :=
  let v971 : Index := Scalar.indexCast v962
  let c32_303 : Index := 32#32
  ![v971.toNat, 32]
def k0_off432 (v962 : BitVec 32) : Fin 2 → Nat :=
  let v975 : Index := Scalar.indexCast v962
  let c48_304 : Index := 48#32
  ![v975.toNat, 48]

def k0_chk101 (v962 : BitVec 32) : Prop :=
  (∀ a, (k0_off429 v962) a + S1x16.size a ≤ S704x64.size a) ∧
  (∀ a, (k0_off430 v962) a + S1x16.size a ≤ S704x64.size a) ∧
  (∀ a, (k0_off431 v962) a + S1x16.size a ≤ S704x64.size a) ∧
  (∀ a, (k0_off432 v962) a + S1x16.size a ≤ S704x64.size a)
theorem k0_off429_inb : ∀ (v962 : BitVec 32) (k0_hw101 : k0_chk101 v962), ∀ a, (k0_off429 v962) a + S1x16.size a ≤ S704x64.size a := fun v962 k0_hw101 => k0_hw101.1
theorem k0_off430_inb : ∀ (v962 : BitVec 32) (k0_hw101 : k0_chk101 v962), ∀ a, (k0_off430 v962) a + S1x16.size a ≤ S704x64.size a := fun v962 k0_hw101 => k0_hw101.2.1
theorem k0_off431_inb : ∀ (v962 : BitVec 32) (k0_hw101 : k0_chk101 v962), ∀ a, (k0_off431 v962) a + S1x16.size a ≤ S704x64.size a := fun v962 k0_hw101 => k0_hw101.2.2.1
theorem k0_off432_inb : ∀ (v962 : BitVec 32) (k0_hw101 : k0_chk101 v962), ∀ a, (k0_off432 v962) a + S1x16.size a ≤ S704x64.size a := fun v962 k0_hw101 => k0_hw101.2.2.2

def k0_off433 (v983 : BitVec 32) : Fin 2 → Nat :=
  let v984 : Index := Scalar.indexCast v983
  let c0_305 : Index := 0#32
  ![v984.toNat, 0]

def k0_off434 (v983 : BitVec 32) : Fin 2 → Nat :=
  let v988 : Index := Scalar.indexCast v983
  let c16_306 : Index := 16#32
  ![v988.toNat, 16]
def k0_off435 (v983 : BitVec 32) : Fin 2 → Nat :=
  let v992 : Index := Scalar.indexCast v983
  let c32_307 : Index := 32#32
  ![v992.toNat, 32]
def k0_off436 (v983 : BitVec 32) : Fin 2 → Nat :=
  let v996 : Index := Scalar.indexCast v983
  let c48_308 : Index := 48#32
  ![v996.toNat, 48]

def k0_chk102 (v983 : BitVec 32) : Prop :=
  (∀ a, (k0_off433 v983) a + S1x16.size a ≤ S704x64.size a) ∧
  (∀ a, (k0_off434 v983) a + S1x16.size a ≤ S704x64.size a) ∧
  (∀ a, (k0_off435 v983) a + S1x16.size a ≤ S704x64.size a) ∧
  (∀ a, (k0_off436 v983) a + S1x16.size a ≤ S704x64.size a)
theorem k0_off433_inb : ∀ (v983 : BitVec 32) (k0_hw102 : k0_chk102 v983), ∀ a, (k0_off433 v983) a + S1x16.size a ≤ S704x64.size a := fun v983 k0_hw102 => k0_hw102.1
theorem k0_off434_inb : ∀ (v983 : BitVec 32) (k0_hw102 : k0_chk102 v983), ∀ a, (k0_off434 v983) a + S1x16.size a ≤ S704x64.size a := fun v983 k0_hw102 => k0_hw102.2.1
theorem k0_off435_inb : ∀ (v983 : BitVec 32) (k0_hw102 : k0_chk102 v983), ∀ a, (k0_off435 v983) a + S1x16.size a ≤ S704x64.size a := fun v983 k0_hw102 => k0_hw102.2.2.1
theorem k0_off436_inb : ∀ (v983 : BitVec 32) (k0_hw102 : k0_chk102 v983), ∀ a, (k0_off436 v983) a + S1x16.size a ≤ S704x64.size a := fun v983 k0_hw102 => k0_hw102.2.2.2

def k0_off437 (v1004 : BitVec 32) : Fin 2 → Nat :=
  let v1005 : Index := Scalar.indexCast v1004
  let c0_309 : Index := 0#32
  ![v1005.toNat, 0]

def k0_off438 (v1004 : BitVec 32) : Fin 2 → Nat :=
  let v1009 : Index := Scalar.indexCast v1004
  let c16_310 : Index := 16#32
  ![v1009.toNat, 16]
def k0_off439 (v1004 : BitVec 32) : Fin 2 → Nat :=
  let v1013 : Index := Scalar.indexCast v1004
  let c32_311 : Index := 32#32
  ![v1013.toNat, 32]
def k0_off440 (v1004 : BitVec 32) : Fin 2 → Nat :=
  let v1017 : Index := Scalar.indexCast v1004
  let c48_312 : Index := 48#32
  ![v1017.toNat, 48]

def k0_chk103 (v1004 : BitVec 32) : Prop :=
  (∀ a, (k0_off437 v1004) a + S1x16.size a ≤ S704x64.size a) ∧
  (∀ a, (k0_off438 v1004) a + S1x16.size a ≤ S704x64.size a) ∧
  (∀ a, (k0_off439 v1004) a + S1x16.size a ≤ S704x64.size a) ∧
  (∀ a, (k0_off440 v1004) a + S1x16.size a ≤ S704x64.size a)
theorem k0_off437_inb : ∀ (v1004 : BitVec 32) (k0_hw103 : k0_chk103 v1004), ∀ a, (k0_off437 v1004) a + S1x16.size a ≤ S704x64.size a := fun v1004 k0_hw103 => k0_hw103.1
theorem k0_off438_inb : ∀ (v1004 : BitVec 32) (k0_hw103 : k0_chk103 v1004), ∀ a, (k0_off438 v1004) a + S1x16.size a ≤ S704x64.size a := fun v1004 k0_hw103 => k0_hw103.2.1
theorem k0_off439_inb : ∀ (v1004 : BitVec 32) (k0_hw103 : k0_chk103 v1004), ∀ a, (k0_off439 v1004) a + S1x16.size a ≤ S704x64.size a := fun v1004 k0_hw103 => k0_hw103.2.2.1
theorem k0_off440_inb : ∀ (v1004 : BitVec 32) (k0_hw103 : k0_chk103 v1004), ∀ a, (k0_off440 v1004) a + S1x16.size a ≤ S704x64.size a := fun v1004 k0_hw103 => k0_hw103.2.2.2

def k0_off441 (v1025 : BitVec 32) : Fin 2 → Nat :=
  let v1026 : Index := Scalar.indexCast v1025
  let c0_313 : Index := 0#32
  ![v1026.toNat, 0]

def k0_off442 (v1025 : BitVec 32) : Fin 2 → Nat :=
  let v1030 : Index := Scalar.indexCast v1025
  let c16_314 : Index := 16#32
  ![v1030.toNat, 16]
def k0_off443 (v1025 : BitVec 32) : Fin 2 → Nat :=
  let v1034 : Index := Scalar.indexCast v1025
  let c32_315 : Index := 32#32
  ![v1034.toNat, 32]
def k0_off444 (v1025 : BitVec 32) : Fin 2 → Nat :=
  let v1038 : Index := Scalar.indexCast v1025
  let c48_316 : Index := 48#32
  ![v1038.toNat, 48]

def k0_chk104 (v1025 : BitVec 32) : Prop :=
  (∀ a, (k0_off441 v1025) a + S1x16.size a ≤ S704x64.size a) ∧
  (∀ a, (k0_off442 v1025) a + S1x16.size a ≤ S704x64.size a) ∧
  (∀ a, (k0_off443 v1025) a + S1x16.size a ≤ S704x64.size a) ∧
  (∀ a, (k0_off444 v1025) a + S1x16.size a ≤ S704x64.size a)
theorem k0_off441_inb : ∀ (v1025 : BitVec 32) (k0_hw104 : k0_chk104 v1025), ∀ a, (k0_off441 v1025) a + S1x16.size a ≤ S704x64.size a := fun v1025 k0_hw104 => k0_hw104.1
theorem k0_off442_inb : ∀ (v1025 : BitVec 32) (k0_hw104 : k0_chk104 v1025), ∀ a, (k0_off442 v1025) a + S1x16.size a ≤ S704x64.size a := fun v1025 k0_hw104 => k0_hw104.2.1
theorem k0_off443_inb : ∀ (v1025 : BitVec 32) (k0_hw104 : k0_chk104 v1025), ∀ a, (k0_off443 v1025) a + S1x16.size a ≤ S704x64.size a := fun v1025 k0_hw104 => k0_hw104.2.2.1
theorem k0_off444_inb : ∀ (v1025 : BitVec 32) (k0_hw104 : k0_chk104 v1025), ∀ a, (k0_off444 v1025) a + S1x16.size a ≤ S704x64.size a := fun v1025 k0_hw104 => k0_hw104.2.2.2

def k0_off445 (v1046 : BitVec 32) : Fin 2 → Nat :=
  let v1047 : Index := Scalar.indexCast v1046
  let c0_317 : Index := 0#32
  ![v1047.toNat, 0]

def k0_off446 (v1046 : BitVec 32) : Fin 2 → Nat :=
  let v1051 : Index := Scalar.indexCast v1046
  let c16_318 : Index := 16#32
  ![v1051.toNat, 16]
def k0_off447 (v1046 : BitVec 32) : Fin 2 → Nat :=
  let v1055 : Index := Scalar.indexCast v1046
  let c32_319 : Index := 32#32
  ![v1055.toNat, 32]
def k0_off448 (v1046 : BitVec 32) : Fin 2 → Nat :=
  let v1059 : Index := Scalar.indexCast v1046
  let c48_320 : Index := 48#32
  ![v1059.toNat, 48]

def k0_chk105 (v1046 : BitVec 32) : Prop :=
  (∀ a, (k0_off445 v1046) a + S1x16.size a ≤ S704x64.size a) ∧
  (∀ a, (k0_off446 v1046) a + S1x16.size a ≤ S704x64.size a) ∧
  (∀ a, (k0_off447 v1046) a + S1x16.size a ≤ S704x64.size a) ∧
  (∀ a, (k0_off448 v1046) a + S1x16.size a ≤ S704x64.size a)
theorem k0_off445_inb : ∀ (v1046 : BitVec 32) (k0_hw105 : k0_chk105 v1046), ∀ a, (k0_off445 v1046) a + S1x16.size a ≤ S704x64.size a := fun v1046 k0_hw105 => k0_hw105.1
theorem k0_off446_inb : ∀ (v1046 : BitVec 32) (k0_hw105 : k0_chk105 v1046), ∀ a, (k0_off446 v1046) a + S1x16.size a ≤ S704x64.size a := fun v1046 k0_hw105 => k0_hw105.2.1
theorem k0_off447_inb : ∀ (v1046 : BitVec 32) (k0_hw105 : k0_chk105 v1046), ∀ a, (k0_off447 v1046) a + S1x16.size a ≤ S704x64.size a := fun v1046 k0_hw105 => k0_hw105.2.2.1
theorem k0_off448_inb : ∀ (v1046 : BitVec 32) (k0_hw105 : k0_chk105 v1046), ∀ a, (k0_off448 v1046) a + S1x16.size a ≤ S704x64.size a := fun v1046 k0_hw105 => k0_hw105.2.2.2

def k0_off449 (v1067 : BitVec 32) : Fin 2 → Nat :=
  let v1068 : Index := Scalar.indexCast v1067
  let c0_321 : Index := 0#32
  ![v1068.toNat, 0]

def k0_off450 (v1067 : BitVec 32) : Fin 2 → Nat :=
  let v1072 : Index := Scalar.indexCast v1067
  let c16_322 : Index := 16#32
  ![v1072.toNat, 16]
def k0_off451 (v1067 : BitVec 32) : Fin 2 → Nat :=
  let v1076 : Index := Scalar.indexCast v1067
  let c32_323 : Index := 32#32
  ![v1076.toNat, 32]
def k0_off452 (v1067 : BitVec 32) : Fin 2 → Nat :=
  let v1080 : Index := Scalar.indexCast v1067
  let c48_324 : Index := 48#32
  ![v1080.toNat, 48]

def k0_chk106 (v1067 : BitVec 32) : Prop :=
  (∀ a, (k0_off449 v1067) a + S1x16.size a ≤ S704x64.size a) ∧
  (∀ a, (k0_off450 v1067) a + S1x16.size a ≤ S704x64.size a) ∧
  (∀ a, (k0_off451 v1067) a + S1x16.size a ≤ S704x64.size a) ∧
  (∀ a, (k0_off452 v1067) a + S1x16.size a ≤ S704x64.size a)
theorem k0_off449_inb : ∀ (v1067 : BitVec 32) (k0_hw106 : k0_chk106 v1067), ∀ a, (k0_off449 v1067) a + S1x16.size a ≤ S704x64.size a := fun v1067 k0_hw106 => k0_hw106.1
theorem k0_off450_inb : ∀ (v1067 : BitVec 32) (k0_hw106 : k0_chk106 v1067), ∀ a, (k0_off450 v1067) a + S1x16.size a ≤ S704x64.size a := fun v1067 k0_hw106 => k0_hw106.2.1
theorem k0_off451_inb : ∀ (v1067 : BitVec 32) (k0_hw106 : k0_chk106 v1067), ∀ a, (k0_off451 v1067) a + S1x16.size a ≤ S704x64.size a := fun v1067 k0_hw106 => k0_hw106.2.2.1
theorem k0_off452_inb : ∀ (v1067 : BitVec 32) (k0_hw106 : k0_chk106 v1067), ∀ a, (k0_off452 v1067) a + S1x16.size a ≤ S704x64.size a := fun v1067 k0_hw106 => k0_hw106.2.2.2

def k0_off453 (v1088 : BitVec 32) : Fin 2 → Nat :=
  let v1089 : Index := Scalar.indexCast v1088
  let c0_325 : Index := 0#32
  ![v1089.toNat, 0]

def k0_off454 (v1088 : BitVec 32) : Fin 2 → Nat :=
  let v1093 : Index := Scalar.indexCast v1088
  let c16_326 : Index := 16#32
  ![v1093.toNat, 16]
def k0_off455 (v1088 : BitVec 32) : Fin 2 → Nat :=
  let v1097 : Index := Scalar.indexCast v1088
  let c32_327 : Index := 32#32
  ![v1097.toNat, 32]
def k0_off456 (v1088 : BitVec 32) : Fin 2 → Nat :=
  let v1101 : Index := Scalar.indexCast v1088
  let c48_328 : Index := 48#32
  ![v1101.toNat, 48]

def k0_chk107 (v1088 : BitVec 32) : Prop :=
  (∀ a, (k0_off453 v1088) a + S1x16.size a ≤ S704x64.size a) ∧
  (∀ a, (k0_off454 v1088) a + S1x16.size a ≤ S704x64.size a) ∧
  (∀ a, (k0_off455 v1088) a + S1x16.size a ≤ S704x64.size a) ∧
  (∀ a, (k0_off456 v1088) a + S1x16.size a ≤ S704x64.size a)
theorem k0_off453_inb : ∀ (v1088 : BitVec 32) (k0_hw107 : k0_chk107 v1088), ∀ a, (k0_off453 v1088) a + S1x16.size a ≤ S704x64.size a := fun v1088 k0_hw107 => k0_hw107.1
theorem k0_off454_inb : ∀ (v1088 : BitVec 32) (k0_hw107 : k0_chk107 v1088), ∀ a, (k0_off454 v1088) a + S1x16.size a ≤ S704x64.size a := fun v1088 k0_hw107 => k0_hw107.2.1
theorem k0_off455_inb : ∀ (v1088 : BitVec 32) (k0_hw107 : k0_chk107 v1088), ∀ a, (k0_off455 v1088) a + S1x16.size a ≤ S704x64.size a := fun v1088 k0_hw107 => k0_hw107.2.2.1
theorem k0_off456_inb : ∀ (v1088 : BitVec 32) (k0_hw107 : k0_chk107 v1088), ∀ a, (k0_off456 v1088) a + S1x16.size a ≤ S704x64.size a := fun v1088 k0_hw107 => k0_hw107.2.2.2

def k0_off457 (v1109 : BitVec 32) : Fin 2 → Nat :=
  let v1110 : Index := Scalar.indexCast v1109
  let c0_329 : Index := 0#32
  ![v1110.toNat, 0]

def k0_off458 (v1109 : BitVec 32) : Fin 2 → Nat :=
  let v1114 : Index := Scalar.indexCast v1109
  let c16_330 : Index := 16#32
  ![v1114.toNat, 16]
def k0_off459 (v1109 : BitVec 32) : Fin 2 → Nat :=
  let v1118 : Index := Scalar.indexCast v1109
  let c32_331 : Index := 32#32
  ![v1118.toNat, 32]
def k0_off460 (v1109 : BitVec 32) : Fin 2 → Nat :=
  let v1122 : Index := Scalar.indexCast v1109
  let c48_332 : Index := 48#32
  ![v1122.toNat, 48]

def k0_chk108 (v1109 : BitVec 32) : Prop :=
  (∀ a, (k0_off457 v1109) a + S1x16.size a ≤ S704x64.size a) ∧
  (∀ a, (k0_off458 v1109) a + S1x16.size a ≤ S704x64.size a) ∧
  (∀ a, (k0_off459 v1109) a + S1x16.size a ≤ S704x64.size a) ∧
  (∀ a, (k0_off460 v1109) a + S1x16.size a ≤ S704x64.size a)
theorem k0_off457_inb : ∀ (v1109 : BitVec 32) (k0_hw108 : k0_chk108 v1109), ∀ a, (k0_off457 v1109) a + S1x16.size a ≤ S704x64.size a := fun v1109 k0_hw108 => k0_hw108.1
theorem k0_off458_inb : ∀ (v1109 : BitVec 32) (k0_hw108 : k0_chk108 v1109), ∀ a, (k0_off458 v1109) a + S1x16.size a ≤ S704x64.size a := fun v1109 k0_hw108 => k0_hw108.2.1
theorem k0_off459_inb : ∀ (v1109 : BitVec 32) (k0_hw108 : k0_chk108 v1109), ∀ a, (k0_off459 v1109) a + S1x16.size a ≤ S704x64.size a := fun v1109 k0_hw108 => k0_hw108.2.2.1
theorem k0_off460_inb : ∀ (v1109 : BitVec 32) (k0_hw108 : k0_chk108 v1109), ∀ a, (k0_off460 v1109) a + S1x16.size a ≤ S704x64.size a := fun v1109 k0_hw108 => k0_hw108.2.2.2

def k0_off461 (v1130 : BitVec 32) : Fin 2 → Nat :=
  let v1131 : Index := Scalar.indexCast v1130
  let c0_333 : Index := 0#32
  ![v1131.toNat, 0]

def k0_off462 (v1130 : BitVec 32) : Fin 2 → Nat :=
  let v1135 : Index := Scalar.indexCast v1130
  let c16_334 : Index := 16#32
  ![v1135.toNat, 16]
def k0_off463 (v1130 : BitVec 32) : Fin 2 → Nat :=
  let v1139 : Index := Scalar.indexCast v1130
  let c32_335 : Index := 32#32
  ![v1139.toNat, 32]
def k0_off464 (v1130 : BitVec 32) : Fin 2 → Nat :=
  let v1143 : Index := Scalar.indexCast v1130
  let c48_336 : Index := 48#32
  ![v1143.toNat, 48]

def k0_chk109 (v1130 : BitVec 32) : Prop :=
  (∀ a, (k0_off461 v1130) a + S1x16.size a ≤ S704x64.size a) ∧
  (∀ a, (k0_off462 v1130) a + S1x16.size a ≤ S704x64.size a) ∧
  (∀ a, (k0_off463 v1130) a + S1x16.size a ≤ S704x64.size a) ∧
  (∀ a, (k0_off464 v1130) a + S1x16.size a ≤ S704x64.size a)
theorem k0_off461_inb : ∀ (v1130 : BitVec 32) (k0_hw109 : k0_chk109 v1130), ∀ a, (k0_off461 v1130) a + S1x16.size a ≤ S704x64.size a := fun v1130 k0_hw109 => k0_hw109.1
theorem k0_off462_inb : ∀ (v1130 : BitVec 32) (k0_hw109 : k0_chk109 v1130), ∀ a, (k0_off462 v1130) a + S1x16.size a ≤ S704x64.size a := fun v1130 k0_hw109 => k0_hw109.2.1
theorem k0_off463_inb : ∀ (v1130 : BitVec 32) (k0_hw109 : k0_chk109 v1130), ∀ a, (k0_off463 v1130) a + S1x16.size a ≤ S704x64.size a := fun v1130 k0_hw109 => k0_hw109.2.2.1
theorem k0_off464_inb : ∀ (v1130 : BitVec 32) (k0_hw109 : k0_chk109 v1130), ∀ a, (k0_off464 v1130) a + S1x16.size a ≤ S704x64.size a := fun v1130 k0_hw109 => k0_hw109.2.2.2

def k0_off465 (v1151 : BitVec 32) : Fin 2 → Nat :=
  let v1152 : Index := Scalar.indexCast v1151
  let c0_337 : Index := 0#32
  ![v1152.toNat, 0]

def k0_off466 (v1151 : BitVec 32) : Fin 2 → Nat :=
  let v1156 : Index := Scalar.indexCast v1151
  let c16_338 : Index := 16#32
  ![v1156.toNat, 16]
def k0_off467 (v1151 : BitVec 32) : Fin 2 → Nat :=
  let v1160 : Index := Scalar.indexCast v1151
  let c32_339 : Index := 32#32
  ![v1160.toNat, 32]
def k0_off468 (v1151 : BitVec 32) : Fin 2 → Nat :=
  let v1164 : Index := Scalar.indexCast v1151
  let c48_340 : Index := 48#32
  ![v1164.toNat, 48]

def k0_chk110 (v1151 : BitVec 32) : Prop :=
  (∀ a, (k0_off465 v1151) a + S1x16.size a ≤ S704x64.size a) ∧
  (∀ a, (k0_off466 v1151) a + S1x16.size a ≤ S704x64.size a) ∧
  (∀ a, (k0_off467 v1151) a + S1x16.size a ≤ S704x64.size a) ∧
  (∀ a, (k0_off468 v1151) a + S1x16.size a ≤ S704x64.size a)
theorem k0_off465_inb : ∀ (v1151 : BitVec 32) (k0_hw110 : k0_chk110 v1151), ∀ a, (k0_off465 v1151) a + S1x16.size a ≤ S704x64.size a := fun v1151 k0_hw110 => k0_hw110.1
theorem k0_off466_inb : ∀ (v1151 : BitVec 32) (k0_hw110 : k0_chk110 v1151), ∀ a, (k0_off466 v1151) a + S1x16.size a ≤ S704x64.size a := fun v1151 k0_hw110 => k0_hw110.2.1
theorem k0_off467_inb : ∀ (v1151 : BitVec 32) (k0_hw110 : k0_chk110 v1151), ∀ a, (k0_off467 v1151) a + S1x16.size a ≤ S704x64.size a := fun v1151 k0_hw110 => k0_hw110.2.2.1
theorem k0_off468_inb : ∀ (v1151 : BitVec 32) (k0_hw110 : k0_chk110 v1151), ∀ a, (k0_off468 v1151) a + S1x16.size a ≤ S704x64.size a := fun v1151 k0_hw110 => k0_hw110.2.2.2

def k0_off469 (v1172 : BitVec 32) : Fin 2 → Nat :=
  let v1173 : Index := Scalar.indexCast v1172
  let c0_341 : Index := 0#32
  ![v1173.toNat, 0]

def k0_off470 (v1172 : BitVec 32) : Fin 2 → Nat :=
  let v1177 : Index := Scalar.indexCast v1172
  let c16_342 : Index := 16#32
  ![v1177.toNat, 16]
def k0_off471 (v1172 : BitVec 32) : Fin 2 → Nat :=
  let v1181 : Index := Scalar.indexCast v1172
  let c32_343 : Index := 32#32
  ![v1181.toNat, 32]
def k0_off472 (v1172 : BitVec 32) : Fin 2 → Nat :=
  let v1185 : Index := Scalar.indexCast v1172
  let c48_344 : Index := 48#32
  ![v1185.toNat, 48]

def k0_chk111 (v1172 : BitVec 32) : Prop :=
  (∀ a, (k0_off469 v1172) a + S1x16.size a ≤ S704x64.size a) ∧
  (∀ a, (k0_off470 v1172) a + S1x16.size a ≤ S704x64.size a) ∧
  (∀ a, (k0_off471 v1172) a + S1x16.size a ≤ S704x64.size a) ∧
  (∀ a, (k0_off472 v1172) a + S1x16.size a ≤ S704x64.size a)
theorem k0_off469_inb : ∀ (v1172 : BitVec 32) (k0_hw111 : k0_chk111 v1172), ∀ a, (k0_off469 v1172) a + S1x16.size a ≤ S704x64.size a := fun v1172 k0_hw111 => k0_hw111.1
theorem k0_off470_inb : ∀ (v1172 : BitVec 32) (k0_hw111 : k0_chk111 v1172), ∀ a, (k0_off470 v1172) a + S1x16.size a ≤ S704x64.size a := fun v1172 k0_hw111 => k0_hw111.2.1
theorem k0_off471_inb : ∀ (v1172 : BitVec 32) (k0_hw111 : k0_chk111 v1172), ∀ a, (k0_off471 v1172) a + S1x16.size a ≤ S704x64.size a := fun v1172 k0_hw111 => k0_hw111.2.2.1
theorem k0_off472_inb : ∀ (v1172 : BitVec 32) (k0_hw111 : k0_chk111 v1172), ∀ a, (k0_off472 v1172) a + S1x16.size a ≤ S704x64.size a := fun v1172 k0_hw111 => k0_hw111.2.2.2

def k0_off473 (v1193 : BitVec 32) : Fin 2 → Nat :=
  let v1194 : Index := Scalar.indexCast v1193
  let c0_345 : Index := 0#32
  ![v1194.toNat, 0]

def k0_off474 (v1193 : BitVec 32) : Fin 2 → Nat :=
  let v1198 : Index := Scalar.indexCast v1193
  let c16_346 : Index := 16#32
  ![v1198.toNat, 16]
def k0_off475 (v1193 : BitVec 32) : Fin 2 → Nat :=
  let v1202 : Index := Scalar.indexCast v1193
  let c32_347 : Index := 32#32
  ![v1202.toNat, 32]
def k0_off476 (v1193 : BitVec 32) : Fin 2 → Nat :=
  let v1206 : Index := Scalar.indexCast v1193
  let c48_348 : Index := 48#32
  ![v1206.toNat, 48]

def k0_chk112 (v1193 : BitVec 32) : Prop :=
  (∀ a, (k0_off473 v1193) a + S1x16.size a ≤ S704x64.size a) ∧
  (∀ a, (k0_off474 v1193) a + S1x16.size a ≤ S704x64.size a) ∧
  (∀ a, (k0_off475 v1193) a + S1x16.size a ≤ S704x64.size a) ∧
  (∀ a, (k0_off476 v1193) a + S1x16.size a ≤ S704x64.size a)
theorem k0_off473_inb : ∀ (v1193 : BitVec 32) (k0_hw112 : k0_chk112 v1193), ∀ a, (k0_off473 v1193) a + S1x16.size a ≤ S704x64.size a := fun v1193 k0_hw112 => k0_hw112.1
theorem k0_off474_inb : ∀ (v1193 : BitVec 32) (k0_hw112 : k0_chk112 v1193), ∀ a, (k0_off474 v1193) a + S1x16.size a ≤ S704x64.size a := fun v1193 k0_hw112 => k0_hw112.2.1
theorem k0_off475_inb : ∀ (v1193 : BitVec 32) (k0_hw112 : k0_chk112 v1193), ∀ a, (k0_off475 v1193) a + S1x16.size a ≤ S704x64.size a := fun v1193 k0_hw112 => k0_hw112.2.2.1
theorem k0_off476_inb : ∀ (v1193 : BitVec 32) (k0_hw112 : k0_chk112 v1193), ∀ a, (k0_off476 v1193) a + S1x16.size a ≤ S704x64.size a := fun v1193 k0_hw112 => k0_hw112.2.2.2

def k0_off477 (v1214 : BitVec 32) : Fin 2 → Nat :=
  let v1215 : Index := Scalar.indexCast v1214
  let c0_349 : Index := 0#32
  ![v1215.toNat, 0]

def k0_off478 (v1214 : BitVec 32) : Fin 2 → Nat :=
  let v1219 : Index := Scalar.indexCast v1214
  let c16_350 : Index := 16#32
  ![v1219.toNat, 16]
def k0_off479 (v1214 : BitVec 32) : Fin 2 → Nat :=
  let v1223 : Index := Scalar.indexCast v1214
  let c32_351 : Index := 32#32
  ![v1223.toNat, 32]
def k0_off480 (v1214 : BitVec 32) : Fin 2 → Nat :=
  let v1227 : Index := Scalar.indexCast v1214
  let c48_352 : Index := 48#32
  ![v1227.toNat, 48]

def k0_chk113 (v1214 : BitVec 32) : Prop :=
  (∀ a, (k0_off477 v1214) a + S1x16.size a ≤ S704x64.size a) ∧
  (∀ a, (k0_off478 v1214) a + S1x16.size a ≤ S704x64.size a) ∧
  (∀ a, (k0_off479 v1214) a + S1x16.size a ≤ S704x64.size a) ∧
  (∀ a, (k0_off480 v1214) a + S1x16.size a ≤ S704x64.size a)
theorem k0_off477_inb : ∀ (v1214 : BitVec 32) (k0_hw113 : k0_chk113 v1214), ∀ a, (k0_off477 v1214) a + S1x16.size a ≤ S704x64.size a := fun v1214 k0_hw113 => k0_hw113.1
theorem k0_off478_inb : ∀ (v1214 : BitVec 32) (k0_hw113 : k0_chk113 v1214), ∀ a, (k0_off478 v1214) a + S1x16.size a ≤ S704x64.size a := fun v1214 k0_hw113 => k0_hw113.2.1
theorem k0_off479_inb : ∀ (v1214 : BitVec 32) (k0_hw113 : k0_chk113 v1214), ∀ a, (k0_off479 v1214) a + S1x16.size a ≤ S704x64.size a := fun v1214 k0_hw113 => k0_hw113.2.2.1
theorem k0_off480_inb : ∀ (v1214 : BitVec 32) (k0_hw113 : k0_chk113 v1214), ∀ a, (k0_off480 v1214) a + S1x16.size a ≤ S704x64.size a := fun v1214 k0_hw113 => k0_hw113.2.2.2

def k0_off481 (v1235 : BitVec 32) : Fin 2 → Nat :=
  let v1236 : Index := Scalar.indexCast v1235
  let c0_353 : Index := 0#32
  ![v1236.toNat, 0]

def k0_off482 (v1235 : BitVec 32) : Fin 2 → Nat :=
  let v1240 : Index := Scalar.indexCast v1235
  let c16_354 : Index := 16#32
  ![v1240.toNat, 16]
def k0_off483 (v1235 : BitVec 32) : Fin 2 → Nat :=
  let v1244 : Index := Scalar.indexCast v1235
  let c32_355 : Index := 32#32
  ![v1244.toNat, 32]
def k0_off484 (v1235 : BitVec 32) : Fin 2 → Nat :=
  let v1248 : Index := Scalar.indexCast v1235
  let c48_356 : Index := 48#32
  ![v1248.toNat, 48]

def k0_chk114 (v1235 : BitVec 32) : Prop :=
  (∀ a, (k0_off481 v1235) a + S1x16.size a ≤ S704x64.size a) ∧
  (∀ a, (k0_off482 v1235) a + S1x16.size a ≤ S704x64.size a) ∧
  (∀ a, (k0_off483 v1235) a + S1x16.size a ≤ S704x64.size a) ∧
  (∀ a, (k0_off484 v1235) a + S1x16.size a ≤ S704x64.size a)
theorem k0_off481_inb : ∀ (v1235 : BitVec 32) (k0_hw114 : k0_chk114 v1235), ∀ a, (k0_off481 v1235) a + S1x16.size a ≤ S704x64.size a := fun v1235 k0_hw114 => k0_hw114.1
theorem k0_off482_inb : ∀ (v1235 : BitVec 32) (k0_hw114 : k0_chk114 v1235), ∀ a, (k0_off482 v1235) a + S1x16.size a ≤ S704x64.size a := fun v1235 k0_hw114 => k0_hw114.2.1
theorem k0_off483_inb : ∀ (v1235 : BitVec 32) (k0_hw114 : k0_chk114 v1235), ∀ a, (k0_off483 v1235) a + S1x16.size a ≤ S704x64.size a := fun v1235 k0_hw114 => k0_hw114.2.2.1
theorem k0_off484_inb : ∀ (v1235 : BitVec 32) (k0_hw114 : k0_chk114 v1235), ∀ a, (k0_off484 v1235) a + S1x16.size a ≤ S704x64.size a := fun v1235 k0_hw114 => k0_hw114.2.2.2

def k0_off485 (v1256 : BitVec 32) : Fin 2 → Nat :=
  let v1257 : Index := Scalar.indexCast v1256
  let c0_357 : Index := 0#32
  ![v1257.toNat, 0]

def k0_off486 (v1256 : BitVec 32) : Fin 2 → Nat :=
  let v1261 : Index := Scalar.indexCast v1256
  let c16_358 : Index := 16#32
  ![v1261.toNat, 16]
def k0_off487 (v1256 : BitVec 32) : Fin 2 → Nat :=
  let v1265 : Index := Scalar.indexCast v1256
  let c32_359 : Index := 32#32
  ![v1265.toNat, 32]
def k0_off488 (v1256 : BitVec 32) : Fin 2 → Nat :=
  let v1269 : Index := Scalar.indexCast v1256
  let c48_360 : Index := 48#32
  ![v1269.toNat, 48]

def k0_chk115 (v1256 : BitVec 32) : Prop :=
  (∀ a, (k0_off485 v1256) a + S1x16.size a ≤ S704x64.size a) ∧
  (∀ a, (k0_off486 v1256) a + S1x16.size a ≤ S704x64.size a) ∧
  (∀ a, (k0_off487 v1256) a + S1x16.size a ≤ S704x64.size a) ∧
  (∀ a, (k0_off488 v1256) a + S1x16.size a ≤ S704x64.size a)
theorem k0_off485_inb : ∀ (v1256 : BitVec 32) (k0_hw115 : k0_chk115 v1256), ∀ a, (k0_off485 v1256) a + S1x16.size a ≤ S704x64.size a := fun v1256 k0_hw115 => k0_hw115.1
theorem k0_off486_inb : ∀ (v1256 : BitVec 32) (k0_hw115 : k0_chk115 v1256), ∀ a, (k0_off486 v1256) a + S1x16.size a ≤ S704x64.size a := fun v1256 k0_hw115 => k0_hw115.2.1
theorem k0_off487_inb : ∀ (v1256 : BitVec 32) (k0_hw115 : k0_chk115 v1256), ∀ a, (k0_off487 v1256) a + S1x16.size a ≤ S704x64.size a := fun v1256 k0_hw115 => k0_hw115.2.2.1
theorem k0_off488_inb : ∀ (v1256 : BitVec 32) (k0_hw115 : k0_chk115 v1256), ∀ a, (k0_off488 v1256) a + S1x16.size a ≤ S704x64.size a := fun v1256 k0_hw115 => k0_hw115.2.2.2

def k0_off489 (v1277 : BitVec 32) : Fin 2 → Nat :=
  let v1278 : Index := Scalar.indexCast v1277
  let c0_361 : Index := 0#32
  ![v1278.toNat, 0]

def k0_off490 (v1277 : BitVec 32) : Fin 2 → Nat :=
  let v1282 : Index := Scalar.indexCast v1277
  let c16_362 : Index := 16#32
  ![v1282.toNat, 16]
def k0_off491 (v1277 : BitVec 32) : Fin 2 → Nat :=
  let v1286 : Index := Scalar.indexCast v1277
  let c32_363 : Index := 32#32
  ![v1286.toNat, 32]
def k0_off492 (v1277 : BitVec 32) : Fin 2 → Nat :=
  let v1290 : Index := Scalar.indexCast v1277
  let c48_364 : Index := 48#32
  ![v1290.toNat, 48]

def k0_chk116 (v1277 : BitVec 32) : Prop :=
  (∀ a, (k0_off489 v1277) a + S1x16.size a ≤ S704x64.size a) ∧
  (∀ a, (k0_off490 v1277) a + S1x16.size a ≤ S704x64.size a) ∧
  (∀ a, (k0_off491 v1277) a + S1x16.size a ≤ S704x64.size a) ∧
  (∀ a, (k0_off492 v1277) a + S1x16.size a ≤ S704x64.size a)
theorem k0_off489_inb : ∀ (v1277 : BitVec 32) (k0_hw116 : k0_chk116 v1277), ∀ a, (k0_off489 v1277) a + S1x16.size a ≤ S704x64.size a := fun v1277 k0_hw116 => k0_hw116.1
theorem k0_off490_inb : ∀ (v1277 : BitVec 32) (k0_hw116 : k0_chk116 v1277), ∀ a, (k0_off490 v1277) a + S1x16.size a ≤ S704x64.size a := fun v1277 k0_hw116 => k0_hw116.2.1
theorem k0_off491_inb : ∀ (v1277 : BitVec 32) (k0_hw116 : k0_chk116 v1277), ∀ a, (k0_off491 v1277) a + S1x16.size a ≤ S704x64.size a := fun v1277 k0_hw116 => k0_hw116.2.2.1
theorem k0_off492_inb : ∀ (v1277 : BitVec 32) (k0_hw116 : k0_chk116 v1277), ∀ a, (k0_off492 v1277) a + S1x16.size a ≤ S704x64.size a := fun v1277 k0_hw116 => k0_hw116.2.2.2

def k0_off493 (v1298 : BitVec 32) : Fin 2 → Nat :=
  let v1299 : Index := Scalar.indexCast v1298
  let c0_365 : Index := 0#32
  ![v1299.toNat, 0]

def k0_off494 (v1298 : BitVec 32) : Fin 2 → Nat :=
  let v1303 : Index := Scalar.indexCast v1298
  let c16_366 : Index := 16#32
  ![v1303.toNat, 16]
def k0_off495 (v1298 : BitVec 32) : Fin 2 → Nat :=
  let v1307 : Index := Scalar.indexCast v1298
  let c32_367 : Index := 32#32
  ![v1307.toNat, 32]
def k0_off496 (v1298 : BitVec 32) : Fin 2 → Nat :=
  let v1311 : Index := Scalar.indexCast v1298
  let c48_368 : Index := 48#32
  ![v1311.toNat, 48]

def k0_chk117 (v1298 : BitVec 32) : Prop :=
  (∀ a, (k0_off493 v1298) a + S1x16.size a ≤ S704x64.size a) ∧
  (∀ a, (k0_off494 v1298) a + S1x16.size a ≤ S704x64.size a) ∧
  (∀ a, (k0_off495 v1298) a + S1x16.size a ≤ S704x64.size a) ∧
  (∀ a, (k0_off496 v1298) a + S1x16.size a ≤ S704x64.size a)
theorem k0_off493_inb : ∀ (v1298 : BitVec 32) (k0_hw117 : k0_chk117 v1298), ∀ a, (k0_off493 v1298) a + S1x16.size a ≤ S704x64.size a := fun v1298 k0_hw117 => k0_hw117.1
theorem k0_off494_inb : ∀ (v1298 : BitVec 32) (k0_hw117 : k0_chk117 v1298), ∀ a, (k0_off494 v1298) a + S1x16.size a ≤ S704x64.size a := fun v1298 k0_hw117 => k0_hw117.2.1
theorem k0_off495_inb : ∀ (v1298 : BitVec 32) (k0_hw117 : k0_chk117 v1298), ∀ a, (k0_off495 v1298) a + S1x16.size a ≤ S704x64.size a := fun v1298 k0_hw117 => k0_hw117.2.2.1
theorem k0_off496_inb : ∀ (v1298 : BitVec 32) (k0_hw117 : k0_chk117 v1298), ∀ a, (k0_off496 v1298) a + S1x16.size a ≤ S704x64.size a := fun v1298 k0_hw117 => k0_hw117.2.2.2

def k0_off497 (v1319 : BitVec 32) : Fin 2 → Nat :=
  let v1320 : Index := Scalar.indexCast v1319
  let c0_369 : Index := 0#32
  ![v1320.toNat, 0]

def k0_off498 (v1319 : BitVec 32) : Fin 2 → Nat :=
  let v1324 : Index := Scalar.indexCast v1319
  let c16_370 : Index := 16#32
  ![v1324.toNat, 16]
def k0_off499 (v1319 : BitVec 32) : Fin 2 → Nat :=
  let v1328 : Index := Scalar.indexCast v1319
  let c32_371 : Index := 32#32
  ![v1328.toNat, 32]
def k0_off500 (v1319 : BitVec 32) : Fin 2 → Nat :=
  let v1332 : Index := Scalar.indexCast v1319
  let c48_372 : Index := 48#32
  ![v1332.toNat, 48]

def k0_chk118 (v1319 : BitVec 32) : Prop :=
  (∀ a, (k0_off497 v1319) a + S1x16.size a ≤ S704x64.size a) ∧
  (∀ a, (k0_off498 v1319) a + S1x16.size a ≤ S704x64.size a) ∧
  (∀ a, (k0_off499 v1319) a + S1x16.size a ≤ S704x64.size a) ∧
  (∀ a, (k0_off500 v1319) a + S1x16.size a ≤ S704x64.size a)
theorem k0_off497_inb : ∀ (v1319 : BitVec 32) (k0_hw118 : k0_chk118 v1319), ∀ a, (k0_off497 v1319) a + S1x16.size a ≤ S704x64.size a := fun v1319 k0_hw118 => k0_hw118.1
theorem k0_off498_inb : ∀ (v1319 : BitVec 32) (k0_hw118 : k0_chk118 v1319), ∀ a, (k0_off498 v1319) a + S1x16.size a ≤ S704x64.size a := fun v1319 k0_hw118 => k0_hw118.2.1
theorem k0_off499_inb : ∀ (v1319 : BitVec 32) (k0_hw118 : k0_chk118 v1319), ∀ a, (k0_off499 v1319) a + S1x16.size a ≤ S704x64.size a := fun v1319 k0_hw118 => k0_hw118.2.2.1
theorem k0_off500_inb : ∀ (v1319 : BitVec 32) (k0_hw118 : k0_chk118 v1319), ∀ a, (k0_off500 v1319) a + S1x16.size a ≤ S704x64.size a := fun v1319 k0_hw118 => k0_hw118.2.2.2

def k0_off501 (v1340 : BitVec 32) : Fin 2 → Nat :=
  let v1341 : Index := Scalar.indexCast v1340
  let c0_373 : Index := 0#32
  ![v1341.toNat, 0]

def k0_off502 (v1340 : BitVec 32) : Fin 2 → Nat :=
  let v1345 : Index := Scalar.indexCast v1340
  let c16_374 : Index := 16#32
  ![v1345.toNat, 16]
def k0_off503 (v1340 : BitVec 32) : Fin 2 → Nat :=
  let v1349 : Index := Scalar.indexCast v1340
  let c32_375 : Index := 32#32
  ![v1349.toNat, 32]
def k0_off504 (v1340 : BitVec 32) : Fin 2 → Nat :=
  let v1353 : Index := Scalar.indexCast v1340
  let c48_376 : Index := 48#32
  ![v1353.toNat, 48]

def k0_chk119 (v1340 : BitVec 32) : Prop :=
  (∀ a, (k0_off501 v1340) a + S1x16.size a ≤ S704x64.size a) ∧
  (∀ a, (k0_off502 v1340) a + S1x16.size a ≤ S704x64.size a) ∧
  (∀ a, (k0_off503 v1340) a + S1x16.size a ≤ S704x64.size a) ∧
  (∀ a, (k0_off504 v1340) a + S1x16.size a ≤ S704x64.size a)
theorem k0_off501_inb : ∀ (v1340 : BitVec 32) (k0_hw119 : k0_chk119 v1340), ∀ a, (k0_off501 v1340) a + S1x16.size a ≤ S704x64.size a := fun v1340 k0_hw119 => k0_hw119.1
theorem k0_off502_inb : ∀ (v1340 : BitVec 32) (k0_hw119 : k0_chk119 v1340), ∀ a, (k0_off502 v1340) a + S1x16.size a ≤ S704x64.size a := fun v1340 k0_hw119 => k0_hw119.2.1
theorem k0_off503_inb : ∀ (v1340 : BitVec 32) (k0_hw119 : k0_chk119 v1340), ∀ a, (k0_off503 v1340) a + S1x16.size a ≤ S704x64.size a := fun v1340 k0_hw119 => k0_hw119.2.2.1
theorem k0_off504_inb : ∀ (v1340 : BitVec 32) (k0_hw119 : k0_chk119 v1340), ∀ a, (k0_off504 v1340) a + S1x16.size a ≤ S704x64.size a := fun v1340 k0_hw119 => k0_hw119.2.2.2

def k0_off505 (v1361 : BitVec 32) : Fin 2 → Nat :=
  let v1362 : Index := Scalar.indexCast v1361
  let c0_377 : Index := 0#32
  ![v1362.toNat, 0]

def k0_off506 (v1361 : BitVec 32) : Fin 2 → Nat :=
  let v1366 : Index := Scalar.indexCast v1361
  let c16_378 : Index := 16#32
  ![v1366.toNat, 16]
def k0_off507 (v1361 : BitVec 32) : Fin 2 → Nat :=
  let v1370 : Index := Scalar.indexCast v1361
  let c32_379 : Index := 32#32
  ![v1370.toNat, 32]
def k0_off508 (v1361 : BitVec 32) : Fin 2 → Nat :=
  let v1374 : Index := Scalar.indexCast v1361
  let c48_380 : Index := 48#32
  ![v1374.toNat, 48]

def k0_chk120 (v1361 : BitVec 32) : Prop :=
  (∀ a, (k0_off505 v1361) a + S1x16.size a ≤ S704x64.size a) ∧
  (∀ a, (k0_off506 v1361) a + S1x16.size a ≤ S704x64.size a) ∧
  (∀ a, (k0_off507 v1361) a + S1x16.size a ≤ S704x64.size a) ∧
  (∀ a, (k0_off508 v1361) a + S1x16.size a ≤ S704x64.size a)
theorem k0_off505_inb : ∀ (v1361 : BitVec 32) (k0_hw120 : k0_chk120 v1361), ∀ a, (k0_off505 v1361) a + S1x16.size a ≤ S704x64.size a := fun v1361 k0_hw120 => k0_hw120.1
theorem k0_off506_inb : ∀ (v1361 : BitVec 32) (k0_hw120 : k0_chk120 v1361), ∀ a, (k0_off506 v1361) a + S1x16.size a ≤ S704x64.size a := fun v1361 k0_hw120 => k0_hw120.2.1
theorem k0_off507_inb : ∀ (v1361 : BitVec 32) (k0_hw120 : k0_chk120 v1361), ∀ a, (k0_off507 v1361) a + S1x16.size a ≤ S704x64.size a := fun v1361 k0_hw120 => k0_hw120.2.2.1
theorem k0_off508_inb : ∀ (v1361 : BitVec 32) (k0_hw120 : k0_chk120 v1361), ∀ a, (k0_off508 v1361) a + S1x16.size a ≤ S704x64.size a := fun v1361 k0_hw120 => k0_hw120.2.2.2

def k0_off509 (v1382 : BitVec 32) : Fin 2 → Nat :=
  let v1383 : Index := Scalar.indexCast v1382
  let c0_381 : Index := 0#32
  ![v1383.toNat, 0]

def k0_off510 (v1382 : BitVec 32) : Fin 2 → Nat :=
  let v1387 : Index := Scalar.indexCast v1382
  let c16_382 : Index := 16#32
  ![v1387.toNat, 16]
def k0_off511 (v1382 : BitVec 32) : Fin 2 → Nat :=
  let v1391 : Index := Scalar.indexCast v1382
  let c32_383 : Index := 32#32
  ![v1391.toNat, 32]
def k0_off512 (v1382 : BitVec 32) : Fin 2 → Nat :=
  let v1395 : Index := Scalar.indexCast v1382
  let c48_384 : Index := 48#32
  ![v1395.toNat, 48]

def k0_chk121 (v1382 : BitVec 32) : Prop :=
  (∀ a, (k0_off509 v1382) a + S1x16.size a ≤ S704x64.size a) ∧
  (∀ a, (k0_off510 v1382) a + S1x16.size a ≤ S704x64.size a) ∧
  (∀ a, (k0_off511 v1382) a + S1x16.size a ≤ S704x64.size a) ∧
  (∀ a, (k0_off512 v1382) a + S1x16.size a ≤ S704x64.size a)
theorem k0_off509_inb : ∀ (v1382 : BitVec 32) (k0_hw121 : k0_chk121 v1382), ∀ a, (k0_off509 v1382) a + S1x16.size a ≤ S704x64.size a := fun v1382 k0_hw121 => k0_hw121.1
theorem k0_off510_inb : ∀ (v1382 : BitVec 32) (k0_hw121 : k0_chk121 v1382), ∀ a, (k0_off510 v1382) a + S1x16.size a ≤ S704x64.size a := fun v1382 k0_hw121 => k0_hw121.2.1
theorem k0_off511_inb : ∀ (v1382 : BitVec 32) (k0_hw121 : k0_chk121 v1382), ∀ a, (k0_off511 v1382) a + S1x16.size a ≤ S704x64.size a := fun v1382 k0_hw121 => k0_hw121.2.2.1
theorem k0_off512_inb : ∀ (v1382 : BitVec 32) (k0_hw121 : k0_chk121 v1382), ∀ a, (k0_off512 v1382) a + S1x16.size a ≤ S704x64.size a := fun v1382 k0_hw121 => k0_hw121.2.2.2

def k0_off513 (v1403 : BitVec 32) : Fin 2 → Nat :=
  let v1404 : Index := Scalar.indexCast v1403
  let c0_385 : Index := 0#32
  ![v1404.toNat, 0]

def k0_off514 (v1403 : BitVec 32) : Fin 2 → Nat :=
  let v1408 : Index := Scalar.indexCast v1403
  let c16_386 : Index := 16#32
  ![v1408.toNat, 16]
def k0_off515 (v1403 : BitVec 32) : Fin 2 → Nat :=
  let v1412 : Index := Scalar.indexCast v1403
  let c32_387 : Index := 32#32
  ![v1412.toNat, 32]
def k0_off516 (v1403 : BitVec 32) : Fin 2 → Nat :=
  let v1416 : Index := Scalar.indexCast v1403
  let c48_388 : Index := 48#32
  ![v1416.toNat, 48]

def k0_chk122 (v1403 : BitVec 32) : Prop :=
  (∀ a, (k0_off513 v1403) a + S1x16.size a ≤ S704x64.size a) ∧
  (∀ a, (k0_off514 v1403) a + S1x16.size a ≤ S704x64.size a) ∧
  (∀ a, (k0_off515 v1403) a + S1x16.size a ≤ S704x64.size a) ∧
  (∀ a, (k0_off516 v1403) a + S1x16.size a ≤ S704x64.size a)
theorem k0_off513_inb : ∀ (v1403 : BitVec 32) (k0_hw122 : k0_chk122 v1403), ∀ a, (k0_off513 v1403) a + S1x16.size a ≤ S704x64.size a := fun v1403 k0_hw122 => k0_hw122.1
theorem k0_off514_inb : ∀ (v1403 : BitVec 32) (k0_hw122 : k0_chk122 v1403), ∀ a, (k0_off514 v1403) a + S1x16.size a ≤ S704x64.size a := fun v1403 k0_hw122 => k0_hw122.2.1
theorem k0_off515_inb : ∀ (v1403 : BitVec 32) (k0_hw122 : k0_chk122 v1403), ∀ a, (k0_off515 v1403) a + S1x16.size a ≤ S704x64.size a := fun v1403 k0_hw122 => k0_hw122.2.2.1
theorem k0_off516_inb : ∀ (v1403 : BitVec 32) (k0_hw122 : k0_chk122 v1403), ∀ a, (k0_off516 v1403) a + S1x16.size a ≤ S704x64.size a := fun v1403 k0_hw122 => k0_hw122.2.2.2

def k0_off517 (v1424 : BitVec 32) : Fin 2 → Nat :=
  let v1425 : Index := Scalar.indexCast v1424
  let c0_389 : Index := 0#32
  ![v1425.toNat, 0]

def k0_off518 (v1424 : BitVec 32) : Fin 2 → Nat :=
  let v1429 : Index := Scalar.indexCast v1424
  let c16_390 : Index := 16#32
  ![v1429.toNat, 16]
def k0_off519 (v1424 : BitVec 32) : Fin 2 → Nat :=
  let v1433 : Index := Scalar.indexCast v1424
  let c32_391 : Index := 32#32
  ![v1433.toNat, 32]
def k0_off520 (v1424 : BitVec 32) : Fin 2 → Nat :=
  let v1437 : Index := Scalar.indexCast v1424
  let c48_392 : Index := 48#32
  ![v1437.toNat, 48]

def k0_chk123 (v1424 : BitVec 32) : Prop :=
  (∀ a, (k0_off517 v1424) a + S1x16.size a ≤ S704x64.size a) ∧
  (∀ a, (k0_off518 v1424) a + S1x16.size a ≤ S704x64.size a) ∧
  (∀ a, (k0_off519 v1424) a + S1x16.size a ≤ S704x64.size a) ∧
  (∀ a, (k0_off520 v1424) a + S1x16.size a ≤ S704x64.size a)
theorem k0_off517_inb : ∀ (v1424 : BitVec 32) (k0_hw123 : k0_chk123 v1424), ∀ a, (k0_off517 v1424) a + S1x16.size a ≤ S704x64.size a := fun v1424 k0_hw123 => k0_hw123.1
theorem k0_off518_inb : ∀ (v1424 : BitVec 32) (k0_hw123 : k0_chk123 v1424), ∀ a, (k0_off518 v1424) a + S1x16.size a ≤ S704x64.size a := fun v1424 k0_hw123 => k0_hw123.2.1
theorem k0_off519_inb : ∀ (v1424 : BitVec 32) (k0_hw123 : k0_chk123 v1424), ∀ a, (k0_off519 v1424) a + S1x16.size a ≤ S704x64.size a := fun v1424 k0_hw123 => k0_hw123.2.2.1
theorem k0_off520_inb : ∀ (v1424 : BitVec 32) (k0_hw123 : k0_chk123 v1424), ∀ a, (k0_off520 v1424) a + S1x16.size a ≤ S704x64.size a := fun v1424 k0_hw123 => k0_hw123.2.2.2

def k0_off521 (v1445 : BitVec 32) : Fin 2 → Nat :=
  let v1446 : Index := Scalar.indexCast v1445
  let c0_393 : Index := 0#32
  ![v1446.toNat, 0]

def k0_off522 (v1445 : BitVec 32) : Fin 2 → Nat :=
  let v1450 : Index := Scalar.indexCast v1445
  let c16_394 : Index := 16#32
  ![v1450.toNat, 16]
def k0_off523 (v1445 : BitVec 32) : Fin 2 → Nat :=
  let v1454 : Index := Scalar.indexCast v1445
  let c32_395 : Index := 32#32
  ![v1454.toNat, 32]
def k0_off524 (v1445 : BitVec 32) : Fin 2 → Nat :=
  let v1458 : Index := Scalar.indexCast v1445
  let c48_396 : Index := 48#32
  ![v1458.toNat, 48]

def k0_chk124 (v1445 : BitVec 32) : Prop :=
  (∀ a, (k0_off521 v1445) a + S1x16.size a ≤ S704x64.size a) ∧
  (∀ a, (k0_off522 v1445) a + S1x16.size a ≤ S704x64.size a) ∧
  (∀ a, (k0_off523 v1445) a + S1x16.size a ≤ S704x64.size a) ∧
  (∀ a, (k0_off524 v1445) a + S1x16.size a ≤ S704x64.size a)
theorem k0_off521_inb : ∀ (v1445 : BitVec 32) (k0_hw124 : k0_chk124 v1445), ∀ a, (k0_off521 v1445) a + S1x16.size a ≤ S704x64.size a := fun v1445 k0_hw124 => k0_hw124.1
theorem k0_off522_inb : ∀ (v1445 : BitVec 32) (k0_hw124 : k0_chk124 v1445), ∀ a, (k0_off522 v1445) a + S1x16.size a ≤ S704x64.size a := fun v1445 k0_hw124 => k0_hw124.2.1
theorem k0_off523_inb : ∀ (v1445 : BitVec 32) (k0_hw124 : k0_chk124 v1445), ∀ a, (k0_off523 v1445) a + S1x16.size a ≤ S704x64.size a := fun v1445 k0_hw124 => k0_hw124.2.2.1
theorem k0_off524_inb : ∀ (v1445 : BitVec 32) (k0_hw124 : k0_chk124 v1445), ∀ a, (k0_off524 v1445) a + S1x16.size a ≤ S704x64.size a := fun v1445 k0_hw124 => k0_hw124.2.2.2

def k0_off525 (v1466 : BitVec 32) : Fin 2 → Nat :=
  let v1467 : Index := Scalar.indexCast v1466
  let c0_397 : Index := 0#32
  ![v1467.toNat, 0]

def k0_off526 (v1466 : BitVec 32) : Fin 2 → Nat :=
  let v1471 : Index := Scalar.indexCast v1466
  let c16_398 : Index := 16#32
  ![v1471.toNat, 16]
def k0_off527 (v1466 : BitVec 32) : Fin 2 → Nat :=
  let v1475 : Index := Scalar.indexCast v1466
  let c32_399 : Index := 32#32
  ![v1475.toNat, 32]
def k0_off528 (v1466 : BitVec 32) : Fin 2 → Nat :=
  let v1479 : Index := Scalar.indexCast v1466
  let c48_400 : Index := 48#32
  ![v1479.toNat, 48]

def k0_chk125 (v1466 : BitVec 32) : Prop :=
  (∀ a, (k0_off525 v1466) a + S1x16.size a ≤ S704x64.size a) ∧
  (∀ a, (k0_off526 v1466) a + S1x16.size a ≤ S704x64.size a) ∧
  (∀ a, (k0_off527 v1466) a + S1x16.size a ≤ S704x64.size a) ∧
  (∀ a, (k0_off528 v1466) a + S1x16.size a ≤ S704x64.size a)
theorem k0_off525_inb : ∀ (v1466 : BitVec 32) (k0_hw125 : k0_chk125 v1466), ∀ a, (k0_off525 v1466) a + S1x16.size a ≤ S704x64.size a := fun v1466 k0_hw125 => k0_hw125.1
theorem k0_off526_inb : ∀ (v1466 : BitVec 32) (k0_hw125 : k0_chk125 v1466), ∀ a, (k0_off526 v1466) a + S1x16.size a ≤ S704x64.size a := fun v1466 k0_hw125 => k0_hw125.2.1
theorem k0_off527_inb : ∀ (v1466 : BitVec 32) (k0_hw125 : k0_chk125 v1466), ∀ a, (k0_off527 v1466) a + S1x16.size a ≤ S704x64.size a := fun v1466 k0_hw125 => k0_hw125.2.2.1
theorem k0_off528_inb : ∀ (v1466 : BitVec 32) (k0_hw125 : k0_chk125 v1466), ∀ a, (k0_off528 v1466) a + S1x16.size a ≤ S704x64.size a := fun v1466 k0_hw125 => k0_hw125.2.2.2

def k0_off529 (v1487 : BitVec 32) : Fin 2 → Nat :=
  let v1488 : Index := Scalar.indexCast v1487
  let c0_401 : Index := 0#32
  ![v1488.toNat, 0]

def k0_off530 (v1487 : BitVec 32) : Fin 2 → Nat :=
  let v1492 : Index := Scalar.indexCast v1487
  let c16_402 : Index := 16#32
  ![v1492.toNat, 16]
def k0_off531 (v1487 : BitVec 32) : Fin 2 → Nat :=
  let v1496 : Index := Scalar.indexCast v1487
  let c32_403 : Index := 32#32
  ![v1496.toNat, 32]
def k0_off532 (v1487 : BitVec 32) : Fin 2 → Nat :=
  let v1500 : Index := Scalar.indexCast v1487
  let c48_404 : Index := 48#32
  ![v1500.toNat, 48]

def k0_chk126 (v1487 : BitVec 32) : Prop :=
  (∀ a, (k0_off529 v1487) a + S1x16.size a ≤ S704x64.size a) ∧
  (∀ a, (k0_off530 v1487) a + S1x16.size a ≤ S704x64.size a) ∧
  (∀ a, (k0_off531 v1487) a + S1x16.size a ≤ S704x64.size a) ∧
  (∀ a, (k0_off532 v1487) a + S1x16.size a ≤ S704x64.size a)
theorem k0_off529_inb : ∀ (v1487 : BitVec 32) (k0_hw126 : k0_chk126 v1487), ∀ a, (k0_off529 v1487) a + S1x16.size a ≤ S704x64.size a := fun v1487 k0_hw126 => k0_hw126.1
theorem k0_off530_inb : ∀ (v1487 : BitVec 32) (k0_hw126 : k0_chk126 v1487), ∀ a, (k0_off530 v1487) a + S1x16.size a ≤ S704x64.size a := fun v1487 k0_hw126 => k0_hw126.2.1
theorem k0_off531_inb : ∀ (v1487 : BitVec 32) (k0_hw126 : k0_chk126 v1487), ∀ a, (k0_off531 v1487) a + S1x16.size a ≤ S704x64.size a := fun v1487 k0_hw126 => k0_hw126.2.2.1
theorem k0_off532_inb : ∀ (v1487 : BitVec 32) (k0_hw126 : k0_chk126 v1487), ∀ a, (k0_off532 v1487) a + S1x16.size a ≤ S704x64.size a := fun v1487 k0_hw126 => k0_hw126.2.2.2

def k0_off533 (v1508 : BitVec 32) : Fin 2 → Nat :=
  let v1509 : Index := Scalar.indexCast v1508
  let c0_405 : Index := 0#32
  ![v1509.toNat, 0]

def k0_off534 (v1508 : BitVec 32) : Fin 2 → Nat :=
  let v1513 : Index := Scalar.indexCast v1508
  let c16_406 : Index := 16#32
  ![v1513.toNat, 16]
def k0_off535 (v1508 : BitVec 32) : Fin 2 → Nat :=
  let v1517 : Index := Scalar.indexCast v1508
  let c32_407 : Index := 32#32
  ![v1517.toNat, 32]
def k0_off536 (v1508 : BitVec 32) : Fin 2 → Nat :=
  let v1521 : Index := Scalar.indexCast v1508
  let c48_408 : Index := 48#32
  ![v1521.toNat, 48]

def k0_chk127 (v1508 : BitVec 32) : Prop :=
  (∀ a, (k0_off533 v1508) a + S1x16.size a ≤ S704x64.size a) ∧
  (∀ a, (k0_off534 v1508) a + S1x16.size a ≤ S704x64.size a) ∧
  (∀ a, (k0_off535 v1508) a + S1x16.size a ≤ S704x64.size a) ∧
  (∀ a, (k0_off536 v1508) a + S1x16.size a ≤ S704x64.size a)
theorem k0_off533_inb : ∀ (v1508 : BitVec 32) (k0_hw127 : k0_chk127 v1508), ∀ a, (k0_off533 v1508) a + S1x16.size a ≤ S704x64.size a := fun v1508 k0_hw127 => k0_hw127.1
theorem k0_off534_inb : ∀ (v1508 : BitVec 32) (k0_hw127 : k0_chk127 v1508), ∀ a, (k0_off534 v1508) a + S1x16.size a ≤ S704x64.size a := fun v1508 k0_hw127 => k0_hw127.2.1
theorem k0_off535_inb : ∀ (v1508 : BitVec 32) (k0_hw127 : k0_chk127 v1508), ∀ a, (k0_off535 v1508) a + S1x16.size a ≤ S704x64.size a := fun v1508 k0_hw127 => k0_hw127.2.2.1
theorem k0_off536_inb : ∀ (v1508 : BitVec 32) (k0_hw127 : k0_chk127 v1508), ∀ a, (k0_off536 v1508) a + S1x16.size a ≤ S704x64.size a := fun v1508 k0_hw127 => k0_hw127.2.2.2

def k0_off537 (v1529 : BitVec 32) : Fin 2 → Nat :=
  let v1530 : Index := Scalar.indexCast v1529
  let c0_409 : Index := 0#32
  ![v1530.toNat, 0]

def k0_off538 (v1529 : BitVec 32) : Fin 2 → Nat :=
  let v1534 : Index := Scalar.indexCast v1529
  let c16_410 : Index := 16#32
  ![v1534.toNat, 16]
def k0_off539 (v1529 : BitVec 32) : Fin 2 → Nat :=
  let v1538 : Index := Scalar.indexCast v1529
  let c32_411 : Index := 32#32
  ![v1538.toNat, 32]
def k0_off540 (v1529 : BitVec 32) : Fin 2 → Nat :=
  let v1542 : Index := Scalar.indexCast v1529
  let c48_412 : Index := 48#32
  ![v1542.toNat, 48]

def k0_chk128 (v1529 : BitVec 32) : Prop :=
  (∀ a, (k0_off537 v1529) a + S1x16.size a ≤ S704x64.size a) ∧
  (∀ a, (k0_off538 v1529) a + S1x16.size a ≤ S704x64.size a) ∧
  (∀ a, (k0_off539 v1529) a + S1x16.size a ≤ S704x64.size a) ∧
  (∀ a, (k0_off540 v1529) a + S1x16.size a ≤ S704x64.size a)
theorem k0_off537_inb : ∀ (v1529 : BitVec 32) (k0_hw128 : k0_chk128 v1529), ∀ a, (k0_off537 v1529) a + S1x16.size a ≤ S704x64.size a := fun v1529 k0_hw128 => k0_hw128.1
theorem k0_off538_inb : ∀ (v1529 : BitVec 32) (k0_hw128 : k0_chk128 v1529), ∀ a, (k0_off538 v1529) a + S1x16.size a ≤ S704x64.size a := fun v1529 k0_hw128 => k0_hw128.2.1
theorem k0_off539_inb : ∀ (v1529 : BitVec 32) (k0_hw128 : k0_chk128 v1529), ∀ a, (k0_off539 v1529) a + S1x16.size a ≤ S704x64.size a := fun v1529 k0_hw128 => k0_hw128.2.2.1
theorem k0_off540_inb : ∀ (v1529 : BitVec 32) (k0_hw128 : k0_chk128 v1529), ∀ a, (k0_off540 v1529) a + S1x16.size a ≤ S704x64.size a := fun v1529 k0_hw128 => k0_hw128.2.2.2

def k0_off541 (v1550 : BitVec 32) : Fin 2 → Nat :=
  let v1551 : Index := Scalar.indexCast v1550
  let c0_413 : Index := 0#32
  ![v1551.toNat, 0]

def k0_off542 (v1550 : BitVec 32) : Fin 2 → Nat :=
  let v1555 : Index := Scalar.indexCast v1550
  let c16_414 : Index := 16#32
  ![v1555.toNat, 16]
def k0_off543 (v1550 : BitVec 32) : Fin 2 → Nat :=
  let v1559 : Index := Scalar.indexCast v1550
  let c32_415 : Index := 32#32
  ![v1559.toNat, 32]
def k0_off544 (v1550 : BitVec 32) : Fin 2 → Nat :=
  let v1563 : Index := Scalar.indexCast v1550
  let c48_416 : Index := 48#32
  ![v1563.toNat, 48]

def k0_chk129 (v1550 : BitVec 32) : Prop :=
  (∀ a, (k0_off541 v1550) a + S1x16.size a ≤ S704x64.size a) ∧
  (∀ a, (k0_off542 v1550) a + S1x16.size a ≤ S704x64.size a) ∧
  (∀ a, (k0_off543 v1550) a + S1x16.size a ≤ S704x64.size a) ∧
  (∀ a, (k0_off544 v1550) a + S1x16.size a ≤ S704x64.size a)
theorem k0_off541_inb : ∀ (v1550 : BitVec 32) (k0_hw129 : k0_chk129 v1550), ∀ a, (k0_off541 v1550) a + S1x16.size a ≤ S704x64.size a := fun v1550 k0_hw129 => k0_hw129.1
theorem k0_off542_inb : ∀ (v1550 : BitVec 32) (k0_hw129 : k0_chk129 v1550), ∀ a, (k0_off542 v1550) a + S1x16.size a ≤ S704x64.size a := fun v1550 k0_hw129 => k0_hw129.2.1
theorem k0_off543_inb : ∀ (v1550 : BitVec 32) (k0_hw129 : k0_chk129 v1550), ∀ a, (k0_off543 v1550) a + S1x16.size a ≤ S704x64.size a := fun v1550 k0_hw129 => k0_hw129.2.2.1
theorem k0_off544_inb : ∀ (v1550 : BitVec 32) (k0_hw129 : k0_chk129 v1550), ∀ a, (k0_off544 v1550) a + S1x16.size a ≤ S704x64.size a := fun v1550 k0_hw129 => k0_hw129.2.2.2

def k0_off545 (v1571 : BitVec 32) : Fin 2 → Nat :=
  let v1572 : Index := Scalar.indexCast v1571
  let c0_417 : Index := 0#32
  ![v1572.toNat, 0]

def k0_off546 (v1571 : BitVec 32) : Fin 2 → Nat :=
  let v1576 : Index := Scalar.indexCast v1571
  let c16_418 : Index := 16#32
  ![v1576.toNat, 16]
def k0_off547 (v1571 : BitVec 32) : Fin 2 → Nat :=
  let v1580 : Index := Scalar.indexCast v1571
  let c32_419 : Index := 32#32
  ![v1580.toNat, 32]
def k0_off548 (v1571 : BitVec 32) : Fin 2 → Nat :=
  let v1584 : Index := Scalar.indexCast v1571
  let c48_420 : Index := 48#32
  ![v1584.toNat, 48]

def k0_chk130 (v1571 : BitVec 32) : Prop :=
  (∀ a, (k0_off545 v1571) a + S1x16.size a ≤ S704x64.size a) ∧
  (∀ a, (k0_off546 v1571) a + S1x16.size a ≤ S704x64.size a) ∧
  (∀ a, (k0_off547 v1571) a + S1x16.size a ≤ S704x64.size a) ∧
  (∀ a, (k0_off548 v1571) a + S1x16.size a ≤ S704x64.size a)
theorem k0_off545_inb : ∀ (v1571 : BitVec 32) (k0_hw130 : k0_chk130 v1571), ∀ a, (k0_off545 v1571) a + S1x16.size a ≤ S704x64.size a := fun v1571 k0_hw130 => k0_hw130.1
theorem k0_off546_inb : ∀ (v1571 : BitVec 32) (k0_hw130 : k0_chk130 v1571), ∀ a, (k0_off546 v1571) a + S1x16.size a ≤ S704x64.size a := fun v1571 k0_hw130 => k0_hw130.2.1
theorem k0_off547_inb : ∀ (v1571 : BitVec 32) (k0_hw130 : k0_chk130 v1571), ∀ a, (k0_off547 v1571) a + S1x16.size a ≤ S704x64.size a := fun v1571 k0_hw130 => k0_hw130.2.2.1
theorem k0_off548_inb : ∀ (v1571 : BitVec 32) (k0_hw130 : k0_chk130 v1571), ∀ a, (k0_off548 v1571) a + S1x16.size a ≤ S704x64.size a := fun v1571 k0_hw130 => k0_hw130.2.2.2

def k0_off549 (v1592 : BitVec 32) : Fin 2 → Nat :=
  let v1593 : Index := Scalar.indexCast v1592
  let c0_421 : Index := 0#32
  ![v1593.toNat, 0]

def k0_off550 (v1592 : BitVec 32) : Fin 2 → Nat :=
  let v1597 : Index := Scalar.indexCast v1592
  let c16_422 : Index := 16#32
  ![v1597.toNat, 16]
def k0_off551 (v1592 : BitVec 32) : Fin 2 → Nat :=
  let v1601 : Index := Scalar.indexCast v1592
  let c32_423 : Index := 32#32
  ![v1601.toNat, 32]
def k0_off552 (v1592 : BitVec 32) : Fin 2 → Nat :=
  let v1605 : Index := Scalar.indexCast v1592
  let c48_424 : Index := 48#32
  ![v1605.toNat, 48]

def k0_chk131 (v1592 : BitVec 32) : Prop :=
  (∀ a, (k0_off549 v1592) a + S1x16.size a ≤ S704x64.size a) ∧
  (∀ a, (k0_off550 v1592) a + S1x16.size a ≤ S704x64.size a) ∧
  (∀ a, (k0_off551 v1592) a + S1x16.size a ≤ S704x64.size a) ∧
  (∀ a, (k0_off552 v1592) a + S1x16.size a ≤ S704x64.size a)
theorem k0_off549_inb : ∀ (v1592 : BitVec 32) (k0_hw131 : k0_chk131 v1592), ∀ a, (k0_off549 v1592) a + S1x16.size a ≤ S704x64.size a := fun v1592 k0_hw131 => k0_hw131.1
theorem k0_off550_inb : ∀ (v1592 : BitVec 32) (k0_hw131 : k0_chk131 v1592), ∀ a, (k0_off550 v1592) a + S1x16.size a ≤ S704x64.size a := fun v1592 k0_hw131 => k0_hw131.2.1
theorem k0_off551_inb : ∀ (v1592 : BitVec 32) (k0_hw131 : k0_chk131 v1592), ∀ a, (k0_off551 v1592) a + S1x16.size a ≤ S704x64.size a := fun v1592 k0_hw131 => k0_hw131.2.2.1
theorem k0_off552_inb : ∀ (v1592 : BitVec 32) (k0_hw131 : k0_chk131 v1592), ∀ a, (k0_off552 v1592) a + S1x16.size a ≤ S704x64.size a := fun v1592 k0_hw131 => k0_hw131.2.2.2

def k0_off553 (v1613 : BitVec 32) : Fin 2 → Nat :=
  let v1614 : Index := Scalar.indexCast v1613
  let c0_425 : Index := 0#32
  ![v1614.toNat, 0]

def k0_off554 (v1613 : BitVec 32) : Fin 2 → Nat :=
  let v1618 : Index := Scalar.indexCast v1613
  let c16_426 : Index := 16#32
  ![v1618.toNat, 16]
def k0_off555 (v1613 : BitVec 32) : Fin 2 → Nat :=
  let v1622 : Index := Scalar.indexCast v1613
  let c32_427 : Index := 32#32
  ![v1622.toNat, 32]
def k0_off556 (v1613 : BitVec 32) : Fin 2 → Nat :=
  let v1626 : Index := Scalar.indexCast v1613
  let c48_428 : Index := 48#32
  ![v1626.toNat, 48]

def k0_chk132 (v1613 : BitVec 32) : Prop :=
  (∀ a, (k0_off553 v1613) a + S1x16.size a ≤ S704x64.size a) ∧
  (∀ a, (k0_off554 v1613) a + S1x16.size a ≤ S704x64.size a) ∧
  (∀ a, (k0_off555 v1613) a + S1x16.size a ≤ S704x64.size a) ∧
  (∀ a, (k0_off556 v1613) a + S1x16.size a ≤ S704x64.size a)
theorem k0_off553_inb : ∀ (v1613 : BitVec 32) (k0_hw132 : k0_chk132 v1613), ∀ a, (k0_off553 v1613) a + S1x16.size a ≤ S704x64.size a := fun v1613 k0_hw132 => k0_hw132.1
theorem k0_off554_inb : ∀ (v1613 : BitVec 32) (k0_hw132 : k0_chk132 v1613), ∀ a, (k0_off554 v1613) a + S1x16.size a ≤ S704x64.size a := fun v1613 k0_hw132 => k0_hw132.2.1
theorem k0_off555_inb : ∀ (v1613 : BitVec 32) (k0_hw132 : k0_chk132 v1613), ∀ a, (k0_off555 v1613) a + S1x16.size a ≤ S704x64.size a := fun v1613 k0_hw132 => k0_hw132.2.2.1
theorem k0_off556_inb : ∀ (v1613 : BitVec 32) (k0_hw132 : k0_chk132 v1613), ∀ a, (k0_off556 v1613) a + S1x16.size a ≤ S704x64.size a := fun v1613 k0_hw132 => k0_hw132.2.2.2

def k0_off557 (k0_t2 : Fin k0_t2_loop.trips) : Fin 2 → Nat :=
  let c2_i32_144 : BitVec 32 := 2#32
  let c0_i32_43 : BitVec 32 := 0#32
  let c1_i32_45 : BitVec 32 := 1#32
  let arg13 : BitVec 32 := Scf.iv c0_i32_43 c1_i32_45 k0_t2
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off558 (k0_t2 : Fin k0_t2_loop.trips) : Fin 2 → Nat :=
  let c2_i32_144 : BitVec 32 := 2#32
  let c0_i32_43 : BitVec 32 := 0#32
  let c1_i32_45 : BitVec 32 := 1#32
  let arg13 : BitVec 32 := Scf.iv c0_i32_43 c1_i32_45 k0_t2
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off559 (k0_t2 : Fin k0_t2_loop.trips) : Fin 2 → Nat :=
  let c2_i32_144 : BitVec 32 := 2#32
  let c0_i32_43 : BitVec 32 := 0#32
  let c1_i32_45 : BitVec 32 := 1#32
  let arg13 : BitVec 32 := Scf.iv c0_i32_43 c1_i32_45 k0_t2
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off560 (k0_t2 : Fin k0_t2_loop.trips) : Fin 2 → Nat :=
  let c2_i32_144 : BitVec 32 := 2#32
  let c0_i32_43 : BitVec 32 := 0#32
  let c1_i32_45 : BitVec 32 := 1#32
  let arg13 : BitVec 32 := Scf.iv c0_i32_43 c1_i32_45 k0_t2
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_48 : BitVec 32 := 8#32
  let v80 : BitVec 32 := Scalar.muli v28 c8_i32_48
  let c2_i32_49 : BitVec 32 := 2#32
  let v81 : BitVec 32 := Scalar.addi v80 c2_i32_49
  let c128_i32_50 : BitVec 32 := 128#32
  let v82 : BitVec 32 := Scalar.muli v81 c128_i32_50
  v82
def k0_mult7 (i : grid0.Coords) : BitVec 32 :=
  let c1344_i32_57 : BitVec 32 := 1344#32
  let c0_i32_56 : BitVec 32 := 0#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_52 : BitVec 32 := 8#32
  let v87 : BitVec 32 := Scalar.muli v28 c8_i32_52
  let c3_i32 : BitVec 32 := 3#32
  let v88 : BitVec 32 := Scalar.addi v87 c3_i32
  let c128_i32_53 : BitVec 32 := 128#32
  let v89 : BitVec 32 := Scalar.muli v88 c128_i32_53
  let v90 : BitVec 32 := Scalar.addi c0_i32_54 v89
  let c288_i32_55 : BitVec 32 := 288#32
  let v91 : BitVec 32 := Scalar.subi v90 c288_i32_55
  let v92 : BitVec 32 := Scalar.maxsi c0_i32_56 v91
  let v93 : BitVec 32 := Scalar.minsi c1344_i32_57 v92
  v93
@[reducible] def k0_t3_loop : Scf.Loop 32 :=
  let c0_i32_60 : BitVec 32 := 0#32
  let c64_i32_61 : BitVec 32 := 64#32
  let v98 : BitVec 32 := Scalar.addi c0_i32_60 c64_i32_61
  let c1_i32_62 : BitVec 32 := 1#32
  ⟨c0_i32_60, v98, c1_i32_62⟩
def k0_off561 (k0_t3 : Fin k0_t3_loop.trips) : Fin 2 → Nat :=
  let c2_i32_143 : BitVec 32 := 2#32
  let c0_i32_60 : BitVec 32 := 0#32
  let c1_i32_62 : BitVec 32 := 1#32
  let arg13 : BitVec 32 := Scf.iv c0_i32_60 c1_i32_62 k0_t3
  let v189 : BitVec 32 := Scalar.muli c2_i32_143 arg13
  let v192 : Index := Scalar.indexCast v189
  let c0 : Index := 0#32
  ![v192.toNat, 0]
def k0_off562 (k0_t3 : Fin k0_t3_loop.trips) : Fin 2 → Nat :=
  let c2_i32_143 : BitVec 32 := 2#32
  let c0_i32_60 : BitVec 32 := 0#32
  let c1_i32_62 : BitVec 32 := 1#32
  let arg13 : BitVec 32 := Scf.iv c0_i32_60 c1_i32_62 k0_t3
  let v189 : BitVec 32 := Scalar.muli c2_i32_143 arg13
  let v194 : Index := Scalar.indexCast v189
  let c16 : Index := 16#32
  ![v194.toNat, 16]
def k0_off563 (k0_t3 : Fin k0_t3_loop.trips) : Fin 2 → Nat :=
  let c2_i32_143 : BitVec 32 := 2#32
  let c0_i32_60 : BitVec 32 := 0#32
  let c1_i32_62 : BitVec 32 := 1#32
  let arg13 : BitVec 32 := Scf.iv c0_i32_60 c1_i32_62 k0_t3
  let v189 : BitVec 32 := Scalar.muli c2_i32_143 arg13
  let v196 : Index := Scalar.indexCast v189
  let c32 : Index := 32#32
  ![v196.toNat, 32]
def k0_off564 (v218 : BitVec 32) : Fin 2 → Nat :=
  let v219 : Index := Scalar.indexCast v218
  let c0_152 : Index := 0#32
  ![v219.toNat, 0]

def k0_off565 (v218 : BitVec 32) : Fin 2 → Nat :=
  let v223 : Index := Scalar.indexCast v218
  let c16_153 : Index := 16#32
  ![v223.toNat, 16]
def k0_off566 (v218 : BitVec 32) : Fin 2 → Nat :=
  let v227 : Index := Scalar.indexCast v218
  let c32_154 : Index := 32#32
  ![v227.toNat, 32]
def k0_off567 (v218 : BitVec 32) : Fin 2 → Nat :=
  let v231 : Index := Scalar.indexCast v218
  let c48 : Index := 48#32
  ![v231.toNat, 48]

def k0_chk133 (v218 : BitVec 32) : Prop :=
  (∀ a, (k0_off564 v218) a + S1x16.size a ≤ S704x64.size a) ∧
  (∀ a, (k0_off565 v218) a + S1x16.size a ≤ S704x64.size a) ∧
  (∀ a, (k0_off566 v218) a + S1x16.size a ≤ S704x64.size a) ∧
  (∀ a, (k0_off567 v218) a + S1x16.size a ≤ S704x64.size a)
theorem k0_off564_inb : ∀ (v218 : BitVec 32) (k0_hw133 : k0_chk133 v218), ∀ a, (k0_off564 v218) a + S1x16.size a ≤ S704x64.size a := fun v218 k0_hw133 => k0_hw133.1
theorem k0_off565_inb : ∀ (v218 : BitVec 32) (k0_hw133 : k0_chk133 v218), ∀ a, (k0_off565 v218) a + S1x16.size a ≤ S704x64.size a := fun v218 k0_hw133 => k0_hw133.2.1
theorem k0_off566_inb : ∀ (v218 : BitVec 32) (k0_hw133 : k0_chk133 v218), ∀ a, (k0_off566 v218) a + S1x16.size a ≤ S704x64.size a := fun v218 k0_hw133 => k0_hw133.2.2.1
theorem k0_off567_inb : ∀ (v218 : BitVec 32) (k0_hw133 : k0_chk133 v218), ∀ a, (k0_off567 v218) a + S1x16.size a ≤ S704x64.size a := fun v218 k0_hw133 => k0_hw133.2.2.2

def k0_off568 (v239 : BitVec 32) : Fin 2 → Nat :=
  let v240 : Index := Scalar.indexCast v239
  let c0_155 : Index := 0#32
  ![v240.toNat, 0]

def k0_off569 (v239 : BitVec 32) : Fin 2 → Nat :=
  let v244 : Index := Scalar.indexCast v239
  let c16_156 : Index := 16#32
  ![v244.toNat, 16]
def k0_off570 (v239 : BitVec 32) : Fin 2 → Nat :=
  let v248 : Index := Scalar.indexCast v239
  let c32_157 : Index := 32#32
  ![v248.toNat, 32]
def k0_off571 (v239 : BitVec 32) : Fin 2 → Nat :=
  let v252 : Index := Scalar.indexCast v239
  let c48_158 : Index := 48#32
  ![v252.toNat, 48]

def k0_chk134 (v239 : BitVec 32) : Prop :=
  (∀ a, (k0_off568 v239) a + S1x16.size a ≤ S704x64.size a) ∧
  (∀ a, (k0_off569 v239) a + S1x16.size a ≤ S704x64.size a) ∧
  (∀ a, (k0_off570 v239) a + S1x16.size a ≤ S704x64.size a) ∧
  (∀ a, (k0_off571 v239) a + S1x16.size a ≤ S704x64.size a)
theorem k0_off568_inb : ∀ (v239 : BitVec 32) (k0_hw134 : k0_chk134 v239), ∀ a, (k0_off568 v239) a + S1x16.size a ≤ S704x64.size a := fun v239 k0_hw134 => k0_hw134.1
theorem k0_off569_inb : ∀ (v239 : BitVec 32) (k0_hw134 : k0_chk134 v239), ∀ a, (k0_off569 v239) a + S1x16.size a ≤ S704x64.size a := fun v239 k0_hw134 => k0_hw134.2.1
theorem k0_off570_inb : ∀ (v239 : BitVec 32) (k0_hw134 : k0_chk134 v239), ∀ a, (k0_off570 v239) a + S1x16.size a ≤ S704x64.size a := fun v239 k0_hw134 => k0_hw134.2.2.1
theorem k0_off571_inb : ∀ (v239 : BitVec 32) (k0_hw134 : k0_chk134 v239), ∀ a, (k0_off571 v239) a + S1x16.size a ≤ S704x64.size a := fun v239 k0_hw134 => k0_hw134.2.2.2

def k0_off572 (v260 : BitVec 32) : Fin 2 → Nat :=
  let v261 : Index := Scalar.indexCast v260
  let c0_159 : Index := 0#32
  ![v261.toNat, 0]

def k0_off573 (v260 : BitVec 32) : Fin 2 → Nat :=
  let v265 : Index := Scalar.indexCast v260
  let c16_160 : Index := 16#32
  ![v265.toNat, 16]
def k0_off574 (v260 : BitVec 32) : Fin 2 → Nat :=
  let v269 : Index := Scalar.indexCast v260
  let c32_161 : Index := 32#32
  ![v269.toNat, 32]
def k0_off575 (v260 : BitVec 32) : Fin 2 → Nat :=
  let v273 : Index := Scalar.indexCast v260
  let c48_162 : Index := 48#32
  ![v273.toNat, 48]

def k0_chk135 (v260 : BitVec 32) : Prop :=
  (∀ a, (k0_off572 v260) a + S1x16.size a ≤ S704x64.size a) ∧
  (∀ a, (k0_off573 v260) a + S1x16.size a ≤ S704x64.size a) ∧
  (∀ a, (k0_off574 v260) a + S1x16.size a ≤ S704x64.size a) ∧
  (∀ a, (k0_off575 v260) a + S1x16.size a ≤ S704x64.size a)
theorem k0_off572_inb : ∀ (v260 : BitVec 32) (k0_hw135 : k0_chk135 v260), ∀ a, (k0_off572 v260) a + S1x16.size a ≤ S704x64.size a := fun v260 k0_hw135 => k0_hw135.1
theorem k0_off573_inb : ∀ (v260 : BitVec 32) (k0_hw135 : k0_chk135 v260), ∀ a, (k0_off573 v260) a + S1x16.size a ≤ S704x64.size a := fun v260 k0_hw135 => k0_hw135.2.1
theorem k0_off574_inb : ∀ (v260 : BitVec 32) (k0_hw135 : k0_chk135 v260), ∀ a, (k0_off574 v260) a + S1x16.size a ≤ S704x64.size a := fun v260 k0_hw135 => k0_hw135.2.2.1
theorem k0_off575_inb : ∀ (v260 : BitVec 32) (k0_hw135 : k0_chk135 v260), ∀ a, (k0_off575 v260) a + S1x16.size a ≤ S704x64.size a := fun v260 k0_hw135 => k0_hw135.2.2.2

def k0_off576 (v281 : BitVec 32) : Fin 2 → Nat :=
  let v282 : Index := Scalar.indexCast v281
  let c0_163 : Index := 0#32
  ![v282.toNat, 0]

def k0_off577 (v281 : BitVec 32) : Fin 2 → Nat :=
  let v286 : Index := Scalar.indexCast v281
  let c16_164 : Index := 16#32
  ![v286.toNat, 16]
def k0_off578 (v281 : BitVec 32) : Fin 2 → Nat :=
  let v290 : Index := Scalar.indexCast v281
  let c32_165 : Index := 32#32
  ![v290.toNat, 32]
def k0_off579 (v281 : BitVec 32) : Fin 2 → Nat :=
  let v294 : Index := Scalar.indexCast v281
  let c48_166 : Index := 48#32
  ![v294.toNat, 48]

def k0_chk136 (v281 : BitVec 32) : Prop :=
  (∀ a, (k0_off576 v281) a + S1x16.size a ≤ S704x64.size a) ∧
  (∀ a, (k0_off577 v281) a + S1x16.size a ≤ S704x64.size a) ∧
  (∀ a, (k0_off578 v281) a + S1x16.size a ≤ S704x64.size a) ∧
  (∀ a, (k0_off579 v281) a + S1x16.size a ≤ S704x64.size a)
theorem k0_off576_inb : ∀ (v281 : BitVec 32) (k0_hw136 : k0_chk136 v281), ∀ a, (k0_off576 v281) a + S1x16.size a ≤ S704x64.size a := fun v281 k0_hw136 => k0_hw136.1
theorem k0_off577_inb : ∀ (v281 : BitVec 32) (k0_hw136 : k0_chk136 v281), ∀ a, (k0_off577 v281) a + S1x16.size a ≤ S704x64.size a := fun v281 k0_hw136 => k0_hw136.2.1
theorem k0_off578_inb : ∀ (v281 : BitVec 32) (k0_hw136 : k0_chk136 v281), ∀ a, (k0_off578 v281) a + S1x16.size a ≤ S704x64.size a := fun v281 k0_hw136 => k0_hw136.2.2.1
theorem k0_off579_inb : ∀ (v281 : BitVec 32) (k0_hw136 : k0_chk136 v281), ∀ a, (k0_off579 v281) a + S1x16.size a ≤ S704x64.size a := fun v281 k0_hw136 => k0_hw136.2.2.2

def k0_off580 (v302 : BitVec 32) : Fin 2 → Nat :=
  let v303 : Index := Scalar.indexCast v302
  let c0_167 : Index := 0#32
  ![v303.toNat, 0]

def k0_off581 (v302 : BitVec 32) : Fin 2 → Nat :=
  let v307 : Index := Scalar.indexCast v302
  let c16_168 : Index := 16#32
  ![v307.toNat, 16]
def k0_off582 (v302 : BitVec 32) : Fin 2 → Nat :=
  let v311 : Index := Scalar.indexCast v302
  let c32_169 : Index := 32#32
  ![v311.toNat, 32]
def k0_off583 (v302 : BitVec 32) : Fin 2 → Nat :=
  let v315 : Index := Scalar.indexCast v302
  let c48_170 : Index := 48#32
  ![v315.toNat, 48]

def k0_chk137 (v302 : BitVec 32) : Prop :=
  (∀ a, (k0_off580 v302) a + S1x16.size a ≤ S704x64.size a) ∧
  (∀ a, (k0_off581 v302) a + S1x16.size a ≤ S704x64.size a) ∧
  (∀ a, (k0_off582 v302) a + S1x16.size a ≤ S704x64.size a) ∧
  (∀ a, (k0_off583 v302) a + S1x16.size a ≤ S704x64.size a)
theorem k0_off580_inb : ∀ (v302 : BitVec 32) (k0_hw137 : k0_chk137 v302), ∀ a, (k0_off580 v302) a + S1x16.size a ≤ S704x64.size a := fun v302 k0_hw137 => k0_hw137.1
theorem k0_off581_inb : ∀ (v302 : BitVec 32) (k0_hw137 : k0_chk137 v302), ∀ a, (k0_off581 v302) a + S1x16.size a ≤ S704x64.size a := fun v302 k0_hw137 => k0_hw137.2.1
theorem k0_off582_inb : ∀ (v302 : BitVec 32) (k0_hw137 : k0_chk137 v302), ∀ a, (k0_off582 v302) a + S1x16.size a ≤ S704x64.size a := fun v302 k0_hw137 => k0_hw137.2.2.1
theorem k0_off583_inb : ∀ (v302 : BitVec 32) (k0_hw137 : k0_chk137 v302), ∀ a, (k0_off583 v302) a + S1x16.size a ≤ S704x64.size a := fun v302 k0_hw137 => k0_hw137.2.2.2

def k0_off584 (v323 : BitVec 32) : Fin 2 → Nat :=
  let v324 : Index := Scalar.indexCast v323
  let c0_171 : Index := 0#32
  ![v324.toNat, 0]

def k0_off585 (v323 : BitVec 32) : Fin 2 → Nat :=
  let v328 : Index := Scalar.indexCast v323
  let c16_172 : Index := 16#32
  ![v328.toNat, 16]
def k0_off586 (v323 : BitVec 32) : Fin 2 → Nat :=
  let v332 : Index := Scalar.indexCast v323
  let c32_173 : Index := 32#32
  ![v332.toNat, 32]
def k0_off587 (v323 : BitVec 32) : Fin 2 → Nat :=
  let v336 : Index := Scalar.indexCast v323
  let c48_174 : Index := 48#32
  ![v336.toNat, 48]

def k0_chk138 (v323 : BitVec 32) : Prop :=
  (∀ a, (k0_off584 v323) a + S1x16.size a ≤ S704x64.size a) ∧
  (∀ a, (k0_off585 v323) a + S1x16.size a ≤ S704x64.size a) ∧
  (∀ a, (k0_off586 v323) a + S1x16.size a ≤ S704x64.size a) ∧
  (∀ a, (k0_off587 v323) a + S1x16.size a ≤ S704x64.size a)
theorem k0_off584_inb : ∀ (v323 : BitVec 32) (k0_hw138 : k0_chk138 v323), ∀ a, (k0_off584 v323) a + S1x16.size a ≤ S704x64.size a := fun v323 k0_hw138 => k0_hw138.1
theorem k0_off585_inb : ∀ (v323 : BitVec 32) (k0_hw138 : k0_chk138 v323), ∀ a, (k0_off585 v323) a + S1x16.size a ≤ S704x64.size a := fun v323 k0_hw138 => k0_hw138.2.1
theorem k0_off586_inb : ∀ (v323 : BitVec 32) (k0_hw138 : k0_chk138 v323), ∀ a, (k0_off586 v323) a + S1x16.size a ≤ S704x64.size a := fun v323 k0_hw138 => k0_hw138.2.2.1
theorem k0_off587_inb : ∀ (v323 : BitVec 32) (k0_hw138 : k0_chk138 v323), ∀ a, (k0_off587 v323) a + S1x16.size a ≤ S704x64.size a := fun v323 k0_hw138 => k0_hw138.2.2.2

def k0_off588 (v344 : BitVec 32) : Fin 2 → Nat :=
  let v345 : Index := Scalar.indexCast v344
  let c0_175 : Index := 0#32
  ![v345.toNat, 0]

def k0_off589 (v344 : BitVec 32) : Fin 2 → Nat :=
  let v349 : Index := Scalar.indexCast v344
  let c16_176 : Index := 16#32
  ![v349.toNat, 16]
def k0_off590 (v344 : BitVec 32) : Fin 2 → Nat :=
  let v353 : Index := Scalar.indexCast v344
  let c32_177 : Index := 32#32
  ![v353.toNat, 32]
def k0_off591 (v344 : BitVec 32) : Fin 2 → Nat :=
  let v357 : Index := Scalar.indexCast v344
  let c48_178 : Index := 48#32
  ![v357.toNat, 48]

def k0_chk139 (v344 : BitVec 32) : Prop :=
  (∀ a, (k0_off588 v344) a + S1x16.size a ≤ S704x64.size a) ∧
  (∀ a, (k0_off589 v344) a + S1x16.size a ≤ S704x64.size a) ∧
  (∀ a, (k0_off590 v344) a + S1x16.size a ≤ S704x64.size a) ∧
  (∀ a, (k0_off591 v344) a + S1x16.size a ≤ S704x64.size a)
theorem k0_off588_inb : ∀ (v344 : BitVec 32) (k0_hw139 : k0_chk139 v344), ∀ a, (k0_off588 v344) a + S1x16.size a ≤ S704x64.size a := fun v344 k0_hw139 => k0_hw139.1
theorem k0_off589_inb : ∀ (v344 : BitVec 32) (k0_hw139 : k0_chk139 v344), ∀ a, (k0_off589 v344) a + S1x16.size a ≤ S704x64.size a := fun v344 k0_hw139 => k0_hw139.2.1
theorem k0_off590_inb : ∀ (v344 : BitVec 32) (k0_hw139 : k0_chk139 v344), ∀ a, (k0_off590 v344) a + S1x16.size a ≤ S704x64.size a := fun v344 k0_hw139 => k0_hw139.2.2.1
theorem k0_off591_inb : ∀ (v344 : BitVec 32) (k0_hw139 : k0_chk139 v344), ∀ a, (k0_off591 v344) a + S1x16.size a ≤ S704x64.size a := fun v344 k0_hw139 => k0_hw139.2.2.2

def k0_off592 (v365 : BitVec 32) : Fin 2 → Nat :=
  let v366 : Index := Scalar.indexCast v365
  let c0_179 : Index := 0#32
  ![v366.toNat, 0]

def k0_off593 (v365 : BitVec 32) : Fin 2 → Nat :=
  let v370 : Index := Scalar.indexCast v365
  let c16_180 : Index := 16#32
  ![v370.toNat, 16]
def k0_off594 (v365 : BitVec 32) : Fin 2 → Nat :=
  let v374 : Index := Scalar.indexCast v365
  let c32_181 : Index := 32#32
  ![v374.toNat, 32]
def k0_off595 (v365 : BitVec 32) : Fin 2 → Nat :=
  let v378 : Index := Scalar.indexCast v365
  let c48_182 : Index := 48#32
  ![v378.toNat, 48]

def k0_chk140 (v365 : BitVec 32) : Prop :=
  (∀ a, (k0_off592 v365) a + S1x16.size a ≤ S704x64.size a) ∧
  (∀ a, (k0_off593 v365) a + S1x16.size a ≤ S704x64.size a) ∧
  (∀ a, (k0_off594 v365) a + S1x16.size a ≤ S704x64.size a) ∧
  (∀ a, (k0_off595 v365) a + S1x16.size a ≤ S704x64.size a)
theorem k0_off592_inb : ∀ (v365 : BitVec 32) (k0_hw140 : k0_chk140 v365), ∀ a, (k0_off592 v365) a + S1x16.size a ≤ S704x64.size a := fun v365 k0_hw140 => k0_hw140.1
theorem k0_off593_inb : ∀ (v365 : BitVec 32) (k0_hw140 : k0_chk140 v365), ∀ a, (k0_off593 v365) a + S1x16.size a ≤ S704x64.size a := fun v365 k0_hw140 => k0_hw140.2.1
theorem k0_off594_inb : ∀ (v365 : BitVec 32) (k0_hw140 : k0_chk140 v365), ∀ a, (k0_off594 v365) a + S1x16.size a ≤ S704x64.size a := fun v365 k0_hw140 => k0_hw140.2.2.1
theorem k0_off595_inb : ∀ (v365 : BitVec 32) (k0_hw140 : k0_chk140 v365), ∀ a, (k0_off595 v365) a + S1x16.size a ≤ S704x64.size a := fun v365 k0_hw140 => k0_hw140.2.2.2

def k0_off596 (v386 : BitVec 32) : Fin 2 → Nat :=
  let v387 : Index := Scalar.indexCast v386
  let c0_183 : Index := 0#32
  ![v387.toNat, 0]

def k0_off597 (v386 : BitVec 32) : Fin 2 → Nat :=
  let v391 : Index := Scalar.indexCast v386
  let c16_184 : Index := 16#32
  ![v391.toNat, 16]
def k0_off598 (v386 : BitVec 32) : Fin 2 → Nat :=
  let v395 : Index := Scalar.indexCast v386
  let c32_185 : Index := 32#32
  ![v395.toNat, 32]
def k0_off599 (v386 : BitVec 32) : Fin 2 → Nat :=
  let v399 : Index := Scalar.indexCast v386
  let c48_186 : Index := 48#32
  ![v399.toNat, 48]

def k0_chk141 (v386 : BitVec 32) : Prop :=
  (∀ a, (k0_off596 v386) a + S1x16.size a ≤ S704x64.size a) ∧
  (∀ a, (k0_off597 v386) a + S1x16.size a ≤ S704x64.size a) ∧
  (∀ a, (k0_off598 v386) a + S1x16.size a ≤ S704x64.size a) ∧
  (∀ a, (k0_off599 v386) a + S1x16.size a ≤ S704x64.size a)
theorem k0_off596_inb : ∀ (v386 : BitVec 32) (k0_hw141 : k0_chk141 v386), ∀ a, (k0_off596 v386) a + S1x16.size a ≤ S704x64.size a := fun v386 k0_hw141 => k0_hw141.1
theorem k0_off597_inb : ∀ (v386 : BitVec 32) (k0_hw141 : k0_chk141 v386), ∀ a, (k0_off597 v386) a + S1x16.size a ≤ S704x64.size a := fun v386 k0_hw141 => k0_hw141.2.1
theorem k0_off598_inb : ∀ (v386 : BitVec 32) (k0_hw141 : k0_chk141 v386), ∀ a, (k0_off598 v386) a + S1x16.size a ≤ S704x64.size a := fun v386 k0_hw141 => k0_hw141.2.2.1
theorem k0_off599_inb : ∀ (v386 : BitVec 32) (k0_hw141 : k0_chk141 v386), ∀ a, (k0_off599 v386) a + S1x16.size a ≤ S704x64.size a := fun v386 k0_hw141 => k0_hw141.2.2.2

def k0_off600 (v407 : BitVec 32) : Fin 2 → Nat :=
  let v408 : Index := Scalar.indexCast v407
  let c0_187 : Index := 0#32
  ![v408.toNat, 0]

def k0_off601 (v407 : BitVec 32) : Fin 2 → Nat :=
  let v412 : Index := Scalar.indexCast v407
  let c16_188 : Index := 16#32
  ![v412.toNat, 16]
def k0_off602 (v407 : BitVec 32) : Fin 2 → Nat :=
  let v416 : Index := Scalar.indexCast v407
  let c32_189 : Index := 32#32
  ![v416.toNat, 32]
def k0_off603 (v407 : BitVec 32) : Fin 2 → Nat :=
  let v420 : Index := Scalar.indexCast v407
  let c48_190 : Index := 48#32
  ![v420.toNat, 48]

def k0_chk142 (v407 : BitVec 32) : Prop :=
  (∀ a, (k0_off600 v407) a + S1x16.size a ≤ S704x64.size a) ∧
  (∀ a, (k0_off601 v407) a + S1x16.size a ≤ S704x64.size a) ∧
  (∀ a, (k0_off602 v407) a + S1x16.size a ≤ S704x64.size a) ∧
  (∀ a, (k0_off603 v407) a + S1x16.size a ≤ S704x64.size a)
theorem k0_off600_inb : ∀ (v407 : BitVec 32) (k0_hw142 : k0_chk142 v407), ∀ a, (k0_off600 v407) a + S1x16.size a ≤ S704x64.size a := fun v407 k0_hw142 => k0_hw142.1
theorem k0_off601_inb : ∀ (v407 : BitVec 32) (k0_hw142 : k0_chk142 v407), ∀ a, (k0_off601 v407) a + S1x16.size a ≤ S704x64.size a := fun v407 k0_hw142 => k0_hw142.2.1
theorem k0_off602_inb : ∀ (v407 : BitVec 32) (k0_hw142 : k0_chk142 v407), ∀ a, (k0_off602 v407) a + S1x16.size a ≤ S704x64.size a := fun v407 k0_hw142 => k0_hw142.2.2.1
theorem k0_off603_inb : ∀ (v407 : BitVec 32) (k0_hw142 : k0_chk142 v407), ∀ a, (k0_off603 v407) a + S1x16.size a ≤ S704x64.size a := fun v407 k0_hw142 => k0_hw142.2.2.2

def k0_off604 (v428 : BitVec 32) : Fin 2 → Nat :=
  let v429 : Index := Scalar.indexCast v428
  let c0_191 : Index := 0#32
  ![v429.toNat, 0]

def k0_off605 (v428 : BitVec 32) : Fin 2 → Nat :=
  let v433 : Index := Scalar.indexCast v428
  let c16_192 : Index := 16#32
  ![v433.toNat, 16]
def k0_off606 (v428 : BitVec 32) : Fin 2 → Nat :=
  let v437 : Index := Scalar.indexCast v428
  let c32_193 : Index := 32#32
  ![v437.toNat, 32]
def k0_off607 (v428 : BitVec 32) : Fin 2 → Nat :=
  let v441 : Index := Scalar.indexCast v428
  let c48_194 : Index := 48#32
  ![v441.toNat, 48]

def k0_chk143 (v428 : BitVec 32) : Prop :=
  (∀ a, (k0_off604 v428) a + S1x16.size a ≤ S704x64.size a) ∧
  (∀ a, (k0_off605 v428) a + S1x16.size a ≤ S704x64.size a) ∧
  (∀ a, (k0_off606 v428) a + S1x16.size a ≤ S704x64.size a) ∧
  (∀ a, (k0_off607 v428) a + S1x16.size a ≤ S704x64.size a)
theorem k0_off604_inb : ∀ (v428 : BitVec 32) (k0_hw143 : k0_chk143 v428), ∀ a, (k0_off604 v428) a + S1x16.size a ≤ S704x64.size a := fun v428 k0_hw143 => k0_hw143.1
theorem k0_off605_inb : ∀ (v428 : BitVec 32) (k0_hw143 : k0_chk143 v428), ∀ a, (k0_off605 v428) a + S1x16.size a ≤ S704x64.size a := fun v428 k0_hw143 => k0_hw143.2.1
theorem k0_off606_inb : ∀ (v428 : BitVec 32) (k0_hw143 : k0_chk143 v428), ∀ a, (k0_off606 v428) a + S1x16.size a ≤ S704x64.size a := fun v428 k0_hw143 => k0_hw143.2.2.1
theorem k0_off607_inb : ∀ (v428 : BitVec 32) (k0_hw143 : k0_chk143 v428), ∀ a, (k0_off607 v428) a + S1x16.size a ≤ S704x64.size a := fun v428 k0_hw143 => k0_hw143.2.2.2

def k0_off608 (v449 : BitVec 32) : Fin 2 → Nat :=
  let v450 : Index := Scalar.indexCast v449
  let c0_195 : Index := 0#32
  ![v450.toNat, 0]

def k0_off609 (v449 : BitVec 32) : Fin 2 → Nat :=
  let v454 : Index := Scalar.indexCast v449
  let c16_196 : Index := 16#32
  ![v454.toNat, 16]
def k0_off610 (v449 : BitVec 32) : Fin 2 → Nat :=
  let v458 : Index := Scalar.indexCast v449
  let c32_197 : Index := 32#32
  ![v458.toNat, 32]
def k0_off611 (v449 : BitVec 32) : Fin 2 → Nat :=
  let v462 : Index := Scalar.indexCast v449
  let c48_198 : Index := 48#32
  ![v462.toNat, 48]

def k0_chk144 (v449 : BitVec 32) : Prop :=
  (∀ a, (k0_off608 v449) a + S1x16.size a ≤ S704x64.size a) ∧
  (∀ a, (k0_off609 v449) a + S1x16.size a ≤ S704x64.size a) ∧
  (∀ a, (k0_off610 v449) a + S1x16.size a ≤ S704x64.size a) ∧
  (∀ a, (k0_off611 v449) a + S1x16.size a ≤ S704x64.size a)
theorem k0_off608_inb : ∀ (v449 : BitVec 32) (k0_hw144 : k0_chk144 v449), ∀ a, (k0_off608 v449) a + S1x16.size a ≤ S704x64.size a := fun v449 k0_hw144 => k0_hw144.1
theorem k0_off609_inb : ∀ (v449 : BitVec 32) (k0_hw144 : k0_chk144 v449), ∀ a, (k0_off609 v449) a + S1x16.size a ≤ S704x64.size a := fun v449 k0_hw144 => k0_hw144.2.1
theorem k0_off610_inb : ∀ (v449 : BitVec 32) (k0_hw144 : k0_chk144 v449), ∀ a, (k0_off610 v449) a + S1x16.size a ≤ S704x64.size a := fun v449 k0_hw144 => k0_hw144.2.2.1
theorem k0_off611_inb : ∀ (v449 : BitVec 32) (k0_hw144 : k0_chk144 v449), ∀ a, (k0_off611 v449) a + S1x16.size a ≤ S704x64.size a := fun v449 k0_hw144 => k0_hw144.2.2.2

def k0_off612 (v470 : BitVec 32) : Fin 2 → Nat :=
  let v471 : Index := Scalar.indexCast v470
  let c0_199 : Index := 0#32
  ![v471.toNat, 0]

def k0_off613 (v470 : BitVec 32) : Fin 2 → Nat :=
  let v475 : Index := Scalar.indexCast v470
  let c16_200 : Index := 16#32
  ![v475.toNat, 16]
def k0_off614 (v470 : BitVec 32) : Fin 2 → Nat :=
  let v479 : Index := Scalar.indexCast v470
  let c32_201 : Index := 32#32
  ![v479.toNat, 32]
def k0_off615 (v470 : BitVec 32) : Fin 2 → Nat :=
  let v483 : Index := Scalar.indexCast v470
  let c48_202 : Index := 48#32
  ![v483.toNat, 48]

def k0_chk145 (v470 : BitVec 32) : Prop :=
  (∀ a, (k0_off612 v470) a + S1x16.size a ≤ S704x64.size a) ∧
  (∀ a, (k0_off613 v470) a + S1x16.size a ≤ S704x64.size a) ∧
  (∀ a, (k0_off614 v470) a + S1x16.size a ≤ S704x64.size a) ∧
  (∀ a, (k0_off615 v470) a + S1x16.size a ≤ S704x64.size a)
theorem k0_off612_inb : ∀ (v470 : BitVec 32) (k0_hw145 : k0_chk145 v470), ∀ a, (k0_off612 v470) a + S1x16.size a ≤ S704x64.size a := fun v470 k0_hw145 => k0_hw145.1
theorem k0_off613_inb : ∀ (v470 : BitVec 32) (k0_hw145 : k0_chk145 v470), ∀ a, (k0_off613 v470) a + S1x16.size a ≤ S704x64.size a := fun v470 k0_hw145 => k0_hw145.2.1
theorem k0_off614_inb : ∀ (v470 : BitVec 32) (k0_hw145 : k0_chk145 v470), ∀ a, (k0_off614 v470) a + S1x16.size a ≤ S704x64.size a := fun v470 k0_hw145 => k0_hw145.2.2.1
theorem k0_off615_inb : ∀ (v470 : BitVec 32) (k0_hw145 : k0_chk145 v470), ∀ a, (k0_off615 v470) a + S1x16.size a ≤ S704x64.size a := fun v470 k0_hw145 => k0_hw145.2.2.2

def k0_off616 (v491 : BitVec 32) : Fin 2 → Nat :=
  let v492 : Index := Scalar.indexCast v491
  let c0_203 : Index := 0#32
  ![v492.toNat, 0]

def k0_off617 (v491 : BitVec 32) : Fin 2 → Nat :=
  let v496 : Index := Scalar.indexCast v491
  let c16_204 : Index := 16#32
  ![v496.toNat, 16]
def k0_off618 (v491 : BitVec 32) : Fin 2 → Nat :=
  let v500 : Index := Scalar.indexCast v491
  let c32_205 : Index := 32#32
  ![v500.toNat, 32]
def k0_off619 (v491 : BitVec 32) : Fin 2 → Nat :=
  let v504 : Index := Scalar.indexCast v491
  let c48_206 : Index := 48#32
  ![v504.toNat, 48]

def k0_chk146 (v491 : BitVec 32) : Prop :=
  (∀ a, (k0_off616 v491) a + S1x16.size a ≤ S704x64.size a) ∧
  (∀ a, (k0_off617 v491) a + S1x16.size a ≤ S704x64.size a) ∧
  (∀ a, (k0_off618 v491) a + S1x16.size a ≤ S704x64.size a) ∧
  (∀ a, (k0_off619 v491) a + S1x16.size a ≤ S704x64.size a)
theorem k0_off616_inb : ∀ (v491 : BitVec 32) (k0_hw146 : k0_chk146 v491), ∀ a, (k0_off616 v491) a + S1x16.size a ≤ S704x64.size a := fun v491 k0_hw146 => k0_hw146.1
theorem k0_off617_inb : ∀ (v491 : BitVec 32) (k0_hw146 : k0_chk146 v491), ∀ a, (k0_off617 v491) a + S1x16.size a ≤ S704x64.size a := fun v491 k0_hw146 => k0_hw146.2.1
theorem k0_off618_inb : ∀ (v491 : BitVec 32) (k0_hw146 : k0_chk146 v491), ∀ a, (k0_off618 v491) a + S1x16.size a ≤ S704x64.size a := fun v491 k0_hw146 => k0_hw146.2.2.1
theorem k0_off619_inb : ∀ (v491 : BitVec 32) (k0_hw146 : k0_chk146 v491), ∀ a, (k0_off619 v491) a + S1x16.size a ≤ S704x64.size a := fun v491 k0_hw146 => k0_hw146.2.2.2

def k0_off620 (v512 : BitVec 32) : Fin 2 → Nat :=
  let v513 : Index := Scalar.indexCast v512
  let c0_207 : Index := 0#32
  ![v513.toNat, 0]

def k0_off621 (v512 : BitVec 32) : Fin 2 → Nat :=
  let v517 : Index := Scalar.indexCast v512
  let c16_208 : Index := 16#32
  ![v517.toNat, 16]
def k0_off622 (v512 : BitVec 32) : Fin 2 → Nat :=
  let v521 : Index := Scalar.indexCast v512
  let c32_209 : Index := 32#32
  ![v521.toNat, 32]
def k0_off623 (v512 : BitVec 32) : Fin 2 → Nat :=
  let v525 : Index := Scalar.indexCast v512
  let c48_210 : Index := 48#32
  ![v525.toNat, 48]

def k0_chk147 (v512 : BitVec 32) : Prop :=
  (∀ a, (k0_off620 v512) a + S1x16.size a ≤ S704x64.size a) ∧
  (∀ a, (k0_off621 v512) a + S1x16.size a ≤ S704x64.size a) ∧
  (∀ a, (k0_off622 v512) a + S1x16.size a ≤ S704x64.size a) ∧
  (∀ a, (k0_off623 v512) a + S1x16.size a ≤ S704x64.size a)
theorem k0_off620_inb : ∀ (v512 : BitVec 32) (k0_hw147 : k0_chk147 v512), ∀ a, (k0_off620 v512) a + S1x16.size a ≤ S704x64.size a := fun v512 k0_hw147 => k0_hw147.1
theorem k0_off621_inb : ∀ (v512 : BitVec 32) (k0_hw147 : k0_chk147 v512), ∀ a, (k0_off621 v512) a + S1x16.size a ≤ S704x64.size a := fun v512 k0_hw147 => k0_hw147.2.1
theorem k0_off622_inb : ∀ (v512 : BitVec 32) (k0_hw147 : k0_chk147 v512), ∀ a, (k0_off622 v512) a + S1x16.size a ≤ S704x64.size a := fun v512 k0_hw147 => k0_hw147.2.2.1
theorem k0_off623_inb : ∀ (v512 : BitVec 32) (k0_hw147 : k0_chk147 v512), ∀ a, (k0_off623 v512) a + S1x16.size a ≤ S704x64.size a := fun v512 k0_hw147 => k0_hw147.2.2.2

def k0_off624 (v533 : BitVec 32) : Fin 2 → Nat :=
  let v534 : Index := Scalar.indexCast v533
  let c0_211 : Index := 0#32
  ![v534.toNat, 0]

def k0_off625 (v533 : BitVec 32) : Fin 2 → Nat :=
  let v538 : Index := Scalar.indexCast v533
  let c16_212 : Index := 16#32
  ![v538.toNat, 16]
def k0_off626 (v533 : BitVec 32) : Fin 2 → Nat :=
  let v542 : Index := Scalar.indexCast v533
  let c32_213 : Index := 32#32
  ![v542.toNat, 32]
def k0_off627 (v533 : BitVec 32) : Fin 2 → Nat :=
  let v546 : Index := Scalar.indexCast v533
  let c48_214 : Index := 48#32
  ![v546.toNat, 48]

def k0_chk148 (v533 : BitVec 32) : Prop :=
  (∀ a, (k0_off624 v533) a + S1x16.size a ≤ S704x64.size a) ∧
  (∀ a, (k0_off625 v533) a + S1x16.size a ≤ S704x64.size a) ∧
  (∀ a, (k0_off626 v533) a + S1x16.size a ≤ S704x64.size a) ∧
  (∀ a, (k0_off627 v533) a + S1x16.size a ≤ S704x64.size a)
theorem k0_off624_inb : ∀ (v533 : BitVec 32) (k0_hw148 : k0_chk148 v533), ∀ a, (k0_off624 v533) a + S1x16.size a ≤ S704x64.size a := fun v533 k0_hw148 => k0_hw148.1
theorem k0_off625_inb : ∀ (v533 : BitVec 32) (k0_hw148 : k0_chk148 v533), ∀ a, (k0_off625 v533) a + S1x16.size a ≤ S704x64.size a := fun v533 k0_hw148 => k0_hw148.2.1
theorem k0_off626_inb : ∀ (v533 : BitVec 32) (k0_hw148 : k0_chk148 v533), ∀ a, (k0_off626 v533) a + S1x16.size a ≤ S704x64.size a := fun v533 k0_hw148 => k0_hw148.2.2.1
theorem k0_off627_inb : ∀ (v533 : BitVec 32) (k0_hw148 : k0_chk148 v533), ∀ a, (k0_off627 v533) a + S1x16.size a ≤ S704x64.size a := fun v533 k0_hw148 => k0_hw148.2.2.2

def k0_off628 (v554 : BitVec 32) : Fin 2 → Nat :=
  let v555 : Index := Scalar.indexCast v554
  let c0_215 : Index := 0#32
  ![v555.toNat, 0]

def k0_off629 (v554 : BitVec 32) : Fin 2 → Nat :=
  let v559 : Index := Scalar.indexCast v554
  let c16_216 : Index := 16#32
  ![v559.toNat, 16]
def k0_off630 (v554 : BitVec 32) : Fin 2 → Nat :=
  let v563 : Index := Scalar.indexCast v554
  let c32_217 : Index := 32#32
  ![v563.toNat, 32]
def k0_off631 (v554 : BitVec 32) : Fin 2 → Nat :=
  let v567 : Index := Scalar.indexCast v554
  let c48_218 : Index := 48#32
  ![v567.toNat, 48]

def k0_chk149 (v554 : BitVec 32) : Prop :=
  (∀ a, (k0_off628 v554) a + S1x16.size a ≤ S704x64.size a) ∧
  (∀ a, (k0_off629 v554) a + S1x16.size a ≤ S704x64.size a) ∧
  (∀ a, (k0_off630 v554) a + S1x16.size a ≤ S704x64.size a) ∧
  (∀ a, (k0_off631 v554) a + S1x16.size a ≤ S704x64.size a)
theorem k0_off628_inb : ∀ (v554 : BitVec 32) (k0_hw149 : k0_chk149 v554), ∀ a, (k0_off628 v554) a + S1x16.size a ≤ S704x64.size a := fun v554 k0_hw149 => k0_hw149.1
theorem k0_off629_inb : ∀ (v554 : BitVec 32) (k0_hw149 : k0_chk149 v554), ∀ a, (k0_off629 v554) a + S1x16.size a ≤ S704x64.size a := fun v554 k0_hw149 => k0_hw149.2.1
theorem k0_off630_inb : ∀ (v554 : BitVec 32) (k0_hw149 : k0_chk149 v554), ∀ a, (k0_off630 v554) a + S1x16.size a ≤ S704x64.size a := fun v554 k0_hw149 => k0_hw149.2.2.1
theorem k0_off631_inb : ∀ (v554 : BitVec 32) (k0_hw149 : k0_chk149 v554), ∀ a, (k0_off631 v554) a + S1x16.size a ≤ S704x64.size a := fun v554 k0_hw149 => k0_hw149.2.2.2

def k0_off632 (v575 : BitVec 32) : Fin 2 → Nat :=
  let v576 : Index := Scalar.indexCast v575
  let c0_219 : Index := 0#32
  ![v576.toNat, 0]

def k0_off633 (v575 : BitVec 32) : Fin 2 → Nat :=
  let v580 : Index := Scalar.indexCast v575
  let c16_220 : Index := 16#32
  ![v580.toNat, 16]
def k0_off634 (v575 : BitVec 32) : Fin 2 → Nat :=
  let v584 : Index := Scalar.indexCast v575
  let c32_221 : Index := 32#32
  ![v584.toNat, 32]
def k0_off635 (v575 : BitVec 32) : Fin 2 → Nat :=
  let v588 : Index := Scalar.indexCast v575
  let c48_222 : Index := 48#32
  ![v588.toNat, 48]

def k0_chk150 (v575 : BitVec 32) : Prop :=
  (∀ a, (k0_off632 v575) a + S1x16.size a ≤ S704x64.size a) ∧
  (∀ a, (k0_off633 v575) a + S1x16.size a ≤ S704x64.size a) ∧
  (∀ a, (k0_off634 v575) a + S1x16.size a ≤ S704x64.size a) ∧
  (∀ a, (k0_off635 v575) a + S1x16.size a ≤ S704x64.size a)
theorem k0_off632_inb : ∀ (v575 : BitVec 32) (k0_hw150 : k0_chk150 v575), ∀ a, (k0_off632 v575) a + S1x16.size a ≤ S704x64.size a := fun v575 k0_hw150 => k0_hw150.1
theorem k0_off633_inb : ∀ (v575 : BitVec 32) (k0_hw150 : k0_chk150 v575), ∀ a, (k0_off633 v575) a + S1x16.size a ≤ S704x64.size a := fun v575 k0_hw150 => k0_hw150.2.1
theorem k0_off634_inb : ∀ (v575 : BitVec 32) (k0_hw150 : k0_chk150 v575), ∀ a, (k0_off634 v575) a + S1x16.size a ≤ S704x64.size a := fun v575 k0_hw150 => k0_hw150.2.2.1
theorem k0_off635_inb : ∀ (v575 : BitVec 32) (k0_hw150 : k0_chk150 v575), ∀ a, (k0_off635 v575) a + S1x16.size a ≤ S704x64.size a := fun v575 k0_hw150 => k0_hw150.2.2.2

def k0_off636 (v596 : BitVec 32) : Fin 2 → Nat :=
  let v597 : Index := Scalar.indexCast v596
  let c0_223 : Index := 0#32
  ![v597.toNat, 0]

def k0_off637 (v596 : BitVec 32) : Fin 2 → Nat :=
  let v601 : Index := Scalar.indexCast v596
  let c16_224 : Index := 16#32
  ![v601.toNat, 16]
def k0_off638 (v596 : BitVec 32) : Fin 2 → Nat :=
  let v605 : Index := Scalar.indexCast v596
  let c32_225 : Index := 32#32
  ![v605.toNat, 32]
def k0_off639 (v596 : BitVec 32) : Fin 2 → Nat :=
  let v609 : Index := Scalar.indexCast v596
  let c48_226 : Index := 48#32
  ![v609.toNat, 48]

def k0_chk151 (v596 : BitVec 32) : Prop :=
  (∀ a, (k0_off636 v596) a + S1x16.size a ≤ S704x64.size a) ∧
  (∀ a, (k0_off637 v596) a + S1x16.size a ≤ S704x64.size a) ∧
  (∀ a, (k0_off638 v596) a + S1x16.size a ≤ S704x64.size a) ∧
  (∀ a, (k0_off639 v596) a + S1x16.size a ≤ S704x64.size a)
theorem k0_off636_inb : ∀ (v596 : BitVec 32) (k0_hw151 : k0_chk151 v596), ∀ a, (k0_off636 v596) a + S1x16.size a ≤ S704x64.size a := fun v596 k0_hw151 => k0_hw151.1
theorem k0_off637_inb : ∀ (v596 : BitVec 32) (k0_hw151 : k0_chk151 v596), ∀ a, (k0_off637 v596) a + S1x16.size a ≤ S704x64.size a := fun v596 k0_hw151 => k0_hw151.2.1
theorem k0_off638_inb : ∀ (v596 : BitVec 32) (k0_hw151 : k0_chk151 v596), ∀ a, (k0_off638 v596) a + S1x16.size a ≤ S704x64.size a := fun v596 k0_hw151 => k0_hw151.2.2.1
theorem k0_off639_inb : ∀ (v596 : BitVec 32) (k0_hw151 : k0_chk151 v596), ∀ a, (k0_off639 v596) a + S1x16.size a ≤ S704x64.size a := fun v596 k0_hw151 => k0_hw151.2.2.2

def k0_off640 (v617 : BitVec 32) : Fin 2 → Nat :=
  let v618 : Index := Scalar.indexCast v617
  let c0_227 : Index := 0#32
  ![v618.toNat, 0]

def k0_off641 (v617 : BitVec 32) : Fin 2 → Nat :=
  let v622 : Index := Scalar.indexCast v617
  let c16_228 : Index := 16#32
  ![v622.toNat, 16]
def k0_off642 (v617 : BitVec 32) : Fin 2 → Nat :=
  let v626 : Index := Scalar.indexCast v617
  let c32_229 : Index := 32#32
  ![v626.toNat, 32]
def k0_off643 (v617 : BitVec 32) : Fin 2 → Nat :=
  let v630 : Index := Scalar.indexCast v617
  let c48_230 : Index := 48#32
  ![v630.toNat, 48]

def k0_chk152 (v617 : BitVec 32) : Prop :=
  (∀ a, (k0_off640 v617) a + S1x16.size a ≤ S704x64.size a) ∧
  (∀ a, (k0_off641 v617) a + S1x16.size a ≤ S704x64.size a) ∧
  (∀ a, (k0_off642 v617) a + S1x16.size a ≤ S704x64.size a) ∧
  (∀ a, (k0_off643 v617) a + S1x16.size a ≤ S704x64.size a)
theorem k0_off640_inb : ∀ (v617 : BitVec 32) (k0_hw152 : k0_chk152 v617), ∀ a, (k0_off640 v617) a + S1x16.size a ≤ S704x64.size a := fun v617 k0_hw152 => k0_hw152.1
theorem k0_off641_inb : ∀ (v617 : BitVec 32) (k0_hw152 : k0_chk152 v617), ∀ a, (k0_off641 v617) a + S1x16.size a ≤ S704x64.size a := fun v617 k0_hw152 => k0_hw152.2.1
theorem k0_off642_inb : ∀ (v617 : BitVec 32) (k0_hw152 : k0_chk152 v617), ∀ a, (k0_off642 v617) a + S1x16.size a ≤ S704x64.size a := fun v617 k0_hw152 => k0_hw152.2.2.1
theorem k0_off643_inb : ∀ (v617 : BitVec 32) (k0_hw152 : k0_chk152 v617), ∀ a, (k0_off643 v617) a + S1x16.size a ≤ S704x64.size a := fun v617 k0_hw152 => k0_hw152.2.2.2

def k0_off644 (v638 : BitVec 32) : Fin 2 → Nat :=
  let v639 : Index := Scalar.indexCast v638
  let c0_231 : Index := 0#32
  ![v639.toNat, 0]

def k0_off645 (v638 : BitVec 32) : Fin 2 → Nat :=
  let v643 : Index := Scalar.indexCast v638
  let c16_232 : Index := 16#32
  ![v643.toNat, 16]
def k0_off646 (v638 : BitVec 32) : Fin 2 → Nat :=
  let v647 : Index := Scalar.indexCast v638
  let c32_233 : Index := 32#32
  ![v647.toNat, 32]
def k0_off647 (v638 : BitVec 32) : Fin 2 → Nat :=
  let v651 : Index := Scalar.indexCast v638
  let c48_234 : Index := 48#32
  ![v651.toNat, 48]

def k0_chk153 (v638 : BitVec 32) : Prop :=
  (∀ a, (k0_off644 v638) a + S1x16.size a ≤ S704x64.size a) ∧
  (∀ a, (k0_off645 v638) a + S1x16.size a ≤ S704x64.size a) ∧
  (∀ a, (k0_off646 v638) a + S1x16.size a ≤ S704x64.size a) ∧
  (∀ a, (k0_off647 v638) a + S1x16.size a ≤ S704x64.size a)
theorem k0_off644_inb : ∀ (v638 : BitVec 32) (k0_hw153 : k0_chk153 v638), ∀ a, (k0_off644 v638) a + S1x16.size a ≤ S704x64.size a := fun v638 k0_hw153 => k0_hw153.1
theorem k0_off645_inb : ∀ (v638 : BitVec 32) (k0_hw153 : k0_chk153 v638), ∀ a, (k0_off645 v638) a + S1x16.size a ≤ S704x64.size a := fun v638 k0_hw153 => k0_hw153.2.1
theorem k0_off646_inb : ∀ (v638 : BitVec 32) (k0_hw153 : k0_chk153 v638), ∀ a, (k0_off646 v638) a + S1x16.size a ≤ S704x64.size a := fun v638 k0_hw153 => k0_hw153.2.2.1
theorem k0_off647_inb : ∀ (v638 : BitVec 32) (k0_hw153 : k0_chk153 v638), ∀ a, (k0_off647 v638) a + S1x16.size a ≤ S704x64.size a := fun v638 k0_hw153 => k0_hw153.2.2.2

def k0_off648 (v659 : BitVec 32) : Fin 2 → Nat :=
  let v660 : Index := Scalar.indexCast v659
  let c0_235 : Index := 0#32
  ![v660.toNat, 0]

def k0_off649 (v659 : BitVec 32) : Fin 2 → Nat :=
  let v664 : Index := Scalar.indexCast v659
  let c16_236 : Index := 16#32
  ![v664.toNat, 16]
def k0_off650 (v659 : BitVec 32) : Fin 2 → Nat :=
  let v668 : Index := Scalar.indexCast v659
  let c32_237 : Index := 32#32
  ![v668.toNat, 32]
def k0_off651 (v659 : BitVec 32) : Fin 2 → Nat :=
  let v672 : Index := Scalar.indexCast v659
  let c48_238 : Index := 48#32
  ![v672.toNat, 48]

def k0_chk154 (v659 : BitVec 32) : Prop :=
  (∀ a, (k0_off648 v659) a + S1x16.size a ≤ S704x64.size a) ∧
  (∀ a, (k0_off649 v659) a + S1x16.size a ≤ S704x64.size a) ∧
  (∀ a, (k0_off650 v659) a + S1x16.size a ≤ S704x64.size a) ∧
  (∀ a, (k0_off651 v659) a + S1x16.size a ≤ S704x64.size a)
theorem k0_off648_inb : ∀ (v659 : BitVec 32) (k0_hw154 : k0_chk154 v659), ∀ a, (k0_off648 v659) a + S1x16.size a ≤ S704x64.size a := fun v659 k0_hw154 => k0_hw154.1
theorem k0_off649_inb : ∀ (v659 : BitVec 32) (k0_hw154 : k0_chk154 v659), ∀ a, (k0_off649 v659) a + S1x16.size a ≤ S704x64.size a := fun v659 k0_hw154 => k0_hw154.2.1
theorem k0_off650_inb : ∀ (v659 : BitVec 32) (k0_hw154 : k0_chk154 v659), ∀ a, (k0_off650 v659) a + S1x16.size a ≤ S704x64.size a := fun v659 k0_hw154 => k0_hw154.2.2.1
theorem k0_off651_inb : ∀ (v659 : BitVec 32) (k0_hw154 : k0_chk154 v659), ∀ a, (k0_off651 v659) a + S1x16.size a ≤ S704x64.size a := fun v659 k0_hw154 => k0_hw154.2.2.2

def k0_off652 (v680 : BitVec 32) : Fin 2 → Nat :=
  let v681 : Index := Scalar.indexCast v680
  let c0_239 : Index := 0#32
  ![v681.toNat, 0]

def k0_off653 (v680 : BitVec 32) : Fin 2 → Nat :=
  let v685 : Index := Scalar.indexCast v680
  let c16_240 : Index := 16#32
  ![v685.toNat, 16]
def k0_off654 (v680 : BitVec 32) : Fin 2 → Nat :=
  let v689 : Index := Scalar.indexCast v680
  let c32_241 : Index := 32#32
  ![v689.toNat, 32]
def k0_off655 (v680 : BitVec 32) : Fin 2 → Nat :=
  let v693 : Index := Scalar.indexCast v680
  let c48_242 : Index := 48#32
  ![v693.toNat, 48]

def k0_chk155 (v680 : BitVec 32) : Prop :=
  (∀ a, (k0_off652 v680) a + S1x16.size a ≤ S704x64.size a) ∧
  (∀ a, (k0_off653 v680) a + S1x16.size a ≤ S704x64.size a) ∧
  (∀ a, (k0_off654 v680) a + S1x16.size a ≤ S704x64.size a) ∧
  (∀ a, (k0_off655 v680) a + S1x16.size a ≤ S704x64.size a)
theorem k0_off652_inb : ∀ (v680 : BitVec 32) (k0_hw155 : k0_chk155 v680), ∀ a, (k0_off652 v680) a + S1x16.size a ≤ S704x64.size a := fun v680 k0_hw155 => k0_hw155.1
theorem k0_off653_inb : ∀ (v680 : BitVec 32) (k0_hw155 : k0_chk155 v680), ∀ a, (k0_off653 v680) a + S1x16.size a ≤ S704x64.size a := fun v680 k0_hw155 => k0_hw155.2.1
theorem k0_off654_inb : ∀ (v680 : BitVec 32) (k0_hw155 : k0_chk155 v680), ∀ a, (k0_off654 v680) a + S1x16.size a ≤ S704x64.size a := fun v680 k0_hw155 => k0_hw155.2.2.1
theorem k0_off655_inb : ∀ (v680 : BitVec 32) (k0_hw155 : k0_chk155 v680), ∀ a, (k0_off655 v680) a + S1x16.size a ≤ S704x64.size a := fun v680 k0_hw155 => k0_hw155.2.2.2

def k0_off656 (v701 : BitVec 32) : Fin 2 → Nat :=
  let v702 : Index := Scalar.indexCast v701
  let c0_243 : Index := 0#32
  ![v702.toNat, 0]

def k0_off657 (v701 : BitVec 32) : Fin 2 → Nat :=
  let v706 : Index := Scalar.indexCast v701
  let c16_244 : Index := 16#32
  ![v706.toNat, 16]
def k0_off658 (v701 : BitVec 32) : Fin 2 → Nat :=
  let v710 : Index := Scalar.indexCast v701
  let c32_245 : Index := 32#32
  ![v710.toNat, 32]
def k0_off659 (v701 : BitVec 32) : Fin 2 → Nat :=
  let v714 : Index := Scalar.indexCast v701
  let c48_246 : Index := 48#32
  ![v714.toNat, 48]

def k0_chk156 (v701 : BitVec 32) : Prop :=
  (∀ a, (k0_off656 v701) a + S1x16.size a ≤ S704x64.size a) ∧
  (∀ a, (k0_off657 v701) a + S1x16.size a ≤ S704x64.size a) ∧
  (∀ a, (k0_off658 v701) a + S1x16.size a ≤ S704x64.size a) ∧
  (∀ a, (k0_off659 v701) a + S1x16.size a ≤ S704x64.size a)
theorem k0_off656_inb : ∀ (v701 : BitVec 32) (k0_hw156 : k0_chk156 v701), ∀ a, (k0_off656 v701) a + S1x16.size a ≤ S704x64.size a := fun v701 k0_hw156 => k0_hw156.1
theorem k0_off657_inb : ∀ (v701 : BitVec 32) (k0_hw156 : k0_chk156 v701), ∀ a, (k0_off657 v701) a + S1x16.size a ≤ S704x64.size a := fun v701 k0_hw156 => k0_hw156.2.1
theorem k0_off658_inb : ∀ (v701 : BitVec 32) (k0_hw156 : k0_chk156 v701), ∀ a, (k0_off658 v701) a + S1x16.size a ≤ S704x64.size a := fun v701 k0_hw156 => k0_hw156.2.2.1
theorem k0_off659_inb : ∀ (v701 : BitVec 32) (k0_hw156 : k0_chk156 v701), ∀ a, (k0_off659 v701) a + S1x16.size a ≤ S704x64.size a := fun v701 k0_hw156 => k0_hw156.2.2.2

def k0_off660 (v722 : BitVec 32) : Fin 2 → Nat :=
  let v723 : Index := Scalar.indexCast v722
  let c0_247 : Index := 0#32
  ![v723.toNat, 0]

def k0_off661 (v722 : BitVec 32) : Fin 2 → Nat :=
  let v727 : Index := Scalar.indexCast v722
  let c16_248 : Index := 16#32
  ![v727.toNat, 16]
def k0_off662 (v722 : BitVec 32) : Fin 2 → Nat :=
  let v731 : Index := Scalar.indexCast v722
  let c32_249 : Index := 32#32
  ![v731.toNat, 32]
def k0_off663 (v722 : BitVec 32) : Fin 2 → Nat :=
  let v735 : Index := Scalar.indexCast v722
  let c48_250 : Index := 48#32
  ![v735.toNat, 48]

def k0_chk157 (v722 : BitVec 32) : Prop :=
  (∀ a, (k0_off660 v722) a + S1x16.size a ≤ S704x64.size a) ∧
  (∀ a, (k0_off661 v722) a + S1x16.size a ≤ S704x64.size a) ∧
  (∀ a, (k0_off662 v722) a + S1x16.size a ≤ S704x64.size a) ∧
  (∀ a, (k0_off663 v722) a + S1x16.size a ≤ S704x64.size a)
theorem k0_off660_inb : ∀ (v722 : BitVec 32) (k0_hw157 : k0_chk157 v722), ∀ a, (k0_off660 v722) a + S1x16.size a ≤ S704x64.size a := fun v722 k0_hw157 => k0_hw157.1
theorem k0_off661_inb : ∀ (v722 : BitVec 32) (k0_hw157 : k0_chk157 v722), ∀ a, (k0_off661 v722) a + S1x16.size a ≤ S704x64.size a := fun v722 k0_hw157 => k0_hw157.2.1
theorem k0_off662_inb : ∀ (v722 : BitVec 32) (k0_hw157 : k0_chk157 v722), ∀ a, (k0_off662 v722) a + S1x16.size a ≤ S704x64.size a := fun v722 k0_hw157 => k0_hw157.2.2.1
theorem k0_off663_inb : ∀ (v722 : BitVec 32) (k0_hw157 : k0_chk157 v722), ∀ a, (k0_off663 v722) a + S1x16.size a ≤ S704x64.size a := fun v722 k0_hw157 => k0_hw157.2.2.2

def k0_off664 (v743 : BitVec 32) : Fin 2 → Nat :=
  let v744 : Index := Scalar.indexCast v743
  let c0_251 : Index := 0#32
  ![v744.toNat, 0]

def k0_off665 (v743 : BitVec 32) : Fin 2 → Nat :=
  let v748 : Index := Scalar.indexCast v743
  let c16_252 : Index := 16#32
  ![v748.toNat, 16]
def k0_off666 (v743 : BitVec 32) : Fin 2 → Nat :=
  let v752 : Index := Scalar.indexCast v743
  let c32_253 : Index := 32#32
  ![v752.toNat, 32]
def k0_off667 (v743 : BitVec 32) : Fin 2 → Nat :=
  let v756 : Index := Scalar.indexCast v743
  let c48_254 : Index := 48#32
  ![v756.toNat, 48]

def k0_chk158 (v743 : BitVec 32) : Prop :=
  (∀ a, (k0_off664 v743) a + S1x16.size a ≤ S704x64.size a) ∧
  (∀ a, (k0_off665 v743) a + S1x16.size a ≤ S704x64.size a) ∧
  (∀ a, (k0_off666 v743) a + S1x16.size a ≤ S704x64.size a) ∧
  (∀ a, (k0_off667 v743) a + S1x16.size a ≤ S704x64.size a)
theorem k0_off664_inb : ∀ (v743 : BitVec 32) (k0_hw158 : k0_chk158 v743), ∀ a, (k0_off664 v743) a + S1x16.size a ≤ S704x64.size a := fun v743 k0_hw158 => k0_hw158.1
theorem k0_off665_inb : ∀ (v743 : BitVec 32) (k0_hw158 : k0_chk158 v743), ∀ a, (k0_off665 v743) a + S1x16.size a ≤ S704x64.size a := fun v743 k0_hw158 => k0_hw158.2.1
theorem k0_off666_inb : ∀ (v743 : BitVec 32) (k0_hw158 : k0_chk158 v743), ∀ a, (k0_off666 v743) a + S1x16.size a ≤ S704x64.size a := fun v743 k0_hw158 => k0_hw158.2.2.1
theorem k0_off667_inb : ∀ (v743 : BitVec 32) (k0_hw158 : k0_chk158 v743), ∀ a, (k0_off667 v743) a + S1x16.size a ≤ S704x64.size a := fun v743 k0_hw158 => k0_hw158.2.2.2

def k0_off668 (v764 : BitVec 32) : Fin 2 → Nat :=
  let v765 : Index := Scalar.indexCast v764
  let c0_255 : Index := 0#32
  ![v765.toNat, 0]

def k0_off669 (v764 : BitVec 32) : Fin 2 → Nat :=
  let v769 : Index := Scalar.indexCast v764
  let c16_256 : Index := 16#32
  ![v769.toNat, 16]
def k0_off670 (v764 : BitVec 32) : Fin 2 → Nat :=
  let v773 : Index := Scalar.indexCast v764
  let c32_257 : Index := 32#32
  ![v773.toNat, 32]
def k0_off671 (v764 : BitVec 32) : Fin 2 → Nat :=
  let v777 : Index := Scalar.indexCast v764
  let c48_258 : Index := 48#32
  ![v777.toNat, 48]

def k0_chk159 (v764 : BitVec 32) : Prop :=
  (∀ a, (k0_off668 v764) a + S1x16.size a ≤ S704x64.size a) ∧
  (∀ a, (k0_off669 v764) a + S1x16.size a ≤ S704x64.size a) ∧
  (∀ a, (k0_off670 v764) a + S1x16.size a ≤ S704x64.size a) ∧
  (∀ a, (k0_off671 v764) a + S1x16.size a ≤ S704x64.size a)
theorem k0_off668_inb : ∀ (v764 : BitVec 32) (k0_hw159 : k0_chk159 v764), ∀ a, (k0_off668 v764) a + S1x16.size a ≤ S704x64.size a := fun v764 k0_hw159 => k0_hw159.1
theorem k0_off669_inb : ∀ (v764 : BitVec 32) (k0_hw159 : k0_chk159 v764), ∀ a, (k0_off669 v764) a + S1x16.size a ≤ S704x64.size a := fun v764 k0_hw159 => k0_hw159.2.1
theorem k0_off670_inb : ∀ (v764 : BitVec 32) (k0_hw159 : k0_chk159 v764), ∀ a, (k0_off670 v764) a + S1x16.size a ≤ S704x64.size a := fun v764 k0_hw159 => k0_hw159.2.2.1
theorem k0_off671_inb : ∀ (v764 : BitVec 32) (k0_hw159 : k0_chk159 v764), ∀ a, (k0_off671 v764) a + S1x16.size a ≤ S704x64.size a := fun v764 k0_hw159 => k0_hw159.2.2.2

def k0_off672 (v785 : BitVec 32) : Fin 2 → Nat :=
  let v786 : Index := Scalar.indexCast v785
  let c0_259 : Index := 0#32
  ![v786.toNat, 0]

def k0_off673 (v785 : BitVec 32) : Fin 2 → Nat :=
  let v790 : Index := Scalar.indexCast v785
  let c16_260 : Index := 16#32
  ![v790.toNat, 16]
def k0_off674 (v785 : BitVec 32) : Fin 2 → Nat :=
  let v794 : Index := Scalar.indexCast v785
  let c32_261 : Index := 32#32
  ![v794.toNat, 32]
def k0_off675 (v785 : BitVec 32) : Fin 2 → Nat :=
  let v798 : Index := Scalar.indexCast v785
  let c48_262 : Index := 48#32
  ![v798.toNat, 48]

def k0_chk160 (v785 : BitVec 32) : Prop :=
  (∀ a, (k0_off672 v785) a + S1x16.size a ≤ S704x64.size a) ∧
  (∀ a, (k0_off673 v785) a + S1x16.size a ≤ S704x64.size a) ∧
  (∀ a, (k0_off674 v785) a + S1x16.size a ≤ S704x64.size a) ∧
  (∀ a, (k0_off675 v785) a + S1x16.size a ≤ S704x64.size a)
theorem k0_off672_inb : ∀ (v785 : BitVec 32) (k0_hw160 : k0_chk160 v785), ∀ a, (k0_off672 v785) a + S1x16.size a ≤ S704x64.size a := fun v785 k0_hw160 => k0_hw160.1
theorem k0_off673_inb : ∀ (v785 : BitVec 32) (k0_hw160 : k0_chk160 v785), ∀ a, (k0_off673 v785) a + S1x16.size a ≤ S704x64.size a := fun v785 k0_hw160 => k0_hw160.2.1
theorem k0_off674_inb : ∀ (v785 : BitVec 32) (k0_hw160 : k0_chk160 v785), ∀ a, (k0_off674 v785) a + S1x16.size a ≤ S704x64.size a := fun v785 k0_hw160 => k0_hw160.2.2.1
theorem k0_off675_inb : ∀ (v785 : BitVec 32) (k0_hw160 : k0_chk160 v785), ∀ a, (k0_off675 v785) a + S1x16.size a ≤ S704x64.size a := fun v785 k0_hw160 => k0_hw160.2.2.2

def k0_off676 (v806 : BitVec 32) : Fin 2 → Nat :=
  let v807 : Index := Scalar.indexCast v806
  let c0_263 : Index := 0#32
  ![v807.toNat, 0]

def k0_off677 (v806 : BitVec 32) : Fin 2 → Nat :=
  let v811 : Index := Scalar.indexCast v806
  let c16_264 : Index := 16#32
  ![v811.toNat, 16]
def k0_off678 (v806 : BitVec 32) : Fin 2 → Nat :=
  let v815 : Index := Scalar.indexCast v806
  let c32_265 : Index := 32#32
  ![v815.toNat, 32]
def k0_off679 (v806 : BitVec 32) : Fin 2 → Nat :=
  let v819 : Index := Scalar.indexCast v806
  let c48_266 : Index := 48#32
  ![v819.toNat, 48]

def k0_chk161 (v806 : BitVec 32) : Prop :=
  (∀ a, (k0_off676 v806) a + S1x16.size a ≤ S704x64.size a) ∧
  (∀ a, (k0_off677 v806) a + S1x16.size a ≤ S704x64.size a) ∧
  (∀ a, (k0_off678 v806) a + S1x16.size a ≤ S704x64.size a) ∧
  (∀ a, (k0_off679 v806) a + S1x16.size a ≤ S704x64.size a)
theorem k0_off676_inb : ∀ (v806 : BitVec 32) (k0_hw161 : k0_chk161 v806), ∀ a, (k0_off676 v806) a + S1x16.size a ≤ S704x64.size a := fun v806 k0_hw161 => k0_hw161.1
theorem k0_off677_inb : ∀ (v806 : BitVec 32) (k0_hw161 : k0_chk161 v806), ∀ a, (k0_off677 v806) a + S1x16.size a ≤ S704x64.size a := fun v806 k0_hw161 => k0_hw161.2.1
theorem k0_off678_inb : ∀ (v806 : BitVec 32) (k0_hw161 : k0_chk161 v806), ∀ a, (k0_off678 v806) a + S1x16.size a ≤ S704x64.size a := fun v806 k0_hw161 => k0_hw161.2.2.1
theorem k0_off679_inb : ∀ (v806 : BitVec 32) (k0_hw161 : k0_chk161 v806), ∀ a, (k0_off679 v806) a + S1x16.size a ≤ S704x64.size a := fun v806 k0_hw161 => k0_hw161.2.2.2

def k0_off680 (v827 : BitVec 32) : Fin 2 → Nat :=
  let v828 : Index := Scalar.indexCast v827
  let c0_267 : Index := 0#32
  ![v828.toNat, 0]

def k0_off681 (v827 : BitVec 32) : Fin 2 → Nat :=
  let v832 : Index := Scalar.indexCast v827
  let c16_268 : Index := 16#32
  ![v832.toNat, 16]
def k0_off682 (v827 : BitVec 32) : Fin 2 → Nat :=
  let v836 : Index := Scalar.indexCast v827
  let c32_269 : Index := 32#32
  ![v836.toNat, 32]
def k0_off683 (v827 : BitVec 32) : Fin 2 → Nat :=
  let v840 : Index := Scalar.indexCast v827
  let c48_270 : Index := 48#32
  ![v840.toNat, 48]

def k0_chk162 (v827 : BitVec 32) : Prop :=
  (∀ a, (k0_off680 v827) a + S1x16.size a ≤ S704x64.size a) ∧
  (∀ a, (k0_off681 v827) a + S1x16.size a ≤ S704x64.size a) ∧
  (∀ a, (k0_off682 v827) a + S1x16.size a ≤ S704x64.size a) ∧
  (∀ a, (k0_off683 v827) a + S1x16.size a ≤ S704x64.size a)
theorem k0_off680_inb : ∀ (v827 : BitVec 32) (k0_hw162 : k0_chk162 v827), ∀ a, (k0_off680 v827) a + S1x16.size a ≤ S704x64.size a := fun v827 k0_hw162 => k0_hw162.1
theorem k0_off681_inb : ∀ (v827 : BitVec 32) (k0_hw162 : k0_chk162 v827), ∀ a, (k0_off681 v827) a + S1x16.size a ≤ S704x64.size a := fun v827 k0_hw162 => k0_hw162.2.1
theorem k0_off682_inb : ∀ (v827 : BitVec 32) (k0_hw162 : k0_chk162 v827), ∀ a, (k0_off682 v827) a + S1x16.size a ≤ S704x64.size a := fun v827 k0_hw162 => k0_hw162.2.2.1
theorem k0_off683_inb : ∀ (v827 : BitVec 32) (k0_hw162 : k0_chk162 v827), ∀ a, (k0_off683 v827) a + S1x16.size a ≤ S704x64.size a := fun v827 k0_hw162 => k0_hw162.2.2.2

def k0_off684 (v848 : BitVec 32) : Fin 2 → Nat :=
  let v849 : Index := Scalar.indexCast v848
  let c0_271 : Index := 0#32
  ![v849.toNat, 0]

def k0_off685 (v848 : BitVec 32) : Fin 2 → Nat :=
  let v853 : Index := Scalar.indexCast v848
  let c16_272 : Index := 16#32
  ![v853.toNat, 16]
def k0_off686 (v848 : BitVec 32) : Fin 2 → Nat :=
  let v857 : Index := Scalar.indexCast v848
  let c32_273 : Index := 32#32
  ![v857.toNat, 32]
def k0_off687 (v848 : BitVec 32) : Fin 2 → Nat :=
  let v861 : Index := Scalar.indexCast v848
  let c48_274 : Index := 48#32
  ![v861.toNat, 48]

def k0_chk163 (v848 : BitVec 32) : Prop :=
  (∀ a, (k0_off684 v848) a + S1x16.size a ≤ S704x64.size a) ∧
  (∀ a, (k0_off685 v848) a + S1x16.size a ≤ S704x64.size a) ∧
  (∀ a, (k0_off686 v848) a + S1x16.size a ≤ S704x64.size a) ∧
  (∀ a, (k0_off687 v848) a + S1x16.size a ≤ S704x64.size a)
theorem k0_off684_inb : ∀ (v848 : BitVec 32) (k0_hw163 : k0_chk163 v848), ∀ a, (k0_off684 v848) a + S1x16.size a ≤ S704x64.size a := fun v848 k0_hw163 => k0_hw163.1
theorem k0_off685_inb : ∀ (v848 : BitVec 32) (k0_hw163 : k0_chk163 v848), ∀ a, (k0_off685 v848) a + S1x16.size a ≤ S704x64.size a := fun v848 k0_hw163 => k0_hw163.2.1
theorem k0_off686_inb : ∀ (v848 : BitVec 32) (k0_hw163 : k0_chk163 v848), ∀ a, (k0_off686 v848) a + S1x16.size a ≤ S704x64.size a := fun v848 k0_hw163 => k0_hw163.2.2.1
theorem k0_off687_inb : ∀ (v848 : BitVec 32) (k0_hw163 : k0_chk163 v848), ∀ a, (k0_off687 v848) a + S1x16.size a ≤ S704x64.size a := fun v848 k0_hw163 => k0_hw163.2.2.2

def k0_off688 (v869 : BitVec 32) : Fin 2 → Nat :=
  let v870 : Index := Scalar.indexCast v869
  let c0_275 : Index := 0#32
  ![v870.toNat, 0]

def k0_off689 (v869 : BitVec 32) : Fin 2 → Nat :=
  let v874 : Index := Scalar.indexCast v869
  let c16_276 : Index := 16#32
  ![v874.toNat, 16]
def k0_off690 (v869 : BitVec 32) : Fin 2 → Nat :=
  let v878 : Index := Scalar.indexCast v869
  let c32_277 : Index := 32#32
  ![v878.toNat, 32]
def k0_off691 (v869 : BitVec 32) : Fin 2 → Nat :=
  let v882 : Index := Scalar.indexCast v869
  let c48_278 : Index := 48#32
  ![v882.toNat, 48]

def k0_chk164 (v869 : BitVec 32) : Prop :=
  (∀ a, (k0_off688 v869) a + S1x16.size a ≤ S704x64.size a) ∧
  (∀ a, (k0_off689 v869) a + S1x16.size a ≤ S704x64.size a) ∧
  (∀ a, (k0_off690 v869) a + S1x16.size a ≤ S704x64.size a) ∧
  (∀ a, (k0_off691 v869) a + S1x16.size a ≤ S704x64.size a)
theorem k0_off688_inb : ∀ (v869 : BitVec 32) (k0_hw164 : k0_chk164 v869), ∀ a, (k0_off688 v869) a + S1x16.size a ≤ S704x64.size a := fun v869 k0_hw164 => k0_hw164.1
theorem k0_off689_inb : ∀ (v869 : BitVec 32) (k0_hw164 : k0_chk164 v869), ∀ a, (k0_off689 v869) a + S1x16.size a ≤ S704x64.size a := fun v869 k0_hw164 => k0_hw164.2.1
theorem k0_off690_inb : ∀ (v869 : BitVec 32) (k0_hw164 : k0_chk164 v869), ∀ a, (k0_off690 v869) a + S1x16.size a ≤ S704x64.size a := fun v869 k0_hw164 => k0_hw164.2.2.1
theorem k0_off691_inb : ∀ (v869 : BitVec 32) (k0_hw164 : k0_chk164 v869), ∀ a, (k0_off691 v869) a + S1x16.size a ≤ S704x64.size a := fun v869 k0_hw164 => k0_hw164.2.2.2

def k0_off692 (v890 : BitVec 32) : Fin 2 → Nat :=
  let v891 : Index := Scalar.indexCast v890
  let c0_279 : Index := 0#32
  ![v891.toNat, 0]

def k0_off693 (v890 : BitVec 32) : Fin 2 → Nat :=
  let v895 : Index := Scalar.indexCast v890
  let c16_280 : Index := 16#32
  ![v895.toNat, 16]
def k0_off694 (v890 : BitVec 32) : Fin 2 → Nat :=
  let v899 : Index := Scalar.indexCast v890
  let c32_281 : Index := 32#32
  ![v899.toNat, 32]
def k0_off695 (v890 : BitVec 32) : Fin 2 → Nat :=
  let v903 : Index := Scalar.indexCast v890
  let c48_282 : Index := 48#32
  ![v903.toNat, 48]

def k0_chk165 (v890 : BitVec 32) : Prop :=
  (∀ a, (k0_off692 v890) a + S1x16.size a ≤ S704x64.size a) ∧
  (∀ a, (k0_off693 v890) a + S1x16.size a ≤ S704x64.size a) ∧
  (∀ a, (k0_off694 v890) a + S1x16.size a ≤ S704x64.size a) ∧
  (∀ a, (k0_off695 v890) a + S1x16.size a ≤ S704x64.size a)
theorem k0_off692_inb : ∀ (v890 : BitVec 32) (k0_hw165 : k0_chk165 v890), ∀ a, (k0_off692 v890) a + S1x16.size a ≤ S704x64.size a := fun v890 k0_hw165 => k0_hw165.1
theorem k0_off693_inb : ∀ (v890 : BitVec 32) (k0_hw165 : k0_chk165 v890), ∀ a, (k0_off693 v890) a + S1x16.size a ≤ S704x64.size a := fun v890 k0_hw165 => k0_hw165.2.1
theorem k0_off694_inb : ∀ (v890 : BitVec 32) (k0_hw165 : k0_chk165 v890), ∀ a, (k0_off694 v890) a + S1x16.size a ≤ S704x64.size a := fun v890 k0_hw165 => k0_hw165.2.2.1
theorem k0_off695_inb : ∀ (v890 : BitVec 32) (k0_hw165 : k0_chk165 v890), ∀ a, (k0_off695 v890) a + S1x16.size a ≤ S704x64.size a := fun v890 k0_hw165 => k0_hw165.2.2.2

def k0_off696 (k0_t3 : Fin k0_t3_loop.trips) : Fin 2 → Nat :=
  let c2_i32_143 : BitVec 32 := 2#32
  let c0_i32_60 : BitVec 32 := 0#32
  let c1_i32_62 : BitVec 32 := 1#32
  let arg13 : BitVec 32 := Scf.iv c0_i32_60 c1_i32_62 k0_t3
  let v189 : BitVec 32 := Scalar.muli c2_i32_143 arg13
  let v907 : Index := Scalar.indexCast v189
  let c0_283 : Index := 0#32
  ![v907.toNat, 0]
def k0_off697 (k0_t3 : Fin k0_t3_loop.trips) : Fin 2 → Nat :=
  let c2_i32_143 : BitVec 32 := 2#32
  let c0_i32_60 : BitVec 32 := 0#32
  let c1_i32_62 : BitVec 32 := 1#32
  let arg13 : BitVec 32 := Scf.iv c0_i32_60 c1_i32_62 k0_t3
  let v189 : BitVec 32 := Scalar.muli c2_i32_143 arg13
  let v909 : Index := Scalar.indexCast v189
  let c16_284 : Index := 16#32
  ![v909.toNat, 16]
def k0_off698 (k0_t3 : Fin k0_t3_loop.trips) : Fin 2 → Nat :=
  let c2_i32_143 : BitVec 32 := 2#32
  let c0_i32_60 : BitVec 32 := 0#32
  let c1_i32_62 : BitVec 32 := 1#32
  let arg13 : BitVec 32 := Scf.iv c0_i32_60 c1_i32_62 k0_t3
  let v189 : BitVec 32 := Scalar.muli c2_i32_143 arg13
  let v911 : Index := Scalar.indexCast v189
  let c32_285 : Index := 32#32
  ![v911.toNat, 32]
def k0_off699 (k0_t3 : Fin k0_t3_loop.trips) : Fin 2 → Nat :=
  let c2_i32_143 : BitVec 32 := 2#32
  let c0_i32_60 : BitVec 32 := 0#32
  let c1_i32_62 : BitVec 32 := 1#32
  let arg13 : BitVec 32 := Scf.iv c0_i32_60 c1_i32_62 k0_t3
  let v189 : BitVec 32 := Scalar.muli c2_i32_143 arg13
  let v913 : Index := Scalar.indexCast v189
  let c48_286 : Index := 48#32
  ![v913.toNat, 48]
def k0_off700 (k0_t3 : Fin k0_t3_loop.trips) : Fin 2 → Nat :=
  let c2_i32_144 : BitVec 32 := 2#32
  let c0_i32_60 : BitVec 32 := 0#32
  let c1_i32_62 : BitVec 32 := 1#32
  let arg13 : BitVec 32 := Scf.iv c0_i32_60 c1_i32_62 k0_t3
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off701 (k0_t3 : Fin k0_t3_loop.trips) : Fin 2 → Nat :=
  let c2_i32_144 : BitVec 32 := 2#32
  let c0_i32_60 : BitVec 32 := 0#32
  let c1_i32_62 : BitVec 32 := 1#32
  let arg13 : BitVec 32 := Scf.iv c0_i32_60 c1_i32_62 k0_t3
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off702 (k0_t3 : Fin k0_t3_loop.trips) : Fin 2 → Nat :=
  let c2_i32_144 : BitVec 32 := 2#32
  let c0_i32_60 : BitVec 32 := 0#32
  let c1_i32_62 : BitVec 32 := 1#32
  let arg13 : BitVec 32 := Scf.iv c0_i32_60 c1_i32_62 k0_t3
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off703 (v941 : BitVec 32) : Fin 2 → Nat :=
  let v942 : Index := Scalar.indexCast v941
  let c0_297 : Index := 0#32
  ![v942.toNat, 0]

def k0_off704 (v941 : BitVec 32) : Fin 2 → Nat :=
  let v946 : Index := Scalar.indexCast v941
  let c16_298 : Index := 16#32
  ![v946.toNat, 16]
def k0_off705 (v941 : BitVec 32) : Fin 2 → Nat :=
  let v950 : Index := Scalar.indexCast v941
  let c32_299 : Index := 32#32
  ![v950.toNat, 32]
def k0_off706 (v941 : BitVec 32) : Fin 2 → Nat :=
  let v954 : Index := Scalar.indexCast v941
  let c48_300 : Index := 48#32
  ![v954.toNat, 48]

def k0_chk166 (v941 : BitVec 32) : Prop :=
  (∀ a, (k0_off703 v941) a + S1x16.size a ≤ S704x64.size a) ∧
  (∀ a, (k0_off704 v941) a + S1x16.size a ≤ S704x64.size a) ∧
  (∀ a, (k0_off705 v941) a + S1x16.size a ≤ S704x64.size a) ∧
  (∀ a, (k0_off706 v941) a + S1x16.size a ≤ S704x64.size a)
theorem k0_off703_inb : ∀ (v941 : BitVec 32) (k0_hw166 : k0_chk166 v941), ∀ a, (k0_off703 v941) a + S1x16.size a ≤ S704x64.size a := fun v941 k0_hw166 => k0_hw166.1
theorem k0_off704_inb : ∀ (v941 : BitVec 32) (k0_hw166 : k0_chk166 v941), ∀ a, (k0_off704 v941) a + S1x16.size a ≤ S704x64.size a := fun v941 k0_hw166 => k0_hw166.2.1
theorem k0_off705_inb : ∀ (v941 : BitVec 32) (k0_hw166 : k0_chk166 v941), ∀ a, (k0_off705 v941) a + S1x16.size a ≤ S704x64.size a := fun v941 k0_hw166 => k0_hw166.2.2.1
theorem k0_off706_inb : ∀ (v941 : BitVec 32) (k0_hw166 : k0_chk166 v941), ∀ a, (k0_off706 v941) a + S1x16.size a ≤ S704x64.size a := fun v941 k0_hw166 => k0_hw166.2.2.2

def k0_off707 (v962 : BitVec 32) : Fin 2 → Nat :=
  let v963 : Index := Scalar.indexCast v962
  let c0_301 : Index := 0#32
  ![v963.toNat, 0]

def k0_off708 (v962 : BitVec 32) : Fin 2 → Nat :=
  let v967 : Index := Scalar.indexCast v962
  let c16_302 : Index := 16#32
  ![v967.toNat, 16]
def k0_off709 (v962 : BitVec 32) : Fin 2 → Nat :=
  let v971 : Index := Scalar.indexCast v962
  let c32_303 : Index := 32#32
  ![v971.toNat, 32]
def k0_off710 (v962 : BitVec 32) : Fin 2 → Nat :=
  let v975 : Index := Scalar.indexCast v962
  let c48_304 : Index := 48#32
  ![v975.toNat, 48]

def k0_chk167 (v962 : BitVec 32) : Prop :=
  (∀ a, (k0_off707 v962) a + S1x16.size a ≤ S704x64.size a) ∧
  (∀ a, (k0_off708 v962) a + S1x16.size a ≤ S704x64.size a) ∧
  (∀ a, (k0_off709 v962) a + S1x16.size a ≤ S704x64.size a) ∧
  (∀ a, (k0_off710 v962) a + S1x16.size a ≤ S704x64.size a)
theorem k0_off707_inb : ∀ (v962 : BitVec 32) (k0_hw167 : k0_chk167 v962), ∀ a, (k0_off707 v962) a + S1x16.size a ≤ S704x64.size a := fun v962 k0_hw167 => k0_hw167.1
theorem k0_off708_inb : ∀ (v962 : BitVec 32) (k0_hw167 : k0_chk167 v962), ∀ a, (k0_off708 v962) a + S1x16.size a ≤ S704x64.size a := fun v962 k0_hw167 => k0_hw167.2.1
theorem k0_off709_inb : ∀ (v962 : BitVec 32) (k0_hw167 : k0_chk167 v962), ∀ a, (k0_off709 v962) a + S1x16.size a ≤ S704x64.size a := fun v962 k0_hw167 => k0_hw167.2.2.1
theorem k0_off710_inb : ∀ (v962 : BitVec 32) (k0_hw167 : k0_chk167 v962), ∀ a, (k0_off710 v962) a + S1x16.size a ≤ S704x64.size a := fun v962 k0_hw167 => k0_hw167.2.2.2

def k0_off711 (v983 : BitVec 32) : Fin 2 → Nat :=
  let v984 : Index := Scalar.indexCast v983
  let c0_305 : Index := 0#32
  ![v984.toNat, 0]

def k0_off712 (v983 : BitVec 32) : Fin 2 → Nat :=
  let v988 : Index := Scalar.indexCast v983
  let c16_306 : Index := 16#32
  ![v988.toNat, 16]
def k0_off713 (v983 : BitVec 32) : Fin 2 → Nat :=
  let v992 : Index := Scalar.indexCast v983
  let c32_307 : Index := 32#32
  ![v992.toNat, 32]
def k0_off714 (v983 : BitVec 32) : Fin 2 → Nat :=
  let v996 : Index := Scalar.indexCast v983
  let c48_308 : Index := 48#32
  ![v996.toNat, 48]

def k0_chk168 (v983 : BitVec 32) : Prop :=
  (∀ a, (k0_off711 v983) a + S1x16.size a ≤ S704x64.size a) ∧
  (∀ a, (k0_off712 v983) a + S1x16.size a ≤ S704x64.size a) ∧
  (∀ a, (k0_off713 v983) a + S1x16.size a ≤ S704x64.size a) ∧
  (∀ a, (k0_off714 v983) a + S1x16.size a ≤ S704x64.size a)
theorem k0_off711_inb : ∀ (v983 : BitVec 32) (k0_hw168 : k0_chk168 v983), ∀ a, (k0_off711 v983) a + S1x16.size a ≤ S704x64.size a := fun v983 k0_hw168 => k0_hw168.1
theorem k0_off712_inb : ∀ (v983 : BitVec 32) (k0_hw168 : k0_chk168 v983), ∀ a, (k0_off712 v983) a + S1x16.size a ≤ S704x64.size a := fun v983 k0_hw168 => k0_hw168.2.1
theorem k0_off713_inb : ∀ (v983 : BitVec 32) (k0_hw168 : k0_chk168 v983), ∀ a, (k0_off713 v983) a + S1x16.size a ≤ S704x64.size a := fun v983 k0_hw168 => k0_hw168.2.2.1
theorem k0_off714_inb : ∀ (v983 : BitVec 32) (k0_hw168 : k0_chk168 v983), ∀ a, (k0_off714 v983) a + S1x16.size a ≤ S704x64.size a := fun v983 k0_hw168 => k0_hw168.2.2.2

def k0_off715 (v1004 : BitVec 32) : Fin 2 → Nat :=
  let v1005 : Index := Scalar.indexCast v1004
  let c0_309 : Index := 0#32
  ![v1005.toNat, 0]

def k0_off716 (v1004 : BitVec 32) : Fin 2 → Nat :=
  let v1009 : Index := Scalar.indexCast v1004
  let c16_310 : Index := 16#32
  ![v1009.toNat, 16]
def k0_off717 (v1004 : BitVec 32) : Fin 2 → Nat :=
  let v1013 : Index := Scalar.indexCast v1004
  let c32_311 : Index := 32#32
  ![v1013.toNat, 32]
def k0_off718 (v1004 : BitVec 32) : Fin 2 → Nat :=
  let v1017 : Index := Scalar.indexCast v1004
  let c48_312 : Index := 48#32
  ![v1017.toNat, 48]

def k0_chk169 (v1004 : BitVec 32) : Prop :=
  (∀ a, (k0_off715 v1004) a + S1x16.size a ≤ S704x64.size a) ∧
  (∀ a, (k0_off716 v1004) a + S1x16.size a ≤ S704x64.size a) ∧
  (∀ a, (k0_off717 v1004) a + S1x16.size a ≤ S704x64.size a) ∧
  (∀ a, (k0_off718 v1004) a + S1x16.size a ≤ S704x64.size a)
theorem k0_off715_inb : ∀ (v1004 : BitVec 32) (k0_hw169 : k0_chk169 v1004), ∀ a, (k0_off715 v1004) a + S1x16.size a ≤ S704x64.size a := fun v1004 k0_hw169 => k0_hw169.1
theorem k0_off716_inb : ∀ (v1004 : BitVec 32) (k0_hw169 : k0_chk169 v1004), ∀ a, (k0_off716 v1004) a + S1x16.size a ≤ S704x64.size a := fun v1004 k0_hw169 => k0_hw169.2.1
theorem k0_off717_inb : ∀ (v1004 : BitVec 32) (k0_hw169 : k0_chk169 v1004), ∀ a, (k0_off717 v1004) a + S1x16.size a ≤ S704x64.size a := fun v1004 k0_hw169 => k0_hw169.2.2.1
theorem k0_off718_inb : ∀ (v1004 : BitVec 32) (k0_hw169 : k0_chk169 v1004), ∀ a, (k0_off718 v1004) a + S1x16.size a ≤ S704x64.size a := fun v1004 k0_hw169 => k0_hw169.2.2.2

def k0_off719 (v1025 : BitVec 32) : Fin 2 → Nat :=
  let v1026 : Index := Scalar.indexCast v1025
  let c0_313 : Index := 0#32
  ![v1026.toNat, 0]

def k0_off720 (v1025 : BitVec 32) : Fin 2 → Nat :=
  let v1030 : Index := Scalar.indexCast v1025
  let c16_314 : Index := 16#32
  ![v1030.toNat, 16]
def k0_off721 (v1025 : BitVec 32) : Fin 2 → Nat :=
  let v1034 : Index := Scalar.indexCast v1025
  let c32_315 : Index := 32#32
  ![v1034.toNat, 32]
def k0_off722 (v1025 : BitVec 32) : Fin 2 → Nat :=
  let v1038 : Index := Scalar.indexCast v1025
  let c48_316 : Index := 48#32
  ![v1038.toNat, 48]

def k0_chk170 (v1025 : BitVec 32) : Prop :=
  (∀ a, (k0_off719 v1025) a + S1x16.size a ≤ S704x64.size a) ∧
  (∀ a, (k0_off720 v1025) a + S1x16.size a ≤ S704x64.size a) ∧
  (∀ a, (k0_off721 v1025) a + S1x16.size a ≤ S704x64.size a) ∧
  (∀ a, (k0_off722 v1025) a + S1x16.size a ≤ S704x64.size a)
theorem k0_off719_inb : ∀ (v1025 : BitVec 32) (k0_hw170 : k0_chk170 v1025), ∀ a, (k0_off719 v1025) a + S1x16.size a ≤ S704x64.size a := fun v1025 k0_hw170 => k0_hw170.1
theorem k0_off720_inb : ∀ (v1025 : BitVec 32) (k0_hw170 : k0_chk170 v1025), ∀ a, (k0_off720 v1025) a + S1x16.size a ≤ S704x64.size a := fun v1025 k0_hw170 => k0_hw170.2.1
theorem k0_off721_inb : ∀ (v1025 : BitVec 32) (k0_hw170 : k0_chk170 v1025), ∀ a, (k0_off721 v1025) a + S1x16.size a ≤ S704x64.size a := fun v1025 k0_hw170 => k0_hw170.2.2.1
theorem k0_off722_inb : ∀ (v1025 : BitVec 32) (k0_hw170 : k0_chk170 v1025), ∀ a, (k0_off722 v1025) a + S1x16.size a ≤ S704x64.size a := fun v1025 k0_hw170 => k0_hw170.2.2.2

def k0_off723 (v1046 : BitVec 32) : Fin 2 → Nat :=
  let v1047 : Index := Scalar.indexCast v1046
  let c0_317 : Index := 0#32
  ![v1047.toNat, 0]

def k0_off724 (v1046 : BitVec 32) : Fin 2 → Nat :=
  let v1051 : Index := Scalar.indexCast v1046
  let c16_318 : Index := 16#32
  ![v1051.toNat, 16]
def k0_off725 (v1046 : BitVec 32) : Fin 2 → Nat :=
  let v1055 : Index := Scalar.indexCast v1046
  let c32_319 : Index := 32#32
  ![v1055.toNat, 32]
def k0_off726 (v1046 : BitVec 32) : Fin 2 → Nat :=
  let v1059 : Index := Scalar.indexCast v1046
  let c48_320 : Index := 48#32
  ![v1059.toNat, 48]

def k0_chk171 (v1046 : BitVec 32) : Prop :=
  (∀ a, (k0_off723 v1046) a + S1x16.size a ≤ S704x64.size a) ∧
  (∀ a, (k0_off724 v1046) a + S1x16.size a ≤ S704x64.size a) ∧
  (∀ a, (k0_off725 v1046) a + S1x16.size a ≤ S704x64.size a) ∧
  (∀ a, (k0_off726 v1046) a + S1x16.size a ≤ S704x64.size a)
theorem k0_off723_inb : ∀ (v1046 : BitVec 32) (k0_hw171 : k0_chk171 v1046), ∀ a, (k0_off723 v1046) a + S1x16.size a ≤ S704x64.size a := fun v1046 k0_hw171 => k0_hw171.1
theorem k0_off724_inb : ∀ (v1046 : BitVec 32) (k0_hw171 : k0_chk171 v1046), ∀ a, (k0_off724 v1046) a + S1x16.size a ≤ S704x64.size a := fun v1046 k0_hw171 => k0_hw171.2.1
theorem k0_off725_inb : ∀ (v1046 : BitVec 32) (k0_hw171 : k0_chk171 v1046), ∀ a, (k0_off725 v1046) a + S1x16.size a ≤ S704x64.size a := fun v1046 k0_hw171 => k0_hw171.2.2.1
theorem k0_off726_inb : ∀ (v1046 : BitVec 32) (k0_hw171 : k0_chk171 v1046), ∀ a, (k0_off726 v1046) a + S1x16.size a ≤ S704x64.size a := fun v1046 k0_hw171 => k0_hw171.2.2.2

def k0_off727 (v1067 : BitVec 32) : Fin 2 → Nat :=
  let v1068 : Index := Scalar.indexCast v1067
  let c0_321 : Index := 0#32
  ![v1068.toNat, 0]

def k0_off728 (v1067 : BitVec 32) : Fin 2 → Nat :=
  let v1072 : Index := Scalar.indexCast v1067
  let c16_322 : Index := 16#32
  ![v1072.toNat, 16]
def k0_off729 (v1067 : BitVec 32) : Fin 2 → Nat :=
  let v1076 : Index := Scalar.indexCast v1067
  let c32_323 : Index := 32#32
  ![v1076.toNat, 32]
def k0_off730 (v1067 : BitVec 32) : Fin 2 → Nat :=
  let v1080 : Index := Scalar.indexCast v1067
  let c48_324 : Index := 48#32
  ![v1080.toNat, 48]

def k0_chk172 (v1067 : BitVec 32) : Prop :=
  (∀ a, (k0_off727 v1067) a + S1x16.size a ≤ S704x64.size a) ∧
  (∀ a, (k0_off728 v1067) a + S1x16.size a ≤ S704x64.size a) ∧
  (∀ a, (k0_off729 v1067) a + S1x16.size a ≤ S704x64.size a) ∧
  (∀ a, (k0_off730 v1067) a + S1x16.size a ≤ S704x64.size a)
theorem k0_off727_inb : ∀ (v1067 : BitVec 32) (k0_hw172 : k0_chk172 v1067), ∀ a, (k0_off727 v1067) a + S1x16.size a ≤ S704x64.size a := fun v1067 k0_hw172 => k0_hw172.1
theorem k0_off728_inb : ∀ (v1067 : BitVec 32) (k0_hw172 : k0_chk172 v1067), ∀ a, (k0_off728 v1067) a + S1x16.size a ≤ S704x64.size a := fun v1067 k0_hw172 => k0_hw172.2.1
theorem k0_off729_inb : ∀ (v1067 : BitVec 32) (k0_hw172 : k0_chk172 v1067), ∀ a, (k0_off729 v1067) a + S1x16.size a ≤ S704x64.size a := fun v1067 k0_hw172 => k0_hw172.2.2.1
theorem k0_off730_inb : ∀ (v1067 : BitVec 32) (k0_hw172 : k0_chk172 v1067), ∀ a, (k0_off730 v1067) a + S1x16.size a ≤ S704x64.size a := fun v1067 k0_hw172 => k0_hw172.2.2.2

def k0_off731 (v1088 : BitVec 32) : Fin 2 → Nat :=
  let v1089 : Index := Scalar.indexCast v1088
  let c0_325 : Index := 0#32
  ![v1089.toNat, 0]

def k0_off732 (v1088 : BitVec 32) : Fin 2 → Nat :=
  let v1093 : Index := Scalar.indexCast v1088
  let c16_326 : Index := 16#32
  ![v1093.toNat, 16]
def k0_off733 (v1088 : BitVec 32) : Fin 2 → Nat :=
  let v1097 : Index := Scalar.indexCast v1088
  let c32_327 : Index := 32#32
  ![v1097.toNat, 32]
def k0_off734 (v1088 : BitVec 32) : Fin 2 → Nat :=
  let v1101 : Index := Scalar.indexCast v1088
  let c48_328 : Index := 48#32
  ![v1101.toNat, 48]

def k0_chk173 (v1088 : BitVec 32) : Prop :=
  (∀ a, (k0_off731 v1088) a + S1x16.size a ≤ S704x64.size a) ∧
  (∀ a, (k0_off732 v1088) a + S1x16.size a ≤ S704x64.size a) ∧
  (∀ a, (k0_off733 v1088) a + S1x16.size a ≤ S704x64.size a) ∧
  (∀ a, (k0_off734 v1088) a + S1x16.size a ≤ S704x64.size a)
theorem k0_off731_inb : ∀ (v1088 : BitVec 32) (k0_hw173 : k0_chk173 v1088), ∀ a, (k0_off731 v1088) a + S1x16.size a ≤ S704x64.size a := fun v1088 k0_hw173 => k0_hw173.1
theorem k0_off732_inb : ∀ (v1088 : BitVec 32) (k0_hw173 : k0_chk173 v1088), ∀ a, (k0_off732 v1088) a + S1x16.size a ≤ S704x64.size a := fun v1088 k0_hw173 => k0_hw173.2.1
theorem k0_off733_inb : ∀ (v1088 : BitVec 32) (k0_hw173 : k0_chk173 v1088), ∀ a, (k0_off733 v1088) a + S1x16.size a ≤ S704x64.size a := fun v1088 k0_hw173 => k0_hw173.2.2.1
theorem k0_off734_inb : ∀ (v1088 : BitVec 32) (k0_hw173 : k0_chk173 v1088), ∀ a, (k0_off734 v1088) a + S1x16.size a ≤ S704x64.size a := fun v1088 k0_hw173 => k0_hw173.2.2.2

def k0_off735 (v1109 : BitVec 32) : Fin 2 → Nat :=
  let v1110 : Index := Scalar.indexCast v1109
  let c0_329 : Index := 0#32
  ![v1110.toNat, 0]

def k0_off736 (v1109 : BitVec 32) : Fin 2 → Nat :=
  let v1114 : Index := Scalar.indexCast v1109
  let c16_330 : Index := 16#32
  ![v1114.toNat, 16]
def k0_off737 (v1109 : BitVec 32) : Fin 2 → Nat :=
  let v1118 : Index := Scalar.indexCast v1109
  let c32_331 : Index := 32#32
  ![v1118.toNat, 32]
def k0_off738 (v1109 : BitVec 32) : Fin 2 → Nat :=
  let v1122 : Index := Scalar.indexCast v1109
  let c48_332 : Index := 48#32
  ![v1122.toNat, 48]

def k0_chk174 (v1109 : BitVec 32) : Prop :=
  (∀ a, (k0_off735 v1109) a + S1x16.size a ≤ S704x64.size a) ∧
  (∀ a, (k0_off736 v1109) a + S1x16.size a ≤ S704x64.size a) ∧
  (∀ a, (k0_off737 v1109) a + S1x16.size a ≤ S704x64.size a) ∧
  (∀ a, (k0_off738 v1109) a + S1x16.size a ≤ S704x64.size a)
theorem k0_off735_inb : ∀ (v1109 : BitVec 32) (k0_hw174 : k0_chk174 v1109), ∀ a, (k0_off735 v1109) a + S1x16.size a ≤ S704x64.size a := fun v1109 k0_hw174 => k0_hw174.1
theorem k0_off736_inb : ∀ (v1109 : BitVec 32) (k0_hw174 : k0_chk174 v1109), ∀ a, (k0_off736 v1109) a + S1x16.size a ≤ S704x64.size a := fun v1109 k0_hw174 => k0_hw174.2.1
theorem k0_off737_inb : ∀ (v1109 : BitVec 32) (k0_hw174 : k0_chk174 v1109), ∀ a, (k0_off737 v1109) a + S1x16.size a ≤ S704x64.size a := fun v1109 k0_hw174 => k0_hw174.2.2.1
theorem k0_off738_inb : ∀ (v1109 : BitVec 32) (k0_hw174 : k0_chk174 v1109), ∀ a, (k0_off738 v1109) a + S1x16.size a ≤ S704x64.size a := fun v1109 k0_hw174 => k0_hw174.2.2.2

def k0_off739 (v1130 : BitVec 32) : Fin 2 → Nat :=
  let v1131 : Index := Scalar.indexCast v1130
  let c0_333 : Index := 0#32
  ![v1131.toNat, 0]

def k0_off740 (v1130 : BitVec 32) : Fin 2 → Nat :=
  let v1135 : Index := Scalar.indexCast v1130
  let c16_334 : Index := 16#32
  ![v1135.toNat, 16]
def k0_off741 (v1130 : BitVec 32) : Fin 2 → Nat :=
  let v1139 : Index := Scalar.indexCast v1130
  let c32_335 : Index := 32#32
  ![v1139.toNat, 32]
def k0_off742 (v1130 : BitVec 32) : Fin 2 → Nat :=
  let v1143 : Index := Scalar.indexCast v1130
  let c48_336 : Index := 48#32
  ![v1143.toNat, 48]

def k0_chk175 (v1130 : BitVec 32) : Prop :=
  (∀ a, (k0_off739 v1130) a + S1x16.size a ≤ S704x64.size a) ∧
  (∀ a, (k0_off740 v1130) a + S1x16.size a ≤ S704x64.size a) ∧
  (∀ a, (k0_off741 v1130) a + S1x16.size a ≤ S704x64.size a) ∧
  (∀ a, (k0_off742 v1130) a + S1x16.size a ≤ S704x64.size a)
theorem k0_off739_inb : ∀ (v1130 : BitVec 32) (k0_hw175 : k0_chk175 v1130), ∀ a, (k0_off739 v1130) a + S1x16.size a ≤ S704x64.size a := fun v1130 k0_hw175 => k0_hw175.1
theorem k0_off740_inb : ∀ (v1130 : BitVec 32) (k0_hw175 : k0_chk175 v1130), ∀ a, (k0_off740 v1130) a + S1x16.size a ≤ S704x64.size a := fun v1130 k0_hw175 => k0_hw175.2.1
theorem k0_off741_inb : ∀ (v1130 : BitVec 32) (k0_hw175 : k0_chk175 v1130), ∀ a, (k0_off741 v1130) a + S1x16.size a ≤ S704x64.size a := fun v1130 k0_hw175 => k0_hw175.2.2.1
theorem k0_off742_inb : ∀ (v1130 : BitVec 32) (k0_hw175 : k0_chk175 v1130), ∀ a, (k0_off742 v1130) a + S1x16.size a ≤ S704x64.size a := fun v1130 k0_hw175 => k0_hw175.2.2.2

def k0_off743 (v1151 : BitVec 32) : Fin 2 → Nat :=
  let v1152 : Index := Scalar.indexCast v1151
  let c0_337 : Index := 0#32
  ![v1152.toNat, 0]

def k0_off744 (v1151 : BitVec 32) : Fin 2 → Nat :=
  let v1156 : Index := Scalar.indexCast v1151
  let c16_338 : Index := 16#32
  ![v1156.toNat, 16]
def k0_off745 (v1151 : BitVec 32) : Fin 2 → Nat :=
  let v1160 : Index := Scalar.indexCast v1151
  let c32_339 : Index := 32#32
  ![v1160.toNat, 32]
def k0_off746 (v1151 : BitVec 32) : Fin 2 → Nat :=
  let v1164 : Index := Scalar.indexCast v1151
  let c48_340 : Index := 48#32
  ![v1164.toNat, 48]

def k0_chk176 (v1151 : BitVec 32) : Prop :=
  (∀ a, (k0_off743 v1151) a + S1x16.size a ≤ S704x64.size a) ∧
  (∀ a, (k0_off744 v1151) a + S1x16.size a ≤ S704x64.size a) ∧
  (∀ a, (k0_off745 v1151) a + S1x16.size a ≤ S704x64.size a) ∧
  (∀ a, (k0_off746 v1151) a + S1x16.size a ≤ S704x64.size a)
theorem k0_off743_inb : ∀ (v1151 : BitVec 32) (k0_hw176 : k0_chk176 v1151), ∀ a, (k0_off743 v1151) a + S1x16.size a ≤ S704x64.size a := fun v1151 k0_hw176 => k0_hw176.1
theorem k0_off744_inb : ∀ (v1151 : BitVec 32) (k0_hw176 : k0_chk176 v1151), ∀ a, (k0_off744 v1151) a + S1x16.size a ≤ S704x64.size a := fun v1151 k0_hw176 => k0_hw176.2.1
theorem k0_off745_inb : ∀ (v1151 : BitVec 32) (k0_hw176 : k0_chk176 v1151), ∀ a, (k0_off745 v1151) a + S1x16.size a ≤ S704x64.size a := fun v1151 k0_hw176 => k0_hw176.2.2.1
theorem k0_off746_inb : ∀ (v1151 : BitVec 32) (k0_hw176 : k0_chk176 v1151), ∀ a, (k0_off746 v1151) a + S1x16.size a ≤ S704x64.size a := fun v1151 k0_hw176 => k0_hw176.2.2.2

def k0_off747 (v1172 : BitVec 32) : Fin 2 → Nat :=
  let v1173 : Index := Scalar.indexCast v1172
  let c0_341 : Index := 0#32
  ![v1173.toNat, 0]

def k0_off748 (v1172 : BitVec 32) : Fin 2 → Nat :=
  let v1177 : Index := Scalar.indexCast v1172
  let c16_342 : Index := 16#32
  ![v1177.toNat, 16]
def k0_off749 (v1172 : BitVec 32) : Fin 2 → Nat :=
  let v1181 : Index := Scalar.indexCast v1172
  let c32_343 : Index := 32#32
  ![v1181.toNat, 32]
def k0_off750 (v1172 : BitVec 32) : Fin 2 → Nat :=
  let v1185 : Index := Scalar.indexCast v1172
  let c48_344 : Index := 48#32
  ![v1185.toNat, 48]

def k0_chk177 (v1172 : BitVec 32) : Prop :=
  (∀ a, (k0_off747 v1172) a + S1x16.size a ≤ S704x64.size a) ∧
  (∀ a, (k0_off748 v1172) a + S1x16.size a ≤ S704x64.size a) ∧
  (∀ a, (k0_off749 v1172) a + S1x16.size a ≤ S704x64.size a) ∧
  (∀ a, (k0_off750 v1172) a + S1x16.size a ≤ S704x64.size a)
theorem k0_off747_inb : ∀ (v1172 : BitVec 32) (k0_hw177 : k0_chk177 v1172), ∀ a, (k0_off747 v1172) a + S1x16.size a ≤ S704x64.size a := fun v1172 k0_hw177 => k0_hw177.1
theorem k0_off748_inb : ∀ (v1172 : BitVec 32) (k0_hw177 : k0_chk177 v1172), ∀ a, (k0_off748 v1172) a + S1x16.size a ≤ S704x64.size a := fun v1172 k0_hw177 => k0_hw177.2.1
theorem k0_off749_inb : ∀ (v1172 : BitVec 32) (k0_hw177 : k0_chk177 v1172), ∀ a, (k0_off749 v1172) a + S1x16.size a ≤ S704x64.size a := fun v1172 k0_hw177 => k0_hw177.2.2.1
theorem k0_off750_inb : ∀ (v1172 : BitVec 32) (k0_hw177 : k0_chk177 v1172), ∀ a, (k0_off750 v1172) a + S1x16.size a ≤ S704x64.size a := fun v1172 k0_hw177 => k0_hw177.2.2.2

def k0_off751 (v1193 : BitVec 32) : Fin 2 → Nat :=
  let v1194 : Index := Scalar.indexCast v1193
  let c0_345 : Index := 0#32
  ![v1194.toNat, 0]

def k0_off752 (v1193 : BitVec 32) : Fin 2 → Nat :=
  let v1198 : Index := Scalar.indexCast v1193
  let c16_346 : Index := 16#32
  ![v1198.toNat, 16]
def k0_off753 (v1193 : BitVec 32) : Fin 2 → Nat :=
  let v1202 : Index := Scalar.indexCast v1193
  let c32_347 : Index := 32#32
  ![v1202.toNat, 32]
def k0_off754 (v1193 : BitVec 32) : Fin 2 → Nat :=
  let v1206 : Index := Scalar.indexCast v1193
  let c48_348 : Index := 48#32
  ![v1206.toNat, 48]

def k0_chk178 (v1193 : BitVec 32) : Prop :=
  (∀ a, (k0_off751 v1193) a + S1x16.size a ≤ S704x64.size a) ∧
  (∀ a, (k0_off752 v1193) a + S1x16.size a ≤ S704x64.size a) ∧
  (∀ a, (k0_off753 v1193) a + S1x16.size a ≤ S704x64.size a) ∧
  (∀ a, (k0_off754 v1193) a + S1x16.size a ≤ S704x64.size a)
theorem k0_off751_inb : ∀ (v1193 : BitVec 32) (k0_hw178 : k0_chk178 v1193), ∀ a, (k0_off751 v1193) a + S1x16.size a ≤ S704x64.size a := fun v1193 k0_hw178 => k0_hw178.1
theorem k0_off752_inb : ∀ (v1193 : BitVec 32) (k0_hw178 : k0_chk178 v1193), ∀ a, (k0_off752 v1193) a + S1x16.size a ≤ S704x64.size a := fun v1193 k0_hw178 => k0_hw178.2.1
theorem k0_off753_inb : ∀ (v1193 : BitVec 32) (k0_hw178 : k0_chk178 v1193), ∀ a, (k0_off753 v1193) a + S1x16.size a ≤ S704x64.size a := fun v1193 k0_hw178 => k0_hw178.2.2.1
theorem k0_off754_inb : ∀ (v1193 : BitVec 32) (k0_hw178 : k0_chk178 v1193), ∀ a, (k0_off754 v1193) a + S1x16.size a ≤ S704x64.size a := fun v1193 k0_hw178 => k0_hw178.2.2.2

def k0_off755 (v1214 : BitVec 32) : Fin 2 → Nat :=
  let v1215 : Index := Scalar.indexCast v1214
  let c0_349 : Index := 0#32
  ![v1215.toNat, 0]

def k0_off756 (v1214 : BitVec 32) : Fin 2 → Nat :=
  let v1219 : Index := Scalar.indexCast v1214
  let c16_350 : Index := 16#32
  ![v1219.toNat, 16]
def k0_off757 (v1214 : BitVec 32) : Fin 2 → Nat :=
  let v1223 : Index := Scalar.indexCast v1214
  let c32_351 : Index := 32#32
  ![v1223.toNat, 32]
def k0_off758 (v1214 : BitVec 32) : Fin 2 → Nat :=
  let v1227 : Index := Scalar.indexCast v1214
  let c48_352 : Index := 48#32
  ![v1227.toNat, 48]

def k0_chk179 (v1214 : BitVec 32) : Prop :=
  (∀ a, (k0_off755 v1214) a + S1x16.size a ≤ S704x64.size a) ∧
  (∀ a, (k0_off756 v1214) a + S1x16.size a ≤ S704x64.size a) ∧
  (∀ a, (k0_off757 v1214) a + S1x16.size a ≤ S704x64.size a) ∧
  (∀ a, (k0_off758 v1214) a + S1x16.size a ≤ S704x64.size a)
theorem k0_off755_inb : ∀ (v1214 : BitVec 32) (k0_hw179 : k0_chk179 v1214), ∀ a, (k0_off755 v1214) a + S1x16.size a ≤ S704x64.size a := fun v1214 k0_hw179 => k0_hw179.1
theorem k0_off756_inb : ∀ (v1214 : BitVec 32) (k0_hw179 : k0_chk179 v1214), ∀ a, (k0_off756 v1214) a + S1x16.size a ≤ S704x64.size a := fun v1214 k0_hw179 => k0_hw179.2.1
theorem k0_off757_inb : ∀ (v1214 : BitVec 32) (k0_hw179 : k0_chk179 v1214), ∀ a, (k0_off757 v1214) a + S1x16.size a ≤ S704x64.size a := fun v1214 k0_hw179 => k0_hw179.2.2.1
theorem k0_off758_inb : ∀ (v1214 : BitVec 32) (k0_hw179 : k0_chk179 v1214), ∀ a, (k0_off758 v1214) a + S1x16.size a ≤ S704x64.size a := fun v1214 k0_hw179 => k0_hw179.2.2.2

def k0_off759 (v1235 : BitVec 32) : Fin 2 → Nat :=
  let v1236 : Index := Scalar.indexCast v1235
  let c0_353 : Index := 0#32
  ![v1236.toNat, 0]

def k0_off760 (v1235 : BitVec 32) : Fin 2 → Nat :=
  let v1240 : Index := Scalar.indexCast v1235
  let c16_354 : Index := 16#32
  ![v1240.toNat, 16]
def k0_off761 (v1235 : BitVec 32) : Fin 2 → Nat :=
  let v1244 : Index := Scalar.indexCast v1235
  let c32_355 : Index := 32#32
  ![v1244.toNat, 32]
def k0_off762 (v1235 : BitVec 32) : Fin 2 → Nat :=
  let v1248 : Index := Scalar.indexCast v1235
  let c48_356 : Index := 48#32
  ![v1248.toNat, 48]

def k0_chk180 (v1235 : BitVec 32) : Prop :=
  (∀ a, (k0_off759 v1235) a + S1x16.size a ≤ S704x64.size a) ∧
  (∀ a, (k0_off760 v1235) a + S1x16.size a ≤ S704x64.size a) ∧
  (∀ a, (k0_off761 v1235) a + S1x16.size a ≤ S704x64.size a) ∧
  (∀ a, (k0_off762 v1235) a + S1x16.size a ≤ S704x64.size a)
theorem k0_off759_inb : ∀ (v1235 : BitVec 32) (k0_hw180 : k0_chk180 v1235), ∀ a, (k0_off759 v1235) a + S1x16.size a ≤ S704x64.size a := fun v1235 k0_hw180 => k0_hw180.1
theorem k0_off760_inb : ∀ (v1235 : BitVec 32) (k0_hw180 : k0_chk180 v1235), ∀ a, (k0_off760 v1235) a + S1x16.size a ≤ S704x64.size a := fun v1235 k0_hw180 => k0_hw180.2.1
theorem k0_off761_inb : ∀ (v1235 : BitVec 32) (k0_hw180 : k0_chk180 v1235), ∀ a, (k0_off761 v1235) a + S1x16.size a ≤ S704x64.size a := fun v1235 k0_hw180 => k0_hw180.2.2.1
theorem k0_off762_inb : ∀ (v1235 : BitVec 32) (k0_hw180 : k0_chk180 v1235), ∀ a, (k0_off762 v1235) a + S1x16.size a ≤ S704x64.size a := fun v1235 k0_hw180 => k0_hw180.2.2.2

def k0_off763 (v1256 : BitVec 32) : Fin 2 → Nat :=
  let v1257 : Index := Scalar.indexCast v1256
  let c0_357 : Index := 0#32
  ![v1257.toNat, 0]

def k0_off764 (v1256 : BitVec 32) : Fin 2 → Nat :=
  let v1261 : Index := Scalar.indexCast v1256
  let c16_358 : Index := 16#32
  ![v1261.toNat, 16]
def k0_off765 (v1256 : BitVec 32) : Fin 2 → Nat :=
  let v1265 : Index := Scalar.indexCast v1256
  let c32_359 : Index := 32#32
  ![v1265.toNat, 32]
def k0_off766 (v1256 : BitVec 32) : Fin 2 → Nat :=
  let v1269 : Index := Scalar.indexCast v1256
  let c48_360 : Index := 48#32
  ![v1269.toNat, 48]

def k0_chk181 (v1256 : BitVec 32) : Prop :=
  (∀ a, (k0_off763 v1256) a + S1x16.size a ≤ S704x64.size a) ∧
  (∀ a, (k0_off764 v1256) a + S1x16.size a ≤ S704x64.size a) ∧
  (∀ a, (k0_off765 v1256) a + S1x16.size a ≤ S704x64.size a) ∧
  (∀ a, (k0_off766 v1256) a + S1x16.size a ≤ S704x64.size a)
theorem k0_off763_inb : ∀ (v1256 : BitVec 32) (k0_hw181 : k0_chk181 v1256), ∀ a, (k0_off763 v1256) a + S1x16.size a ≤ S704x64.size a := fun v1256 k0_hw181 => k0_hw181.1
theorem k0_off764_inb : ∀ (v1256 : BitVec 32) (k0_hw181 : k0_chk181 v1256), ∀ a, (k0_off764 v1256) a + S1x16.size a ≤ S704x64.size a := fun v1256 k0_hw181 => k0_hw181.2.1
theorem k0_off765_inb : ∀ (v1256 : BitVec 32) (k0_hw181 : k0_chk181 v1256), ∀ a, (k0_off765 v1256) a + S1x16.size a ≤ S704x64.size a := fun v1256 k0_hw181 => k0_hw181.2.2.1
theorem k0_off766_inb : ∀ (v1256 : BitVec 32) (k0_hw181 : k0_chk181 v1256), ∀ a, (k0_off766 v1256) a + S1x16.size a ≤ S704x64.size a := fun v1256 k0_hw181 => k0_hw181.2.2.2

def k0_off767 (v1277 : BitVec 32) : Fin 2 → Nat :=
  let v1278 : Index := Scalar.indexCast v1277
  let c0_361 : Index := 0#32
  ![v1278.toNat, 0]

def k0_off768 (v1277 : BitVec 32) : Fin 2 → Nat :=
  let v1282 : Index := Scalar.indexCast v1277
  let c16_362 : Index := 16#32
  ![v1282.toNat, 16]
def k0_off769 (v1277 : BitVec 32) : Fin 2 → Nat :=
  let v1286 : Index := Scalar.indexCast v1277
  let c32_363 : Index := 32#32
  ![v1286.toNat, 32]
def k0_off770 (v1277 : BitVec 32) : Fin 2 → Nat :=
  let v1290 : Index := Scalar.indexCast v1277
  let c48_364 : Index := 48#32
  ![v1290.toNat, 48]

def k0_chk182 (v1277 : BitVec 32) : Prop :=
  (∀ a, (k0_off767 v1277) a + S1x16.size a ≤ S704x64.size a) ∧
  (∀ a, (k0_off768 v1277) a + S1x16.size a ≤ S704x64.size a) ∧
  (∀ a, (k0_off769 v1277) a + S1x16.size a ≤ S704x64.size a) ∧
  (∀ a, (k0_off770 v1277) a + S1x16.size a ≤ S704x64.size a)
theorem k0_off767_inb : ∀ (v1277 : BitVec 32) (k0_hw182 : k0_chk182 v1277), ∀ a, (k0_off767 v1277) a + S1x16.size a ≤ S704x64.size a := fun v1277 k0_hw182 => k0_hw182.1
theorem k0_off768_inb : ∀ (v1277 : BitVec 32) (k0_hw182 : k0_chk182 v1277), ∀ a, (k0_off768 v1277) a + S1x16.size a ≤ S704x64.size a := fun v1277 k0_hw182 => k0_hw182.2.1
theorem k0_off769_inb : ∀ (v1277 : BitVec 32) (k0_hw182 : k0_chk182 v1277), ∀ a, (k0_off769 v1277) a + S1x16.size a ≤ S704x64.size a := fun v1277 k0_hw182 => k0_hw182.2.2.1
theorem k0_off770_inb : ∀ (v1277 : BitVec 32) (k0_hw182 : k0_chk182 v1277), ∀ a, (k0_off770 v1277) a + S1x16.size a ≤ S704x64.size a := fun v1277 k0_hw182 => k0_hw182.2.2.2

def k0_off771 (v1298 : BitVec 32) : Fin 2 → Nat :=
  let v1299 : Index := Scalar.indexCast v1298
  let c0_365 : Index := 0#32
  ![v1299.toNat, 0]

def k0_off772 (v1298 : BitVec 32) : Fin 2 → Nat :=
  let v1303 : Index := Scalar.indexCast v1298
  let c16_366 : Index := 16#32
  ![v1303.toNat, 16]
def k0_off773 (v1298 : BitVec 32) : Fin 2 → Nat :=
  let v1307 : Index := Scalar.indexCast v1298
  let c32_367 : Index := 32#32
  ![v1307.toNat, 32]
def k0_off774 (v1298 : BitVec 32) : Fin 2 → Nat :=
  let v1311 : Index := Scalar.indexCast v1298
  let c48_368 : Index := 48#32
  ![v1311.toNat, 48]

def k0_chk183 (v1298 : BitVec 32) : Prop :=
  (∀ a, (k0_off771 v1298) a + S1x16.size a ≤ S704x64.size a) ∧
  (∀ a, (k0_off772 v1298) a + S1x16.size a ≤ S704x64.size a) ∧
  (∀ a, (k0_off773 v1298) a + S1x16.size a ≤ S704x64.size a) ∧
  (∀ a, (k0_off774 v1298) a + S1x16.size a ≤ S704x64.size a)
theorem k0_off771_inb : ∀ (v1298 : BitVec 32) (k0_hw183 : k0_chk183 v1298), ∀ a, (k0_off771 v1298) a + S1x16.size a ≤ S704x64.size a := fun v1298 k0_hw183 => k0_hw183.1
theorem k0_off772_inb : ∀ (v1298 : BitVec 32) (k0_hw183 : k0_chk183 v1298), ∀ a, (k0_off772 v1298) a + S1x16.size a ≤ S704x64.size a := fun v1298 k0_hw183 => k0_hw183.2.1
theorem k0_off773_inb : ∀ (v1298 : BitVec 32) (k0_hw183 : k0_chk183 v1298), ∀ a, (k0_off773 v1298) a + S1x16.size a ≤ S704x64.size a := fun v1298 k0_hw183 => k0_hw183.2.2.1
theorem k0_off774_inb : ∀ (v1298 : BitVec 32) (k0_hw183 : k0_chk183 v1298), ∀ a, (k0_off774 v1298) a + S1x16.size a ≤ S704x64.size a := fun v1298 k0_hw183 => k0_hw183.2.2.2

def k0_off775 (v1319 : BitVec 32) : Fin 2 → Nat :=
  let v1320 : Index := Scalar.indexCast v1319
  let c0_369 : Index := 0#32
  ![v1320.toNat, 0]

def k0_off776 (v1319 : BitVec 32) : Fin 2 → Nat :=
  let v1324 : Index := Scalar.indexCast v1319
  let c16_370 : Index := 16#32
  ![v1324.toNat, 16]
def k0_off777 (v1319 : BitVec 32) : Fin 2 → Nat :=
  let v1328 : Index := Scalar.indexCast v1319
  let c32_371 : Index := 32#32
  ![v1328.toNat, 32]
def k0_off778 (v1319 : BitVec 32) : Fin 2 → Nat :=
  let v1332 : Index := Scalar.indexCast v1319
  let c48_372 : Index := 48#32
  ![v1332.toNat, 48]

def k0_chk184 (v1319 : BitVec 32) : Prop :=
  (∀ a, (k0_off775 v1319) a + S1x16.size a ≤ S704x64.size a) ∧
  (∀ a, (k0_off776 v1319) a + S1x16.size a ≤ S704x64.size a) ∧
  (∀ a, (k0_off777 v1319) a + S1x16.size a ≤ S704x64.size a) ∧
  (∀ a, (k0_off778 v1319) a + S1x16.size a ≤ S704x64.size a)
theorem k0_off775_inb : ∀ (v1319 : BitVec 32) (k0_hw184 : k0_chk184 v1319), ∀ a, (k0_off775 v1319) a + S1x16.size a ≤ S704x64.size a := fun v1319 k0_hw184 => k0_hw184.1
theorem k0_off776_inb : ∀ (v1319 : BitVec 32) (k0_hw184 : k0_chk184 v1319), ∀ a, (k0_off776 v1319) a + S1x16.size a ≤ S704x64.size a := fun v1319 k0_hw184 => k0_hw184.2.1
theorem k0_off777_inb : ∀ (v1319 : BitVec 32) (k0_hw184 : k0_chk184 v1319), ∀ a, (k0_off777 v1319) a + S1x16.size a ≤ S704x64.size a := fun v1319 k0_hw184 => k0_hw184.2.2.1
theorem k0_off778_inb : ∀ (v1319 : BitVec 32) (k0_hw184 : k0_chk184 v1319), ∀ a, (k0_off778 v1319) a + S1x16.size a ≤ S704x64.size a := fun v1319 k0_hw184 => k0_hw184.2.2.2

def k0_off779 (v1340 : BitVec 32) : Fin 2 → Nat :=
  let v1341 : Index := Scalar.indexCast v1340
  let c0_373 : Index := 0#32
  ![v1341.toNat, 0]

def k0_off780 (v1340 : BitVec 32) : Fin 2 → Nat :=
  let v1345 : Index := Scalar.indexCast v1340
  let c16_374 : Index := 16#32
  ![v1345.toNat, 16]
def k0_off781 (v1340 : BitVec 32) : Fin 2 → Nat :=
  let v1349 : Index := Scalar.indexCast v1340
  let c32_375 : Index := 32#32
  ![v1349.toNat, 32]
def k0_off782 (v1340 : BitVec 32) : Fin 2 → Nat :=
  let v1353 : Index := Scalar.indexCast v1340
  let c48_376 : Index := 48#32
  ![v1353.toNat, 48]

def k0_chk185 (v1340 : BitVec 32) : Prop :=
  (∀ a, (k0_off779 v1340) a + S1x16.size a ≤ S704x64.size a) ∧
  (∀ a, (k0_off780 v1340) a + S1x16.size a ≤ S704x64.size a) ∧
  (∀ a, (k0_off781 v1340) a + S1x16.size a ≤ S704x64.size a) ∧
  (∀ a, (k0_off782 v1340) a + S1x16.size a ≤ S704x64.size a)
theorem k0_off779_inb : ∀ (v1340 : BitVec 32) (k0_hw185 : k0_chk185 v1340), ∀ a, (k0_off779 v1340) a + S1x16.size a ≤ S704x64.size a := fun v1340 k0_hw185 => k0_hw185.1
theorem k0_off780_inb : ∀ (v1340 : BitVec 32) (k0_hw185 : k0_chk185 v1340), ∀ a, (k0_off780 v1340) a + S1x16.size a ≤ S704x64.size a := fun v1340 k0_hw185 => k0_hw185.2.1
theorem k0_off781_inb : ∀ (v1340 : BitVec 32) (k0_hw185 : k0_chk185 v1340), ∀ a, (k0_off781 v1340) a + S1x16.size a ≤ S704x64.size a := fun v1340 k0_hw185 => k0_hw185.2.2.1
theorem k0_off782_inb : ∀ (v1340 : BitVec 32) (k0_hw185 : k0_chk185 v1340), ∀ a, (k0_off782 v1340) a + S1x16.size a ≤ S704x64.size a := fun v1340 k0_hw185 => k0_hw185.2.2.2

def k0_off783 (v1361 : BitVec 32) : Fin 2 → Nat :=
  let v1362 : Index := Scalar.indexCast v1361
  let c0_377 : Index := 0#32
  ![v1362.toNat, 0]

def k0_off784 (v1361 : BitVec 32) : Fin 2 → Nat :=
  let v1366 : Index := Scalar.indexCast v1361
  let c16_378 : Index := 16#32
  ![v1366.toNat, 16]
def k0_off785 (v1361 : BitVec 32) : Fin 2 → Nat :=
  let v1370 : Index := Scalar.indexCast v1361
  let c32_379 : Index := 32#32
  ![v1370.toNat, 32]
def k0_off786 (v1361 : BitVec 32) : Fin 2 → Nat :=
  let v1374 : Index := Scalar.indexCast v1361
  let c48_380 : Index := 48#32
  ![v1374.toNat, 48]

def k0_chk186 (v1361 : BitVec 32) : Prop :=
  (∀ a, (k0_off783 v1361) a + S1x16.size a ≤ S704x64.size a) ∧
  (∀ a, (k0_off784 v1361) a + S1x16.size a ≤ S704x64.size a) ∧
  (∀ a, (k0_off785 v1361) a + S1x16.size a ≤ S704x64.size a) ∧
  (∀ a, (k0_off786 v1361) a + S1x16.size a ≤ S704x64.size a)
theorem k0_off783_inb : ∀ (v1361 : BitVec 32) (k0_hw186 : k0_chk186 v1361), ∀ a, (k0_off783 v1361) a + S1x16.size a ≤ S704x64.size a := fun v1361 k0_hw186 => k0_hw186.1
theorem k0_off784_inb : ∀ (v1361 : BitVec 32) (k0_hw186 : k0_chk186 v1361), ∀ a, (k0_off784 v1361) a + S1x16.size a ≤ S704x64.size a := fun v1361 k0_hw186 => k0_hw186.2.1
theorem k0_off785_inb : ∀ (v1361 : BitVec 32) (k0_hw186 : k0_chk186 v1361), ∀ a, (k0_off785 v1361) a + S1x16.size a ≤ S704x64.size a := fun v1361 k0_hw186 => k0_hw186.2.2.1
theorem k0_off786_inb : ∀ (v1361 : BitVec 32) (k0_hw186 : k0_chk186 v1361), ∀ a, (k0_off786 v1361) a + S1x16.size a ≤ S704x64.size a := fun v1361 k0_hw186 => k0_hw186.2.2.2

def k0_off787 (v1382 : BitVec 32) : Fin 2 → Nat :=
  let v1383 : Index := Scalar.indexCast v1382
  let c0_381 : Index := 0#32
  ![v1383.toNat, 0]

def k0_off788 (v1382 : BitVec 32) : Fin 2 → Nat :=
  let v1387 : Index := Scalar.indexCast v1382
  let c16_382 : Index := 16#32
  ![v1387.toNat, 16]
def k0_off789 (v1382 : BitVec 32) : Fin 2 → Nat :=
  let v1391 : Index := Scalar.indexCast v1382
  let c32_383 : Index := 32#32
  ![v1391.toNat, 32]
def k0_off790 (v1382 : BitVec 32) : Fin 2 → Nat :=
  let v1395 : Index := Scalar.indexCast v1382
  let c48_384 : Index := 48#32
  ![v1395.toNat, 48]

def k0_chk187 (v1382 : BitVec 32) : Prop :=
  (∀ a, (k0_off787 v1382) a + S1x16.size a ≤ S704x64.size a) ∧
  (∀ a, (k0_off788 v1382) a + S1x16.size a ≤ S704x64.size a) ∧
  (∀ a, (k0_off789 v1382) a + S1x16.size a ≤ S704x64.size a) ∧
  (∀ a, (k0_off790 v1382) a + S1x16.size a ≤ S704x64.size a)
theorem k0_off787_inb : ∀ (v1382 : BitVec 32) (k0_hw187 : k0_chk187 v1382), ∀ a, (k0_off787 v1382) a + S1x16.size a ≤ S704x64.size a := fun v1382 k0_hw187 => k0_hw187.1
theorem k0_off788_inb : ∀ (v1382 : BitVec 32) (k0_hw187 : k0_chk187 v1382), ∀ a, (k0_off788 v1382) a + S1x16.size a ≤ S704x64.size a := fun v1382 k0_hw187 => k0_hw187.2.1
theorem k0_off789_inb : ∀ (v1382 : BitVec 32) (k0_hw187 : k0_chk187 v1382), ∀ a, (k0_off789 v1382) a + S1x16.size a ≤ S704x64.size a := fun v1382 k0_hw187 => k0_hw187.2.2.1
theorem k0_off790_inb : ∀ (v1382 : BitVec 32) (k0_hw187 : k0_chk187 v1382), ∀ a, (k0_off790 v1382) a + S1x16.size a ≤ S704x64.size a := fun v1382 k0_hw187 => k0_hw187.2.2.2

def k0_off791 (v1403 : BitVec 32) : Fin 2 → Nat :=
  let v1404 : Index := Scalar.indexCast v1403
  let c0_385 : Index := 0#32
  ![v1404.toNat, 0]

def k0_off792 (v1403 : BitVec 32) : Fin 2 → Nat :=
  let v1408 : Index := Scalar.indexCast v1403
  let c16_386 : Index := 16#32
  ![v1408.toNat, 16]
def k0_off793 (v1403 : BitVec 32) : Fin 2 → Nat :=
  let v1412 : Index := Scalar.indexCast v1403
  let c32_387 : Index := 32#32
  ![v1412.toNat, 32]
def k0_off794 (v1403 : BitVec 32) : Fin 2 → Nat :=
  let v1416 : Index := Scalar.indexCast v1403
  let c48_388 : Index := 48#32
  ![v1416.toNat, 48]

def k0_chk188 (v1403 : BitVec 32) : Prop :=
  (∀ a, (k0_off791 v1403) a + S1x16.size a ≤ S704x64.size a) ∧
  (∀ a, (k0_off792 v1403) a + S1x16.size a ≤ S704x64.size a) ∧
  (∀ a, (k0_off793 v1403) a + S1x16.size a ≤ S704x64.size a) ∧
  (∀ a, (k0_off794 v1403) a + S1x16.size a ≤ S704x64.size a)
theorem k0_off791_inb : ∀ (v1403 : BitVec 32) (k0_hw188 : k0_chk188 v1403), ∀ a, (k0_off791 v1403) a + S1x16.size a ≤ S704x64.size a := fun v1403 k0_hw188 => k0_hw188.1
theorem k0_off792_inb : ∀ (v1403 : BitVec 32) (k0_hw188 : k0_chk188 v1403), ∀ a, (k0_off792 v1403) a + S1x16.size a ≤ S704x64.size a := fun v1403 k0_hw188 => k0_hw188.2.1
theorem k0_off793_inb : ∀ (v1403 : BitVec 32) (k0_hw188 : k0_chk188 v1403), ∀ a, (k0_off793 v1403) a + S1x16.size a ≤ S704x64.size a := fun v1403 k0_hw188 => k0_hw188.2.2.1
theorem k0_off794_inb : ∀ (v1403 : BitVec 32) (k0_hw188 : k0_chk188 v1403), ∀ a, (k0_off794 v1403) a + S1x16.size a ≤ S704x64.size a := fun v1403 k0_hw188 => k0_hw188.2.2.2

def k0_off795 (v1424 : BitVec 32) : Fin 2 → Nat :=
  let v1425 : Index := Scalar.indexCast v1424
  let c0_389 : Index := 0#32
  ![v1425.toNat, 0]

def k0_off796 (v1424 : BitVec 32) : Fin 2 → Nat :=
  let v1429 : Index := Scalar.indexCast v1424
  let c16_390 : Index := 16#32
  ![v1429.toNat, 16]
def k0_off797 (v1424 : BitVec 32) : Fin 2 → Nat :=
  let v1433 : Index := Scalar.indexCast v1424
  let c32_391 : Index := 32#32
  ![v1433.toNat, 32]
def k0_off798 (v1424 : BitVec 32) : Fin 2 → Nat :=
  let v1437 : Index := Scalar.indexCast v1424
  let c48_392 : Index := 48#32
  ![v1437.toNat, 48]

def k0_chk189 (v1424 : BitVec 32) : Prop :=
  (∀ a, (k0_off795 v1424) a + S1x16.size a ≤ S704x64.size a) ∧
  (∀ a, (k0_off796 v1424) a + S1x16.size a ≤ S704x64.size a) ∧
  (∀ a, (k0_off797 v1424) a + S1x16.size a ≤ S704x64.size a) ∧
  (∀ a, (k0_off798 v1424) a + S1x16.size a ≤ S704x64.size a)
theorem k0_off795_inb : ∀ (v1424 : BitVec 32) (k0_hw189 : k0_chk189 v1424), ∀ a, (k0_off795 v1424) a + S1x16.size a ≤ S704x64.size a := fun v1424 k0_hw189 => k0_hw189.1
theorem k0_off796_inb : ∀ (v1424 : BitVec 32) (k0_hw189 : k0_chk189 v1424), ∀ a, (k0_off796 v1424) a + S1x16.size a ≤ S704x64.size a := fun v1424 k0_hw189 => k0_hw189.2.1
theorem k0_off797_inb : ∀ (v1424 : BitVec 32) (k0_hw189 : k0_chk189 v1424), ∀ a, (k0_off797 v1424) a + S1x16.size a ≤ S704x64.size a := fun v1424 k0_hw189 => k0_hw189.2.2.1
theorem k0_off798_inb : ∀ (v1424 : BitVec 32) (k0_hw189 : k0_chk189 v1424), ∀ a, (k0_off798 v1424) a + S1x16.size a ≤ S704x64.size a := fun v1424 k0_hw189 => k0_hw189.2.2.2

def k0_off799 (v1445 : BitVec 32) : Fin 2 → Nat :=
  let v1446 : Index := Scalar.indexCast v1445
  let c0_393 : Index := 0#32
  ![v1446.toNat, 0]

def k0_off800 (v1445 : BitVec 32) : Fin 2 → Nat :=
  let v1450 : Index := Scalar.indexCast v1445
  let c16_394 : Index := 16#32
  ![v1450.toNat, 16]
def k0_off801 (v1445 : BitVec 32) : Fin 2 → Nat :=
  let v1454 : Index := Scalar.indexCast v1445
  let c32_395 : Index := 32#32
  ![v1454.toNat, 32]
def k0_off802 (v1445 : BitVec 32) : Fin 2 → Nat :=
  let v1458 : Index := Scalar.indexCast v1445
  let c48_396 : Index := 48#32
  ![v1458.toNat, 48]

def k0_chk190 (v1445 : BitVec 32) : Prop :=
  (∀ a, (k0_off799 v1445) a + S1x16.size a ≤ S704x64.size a) ∧
  (∀ a, (k0_off800 v1445) a + S1x16.size a ≤ S704x64.size a) ∧
  (∀ a, (k0_off801 v1445) a + S1x16.size a ≤ S704x64.size a) ∧
  (∀ a, (k0_off802 v1445) a + S1x16.size a ≤ S704x64.size a)
theorem k0_off799_inb : ∀ (v1445 : BitVec 32) (k0_hw190 : k0_chk190 v1445), ∀ a, (k0_off799 v1445) a + S1x16.size a ≤ S704x64.size a := fun v1445 k0_hw190 => k0_hw190.1
theorem k0_off800_inb : ∀ (v1445 : BitVec 32) (k0_hw190 : k0_chk190 v1445), ∀ a, (k0_off800 v1445) a + S1x16.size a ≤ S704x64.size a := fun v1445 k0_hw190 => k0_hw190.2.1
theorem k0_off801_inb : ∀ (v1445 : BitVec 32) (k0_hw190 : k0_chk190 v1445), ∀ a, (k0_off801 v1445) a + S1x16.size a ≤ S704x64.size a := fun v1445 k0_hw190 => k0_hw190.2.2.1
theorem k0_off802_inb : ∀ (v1445 : BitVec 32) (k0_hw190 : k0_chk190 v1445), ∀ a, (k0_off802 v1445) a + S1x16.size a ≤ S704x64.size a := fun v1445 k0_hw190 => k0_hw190.2.2.2

def k0_off803 (v1466 : BitVec 32) : Fin 2 → Nat :=
  let v1467 : Index := Scalar.indexCast v1466
  let c0_397 : Index := 0#32
  ![v1467.toNat, 0]

def k0_off804 (v1466 : BitVec 32) : Fin 2 → Nat :=
  let v1471 : Index := Scalar.indexCast v1466
  let c16_398 : Index := 16#32
  ![v1471.toNat, 16]
def k0_off805 (v1466 : BitVec 32) : Fin 2 → Nat :=
  let v1475 : Index := Scalar.indexCast v1466
  let c32_399 : Index := 32#32
  ![v1475.toNat, 32]
def k0_off806 (v1466 : BitVec 32) : Fin 2 → Nat :=
  let v1479 : Index := Scalar.indexCast v1466
  let c48_400 : Index := 48#32
  ![v1479.toNat, 48]

def k0_chk191 (v1466 : BitVec 32) : Prop :=
  (∀ a, (k0_off803 v1466) a + S1x16.size a ≤ S704x64.size a) ∧
  (∀ a, (k0_off804 v1466) a + S1x16.size a ≤ S704x64.size a) ∧
  (∀ a, (k0_off805 v1466) a + S1x16.size a ≤ S704x64.size a) ∧
  (∀ a, (k0_off806 v1466) a + S1x16.size a ≤ S704x64.size a)
theorem k0_off803_inb : ∀ (v1466 : BitVec 32) (k0_hw191 : k0_chk191 v1466), ∀ a, (k0_off803 v1466) a + S1x16.size a ≤ S704x64.size a := fun v1466 k0_hw191 => k0_hw191.1
theorem k0_off804_inb : ∀ (v1466 : BitVec 32) (k0_hw191 : k0_chk191 v1466), ∀ a, (k0_off804 v1466) a + S1x16.size a ≤ S704x64.size a := fun v1466 k0_hw191 => k0_hw191.2.1
theorem k0_off805_inb : ∀ (v1466 : BitVec 32) (k0_hw191 : k0_chk191 v1466), ∀ a, (k0_off805 v1466) a + S1x16.size a ≤ S704x64.size a := fun v1466 k0_hw191 => k0_hw191.2.2.1
theorem k0_off806_inb : ∀ (v1466 : BitVec 32) (k0_hw191 : k0_chk191 v1466), ∀ a, (k0_off806 v1466) a + S1x16.size a ≤ S704x64.size a := fun v1466 k0_hw191 => k0_hw191.2.2.2

def k0_off807 (v1487 : BitVec 32) : Fin 2 → Nat :=
  let v1488 : Index := Scalar.indexCast v1487
  let c0_401 : Index := 0#32
  ![v1488.toNat, 0]

def k0_off808 (v1487 : BitVec 32) : Fin 2 → Nat :=
  let v1492 : Index := Scalar.indexCast v1487
  let c16_402 : Index := 16#32
  ![v1492.toNat, 16]
def k0_off809 (v1487 : BitVec 32) : Fin 2 → Nat :=
  let v1496 : Index := Scalar.indexCast v1487
  let c32_403 : Index := 32#32
  ![v1496.toNat, 32]
def k0_off810 (v1487 : BitVec 32) : Fin 2 → Nat :=
  let v1500 : Index := Scalar.indexCast v1487
  let c48_404 : Index := 48#32
  ![v1500.toNat, 48]

def k0_chk192 (v1487 : BitVec 32) : Prop :=
  (∀ a, (k0_off807 v1487) a + S1x16.size a ≤ S704x64.size a) ∧
  (∀ a, (k0_off808 v1487) a + S1x16.size a ≤ S704x64.size a) ∧
  (∀ a, (k0_off809 v1487) a + S1x16.size a ≤ S704x64.size a) ∧
  (∀ a, (k0_off810 v1487) a + S1x16.size a ≤ S704x64.size a)
theorem k0_off807_inb : ∀ (v1487 : BitVec 32) (k0_hw192 : k0_chk192 v1487), ∀ a, (k0_off807 v1487) a + S1x16.size a ≤ S704x64.size a := fun v1487 k0_hw192 => k0_hw192.1
theorem k0_off808_inb : ∀ (v1487 : BitVec 32) (k0_hw192 : k0_chk192 v1487), ∀ a, (k0_off808 v1487) a + S1x16.size a ≤ S704x64.size a := fun v1487 k0_hw192 => k0_hw192.2.1
theorem k0_off809_inb : ∀ (v1487 : BitVec 32) (k0_hw192 : k0_chk192 v1487), ∀ a, (k0_off809 v1487) a + S1x16.size a ≤ S704x64.size a := fun v1487 k0_hw192 => k0_hw192.2.2.1
theorem k0_off810_inb : ∀ (v1487 : BitVec 32) (k0_hw192 : k0_chk192 v1487), ∀ a, (k0_off810 v1487) a + S1x16.size a ≤ S704x64.size a := fun v1487 k0_hw192 => k0_hw192.2.2.2

def k0_off811 (v1508 : BitVec 32) : Fin 2 → Nat :=
  let v1509 : Index := Scalar.indexCast v1508
  let c0_405 : Index := 0#32
  ![v1509.toNat, 0]

def k0_off812 (v1508 : BitVec 32) : Fin 2 → Nat :=
  let v1513 : Index := Scalar.indexCast v1508
  let c16_406 : Index := 16#32
  ![v1513.toNat, 16]
def k0_off813 (v1508 : BitVec 32) : Fin 2 → Nat :=
  let v1517 : Index := Scalar.indexCast v1508
  let c32_407 : Index := 32#32
  ![v1517.toNat, 32]
def k0_off814 (v1508 : BitVec 32) : Fin 2 → Nat :=
  let v1521 : Index := Scalar.indexCast v1508
  let c48_408 : Index := 48#32
  ![v1521.toNat, 48]

def k0_chk193 (v1508 : BitVec 32) : Prop :=
  (∀ a, (k0_off811 v1508) a + S1x16.size a ≤ S704x64.size a) ∧
  (∀ a, (k0_off812 v1508) a + S1x16.size a ≤ S704x64.size a) ∧
  (∀ a, (k0_off813 v1508) a + S1x16.size a ≤ S704x64.size a) ∧
  (∀ a, (k0_off814 v1508) a + S1x16.size a ≤ S704x64.size a)
theorem k0_off811_inb : ∀ (v1508 : BitVec 32) (k0_hw193 : k0_chk193 v1508), ∀ a, (k0_off811 v1508) a + S1x16.size a ≤ S704x64.size a := fun v1508 k0_hw193 => k0_hw193.1
theorem k0_off812_inb : ∀ (v1508 : BitVec 32) (k0_hw193 : k0_chk193 v1508), ∀ a, (k0_off812 v1508) a + S1x16.size a ≤ S704x64.size a := fun v1508 k0_hw193 => k0_hw193.2.1
theorem k0_off813_inb : ∀ (v1508 : BitVec 32) (k0_hw193 : k0_chk193 v1508), ∀ a, (k0_off813 v1508) a + S1x16.size a ≤ S704x64.size a := fun v1508 k0_hw193 => k0_hw193.2.2.1
theorem k0_off814_inb : ∀ (v1508 : BitVec 32) (k0_hw193 : k0_chk193 v1508), ∀ a, (k0_off814 v1508) a + S1x16.size a ≤ S704x64.size a := fun v1508 k0_hw193 => k0_hw193.2.2.2

def k0_off815 (v1529 : BitVec 32) : Fin 2 → Nat :=
  let v1530 : Index := Scalar.indexCast v1529
  let c0_409 : Index := 0#32
  ![v1530.toNat, 0]

def k0_off816 (v1529 : BitVec 32) : Fin 2 → Nat :=
  let v1534 : Index := Scalar.indexCast v1529
  let c16_410 : Index := 16#32
  ![v1534.toNat, 16]
def k0_off817 (v1529 : BitVec 32) : Fin 2 → Nat :=
  let v1538 : Index := Scalar.indexCast v1529
  let c32_411 : Index := 32#32
  ![v1538.toNat, 32]
def k0_off818 (v1529 : BitVec 32) : Fin 2 → Nat :=
  let v1542 : Index := Scalar.indexCast v1529
  let c48_412 : Index := 48#32
  ![v1542.toNat, 48]

def k0_chk194 (v1529 : BitVec 32) : Prop :=
  (∀ a, (k0_off815 v1529) a + S1x16.size a ≤ S704x64.size a) ∧
  (∀ a, (k0_off816 v1529) a + S1x16.size a ≤ S704x64.size a) ∧
  (∀ a, (k0_off817 v1529) a + S1x16.size a ≤ S704x64.size a) ∧
  (∀ a, (k0_off818 v1529) a + S1x16.size a ≤ S704x64.size a)
theorem k0_off815_inb : ∀ (v1529 : BitVec 32) (k0_hw194 : k0_chk194 v1529), ∀ a, (k0_off815 v1529) a + S1x16.size a ≤ S704x64.size a := fun v1529 k0_hw194 => k0_hw194.1
theorem k0_off816_inb : ∀ (v1529 : BitVec 32) (k0_hw194 : k0_chk194 v1529), ∀ a, (k0_off816 v1529) a + S1x16.size a ≤ S704x64.size a := fun v1529 k0_hw194 => k0_hw194.2.1
theorem k0_off817_inb : ∀ (v1529 : BitVec 32) (k0_hw194 : k0_chk194 v1529), ∀ a, (k0_off817 v1529) a + S1x16.size a ≤ S704x64.size a := fun v1529 k0_hw194 => k0_hw194.2.2.1
theorem k0_off818_inb : ∀ (v1529 : BitVec 32) (k0_hw194 : k0_chk194 v1529), ∀ a, (k0_off818 v1529) a + S1x16.size a ≤ S704x64.size a := fun v1529 k0_hw194 => k0_hw194.2.2.2

def k0_off819 (v1550 : BitVec 32) : Fin 2 → Nat :=
  let v1551 : Index := Scalar.indexCast v1550
  let c0_413 : Index := 0#32
  ![v1551.toNat, 0]

def k0_off820 (v1550 : BitVec 32) : Fin 2 → Nat :=
  let v1555 : Index := Scalar.indexCast v1550
  let c16_414 : Index := 16#32
  ![v1555.toNat, 16]
def k0_off821 (v1550 : BitVec 32) : Fin 2 → Nat :=
  let v1559 : Index := Scalar.indexCast v1550
  let c32_415 : Index := 32#32
  ![v1559.toNat, 32]
def k0_off822 (v1550 : BitVec 32) : Fin 2 → Nat :=
  let v1563 : Index := Scalar.indexCast v1550
  let c48_416 : Index := 48#32
  ![v1563.toNat, 48]

def k0_chk195 (v1550 : BitVec 32) : Prop :=
  (∀ a, (k0_off819 v1550) a + S1x16.size a ≤ S704x64.size a) ∧
  (∀ a, (k0_off820 v1550) a + S1x16.size a ≤ S704x64.size a) ∧
  (∀ a, (k0_off821 v1550) a + S1x16.size a ≤ S704x64.size a) ∧
  (∀ a, (k0_off822 v1550) a + S1x16.size a ≤ S704x64.size a)
theorem k0_off819_inb : ∀ (v1550 : BitVec 32) (k0_hw195 : k0_chk195 v1550), ∀ a, (k0_off819 v1550) a + S1x16.size a ≤ S704x64.size a := fun v1550 k0_hw195 => k0_hw195.1
theorem k0_off820_inb : ∀ (v1550 : BitVec 32) (k0_hw195 : k0_chk195 v1550), ∀ a, (k0_off820 v1550) a + S1x16.size a ≤ S704x64.size a := fun v1550 k0_hw195 => k0_hw195.2.1
theorem k0_off821_inb : ∀ (v1550 : BitVec 32) (k0_hw195 : k0_chk195 v1550), ∀ a, (k0_off821 v1550) a + S1x16.size a ≤ S704x64.size a := fun v1550 k0_hw195 => k0_hw195.2.2.1
theorem k0_off822_inb : ∀ (v1550 : BitVec 32) (k0_hw195 : k0_chk195 v1550), ∀ a, (k0_off822 v1550) a + S1x16.size a ≤ S704x64.size a := fun v1550 k0_hw195 => k0_hw195.2.2.2

def k0_off823 (v1571 : BitVec 32) : Fin 2 → Nat :=
  let v1572 : Index := Scalar.indexCast v1571
  let c0_417 : Index := 0#32
  ![v1572.toNat, 0]

def k0_off824 (v1571 : BitVec 32) : Fin 2 → Nat :=
  let v1576 : Index := Scalar.indexCast v1571
  let c16_418 : Index := 16#32
  ![v1576.toNat, 16]
def k0_off825 (v1571 : BitVec 32) : Fin 2 → Nat :=
  let v1580 : Index := Scalar.indexCast v1571
  let c32_419 : Index := 32#32
  ![v1580.toNat, 32]
def k0_off826 (v1571 : BitVec 32) : Fin 2 → Nat :=
  let v1584 : Index := Scalar.indexCast v1571
  let c48_420 : Index := 48#32
  ![v1584.toNat, 48]

def k0_chk196 (v1571 : BitVec 32) : Prop :=
  (∀ a, (k0_off823 v1571) a + S1x16.size a ≤ S704x64.size a) ∧
  (∀ a, (k0_off824 v1571) a + S1x16.size a ≤ S704x64.size a) ∧
  (∀ a, (k0_off825 v1571) a + S1x16.size a ≤ S704x64.size a) ∧
  (∀ a, (k0_off826 v1571) a + S1x16.size a ≤ S704x64.size a)
theorem k0_off823_inb : ∀ (v1571 : BitVec 32) (k0_hw196 : k0_chk196 v1571), ∀ a, (k0_off823 v1571) a + S1x16.size a ≤ S704x64.size a := fun v1571 k0_hw196 => k0_hw196.1
theorem k0_off824_inb : ∀ (v1571 : BitVec 32) (k0_hw196 : k0_chk196 v1571), ∀ a, (k0_off824 v1571) a + S1x16.size a ≤ S704x64.size a := fun v1571 k0_hw196 => k0_hw196.2.1
theorem k0_off825_inb : ∀ (v1571 : BitVec 32) (k0_hw196 : k0_chk196 v1571), ∀ a, (k0_off825 v1571) a + S1x16.size a ≤ S704x64.size a := fun v1571 k0_hw196 => k0_hw196.2.2.1
theorem k0_off826_inb : ∀ (v1571 : BitVec 32) (k0_hw196 : k0_chk196 v1571), ∀ a, (k0_off826 v1571) a + S1x16.size a ≤ S704x64.size a := fun v1571 k0_hw196 => k0_hw196.2.2.2

def k0_off827 (v1592 : BitVec 32) : Fin 2 → Nat :=
  let v1593 : Index := Scalar.indexCast v1592
  let c0_421 : Index := 0#32
  ![v1593.toNat, 0]

def k0_off828 (v1592 : BitVec 32) : Fin 2 → Nat :=
  let v1597 : Index := Scalar.indexCast v1592
  let c16_422 : Index := 16#32
  ![v1597.toNat, 16]
def k0_off829 (v1592 : BitVec 32) : Fin 2 → Nat :=
  let v1601 : Index := Scalar.indexCast v1592
  let c32_423 : Index := 32#32
  ![v1601.toNat, 32]
def k0_off830 (v1592 : BitVec 32) : Fin 2 → Nat :=
  let v1605 : Index := Scalar.indexCast v1592
  let c48_424 : Index := 48#32
  ![v1605.toNat, 48]

def k0_chk197 (v1592 : BitVec 32) : Prop :=
  (∀ a, (k0_off827 v1592) a + S1x16.size a ≤ S704x64.size a) ∧
  (∀ a, (k0_off828 v1592) a + S1x16.size a ≤ S704x64.size a) ∧
  (∀ a, (k0_off829 v1592) a + S1x16.size a ≤ S704x64.size a) ∧
  (∀ a, (k0_off830 v1592) a + S1x16.size a ≤ S704x64.size a)
theorem k0_off827_inb : ∀ (v1592 : BitVec 32) (k0_hw197 : k0_chk197 v1592), ∀ a, (k0_off827 v1592) a + S1x16.size a ≤ S704x64.size a := fun v1592 k0_hw197 => k0_hw197.1
theorem k0_off828_inb : ∀ (v1592 : BitVec 32) (k0_hw197 : k0_chk197 v1592), ∀ a, (k0_off828 v1592) a + S1x16.size a ≤ S704x64.size a := fun v1592 k0_hw197 => k0_hw197.2.1
theorem k0_off829_inb : ∀ (v1592 : BitVec 32) (k0_hw197 : k0_chk197 v1592), ∀ a, (k0_off829 v1592) a + S1x16.size a ≤ S704x64.size a := fun v1592 k0_hw197 => k0_hw197.2.2.1
theorem k0_off830_inb : ∀ (v1592 : BitVec 32) (k0_hw197 : k0_chk197 v1592), ∀ a, (k0_off830 v1592) a + S1x16.size a ≤ S704x64.size a := fun v1592 k0_hw197 => k0_hw197.2.2.2

def k0_off831 (v1613 : BitVec 32) : Fin 2 → Nat :=
  let v1614 : Index := Scalar.indexCast v1613
  let c0_425 : Index := 0#32
  ![v1614.toNat, 0]

def k0_off832 (v1613 : BitVec 32) : Fin 2 → Nat :=
  let v1618 : Index := Scalar.indexCast v1613
  let c16_426 : Index := 16#32
  ![v1618.toNat, 16]
def k0_off833 (v1613 : BitVec 32) : Fin 2 → Nat :=
  let v1622 : Index := Scalar.indexCast v1613
  let c32_427 : Index := 32#32
  ![v1622.toNat, 32]
def k0_off834 (v1613 : BitVec 32) : Fin 2 → Nat :=
  let v1626 : Index := Scalar.indexCast v1613
  let c48_428 : Index := 48#32
  ![v1626.toNat, 48]

def k0_chk198 (v1613 : BitVec 32) : Prop :=
  (∀ a, (k0_off831 v1613) a + S1x16.size a ≤ S704x64.size a) ∧
  (∀ a, (k0_off832 v1613) a + S1x16.size a ≤ S704x64.size a) ∧
  (∀ a, (k0_off833 v1613) a + S1x16.size a ≤ S704x64.size a) ∧
  (∀ a, (k0_off834 v1613) a + S1x16.size a ≤ S704x64.size a)
theorem k0_off831_inb : ∀ (v1613 : BitVec 32) (k0_hw198 : k0_chk198 v1613), ∀ a, (k0_off831 v1613) a + S1x16.size a ≤ S704x64.size a := fun v1613 k0_hw198 => k0_hw198.1
theorem k0_off832_inb : ∀ (v1613 : BitVec 32) (k0_hw198 : k0_chk198 v1613), ∀ a, (k0_off832 v1613) a + S1x16.size a ≤ S704x64.size a := fun v1613 k0_hw198 => k0_hw198.2.1
theorem k0_off833_inb : ∀ (v1613 : BitVec 32) (k0_hw198 : k0_chk198 v1613), ∀ a, (k0_off833 v1613) a + S1x16.size a ≤ S704x64.size a := fun v1613 k0_hw198 => k0_hw198.2.2.1
theorem k0_off834_inb : ∀ (v1613 : BitVec 32) (k0_hw198 : k0_chk198 v1613), ∀ a, (k0_off834 v1613) a + S1x16.size a ≤ S704x64.size a := fun v1613 k0_hw198 => k0_hw198.2.2.2

def k0_off835 (k0_t3 : Fin k0_t3_loop.trips) : Fin 2 → Nat :=
  let c2_i32_144 : BitVec 32 := 2#32
  let c0_i32_60 : BitVec 32 := 0#32
  let c1_i32_62 : BitVec 32 := 1#32
  let arg13 : BitVec 32 := Scf.iv c0_i32_60 c1_i32_62 k0_t3
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off836 (k0_t3 : Fin k0_t3_loop.trips) : Fin 2 → Nat :=
  let c2_i32_144 : BitVec 32 := 2#32
  let c0_i32_60 : BitVec 32 := 0#32
  let c1_i32_62 : BitVec 32 := 1#32
  let arg13 : BitVec 32 := Scf.iv c0_i32_60 c1_i32_62 k0_t3
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off837 (k0_t3 : Fin k0_t3_loop.trips) : Fin 2 → Nat :=
  let c2_i32_144 : BitVec 32 := 2#32
  let c0_i32_60 : BitVec 32 := 0#32
  let c1_i32_62 : BitVec 32 := 1#32
  let arg13 : BitVec 32 := Scf.iv c0_i32_60 c1_i32_62 k0_t3
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off838 (k0_t3 : Fin k0_t3_loop.trips) : Fin 2 → Nat :=
  let c2_i32_144 : BitVec 32 := 2#32
  let c0_i32_60 : BitVec 32 := 0#32
  let c1_i32_62 : BitVec 32 := 1#32
  let arg13 : BitVec 32 := Scf.iv c0_i32_60 c1_i32_62 k0_t3
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_65 : BitVec 32 := 8#32
  let v100 : BitVec 32 := Scalar.muli v28 c8_i32_65
  let c3_i32_66 : BitVec 32 := 3#32
  let v101 : BitVec 32 := Scalar.addi v100 c3_i32_66
  let c128_i32_67 : BitVec 32 := 128#32
  let v102 : BitVec 32 := Scalar.muli v101 c128_i32_67
  v102
def k0_mult9 (i : grid0.Coords) : BitVec 32 :=
  let c1344_i32_74 : BitVec 32 := 1344#32
  let c0_i32_73 : BitVec 32 := 0#32
  let c0_i32_71 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_69 : BitVec 32 := 8#32
  let v107 : BitVec 32 := Scalar.muli v28 c8_i32_69
  let c4_i32 : BitVec 32 := 4#32
  let v108 : BitVec 32 := Scalar.addi v107 c4_i32
  let c128_i32_70 : BitVec 32 := 128#32
  let v109 : BitVec 32 := Scalar.muli v108 c128_i32_70
  let v110 : BitVec 32 := Scalar.addi c0_i32_71 v109
  let c288_i32_72 : BitVec 32 := 288#32
  let v111 : BitVec 32 := Scalar.subi v110 c288_i32_72
  let v112 : BitVec 32 := Scalar.maxsi c0_i32_73 v111
  let v113 : BitVec 32 := Scalar.minsi c1344_i32_74 v112
  v113
@[reducible] def k0_t4_loop : Scf.Loop 32 :=
  let c0_i32_77 : BitVec 32 := 0#32
  let c64_i32_78 : BitVec 32 := 64#32
  let v118 : BitVec 32 := Scalar.addi c0_i32_77 c64_i32_78
  let c1_i32_79 : BitVec 32 := 1#32
  ⟨c0_i32_77, v118, c1_i32_79⟩
def k0_off839 (k0_t4 : Fin k0_t4_loop.trips) : Fin 2 → Nat :=
  let c2_i32_143 : BitVec 32 := 2#32
  let c0_i32_77 : BitVec 32 := 0#32
  let c1_i32_79 : BitVec 32 := 1#32
  let arg13 : BitVec 32 := Scf.iv c0_i32_77 c1_i32_79 k0_t4
  let v189 : BitVec 32 := Scalar.muli c2_i32_143 arg13
  let v192 : Index := Scalar.indexCast v189
  let c0 : Index := 0#32
  ![v192.toNat, 0]
def k0_off840 (k0_t4 : Fin k0_t4_loop.trips) : Fin 2 → Nat :=
  let c2_i32_143 : BitVec 32 := 2#32
  let c0_i32_77 : BitVec 32 := 0#32
  let c1_i32_79 : BitVec 32 := 1#32
  let arg13 : BitVec 32 := Scf.iv c0_i32_77 c1_i32_79 k0_t4
  let v189 : BitVec 32 := Scalar.muli c2_i32_143 arg13
  let v194 : Index := Scalar.indexCast v189
  let c16 : Index := 16#32
  ![v194.toNat, 16]
def k0_off841 (k0_t4 : Fin k0_t4_loop.trips) : Fin 2 → Nat :=
  let c2_i32_143 : BitVec 32 := 2#32
  let c0_i32_77 : BitVec 32 := 0#32
  let c1_i32_79 : BitVec 32 := 1#32
  let arg13 : BitVec 32 := Scf.iv c0_i32_77 c1_i32_79 k0_t4
  let v189 : BitVec 32 := Scalar.muli c2_i32_143 arg13
  let v196 : Index := Scalar.indexCast v189
  let c32 : Index := 32#32
  ![v196.toNat, 32]
def k0_off842 (v218 : BitVec 32) : Fin 2 → Nat :=
  let v219 : Index := Scalar.indexCast v218
  let c0_152 : Index := 0#32
  ![v219.toNat, 0]

def k0_off843 (v218 : BitVec 32) : Fin 2 → Nat :=
  let v223 : Index := Scalar.indexCast v218
  let c16_153 : Index := 16#32
  ![v223.toNat, 16]
def k0_off844 (v218 : BitVec 32) : Fin 2 → Nat :=
  let v227 : Index := Scalar.indexCast v218
  let c32_154 : Index := 32#32
  ![v227.toNat, 32]
def k0_off845 (v218 : BitVec 32) : Fin 2 → Nat :=
  let v231 : Index := Scalar.indexCast v218
  let c48 : Index := 48#32
  ![v231.toNat, 48]

def k0_chk199 (v218 : BitVec 32) : Prop :=
  (∀ a, (k0_off842 v218) a + S1x16.size a ≤ S704x64.size a) ∧
  (∀ a, (k0_off843 v218) a + S1x16.size a ≤ S704x64.size a) ∧
  (∀ a, (k0_off844 v218) a + S1x16.size a ≤ S704x64.size a) ∧
  (∀ a, (k0_off845 v218) a + S1x16.size a ≤ S704x64.size a)
theorem k0_off842_inb : ∀ (v218 : BitVec 32) (k0_hw199 : k0_chk199 v218), ∀ a, (k0_off842 v218) a + S1x16.size a ≤ S704x64.size a := fun v218 k0_hw199 => k0_hw199.1
theorem k0_off843_inb : ∀ (v218 : BitVec 32) (k0_hw199 : k0_chk199 v218), ∀ a, (k0_off843 v218) a + S1x16.size a ≤ S704x64.size a := fun v218 k0_hw199 => k0_hw199.2.1
theorem k0_off844_inb : ∀ (v218 : BitVec 32) (k0_hw199 : k0_chk199 v218), ∀ a, (k0_off844 v218) a + S1x16.size a ≤ S704x64.size a := fun v218 k0_hw199 => k0_hw199.2.2.1
theorem k0_off845_inb : ∀ (v218 : BitVec 32) (k0_hw199 : k0_chk199 v218), ∀ a, (k0_off845 v218) a + S1x16.size a ≤ S704x64.size a := fun v218 k0_hw199 => k0_hw199.2.2.2

def k0_off846 (v239 : BitVec 32) : Fin 2 → Nat :=
  let v240 : Index := Scalar.indexCast v239
  let c0_155 : Index := 0#32
  ![v240.toNat, 0]

def k0_off847 (v239 : BitVec 32) : Fin 2 → Nat :=
  let v244 : Index := Scalar.indexCast v239
  let c16_156 : Index := 16#32
  ![v244.toNat, 16]
def k0_off848 (v239 : BitVec 32) : Fin 2 → Nat :=
  let v248 : Index := Scalar.indexCast v239
  let c32_157 : Index := 32#32
  ![v248.toNat, 32]
def k0_off849 (v239 : BitVec 32) : Fin 2 → Nat :=
  let v252 : Index := Scalar.indexCast v239
  let c48_158 : Index := 48#32
  ![v252.toNat, 48]

def k0_chk200 (v239 : BitVec 32) : Prop :=
  (∀ a, (k0_off846 v239) a + S1x16.size a ≤ S704x64.size a) ∧
  (∀ a, (k0_off847 v239) a + S1x16.size a ≤ S704x64.size a) ∧
  (∀ a, (k0_off848 v239) a + S1x16.size a ≤ S704x64.size a) ∧
  (∀ a, (k0_off849 v239) a + S1x16.size a ≤ S704x64.size a)
theorem k0_off846_inb : ∀ (v239 : BitVec 32) (k0_hw200 : k0_chk200 v239), ∀ a, (k0_off846 v239) a + S1x16.size a ≤ S704x64.size a := fun v239 k0_hw200 => k0_hw200.1
theorem k0_off847_inb : ∀ (v239 : BitVec 32) (k0_hw200 : k0_chk200 v239), ∀ a, (k0_off847 v239) a + S1x16.size a ≤ S704x64.size a := fun v239 k0_hw200 => k0_hw200.2.1
theorem k0_off848_inb : ∀ (v239 : BitVec 32) (k0_hw200 : k0_chk200 v239), ∀ a, (k0_off848 v239) a + S1x16.size a ≤ S704x64.size a := fun v239 k0_hw200 => k0_hw200.2.2.1
theorem k0_off849_inb : ∀ (v239 : BitVec 32) (k0_hw200 : k0_chk200 v239), ∀ a, (k0_off849 v239) a + S1x16.size a ≤ S704x64.size a := fun v239 k0_hw200 => k0_hw200.2.2.2

def k0_off850 (v260 : BitVec 32) : Fin 2 → Nat :=
  let v261 : Index := Scalar.indexCast v260
  let c0_159 : Index := 0#32
  ![v261.toNat, 0]

def k0_off851 (v260 : BitVec 32) : Fin 2 → Nat :=
  let v265 : Index := Scalar.indexCast v260
  let c16_160 : Index := 16#32
  ![v265.toNat, 16]
def k0_off852 (v260 : BitVec 32) : Fin 2 → Nat :=
  let v269 : Index := Scalar.indexCast v260
  let c32_161 : Index := 32#32
  ![v269.toNat, 32]
def k0_off853 (v260 : BitVec 32) : Fin 2 → Nat :=
  let v273 : Index := Scalar.indexCast v260
  let c48_162 : Index := 48#32
  ![v273.toNat, 48]

def k0_chk201 (v260 : BitVec 32) : Prop :=
  (∀ a, (k0_off850 v260) a + S1x16.size a ≤ S704x64.size a) ∧
  (∀ a, (k0_off851 v260) a + S1x16.size a ≤ S704x64.size a) ∧
  (∀ a, (k0_off852 v260) a + S1x16.size a ≤ S704x64.size a) ∧
  (∀ a, (k0_off853 v260) a + S1x16.size a ≤ S704x64.size a)
theorem k0_off850_inb : ∀ (v260 : BitVec 32) (k0_hw201 : k0_chk201 v260), ∀ a, (k0_off850 v260) a + S1x16.size a ≤ S704x64.size a := fun v260 k0_hw201 => k0_hw201.1
theorem k0_off851_inb : ∀ (v260 : BitVec 32) (k0_hw201 : k0_chk201 v260), ∀ a, (k0_off851 v260) a + S1x16.size a ≤ S704x64.size a := fun v260 k0_hw201 => k0_hw201.2.1
theorem k0_off852_inb : ∀ (v260 : BitVec 32) (k0_hw201 : k0_chk201 v260), ∀ a, (k0_off852 v260) a + S1x16.size a ≤ S704x64.size a := fun v260 k0_hw201 => k0_hw201.2.2.1
theorem k0_off853_inb : ∀ (v260 : BitVec 32) (k0_hw201 : k0_chk201 v260), ∀ a, (k0_off853 v260) a + S1x16.size a ≤ S704x64.size a := fun v260 k0_hw201 => k0_hw201.2.2.2

def k0_off854 (v281 : BitVec 32) : Fin 2 → Nat :=
  let v282 : Index := Scalar.indexCast v281
  let c0_163 : Index := 0#32
  ![v282.toNat, 0]

def k0_off855 (v281 : BitVec 32) : Fin 2 → Nat :=
  let v286 : Index := Scalar.indexCast v281
  let c16_164 : Index := 16#32
  ![v286.toNat, 16]
def k0_off856 (v281 : BitVec 32) : Fin 2 → Nat :=
  let v290 : Index := Scalar.indexCast v281
  let c32_165 : Index := 32#32
  ![v290.toNat, 32]
def k0_off857 (v281 : BitVec 32) : Fin 2 → Nat :=
  let v294 : Index := Scalar.indexCast v281
  let c48_166 : Index := 48#32
  ![v294.toNat, 48]

def k0_chk202 (v281 : BitVec 32) : Prop :=
  (∀ a, (k0_off854 v281) a + S1x16.size a ≤ S704x64.size a) ∧
  (∀ a, (k0_off855 v281) a + S1x16.size a ≤ S704x64.size a) ∧
  (∀ a, (k0_off856 v281) a + S1x16.size a ≤ S704x64.size a) ∧
  (∀ a, (k0_off857 v281) a + S1x16.size a ≤ S704x64.size a)
theorem k0_off854_inb : ∀ (v281 : BitVec 32) (k0_hw202 : k0_chk202 v281), ∀ a, (k0_off854 v281) a + S1x16.size a ≤ S704x64.size a := fun v281 k0_hw202 => k0_hw202.1
theorem k0_off855_inb : ∀ (v281 : BitVec 32) (k0_hw202 : k0_chk202 v281), ∀ a, (k0_off855 v281) a + S1x16.size a ≤ S704x64.size a := fun v281 k0_hw202 => k0_hw202.2.1
theorem k0_off856_inb : ∀ (v281 : BitVec 32) (k0_hw202 : k0_chk202 v281), ∀ a, (k0_off856 v281) a + S1x16.size a ≤ S704x64.size a := fun v281 k0_hw202 => k0_hw202.2.2.1
theorem k0_off857_inb : ∀ (v281 : BitVec 32) (k0_hw202 : k0_chk202 v281), ∀ a, (k0_off857 v281) a + S1x16.size a ≤ S704x64.size a := fun v281 k0_hw202 => k0_hw202.2.2.2

def k0_off858 (v302 : BitVec 32) : Fin 2 → Nat :=
  let v303 : Index := Scalar.indexCast v302
  let c0_167 : Index := 0#32
  ![v303.toNat, 0]

def k0_off859 (v302 : BitVec 32) : Fin 2 → Nat :=
  let v307 : Index := Scalar.indexCast v302
  let c16_168 : Index := 16#32
  ![v307.toNat, 16]
def k0_off860 (v302 : BitVec 32) : Fin 2 → Nat :=
  let v311 : Index := Scalar.indexCast v302
  let c32_169 : Index := 32#32
  ![v311.toNat, 32]
def k0_off861 (v302 : BitVec 32) : Fin 2 → Nat :=
  let v315 : Index := Scalar.indexCast v302
  let c48_170 : Index := 48#32
  ![v315.toNat, 48]

def k0_chk203 (v302 : BitVec 32) : Prop :=
  (∀ a, (k0_off858 v302) a + S1x16.size a ≤ S704x64.size a) ∧
  (∀ a, (k0_off859 v302) a + S1x16.size a ≤ S704x64.size a) ∧
  (∀ a, (k0_off860 v302) a + S1x16.size a ≤ S704x64.size a) ∧
  (∀ a, (k0_off861 v302) a + S1x16.size a ≤ S704x64.size a)
theorem k0_off858_inb : ∀ (v302 : BitVec 32) (k0_hw203 : k0_chk203 v302), ∀ a, (k0_off858 v302) a + S1x16.size a ≤ S704x64.size a := fun v302 k0_hw203 => k0_hw203.1
theorem k0_off859_inb : ∀ (v302 : BitVec 32) (k0_hw203 : k0_chk203 v302), ∀ a, (k0_off859 v302) a + S1x16.size a ≤ S704x64.size a := fun v302 k0_hw203 => k0_hw203.2.1
theorem k0_off860_inb : ∀ (v302 : BitVec 32) (k0_hw203 : k0_chk203 v302), ∀ a, (k0_off860 v302) a + S1x16.size a ≤ S704x64.size a := fun v302 k0_hw203 => k0_hw203.2.2.1
theorem k0_off861_inb : ∀ (v302 : BitVec 32) (k0_hw203 : k0_chk203 v302), ∀ a, (k0_off861 v302) a + S1x16.size a ≤ S704x64.size a := fun v302 k0_hw203 => k0_hw203.2.2.2

def k0_off862 (v323 : BitVec 32) : Fin 2 → Nat :=
  let v324 : Index := Scalar.indexCast v323
  let c0_171 : Index := 0#32
  ![v324.toNat, 0]

def k0_off863 (v323 : BitVec 32) : Fin 2 → Nat :=
  let v328 : Index := Scalar.indexCast v323
  let c16_172 : Index := 16#32
  ![v328.toNat, 16]
def k0_off864 (v323 : BitVec 32) : Fin 2 → Nat :=
  let v332 : Index := Scalar.indexCast v323
  let c32_173 : Index := 32#32
  ![v332.toNat, 32]
def k0_off865 (v323 : BitVec 32) : Fin 2 → Nat :=
  let v336 : Index := Scalar.indexCast v323
  let c48_174 : Index := 48#32
  ![v336.toNat, 48]

def k0_chk204 (v323 : BitVec 32) : Prop :=
  (∀ a, (k0_off862 v323) a + S1x16.size a ≤ S704x64.size a) ∧
  (∀ a, (k0_off863 v323) a + S1x16.size a ≤ S704x64.size a) ∧
  (∀ a, (k0_off864 v323) a + S1x16.size a ≤ S704x64.size a) ∧
  (∀ a, (k0_off865 v323) a + S1x16.size a ≤ S704x64.size a)
theorem k0_off862_inb : ∀ (v323 : BitVec 32) (k0_hw204 : k0_chk204 v323), ∀ a, (k0_off862 v323) a + S1x16.size a ≤ S704x64.size a := fun v323 k0_hw204 => k0_hw204.1
theorem k0_off863_inb : ∀ (v323 : BitVec 32) (k0_hw204 : k0_chk204 v323), ∀ a, (k0_off863 v323) a + S1x16.size a ≤ S704x64.size a := fun v323 k0_hw204 => k0_hw204.2.1
theorem k0_off864_inb : ∀ (v323 : BitVec 32) (k0_hw204 : k0_chk204 v323), ∀ a, (k0_off864 v323) a + S1x16.size a ≤ S704x64.size a := fun v323 k0_hw204 => k0_hw204.2.2.1
theorem k0_off865_inb : ∀ (v323 : BitVec 32) (k0_hw204 : k0_chk204 v323), ∀ a, (k0_off865 v323) a + S1x16.size a ≤ S704x64.size a := fun v323 k0_hw204 => k0_hw204.2.2.2

def k0_off866 (v344 : BitVec 32) : Fin 2 → Nat :=
  let v345 : Index := Scalar.indexCast v344
  let c0_175 : Index := 0#32
  ![v345.toNat, 0]

def k0_off867 (v344 : BitVec 32) : Fin 2 → Nat :=
  let v349 : Index := Scalar.indexCast v344
  let c16_176 : Index := 16#32
  ![v349.toNat, 16]
def k0_off868 (v344 : BitVec 32) : Fin 2 → Nat :=
  let v353 : Index := Scalar.indexCast v344
  let c32_177 : Index := 32#32
  ![v353.toNat, 32]
def k0_off869 (v344 : BitVec 32) : Fin 2 → Nat :=
  let v357 : Index := Scalar.indexCast v344
  let c48_178 : Index := 48#32
  ![v357.toNat, 48]

def k0_chk205 (v344 : BitVec 32) : Prop :=
  (∀ a, (k0_off866 v344) a + S1x16.size a ≤ S704x64.size a) ∧
  (∀ a, (k0_off867 v344) a + S1x16.size a ≤ S704x64.size a) ∧
  (∀ a, (k0_off868 v344) a + S1x16.size a ≤ S704x64.size a) ∧
  (∀ a, (k0_off869 v344) a + S1x16.size a ≤ S704x64.size a)
theorem k0_off866_inb : ∀ (v344 : BitVec 32) (k0_hw205 : k0_chk205 v344), ∀ a, (k0_off866 v344) a + S1x16.size a ≤ S704x64.size a := fun v344 k0_hw205 => k0_hw205.1
theorem k0_off867_inb : ∀ (v344 : BitVec 32) (k0_hw205 : k0_chk205 v344), ∀ a, (k0_off867 v344) a + S1x16.size a ≤ S704x64.size a := fun v344 k0_hw205 => k0_hw205.2.1
theorem k0_off868_inb : ∀ (v344 : BitVec 32) (k0_hw205 : k0_chk205 v344), ∀ a, (k0_off868 v344) a + S1x16.size a ≤ S704x64.size a := fun v344 k0_hw205 => k0_hw205.2.2.1
theorem k0_off869_inb : ∀ (v344 : BitVec 32) (k0_hw205 : k0_chk205 v344), ∀ a, (k0_off869 v344) a + S1x16.size a ≤ S704x64.size a := fun v344 k0_hw205 => k0_hw205.2.2.2

def k0_off870 (v365 : BitVec 32) : Fin 2 → Nat :=
  let v366 : Index := Scalar.indexCast v365
  let c0_179 : Index := 0#32
  ![v366.toNat, 0]

def k0_off871 (v365 : BitVec 32) : Fin 2 → Nat :=
  let v370 : Index := Scalar.indexCast v365
  let c16_180 : Index := 16#32
  ![v370.toNat, 16]
def k0_off872 (v365 : BitVec 32) : Fin 2 → Nat :=
  let v374 : Index := Scalar.indexCast v365
  let c32_181 : Index := 32#32
  ![v374.toNat, 32]
def k0_off873 (v365 : BitVec 32) : Fin 2 → Nat :=
  let v378 : Index := Scalar.indexCast v365
  let c48_182 : Index := 48#32
  ![v378.toNat, 48]

def k0_chk206 (v365 : BitVec 32) : Prop :=
  (∀ a, (k0_off870 v365) a + S1x16.size a ≤ S704x64.size a) ∧
  (∀ a, (k0_off871 v365) a + S1x16.size a ≤ S704x64.size a) ∧
  (∀ a, (k0_off872 v365) a + S1x16.size a ≤ S704x64.size a) ∧
  (∀ a, (k0_off873 v365) a + S1x16.size a ≤ S704x64.size a)
theorem k0_off870_inb : ∀ (v365 : BitVec 32) (k0_hw206 : k0_chk206 v365), ∀ a, (k0_off870 v365) a + S1x16.size a ≤ S704x64.size a := fun v365 k0_hw206 => k0_hw206.1
theorem k0_off871_inb : ∀ (v365 : BitVec 32) (k0_hw206 : k0_chk206 v365), ∀ a, (k0_off871 v365) a + S1x16.size a ≤ S704x64.size a := fun v365 k0_hw206 => k0_hw206.2.1
theorem k0_off872_inb : ∀ (v365 : BitVec 32) (k0_hw206 : k0_chk206 v365), ∀ a, (k0_off872 v365) a + S1x16.size a ≤ S704x64.size a := fun v365 k0_hw206 => k0_hw206.2.2.1
theorem k0_off873_inb : ∀ (v365 : BitVec 32) (k0_hw206 : k0_chk206 v365), ∀ a, (k0_off873 v365) a + S1x16.size a ≤ S704x64.size a := fun v365 k0_hw206 => k0_hw206.2.2.2

def k0_off874 (v386 : BitVec 32) : Fin 2 → Nat :=
  let v387 : Index := Scalar.indexCast v386
  let c0_183 : Index := 0#32
  ![v387.toNat, 0]

def k0_off875 (v386 : BitVec 32) : Fin 2 → Nat :=
  let v391 : Index := Scalar.indexCast v386
  let c16_184 : Index := 16#32
  ![v391.toNat, 16]
def k0_off876 (v386 : BitVec 32) : Fin 2 → Nat :=
  let v395 : Index := Scalar.indexCast v386
  let c32_185 : Index := 32#32
  ![v395.toNat, 32]
def k0_off877 (v386 : BitVec 32) : Fin 2 → Nat :=
  let v399 : Index := Scalar.indexCast v386
  let c48_186 : Index := 48#32
  ![v399.toNat, 48]

def k0_chk207 (v386 : BitVec 32) : Prop :=
  (∀ a, (k0_off874 v386) a + S1x16.size a ≤ S704x64.size a) ∧
  (∀ a, (k0_off875 v386) a + S1x16.size a ≤ S704x64.size a) ∧
  (∀ a, (k0_off876 v386) a + S1x16.size a ≤ S704x64.size a) ∧
  (∀ a, (k0_off877 v386) a + S1x16.size a ≤ S704x64.size a)
theorem k0_off874_inb : ∀ (v386 : BitVec 32) (k0_hw207 : k0_chk207 v386), ∀ a, (k0_off874 v386) a + S1x16.size a ≤ S704x64.size a := fun v386 k0_hw207 => k0_hw207.1
theorem k0_off875_inb : ∀ (v386 : BitVec 32) (k0_hw207 : k0_chk207 v386), ∀ a, (k0_off875 v386) a + S1x16.size a ≤ S704x64.size a := fun v386 k0_hw207 => k0_hw207.2.1
theorem k0_off876_inb : ∀ (v386 : BitVec 32) (k0_hw207 : k0_chk207 v386), ∀ a, (k0_off876 v386) a + S1x16.size a ≤ S704x64.size a := fun v386 k0_hw207 => k0_hw207.2.2.1
theorem k0_off877_inb : ∀ (v386 : BitVec 32) (k0_hw207 : k0_chk207 v386), ∀ a, (k0_off877 v386) a + S1x16.size a ≤ S704x64.size a := fun v386 k0_hw207 => k0_hw207.2.2.2

def k0_off878 (v407 : BitVec 32) : Fin 2 → Nat :=
  let v408 : Index := Scalar.indexCast v407
  let c0_187 : Index := 0#32
  ![v408.toNat, 0]

def k0_off879 (v407 : BitVec 32) : Fin 2 → Nat :=
  let v412 : Index := Scalar.indexCast v407
  let c16_188 : Index := 16#32
  ![v412.toNat, 16]
def k0_off880 (v407 : BitVec 32) : Fin 2 → Nat :=
  let v416 : Index := Scalar.indexCast v407
  let c32_189 : Index := 32#32
  ![v416.toNat, 32]
def k0_off881 (v407 : BitVec 32) : Fin 2 → Nat :=
  let v420 : Index := Scalar.indexCast v407
  let c48_190 : Index := 48#32
  ![v420.toNat, 48]

def k0_chk208 (v407 : BitVec 32) : Prop :=
  (∀ a, (k0_off878 v407) a + S1x16.size a ≤ S704x64.size a) ∧
  (∀ a, (k0_off879 v407) a + S1x16.size a ≤ S704x64.size a) ∧
  (∀ a, (k0_off880 v407) a + S1x16.size a ≤ S704x64.size a) ∧
  (∀ a, (k0_off881 v407) a + S1x16.size a ≤ S704x64.size a)
theorem k0_off878_inb : ∀ (v407 : BitVec 32) (k0_hw208 : k0_chk208 v407), ∀ a, (k0_off878 v407) a + S1x16.size a ≤ S704x64.size a := fun v407 k0_hw208 => k0_hw208.1
theorem k0_off879_inb : ∀ (v407 : BitVec 32) (k0_hw208 : k0_chk208 v407), ∀ a, (k0_off879 v407) a + S1x16.size a ≤ S704x64.size a := fun v407 k0_hw208 => k0_hw208.2.1
theorem k0_off880_inb : ∀ (v407 : BitVec 32) (k0_hw208 : k0_chk208 v407), ∀ a, (k0_off880 v407) a + S1x16.size a ≤ S704x64.size a := fun v407 k0_hw208 => k0_hw208.2.2.1
theorem k0_off881_inb : ∀ (v407 : BitVec 32) (k0_hw208 : k0_chk208 v407), ∀ a, (k0_off881 v407) a + S1x16.size a ≤ S704x64.size a := fun v407 k0_hw208 => k0_hw208.2.2.2

def k0_off882 (v428 : BitVec 32) : Fin 2 → Nat :=
  let v429 : Index := Scalar.indexCast v428
  let c0_191 : Index := 0#32
  ![v429.toNat, 0]

def k0_off883 (v428 : BitVec 32) : Fin 2 → Nat :=
  let v433 : Index := Scalar.indexCast v428
  let c16_192 : Index := 16#32
  ![v433.toNat, 16]
def k0_off884 (v428 : BitVec 32) : Fin 2 → Nat :=
  let v437 : Index := Scalar.indexCast v428
  let c32_193 : Index := 32#32
  ![v437.toNat, 32]
def k0_off885 (v428 : BitVec 32) : Fin 2 → Nat :=
  let v441 : Index := Scalar.indexCast v428
  let c48_194 : Index := 48#32
  ![v441.toNat, 48]

def k0_chk209 (v428 : BitVec 32) : Prop :=
  (∀ a, (k0_off882 v428) a + S1x16.size a ≤ S704x64.size a) ∧
  (∀ a, (k0_off883 v428) a + S1x16.size a ≤ S704x64.size a) ∧
  (∀ a, (k0_off884 v428) a + S1x16.size a ≤ S704x64.size a) ∧
  (∀ a, (k0_off885 v428) a + S1x16.size a ≤ S704x64.size a)
theorem k0_off882_inb : ∀ (v428 : BitVec 32) (k0_hw209 : k0_chk209 v428), ∀ a, (k0_off882 v428) a + S1x16.size a ≤ S704x64.size a := fun v428 k0_hw209 => k0_hw209.1
theorem k0_off883_inb : ∀ (v428 : BitVec 32) (k0_hw209 : k0_chk209 v428), ∀ a, (k0_off883 v428) a + S1x16.size a ≤ S704x64.size a := fun v428 k0_hw209 => k0_hw209.2.1
theorem k0_off884_inb : ∀ (v428 : BitVec 32) (k0_hw209 : k0_chk209 v428), ∀ a, (k0_off884 v428) a + S1x16.size a ≤ S704x64.size a := fun v428 k0_hw209 => k0_hw209.2.2.1
theorem k0_off885_inb : ∀ (v428 : BitVec 32) (k0_hw209 : k0_chk209 v428), ∀ a, (k0_off885 v428) a + S1x16.size a ≤ S704x64.size a := fun v428 k0_hw209 => k0_hw209.2.2.2

def k0_off886 (v449 : BitVec 32) : Fin 2 → Nat :=
  let v450 : Index := Scalar.indexCast v449
  let c0_195 : Index := 0#32
  ![v450.toNat, 0]

def k0_off887 (v449 : BitVec 32) : Fin 2 → Nat :=
  let v454 : Index := Scalar.indexCast v449
  let c16_196 : Index := 16#32
  ![v454.toNat, 16]
def k0_off888 (v449 : BitVec 32) : Fin 2 → Nat :=
  let v458 : Index := Scalar.indexCast v449
  let c32_197 : Index := 32#32
  ![v458.toNat, 32]
def k0_off889 (v449 : BitVec 32) : Fin 2 → Nat :=
  let v462 : Index := Scalar.indexCast v449
  let c48_198 : Index := 48#32
  ![v462.toNat, 48]

def k0_chk210 (v449 : BitVec 32) : Prop :=
  (∀ a, (k0_off886 v449) a + S1x16.size a ≤ S704x64.size a) ∧
  (∀ a, (k0_off887 v449) a + S1x16.size a ≤ S704x64.size a) ∧
  (∀ a, (k0_off888 v449) a + S1x16.size a ≤ S704x64.size a) ∧
  (∀ a, (k0_off889 v449) a + S1x16.size a ≤ S704x64.size a)
theorem k0_off886_inb : ∀ (v449 : BitVec 32) (k0_hw210 : k0_chk210 v449), ∀ a, (k0_off886 v449) a + S1x16.size a ≤ S704x64.size a := fun v449 k0_hw210 => k0_hw210.1
theorem k0_off887_inb : ∀ (v449 : BitVec 32) (k0_hw210 : k0_chk210 v449), ∀ a, (k0_off887 v449) a + S1x16.size a ≤ S704x64.size a := fun v449 k0_hw210 => k0_hw210.2.1
theorem k0_off888_inb : ∀ (v449 : BitVec 32) (k0_hw210 : k0_chk210 v449), ∀ a, (k0_off888 v449) a + S1x16.size a ≤ S704x64.size a := fun v449 k0_hw210 => k0_hw210.2.2.1
theorem k0_off889_inb : ∀ (v449 : BitVec 32) (k0_hw210 : k0_chk210 v449), ∀ a, (k0_off889 v449) a + S1x16.size a ≤ S704x64.size a := fun v449 k0_hw210 => k0_hw210.2.2.2

def k0_off890 (v470 : BitVec 32) : Fin 2 → Nat :=
  let v471 : Index := Scalar.indexCast v470
  let c0_199 : Index := 0#32
  ![v471.toNat, 0]

def k0_off891 (v470 : BitVec 32) : Fin 2 → Nat :=
  let v475 : Index := Scalar.indexCast v470
  let c16_200 : Index := 16#32
  ![v475.toNat, 16]
def k0_off892 (v470 : BitVec 32) : Fin 2 → Nat :=
  let v479 : Index := Scalar.indexCast v470
  let c32_201 : Index := 32#32
  ![v479.toNat, 32]
def k0_off893 (v470 : BitVec 32) : Fin 2 → Nat :=
  let v483 : Index := Scalar.indexCast v470
  let c48_202 : Index := 48#32
  ![v483.toNat, 48]

def k0_chk211 (v470 : BitVec 32) : Prop :=
  (∀ a, (k0_off890 v470) a + S1x16.size a ≤ S704x64.size a) ∧
  (∀ a, (k0_off891 v470) a + S1x16.size a ≤ S704x64.size a) ∧
  (∀ a, (k0_off892 v470) a + S1x16.size a ≤ S704x64.size a) ∧
  (∀ a, (k0_off893 v470) a + S1x16.size a ≤ S704x64.size a)
theorem k0_off890_inb : ∀ (v470 : BitVec 32) (k0_hw211 : k0_chk211 v470), ∀ a, (k0_off890 v470) a + S1x16.size a ≤ S704x64.size a := fun v470 k0_hw211 => k0_hw211.1
theorem k0_off891_inb : ∀ (v470 : BitVec 32) (k0_hw211 : k0_chk211 v470), ∀ a, (k0_off891 v470) a + S1x16.size a ≤ S704x64.size a := fun v470 k0_hw211 => k0_hw211.2.1
theorem k0_off892_inb : ∀ (v470 : BitVec 32) (k0_hw211 : k0_chk211 v470), ∀ a, (k0_off892 v470) a + S1x16.size a ≤ S704x64.size a := fun v470 k0_hw211 => k0_hw211.2.2.1
theorem k0_off893_inb : ∀ (v470 : BitVec 32) (k0_hw211 : k0_chk211 v470), ∀ a, (k0_off893 v470) a + S1x16.size a ≤ S704x64.size a := fun v470 k0_hw211 => k0_hw211.2.2.2

def k0_off894 (v491 : BitVec 32) : Fin 2 → Nat :=
  let v492 : Index := Scalar.indexCast v491
  let c0_203 : Index := 0#32
  ![v492.toNat, 0]

def k0_off895 (v491 : BitVec 32) : Fin 2 → Nat :=
  let v496 : Index := Scalar.indexCast v491
  let c16_204 : Index := 16#32
  ![v496.toNat, 16]
def k0_off896 (v491 : BitVec 32) : Fin 2 → Nat :=
  let v500 : Index := Scalar.indexCast v491
  let c32_205 : Index := 32#32
  ![v500.toNat, 32]
def k0_off897 (v491 : BitVec 32) : Fin 2 → Nat :=
  let v504 : Index := Scalar.indexCast v491
  let c48_206 : Index := 48#32
  ![v504.toNat, 48]

def k0_chk212 (v491 : BitVec 32) : Prop :=
  (∀ a, (k0_off894 v491) a + S1x16.size a ≤ S704x64.size a) ∧
  (∀ a, (k0_off895 v491) a + S1x16.size a ≤ S704x64.size a) ∧
  (∀ a, (k0_off896 v491) a + S1x16.size a ≤ S704x64.size a) ∧
  (∀ a, (k0_off897 v491) a + S1x16.size a ≤ S704x64.size a)
theorem k0_off894_inb : ∀ (v491 : BitVec 32) (k0_hw212 : k0_chk212 v491), ∀ a, (k0_off894 v491) a + S1x16.size a ≤ S704x64.size a := fun v491 k0_hw212 => k0_hw212.1
theorem k0_off895_inb : ∀ (v491 : BitVec 32) (k0_hw212 : k0_chk212 v491), ∀ a, (k0_off895 v491) a + S1x16.size a ≤ S704x64.size a := fun v491 k0_hw212 => k0_hw212.2.1
theorem k0_off896_inb : ∀ (v491 : BitVec 32) (k0_hw212 : k0_chk212 v491), ∀ a, (k0_off896 v491) a + S1x16.size a ≤ S704x64.size a := fun v491 k0_hw212 => k0_hw212.2.2.1
theorem k0_off897_inb : ∀ (v491 : BitVec 32) (k0_hw212 : k0_chk212 v491), ∀ a, (k0_off897 v491) a + S1x16.size a ≤ S704x64.size a := fun v491 k0_hw212 => k0_hw212.2.2.2

def k0_off898 (v512 : BitVec 32) : Fin 2 → Nat :=
  let v513 : Index := Scalar.indexCast v512
  let c0_207 : Index := 0#32
  ![v513.toNat, 0]

def k0_off899 (v512 : BitVec 32) : Fin 2 → Nat :=
  let v517 : Index := Scalar.indexCast v512
  let c16_208 : Index := 16#32
  ![v517.toNat, 16]
def k0_off900 (v512 : BitVec 32) : Fin 2 → Nat :=
  let v521 : Index := Scalar.indexCast v512
  let c32_209 : Index := 32#32
  ![v521.toNat, 32]
def k0_off901 (v512 : BitVec 32) : Fin 2 → Nat :=
  let v525 : Index := Scalar.indexCast v512
  let c48_210 : Index := 48#32
  ![v525.toNat, 48]

def k0_chk213 (v512 : BitVec 32) : Prop :=
  (∀ a, (k0_off898 v512) a + S1x16.size a ≤ S704x64.size a) ∧
  (∀ a, (k0_off899 v512) a + S1x16.size a ≤ S704x64.size a) ∧
  (∀ a, (k0_off900 v512) a + S1x16.size a ≤ S704x64.size a) ∧
  (∀ a, (k0_off901 v512) a + S1x16.size a ≤ S704x64.size a)
theorem k0_off898_inb : ∀ (v512 : BitVec 32) (k0_hw213 : k0_chk213 v512), ∀ a, (k0_off898 v512) a + S1x16.size a ≤ S704x64.size a := fun v512 k0_hw213 => k0_hw213.1
theorem k0_off899_inb : ∀ (v512 : BitVec 32) (k0_hw213 : k0_chk213 v512), ∀ a, (k0_off899 v512) a + S1x16.size a ≤ S704x64.size a := fun v512 k0_hw213 => k0_hw213.2.1
theorem k0_off900_inb : ∀ (v512 : BitVec 32) (k0_hw213 : k0_chk213 v512), ∀ a, (k0_off900 v512) a + S1x16.size a ≤ S704x64.size a := fun v512 k0_hw213 => k0_hw213.2.2.1
theorem k0_off901_inb : ∀ (v512 : BitVec 32) (k0_hw213 : k0_chk213 v512), ∀ a, (k0_off901 v512) a + S1x16.size a ≤ S704x64.size a := fun v512 k0_hw213 => k0_hw213.2.2.2

def k0_off902 (v533 : BitVec 32) : Fin 2 → Nat :=
  let v534 : Index := Scalar.indexCast v533
  let c0_211 : Index := 0#32
  ![v534.toNat, 0]

def k0_off903 (v533 : BitVec 32) : Fin 2 → Nat :=
  let v538 : Index := Scalar.indexCast v533
  let c16_212 : Index := 16#32
  ![v538.toNat, 16]
def k0_off904 (v533 : BitVec 32) : Fin 2 → Nat :=
  let v542 : Index := Scalar.indexCast v533
  let c32_213 : Index := 32#32
  ![v542.toNat, 32]
def k0_off905 (v533 : BitVec 32) : Fin 2 → Nat :=
  let v546 : Index := Scalar.indexCast v533
  let c48_214 : Index := 48#32
  ![v546.toNat, 48]

def k0_chk214 (v533 : BitVec 32) : Prop :=
  (∀ a, (k0_off902 v533) a + S1x16.size a ≤ S704x64.size a) ∧
  (∀ a, (k0_off903 v533) a + S1x16.size a ≤ S704x64.size a) ∧
  (∀ a, (k0_off904 v533) a + S1x16.size a ≤ S704x64.size a) ∧
  (∀ a, (k0_off905 v533) a + S1x16.size a ≤ S704x64.size a)
theorem k0_off902_inb : ∀ (v533 : BitVec 32) (k0_hw214 : k0_chk214 v533), ∀ a, (k0_off902 v533) a + S1x16.size a ≤ S704x64.size a := fun v533 k0_hw214 => k0_hw214.1
theorem k0_off903_inb : ∀ (v533 : BitVec 32) (k0_hw214 : k0_chk214 v533), ∀ a, (k0_off903 v533) a + S1x16.size a ≤ S704x64.size a := fun v533 k0_hw214 => k0_hw214.2.1
theorem k0_off904_inb : ∀ (v533 : BitVec 32) (k0_hw214 : k0_chk214 v533), ∀ a, (k0_off904 v533) a + S1x16.size a ≤ S704x64.size a := fun v533 k0_hw214 => k0_hw214.2.2.1
theorem k0_off905_inb : ∀ (v533 : BitVec 32) (k0_hw214 : k0_chk214 v533), ∀ a, (k0_off905 v533) a + S1x16.size a ≤ S704x64.size a := fun v533 k0_hw214 => k0_hw214.2.2.2

def k0_off906 (v554 : BitVec 32) : Fin 2 → Nat :=
  let v555 : Index := Scalar.indexCast v554
  let c0_215 : Index := 0#32
  ![v555.toNat, 0]

def k0_off907 (v554 : BitVec 32) : Fin 2 → Nat :=
  let v559 : Index := Scalar.indexCast v554
  let c16_216 : Index := 16#32
  ![v559.toNat, 16]
def k0_off908 (v554 : BitVec 32) : Fin 2 → Nat :=
  let v563 : Index := Scalar.indexCast v554
  let c32_217 : Index := 32#32
  ![v563.toNat, 32]
def k0_off909 (v554 : BitVec 32) : Fin 2 → Nat :=
  let v567 : Index := Scalar.indexCast v554
  let c48_218 : Index := 48#32
  ![v567.toNat, 48]

def k0_chk215 (v554 : BitVec 32) : Prop :=
  (∀ a, (k0_off906 v554) a + S1x16.size a ≤ S704x64.size a) ∧
  (∀ a, (k0_off907 v554) a + S1x16.size a ≤ S704x64.size a) ∧
  (∀ a, (k0_off908 v554) a + S1x16.size a ≤ S704x64.size a) ∧
  (∀ a, (k0_off909 v554) a + S1x16.size a ≤ S704x64.size a)
theorem k0_off906_inb : ∀ (v554 : BitVec 32) (k0_hw215 : k0_chk215 v554), ∀ a, (k0_off906 v554) a + S1x16.size a ≤ S704x64.size a := fun v554 k0_hw215 => k0_hw215.1
theorem k0_off907_inb : ∀ (v554 : BitVec 32) (k0_hw215 : k0_chk215 v554), ∀ a, (k0_off907 v554) a + S1x16.size a ≤ S704x64.size a := fun v554 k0_hw215 => k0_hw215.2.1
theorem k0_off908_inb : ∀ (v554 : BitVec 32) (k0_hw215 : k0_chk215 v554), ∀ a, (k0_off908 v554) a + S1x16.size a ≤ S704x64.size a := fun v554 k0_hw215 => k0_hw215.2.2.1
theorem k0_off909_inb : ∀ (v554 : BitVec 32) (k0_hw215 : k0_chk215 v554), ∀ a, (k0_off909 v554) a + S1x16.size a ≤ S704x64.size a := fun v554 k0_hw215 => k0_hw215.2.2.2

def k0_off910 (v575 : BitVec 32) : Fin 2 → Nat :=
  let v576 : Index := Scalar.indexCast v575
  let c0_219 : Index := 0#32
  ![v576.toNat, 0]

def k0_off911 (v575 : BitVec 32) : Fin 2 → Nat :=
  let v580 : Index := Scalar.indexCast v575
  let c16_220 : Index := 16#32
  ![v580.toNat, 16]
def k0_off912 (v575 : BitVec 32) : Fin 2 → Nat :=
  let v584 : Index := Scalar.indexCast v575
  let c32_221 : Index := 32#32
  ![v584.toNat, 32]
def k0_off913 (v575 : BitVec 32) : Fin 2 → Nat :=
  let v588 : Index := Scalar.indexCast v575
  let c48_222 : Index := 48#32
  ![v588.toNat, 48]

def k0_chk216 (v575 : BitVec 32) : Prop :=
  (∀ a, (k0_off910 v575) a + S1x16.size a ≤ S704x64.size a) ∧
  (∀ a, (k0_off911 v575) a + S1x16.size a ≤ S704x64.size a) ∧
  (∀ a, (k0_off912 v575) a + S1x16.size a ≤ S704x64.size a) ∧
  (∀ a, (k0_off913 v575) a + S1x16.size a ≤ S704x64.size a)
theorem k0_off910_inb : ∀ (v575 : BitVec 32) (k0_hw216 : k0_chk216 v575), ∀ a, (k0_off910 v575) a + S1x16.size a ≤ S704x64.size a := fun v575 k0_hw216 => k0_hw216.1
theorem k0_off911_inb : ∀ (v575 : BitVec 32) (k0_hw216 : k0_chk216 v575), ∀ a, (k0_off911 v575) a + S1x16.size a ≤ S704x64.size a := fun v575 k0_hw216 => k0_hw216.2.1
theorem k0_off912_inb : ∀ (v575 : BitVec 32) (k0_hw216 : k0_chk216 v575), ∀ a, (k0_off912 v575) a + S1x16.size a ≤ S704x64.size a := fun v575 k0_hw216 => k0_hw216.2.2.1
theorem k0_off913_inb : ∀ (v575 : BitVec 32) (k0_hw216 : k0_chk216 v575), ∀ a, (k0_off913 v575) a + S1x16.size a ≤ S704x64.size a := fun v575 k0_hw216 => k0_hw216.2.2.2

def k0_off914 (v596 : BitVec 32) : Fin 2 → Nat :=
  let v597 : Index := Scalar.indexCast v596
  let c0_223 : Index := 0#32
  ![v597.toNat, 0]

def k0_off915 (v596 : BitVec 32) : Fin 2 → Nat :=
  let v601 : Index := Scalar.indexCast v596
  let c16_224 : Index := 16#32
  ![v601.toNat, 16]
def k0_off916 (v596 : BitVec 32) : Fin 2 → Nat :=
  let v605 : Index := Scalar.indexCast v596
  let c32_225 : Index := 32#32
  ![v605.toNat, 32]
def k0_off917 (v596 : BitVec 32) : Fin 2 → Nat :=
  let v609 : Index := Scalar.indexCast v596
  let c48_226 : Index := 48#32
  ![v609.toNat, 48]

def k0_chk217 (v596 : BitVec 32) : Prop :=
  (∀ a, (k0_off914 v596) a + S1x16.size a ≤ S704x64.size a) ∧
  (∀ a, (k0_off915 v596) a + S1x16.size a ≤ S704x64.size a) ∧
  (∀ a, (k0_off916 v596) a + S1x16.size a ≤ S704x64.size a) ∧
  (∀ a, (k0_off917 v596) a + S1x16.size a ≤ S704x64.size a)
theorem k0_off914_inb : ∀ (v596 : BitVec 32) (k0_hw217 : k0_chk217 v596), ∀ a, (k0_off914 v596) a + S1x16.size a ≤ S704x64.size a := fun v596 k0_hw217 => k0_hw217.1
theorem k0_off915_inb : ∀ (v596 : BitVec 32) (k0_hw217 : k0_chk217 v596), ∀ a, (k0_off915 v596) a + S1x16.size a ≤ S704x64.size a := fun v596 k0_hw217 => k0_hw217.2.1
theorem k0_off916_inb : ∀ (v596 : BitVec 32) (k0_hw217 : k0_chk217 v596), ∀ a, (k0_off916 v596) a + S1x16.size a ≤ S704x64.size a := fun v596 k0_hw217 => k0_hw217.2.2.1
theorem k0_off917_inb : ∀ (v596 : BitVec 32) (k0_hw217 : k0_chk217 v596), ∀ a, (k0_off917 v596) a + S1x16.size a ≤ S704x64.size a := fun v596 k0_hw217 => k0_hw217.2.2.2

def k0_off918 (v617 : BitVec 32) : Fin 2 → Nat :=
  let v618 : Index := Scalar.indexCast v617
  let c0_227 : Index := 0#32
  ![v618.toNat, 0]

def k0_off919 (v617 : BitVec 32) : Fin 2 → Nat :=
  let v622 : Index := Scalar.indexCast v617
  let c16_228 : Index := 16#32
  ![v622.toNat, 16]
def k0_off920 (v617 : BitVec 32) : Fin 2 → Nat :=
  let v626 : Index := Scalar.indexCast v617
  let c32_229 : Index := 32#32
  ![v626.toNat, 32]
def k0_off921 (v617 : BitVec 32) : Fin 2 → Nat :=
  let v630 : Index := Scalar.indexCast v617
  let c48_230 : Index := 48#32
  ![v630.toNat, 48]

def k0_chk218 (v617 : BitVec 32) : Prop :=
  (∀ a, (k0_off918 v617) a + S1x16.size a ≤ S704x64.size a) ∧
  (∀ a, (k0_off919 v617) a + S1x16.size a ≤ S704x64.size a) ∧
  (∀ a, (k0_off920 v617) a + S1x16.size a ≤ S704x64.size a) ∧
  (∀ a, (k0_off921 v617) a + S1x16.size a ≤ S704x64.size a)
theorem k0_off918_inb : ∀ (v617 : BitVec 32) (k0_hw218 : k0_chk218 v617), ∀ a, (k0_off918 v617) a + S1x16.size a ≤ S704x64.size a := fun v617 k0_hw218 => k0_hw218.1
theorem k0_off919_inb : ∀ (v617 : BitVec 32) (k0_hw218 : k0_chk218 v617), ∀ a, (k0_off919 v617) a + S1x16.size a ≤ S704x64.size a := fun v617 k0_hw218 => k0_hw218.2.1
theorem k0_off920_inb : ∀ (v617 : BitVec 32) (k0_hw218 : k0_chk218 v617), ∀ a, (k0_off920 v617) a + S1x16.size a ≤ S704x64.size a := fun v617 k0_hw218 => k0_hw218.2.2.1
theorem k0_off921_inb : ∀ (v617 : BitVec 32) (k0_hw218 : k0_chk218 v617), ∀ a, (k0_off921 v617) a + S1x16.size a ≤ S704x64.size a := fun v617 k0_hw218 => k0_hw218.2.2.2

def k0_off922 (v638 : BitVec 32) : Fin 2 → Nat :=
  let v639 : Index := Scalar.indexCast v638
  let c0_231 : Index := 0#32
  ![v639.toNat, 0]

def k0_off923 (v638 : BitVec 32) : Fin 2 → Nat :=
  let v643 : Index := Scalar.indexCast v638
  let c16_232 : Index := 16#32
  ![v643.toNat, 16]
def k0_off924 (v638 : BitVec 32) : Fin 2 → Nat :=
  let v647 : Index := Scalar.indexCast v638
  let c32_233 : Index := 32#32
  ![v647.toNat, 32]
def k0_off925 (v638 : BitVec 32) : Fin 2 → Nat :=
  let v651 : Index := Scalar.indexCast v638
  let c48_234 : Index := 48#32
  ![v651.toNat, 48]

def k0_chk219 (v638 : BitVec 32) : Prop :=
  (∀ a, (k0_off922 v638) a + S1x16.size a ≤ S704x64.size a) ∧
  (∀ a, (k0_off923 v638) a + S1x16.size a ≤ S704x64.size a) ∧
  (∀ a, (k0_off924 v638) a + S1x16.size a ≤ S704x64.size a) ∧
  (∀ a, (k0_off925 v638) a + S1x16.size a ≤ S704x64.size a)
theorem k0_off922_inb : ∀ (v638 : BitVec 32) (k0_hw219 : k0_chk219 v638), ∀ a, (k0_off922 v638) a + S1x16.size a ≤ S704x64.size a := fun v638 k0_hw219 => k0_hw219.1
theorem k0_off923_inb : ∀ (v638 : BitVec 32) (k0_hw219 : k0_chk219 v638), ∀ a, (k0_off923 v638) a + S1x16.size a ≤ S704x64.size a := fun v638 k0_hw219 => k0_hw219.2.1
theorem k0_off924_inb : ∀ (v638 : BitVec 32) (k0_hw219 : k0_chk219 v638), ∀ a, (k0_off924 v638) a + S1x16.size a ≤ S704x64.size a := fun v638 k0_hw219 => k0_hw219.2.2.1
theorem k0_off925_inb : ∀ (v638 : BitVec 32) (k0_hw219 : k0_chk219 v638), ∀ a, (k0_off925 v638) a + S1x16.size a ≤ S704x64.size a := fun v638 k0_hw219 => k0_hw219.2.2.2

def k0_off926 (v659 : BitVec 32) : Fin 2 → Nat :=
  let v660 : Index := Scalar.indexCast v659
  let c0_235 : Index := 0#32
  ![v660.toNat, 0]

def k0_off927 (v659 : BitVec 32) : Fin 2 → Nat :=
  let v664 : Index := Scalar.indexCast v659
  let c16_236 : Index := 16#32
  ![v664.toNat, 16]
def k0_off928 (v659 : BitVec 32) : Fin 2 → Nat :=
  let v668 : Index := Scalar.indexCast v659
  let c32_237 : Index := 32#32
  ![v668.toNat, 32]
def k0_off929 (v659 : BitVec 32) : Fin 2 → Nat :=
  let v672 : Index := Scalar.indexCast v659
  let c48_238 : Index := 48#32
  ![v672.toNat, 48]

def k0_chk220 (v659 : BitVec 32) : Prop :=
  (∀ a, (k0_off926 v659) a + S1x16.size a ≤ S704x64.size a) ∧
  (∀ a, (k0_off927 v659) a + S1x16.size a ≤ S704x64.size a) ∧
  (∀ a, (k0_off928 v659) a + S1x16.size a ≤ S704x64.size a) ∧
  (∀ a, (k0_off929 v659) a + S1x16.size a ≤ S704x64.size a)
theorem k0_off926_inb : ∀ (v659 : BitVec 32) (k0_hw220 : k0_chk220 v659), ∀ a, (k0_off926 v659) a + S1x16.size a ≤ S704x64.size a := fun v659 k0_hw220 => k0_hw220.1
theorem k0_off927_inb : ∀ (v659 : BitVec 32) (k0_hw220 : k0_chk220 v659), ∀ a, (k0_off927 v659) a + S1x16.size a ≤ S704x64.size a := fun v659 k0_hw220 => k0_hw220.2.1
theorem k0_off928_inb : ∀ (v659 : BitVec 32) (k0_hw220 : k0_chk220 v659), ∀ a, (k0_off928 v659) a + S1x16.size a ≤ S704x64.size a := fun v659 k0_hw220 => k0_hw220.2.2.1
theorem k0_off929_inb : ∀ (v659 : BitVec 32) (k0_hw220 : k0_chk220 v659), ∀ a, (k0_off929 v659) a + S1x16.size a ≤ S704x64.size a := fun v659 k0_hw220 => k0_hw220.2.2.2

def k0_off930 (v680 : BitVec 32) : Fin 2 → Nat :=
  let v681 : Index := Scalar.indexCast v680
  let c0_239 : Index := 0#32
  ![v681.toNat, 0]

def k0_off931 (v680 : BitVec 32) : Fin 2 → Nat :=
  let v685 : Index := Scalar.indexCast v680
  let c16_240 : Index := 16#32
  ![v685.toNat, 16]
def k0_off932 (v680 : BitVec 32) : Fin 2 → Nat :=
  let v689 : Index := Scalar.indexCast v680
  let c32_241 : Index := 32#32
  ![v689.toNat, 32]
def k0_off933 (v680 : BitVec 32) : Fin 2 → Nat :=
  let v693 : Index := Scalar.indexCast v680
  let c48_242 : Index := 48#32
  ![v693.toNat, 48]

def k0_chk221 (v680 : BitVec 32) : Prop :=
  (∀ a, (k0_off930 v680) a + S1x16.size a ≤ S704x64.size a) ∧
  (∀ a, (k0_off931 v680) a + S1x16.size a ≤ S704x64.size a) ∧
  (∀ a, (k0_off932 v680) a + S1x16.size a ≤ S704x64.size a) ∧
  (∀ a, (k0_off933 v680) a + S1x16.size a ≤ S704x64.size a)
theorem k0_off930_inb : ∀ (v680 : BitVec 32) (k0_hw221 : k0_chk221 v680), ∀ a, (k0_off930 v680) a + S1x16.size a ≤ S704x64.size a := fun v680 k0_hw221 => k0_hw221.1
theorem k0_off931_inb : ∀ (v680 : BitVec 32) (k0_hw221 : k0_chk221 v680), ∀ a, (k0_off931 v680) a + S1x16.size a ≤ S704x64.size a := fun v680 k0_hw221 => k0_hw221.2.1
theorem k0_off932_inb : ∀ (v680 : BitVec 32) (k0_hw221 : k0_chk221 v680), ∀ a, (k0_off932 v680) a + S1x16.size a ≤ S704x64.size a := fun v680 k0_hw221 => k0_hw221.2.2.1
theorem k0_off933_inb : ∀ (v680 : BitVec 32) (k0_hw221 : k0_chk221 v680), ∀ a, (k0_off933 v680) a + S1x16.size a ≤ S704x64.size a := fun v680 k0_hw221 => k0_hw221.2.2.2

def k0_off934 (v701 : BitVec 32) : Fin 2 → Nat :=
  let v702 : Index := Scalar.indexCast v701
  let c0_243 : Index := 0#32
  ![v702.toNat, 0]

def k0_off935 (v701 : BitVec 32) : Fin 2 → Nat :=
  let v706 : Index := Scalar.indexCast v701
  let c16_244 : Index := 16#32
  ![v706.toNat, 16]
def k0_off936 (v701 : BitVec 32) : Fin 2 → Nat :=
  let v710 : Index := Scalar.indexCast v701
  let c32_245 : Index := 32#32
  ![v710.toNat, 32]
def k0_off937 (v701 : BitVec 32) : Fin 2 → Nat :=
  let v714 : Index := Scalar.indexCast v701
  let c48_246 : Index := 48#32
  ![v714.toNat, 48]

def k0_chk222 (v701 : BitVec 32) : Prop :=
  (∀ a, (k0_off934 v701) a + S1x16.size a ≤ S704x64.size a) ∧
  (∀ a, (k0_off935 v701) a + S1x16.size a ≤ S704x64.size a) ∧
  (∀ a, (k0_off936 v701) a + S1x16.size a ≤ S704x64.size a) ∧
  (∀ a, (k0_off937 v701) a + S1x16.size a ≤ S704x64.size a)
theorem k0_off934_inb : ∀ (v701 : BitVec 32) (k0_hw222 : k0_chk222 v701), ∀ a, (k0_off934 v701) a + S1x16.size a ≤ S704x64.size a := fun v701 k0_hw222 => k0_hw222.1
theorem k0_off935_inb : ∀ (v701 : BitVec 32) (k0_hw222 : k0_chk222 v701), ∀ a, (k0_off935 v701) a + S1x16.size a ≤ S704x64.size a := fun v701 k0_hw222 => k0_hw222.2.1
theorem k0_off936_inb : ∀ (v701 : BitVec 32) (k0_hw222 : k0_chk222 v701), ∀ a, (k0_off936 v701) a + S1x16.size a ≤ S704x64.size a := fun v701 k0_hw222 => k0_hw222.2.2.1
theorem k0_off937_inb : ∀ (v701 : BitVec 32) (k0_hw222 : k0_chk222 v701), ∀ a, (k0_off937 v701) a + S1x16.size a ≤ S704x64.size a := fun v701 k0_hw222 => k0_hw222.2.2.2

def k0_off938 (v722 : BitVec 32) : Fin 2 → Nat :=
  let v723 : Index := Scalar.indexCast v722
  let c0_247 : Index := 0#32
  ![v723.toNat, 0]

def k0_off939 (v722 : BitVec 32) : Fin 2 → Nat :=
  let v727 : Index := Scalar.indexCast v722
  let c16_248 : Index := 16#32
  ![v727.toNat, 16]
def k0_off940 (v722 : BitVec 32) : Fin 2 → Nat :=
  let v731 : Index := Scalar.indexCast v722
  let c32_249 : Index := 32#32
  ![v731.toNat, 32]
def k0_off941 (v722 : BitVec 32) : Fin 2 → Nat :=
  let v735 : Index := Scalar.indexCast v722
  let c48_250 : Index := 48#32
  ![v735.toNat, 48]

def k0_chk223 (v722 : BitVec 32) : Prop :=
  (∀ a, (k0_off938 v722) a + S1x16.size a ≤ S704x64.size a) ∧
  (∀ a, (k0_off939 v722) a + S1x16.size a ≤ S704x64.size a) ∧
  (∀ a, (k0_off940 v722) a + S1x16.size a ≤ S704x64.size a) ∧
  (∀ a, (k0_off941 v722) a + S1x16.size a ≤ S704x64.size a)
theorem k0_off938_inb : ∀ (v722 : BitVec 32) (k0_hw223 : k0_chk223 v722), ∀ a, (k0_off938 v722) a + S1x16.size a ≤ S704x64.size a := fun v722 k0_hw223 => k0_hw223.1
theorem k0_off939_inb : ∀ (v722 : BitVec 32) (k0_hw223 : k0_chk223 v722), ∀ a, (k0_off939 v722) a + S1x16.size a ≤ S704x64.size a := fun v722 k0_hw223 => k0_hw223.2.1
theorem k0_off940_inb : ∀ (v722 : BitVec 32) (k0_hw223 : k0_chk223 v722), ∀ a, (k0_off940 v722) a + S1x16.size a ≤ S704x64.size a := fun v722 k0_hw223 => k0_hw223.2.2.1
theorem k0_off941_inb : ∀ (v722 : BitVec 32) (k0_hw223 : k0_chk223 v722), ∀ a, (k0_off941 v722) a + S1x16.size a ≤ S704x64.size a := fun v722 k0_hw223 => k0_hw223.2.2.2

def k0_off942 (v743 : BitVec 32) : Fin 2 → Nat :=
  let v744 : Index := Scalar.indexCast v743
  let c0_251 : Index := 0#32
  ![v744.toNat, 0]

def k0_off943 (v743 : BitVec 32) : Fin 2 → Nat :=
  let v748 : Index := Scalar.indexCast v743
  let c16_252 : Index := 16#32
  ![v748.toNat, 16]
def k0_off944 (v743 : BitVec 32) : Fin 2 → Nat :=
  let v752 : Index := Scalar.indexCast v743
  let c32_253 : Index := 32#32
  ![v752.toNat, 32]
def k0_off945 (v743 : BitVec 32) : Fin 2 → Nat :=
  let v756 : Index := Scalar.indexCast v743
  let c48_254 : Index := 48#32
  ![v756.toNat, 48]

def k0_chk224 (v743 : BitVec 32) : Prop :=
  (∀ a, (k0_off942 v743) a + S1x16.size a ≤ S704x64.size a) ∧
  (∀ a, (k0_off943 v743) a + S1x16.size a ≤ S704x64.size a) ∧
  (∀ a, (k0_off944 v743) a + S1x16.size a ≤ S704x64.size a) ∧
  (∀ a, (k0_off945 v743) a + S1x16.size a ≤ S704x64.size a)
theorem k0_off942_inb : ∀ (v743 : BitVec 32) (k0_hw224 : k0_chk224 v743), ∀ a, (k0_off942 v743) a + S1x16.size a ≤ S704x64.size a := fun v743 k0_hw224 => k0_hw224.1
theorem k0_off943_inb : ∀ (v743 : BitVec 32) (k0_hw224 : k0_chk224 v743), ∀ a, (k0_off943 v743) a + S1x16.size a ≤ S704x64.size a := fun v743 k0_hw224 => k0_hw224.2.1
theorem k0_off944_inb : ∀ (v743 : BitVec 32) (k0_hw224 : k0_chk224 v743), ∀ a, (k0_off944 v743) a + S1x16.size a ≤ S704x64.size a := fun v743 k0_hw224 => k0_hw224.2.2.1
theorem k0_off945_inb : ∀ (v743 : BitVec 32) (k0_hw224 : k0_chk224 v743), ∀ a, (k0_off945 v743) a + S1x16.size a ≤ S704x64.size a := fun v743 k0_hw224 => k0_hw224.2.2.2

def k0_off946 (v764 : BitVec 32) : Fin 2 → Nat :=
  let v765 : Index := Scalar.indexCast v764
  let c0_255 : Index := 0#32
  ![v765.toNat, 0]

def k0_off947 (v764 : BitVec 32) : Fin 2 → Nat :=
  let v769 : Index := Scalar.indexCast v764
  let c16_256 : Index := 16#32
  ![v769.toNat, 16]
def k0_off948 (v764 : BitVec 32) : Fin 2 → Nat :=
  let v773 : Index := Scalar.indexCast v764
  let c32_257 : Index := 32#32
  ![v773.toNat, 32]
def k0_off949 (v764 : BitVec 32) : Fin 2 → Nat :=
  let v777 : Index := Scalar.indexCast v764
  let c48_258 : Index := 48#32
  ![v777.toNat, 48]

def k0_chk225 (v764 : BitVec 32) : Prop :=
  (∀ a, (k0_off946 v764) a + S1x16.size a ≤ S704x64.size a) ∧
  (∀ a, (k0_off947 v764) a + S1x16.size a ≤ S704x64.size a) ∧
  (∀ a, (k0_off948 v764) a + S1x16.size a ≤ S704x64.size a) ∧
  (∀ a, (k0_off949 v764) a + S1x16.size a ≤ S704x64.size a)
theorem k0_off946_inb : ∀ (v764 : BitVec 32) (k0_hw225 : k0_chk225 v764), ∀ a, (k0_off946 v764) a + S1x16.size a ≤ S704x64.size a := fun v764 k0_hw225 => k0_hw225.1
theorem k0_off947_inb : ∀ (v764 : BitVec 32) (k0_hw225 : k0_chk225 v764), ∀ a, (k0_off947 v764) a + S1x16.size a ≤ S704x64.size a := fun v764 k0_hw225 => k0_hw225.2.1
theorem k0_off948_inb : ∀ (v764 : BitVec 32) (k0_hw225 : k0_chk225 v764), ∀ a, (k0_off948 v764) a + S1x16.size a ≤ S704x64.size a := fun v764 k0_hw225 => k0_hw225.2.2.1
theorem k0_off949_inb : ∀ (v764 : BitVec 32) (k0_hw225 : k0_chk225 v764), ∀ a, (k0_off949 v764) a + S1x16.size a ≤ S704x64.size a := fun v764 k0_hw225 => k0_hw225.2.2.2

def k0_off950 (v785 : BitVec 32) : Fin 2 → Nat :=
  let v786 : Index := Scalar.indexCast v785
  let c0_259 : Index := 0#32
  ![v786.toNat, 0]

def k0_off951 (v785 : BitVec 32) : Fin 2 → Nat :=
  let v790 : Index := Scalar.indexCast v785
  let c16_260 : Index := 16#32
  ![v790.toNat, 16]
def k0_off952 (v785 : BitVec 32) : Fin 2 → Nat :=
  let v794 : Index := Scalar.indexCast v785
  let c32_261 : Index := 32#32
  ![v794.toNat, 32]
def k0_off953 (v785 : BitVec 32) : Fin 2 → Nat :=
  let v798 : Index := Scalar.indexCast v785
  let c48_262 : Index := 48#32
  ![v798.toNat, 48]

def k0_chk226 (v785 : BitVec 32) : Prop :=
  (∀ a, (k0_off950 v785) a + S1x16.size a ≤ S704x64.size a) ∧
  (∀ a, (k0_off951 v785) a + S1x16.size a ≤ S704x64.size a) ∧
  (∀ a, (k0_off952 v785) a + S1x16.size a ≤ S704x64.size a) ∧
  (∀ a, (k0_off953 v785) a + S1x16.size a ≤ S704x64.size a)
theorem k0_off950_inb : ∀ (v785 : BitVec 32) (k0_hw226 : k0_chk226 v785), ∀ a, (k0_off950 v785) a + S1x16.size a ≤ S704x64.size a := fun v785 k0_hw226 => k0_hw226.1
theorem k0_off951_inb : ∀ (v785 : BitVec 32) (k0_hw226 : k0_chk226 v785), ∀ a, (k0_off951 v785) a + S1x16.size a ≤ S704x64.size a := fun v785 k0_hw226 => k0_hw226.2.1
theorem k0_off952_inb : ∀ (v785 : BitVec 32) (k0_hw226 : k0_chk226 v785), ∀ a, (k0_off952 v785) a + S1x16.size a ≤ S704x64.size a := fun v785 k0_hw226 => k0_hw226.2.2.1
theorem k0_off953_inb : ∀ (v785 : BitVec 32) (k0_hw226 : k0_chk226 v785), ∀ a, (k0_off953 v785) a + S1x16.size a ≤ S704x64.size a := fun v785 k0_hw226 => k0_hw226.2.2.2

def k0_off954 (v806 : BitVec 32) : Fin 2 → Nat :=
  let v807 : Index := Scalar.indexCast v806
  let c0_263 : Index := 0#32
  ![v807.toNat, 0]

def k0_off955 (v806 : BitVec 32) : Fin 2 → Nat :=
  let v811 : Index := Scalar.indexCast v806
  let c16_264 : Index := 16#32
  ![v811.toNat, 16]
def k0_off956 (v806 : BitVec 32) : Fin 2 → Nat :=
  let v815 : Index := Scalar.indexCast v806
  let c32_265 : Index := 32#32
  ![v815.toNat, 32]
def k0_off957 (v806 : BitVec 32) : Fin 2 → Nat :=
  let v819 : Index := Scalar.indexCast v806
  let c48_266 : Index := 48#32
  ![v819.toNat, 48]

def k0_chk227 (v806 : BitVec 32) : Prop :=
  (∀ a, (k0_off954 v806) a + S1x16.size a ≤ S704x64.size a) ∧
  (∀ a, (k0_off955 v806) a + S1x16.size a ≤ S704x64.size a) ∧
  (∀ a, (k0_off956 v806) a + S1x16.size a ≤ S704x64.size a) ∧
  (∀ a, (k0_off957 v806) a + S1x16.size a ≤ S704x64.size a)
theorem k0_off954_inb : ∀ (v806 : BitVec 32) (k0_hw227 : k0_chk227 v806), ∀ a, (k0_off954 v806) a + S1x16.size a ≤ S704x64.size a := fun v806 k0_hw227 => k0_hw227.1
theorem k0_off955_inb : ∀ (v806 : BitVec 32) (k0_hw227 : k0_chk227 v806), ∀ a, (k0_off955 v806) a + S1x16.size a ≤ S704x64.size a := fun v806 k0_hw227 => k0_hw227.2.1
theorem k0_off956_inb : ∀ (v806 : BitVec 32) (k0_hw227 : k0_chk227 v806), ∀ a, (k0_off956 v806) a + S1x16.size a ≤ S704x64.size a := fun v806 k0_hw227 => k0_hw227.2.2.1
theorem k0_off957_inb : ∀ (v806 : BitVec 32) (k0_hw227 : k0_chk227 v806), ∀ a, (k0_off957 v806) a + S1x16.size a ≤ S704x64.size a := fun v806 k0_hw227 => k0_hw227.2.2.2

def k0_off958 (v827 : BitVec 32) : Fin 2 → Nat :=
  let v828 : Index := Scalar.indexCast v827
  let c0_267 : Index := 0#32
  ![v828.toNat, 0]

def k0_off959 (v827 : BitVec 32) : Fin 2 → Nat :=
  let v832 : Index := Scalar.indexCast v827
  let c16_268 : Index := 16#32
  ![v832.toNat, 16]
def k0_off960 (v827 : BitVec 32) : Fin 2 → Nat :=
  let v836 : Index := Scalar.indexCast v827
  let c32_269 : Index := 32#32
  ![v836.toNat, 32]
def k0_off961 (v827 : BitVec 32) : Fin 2 → Nat :=
  let v840 : Index := Scalar.indexCast v827
  let c48_270 : Index := 48#32
  ![v840.toNat, 48]

def k0_chk228 (v827 : BitVec 32) : Prop :=
  (∀ a, (k0_off958 v827) a + S1x16.size a ≤ S704x64.size a) ∧
  (∀ a, (k0_off959 v827) a + S1x16.size a ≤ S704x64.size a) ∧
  (∀ a, (k0_off960 v827) a + S1x16.size a ≤ S704x64.size a) ∧
  (∀ a, (k0_off961 v827) a + S1x16.size a ≤ S704x64.size a)
theorem k0_off958_inb : ∀ (v827 : BitVec 32) (k0_hw228 : k0_chk228 v827), ∀ a, (k0_off958 v827) a + S1x16.size a ≤ S704x64.size a := fun v827 k0_hw228 => k0_hw228.1
theorem k0_off959_inb : ∀ (v827 : BitVec 32) (k0_hw228 : k0_chk228 v827), ∀ a, (k0_off959 v827) a + S1x16.size a ≤ S704x64.size a := fun v827 k0_hw228 => k0_hw228.2.1
theorem k0_off960_inb : ∀ (v827 : BitVec 32) (k0_hw228 : k0_chk228 v827), ∀ a, (k0_off960 v827) a + S1x16.size a ≤ S704x64.size a := fun v827 k0_hw228 => k0_hw228.2.2.1
theorem k0_off961_inb : ∀ (v827 : BitVec 32) (k0_hw228 : k0_chk228 v827), ∀ a, (k0_off961 v827) a + S1x16.size a ≤ S704x64.size a := fun v827 k0_hw228 => k0_hw228.2.2.2

def k0_off962 (v848 : BitVec 32) : Fin 2 → Nat :=
  let v849 : Index := Scalar.indexCast v848
  let c0_271 : Index := 0#32
  ![v849.toNat, 0]

def k0_off963 (v848 : BitVec 32) : Fin 2 → Nat :=
  let v853 : Index := Scalar.indexCast v848
  let c16_272 : Index := 16#32
  ![v853.toNat, 16]
def k0_off964 (v848 : BitVec 32) : Fin 2 → Nat :=
  let v857 : Index := Scalar.indexCast v848
  let c32_273 : Index := 32#32
  ![v857.toNat, 32]
def k0_off965 (v848 : BitVec 32) : Fin 2 → Nat :=
  let v861 : Index := Scalar.indexCast v848
  let c48_274 : Index := 48#32
  ![v861.toNat, 48]

def k0_chk229 (v848 : BitVec 32) : Prop :=
  (∀ a, (k0_off962 v848) a + S1x16.size a ≤ S704x64.size a) ∧
  (∀ a, (k0_off963 v848) a + S1x16.size a ≤ S704x64.size a) ∧
  (∀ a, (k0_off964 v848) a + S1x16.size a ≤ S704x64.size a) ∧
  (∀ a, (k0_off965 v848) a + S1x16.size a ≤ S704x64.size a)
theorem k0_off962_inb : ∀ (v848 : BitVec 32) (k0_hw229 : k0_chk229 v848), ∀ a, (k0_off962 v848) a + S1x16.size a ≤ S704x64.size a := fun v848 k0_hw229 => k0_hw229.1
theorem k0_off963_inb : ∀ (v848 : BitVec 32) (k0_hw229 : k0_chk229 v848), ∀ a, (k0_off963 v848) a + S1x16.size a ≤ S704x64.size a := fun v848 k0_hw229 => k0_hw229.2.1
theorem k0_off964_inb : ∀ (v848 : BitVec 32) (k0_hw229 : k0_chk229 v848), ∀ a, (k0_off964 v848) a + S1x16.size a ≤ S704x64.size a := fun v848 k0_hw229 => k0_hw229.2.2.1
theorem k0_off965_inb : ∀ (v848 : BitVec 32) (k0_hw229 : k0_chk229 v848), ∀ a, (k0_off965 v848) a + S1x16.size a ≤ S704x64.size a := fun v848 k0_hw229 => k0_hw229.2.2.2

def k0_off966 (v869 : BitVec 32) : Fin 2 → Nat :=
  let v870 : Index := Scalar.indexCast v869
  let c0_275 : Index := 0#32
  ![v870.toNat, 0]

def k0_off967 (v869 : BitVec 32) : Fin 2 → Nat :=
  let v874 : Index := Scalar.indexCast v869
  let c16_276 : Index := 16#32
  ![v874.toNat, 16]
def k0_off968 (v869 : BitVec 32) : Fin 2 → Nat :=
  let v878 : Index := Scalar.indexCast v869
  let c32_277 : Index := 32#32
  ![v878.toNat, 32]
def k0_off969 (v869 : BitVec 32) : Fin 2 → Nat :=
  let v882 : Index := Scalar.indexCast v869
  let c48_278 : Index := 48#32
  ![v882.toNat, 48]

def k0_chk230 (v869 : BitVec 32) : Prop :=
  (∀ a, (k0_off966 v869) a + S1x16.size a ≤ S704x64.size a) ∧
  (∀ a, (k0_off967 v869) a + S1x16.size a ≤ S704x64.size a) ∧
  (∀ a, (k0_off968 v869) a + S1x16.size a ≤ S704x64.size a) ∧
  (∀ a, (k0_off969 v869) a + S1x16.size a ≤ S704x64.size a)
theorem k0_off966_inb : ∀ (v869 : BitVec 32) (k0_hw230 : k0_chk230 v869), ∀ a, (k0_off966 v869) a + S1x16.size a ≤ S704x64.size a := fun v869 k0_hw230 => k0_hw230.1
theorem k0_off967_inb : ∀ (v869 : BitVec 32) (k0_hw230 : k0_chk230 v869), ∀ a, (k0_off967 v869) a + S1x16.size a ≤ S704x64.size a := fun v869 k0_hw230 => k0_hw230.2.1
theorem k0_off968_inb : ∀ (v869 : BitVec 32) (k0_hw230 : k0_chk230 v869), ∀ a, (k0_off968 v869) a + S1x16.size a ≤ S704x64.size a := fun v869 k0_hw230 => k0_hw230.2.2.1
theorem k0_off969_inb : ∀ (v869 : BitVec 32) (k0_hw230 : k0_chk230 v869), ∀ a, (k0_off969 v869) a + S1x16.size a ≤ S704x64.size a := fun v869 k0_hw230 => k0_hw230.2.2.2

def k0_off970 (v890 : BitVec 32) : Fin 2 → Nat :=
  let v891 : Index := Scalar.indexCast v890
  let c0_279 : Index := 0#32
  ![v891.toNat, 0]

def k0_off971 (v890 : BitVec 32) : Fin 2 → Nat :=
  let v895 : Index := Scalar.indexCast v890
  let c16_280 : Index := 16#32
  ![v895.toNat, 16]
def k0_off972 (v890 : BitVec 32) : Fin 2 → Nat :=
  let v899 : Index := Scalar.indexCast v890
  let c32_281 : Index := 32#32
  ![v899.toNat, 32]
def k0_off973 (v890 : BitVec 32) : Fin 2 → Nat :=
  let v903 : Index := Scalar.indexCast v890
  let c48_282 : Index := 48#32
  ![v903.toNat, 48]

def k0_chk231 (v890 : BitVec 32) : Prop :=
  (∀ a, (k0_off970 v890) a + S1x16.size a ≤ S704x64.size a) ∧
  (∀ a, (k0_off971 v890) a + S1x16.size a ≤ S704x64.size a) ∧
  (∀ a, (k0_off972 v890) a + S1x16.size a ≤ S704x64.size a) ∧
  (∀ a, (k0_off973 v890) a + S1x16.size a ≤ S704x64.size a)
theorem k0_off970_inb : ∀ (v890 : BitVec 32) (k0_hw231 : k0_chk231 v890), ∀ a, (k0_off970 v890) a + S1x16.size a ≤ S704x64.size a := fun v890 k0_hw231 => k0_hw231.1
theorem k0_off971_inb : ∀ (v890 : BitVec 32) (k0_hw231 : k0_chk231 v890), ∀ a, (k0_off971 v890) a + S1x16.size a ≤ S704x64.size a := fun v890 k0_hw231 => k0_hw231.2.1
theorem k0_off972_inb : ∀ (v890 : BitVec 32) (k0_hw231 : k0_chk231 v890), ∀ a, (k0_off972 v890) a + S1x16.size a ≤ S704x64.size a := fun v890 k0_hw231 => k0_hw231.2.2.1
theorem k0_off973_inb : ∀ (v890 : BitVec 32) (k0_hw231 : k0_chk231 v890), ∀ a, (k0_off973 v890) a + S1x16.size a ≤ S704x64.size a := fun v890 k0_hw231 => k0_hw231.2.2.2

def k0_off974 (k0_t4 : Fin k0_t4_loop.trips) : Fin 2 → Nat :=
  let c2_i32_143 : BitVec 32 := 2#32
  let c0_i32_77 : BitVec 32 := 0#32
  let c1_i32_79 : BitVec 32 := 1#32
  let arg13 : BitVec 32 := Scf.iv c0_i32_77 c1_i32_79 k0_t4
  let v189 : BitVec 32 := Scalar.muli c2_i32_143 arg13
  let v907 : Index := Scalar.indexCast v189
  let c0_283 : Index := 0#32
  ![v907.toNat, 0]
def k0_off975 (k0_t4 : Fin k0_t4_loop.trips) : Fin 2 → Nat :=
  let c2_i32_143 : BitVec 32 := 2#32
  let c0_i32_77 : BitVec 32 := 0#32
  let c1_i32_79 : BitVec 32 := 1#32
  let arg13 : BitVec 32 := Scf.iv c0_i32_77 c1_i32_79 k0_t4
  let v189 : BitVec 32 := Scalar.muli c2_i32_143 arg13
  let v909 : Index := Scalar.indexCast v189
  let c16_284 : Index := 16#32
  ![v909.toNat, 16]
def k0_off976 (k0_t4 : Fin k0_t4_loop.trips) : Fin 2 → Nat :=
  let c2_i32_143 : BitVec 32 := 2#32
  let c0_i32_77 : BitVec 32 := 0#32
  let c1_i32_79 : BitVec 32 := 1#32
  let arg13 : BitVec 32 := Scf.iv c0_i32_77 c1_i32_79 k0_t4
  let v189 : BitVec 32 := Scalar.muli c2_i32_143 arg13
  let v911 : Index := Scalar.indexCast v189
  let c32_285 : Index := 32#32
  ![v911.toNat, 32]
def k0_off977 (k0_t4 : Fin k0_t4_loop.trips) : Fin 2 → Nat :=
  let c2_i32_143 : BitVec 32 := 2#32
  let c0_i32_77 : BitVec 32 := 0#32
  let c1_i32_79 : BitVec 32 := 1#32
  let arg13 : BitVec 32 := Scf.iv c0_i32_77 c1_i32_79 k0_t4
  let v189 : BitVec 32 := Scalar.muli c2_i32_143 arg13
  let v913 : Index := Scalar.indexCast v189
  let c48_286 : Index := 48#32
  ![v913.toNat, 48]
def k0_off978 (k0_t4 : Fin k0_t4_loop.trips) : Fin 2 → Nat :=
  let c2_i32_144 : BitVec 32 := 2#32
  let c0_i32_77 : BitVec 32 := 0#32
  let c1_i32_79 : BitVec 32 := 1#32
  let arg13 : BitVec 32 := Scf.iv c0_i32_77 c1_i32_79 k0_t4
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off979 (k0_t4 : Fin k0_t4_loop.trips) : Fin 2 → Nat :=
  let c2_i32_144 : BitVec 32 := 2#32
  let c0_i32_77 : BitVec 32 := 0#32
  let c1_i32_79 : BitVec 32 := 1#32
  let arg13 : BitVec 32 := Scf.iv c0_i32_77 c1_i32_79 k0_t4
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off980 (k0_t4 : Fin k0_t4_loop.trips) : Fin 2 → Nat :=
  let c2_i32_144 : BitVec 32 := 2#32
  let c0_i32_77 : BitVec 32 := 0#32
  let c1_i32_79 : BitVec 32 := 1#32
  let arg13 : BitVec 32 := Scf.iv c0_i32_77 c1_i32_79 k0_t4
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off981 (v941 : BitVec 32) : Fin 2 → Nat :=
  let v942 : Index := Scalar.indexCast v941
  let c0_297 : Index := 0#32
  ![v942.toNat, 0]

def k0_off982 (v941 : BitVec 32) : Fin 2 → Nat :=
  let v946 : Index := Scalar.indexCast v941
  let c16_298 : Index := 16#32
  ![v946.toNat, 16]
def k0_off983 (v941 : BitVec 32) : Fin 2 → Nat :=
  let v950 : Index := Scalar.indexCast v941
  let c32_299 : Index := 32#32
  ![v950.toNat, 32]
def k0_off984 (v941 : BitVec 32) : Fin 2 → Nat :=
  let v954 : Index := Scalar.indexCast v941
  let c48_300 : Index := 48#32
  ![v954.toNat, 48]

def k0_chk232 (v941 : BitVec 32) : Prop :=
  (∀ a, (k0_off981 v941) a + S1x16.size a ≤ S704x64.size a) ∧
  (∀ a, (k0_off982 v941) a + S1x16.size a ≤ S704x64.size a) ∧
  (∀ a, (k0_off983 v941) a + S1x16.size a ≤ S704x64.size a) ∧
  (∀ a, (k0_off984 v941) a + S1x16.size a ≤ S704x64.size a)
theorem k0_off981_inb : ∀ (v941 : BitVec 32) (k0_hw232 : k0_chk232 v941), ∀ a, (k0_off981 v941) a + S1x16.size a ≤ S704x64.size a := fun v941 k0_hw232 => k0_hw232.1
theorem k0_off982_inb : ∀ (v941 : BitVec 32) (k0_hw232 : k0_chk232 v941), ∀ a, (k0_off982 v941) a + S1x16.size a ≤ S704x64.size a := fun v941 k0_hw232 => k0_hw232.2.1
theorem k0_off983_inb : ∀ (v941 : BitVec 32) (k0_hw232 : k0_chk232 v941), ∀ a, (k0_off983 v941) a + S1x16.size a ≤ S704x64.size a := fun v941 k0_hw232 => k0_hw232.2.2.1
theorem k0_off984_inb : ∀ (v941 : BitVec 32) (k0_hw232 : k0_chk232 v941), ∀ a, (k0_off984 v941) a + S1x16.size a ≤ S704x64.size a := fun v941 k0_hw232 => k0_hw232.2.2.2

def k0_off985 (v962 : BitVec 32) : Fin 2 → Nat :=
  let v963 : Index := Scalar.indexCast v962
  let c0_301 : Index := 0#32
  ![v963.toNat, 0]

def k0_off986 (v962 : BitVec 32) : Fin 2 → Nat :=
  let v967 : Index := Scalar.indexCast v962
  let c16_302 : Index := 16#32
  ![v967.toNat, 16]
def k0_off987 (v962 : BitVec 32) : Fin 2 → Nat :=
  let v971 : Index := Scalar.indexCast v962
  let c32_303 : Index := 32#32
  ![v971.toNat, 32]
def k0_off988 (v962 : BitVec 32) : Fin 2 → Nat :=
  let v975 : Index := Scalar.indexCast v962
  let c48_304 : Index := 48#32
  ![v975.toNat, 48]

def k0_chk233 (v962 : BitVec 32) : Prop :=
  (∀ a, (k0_off985 v962) a + S1x16.size a ≤ S704x64.size a) ∧
  (∀ a, (k0_off986 v962) a + S1x16.size a ≤ S704x64.size a) ∧
  (∀ a, (k0_off987 v962) a + S1x16.size a ≤ S704x64.size a) ∧
  (∀ a, (k0_off988 v962) a + S1x16.size a ≤ S704x64.size a)
theorem k0_off985_inb : ∀ (v962 : BitVec 32) (k0_hw233 : k0_chk233 v962), ∀ a, (k0_off985 v962) a + S1x16.size a ≤ S704x64.size a := fun v962 k0_hw233 => k0_hw233.1
theorem k0_off986_inb : ∀ (v962 : BitVec 32) (k0_hw233 : k0_chk233 v962), ∀ a, (k0_off986 v962) a + S1x16.size a ≤ S704x64.size a := fun v962 k0_hw233 => k0_hw233.2.1
theorem k0_off987_inb : ∀ (v962 : BitVec 32) (k0_hw233 : k0_chk233 v962), ∀ a, (k0_off987 v962) a + S1x16.size a ≤ S704x64.size a := fun v962 k0_hw233 => k0_hw233.2.2.1
theorem k0_off988_inb : ∀ (v962 : BitVec 32) (k0_hw233 : k0_chk233 v962), ∀ a, (k0_off988 v962) a + S1x16.size a ≤ S704x64.size a := fun v962 k0_hw233 => k0_hw233.2.2.2

def k0_off989 (v983 : BitVec 32) : Fin 2 → Nat :=
  let v984 : Index := Scalar.indexCast v983
  let c0_305 : Index := 0#32
  ![v984.toNat, 0]

def k0_off990 (v983 : BitVec 32) : Fin 2 → Nat :=
  let v988 : Index := Scalar.indexCast v983
  let c16_306 : Index := 16#32
  ![v988.toNat, 16]
def k0_off991 (v983 : BitVec 32) : Fin 2 → Nat :=
  let v992 : Index := Scalar.indexCast v983
  let c32_307 : Index := 32#32
  ![v992.toNat, 32]
def k0_off992 (v983 : BitVec 32) : Fin 2 → Nat :=
  let v996 : Index := Scalar.indexCast v983
  let c48_308 : Index := 48#32
  ![v996.toNat, 48]

def k0_chk234 (v983 : BitVec 32) : Prop :=
  (∀ a, (k0_off989 v983) a + S1x16.size a ≤ S704x64.size a) ∧
  (∀ a, (k0_off990 v983) a + S1x16.size a ≤ S704x64.size a) ∧
  (∀ a, (k0_off991 v983) a + S1x16.size a ≤ S704x64.size a) ∧
  (∀ a, (k0_off992 v983) a + S1x16.size a ≤ S704x64.size a)
theorem k0_off989_inb : ∀ (v983 : BitVec 32) (k0_hw234 : k0_chk234 v983), ∀ a, (k0_off989 v983) a + S1x16.size a ≤ S704x64.size a := fun v983 k0_hw234 => k0_hw234.1
theorem k0_off990_inb : ∀ (v983 : BitVec 32) (k0_hw234 : k0_chk234 v983), ∀ a, (k0_off990 v983) a + S1x16.size a ≤ S704x64.size a := fun v983 k0_hw234 => k0_hw234.2.1
theorem k0_off991_inb : ∀ (v983 : BitVec 32) (k0_hw234 : k0_chk234 v983), ∀ a, (k0_off991 v983) a + S1x16.size a ≤ S704x64.size a := fun v983 k0_hw234 => k0_hw234.2.2.1
theorem k0_off992_inb : ∀ (v983 : BitVec 32) (k0_hw234 : k0_chk234 v983), ∀ a, (k0_off992 v983) a + S1x16.size a ≤ S704x64.size a := fun v983 k0_hw234 => k0_hw234.2.2.2

def k0_off993 (v1004 : BitVec 32) : Fin 2 → Nat :=
  let v1005 : Index := Scalar.indexCast v1004
  let c0_309 : Index := 0#32
  ![v1005.toNat, 0]

def k0_off994 (v1004 : BitVec 32) : Fin 2 → Nat :=
  let v1009 : Index := Scalar.indexCast v1004
  let c16_310 : Index := 16#32
  ![v1009.toNat, 16]
def k0_off995 (v1004 : BitVec 32) : Fin 2 → Nat :=
  let v1013 : Index := Scalar.indexCast v1004
  let c32_311 : Index := 32#32
  ![v1013.toNat, 32]
def k0_off996 (v1004 : BitVec 32) : Fin 2 → Nat :=
  let v1017 : Index := Scalar.indexCast v1004
  let c48_312 : Index := 48#32
  ![v1017.toNat, 48]

def k0_chk235 (v1004 : BitVec 32) : Prop :=
  (∀ a, (k0_off993 v1004) a + S1x16.size a ≤ S704x64.size a) ∧
  (∀ a, (k0_off994 v1004) a + S1x16.size a ≤ S704x64.size a) ∧
  (∀ a, (k0_off995 v1004) a + S1x16.size a ≤ S704x64.size a) ∧
  (∀ a, (k0_off996 v1004) a + S1x16.size a ≤ S704x64.size a)
theorem k0_off993_inb : ∀ (v1004 : BitVec 32) (k0_hw235 : k0_chk235 v1004), ∀ a, (k0_off993 v1004) a + S1x16.size a ≤ S704x64.size a := fun v1004 k0_hw235 => k0_hw235.1
theorem k0_off994_inb : ∀ (v1004 : BitVec 32) (k0_hw235 : k0_chk235 v1004), ∀ a, (k0_off994 v1004) a + S1x16.size a ≤ S704x64.size a := fun v1004 k0_hw235 => k0_hw235.2.1
theorem k0_off995_inb : ∀ (v1004 : BitVec 32) (k0_hw235 : k0_chk235 v1004), ∀ a, (k0_off995 v1004) a + S1x16.size a ≤ S704x64.size a := fun v1004 k0_hw235 => k0_hw235.2.2.1
theorem k0_off996_inb : ∀ (v1004 : BitVec 32) (k0_hw235 : k0_chk235 v1004), ∀ a, (k0_off996 v1004) a + S1x16.size a ≤ S704x64.size a := fun v1004 k0_hw235 => k0_hw235.2.2.2

def k0_off997 (v1025 : BitVec 32) : Fin 2 → Nat :=
  let v1026 : Index := Scalar.indexCast v1025
  let c0_313 : Index := 0#32
  ![v1026.toNat, 0]

def k0_off998 (v1025 : BitVec 32) : Fin 2 → Nat :=
  let v1030 : Index := Scalar.indexCast v1025
  let c16_314 : Index := 16#32
  ![v1030.toNat, 16]
def k0_off999 (v1025 : BitVec 32) : Fin 2 → Nat :=
  let v1034 : Index := Scalar.indexCast v1025
  let c32_315 : Index := 32#32
  ![v1034.toNat, 32]
def k0_off1000 (v1025 : BitVec 32) : Fin 2 → Nat :=
  let v1038 : Index := Scalar.indexCast v1025
  let c48_316 : Index := 48#32
  ![v1038.toNat, 48]

def k0_chk236 (v1025 : BitVec 32) : Prop :=
  (∀ a, (k0_off997 v1025) a + S1x16.size a ≤ S704x64.size a) ∧
  (∀ a, (k0_off998 v1025) a + S1x16.size a ≤ S704x64.size a) ∧
  (∀ a, (k0_off999 v1025) a + S1x16.size a ≤ S704x64.size a) ∧
  (∀ a, (k0_off1000 v1025) a + S1x16.size a ≤ S704x64.size a)
theorem k0_off997_inb : ∀ (v1025 : BitVec 32) (k0_hw236 : k0_chk236 v1025), ∀ a, (k0_off997 v1025) a + S1x16.size a ≤ S704x64.size a := fun v1025 k0_hw236 => k0_hw236.1
theorem k0_off998_inb : ∀ (v1025 : BitVec 32) (k0_hw236 : k0_chk236 v1025), ∀ a, (k0_off998 v1025) a + S1x16.size a ≤ S704x64.size a := fun v1025 k0_hw236 => k0_hw236.2.1
theorem k0_off999_inb : ∀ (v1025 : BitVec 32) (k0_hw236 : k0_chk236 v1025), ∀ a, (k0_off999 v1025) a + S1x16.size a ≤ S704x64.size a := fun v1025 k0_hw236 => k0_hw236.2.2.1
theorem k0_off1000_inb : ∀ (v1025 : BitVec 32) (k0_hw236 : k0_chk236 v1025), ∀ a, (k0_off1000 v1025) a + S1x16.size a ≤ S704x64.size a := fun v1025 k0_hw236 => k0_hw236.2.2.2

def k0_off1001 (v1046 : BitVec 32) : Fin 2 → Nat :=
  let v1047 : Index := Scalar.indexCast v1046
  let c0_317 : Index := 0#32
  ![v1047.toNat, 0]

def k0_off1002 (v1046 : BitVec 32) : Fin 2 → Nat :=
  let v1051 : Index := Scalar.indexCast v1046
  let c16_318 : Index := 16#32
  ![v1051.toNat, 16]
def k0_off1003 (v1046 : BitVec 32) : Fin 2 → Nat :=
  let v1055 : Index := Scalar.indexCast v1046
  let c32_319 : Index := 32#32
  ![v1055.toNat, 32]
def k0_off1004 (v1046 : BitVec 32) : Fin 2 → Nat :=
  let v1059 : Index := Scalar.indexCast v1046
  let c48_320 : Index := 48#32
  ![v1059.toNat, 48]

def k0_chk237 (v1046 : BitVec 32) : Prop :=
  (∀ a, (k0_off1001 v1046) a + S1x16.size a ≤ S704x64.size a) ∧
  (∀ a, (k0_off1002 v1046) a + S1x16.size a ≤ S704x64.size a) ∧
  (∀ a, (k0_off1003 v1046) a + S1x16.size a ≤ S704x64.size a) ∧
  (∀ a, (k0_off1004 v1046) a + S1x16.size a ≤ S704x64.size a)
theorem k0_off1001_inb : ∀ (v1046 : BitVec 32) (k0_hw237 : k0_chk237 v1046), ∀ a, (k0_off1001 v1046) a + S1x16.size a ≤ S704x64.size a := fun v1046 k0_hw237 => k0_hw237.1
theorem k0_off1002_inb : ∀ (v1046 : BitVec 32) (k0_hw237 : k0_chk237 v1046), ∀ a, (k0_off1002 v1046) a + S1x16.size a ≤ S704x64.size a := fun v1046 k0_hw237 => k0_hw237.2.1
theorem k0_off1003_inb : ∀ (v1046 : BitVec 32) (k0_hw237 : k0_chk237 v1046), ∀ a, (k0_off1003 v1046) a + S1x16.size a ≤ S704x64.size a := fun v1046 k0_hw237 => k0_hw237.2.2.1
theorem k0_off1004_inb : ∀ (v1046 : BitVec 32) (k0_hw237 : k0_chk237 v1046), ∀ a, (k0_off1004 v1046) a + S1x16.size a ≤ S704x64.size a := fun v1046 k0_hw237 => k0_hw237.2.2.2

def k0_off1005 (v1067 : BitVec 32) : Fin 2 → Nat :=
  let v1068 : Index := Scalar.indexCast v1067
  let c0_321 : Index := 0#32
  ![v1068.toNat, 0]

def k0_off1006 (v1067 : BitVec 32) : Fin 2 → Nat :=
  let v1072 : Index := Scalar.indexCast v1067
  let c16_322 : Index := 16#32
  ![v1072.toNat, 16]
def k0_off1007 (v1067 : BitVec 32) : Fin 2 → Nat :=
  let v1076 : Index := Scalar.indexCast v1067
  let c32_323 : Index := 32#32
  ![v1076.toNat, 32]
def k0_off1008 (v1067 : BitVec 32) : Fin 2 → Nat :=
  let v1080 : Index := Scalar.indexCast v1067
  let c48_324 : Index := 48#32
  ![v1080.toNat, 48]

def k0_chk238 (v1067 : BitVec 32) : Prop :=
  (∀ a, (k0_off1005 v1067) a + S1x16.size a ≤ S704x64.size a) ∧
  (∀ a, (k0_off1006 v1067) a + S1x16.size a ≤ S704x64.size a) ∧
  (∀ a, (k0_off1007 v1067) a + S1x16.size a ≤ S704x64.size a) ∧
  (∀ a, (k0_off1008 v1067) a + S1x16.size a ≤ S704x64.size a)
theorem k0_off1005_inb : ∀ (v1067 : BitVec 32) (k0_hw238 : k0_chk238 v1067), ∀ a, (k0_off1005 v1067) a + S1x16.size a ≤ S704x64.size a := fun v1067 k0_hw238 => k0_hw238.1
theorem k0_off1006_inb : ∀ (v1067 : BitVec 32) (k0_hw238 : k0_chk238 v1067), ∀ a, (k0_off1006 v1067) a + S1x16.size a ≤ S704x64.size a := fun v1067 k0_hw238 => k0_hw238.2.1
theorem k0_off1007_inb : ∀ (v1067 : BitVec 32) (k0_hw238 : k0_chk238 v1067), ∀ a, (k0_off1007 v1067) a + S1x16.size a ≤ S704x64.size a := fun v1067 k0_hw238 => k0_hw238.2.2.1
theorem k0_off1008_inb : ∀ (v1067 : BitVec 32) (k0_hw238 : k0_chk238 v1067), ∀ a, (k0_off1008 v1067) a + S1x16.size a ≤ S704x64.size a := fun v1067 k0_hw238 => k0_hw238.2.2.2

def k0_off1009 (v1088 : BitVec 32) : Fin 2 → Nat :=
  let v1089 : Index := Scalar.indexCast v1088
  let c0_325 : Index := 0#32
  ![v1089.toNat, 0]

def k0_off1010 (v1088 : BitVec 32) : Fin 2 → Nat :=
  let v1093 : Index := Scalar.indexCast v1088
  let c16_326 : Index := 16#32
  ![v1093.toNat, 16]
def k0_off1011 (v1088 : BitVec 32) : Fin 2 → Nat :=
  let v1097 : Index := Scalar.indexCast v1088
  let c32_327 : Index := 32#32
  ![v1097.toNat, 32]
def k0_off1012 (v1088 : BitVec 32) : Fin 2 → Nat :=
  let v1101 : Index := Scalar.indexCast v1088
  let c48_328 : Index := 48#32
  ![v1101.toNat, 48]

def k0_chk239 (v1088 : BitVec 32) : Prop :=
  (∀ a, (k0_off1009 v1088) a + S1x16.size a ≤ S704x64.size a) ∧
  (∀ a, (k0_off1010 v1088) a + S1x16.size a ≤ S704x64.size a) ∧
  (∀ a, (k0_off1011 v1088) a + S1x16.size a ≤ S704x64.size a) ∧
  (∀ a, (k0_off1012 v1088) a + S1x16.size a ≤ S704x64.size a)
theorem k0_off1009_inb : ∀ (v1088 : BitVec 32) (k0_hw239 : k0_chk239 v1088), ∀ a, (k0_off1009 v1088) a + S1x16.size a ≤ S704x64.size a := fun v1088 k0_hw239 => k0_hw239.1
theorem k0_off1010_inb : ∀ (v1088 : BitVec 32) (k0_hw239 : k0_chk239 v1088), ∀ a, (k0_off1010 v1088) a + S1x16.size a ≤ S704x64.size a := fun v1088 k0_hw239 => k0_hw239.2.1
theorem k0_off1011_inb : ∀ (v1088 : BitVec 32) (k0_hw239 : k0_chk239 v1088), ∀ a, (k0_off1011 v1088) a + S1x16.size a ≤ S704x64.size a := fun v1088 k0_hw239 => k0_hw239.2.2.1
theorem k0_off1012_inb : ∀ (v1088 : BitVec 32) (k0_hw239 : k0_chk239 v1088), ∀ a, (k0_off1012 v1088) a + S1x16.size a ≤ S704x64.size a := fun v1088 k0_hw239 => k0_hw239.2.2.2

def k0_off1013 (v1109 : BitVec 32) : Fin 2 → Nat :=
  let v1110 : Index := Scalar.indexCast v1109
  let c0_329 : Index := 0#32
  ![v1110.toNat, 0]

def k0_off1014 (v1109 : BitVec 32) : Fin 2 → Nat :=
  let v1114 : Index := Scalar.indexCast v1109
  let c16_330 : Index := 16#32
  ![v1114.toNat, 16]
def k0_off1015 (v1109 : BitVec 32) : Fin 2 → Nat :=
  let v1118 : Index := Scalar.indexCast v1109
  let c32_331 : Index := 32#32
  ![v1118.toNat, 32]
def k0_off1016 (v1109 : BitVec 32) : Fin 2 → Nat :=
  let v1122 : Index := Scalar.indexCast v1109
  let c48_332 : Index := 48#32
  ![v1122.toNat, 48]

def k0_chk240 (v1109 : BitVec 32) : Prop :=
  (∀ a, (k0_off1013 v1109) a + S1x16.size a ≤ S704x64.size a) ∧
  (∀ a, (k0_off1014 v1109) a + S1x16.size a ≤ S704x64.size a) ∧
  (∀ a, (k0_off1015 v1109) a + S1x16.size a ≤ S704x64.size a) ∧
  (∀ a, (k0_off1016 v1109) a + S1x16.size a ≤ S704x64.size a)
theorem k0_off1013_inb : ∀ (v1109 : BitVec 32) (k0_hw240 : k0_chk240 v1109), ∀ a, (k0_off1013 v1109) a + S1x16.size a ≤ S704x64.size a := fun v1109 k0_hw240 => k0_hw240.1
theorem k0_off1014_inb : ∀ (v1109 : BitVec 32) (k0_hw240 : k0_chk240 v1109), ∀ a, (k0_off1014 v1109) a + S1x16.size a ≤ S704x64.size a := fun v1109 k0_hw240 => k0_hw240.2.1
theorem k0_off1015_inb : ∀ (v1109 : BitVec 32) (k0_hw240 : k0_chk240 v1109), ∀ a, (k0_off1015 v1109) a + S1x16.size a ≤ S704x64.size a := fun v1109 k0_hw240 => k0_hw240.2.2.1
theorem k0_off1016_inb : ∀ (v1109 : BitVec 32) (k0_hw240 : k0_chk240 v1109), ∀ a, (k0_off1016 v1109) a + S1x16.size a ≤ S704x64.size a := fun v1109 k0_hw240 => k0_hw240.2.2.2

def k0_off1017 (v1130 : BitVec 32) : Fin 2 → Nat :=
  let v1131 : Index := Scalar.indexCast v1130
  let c0_333 : Index := 0#32
  ![v1131.toNat, 0]

def k0_off1018 (v1130 : BitVec 32) : Fin 2 → Nat :=
  let v1135 : Index := Scalar.indexCast v1130
  let c16_334 : Index := 16#32
  ![v1135.toNat, 16]
def k0_off1019 (v1130 : BitVec 32) : Fin 2 → Nat :=
  let v1139 : Index := Scalar.indexCast v1130
  let c32_335 : Index := 32#32
  ![v1139.toNat, 32]
def k0_off1020 (v1130 : BitVec 32) : Fin 2 → Nat :=
  let v1143 : Index := Scalar.indexCast v1130
  let c48_336 : Index := 48#32
  ![v1143.toNat, 48]

def k0_chk241 (v1130 : BitVec 32) : Prop :=
  (∀ a, (k0_off1017 v1130) a + S1x16.size a ≤ S704x64.size a) ∧
  (∀ a, (k0_off1018 v1130) a + S1x16.size a ≤ S704x64.size a) ∧
  (∀ a, (k0_off1019 v1130) a + S1x16.size a ≤ S704x64.size a) ∧
  (∀ a, (k0_off1020 v1130) a + S1x16.size a ≤ S704x64.size a)
theorem k0_off1017_inb : ∀ (v1130 : BitVec 32) (k0_hw241 : k0_chk241 v1130), ∀ a, (k0_off1017 v1130) a + S1x16.size a ≤ S704x64.size a := fun v1130 k0_hw241 => k0_hw241.1
theorem k0_off1018_inb : ∀ (v1130 : BitVec 32) (k0_hw241 : k0_chk241 v1130), ∀ a, (k0_off1018 v1130) a + S1x16.size a ≤ S704x64.size a := fun v1130 k0_hw241 => k0_hw241.2.1
theorem k0_off1019_inb : ∀ (v1130 : BitVec 32) (k0_hw241 : k0_chk241 v1130), ∀ a, (k0_off1019 v1130) a + S1x16.size a ≤ S704x64.size a := fun v1130 k0_hw241 => k0_hw241.2.2.1
theorem k0_off1020_inb : ∀ (v1130 : BitVec 32) (k0_hw241 : k0_chk241 v1130), ∀ a, (k0_off1020 v1130) a + S1x16.size a ≤ S704x64.size a := fun v1130 k0_hw241 => k0_hw241.2.2.2

def k0_off1021 (v1151 : BitVec 32) : Fin 2 → Nat :=
  let v1152 : Index := Scalar.indexCast v1151
  let c0_337 : Index := 0#32
  ![v1152.toNat, 0]

def k0_off1022 (v1151 : BitVec 32) : Fin 2 → Nat :=
  let v1156 : Index := Scalar.indexCast v1151
  let c16_338 : Index := 16#32
  ![v1156.toNat, 16]
def k0_off1023 (v1151 : BitVec 32) : Fin 2 → Nat :=
  let v1160 : Index := Scalar.indexCast v1151
  let c32_339 : Index := 32#32
  ![v1160.toNat, 32]
def k0_off1024 (v1151 : BitVec 32) : Fin 2 → Nat :=
  let v1164 : Index := Scalar.indexCast v1151
  let c48_340 : Index := 48#32
  ![v1164.toNat, 48]

def k0_chk242 (v1151 : BitVec 32) : Prop :=
  (∀ a, (k0_off1021 v1151) a + S1x16.size a ≤ S704x64.size a) ∧
  (∀ a, (k0_off1022 v1151) a + S1x16.size a ≤ S704x64.size a) ∧
  (∀ a, (k0_off1023 v1151) a + S1x16.size a ≤ S704x64.size a) ∧
  (∀ a, (k0_off1024 v1151) a + S1x16.size a ≤ S704x64.size a)
theorem k0_off1021_inb : ∀ (v1151 : BitVec 32) (k0_hw242 : k0_chk242 v1151), ∀ a, (k0_off1021 v1151) a + S1x16.size a ≤ S704x64.size a := fun v1151 k0_hw242 => k0_hw242.1
theorem k0_off1022_inb : ∀ (v1151 : BitVec 32) (k0_hw242 : k0_chk242 v1151), ∀ a, (k0_off1022 v1151) a + S1x16.size a ≤ S704x64.size a := fun v1151 k0_hw242 => k0_hw242.2.1
theorem k0_off1023_inb : ∀ (v1151 : BitVec 32) (k0_hw242 : k0_chk242 v1151), ∀ a, (k0_off1023 v1151) a + S1x16.size a ≤ S704x64.size a := fun v1151 k0_hw242 => k0_hw242.2.2.1
theorem k0_off1024_inb : ∀ (v1151 : BitVec 32) (k0_hw242 : k0_chk242 v1151), ∀ a, (k0_off1024 v1151) a + S1x16.size a ≤ S704x64.size a := fun v1151 k0_hw242 => k0_hw242.2.2.2

def k0_off1025 (v1172 : BitVec 32) : Fin 2 → Nat :=
  let v1173 : Index := Scalar.indexCast v1172
  let c0_341 : Index := 0#32
  ![v1173.toNat, 0]

def k0_off1026 (v1172 : BitVec 32) : Fin 2 → Nat :=
  let v1177 : Index := Scalar.indexCast v1172
  let c16_342 : Index := 16#32
  ![v1177.toNat, 16]
def k0_off1027 (v1172 : BitVec 32) : Fin 2 → Nat :=
  let v1181 : Index := Scalar.indexCast v1172
  let c32_343 : Index := 32#32
  ![v1181.toNat, 32]
def k0_off1028 (v1172 : BitVec 32) : Fin 2 → Nat :=
  let v1185 : Index := Scalar.indexCast v1172
  let c48_344 : Index := 48#32
  ![v1185.toNat, 48]

def k0_chk243 (v1172 : BitVec 32) : Prop :=
  (∀ a, (k0_off1025 v1172) a + S1x16.size a ≤ S704x64.size a) ∧
  (∀ a, (k0_off1026 v1172) a + S1x16.size a ≤ S704x64.size a) ∧
  (∀ a, (k0_off1027 v1172) a + S1x16.size a ≤ S704x64.size a) ∧
  (∀ a, (k0_off1028 v1172) a + S1x16.size a ≤ S704x64.size a)
theorem k0_off1025_inb : ∀ (v1172 : BitVec 32) (k0_hw243 : k0_chk243 v1172), ∀ a, (k0_off1025 v1172) a + S1x16.size a ≤ S704x64.size a := fun v1172 k0_hw243 => k0_hw243.1
theorem k0_off1026_inb : ∀ (v1172 : BitVec 32) (k0_hw243 : k0_chk243 v1172), ∀ a, (k0_off1026 v1172) a + S1x16.size a ≤ S704x64.size a := fun v1172 k0_hw243 => k0_hw243.2.1
theorem k0_off1027_inb : ∀ (v1172 : BitVec 32) (k0_hw243 : k0_chk243 v1172), ∀ a, (k0_off1027 v1172) a + S1x16.size a ≤ S704x64.size a := fun v1172 k0_hw243 => k0_hw243.2.2.1
theorem k0_off1028_inb : ∀ (v1172 : BitVec 32) (k0_hw243 : k0_chk243 v1172), ∀ a, (k0_off1028 v1172) a + S1x16.size a ≤ S704x64.size a := fun v1172 k0_hw243 => k0_hw243.2.2.2

def k0_off1029 (v1193 : BitVec 32) : Fin 2 → Nat :=
  let v1194 : Index := Scalar.indexCast v1193
  let c0_345 : Index := 0#32
  ![v1194.toNat, 0]

def k0_off1030 (v1193 : BitVec 32) : Fin 2 → Nat :=
  let v1198 : Index := Scalar.indexCast v1193
  let c16_346 : Index := 16#32
  ![v1198.toNat, 16]
def k0_off1031 (v1193 : BitVec 32) : Fin 2 → Nat :=
  let v1202 : Index := Scalar.indexCast v1193
  let c32_347 : Index := 32#32
  ![v1202.toNat, 32]
def k0_off1032 (v1193 : BitVec 32) : Fin 2 → Nat :=
  let v1206 : Index := Scalar.indexCast v1193
  let c48_348 : Index := 48#32
  ![v1206.toNat, 48]

def k0_chk244 (v1193 : BitVec 32) : Prop :=
  (∀ a, (k0_off1029 v1193) a + S1x16.size a ≤ S704x64.size a) ∧
  (∀ a, (k0_off1030 v1193) a + S1x16.size a ≤ S704x64.size a) ∧
  (∀ a, (k0_off1031 v1193) a + S1x16.size a ≤ S704x64.size a) ∧
  (∀ a, (k0_off1032 v1193) a + S1x16.size a ≤ S704x64.size a)
theorem k0_off1029_inb : ∀ (v1193 : BitVec 32) (k0_hw244 : k0_chk244 v1193), ∀ a, (k0_off1029 v1193) a + S1x16.size a ≤ S704x64.size a := fun v1193 k0_hw244 => k0_hw244.1
theorem k0_off1030_inb : ∀ (v1193 : BitVec 32) (k0_hw244 : k0_chk244 v1193), ∀ a, (k0_off1030 v1193) a + S1x16.size a ≤ S704x64.size a := fun v1193 k0_hw244 => k0_hw244.2.1
theorem k0_off1031_inb : ∀ (v1193 : BitVec 32) (k0_hw244 : k0_chk244 v1193), ∀ a, (k0_off1031 v1193) a + S1x16.size a ≤ S704x64.size a := fun v1193 k0_hw244 => k0_hw244.2.2.1
theorem k0_off1032_inb : ∀ (v1193 : BitVec 32) (k0_hw244 : k0_chk244 v1193), ∀ a, (k0_off1032 v1193) a + S1x16.size a ≤ S704x64.size a := fun v1193 k0_hw244 => k0_hw244.2.2.2

def k0_off1033 (v1214 : BitVec 32) : Fin 2 → Nat :=
  let v1215 : Index := Scalar.indexCast v1214
  let c0_349 : Index := 0#32
  ![v1215.toNat, 0]

def k0_off1034 (v1214 : BitVec 32) : Fin 2 → Nat :=
  let v1219 : Index := Scalar.indexCast v1214
  let c16_350 : Index := 16#32
  ![v1219.toNat, 16]
def k0_off1035 (v1214 : BitVec 32) : Fin 2 → Nat :=
  let v1223 : Index := Scalar.indexCast v1214
  let c32_351 : Index := 32#32
  ![v1223.toNat, 32]
def k0_off1036 (v1214 : BitVec 32) : Fin 2 → Nat :=
  let v1227 : Index := Scalar.indexCast v1214
  let c48_352 : Index := 48#32
  ![v1227.toNat, 48]

def k0_chk245 (v1214 : BitVec 32) : Prop :=
  (∀ a, (k0_off1033 v1214) a + S1x16.size a ≤ S704x64.size a) ∧
  (∀ a, (k0_off1034 v1214) a + S1x16.size a ≤ S704x64.size a) ∧
  (∀ a, (k0_off1035 v1214) a + S1x16.size a ≤ S704x64.size a) ∧
  (∀ a, (k0_off1036 v1214) a + S1x16.size a ≤ S704x64.size a)
theorem k0_off1033_inb : ∀ (v1214 : BitVec 32) (k0_hw245 : k0_chk245 v1214), ∀ a, (k0_off1033 v1214) a + S1x16.size a ≤ S704x64.size a := fun v1214 k0_hw245 => k0_hw245.1
theorem k0_off1034_inb : ∀ (v1214 : BitVec 32) (k0_hw245 : k0_chk245 v1214), ∀ a, (k0_off1034 v1214) a + S1x16.size a ≤ S704x64.size a := fun v1214 k0_hw245 => k0_hw245.2.1
theorem k0_off1035_inb : ∀ (v1214 : BitVec 32) (k0_hw245 : k0_chk245 v1214), ∀ a, (k0_off1035 v1214) a + S1x16.size a ≤ S704x64.size a := fun v1214 k0_hw245 => k0_hw245.2.2.1
theorem k0_off1036_inb : ∀ (v1214 : BitVec 32) (k0_hw245 : k0_chk245 v1214), ∀ a, (k0_off1036 v1214) a + S1x16.size a ≤ S704x64.size a := fun v1214 k0_hw245 => k0_hw245.2.2.2

def k0_off1037 (v1235 : BitVec 32) : Fin 2 → Nat :=
  let v1236 : Index := Scalar.indexCast v1235
  let c0_353 : Index := 0#32
  ![v1236.toNat, 0]

def k0_off1038 (v1235 : BitVec 32) : Fin 2 → Nat :=
  let v1240 : Index := Scalar.indexCast v1235
  let c16_354 : Index := 16#32
  ![v1240.toNat, 16]
def k0_off1039 (v1235 : BitVec 32) : Fin 2 → Nat :=
  let v1244 : Index := Scalar.indexCast v1235
  let c32_355 : Index := 32#32
  ![v1244.toNat, 32]
def k0_off1040 (v1235 : BitVec 32) : Fin 2 → Nat :=
  let v1248 : Index := Scalar.indexCast v1235
  let c48_356 : Index := 48#32
  ![v1248.toNat, 48]

def k0_chk246 (v1235 : BitVec 32) : Prop :=
  (∀ a, (k0_off1037 v1235) a + S1x16.size a ≤ S704x64.size a) ∧
  (∀ a, (k0_off1038 v1235) a + S1x16.size a ≤ S704x64.size a) ∧
  (∀ a, (k0_off1039 v1235) a + S1x16.size a ≤ S704x64.size a) ∧
  (∀ a, (k0_off1040 v1235) a + S1x16.size a ≤ S704x64.size a)
theorem k0_off1037_inb : ∀ (v1235 : BitVec 32) (k0_hw246 : k0_chk246 v1235), ∀ a, (k0_off1037 v1235) a + S1x16.size a ≤ S704x64.size a := fun v1235 k0_hw246 => k0_hw246.1
theorem k0_off1038_inb : ∀ (v1235 : BitVec 32) (k0_hw246 : k0_chk246 v1235), ∀ a, (k0_off1038 v1235) a + S1x16.size a ≤ S704x64.size a := fun v1235 k0_hw246 => k0_hw246.2.1
theorem k0_off1039_inb : ∀ (v1235 : BitVec 32) (k0_hw246 : k0_chk246 v1235), ∀ a, (k0_off1039 v1235) a + S1x16.size a ≤ S704x64.size a := fun v1235 k0_hw246 => k0_hw246.2.2.1
theorem k0_off1040_inb : ∀ (v1235 : BitVec 32) (k0_hw246 : k0_chk246 v1235), ∀ a, (k0_off1040 v1235) a + S1x16.size a ≤ S704x64.size a := fun v1235 k0_hw246 => k0_hw246.2.2.2

def k0_off1041 (v1256 : BitVec 32) : Fin 2 → Nat :=
  let v1257 : Index := Scalar.indexCast v1256
  let c0_357 : Index := 0#32
  ![v1257.toNat, 0]

def k0_off1042 (v1256 : BitVec 32) : Fin 2 → Nat :=
  let v1261 : Index := Scalar.indexCast v1256
  let c16_358 : Index := 16#32
  ![v1261.toNat, 16]
def k0_off1043 (v1256 : BitVec 32) : Fin 2 → Nat :=
  let v1265 : Index := Scalar.indexCast v1256
  let c32_359 : Index := 32#32
  ![v1265.toNat, 32]
def k0_off1044 (v1256 : BitVec 32) : Fin 2 → Nat :=
  let v1269 : Index := Scalar.indexCast v1256
  let c48_360 : Index := 48#32
  ![v1269.toNat, 48]

def k0_chk247 (v1256 : BitVec 32) : Prop :=
  (∀ a, (k0_off1041 v1256) a + S1x16.size a ≤ S704x64.size a) ∧
  (∀ a, (k0_off1042 v1256) a + S1x16.size a ≤ S704x64.size a) ∧
  (∀ a, (k0_off1043 v1256) a + S1x16.size a ≤ S704x64.size a) ∧
  (∀ a, (k0_off1044 v1256) a + S1x16.size a ≤ S704x64.size a)
theorem k0_off1041_inb : ∀ (v1256 : BitVec 32) (k0_hw247 : k0_chk247 v1256), ∀ a, (k0_off1041 v1256) a + S1x16.size a ≤ S704x64.size a := fun v1256 k0_hw247 => k0_hw247.1
theorem k0_off1042_inb : ∀ (v1256 : BitVec 32) (k0_hw247 : k0_chk247 v1256), ∀ a, (k0_off1042 v1256) a + S1x16.size a ≤ S704x64.size a := fun v1256 k0_hw247 => k0_hw247.2.1
theorem k0_off1043_inb : ∀ (v1256 : BitVec 32) (k0_hw247 : k0_chk247 v1256), ∀ a, (k0_off1043 v1256) a + S1x16.size a ≤ S704x64.size a := fun v1256 k0_hw247 => k0_hw247.2.2.1
theorem k0_off1044_inb : ∀ (v1256 : BitVec 32) (k0_hw247 : k0_chk247 v1256), ∀ a, (k0_off1044 v1256) a + S1x16.size a ≤ S704x64.size a := fun v1256 k0_hw247 => k0_hw247.2.2.2

def k0_off1045 (v1277 : BitVec 32) : Fin 2 → Nat :=
  let v1278 : Index := Scalar.indexCast v1277
  let c0_361 : Index := 0#32
  ![v1278.toNat, 0]

def k0_off1046 (v1277 : BitVec 32) : Fin 2 → Nat :=
  let v1282 : Index := Scalar.indexCast v1277
  let c16_362 : Index := 16#32
  ![v1282.toNat, 16]
def k0_off1047 (v1277 : BitVec 32) : Fin 2 → Nat :=
  let v1286 : Index := Scalar.indexCast v1277
  let c32_363 : Index := 32#32
  ![v1286.toNat, 32]
def k0_off1048 (v1277 : BitVec 32) : Fin 2 → Nat :=
  let v1290 : Index := Scalar.indexCast v1277
  let c48_364 : Index := 48#32
  ![v1290.toNat, 48]

def k0_chk248 (v1277 : BitVec 32) : Prop :=
  (∀ a, (k0_off1045 v1277) a + S1x16.size a ≤ S704x64.size a) ∧
  (∀ a, (k0_off1046 v1277) a + S1x16.size a ≤ S704x64.size a) ∧
  (∀ a, (k0_off1047 v1277) a + S1x16.size a ≤ S704x64.size a) ∧
  (∀ a, (k0_off1048 v1277) a + S1x16.size a ≤ S704x64.size a)
theorem k0_off1045_inb : ∀ (v1277 : BitVec 32) (k0_hw248 : k0_chk248 v1277), ∀ a, (k0_off1045 v1277) a + S1x16.size a ≤ S704x64.size a := fun v1277 k0_hw248 => k0_hw248.1
theorem k0_off1046_inb : ∀ (v1277 : BitVec 32) (k0_hw248 : k0_chk248 v1277), ∀ a, (k0_off1046 v1277) a + S1x16.size a ≤ S704x64.size a := fun v1277 k0_hw248 => k0_hw248.2.1
theorem k0_off1047_inb : ∀ (v1277 : BitVec 32) (k0_hw248 : k0_chk248 v1277), ∀ a, (k0_off1047 v1277) a + S1x16.size a ≤ S704x64.size a := fun v1277 k0_hw248 => k0_hw248.2.2.1
theorem k0_off1048_inb : ∀ (v1277 : BitVec 32) (k0_hw248 : k0_chk248 v1277), ∀ a, (k0_off1048 v1277) a + S1x16.size a ≤ S704x64.size a := fun v1277 k0_hw248 => k0_hw248.2.2.2

def k0_off1049 (v1298 : BitVec 32) : Fin 2 → Nat :=
  let v1299 : Index := Scalar.indexCast v1298
  let c0_365 : Index := 0#32
  ![v1299.toNat, 0]

def k0_off1050 (v1298 : BitVec 32) : Fin 2 → Nat :=
  let v1303 : Index := Scalar.indexCast v1298
  let c16_366 : Index := 16#32
  ![v1303.toNat, 16]
def k0_off1051 (v1298 : BitVec 32) : Fin 2 → Nat :=
  let v1307 : Index := Scalar.indexCast v1298
  let c32_367 : Index := 32#32
  ![v1307.toNat, 32]
def k0_off1052 (v1298 : BitVec 32) : Fin 2 → Nat :=
  let v1311 : Index := Scalar.indexCast v1298
  let c48_368 : Index := 48#32
  ![v1311.toNat, 48]

def k0_chk249 (v1298 : BitVec 32) : Prop :=
  (∀ a, (k0_off1049 v1298) a + S1x16.size a ≤ S704x64.size a) ∧
  (∀ a, (k0_off1050 v1298) a + S1x16.size a ≤ S704x64.size a) ∧
  (∀ a, (k0_off1051 v1298) a + S1x16.size a ≤ S704x64.size a) ∧
  (∀ a, (k0_off1052 v1298) a + S1x16.size a ≤ S704x64.size a)
theorem k0_off1049_inb : ∀ (v1298 : BitVec 32) (k0_hw249 : k0_chk249 v1298), ∀ a, (k0_off1049 v1298) a + S1x16.size a ≤ S704x64.size a := fun v1298 k0_hw249 => k0_hw249.1
theorem k0_off1050_inb : ∀ (v1298 : BitVec 32) (k0_hw249 : k0_chk249 v1298), ∀ a, (k0_off1050 v1298) a + S1x16.size a ≤ S704x64.size a := fun v1298 k0_hw249 => k0_hw249.2.1
theorem k0_off1051_inb : ∀ (v1298 : BitVec 32) (k0_hw249 : k0_chk249 v1298), ∀ a, (k0_off1051 v1298) a + S1x16.size a ≤ S704x64.size a := fun v1298 k0_hw249 => k0_hw249.2.2.1
theorem k0_off1052_inb : ∀ (v1298 : BitVec 32) (k0_hw249 : k0_chk249 v1298), ∀ a, (k0_off1052 v1298) a + S1x16.size a ≤ S704x64.size a := fun v1298 k0_hw249 => k0_hw249.2.2.2

def k0_off1053 (v1319 : BitVec 32) : Fin 2 → Nat :=
  let v1320 : Index := Scalar.indexCast v1319
  let c0_369 : Index := 0#32
  ![v1320.toNat, 0]

def k0_off1054 (v1319 : BitVec 32) : Fin 2 → Nat :=
  let v1324 : Index := Scalar.indexCast v1319
  let c16_370 : Index := 16#32
  ![v1324.toNat, 16]
def k0_off1055 (v1319 : BitVec 32) : Fin 2 → Nat :=
  let v1328 : Index := Scalar.indexCast v1319
  let c32_371 : Index := 32#32
  ![v1328.toNat, 32]
def k0_off1056 (v1319 : BitVec 32) : Fin 2 → Nat :=
  let v1332 : Index := Scalar.indexCast v1319
  let c48_372 : Index := 48#32
  ![v1332.toNat, 48]

def k0_chk250 (v1319 : BitVec 32) : Prop :=
  (∀ a, (k0_off1053 v1319) a + S1x16.size a ≤ S704x64.size a) ∧
  (∀ a, (k0_off1054 v1319) a + S1x16.size a ≤ S704x64.size a) ∧
  (∀ a, (k0_off1055 v1319) a + S1x16.size a ≤ S704x64.size a) ∧
  (∀ a, (k0_off1056 v1319) a + S1x16.size a ≤ S704x64.size a)
theorem k0_off1053_inb : ∀ (v1319 : BitVec 32) (k0_hw250 : k0_chk250 v1319), ∀ a, (k0_off1053 v1319) a + S1x16.size a ≤ S704x64.size a := fun v1319 k0_hw250 => k0_hw250.1
theorem k0_off1054_inb : ∀ (v1319 : BitVec 32) (k0_hw250 : k0_chk250 v1319), ∀ a, (k0_off1054 v1319) a + S1x16.size a ≤ S704x64.size a := fun v1319 k0_hw250 => k0_hw250.2.1
theorem k0_off1055_inb : ∀ (v1319 : BitVec 32) (k0_hw250 : k0_chk250 v1319), ∀ a, (k0_off1055 v1319) a + S1x16.size a ≤ S704x64.size a := fun v1319 k0_hw250 => k0_hw250.2.2.1
theorem k0_off1056_inb : ∀ (v1319 : BitVec 32) (k0_hw250 : k0_chk250 v1319), ∀ a, (k0_off1056 v1319) a + S1x16.size a ≤ S704x64.size a := fun v1319 k0_hw250 => k0_hw250.2.2.2

def k0_off1057 (v1340 : BitVec 32) : Fin 2 → Nat :=
  let v1341 : Index := Scalar.indexCast v1340
  let c0_373 : Index := 0#32
  ![v1341.toNat, 0]

def k0_off1058 (v1340 : BitVec 32) : Fin 2 → Nat :=
  let v1345 : Index := Scalar.indexCast v1340
  let c16_374 : Index := 16#32
  ![v1345.toNat, 16]
def k0_off1059 (v1340 : BitVec 32) : Fin 2 → Nat :=
  let v1349 : Index := Scalar.indexCast v1340
  let c32_375 : Index := 32#32
  ![v1349.toNat, 32]
def k0_off1060 (v1340 : BitVec 32) : Fin 2 → Nat :=
  let v1353 : Index := Scalar.indexCast v1340
  let c48_376 : Index := 48#32
  ![v1353.toNat, 48]

def k0_chk251 (v1340 : BitVec 32) : Prop :=
  (∀ a, (k0_off1057 v1340) a + S1x16.size a ≤ S704x64.size a) ∧
  (∀ a, (k0_off1058 v1340) a + S1x16.size a ≤ S704x64.size a) ∧
  (∀ a, (k0_off1059 v1340) a + S1x16.size a ≤ S704x64.size a) ∧
  (∀ a, (k0_off1060 v1340) a + S1x16.size a ≤ S704x64.size a)
theorem k0_off1057_inb : ∀ (v1340 : BitVec 32) (k0_hw251 : k0_chk251 v1340), ∀ a, (k0_off1057 v1340) a + S1x16.size a ≤ S704x64.size a := fun v1340 k0_hw251 => k0_hw251.1
theorem k0_off1058_inb : ∀ (v1340 : BitVec 32) (k0_hw251 : k0_chk251 v1340), ∀ a, (k0_off1058 v1340) a + S1x16.size a ≤ S704x64.size a := fun v1340 k0_hw251 => k0_hw251.2.1
theorem k0_off1059_inb : ∀ (v1340 : BitVec 32) (k0_hw251 : k0_chk251 v1340), ∀ a, (k0_off1059 v1340) a + S1x16.size a ≤ S704x64.size a := fun v1340 k0_hw251 => k0_hw251.2.2.1
theorem k0_off1060_inb : ∀ (v1340 : BitVec 32) (k0_hw251 : k0_chk251 v1340), ∀ a, (k0_off1060 v1340) a + S1x16.size a ≤ S704x64.size a := fun v1340 k0_hw251 => k0_hw251.2.2.2

def k0_off1061 (v1361 : BitVec 32) : Fin 2 → Nat :=
  let v1362 : Index := Scalar.indexCast v1361
  let c0_377 : Index := 0#32
  ![v1362.toNat, 0]

def k0_off1062 (v1361 : BitVec 32) : Fin 2 → Nat :=
  let v1366 : Index := Scalar.indexCast v1361
  let c16_378 : Index := 16#32
  ![v1366.toNat, 16]
def k0_off1063 (v1361 : BitVec 32) : Fin 2 → Nat :=
  let v1370 : Index := Scalar.indexCast v1361
  let c32_379 : Index := 32#32
  ![v1370.toNat, 32]
def k0_off1064 (v1361 : BitVec 32) : Fin 2 → Nat :=
  let v1374 : Index := Scalar.indexCast v1361
  let c48_380 : Index := 48#32
  ![v1374.toNat, 48]

def k0_chk252 (v1361 : BitVec 32) : Prop :=
  (∀ a, (k0_off1061 v1361) a + S1x16.size a ≤ S704x64.size a) ∧
  (∀ a, (k0_off1062 v1361) a + S1x16.size a ≤ S704x64.size a) ∧
  (∀ a, (k0_off1063 v1361) a + S1x16.size a ≤ S704x64.size a) ∧
  (∀ a, (k0_off1064 v1361) a + S1x16.size a ≤ S704x64.size a)
theorem k0_off1061_inb : ∀ (v1361 : BitVec 32) (k0_hw252 : k0_chk252 v1361), ∀ a, (k0_off1061 v1361) a + S1x16.size a ≤ S704x64.size a := fun v1361 k0_hw252 => k0_hw252.1
theorem k0_off1062_inb : ∀ (v1361 : BitVec 32) (k0_hw252 : k0_chk252 v1361), ∀ a, (k0_off1062 v1361) a + S1x16.size a ≤ S704x64.size a := fun v1361 k0_hw252 => k0_hw252.2.1
theorem k0_off1063_inb : ∀ (v1361 : BitVec 32) (k0_hw252 : k0_chk252 v1361), ∀ a, (k0_off1063 v1361) a + S1x16.size a ≤ S704x64.size a := fun v1361 k0_hw252 => k0_hw252.2.2.1
theorem k0_off1064_inb : ∀ (v1361 : BitVec 32) (k0_hw252 : k0_chk252 v1361), ∀ a, (k0_off1064 v1361) a + S1x16.size a ≤ S704x64.size a := fun v1361 k0_hw252 => k0_hw252.2.2.2

def k0_off1065 (v1382 : BitVec 32) : Fin 2 → Nat :=
  let v1383 : Index := Scalar.indexCast v1382
  let c0_381 : Index := 0#32
  ![v1383.toNat, 0]

def k0_off1066 (v1382 : BitVec 32) : Fin 2 → Nat :=
  let v1387 : Index := Scalar.indexCast v1382
  let c16_382 : Index := 16#32
  ![v1387.toNat, 16]
def k0_off1067 (v1382 : BitVec 32) : Fin 2 → Nat :=
  let v1391 : Index := Scalar.indexCast v1382
  let c32_383 : Index := 32#32
  ![v1391.toNat, 32]
def k0_off1068 (v1382 : BitVec 32) : Fin 2 → Nat :=
  let v1395 : Index := Scalar.indexCast v1382
  let c48_384 : Index := 48#32
  ![v1395.toNat, 48]

def k0_chk253 (v1382 : BitVec 32) : Prop :=
  (∀ a, (k0_off1065 v1382) a + S1x16.size a ≤ S704x64.size a) ∧
  (∀ a, (k0_off1066 v1382) a + S1x16.size a ≤ S704x64.size a) ∧
  (∀ a, (k0_off1067 v1382) a + S1x16.size a ≤ S704x64.size a) ∧
  (∀ a, (k0_off1068 v1382) a + S1x16.size a ≤ S704x64.size a)
theorem k0_off1065_inb : ∀ (v1382 : BitVec 32) (k0_hw253 : k0_chk253 v1382), ∀ a, (k0_off1065 v1382) a + S1x16.size a ≤ S704x64.size a := fun v1382 k0_hw253 => k0_hw253.1
theorem k0_off1066_inb : ∀ (v1382 : BitVec 32) (k0_hw253 : k0_chk253 v1382), ∀ a, (k0_off1066 v1382) a + S1x16.size a ≤ S704x64.size a := fun v1382 k0_hw253 => k0_hw253.2.1
theorem k0_off1067_inb : ∀ (v1382 : BitVec 32) (k0_hw253 : k0_chk253 v1382), ∀ a, (k0_off1067 v1382) a + S1x16.size a ≤ S704x64.size a := fun v1382 k0_hw253 => k0_hw253.2.2.1
theorem k0_off1068_inb : ∀ (v1382 : BitVec 32) (k0_hw253 : k0_chk253 v1382), ∀ a, (k0_off1068 v1382) a + S1x16.size a ≤ S704x64.size a := fun v1382 k0_hw253 => k0_hw253.2.2.2

def k0_off1069 (v1403 : BitVec 32) : Fin 2 → Nat :=
  let v1404 : Index := Scalar.indexCast v1403
  let c0_385 : Index := 0#32
  ![v1404.toNat, 0]

def k0_off1070 (v1403 : BitVec 32) : Fin 2 → Nat :=
  let v1408 : Index := Scalar.indexCast v1403
  let c16_386 : Index := 16#32
  ![v1408.toNat, 16]
def k0_off1071 (v1403 : BitVec 32) : Fin 2 → Nat :=
  let v1412 : Index := Scalar.indexCast v1403
  let c32_387 : Index := 32#32
  ![v1412.toNat, 32]
def k0_off1072 (v1403 : BitVec 32) : Fin 2 → Nat :=
  let v1416 : Index := Scalar.indexCast v1403
  let c48_388 : Index := 48#32
  ![v1416.toNat, 48]

def k0_chk254 (v1403 : BitVec 32) : Prop :=
  (∀ a, (k0_off1069 v1403) a + S1x16.size a ≤ S704x64.size a) ∧
  (∀ a, (k0_off1070 v1403) a + S1x16.size a ≤ S704x64.size a) ∧
  (∀ a, (k0_off1071 v1403) a + S1x16.size a ≤ S704x64.size a) ∧
  (∀ a, (k0_off1072 v1403) a + S1x16.size a ≤ S704x64.size a)
theorem k0_off1069_inb : ∀ (v1403 : BitVec 32) (k0_hw254 : k0_chk254 v1403), ∀ a, (k0_off1069 v1403) a + S1x16.size a ≤ S704x64.size a := fun v1403 k0_hw254 => k0_hw254.1
theorem k0_off1070_inb : ∀ (v1403 : BitVec 32) (k0_hw254 : k0_chk254 v1403), ∀ a, (k0_off1070 v1403) a + S1x16.size a ≤ S704x64.size a := fun v1403 k0_hw254 => k0_hw254.2.1
theorem k0_off1071_inb : ∀ (v1403 : BitVec 32) (k0_hw254 : k0_chk254 v1403), ∀ a, (k0_off1071 v1403) a + S1x16.size a ≤ S704x64.size a := fun v1403 k0_hw254 => k0_hw254.2.2.1
theorem k0_off1072_inb : ∀ (v1403 : BitVec 32) (k0_hw254 : k0_chk254 v1403), ∀ a, (k0_off1072 v1403) a + S1x16.size a ≤ S704x64.size a := fun v1403 k0_hw254 => k0_hw254.2.2.2

def k0_off1073 (v1424 : BitVec 32) : Fin 2 → Nat :=
  let v1425 : Index := Scalar.indexCast v1424
  let c0_389 : Index := 0#32
  ![v1425.toNat, 0]

def k0_off1074 (v1424 : BitVec 32) : Fin 2 → Nat :=
  let v1429 : Index := Scalar.indexCast v1424
  let c16_390 : Index := 16#32
  ![v1429.toNat, 16]
def k0_off1075 (v1424 : BitVec 32) : Fin 2 → Nat :=
  let v1433 : Index := Scalar.indexCast v1424
  let c32_391 : Index := 32#32
  ![v1433.toNat, 32]
def k0_off1076 (v1424 : BitVec 32) : Fin 2 → Nat :=
  let v1437 : Index := Scalar.indexCast v1424
  let c48_392 : Index := 48#32
  ![v1437.toNat, 48]

def k0_chk255 (v1424 : BitVec 32) : Prop :=
  (∀ a, (k0_off1073 v1424) a + S1x16.size a ≤ S704x64.size a) ∧
  (∀ a, (k0_off1074 v1424) a + S1x16.size a ≤ S704x64.size a) ∧
  (∀ a, (k0_off1075 v1424) a + S1x16.size a ≤ S704x64.size a) ∧
  (∀ a, (k0_off1076 v1424) a + S1x16.size a ≤ S704x64.size a)
theorem k0_off1073_inb : ∀ (v1424 : BitVec 32) (k0_hw255 : k0_chk255 v1424), ∀ a, (k0_off1073 v1424) a + S1x16.size a ≤ S704x64.size a := fun v1424 k0_hw255 => k0_hw255.1
theorem k0_off1074_inb : ∀ (v1424 : BitVec 32) (k0_hw255 : k0_chk255 v1424), ∀ a, (k0_off1074 v1424) a + S1x16.size a ≤ S704x64.size a := fun v1424 k0_hw255 => k0_hw255.2.1
theorem k0_off1075_inb : ∀ (v1424 : BitVec 32) (k0_hw255 : k0_chk255 v1424), ∀ a, (k0_off1075 v1424) a + S1x16.size a ≤ S704x64.size a := fun v1424 k0_hw255 => k0_hw255.2.2.1
theorem k0_off1076_inb : ∀ (v1424 : BitVec 32) (k0_hw255 : k0_chk255 v1424), ∀ a, (k0_off1076 v1424) a + S1x16.size a ≤ S704x64.size a := fun v1424 k0_hw255 => k0_hw255.2.2.2

def k0_off1077 (v1445 : BitVec 32) : Fin 2 → Nat :=
  let v1446 : Index := Scalar.indexCast v1445
  let c0_393 : Index := 0#32
  ![v1446.toNat, 0]

def k0_off1078 (v1445 : BitVec 32) : Fin 2 → Nat :=
  let v1450 : Index := Scalar.indexCast v1445
  let c16_394 : Index := 16#32
  ![v1450.toNat, 16]
def k0_off1079 (v1445 : BitVec 32) : Fin 2 → Nat :=
  let v1454 : Index := Scalar.indexCast v1445
  let c32_395 : Index := 32#32
  ![v1454.toNat, 32]
def k0_off1080 (v1445 : BitVec 32) : Fin 2 → Nat :=
  let v1458 : Index := Scalar.indexCast v1445
  let c48_396 : Index := 48#32
  ![v1458.toNat, 48]

def k0_chk256 (v1445 : BitVec 32) : Prop :=
  (∀ a, (k0_off1077 v1445) a + S1x16.size a ≤ S704x64.size a) ∧
  (∀ a, (k0_off1078 v1445) a + S1x16.size a ≤ S704x64.size a) ∧
  (∀ a, (k0_off1079 v1445) a + S1x16.size a ≤ S704x64.size a) ∧
  (∀ a, (k0_off1080 v1445) a + S1x16.size a ≤ S704x64.size a)
theorem k0_off1077_inb : ∀ (v1445 : BitVec 32) (k0_hw256 : k0_chk256 v1445), ∀ a, (k0_off1077 v1445) a + S1x16.size a ≤ S704x64.size a := fun v1445 k0_hw256 => k0_hw256.1
theorem k0_off1078_inb : ∀ (v1445 : BitVec 32) (k0_hw256 : k0_chk256 v1445), ∀ a, (k0_off1078 v1445) a + S1x16.size a ≤ S704x64.size a := fun v1445 k0_hw256 => k0_hw256.2.1
theorem k0_off1079_inb : ∀ (v1445 : BitVec 32) (k0_hw256 : k0_chk256 v1445), ∀ a, (k0_off1079 v1445) a + S1x16.size a ≤ S704x64.size a := fun v1445 k0_hw256 => k0_hw256.2.2.1
theorem k0_off1080_inb : ∀ (v1445 : BitVec 32) (k0_hw256 : k0_chk256 v1445), ∀ a, (k0_off1080 v1445) a + S1x16.size a ≤ S704x64.size a := fun v1445 k0_hw256 => k0_hw256.2.2.2

def k0_off1081 (v1466 : BitVec 32) : Fin 2 → Nat :=
  let v1467 : Index := Scalar.indexCast v1466
  let c0_397 : Index := 0#32
  ![v1467.toNat, 0]

def k0_off1082 (v1466 : BitVec 32) : Fin 2 → Nat :=
  let v1471 : Index := Scalar.indexCast v1466
  let c16_398 : Index := 16#32
  ![v1471.toNat, 16]
def k0_off1083 (v1466 : BitVec 32) : Fin 2 → Nat :=
  let v1475 : Index := Scalar.indexCast v1466
  let c32_399 : Index := 32#32
  ![v1475.toNat, 32]
def k0_off1084 (v1466 : BitVec 32) : Fin 2 → Nat :=
  let v1479 : Index := Scalar.indexCast v1466
  let c48_400 : Index := 48#32
  ![v1479.toNat, 48]

def k0_chk257 (v1466 : BitVec 32) : Prop :=
  (∀ a, (k0_off1081 v1466) a + S1x16.size a ≤ S704x64.size a) ∧
  (∀ a, (k0_off1082 v1466) a + S1x16.size a ≤ S704x64.size a) ∧
  (∀ a, (k0_off1083 v1466) a + S1x16.size a ≤ S704x64.size a) ∧
  (∀ a, (k0_off1084 v1466) a + S1x16.size a ≤ S704x64.size a)
theorem k0_off1081_inb : ∀ (v1466 : BitVec 32) (k0_hw257 : k0_chk257 v1466), ∀ a, (k0_off1081 v1466) a + S1x16.size a ≤ S704x64.size a := fun v1466 k0_hw257 => k0_hw257.1
theorem k0_off1082_inb : ∀ (v1466 : BitVec 32) (k0_hw257 : k0_chk257 v1466), ∀ a, (k0_off1082 v1466) a + S1x16.size a ≤ S704x64.size a := fun v1466 k0_hw257 => k0_hw257.2.1
theorem k0_off1083_inb : ∀ (v1466 : BitVec 32) (k0_hw257 : k0_chk257 v1466), ∀ a, (k0_off1083 v1466) a + S1x16.size a ≤ S704x64.size a := fun v1466 k0_hw257 => k0_hw257.2.2.1
theorem k0_off1084_inb : ∀ (v1466 : BitVec 32) (k0_hw257 : k0_chk257 v1466), ∀ a, (k0_off1084 v1466) a + S1x16.size a ≤ S704x64.size a := fun v1466 k0_hw257 => k0_hw257.2.2.2

def k0_off1085 (v1487 : BitVec 32) : Fin 2 → Nat :=
  let v1488 : Index := Scalar.indexCast v1487
  let c0_401 : Index := 0#32
  ![v1488.toNat, 0]

def k0_off1086 (v1487 : BitVec 32) : Fin 2 → Nat :=
  let v1492 : Index := Scalar.indexCast v1487
  let c16_402 : Index := 16#32
  ![v1492.toNat, 16]
def k0_off1087 (v1487 : BitVec 32) : Fin 2 → Nat :=
  let v1496 : Index := Scalar.indexCast v1487
  let c32_403 : Index := 32#32
  ![v1496.toNat, 32]
def k0_off1088 (v1487 : BitVec 32) : Fin 2 → Nat :=
  let v1500 : Index := Scalar.indexCast v1487
  let c48_404 : Index := 48#32
  ![v1500.toNat, 48]

def k0_chk258 (v1487 : BitVec 32) : Prop :=
  (∀ a, (k0_off1085 v1487) a + S1x16.size a ≤ S704x64.size a) ∧
  (∀ a, (k0_off1086 v1487) a + S1x16.size a ≤ S704x64.size a) ∧
  (∀ a, (k0_off1087 v1487) a + S1x16.size a ≤ S704x64.size a) ∧
  (∀ a, (k0_off1088 v1487) a + S1x16.size a ≤ S704x64.size a)
theorem k0_off1085_inb : ∀ (v1487 : BitVec 32) (k0_hw258 : k0_chk258 v1487), ∀ a, (k0_off1085 v1487) a + S1x16.size a ≤ S704x64.size a := fun v1487 k0_hw258 => k0_hw258.1
theorem k0_off1086_inb : ∀ (v1487 : BitVec 32) (k0_hw258 : k0_chk258 v1487), ∀ a, (k0_off1086 v1487) a + S1x16.size a ≤ S704x64.size a := fun v1487 k0_hw258 => k0_hw258.2.1
theorem k0_off1087_inb : ∀ (v1487 : BitVec 32) (k0_hw258 : k0_chk258 v1487), ∀ a, (k0_off1087 v1487) a + S1x16.size a ≤ S704x64.size a := fun v1487 k0_hw258 => k0_hw258.2.2.1
theorem k0_off1088_inb : ∀ (v1487 : BitVec 32) (k0_hw258 : k0_chk258 v1487), ∀ a, (k0_off1088 v1487) a + S1x16.size a ≤ S704x64.size a := fun v1487 k0_hw258 => k0_hw258.2.2.2

def k0_off1089 (v1508 : BitVec 32) : Fin 2 → Nat :=
  let v1509 : Index := Scalar.indexCast v1508
  let c0_405 : Index := 0#32
  ![v1509.toNat, 0]

def k0_off1090 (v1508 : BitVec 32) : Fin 2 → Nat :=
  let v1513 : Index := Scalar.indexCast v1508
  let c16_406 : Index := 16#32
  ![v1513.toNat, 16]
def k0_off1091 (v1508 : BitVec 32) : Fin 2 → Nat :=
  let v1517 : Index := Scalar.indexCast v1508
  let c32_407 : Index := 32#32
  ![v1517.toNat, 32]
def k0_off1092 (v1508 : BitVec 32) : Fin 2 → Nat :=
  let v1521 : Index := Scalar.indexCast v1508
  let c48_408 : Index := 48#32
  ![v1521.toNat, 48]

def k0_chk259 (v1508 : BitVec 32) : Prop :=
  (∀ a, (k0_off1089 v1508) a + S1x16.size a ≤ S704x64.size a) ∧
  (∀ a, (k0_off1090 v1508) a + S1x16.size a ≤ S704x64.size a) ∧
  (∀ a, (k0_off1091 v1508) a + S1x16.size a ≤ S704x64.size a) ∧
  (∀ a, (k0_off1092 v1508) a + S1x16.size a ≤ S704x64.size a)
theorem k0_off1089_inb : ∀ (v1508 : BitVec 32) (k0_hw259 : k0_chk259 v1508), ∀ a, (k0_off1089 v1508) a + S1x16.size a ≤ S704x64.size a := fun v1508 k0_hw259 => k0_hw259.1
theorem k0_off1090_inb : ∀ (v1508 : BitVec 32) (k0_hw259 : k0_chk259 v1508), ∀ a, (k0_off1090 v1508) a + S1x16.size a ≤ S704x64.size a := fun v1508 k0_hw259 => k0_hw259.2.1
theorem k0_off1091_inb : ∀ (v1508 : BitVec 32) (k0_hw259 : k0_chk259 v1508), ∀ a, (k0_off1091 v1508) a + S1x16.size a ≤ S704x64.size a := fun v1508 k0_hw259 => k0_hw259.2.2.1
theorem k0_off1092_inb : ∀ (v1508 : BitVec 32) (k0_hw259 : k0_chk259 v1508), ∀ a, (k0_off1092 v1508) a + S1x16.size a ≤ S704x64.size a := fun v1508 k0_hw259 => k0_hw259.2.2.2

def k0_off1093 (v1529 : BitVec 32) : Fin 2 → Nat :=
  let v1530 : Index := Scalar.indexCast v1529
  let c0_409 : Index := 0#32
  ![v1530.toNat, 0]

def k0_off1094 (v1529 : BitVec 32) : Fin 2 → Nat :=
  let v1534 : Index := Scalar.indexCast v1529
  let c16_410 : Index := 16#32
  ![v1534.toNat, 16]
def k0_off1095 (v1529 : BitVec 32) : Fin 2 → Nat :=
  let v1538 : Index := Scalar.indexCast v1529
  let c32_411 : Index := 32#32
  ![v1538.toNat, 32]
def k0_off1096 (v1529 : BitVec 32) : Fin 2 → Nat :=
  let v1542 : Index := Scalar.indexCast v1529
  let c48_412 : Index := 48#32
  ![v1542.toNat, 48]

def k0_chk260 (v1529 : BitVec 32) : Prop :=
  (∀ a, (k0_off1093 v1529) a + S1x16.size a ≤ S704x64.size a) ∧
  (∀ a, (k0_off1094 v1529) a + S1x16.size a ≤ S704x64.size a) ∧
  (∀ a, (k0_off1095 v1529) a + S1x16.size a ≤ S704x64.size a) ∧
  (∀ a, (k0_off1096 v1529) a + S1x16.size a ≤ S704x64.size a)
theorem k0_off1093_inb : ∀ (v1529 : BitVec 32) (k0_hw260 : k0_chk260 v1529), ∀ a, (k0_off1093 v1529) a + S1x16.size a ≤ S704x64.size a := fun v1529 k0_hw260 => k0_hw260.1
theorem k0_off1094_inb : ∀ (v1529 : BitVec 32) (k0_hw260 : k0_chk260 v1529), ∀ a, (k0_off1094 v1529) a + S1x16.size a ≤ S704x64.size a := fun v1529 k0_hw260 => k0_hw260.2.1
theorem k0_off1095_inb : ∀ (v1529 : BitVec 32) (k0_hw260 : k0_chk260 v1529), ∀ a, (k0_off1095 v1529) a + S1x16.size a ≤ S704x64.size a := fun v1529 k0_hw260 => k0_hw260.2.2.1
theorem k0_off1096_inb : ∀ (v1529 : BitVec 32) (k0_hw260 : k0_chk260 v1529), ∀ a, (k0_off1096 v1529) a + S1x16.size a ≤ S704x64.size a := fun v1529 k0_hw260 => k0_hw260.2.2.2

def k0_off1097 (v1550 : BitVec 32) : Fin 2 → Nat :=
  let v1551 : Index := Scalar.indexCast v1550
  let c0_413 : Index := 0#32
  ![v1551.toNat, 0]

def k0_off1098 (v1550 : BitVec 32) : Fin 2 → Nat :=
  let v1555 : Index := Scalar.indexCast v1550
  let c16_414 : Index := 16#32
  ![v1555.toNat, 16]
def k0_off1099 (v1550 : BitVec 32) : Fin 2 → Nat :=
  let v1559 : Index := Scalar.indexCast v1550
  let c32_415 : Index := 32#32
  ![v1559.toNat, 32]
def k0_off1100 (v1550 : BitVec 32) : Fin 2 → Nat :=
  let v1563 : Index := Scalar.indexCast v1550
  let c48_416 : Index := 48#32
  ![v1563.toNat, 48]

def k0_chk261 (v1550 : BitVec 32) : Prop :=
  (∀ a, (k0_off1097 v1550) a + S1x16.size a ≤ S704x64.size a) ∧
  (∀ a, (k0_off1098 v1550) a + S1x16.size a ≤ S704x64.size a) ∧
  (∀ a, (k0_off1099 v1550) a + S1x16.size a ≤ S704x64.size a) ∧
  (∀ a, (k0_off1100 v1550) a + S1x16.size a ≤ S704x64.size a)
theorem k0_off1097_inb : ∀ (v1550 : BitVec 32) (k0_hw261 : k0_chk261 v1550), ∀ a, (k0_off1097 v1550) a + S1x16.size a ≤ S704x64.size a := fun v1550 k0_hw261 => k0_hw261.1
theorem k0_off1098_inb : ∀ (v1550 : BitVec 32) (k0_hw261 : k0_chk261 v1550), ∀ a, (k0_off1098 v1550) a + S1x16.size a ≤ S704x64.size a := fun v1550 k0_hw261 => k0_hw261.2.1
theorem k0_off1099_inb : ∀ (v1550 : BitVec 32) (k0_hw261 : k0_chk261 v1550), ∀ a, (k0_off1099 v1550) a + S1x16.size a ≤ S704x64.size a := fun v1550 k0_hw261 => k0_hw261.2.2.1
theorem k0_off1100_inb : ∀ (v1550 : BitVec 32) (k0_hw261 : k0_chk261 v1550), ∀ a, (k0_off1100 v1550) a + S1x16.size a ≤ S704x64.size a := fun v1550 k0_hw261 => k0_hw261.2.2.2

def k0_off1101 (v1571 : BitVec 32) : Fin 2 → Nat :=
  let v1572 : Index := Scalar.indexCast v1571
  let c0_417 : Index := 0#32
  ![v1572.toNat, 0]

def k0_off1102 (v1571 : BitVec 32) : Fin 2 → Nat :=
  let v1576 : Index := Scalar.indexCast v1571
  let c16_418 : Index := 16#32
  ![v1576.toNat, 16]
def k0_off1103 (v1571 : BitVec 32) : Fin 2 → Nat :=
  let v1580 : Index := Scalar.indexCast v1571
  let c32_419 : Index := 32#32
  ![v1580.toNat, 32]
def k0_off1104 (v1571 : BitVec 32) : Fin 2 → Nat :=
  let v1584 : Index := Scalar.indexCast v1571
  let c48_420 : Index := 48#32
  ![v1584.toNat, 48]

def k0_chk262 (v1571 : BitVec 32) : Prop :=
  (∀ a, (k0_off1101 v1571) a + S1x16.size a ≤ S704x64.size a) ∧
  (∀ a, (k0_off1102 v1571) a + S1x16.size a ≤ S704x64.size a) ∧
  (∀ a, (k0_off1103 v1571) a + S1x16.size a ≤ S704x64.size a) ∧
  (∀ a, (k0_off1104 v1571) a + S1x16.size a ≤ S704x64.size a)
theorem k0_off1101_inb : ∀ (v1571 : BitVec 32) (k0_hw262 : k0_chk262 v1571), ∀ a, (k0_off1101 v1571) a + S1x16.size a ≤ S704x64.size a := fun v1571 k0_hw262 => k0_hw262.1
theorem k0_off1102_inb : ∀ (v1571 : BitVec 32) (k0_hw262 : k0_chk262 v1571), ∀ a, (k0_off1102 v1571) a + S1x16.size a ≤ S704x64.size a := fun v1571 k0_hw262 => k0_hw262.2.1
theorem k0_off1103_inb : ∀ (v1571 : BitVec 32) (k0_hw262 : k0_chk262 v1571), ∀ a, (k0_off1103 v1571) a + S1x16.size a ≤ S704x64.size a := fun v1571 k0_hw262 => k0_hw262.2.2.1
theorem k0_off1104_inb : ∀ (v1571 : BitVec 32) (k0_hw262 : k0_chk262 v1571), ∀ a, (k0_off1104 v1571) a + S1x16.size a ≤ S704x64.size a := fun v1571 k0_hw262 => k0_hw262.2.2.2

def k0_off1105 (v1592 : BitVec 32) : Fin 2 → Nat :=
  let v1593 : Index := Scalar.indexCast v1592
  let c0_421 : Index := 0#32
  ![v1593.toNat, 0]

def k0_off1106 (v1592 : BitVec 32) : Fin 2 → Nat :=
  let v1597 : Index := Scalar.indexCast v1592
  let c16_422 : Index := 16#32
  ![v1597.toNat, 16]
def k0_off1107 (v1592 : BitVec 32) : Fin 2 → Nat :=
  let v1601 : Index := Scalar.indexCast v1592
  let c32_423 : Index := 32#32
  ![v1601.toNat, 32]
def k0_off1108 (v1592 : BitVec 32) : Fin 2 → Nat :=
  let v1605 : Index := Scalar.indexCast v1592
  let c48_424 : Index := 48#32
  ![v1605.toNat, 48]

def k0_chk263 (v1592 : BitVec 32) : Prop :=
  (∀ a, (k0_off1105 v1592) a + S1x16.size a ≤ S704x64.size a) ∧
  (∀ a, (k0_off1106 v1592) a + S1x16.size a ≤ S704x64.size a) ∧
  (∀ a, (k0_off1107 v1592) a + S1x16.size a ≤ S704x64.size a) ∧
  (∀ a, (k0_off1108 v1592) a + S1x16.size a ≤ S704x64.size a)
theorem k0_off1105_inb : ∀ (v1592 : BitVec 32) (k0_hw263 : k0_chk263 v1592), ∀ a, (k0_off1105 v1592) a + S1x16.size a ≤ S704x64.size a := fun v1592 k0_hw263 => k0_hw263.1
theorem k0_off1106_inb : ∀ (v1592 : BitVec 32) (k0_hw263 : k0_chk263 v1592), ∀ a, (k0_off1106 v1592) a + S1x16.size a ≤ S704x64.size a := fun v1592 k0_hw263 => k0_hw263.2.1
theorem k0_off1107_inb : ∀ (v1592 : BitVec 32) (k0_hw263 : k0_chk263 v1592), ∀ a, (k0_off1107 v1592) a + S1x16.size a ≤ S704x64.size a := fun v1592 k0_hw263 => k0_hw263.2.2.1
theorem k0_off1108_inb : ∀ (v1592 : BitVec 32) (k0_hw263 : k0_chk263 v1592), ∀ a, (k0_off1108 v1592) a + S1x16.size a ≤ S704x64.size a := fun v1592 k0_hw263 => k0_hw263.2.2.2

def k0_off1109 (v1613 : BitVec 32) : Fin 2 → Nat :=
  let v1614 : Index := Scalar.indexCast v1613
  let c0_425 : Index := 0#32
  ![v1614.toNat, 0]

def k0_off1110 (v1613 : BitVec 32) : Fin 2 → Nat :=
  let v1618 : Index := Scalar.indexCast v1613
  let c16_426 : Index := 16#32
  ![v1618.toNat, 16]
def k0_off1111 (v1613 : BitVec 32) : Fin 2 → Nat :=
  let v1622 : Index := Scalar.indexCast v1613
  let c32_427 : Index := 32#32
  ![v1622.toNat, 32]
def k0_off1112 (v1613 : BitVec 32) : Fin 2 → Nat :=
  let v1626 : Index := Scalar.indexCast v1613
  let c48_428 : Index := 48#32
  ![v1626.toNat, 48]

def k0_chk264 (v1613 : BitVec 32) : Prop :=
  (∀ a, (k0_off1109 v1613) a + S1x16.size a ≤ S704x64.size a) ∧
  (∀ a, (k0_off1110 v1613) a + S1x16.size a ≤ S704x64.size a) ∧
  (∀ a, (k0_off1111 v1613) a + S1x16.size a ≤ S704x64.size a) ∧
  (∀ a, (k0_off1112 v1613) a + S1x16.size a ≤ S704x64.size a)
theorem k0_off1109_inb : ∀ (v1613 : BitVec 32) (k0_hw264 : k0_chk264 v1613), ∀ a, (k0_off1109 v1613) a + S1x16.size a ≤ S704x64.size a := fun v1613 k0_hw264 => k0_hw264.1
theorem k0_off1110_inb : ∀ (v1613 : BitVec 32) (k0_hw264 : k0_chk264 v1613), ∀ a, (k0_off1110 v1613) a + S1x16.size a ≤ S704x64.size a := fun v1613 k0_hw264 => k0_hw264.2.1
theorem k0_off1111_inb : ∀ (v1613 : BitVec 32) (k0_hw264 : k0_chk264 v1613), ∀ a, (k0_off1111 v1613) a + S1x16.size a ≤ S704x64.size a := fun v1613 k0_hw264 => k0_hw264.2.2.1
theorem k0_off1112_inb : ∀ (v1613 : BitVec 32) (k0_hw264 : k0_chk264 v1613), ∀ a, (k0_off1112 v1613) a + S1x16.size a ≤ S704x64.size a := fun v1613 k0_hw264 => k0_hw264.2.2.2

def k0_off1113 (k0_t4 : Fin k0_t4_loop.trips) : Fin 2 → Nat :=
  let c2_i32_144 : BitVec 32 := 2#32
  let c0_i32_77 : BitVec 32 := 0#32
  let c1_i32_79 : BitVec 32 := 1#32
  let arg13 : BitVec 32 := Scf.iv c0_i32_77 c1_i32_79 k0_t4
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off1114 (k0_t4 : Fin k0_t4_loop.trips) : Fin 2 → Nat :=
  let c2_i32_144 : BitVec 32 := 2#32
  let c0_i32_77 : BitVec 32 := 0#32
  let c1_i32_79 : BitVec 32 := 1#32
  let arg13 : BitVec 32 := Scf.iv c0_i32_77 c1_i32_79 k0_t4
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off1115 (k0_t4 : Fin k0_t4_loop.trips) : Fin 2 → Nat :=
  let c2_i32_144 : BitVec 32 := 2#32
  let c0_i32_77 : BitVec 32 := 0#32
  let c1_i32_79 : BitVec 32 := 1#32
  let arg13 : BitVec 32 := Scf.iv c0_i32_77 c1_i32_79 k0_t4
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off1116 (k0_t4 : Fin k0_t4_loop.trips) : Fin 2 → Nat :=
  let c2_i32_144 : BitVec 32 := 2#32
  let c0_i32_77 : BitVec 32 := 0#32
  let c1_i32_79 : BitVec 32 := 1#32
  let arg13 : BitVec 32 := Scf.iv c0_i32_77 c1_i32_79 k0_t4
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_82 : BitVec 32 := 8#32
  let v120 : BitVec 32 := Scalar.muli v28 c8_i32_82
  let c4_i32_83 : BitVec 32 := 4#32
  let v121 : BitVec 32 := Scalar.addi v120 c4_i32_83
  let c128_i32_84 : BitVec 32 := 128#32
  let v122 : BitVec 32 := Scalar.muli v121 c128_i32_84
  v122
def k0_mult11 (i : grid0.Coords) : BitVec 32 :=
  let c1344_i32_91 : BitVec 32 := 1344#32
  let c0_i32_90 : BitVec 32 := 0#32
  let c0_i32_88 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_86 : BitVec 32 := 8#32
  let v127 : BitVec 32 := Scalar.muli v28 c8_i32_86
  let c5_i32 : BitVec 32 := 5#32
  let v128 : BitVec 32 := Scalar.addi v127 c5_i32
  let c128_i32_87 : BitVec 32 := 128#32
  let v129 : BitVec 32 := Scalar.muli v128 c128_i32_87
  let v130 : BitVec 32 := Scalar.addi c0_i32_88 v129
  let c288_i32_89 : BitVec 32 := 288#32
  let v131 : BitVec 32 := Scalar.subi v130 c288_i32_89
  let v132 : BitVec 32 := Scalar.maxsi c0_i32_90 v131
  let v133 : BitVec 32 := Scalar.minsi c1344_i32_91 v132
  v133
@[reducible] def k0_t5_loop : Scf.Loop 32 :=
  let c0_i32_94 : BitVec 32 := 0#32
  let c64_i32_95 : BitVec 32 := 64#32
  let v138 : BitVec 32 := Scalar.addi c0_i32_94 c64_i32_95
  let c1_i32_96 : BitVec 32 := 1#32
  ⟨c0_i32_94, v138, c1_i32_96⟩
def k0_off1117 (k0_t5 : Fin k0_t5_loop.trips) : Fin 2 → Nat :=
  let c2_i32_143 : BitVec 32 := 2#32
  let c0_i32_94 : BitVec 32 := 0#32
  let c1_i32_96 : BitVec 32 := 1#32
  let arg13 : BitVec 32 := Scf.iv c0_i32_94 c1_i32_96 k0_t5
  let v189 : BitVec 32 := Scalar.muli c2_i32_143 arg13
  let v192 : Index := Scalar.indexCast v189
  let c0 : Index := 0#32
  ![v192.toNat, 0]
def k0_off1118 (k0_t5 : Fin k0_t5_loop.trips) : Fin 2 → Nat :=
  let c2_i32_143 : BitVec 32 := 2#32
  let c0_i32_94 : BitVec 32 := 0#32
  let c1_i32_96 : BitVec 32 := 1#32
  let arg13 : BitVec 32 := Scf.iv c0_i32_94 c1_i32_96 k0_t5
  let v189 : BitVec 32 := Scalar.muli c2_i32_143 arg13
  let v194 : Index := Scalar.indexCast v189
  let c16 : Index := 16#32
  ![v194.toNat, 16]
def k0_off1119 (k0_t5 : Fin k0_t5_loop.trips) : Fin 2 → Nat :=
  let c2_i32_143 : BitVec 32 := 2#32
  let c0_i32_94 : BitVec 32 := 0#32
  let c1_i32_96 : BitVec 32 := 1#32
  let arg13 : BitVec 32 := Scf.iv c0_i32_94 c1_i32_96 k0_t5
  let v189 : BitVec 32 := Scalar.muli c2_i32_143 arg13
  let v196 : Index := Scalar.indexCast v189
  let c32 : Index := 32#32
  ![v196.toNat, 32]
def k0_off1120 (v218 : BitVec 32) : Fin 2 → Nat :=
  let v219 : Index := Scalar.indexCast v218
  let c0_152 : Index := 0#32
  ![v219.toNat, 0]

def k0_off1121 (v218 : BitVec 32) : Fin 2 → Nat :=
  let v223 : Index := Scalar.indexCast v218
  let c16_153 : Index := 16#32
  ![v223.toNat, 16]
def k0_off1122 (v218 : BitVec 32) : Fin 2 → Nat :=
  let v227 : Index := Scalar.indexCast v218
  let c32_154 : Index := 32#32
  ![v227.toNat, 32]
def k0_off1123 (v218 : BitVec 32) : Fin 2 → Nat :=
  let v231 : Index := Scalar.indexCast v218
  let c48 : Index := 48#32
  ![v231.toNat, 48]

def k0_chk265 (v218 : BitVec 32) : Prop :=
  (∀ a, (k0_off1120 v218) a + S1x16.size a ≤ S704x64.size a) ∧
  (∀ a, (k0_off1121 v218) a + S1x16.size a ≤ S704x64.size a) ∧
  (∀ a, (k0_off1122 v218) a + S1x16.size a ≤ S704x64.size a) ∧
  (∀ a, (k0_off1123 v218) a + S1x16.size a ≤ S704x64.size a)
theorem k0_off1120_inb : ∀ (v218 : BitVec 32) (k0_hw265 : k0_chk265 v218), ∀ a, (k0_off1120 v218) a + S1x16.size a ≤ S704x64.size a := fun v218 k0_hw265 => k0_hw265.1
theorem k0_off1121_inb : ∀ (v218 : BitVec 32) (k0_hw265 : k0_chk265 v218), ∀ a, (k0_off1121 v218) a + S1x16.size a ≤ S704x64.size a := fun v218 k0_hw265 => k0_hw265.2.1
theorem k0_off1122_inb : ∀ (v218 : BitVec 32) (k0_hw265 : k0_chk265 v218), ∀ a, (k0_off1122 v218) a + S1x16.size a ≤ S704x64.size a := fun v218 k0_hw265 => k0_hw265.2.2.1
theorem k0_off1123_inb : ∀ (v218 : BitVec 32) (k0_hw265 : k0_chk265 v218), ∀ a, (k0_off1123 v218) a + S1x16.size a ≤ S704x64.size a := fun v218 k0_hw265 => k0_hw265.2.2.2

def k0_off1124 (v239 : BitVec 32) : Fin 2 → Nat :=
  let v240 : Index := Scalar.indexCast v239
  let c0_155 : Index := 0#32
  ![v240.toNat, 0]

def k0_off1125 (v239 : BitVec 32) : Fin 2 → Nat :=
  let v244 : Index := Scalar.indexCast v239
  let c16_156 : Index := 16#32
  ![v244.toNat, 16]
def k0_off1126 (v239 : BitVec 32) : Fin 2 → Nat :=
  let v248 : Index := Scalar.indexCast v239
  let c32_157 : Index := 32#32
  ![v248.toNat, 32]
def k0_off1127 (v239 : BitVec 32) : Fin 2 → Nat :=
  let v252 : Index := Scalar.indexCast v239
  let c48_158 : Index := 48#32
  ![v252.toNat, 48]

def k0_chk266 (v239 : BitVec 32) : Prop :=
  (∀ a, (k0_off1124 v239) a + S1x16.size a ≤ S704x64.size a) ∧
  (∀ a, (k0_off1125 v239) a + S1x16.size a ≤ S704x64.size a) ∧
  (∀ a, (k0_off1126 v239) a + S1x16.size a ≤ S704x64.size a) ∧
  (∀ a, (k0_off1127 v239) a + S1x16.size a ≤ S704x64.size a)
theorem k0_off1124_inb : ∀ (v239 : BitVec 32) (k0_hw266 : k0_chk266 v239), ∀ a, (k0_off1124 v239) a + S1x16.size a ≤ S704x64.size a := fun v239 k0_hw266 => k0_hw266.1
theorem k0_off1125_inb : ∀ (v239 : BitVec 32) (k0_hw266 : k0_chk266 v239), ∀ a, (k0_off1125 v239) a + S1x16.size a ≤ S704x64.size a := fun v239 k0_hw266 => k0_hw266.2.1
theorem k0_off1126_inb : ∀ (v239 : BitVec 32) (k0_hw266 : k0_chk266 v239), ∀ a, (k0_off1126 v239) a + S1x16.size a ≤ S704x64.size a := fun v239 k0_hw266 => k0_hw266.2.2.1
theorem k0_off1127_inb : ∀ (v239 : BitVec 32) (k0_hw266 : k0_chk266 v239), ∀ a, (k0_off1127 v239) a + S1x16.size a ≤ S704x64.size a := fun v239 k0_hw266 => k0_hw266.2.2.2

def k0_off1128 (v260 : BitVec 32) : Fin 2 → Nat :=
  let v261 : Index := Scalar.indexCast v260
  let c0_159 : Index := 0#32
  ![v261.toNat, 0]

def k0_off1129 (v260 : BitVec 32) : Fin 2 → Nat :=
  let v265 : Index := Scalar.indexCast v260
  let c16_160 : Index := 16#32
  ![v265.toNat, 16]
def k0_off1130 (v260 : BitVec 32) : Fin 2 → Nat :=
  let v269 : Index := Scalar.indexCast v260
  let c32_161 : Index := 32#32
  ![v269.toNat, 32]
def k0_off1131 (v260 : BitVec 32) : Fin 2 → Nat :=
  let v273 : Index := Scalar.indexCast v260
  let c48_162 : Index := 48#32
  ![v273.toNat, 48]

def k0_chk267 (v260 : BitVec 32) : Prop :=
  (∀ a, (k0_off1128 v260) a + S1x16.size a ≤ S704x64.size a) ∧
  (∀ a, (k0_off1129 v260) a + S1x16.size a ≤ S704x64.size a) ∧
  (∀ a, (k0_off1130 v260) a + S1x16.size a ≤ S704x64.size a) ∧
  (∀ a, (k0_off1131 v260) a + S1x16.size a ≤ S704x64.size a)
theorem k0_off1128_inb : ∀ (v260 : BitVec 32) (k0_hw267 : k0_chk267 v260), ∀ a, (k0_off1128 v260) a + S1x16.size a ≤ S704x64.size a := fun v260 k0_hw267 => k0_hw267.1
theorem k0_off1129_inb : ∀ (v260 : BitVec 32) (k0_hw267 : k0_chk267 v260), ∀ a, (k0_off1129 v260) a + S1x16.size a ≤ S704x64.size a := fun v260 k0_hw267 => k0_hw267.2.1
theorem k0_off1130_inb : ∀ (v260 : BitVec 32) (k0_hw267 : k0_chk267 v260), ∀ a, (k0_off1130 v260) a + S1x16.size a ≤ S704x64.size a := fun v260 k0_hw267 => k0_hw267.2.2.1
theorem k0_off1131_inb : ∀ (v260 : BitVec 32) (k0_hw267 : k0_chk267 v260), ∀ a, (k0_off1131 v260) a + S1x16.size a ≤ S704x64.size a := fun v260 k0_hw267 => k0_hw267.2.2.2

def k0_off1132 (v281 : BitVec 32) : Fin 2 → Nat :=
  let v282 : Index := Scalar.indexCast v281
  let c0_163 : Index := 0#32
  ![v282.toNat, 0]

def k0_off1133 (v281 : BitVec 32) : Fin 2 → Nat :=
  let v286 : Index := Scalar.indexCast v281
  let c16_164 : Index := 16#32
  ![v286.toNat, 16]
def k0_off1134 (v281 : BitVec 32) : Fin 2 → Nat :=
  let v290 : Index := Scalar.indexCast v281
  let c32_165 : Index := 32#32
  ![v290.toNat, 32]
def k0_off1135 (v281 : BitVec 32) : Fin 2 → Nat :=
  let v294 : Index := Scalar.indexCast v281
  let c48_166 : Index := 48#32
  ![v294.toNat, 48]

def k0_chk268 (v281 : BitVec 32) : Prop :=
  (∀ a, (k0_off1132 v281) a + S1x16.size a ≤ S704x64.size a) ∧
  (∀ a, (k0_off1133 v281) a + S1x16.size a ≤ S704x64.size a) ∧
  (∀ a, (k0_off1134 v281) a + S1x16.size a ≤ S704x64.size a) ∧
  (∀ a, (k0_off1135 v281) a + S1x16.size a ≤ S704x64.size a)
theorem k0_off1132_inb : ∀ (v281 : BitVec 32) (k0_hw268 : k0_chk268 v281), ∀ a, (k0_off1132 v281) a + S1x16.size a ≤ S704x64.size a := fun v281 k0_hw268 => k0_hw268.1
theorem k0_off1133_inb : ∀ (v281 : BitVec 32) (k0_hw268 : k0_chk268 v281), ∀ a, (k0_off1133 v281) a + S1x16.size a ≤ S704x64.size a := fun v281 k0_hw268 => k0_hw268.2.1
theorem k0_off1134_inb : ∀ (v281 : BitVec 32) (k0_hw268 : k0_chk268 v281), ∀ a, (k0_off1134 v281) a + S1x16.size a ≤ S704x64.size a := fun v281 k0_hw268 => k0_hw268.2.2.1
theorem k0_off1135_inb : ∀ (v281 : BitVec 32) (k0_hw268 : k0_chk268 v281), ∀ a, (k0_off1135 v281) a + S1x16.size a ≤ S704x64.size a := fun v281 k0_hw268 => k0_hw268.2.2.2

def k0_off1136 (v302 : BitVec 32) : Fin 2 → Nat :=
  let v303 : Index := Scalar.indexCast v302
  let c0_167 : Index := 0#32
  ![v303.toNat, 0]

def k0_off1137 (v302 : BitVec 32) : Fin 2 → Nat :=
  let v307 : Index := Scalar.indexCast v302
  let c16_168 : Index := 16#32
  ![v307.toNat, 16]
def k0_off1138 (v302 : BitVec 32) : Fin 2 → Nat :=
  let v311 : Index := Scalar.indexCast v302
  let c32_169 : Index := 32#32
  ![v311.toNat, 32]
def k0_off1139 (v302 : BitVec 32) : Fin 2 → Nat :=
  let v315 : Index := Scalar.indexCast v302
  let c48_170 : Index := 48#32
  ![v315.toNat, 48]

def k0_chk269 (v302 : BitVec 32) : Prop :=
  (∀ a, (k0_off1136 v302) a + S1x16.size a ≤ S704x64.size a) ∧
  (∀ a, (k0_off1137 v302) a + S1x16.size a ≤ S704x64.size a) ∧
  (∀ a, (k0_off1138 v302) a + S1x16.size a ≤ S704x64.size a) ∧
  (∀ a, (k0_off1139 v302) a + S1x16.size a ≤ S704x64.size a)
theorem k0_off1136_inb : ∀ (v302 : BitVec 32) (k0_hw269 : k0_chk269 v302), ∀ a, (k0_off1136 v302) a + S1x16.size a ≤ S704x64.size a := fun v302 k0_hw269 => k0_hw269.1
theorem k0_off1137_inb : ∀ (v302 : BitVec 32) (k0_hw269 : k0_chk269 v302), ∀ a, (k0_off1137 v302) a + S1x16.size a ≤ S704x64.size a := fun v302 k0_hw269 => k0_hw269.2.1
theorem k0_off1138_inb : ∀ (v302 : BitVec 32) (k0_hw269 : k0_chk269 v302), ∀ a, (k0_off1138 v302) a + S1x16.size a ≤ S704x64.size a := fun v302 k0_hw269 => k0_hw269.2.2.1
theorem k0_off1139_inb : ∀ (v302 : BitVec 32) (k0_hw269 : k0_chk269 v302), ∀ a, (k0_off1139 v302) a + S1x16.size a ≤ S704x64.size a := fun v302 k0_hw269 => k0_hw269.2.2.2

def k0_off1140 (v323 : BitVec 32) : Fin 2 → Nat :=
  let v324 : Index := Scalar.indexCast v323
  let c0_171 : Index := 0#32
  ![v324.toNat, 0]

def k0_off1141 (v323 : BitVec 32) : Fin 2 → Nat :=
  let v328 : Index := Scalar.indexCast v323
  let c16_172 : Index := 16#32
  ![v328.toNat, 16]
def k0_off1142 (v323 : BitVec 32) : Fin 2 → Nat :=
  let v332 : Index := Scalar.indexCast v323
  let c32_173 : Index := 32#32
  ![v332.toNat, 32]
def k0_off1143 (v323 : BitVec 32) : Fin 2 → Nat :=
  let v336 : Index := Scalar.indexCast v323
  let c48_174 : Index := 48#32
  ![v336.toNat, 48]

def k0_chk270 (v323 : BitVec 32) : Prop :=
  (∀ a, (k0_off1140 v323) a + S1x16.size a ≤ S704x64.size a) ∧
  (∀ a, (k0_off1141 v323) a + S1x16.size a ≤ S704x64.size a) ∧
  (∀ a, (k0_off1142 v323) a + S1x16.size a ≤ S704x64.size a) ∧
  (∀ a, (k0_off1143 v323) a + S1x16.size a ≤ S704x64.size a)
theorem k0_off1140_inb : ∀ (v323 : BitVec 32) (k0_hw270 : k0_chk270 v323), ∀ a, (k0_off1140 v323) a + S1x16.size a ≤ S704x64.size a := fun v323 k0_hw270 => k0_hw270.1
theorem k0_off1141_inb : ∀ (v323 : BitVec 32) (k0_hw270 : k0_chk270 v323), ∀ a, (k0_off1141 v323) a + S1x16.size a ≤ S704x64.size a := fun v323 k0_hw270 => k0_hw270.2.1
theorem k0_off1142_inb : ∀ (v323 : BitVec 32) (k0_hw270 : k0_chk270 v323), ∀ a, (k0_off1142 v323) a + S1x16.size a ≤ S704x64.size a := fun v323 k0_hw270 => k0_hw270.2.2.1
theorem k0_off1143_inb : ∀ (v323 : BitVec 32) (k0_hw270 : k0_chk270 v323), ∀ a, (k0_off1143 v323) a + S1x16.size a ≤ S704x64.size a := fun v323 k0_hw270 => k0_hw270.2.2.2

def k0_off1144 (v344 : BitVec 32) : Fin 2 → Nat :=
  let v345 : Index := Scalar.indexCast v344
  let c0_175 : Index := 0#32
  ![v345.toNat, 0]

def k0_off1145 (v344 : BitVec 32) : Fin 2 → Nat :=
  let v349 : Index := Scalar.indexCast v344
  let c16_176 : Index := 16#32
  ![v349.toNat, 16]
def k0_off1146 (v344 : BitVec 32) : Fin 2 → Nat :=
  let v353 : Index := Scalar.indexCast v344
  let c32_177 : Index := 32#32
  ![v353.toNat, 32]
def k0_off1147 (v344 : BitVec 32) : Fin 2 → Nat :=
  let v357 : Index := Scalar.indexCast v344
  let c48_178 : Index := 48#32
  ![v357.toNat, 48]

def k0_chk271 (v344 : BitVec 32) : Prop :=
  (∀ a, (k0_off1144 v344) a + S1x16.size a ≤ S704x64.size a) ∧
  (∀ a, (k0_off1145 v344) a + S1x16.size a ≤ S704x64.size a) ∧
  (∀ a, (k0_off1146 v344) a + S1x16.size a ≤ S704x64.size a) ∧
  (∀ a, (k0_off1147 v344) a + S1x16.size a ≤ S704x64.size a)
theorem k0_off1144_inb : ∀ (v344 : BitVec 32) (k0_hw271 : k0_chk271 v344), ∀ a, (k0_off1144 v344) a + S1x16.size a ≤ S704x64.size a := fun v344 k0_hw271 => k0_hw271.1
theorem k0_off1145_inb : ∀ (v344 : BitVec 32) (k0_hw271 : k0_chk271 v344), ∀ a, (k0_off1145 v344) a + S1x16.size a ≤ S704x64.size a := fun v344 k0_hw271 => k0_hw271.2.1
theorem k0_off1146_inb : ∀ (v344 : BitVec 32) (k0_hw271 : k0_chk271 v344), ∀ a, (k0_off1146 v344) a + S1x16.size a ≤ S704x64.size a := fun v344 k0_hw271 => k0_hw271.2.2.1
theorem k0_off1147_inb : ∀ (v344 : BitVec 32) (k0_hw271 : k0_chk271 v344), ∀ a, (k0_off1147 v344) a + S1x16.size a ≤ S704x64.size a := fun v344 k0_hw271 => k0_hw271.2.2.2

def k0_off1148 (v365 : BitVec 32) : Fin 2 → Nat :=
  let v366 : Index := Scalar.indexCast v365
  let c0_179 : Index := 0#32
  ![v366.toNat, 0]

def k0_off1149 (v365 : BitVec 32) : Fin 2 → Nat :=
  let v370 : Index := Scalar.indexCast v365
  let c16_180 : Index := 16#32
  ![v370.toNat, 16]
def k0_off1150 (v365 : BitVec 32) : Fin 2 → Nat :=
  let v374 : Index := Scalar.indexCast v365
  let c32_181 : Index := 32#32
  ![v374.toNat, 32]
def k0_off1151 (v365 : BitVec 32) : Fin 2 → Nat :=
  let v378 : Index := Scalar.indexCast v365
  let c48_182 : Index := 48#32
  ![v378.toNat, 48]

def k0_chk272 (v365 : BitVec 32) : Prop :=
  (∀ a, (k0_off1148 v365) a + S1x16.size a ≤ S704x64.size a) ∧
  (∀ a, (k0_off1149 v365) a + S1x16.size a ≤ S704x64.size a) ∧
  (∀ a, (k0_off1150 v365) a + S1x16.size a ≤ S704x64.size a) ∧
  (∀ a, (k0_off1151 v365) a + S1x16.size a ≤ S704x64.size a)
theorem k0_off1148_inb : ∀ (v365 : BitVec 32) (k0_hw272 : k0_chk272 v365), ∀ a, (k0_off1148 v365) a + S1x16.size a ≤ S704x64.size a := fun v365 k0_hw272 => k0_hw272.1
theorem k0_off1149_inb : ∀ (v365 : BitVec 32) (k0_hw272 : k0_chk272 v365), ∀ a, (k0_off1149 v365) a + S1x16.size a ≤ S704x64.size a := fun v365 k0_hw272 => k0_hw272.2.1
theorem k0_off1150_inb : ∀ (v365 : BitVec 32) (k0_hw272 : k0_chk272 v365), ∀ a, (k0_off1150 v365) a + S1x16.size a ≤ S704x64.size a := fun v365 k0_hw272 => k0_hw272.2.2.1
theorem k0_off1151_inb : ∀ (v365 : BitVec 32) (k0_hw272 : k0_chk272 v365), ∀ a, (k0_off1151 v365) a + S1x16.size a ≤ S704x64.size a := fun v365 k0_hw272 => k0_hw272.2.2.2

def k0_off1152 (v386 : BitVec 32) : Fin 2 → Nat :=
  let v387 : Index := Scalar.indexCast v386
  let c0_183 : Index := 0#32
  ![v387.toNat, 0]

def k0_off1153 (v386 : BitVec 32) : Fin 2 → Nat :=
  let v391 : Index := Scalar.indexCast v386
  let c16_184 : Index := 16#32
  ![v391.toNat, 16]
def k0_off1154 (v386 : BitVec 32) : Fin 2 → Nat :=
  let v395 : Index := Scalar.indexCast v386
  let c32_185 : Index := 32#32
  ![v395.toNat, 32]
def k0_off1155 (v386 : BitVec 32) : Fin 2 → Nat :=
  let v399 : Index := Scalar.indexCast v386
  let c48_186 : Index := 48#32
  ![v399.toNat, 48]

def k0_chk273 (v386 : BitVec 32) : Prop :=
  (∀ a, (k0_off1152 v386) a + S1x16.size a ≤ S704x64.size a) ∧
  (∀ a, (k0_off1153 v386) a + S1x16.size a ≤ S704x64.size a) ∧
  (∀ a, (k0_off1154 v386) a + S1x16.size a ≤ S704x64.size a) ∧
  (∀ a, (k0_off1155 v386) a + S1x16.size a ≤ S704x64.size a)
theorem k0_off1152_inb : ∀ (v386 : BitVec 32) (k0_hw273 : k0_chk273 v386), ∀ a, (k0_off1152 v386) a + S1x16.size a ≤ S704x64.size a := fun v386 k0_hw273 => k0_hw273.1
theorem k0_off1153_inb : ∀ (v386 : BitVec 32) (k0_hw273 : k0_chk273 v386), ∀ a, (k0_off1153 v386) a + S1x16.size a ≤ S704x64.size a := fun v386 k0_hw273 => k0_hw273.2.1
theorem k0_off1154_inb : ∀ (v386 : BitVec 32) (k0_hw273 : k0_chk273 v386), ∀ a, (k0_off1154 v386) a + S1x16.size a ≤ S704x64.size a := fun v386 k0_hw273 => k0_hw273.2.2.1
theorem k0_off1155_inb : ∀ (v386 : BitVec 32) (k0_hw273 : k0_chk273 v386), ∀ a, (k0_off1155 v386) a + S1x16.size a ≤ S704x64.size a := fun v386 k0_hw273 => k0_hw273.2.2.2

def k0_off1156 (v407 : BitVec 32) : Fin 2 → Nat :=
  let v408 : Index := Scalar.indexCast v407
  let c0_187 : Index := 0#32
  ![v408.toNat, 0]

def k0_off1157 (v407 : BitVec 32) : Fin 2 → Nat :=
  let v412 : Index := Scalar.indexCast v407
  let c16_188 : Index := 16#32
  ![v412.toNat, 16]
def k0_off1158 (v407 : BitVec 32) : Fin 2 → Nat :=
  let v416 : Index := Scalar.indexCast v407
  let c32_189 : Index := 32#32
  ![v416.toNat, 32]
def k0_off1159 (v407 : BitVec 32) : Fin 2 → Nat :=
  let v420 : Index := Scalar.indexCast v407
  let c48_190 : Index := 48#32
  ![v420.toNat, 48]

def k0_chk274 (v407 : BitVec 32) : Prop :=
  (∀ a, (k0_off1156 v407) a + S1x16.size a ≤ S704x64.size a) ∧
  (∀ a, (k0_off1157 v407) a + S1x16.size a ≤ S704x64.size a) ∧
  (∀ a, (k0_off1158 v407) a + S1x16.size a ≤ S704x64.size a) ∧
  (∀ a, (k0_off1159 v407) a + S1x16.size a ≤ S704x64.size a)
theorem k0_off1156_inb : ∀ (v407 : BitVec 32) (k0_hw274 : k0_chk274 v407), ∀ a, (k0_off1156 v407) a + S1x16.size a ≤ S704x64.size a := fun v407 k0_hw274 => k0_hw274.1
theorem k0_off1157_inb : ∀ (v407 : BitVec 32) (k0_hw274 : k0_chk274 v407), ∀ a, (k0_off1157 v407) a + S1x16.size a ≤ S704x64.size a := fun v407 k0_hw274 => k0_hw274.2.1
theorem k0_off1158_inb : ∀ (v407 : BitVec 32) (k0_hw274 : k0_chk274 v407), ∀ a, (k0_off1158 v407) a + S1x16.size a ≤ S704x64.size a := fun v407 k0_hw274 => k0_hw274.2.2.1
theorem k0_off1159_inb : ∀ (v407 : BitVec 32) (k0_hw274 : k0_chk274 v407), ∀ a, (k0_off1159 v407) a + S1x16.size a ≤ S704x64.size a := fun v407 k0_hw274 => k0_hw274.2.2.2

def k0_off1160 (v428 : BitVec 32) : Fin 2 → Nat :=
  let v429 : Index := Scalar.indexCast v428
  let c0_191 : Index := 0#32
  ![v429.toNat, 0]

def k0_off1161 (v428 : BitVec 32) : Fin 2 → Nat :=
  let v433 : Index := Scalar.indexCast v428
  let c16_192 : Index := 16#32
  ![v433.toNat, 16]
def k0_off1162 (v428 : BitVec 32) : Fin 2 → Nat :=
  let v437 : Index := Scalar.indexCast v428
  let c32_193 : Index := 32#32
  ![v437.toNat, 32]
def k0_off1163 (v428 : BitVec 32) : Fin 2 → Nat :=
  let v441 : Index := Scalar.indexCast v428
  let c48_194 : Index := 48#32
  ![v441.toNat, 48]

def k0_chk275 (v428 : BitVec 32) : Prop :=
  (∀ a, (k0_off1160 v428) a + S1x16.size a ≤ S704x64.size a) ∧
  (∀ a, (k0_off1161 v428) a + S1x16.size a ≤ S704x64.size a) ∧
  (∀ a, (k0_off1162 v428) a + S1x16.size a ≤ S704x64.size a) ∧
  (∀ a, (k0_off1163 v428) a + S1x16.size a ≤ S704x64.size a)
theorem k0_off1160_inb : ∀ (v428 : BitVec 32) (k0_hw275 : k0_chk275 v428), ∀ a, (k0_off1160 v428) a + S1x16.size a ≤ S704x64.size a := fun v428 k0_hw275 => k0_hw275.1
theorem k0_off1161_inb : ∀ (v428 : BitVec 32) (k0_hw275 : k0_chk275 v428), ∀ a, (k0_off1161 v428) a + S1x16.size a ≤ S704x64.size a := fun v428 k0_hw275 => k0_hw275.2.1
theorem k0_off1162_inb : ∀ (v428 : BitVec 32) (k0_hw275 : k0_chk275 v428), ∀ a, (k0_off1162 v428) a + S1x16.size a ≤ S704x64.size a := fun v428 k0_hw275 => k0_hw275.2.2.1
theorem k0_off1163_inb : ∀ (v428 : BitVec 32) (k0_hw275 : k0_chk275 v428), ∀ a, (k0_off1163 v428) a + S1x16.size a ≤ S704x64.size a := fun v428 k0_hw275 => k0_hw275.2.2.2

def k0_off1164 (v449 : BitVec 32) : Fin 2 → Nat :=
  let v450 : Index := Scalar.indexCast v449
  let c0_195 : Index := 0#32
  ![v450.toNat, 0]

def k0_off1165 (v449 : BitVec 32) : Fin 2 → Nat :=
  let v454 : Index := Scalar.indexCast v449
  let c16_196 : Index := 16#32
  ![v454.toNat, 16]
def k0_off1166 (v449 : BitVec 32) : Fin 2 → Nat :=
  let v458 : Index := Scalar.indexCast v449
  let c32_197 : Index := 32#32
  ![v458.toNat, 32]
def k0_off1167 (v449 : BitVec 32) : Fin 2 → Nat :=
  let v462 : Index := Scalar.indexCast v449
  let c48_198 : Index := 48#32
  ![v462.toNat, 48]

def k0_chk276 (v449 : BitVec 32) : Prop :=
  (∀ a, (k0_off1164 v449) a + S1x16.size a ≤ S704x64.size a) ∧
  (∀ a, (k0_off1165 v449) a + S1x16.size a ≤ S704x64.size a) ∧
  (∀ a, (k0_off1166 v449) a + S1x16.size a ≤ S704x64.size a) ∧
  (∀ a, (k0_off1167 v449) a + S1x16.size a ≤ S704x64.size a)
theorem k0_off1164_inb : ∀ (v449 : BitVec 32) (k0_hw276 : k0_chk276 v449), ∀ a, (k0_off1164 v449) a + S1x16.size a ≤ S704x64.size a := fun v449 k0_hw276 => k0_hw276.1
theorem k0_off1165_inb : ∀ (v449 : BitVec 32) (k0_hw276 : k0_chk276 v449), ∀ a, (k0_off1165 v449) a + S1x16.size a ≤ S704x64.size a := fun v449 k0_hw276 => k0_hw276.2.1
theorem k0_off1166_inb : ∀ (v449 : BitVec 32) (k0_hw276 : k0_chk276 v449), ∀ a, (k0_off1166 v449) a + S1x16.size a ≤ S704x64.size a := fun v449 k0_hw276 => k0_hw276.2.2.1
theorem k0_off1167_inb : ∀ (v449 : BitVec 32) (k0_hw276 : k0_chk276 v449), ∀ a, (k0_off1167 v449) a + S1x16.size a ≤ S704x64.size a := fun v449 k0_hw276 => k0_hw276.2.2.2

def k0_off1168 (v470 : BitVec 32) : Fin 2 → Nat :=
  let v471 : Index := Scalar.indexCast v470
  let c0_199 : Index := 0#32
  ![v471.toNat, 0]

def k0_off1169 (v470 : BitVec 32) : Fin 2 → Nat :=
  let v475 : Index := Scalar.indexCast v470
  let c16_200 : Index := 16#32
  ![v475.toNat, 16]
def k0_off1170 (v470 : BitVec 32) : Fin 2 → Nat :=
  let v479 : Index := Scalar.indexCast v470
  let c32_201 : Index := 32#32
  ![v479.toNat, 32]
def k0_off1171 (v470 : BitVec 32) : Fin 2 → Nat :=
  let v483 : Index := Scalar.indexCast v470
  let c48_202 : Index := 48#32
  ![v483.toNat, 48]

def k0_chk277 (v470 : BitVec 32) : Prop :=
  (∀ a, (k0_off1168 v470) a + S1x16.size a ≤ S704x64.size a) ∧
  (∀ a, (k0_off1169 v470) a + S1x16.size a ≤ S704x64.size a) ∧
  (∀ a, (k0_off1170 v470) a + S1x16.size a ≤ S704x64.size a) ∧
  (∀ a, (k0_off1171 v470) a + S1x16.size a ≤ S704x64.size a)
theorem k0_off1168_inb : ∀ (v470 : BitVec 32) (k0_hw277 : k0_chk277 v470), ∀ a, (k0_off1168 v470) a + S1x16.size a ≤ S704x64.size a := fun v470 k0_hw277 => k0_hw277.1
theorem k0_off1169_inb : ∀ (v470 : BitVec 32) (k0_hw277 : k0_chk277 v470), ∀ a, (k0_off1169 v470) a + S1x16.size a ≤ S704x64.size a := fun v470 k0_hw277 => k0_hw277.2.1
theorem k0_off1170_inb : ∀ (v470 : BitVec 32) (k0_hw277 : k0_chk277 v470), ∀ a, (k0_off1170 v470) a + S1x16.size a ≤ S704x64.size a := fun v470 k0_hw277 => k0_hw277.2.2.1
theorem k0_off1171_inb : ∀ (v470 : BitVec 32) (k0_hw277 : k0_chk277 v470), ∀ a, (k0_off1171 v470) a + S1x16.size a ≤ S704x64.size a := fun v470 k0_hw277 => k0_hw277.2.2.2

def k0_off1172 (v491 : BitVec 32) : Fin 2 → Nat :=
  let v492 : Index := Scalar.indexCast v491
  let c0_203 : Index := 0#32
  ![v492.toNat, 0]

def k0_off1173 (v491 : BitVec 32) : Fin 2 → Nat :=
  let v496 : Index := Scalar.indexCast v491
  let c16_204 : Index := 16#32
  ![v496.toNat, 16]
def k0_off1174 (v491 : BitVec 32) : Fin 2 → Nat :=
  let v500 : Index := Scalar.indexCast v491
  let c32_205 : Index := 32#32
  ![v500.toNat, 32]
def k0_off1175 (v491 : BitVec 32) : Fin 2 → Nat :=
  let v504 : Index := Scalar.indexCast v491
  let c48_206 : Index := 48#32
  ![v504.toNat, 48]

def k0_chk278 (v491 : BitVec 32) : Prop :=
  (∀ a, (k0_off1172 v491) a + S1x16.size a ≤ S704x64.size a) ∧
  (∀ a, (k0_off1173 v491) a + S1x16.size a ≤ S704x64.size a) ∧
  (∀ a, (k0_off1174 v491) a + S1x16.size a ≤ S704x64.size a) ∧
  (∀ a, (k0_off1175 v491) a + S1x16.size a ≤ S704x64.size a)
theorem k0_off1172_inb : ∀ (v491 : BitVec 32) (k0_hw278 : k0_chk278 v491), ∀ a, (k0_off1172 v491) a + S1x16.size a ≤ S704x64.size a := fun v491 k0_hw278 => k0_hw278.1
theorem k0_off1173_inb : ∀ (v491 : BitVec 32) (k0_hw278 : k0_chk278 v491), ∀ a, (k0_off1173 v491) a + S1x16.size a ≤ S704x64.size a := fun v491 k0_hw278 => k0_hw278.2.1
theorem k0_off1174_inb : ∀ (v491 : BitVec 32) (k0_hw278 : k0_chk278 v491), ∀ a, (k0_off1174 v491) a + S1x16.size a ≤ S704x64.size a := fun v491 k0_hw278 => k0_hw278.2.2.1
theorem k0_off1175_inb : ∀ (v491 : BitVec 32) (k0_hw278 : k0_chk278 v491), ∀ a, (k0_off1175 v491) a + S1x16.size a ≤ S704x64.size a := fun v491 k0_hw278 => k0_hw278.2.2.2

def k0_off1176 (v512 : BitVec 32) : Fin 2 → Nat :=
  let v513 : Index := Scalar.indexCast v512
  let c0_207 : Index := 0#32
  ![v513.toNat, 0]

def k0_off1177 (v512 : BitVec 32) : Fin 2 → Nat :=
  let v517 : Index := Scalar.indexCast v512
  let c16_208 : Index := 16#32
  ![v517.toNat, 16]
def k0_off1178 (v512 : BitVec 32) : Fin 2 → Nat :=
  let v521 : Index := Scalar.indexCast v512
  let c32_209 : Index := 32#32
  ![v521.toNat, 32]
def k0_off1179 (v512 : BitVec 32) : Fin 2 → Nat :=
  let v525 : Index := Scalar.indexCast v512
  let c48_210 : Index := 48#32
  ![v525.toNat, 48]

def k0_chk279 (v512 : BitVec 32) : Prop :=
  (∀ a, (k0_off1176 v512) a + S1x16.size a ≤ S704x64.size a) ∧
  (∀ a, (k0_off1177 v512) a + S1x16.size a ≤ S704x64.size a) ∧
  (∀ a, (k0_off1178 v512) a + S1x16.size a ≤ S704x64.size a) ∧
  (∀ a, (k0_off1179 v512) a + S1x16.size a ≤ S704x64.size a)
theorem k0_off1176_inb : ∀ (v512 : BitVec 32) (k0_hw279 : k0_chk279 v512), ∀ a, (k0_off1176 v512) a + S1x16.size a ≤ S704x64.size a := fun v512 k0_hw279 => k0_hw279.1
theorem k0_off1177_inb : ∀ (v512 : BitVec 32) (k0_hw279 : k0_chk279 v512), ∀ a, (k0_off1177 v512) a + S1x16.size a ≤ S704x64.size a := fun v512 k0_hw279 => k0_hw279.2.1
theorem k0_off1178_inb : ∀ (v512 : BitVec 32) (k0_hw279 : k0_chk279 v512), ∀ a, (k0_off1178 v512) a + S1x16.size a ≤ S704x64.size a := fun v512 k0_hw279 => k0_hw279.2.2.1
theorem k0_off1179_inb : ∀ (v512 : BitVec 32) (k0_hw279 : k0_chk279 v512), ∀ a, (k0_off1179 v512) a + S1x16.size a ≤ S704x64.size a := fun v512 k0_hw279 => k0_hw279.2.2.2

def k0_off1180 (v533 : BitVec 32) : Fin 2 → Nat :=
  let v534 : Index := Scalar.indexCast v533
  let c0_211 : Index := 0#32
  ![v534.toNat, 0]

def k0_off1181 (v533 : BitVec 32) : Fin 2 → Nat :=
  let v538 : Index := Scalar.indexCast v533
  let c16_212 : Index := 16#32
  ![v538.toNat, 16]
def k0_off1182 (v533 : BitVec 32) : Fin 2 → Nat :=
  let v542 : Index := Scalar.indexCast v533
  let c32_213 : Index := 32#32
  ![v542.toNat, 32]
def k0_off1183 (v533 : BitVec 32) : Fin 2 → Nat :=
  let v546 : Index := Scalar.indexCast v533
  let c48_214 : Index := 48#32
  ![v546.toNat, 48]

def k0_chk280 (v533 : BitVec 32) : Prop :=
  (∀ a, (k0_off1180 v533) a + S1x16.size a ≤ S704x64.size a) ∧
  (∀ a, (k0_off1181 v533) a + S1x16.size a ≤ S704x64.size a) ∧
  (∀ a, (k0_off1182 v533) a + S1x16.size a ≤ S704x64.size a) ∧
  (∀ a, (k0_off1183 v533) a + S1x16.size a ≤ S704x64.size a)
theorem k0_off1180_inb : ∀ (v533 : BitVec 32) (k0_hw280 : k0_chk280 v533), ∀ a, (k0_off1180 v533) a + S1x16.size a ≤ S704x64.size a := fun v533 k0_hw280 => k0_hw280.1
theorem k0_off1181_inb : ∀ (v533 : BitVec 32) (k0_hw280 : k0_chk280 v533), ∀ a, (k0_off1181 v533) a + S1x16.size a ≤ S704x64.size a := fun v533 k0_hw280 => k0_hw280.2.1
theorem k0_off1182_inb : ∀ (v533 : BitVec 32) (k0_hw280 : k0_chk280 v533), ∀ a, (k0_off1182 v533) a + S1x16.size a ≤ S704x64.size a := fun v533 k0_hw280 => k0_hw280.2.2.1
theorem k0_off1183_inb : ∀ (v533 : BitVec 32) (k0_hw280 : k0_chk280 v533), ∀ a, (k0_off1183 v533) a + S1x16.size a ≤ S704x64.size a := fun v533 k0_hw280 => k0_hw280.2.2.2

def k0_off1184 (v554 : BitVec 32) : Fin 2 → Nat :=
  let v555 : Index := Scalar.indexCast v554
  let c0_215 : Index := 0#32
  ![v555.toNat, 0]

def k0_off1185 (v554 : BitVec 32) : Fin 2 → Nat :=
  let v559 : Index := Scalar.indexCast v554
  let c16_216 : Index := 16#32
  ![v559.toNat, 16]
def k0_off1186 (v554 : BitVec 32) : Fin 2 → Nat :=
  let v563 : Index := Scalar.indexCast v554
  let c32_217 : Index := 32#32
  ![v563.toNat, 32]
def k0_off1187 (v554 : BitVec 32) : Fin 2 → Nat :=
  let v567 : Index := Scalar.indexCast v554
  let c48_218 : Index := 48#32
  ![v567.toNat, 48]

def k0_chk281 (v554 : BitVec 32) : Prop :=
  (∀ a, (k0_off1184 v554) a + S1x16.size a ≤ S704x64.size a) ∧
  (∀ a, (k0_off1185 v554) a + S1x16.size a ≤ S704x64.size a) ∧
  (∀ a, (k0_off1186 v554) a + S1x16.size a ≤ S704x64.size a) ∧
  (∀ a, (k0_off1187 v554) a + S1x16.size a ≤ S704x64.size a)
theorem k0_off1184_inb : ∀ (v554 : BitVec 32) (k0_hw281 : k0_chk281 v554), ∀ a, (k0_off1184 v554) a + S1x16.size a ≤ S704x64.size a := fun v554 k0_hw281 => k0_hw281.1
theorem k0_off1185_inb : ∀ (v554 : BitVec 32) (k0_hw281 : k0_chk281 v554), ∀ a, (k0_off1185 v554) a + S1x16.size a ≤ S704x64.size a := fun v554 k0_hw281 => k0_hw281.2.1
theorem k0_off1186_inb : ∀ (v554 : BitVec 32) (k0_hw281 : k0_chk281 v554), ∀ a, (k0_off1186 v554) a + S1x16.size a ≤ S704x64.size a := fun v554 k0_hw281 => k0_hw281.2.2.1
theorem k0_off1187_inb : ∀ (v554 : BitVec 32) (k0_hw281 : k0_chk281 v554), ∀ a, (k0_off1187 v554) a + S1x16.size a ≤ S704x64.size a := fun v554 k0_hw281 => k0_hw281.2.2.2

def k0_off1188 (v575 : BitVec 32) : Fin 2 → Nat :=
  let v576 : Index := Scalar.indexCast v575
  let c0_219 : Index := 0#32
  ![v576.toNat, 0]

def k0_off1189 (v575 : BitVec 32) : Fin 2 → Nat :=
  let v580 : Index := Scalar.indexCast v575
  let c16_220 : Index := 16#32
  ![v580.toNat, 16]
def k0_off1190 (v575 : BitVec 32) : Fin 2 → Nat :=
  let v584 : Index := Scalar.indexCast v575
  let c32_221 : Index := 32#32
  ![v584.toNat, 32]
def k0_off1191 (v575 : BitVec 32) : Fin 2 → Nat :=
  let v588 : Index := Scalar.indexCast v575
  let c48_222 : Index := 48#32
  ![v588.toNat, 48]

def k0_chk282 (v575 : BitVec 32) : Prop :=
  (∀ a, (k0_off1188 v575) a + S1x16.size a ≤ S704x64.size a) ∧
  (∀ a, (k0_off1189 v575) a + S1x16.size a ≤ S704x64.size a) ∧
  (∀ a, (k0_off1190 v575) a + S1x16.size a ≤ S704x64.size a) ∧
  (∀ a, (k0_off1191 v575) a + S1x16.size a ≤ S704x64.size a)
theorem k0_off1188_inb : ∀ (v575 : BitVec 32) (k0_hw282 : k0_chk282 v575), ∀ a, (k0_off1188 v575) a + S1x16.size a ≤ S704x64.size a := fun v575 k0_hw282 => k0_hw282.1
theorem k0_off1189_inb : ∀ (v575 : BitVec 32) (k0_hw282 : k0_chk282 v575), ∀ a, (k0_off1189 v575) a + S1x16.size a ≤ S704x64.size a := fun v575 k0_hw282 => k0_hw282.2.1
theorem k0_off1190_inb : ∀ (v575 : BitVec 32) (k0_hw282 : k0_chk282 v575), ∀ a, (k0_off1190 v575) a + S1x16.size a ≤ S704x64.size a := fun v575 k0_hw282 => k0_hw282.2.2.1
theorem k0_off1191_inb : ∀ (v575 : BitVec 32) (k0_hw282 : k0_chk282 v575), ∀ a, (k0_off1191 v575) a + S1x16.size a ≤ S704x64.size a := fun v575 k0_hw282 => k0_hw282.2.2.2

def k0_off1192 (v596 : BitVec 32) : Fin 2 → Nat :=
  let v597 : Index := Scalar.indexCast v596
  let c0_223 : Index := 0#32
  ![v597.toNat, 0]

def k0_off1193 (v596 : BitVec 32) : Fin 2 → Nat :=
  let v601 : Index := Scalar.indexCast v596
  let c16_224 : Index := 16#32
  ![v601.toNat, 16]
def k0_off1194 (v596 : BitVec 32) : Fin 2 → Nat :=
  let v605 : Index := Scalar.indexCast v596
  let c32_225 : Index := 32#32
  ![v605.toNat, 32]
def k0_off1195 (v596 : BitVec 32) : Fin 2 → Nat :=
  let v609 : Index := Scalar.indexCast v596
  let c48_226 : Index := 48#32
  ![v609.toNat, 48]

def k0_chk283 (v596 : BitVec 32) : Prop :=
  (∀ a, (k0_off1192 v596) a + S1x16.size a ≤ S704x64.size a) ∧
  (∀ a, (k0_off1193 v596) a + S1x16.size a ≤ S704x64.size a) ∧
  (∀ a, (k0_off1194 v596) a + S1x16.size a ≤ S704x64.size a) ∧
  (∀ a, (k0_off1195 v596) a + S1x16.size a ≤ S704x64.size a)
theorem k0_off1192_inb : ∀ (v596 : BitVec 32) (k0_hw283 : k0_chk283 v596), ∀ a, (k0_off1192 v596) a + S1x16.size a ≤ S704x64.size a := fun v596 k0_hw283 => k0_hw283.1
theorem k0_off1193_inb : ∀ (v596 : BitVec 32) (k0_hw283 : k0_chk283 v596), ∀ a, (k0_off1193 v596) a + S1x16.size a ≤ S704x64.size a := fun v596 k0_hw283 => k0_hw283.2.1
theorem k0_off1194_inb : ∀ (v596 : BitVec 32) (k0_hw283 : k0_chk283 v596), ∀ a, (k0_off1194 v596) a + S1x16.size a ≤ S704x64.size a := fun v596 k0_hw283 => k0_hw283.2.2.1
theorem k0_off1195_inb : ∀ (v596 : BitVec 32) (k0_hw283 : k0_chk283 v596), ∀ a, (k0_off1195 v596) a + S1x16.size a ≤ S704x64.size a := fun v596 k0_hw283 => k0_hw283.2.2.2

def k0_off1196 (v617 : BitVec 32) : Fin 2 → Nat :=
  let v618 : Index := Scalar.indexCast v617
  let c0_227 : Index := 0#32
  ![v618.toNat, 0]

def k0_off1197 (v617 : BitVec 32) : Fin 2 → Nat :=
  let v622 : Index := Scalar.indexCast v617
  let c16_228 : Index := 16#32
  ![v622.toNat, 16]
def k0_off1198 (v617 : BitVec 32) : Fin 2 → Nat :=
  let v626 : Index := Scalar.indexCast v617
  let c32_229 : Index := 32#32
  ![v626.toNat, 32]
def k0_off1199 (v617 : BitVec 32) : Fin 2 → Nat :=
  let v630 : Index := Scalar.indexCast v617
  let c48_230 : Index := 48#32
  ![v630.toNat, 48]

def k0_chk284 (v617 : BitVec 32) : Prop :=
  (∀ a, (k0_off1196 v617) a + S1x16.size a ≤ S704x64.size a) ∧
  (∀ a, (k0_off1197 v617) a + S1x16.size a ≤ S704x64.size a) ∧
  (∀ a, (k0_off1198 v617) a + S1x16.size a ≤ S704x64.size a) ∧
  (∀ a, (k0_off1199 v617) a + S1x16.size a ≤ S704x64.size a)
theorem k0_off1196_inb : ∀ (v617 : BitVec 32) (k0_hw284 : k0_chk284 v617), ∀ a, (k0_off1196 v617) a + S1x16.size a ≤ S704x64.size a := fun v617 k0_hw284 => k0_hw284.1
theorem k0_off1197_inb : ∀ (v617 : BitVec 32) (k0_hw284 : k0_chk284 v617), ∀ a, (k0_off1197 v617) a + S1x16.size a ≤ S704x64.size a := fun v617 k0_hw284 => k0_hw284.2.1
theorem k0_off1198_inb : ∀ (v617 : BitVec 32) (k0_hw284 : k0_chk284 v617), ∀ a, (k0_off1198 v617) a + S1x16.size a ≤ S704x64.size a := fun v617 k0_hw284 => k0_hw284.2.2.1
theorem k0_off1199_inb : ∀ (v617 : BitVec 32) (k0_hw284 : k0_chk284 v617), ∀ a, (k0_off1199 v617) a + S1x16.size a ≤ S704x64.size a := fun v617 k0_hw284 => k0_hw284.2.2.2

def k0_off1200 (v638 : BitVec 32) : Fin 2 → Nat :=
  let v639 : Index := Scalar.indexCast v638
  let c0_231 : Index := 0#32
  ![v639.toNat, 0]

def k0_off1201 (v638 : BitVec 32) : Fin 2 → Nat :=
  let v643 : Index := Scalar.indexCast v638
  let c16_232 : Index := 16#32
  ![v643.toNat, 16]
def k0_off1202 (v638 : BitVec 32) : Fin 2 → Nat :=
  let v647 : Index := Scalar.indexCast v638
  let c32_233 : Index := 32#32
  ![v647.toNat, 32]
def k0_off1203 (v638 : BitVec 32) : Fin 2 → Nat :=
  let v651 : Index := Scalar.indexCast v638
  let c48_234 : Index := 48#32
  ![v651.toNat, 48]

def k0_chk285 (v638 : BitVec 32) : Prop :=
  (∀ a, (k0_off1200 v638) a + S1x16.size a ≤ S704x64.size a) ∧
  (∀ a, (k0_off1201 v638) a + S1x16.size a ≤ S704x64.size a) ∧
  (∀ a, (k0_off1202 v638) a + S1x16.size a ≤ S704x64.size a) ∧
  (∀ a, (k0_off1203 v638) a + S1x16.size a ≤ S704x64.size a)
theorem k0_off1200_inb : ∀ (v638 : BitVec 32) (k0_hw285 : k0_chk285 v638), ∀ a, (k0_off1200 v638) a + S1x16.size a ≤ S704x64.size a := fun v638 k0_hw285 => k0_hw285.1
theorem k0_off1201_inb : ∀ (v638 : BitVec 32) (k0_hw285 : k0_chk285 v638), ∀ a, (k0_off1201 v638) a + S1x16.size a ≤ S704x64.size a := fun v638 k0_hw285 => k0_hw285.2.1
theorem k0_off1202_inb : ∀ (v638 : BitVec 32) (k0_hw285 : k0_chk285 v638), ∀ a, (k0_off1202 v638) a + S1x16.size a ≤ S704x64.size a := fun v638 k0_hw285 => k0_hw285.2.2.1
theorem k0_off1203_inb : ∀ (v638 : BitVec 32) (k0_hw285 : k0_chk285 v638), ∀ a, (k0_off1203 v638) a + S1x16.size a ≤ S704x64.size a := fun v638 k0_hw285 => k0_hw285.2.2.2

def k0_off1204 (v659 : BitVec 32) : Fin 2 → Nat :=
  let v660 : Index := Scalar.indexCast v659
  let c0_235 : Index := 0#32
  ![v660.toNat, 0]

def k0_off1205 (v659 : BitVec 32) : Fin 2 → Nat :=
  let v664 : Index := Scalar.indexCast v659
  let c16_236 : Index := 16#32
  ![v664.toNat, 16]
def k0_off1206 (v659 : BitVec 32) : Fin 2 → Nat :=
  let v668 : Index := Scalar.indexCast v659
  let c32_237 : Index := 32#32
  ![v668.toNat, 32]
def k0_off1207 (v659 : BitVec 32) : Fin 2 → Nat :=
  let v672 : Index := Scalar.indexCast v659
  let c48_238 : Index := 48#32
  ![v672.toNat, 48]

def k0_chk286 (v659 : BitVec 32) : Prop :=
  (∀ a, (k0_off1204 v659) a + S1x16.size a ≤ S704x64.size a) ∧
  (∀ a, (k0_off1205 v659) a + S1x16.size a ≤ S704x64.size a) ∧
  (∀ a, (k0_off1206 v659) a + S1x16.size a ≤ S704x64.size a) ∧
  (∀ a, (k0_off1207 v659) a + S1x16.size a ≤ S704x64.size a)
theorem k0_off1204_inb : ∀ (v659 : BitVec 32) (k0_hw286 : k0_chk286 v659), ∀ a, (k0_off1204 v659) a + S1x16.size a ≤ S704x64.size a := fun v659 k0_hw286 => k0_hw286.1
theorem k0_off1205_inb : ∀ (v659 : BitVec 32) (k0_hw286 : k0_chk286 v659), ∀ a, (k0_off1205 v659) a + S1x16.size a ≤ S704x64.size a := fun v659 k0_hw286 => k0_hw286.2.1
theorem k0_off1206_inb : ∀ (v659 : BitVec 32) (k0_hw286 : k0_chk286 v659), ∀ a, (k0_off1206 v659) a + S1x16.size a ≤ S704x64.size a := fun v659 k0_hw286 => k0_hw286.2.2.1
theorem k0_off1207_inb : ∀ (v659 : BitVec 32) (k0_hw286 : k0_chk286 v659), ∀ a, (k0_off1207 v659) a + S1x16.size a ≤ S704x64.size a := fun v659 k0_hw286 => k0_hw286.2.2.2

def k0_off1208 (v680 : BitVec 32) : Fin 2 → Nat :=
  let v681 : Index := Scalar.indexCast v680
  let c0_239 : Index := 0#32
  ![v681.toNat, 0]

def k0_off1209 (v680 : BitVec 32) : Fin 2 → Nat :=
  let v685 : Index := Scalar.indexCast v680
  let c16_240 : Index := 16#32
  ![v685.toNat, 16]
def k0_off1210 (v680 : BitVec 32) : Fin 2 → Nat :=
  let v689 : Index := Scalar.indexCast v680
  let c32_241 : Index := 32#32
  ![v689.toNat, 32]
def k0_off1211 (v680 : BitVec 32) : Fin 2 → Nat :=
  let v693 : Index := Scalar.indexCast v680
  let c48_242 : Index := 48#32
  ![v693.toNat, 48]

def k0_chk287 (v680 : BitVec 32) : Prop :=
  (∀ a, (k0_off1208 v680) a + S1x16.size a ≤ S704x64.size a) ∧
  (∀ a, (k0_off1209 v680) a + S1x16.size a ≤ S704x64.size a) ∧
  (∀ a, (k0_off1210 v680) a + S1x16.size a ≤ S704x64.size a) ∧
  (∀ a, (k0_off1211 v680) a + S1x16.size a ≤ S704x64.size a)
theorem k0_off1208_inb : ∀ (v680 : BitVec 32) (k0_hw287 : k0_chk287 v680), ∀ a, (k0_off1208 v680) a + S1x16.size a ≤ S704x64.size a := fun v680 k0_hw287 => k0_hw287.1
theorem k0_off1209_inb : ∀ (v680 : BitVec 32) (k0_hw287 : k0_chk287 v680), ∀ a, (k0_off1209 v680) a + S1x16.size a ≤ S704x64.size a := fun v680 k0_hw287 => k0_hw287.2.1
theorem k0_off1210_inb : ∀ (v680 : BitVec 32) (k0_hw287 : k0_chk287 v680), ∀ a, (k0_off1210 v680) a + S1x16.size a ≤ S704x64.size a := fun v680 k0_hw287 => k0_hw287.2.2.1
theorem k0_off1211_inb : ∀ (v680 : BitVec 32) (k0_hw287 : k0_chk287 v680), ∀ a, (k0_off1211 v680) a + S1x16.size a ≤ S704x64.size a := fun v680 k0_hw287 => k0_hw287.2.2.2

def k0_off1212 (v701 : BitVec 32) : Fin 2 → Nat :=
  let v702 : Index := Scalar.indexCast v701
  let c0_243 : Index := 0#32
  ![v702.toNat, 0]

def k0_off1213 (v701 : BitVec 32) : Fin 2 → Nat :=
  let v706 : Index := Scalar.indexCast v701
  let c16_244 : Index := 16#32
  ![v706.toNat, 16]
def k0_off1214 (v701 : BitVec 32) : Fin 2 → Nat :=
  let v710 : Index := Scalar.indexCast v701
  let c32_245 : Index := 32#32
  ![v710.toNat, 32]
def k0_off1215 (v701 : BitVec 32) : Fin 2 → Nat :=
  let v714 : Index := Scalar.indexCast v701
  let c48_246 : Index := 48#32
  ![v714.toNat, 48]

def k0_chk288 (v701 : BitVec 32) : Prop :=
  (∀ a, (k0_off1212 v701) a + S1x16.size a ≤ S704x64.size a) ∧
  (∀ a, (k0_off1213 v701) a + S1x16.size a ≤ S704x64.size a) ∧
  (∀ a, (k0_off1214 v701) a + S1x16.size a ≤ S704x64.size a) ∧
  (∀ a, (k0_off1215 v701) a + S1x16.size a ≤ S704x64.size a)
theorem k0_off1212_inb : ∀ (v701 : BitVec 32) (k0_hw288 : k0_chk288 v701), ∀ a, (k0_off1212 v701) a + S1x16.size a ≤ S704x64.size a := fun v701 k0_hw288 => k0_hw288.1
theorem k0_off1213_inb : ∀ (v701 : BitVec 32) (k0_hw288 : k0_chk288 v701), ∀ a, (k0_off1213 v701) a + S1x16.size a ≤ S704x64.size a := fun v701 k0_hw288 => k0_hw288.2.1
theorem k0_off1214_inb : ∀ (v701 : BitVec 32) (k0_hw288 : k0_chk288 v701), ∀ a, (k0_off1214 v701) a + S1x16.size a ≤ S704x64.size a := fun v701 k0_hw288 => k0_hw288.2.2.1
theorem k0_off1215_inb : ∀ (v701 : BitVec 32) (k0_hw288 : k0_chk288 v701), ∀ a, (k0_off1215 v701) a + S1x16.size a ≤ S704x64.size a := fun v701 k0_hw288 => k0_hw288.2.2.2

def k0_off1216 (v722 : BitVec 32) : Fin 2 → Nat :=
  let v723 : Index := Scalar.indexCast v722
  let c0_247 : Index := 0#32
  ![v723.toNat, 0]

def k0_off1217 (v722 : BitVec 32) : Fin 2 → Nat :=
  let v727 : Index := Scalar.indexCast v722
  let c16_248 : Index := 16#32
  ![v727.toNat, 16]
def k0_off1218 (v722 : BitVec 32) : Fin 2 → Nat :=
  let v731 : Index := Scalar.indexCast v722
  let c32_249 : Index := 32#32
  ![v731.toNat, 32]
def k0_off1219 (v722 : BitVec 32) : Fin 2 → Nat :=
  let v735 : Index := Scalar.indexCast v722
  let c48_250 : Index := 48#32
  ![v735.toNat, 48]

def k0_chk289 (v722 : BitVec 32) : Prop :=
  (∀ a, (k0_off1216 v722) a + S1x16.size a ≤ S704x64.size a) ∧
  (∀ a, (k0_off1217 v722) a + S1x16.size a ≤ S704x64.size a) ∧
  (∀ a, (k0_off1218 v722) a + S1x16.size a ≤ S704x64.size a) ∧
  (∀ a, (k0_off1219 v722) a + S1x16.size a ≤ S704x64.size a)
theorem k0_off1216_inb : ∀ (v722 : BitVec 32) (k0_hw289 : k0_chk289 v722), ∀ a, (k0_off1216 v722) a + S1x16.size a ≤ S704x64.size a := fun v722 k0_hw289 => k0_hw289.1
theorem k0_off1217_inb : ∀ (v722 : BitVec 32) (k0_hw289 : k0_chk289 v722), ∀ a, (k0_off1217 v722) a + S1x16.size a ≤ S704x64.size a := fun v722 k0_hw289 => k0_hw289.2.1
theorem k0_off1218_inb : ∀ (v722 : BitVec 32) (k0_hw289 : k0_chk289 v722), ∀ a, (k0_off1218 v722) a + S1x16.size a ≤ S704x64.size a := fun v722 k0_hw289 => k0_hw289.2.2.1
theorem k0_off1219_inb : ∀ (v722 : BitVec 32) (k0_hw289 : k0_chk289 v722), ∀ a, (k0_off1219 v722) a + S1x16.size a ≤ S704x64.size a := fun v722 k0_hw289 => k0_hw289.2.2.2

def k0_off1220 (v743 : BitVec 32) : Fin 2 → Nat :=
  let v744 : Index := Scalar.indexCast v743
  let c0_251 : Index := 0#32
  ![v744.toNat, 0]

def k0_off1221 (v743 : BitVec 32) : Fin 2 → Nat :=
  let v748 : Index := Scalar.indexCast v743
  let c16_252 : Index := 16#32
  ![v748.toNat, 16]
def k0_off1222 (v743 : BitVec 32) : Fin 2 → Nat :=
  let v752 : Index := Scalar.indexCast v743
  let c32_253 : Index := 32#32
  ![v752.toNat, 32]
def k0_off1223 (v743 : BitVec 32) : Fin 2 → Nat :=
  let v756 : Index := Scalar.indexCast v743
  let c48_254 : Index := 48#32
  ![v756.toNat, 48]

def k0_chk290 (v743 : BitVec 32) : Prop :=
  (∀ a, (k0_off1220 v743) a + S1x16.size a ≤ S704x64.size a) ∧
  (∀ a, (k0_off1221 v743) a + S1x16.size a ≤ S704x64.size a) ∧
  (∀ a, (k0_off1222 v743) a + S1x16.size a ≤ S704x64.size a) ∧
  (∀ a, (k0_off1223 v743) a + S1x16.size a ≤ S704x64.size a)
theorem k0_off1220_inb : ∀ (v743 : BitVec 32) (k0_hw290 : k0_chk290 v743), ∀ a, (k0_off1220 v743) a + S1x16.size a ≤ S704x64.size a := fun v743 k0_hw290 => k0_hw290.1
theorem k0_off1221_inb : ∀ (v743 : BitVec 32) (k0_hw290 : k0_chk290 v743), ∀ a, (k0_off1221 v743) a + S1x16.size a ≤ S704x64.size a := fun v743 k0_hw290 => k0_hw290.2.1
theorem k0_off1222_inb : ∀ (v743 : BitVec 32) (k0_hw290 : k0_chk290 v743), ∀ a, (k0_off1222 v743) a + S1x16.size a ≤ S704x64.size a := fun v743 k0_hw290 => k0_hw290.2.2.1
theorem k0_off1223_inb : ∀ (v743 : BitVec 32) (k0_hw290 : k0_chk290 v743), ∀ a, (k0_off1223 v743) a + S1x16.size a ≤ S704x64.size a := fun v743 k0_hw290 => k0_hw290.2.2.2

def k0_off1224 (v764 : BitVec 32) : Fin 2 → Nat :=
  let v765 : Index := Scalar.indexCast v764
  let c0_255 : Index := 0#32
  ![v765.toNat, 0]

def k0_off1225 (v764 : BitVec 32) : Fin 2 → Nat :=
  let v769 : Index := Scalar.indexCast v764
  let c16_256 : Index := 16#32
  ![v769.toNat, 16]
def k0_off1226 (v764 : BitVec 32) : Fin 2 → Nat :=
  let v773 : Index := Scalar.indexCast v764
  let c32_257 : Index := 32#32
  ![v773.toNat, 32]
def k0_off1227 (v764 : BitVec 32) : Fin 2 → Nat :=
  let v777 : Index := Scalar.indexCast v764
  let c48_258 : Index := 48#32
  ![v777.toNat, 48]

def k0_chk291 (v764 : BitVec 32) : Prop :=
  (∀ a, (k0_off1224 v764) a + S1x16.size a ≤ S704x64.size a) ∧
  (∀ a, (k0_off1225 v764) a + S1x16.size a ≤ S704x64.size a) ∧
  (∀ a, (k0_off1226 v764) a + S1x16.size a ≤ S704x64.size a) ∧
  (∀ a, (k0_off1227 v764) a + S1x16.size a ≤ S704x64.size a)
theorem k0_off1224_inb : ∀ (v764 : BitVec 32) (k0_hw291 : k0_chk291 v764), ∀ a, (k0_off1224 v764) a + S1x16.size a ≤ S704x64.size a := fun v764 k0_hw291 => k0_hw291.1
theorem k0_off1225_inb : ∀ (v764 : BitVec 32) (k0_hw291 : k0_chk291 v764), ∀ a, (k0_off1225 v764) a + S1x16.size a ≤ S704x64.size a := fun v764 k0_hw291 => k0_hw291.2.1
theorem k0_off1226_inb : ∀ (v764 : BitVec 32) (k0_hw291 : k0_chk291 v764), ∀ a, (k0_off1226 v764) a + S1x16.size a ≤ S704x64.size a := fun v764 k0_hw291 => k0_hw291.2.2.1
theorem k0_off1227_inb : ∀ (v764 : BitVec 32) (k0_hw291 : k0_chk291 v764), ∀ a, (k0_off1227 v764) a + S1x16.size a ≤ S704x64.size a := fun v764 k0_hw291 => k0_hw291.2.2.2

def k0_off1228 (v785 : BitVec 32) : Fin 2 → Nat :=
  let v786 : Index := Scalar.indexCast v785
  let c0_259 : Index := 0#32
  ![v786.toNat, 0]

def k0_off1229 (v785 : BitVec 32) : Fin 2 → Nat :=
  let v790 : Index := Scalar.indexCast v785
  let c16_260 : Index := 16#32
  ![v790.toNat, 16]
def k0_off1230 (v785 : BitVec 32) : Fin 2 → Nat :=
  let v794 : Index := Scalar.indexCast v785
  let c32_261 : Index := 32#32
  ![v794.toNat, 32]
def k0_off1231 (v785 : BitVec 32) : Fin 2 → Nat :=
  let v798 : Index := Scalar.indexCast v785
  let c48_262 : Index := 48#32
  ![v798.toNat, 48]

def k0_chk292 (v785 : BitVec 32) : Prop :=
  (∀ a, (k0_off1228 v785) a + S1x16.size a ≤ S704x64.size a) ∧
  (∀ a, (k0_off1229 v785) a + S1x16.size a ≤ S704x64.size a) ∧
  (∀ a, (k0_off1230 v785) a + S1x16.size a ≤ S704x64.size a) ∧
  (∀ a, (k0_off1231 v785) a + S1x16.size a ≤ S704x64.size a)
theorem k0_off1228_inb : ∀ (v785 : BitVec 32) (k0_hw292 : k0_chk292 v785), ∀ a, (k0_off1228 v785) a + S1x16.size a ≤ S704x64.size a := fun v785 k0_hw292 => k0_hw292.1
theorem k0_off1229_inb : ∀ (v785 : BitVec 32) (k0_hw292 : k0_chk292 v785), ∀ a, (k0_off1229 v785) a + S1x16.size a ≤ S704x64.size a := fun v785 k0_hw292 => k0_hw292.2.1
theorem k0_off1230_inb : ∀ (v785 : BitVec 32) (k0_hw292 : k0_chk292 v785), ∀ a, (k0_off1230 v785) a + S1x16.size a ≤ S704x64.size a := fun v785 k0_hw292 => k0_hw292.2.2.1
theorem k0_off1231_inb : ∀ (v785 : BitVec 32) (k0_hw292 : k0_chk292 v785), ∀ a, (k0_off1231 v785) a + S1x16.size a ≤ S704x64.size a := fun v785 k0_hw292 => k0_hw292.2.2.2

def k0_off1232 (v806 : BitVec 32) : Fin 2 → Nat :=
  let v807 : Index := Scalar.indexCast v806
  let c0_263 : Index := 0#32
  ![v807.toNat, 0]

def k0_off1233 (v806 : BitVec 32) : Fin 2 → Nat :=
  let v811 : Index := Scalar.indexCast v806
  let c16_264 : Index := 16#32
  ![v811.toNat, 16]
def k0_off1234 (v806 : BitVec 32) : Fin 2 → Nat :=
  let v815 : Index := Scalar.indexCast v806
  let c32_265 : Index := 32#32
  ![v815.toNat, 32]
def k0_off1235 (v806 : BitVec 32) : Fin 2 → Nat :=
  let v819 : Index := Scalar.indexCast v806
  let c48_266 : Index := 48#32
  ![v819.toNat, 48]

def k0_chk293 (v806 : BitVec 32) : Prop :=
  (∀ a, (k0_off1232 v806) a + S1x16.size a ≤ S704x64.size a) ∧
  (∀ a, (k0_off1233 v806) a + S1x16.size a ≤ S704x64.size a) ∧
  (∀ a, (k0_off1234 v806) a + S1x16.size a ≤ S704x64.size a) ∧
  (∀ a, (k0_off1235 v806) a + S1x16.size a ≤ S704x64.size a)
theorem k0_off1232_inb : ∀ (v806 : BitVec 32) (k0_hw293 : k0_chk293 v806), ∀ a, (k0_off1232 v806) a + S1x16.size a ≤ S704x64.size a := fun v806 k0_hw293 => k0_hw293.1
theorem k0_off1233_inb : ∀ (v806 : BitVec 32) (k0_hw293 : k0_chk293 v806), ∀ a, (k0_off1233 v806) a + S1x16.size a ≤ S704x64.size a := fun v806 k0_hw293 => k0_hw293.2.1
theorem k0_off1234_inb : ∀ (v806 : BitVec 32) (k0_hw293 : k0_chk293 v806), ∀ a, (k0_off1234 v806) a + S1x16.size a ≤ S704x64.size a := fun v806 k0_hw293 => k0_hw293.2.2.1
theorem k0_off1235_inb : ∀ (v806 : BitVec 32) (k0_hw293 : k0_chk293 v806), ∀ a, (k0_off1235 v806) a + S1x16.size a ≤ S704x64.size a := fun v806 k0_hw293 => k0_hw293.2.2.2

def k0_off1236 (v827 : BitVec 32) : Fin 2 → Nat :=
  let v828 : Index := Scalar.indexCast v827
  let c0_267 : Index := 0#32
  ![v828.toNat, 0]

def k0_off1237 (v827 : BitVec 32) : Fin 2 → Nat :=
  let v832 : Index := Scalar.indexCast v827
  let c16_268 : Index := 16#32
  ![v832.toNat, 16]
def k0_off1238 (v827 : BitVec 32) : Fin 2 → Nat :=
  let v836 : Index := Scalar.indexCast v827
  let c32_269 : Index := 32#32
  ![v836.toNat, 32]
def k0_off1239 (v827 : BitVec 32) : Fin 2 → Nat :=
  let v840 : Index := Scalar.indexCast v827
  let c48_270 : Index := 48#32
  ![v840.toNat, 48]

def k0_chk294 (v827 : BitVec 32) : Prop :=
  (∀ a, (k0_off1236 v827) a + S1x16.size a ≤ S704x64.size a) ∧
  (∀ a, (k0_off1237 v827) a + S1x16.size a ≤ S704x64.size a) ∧
  (∀ a, (k0_off1238 v827) a + S1x16.size a ≤ S704x64.size a) ∧
  (∀ a, (k0_off1239 v827) a + S1x16.size a ≤ S704x64.size a)
theorem k0_off1236_inb : ∀ (v827 : BitVec 32) (k0_hw294 : k0_chk294 v827), ∀ a, (k0_off1236 v827) a + S1x16.size a ≤ S704x64.size a := fun v827 k0_hw294 => k0_hw294.1
theorem k0_off1237_inb : ∀ (v827 : BitVec 32) (k0_hw294 : k0_chk294 v827), ∀ a, (k0_off1237 v827) a + S1x16.size a ≤ S704x64.size a := fun v827 k0_hw294 => k0_hw294.2.1
theorem k0_off1238_inb : ∀ (v827 : BitVec 32) (k0_hw294 : k0_chk294 v827), ∀ a, (k0_off1238 v827) a + S1x16.size a ≤ S704x64.size a := fun v827 k0_hw294 => k0_hw294.2.2.1
theorem k0_off1239_inb : ∀ (v827 : BitVec 32) (k0_hw294 : k0_chk294 v827), ∀ a, (k0_off1239 v827) a + S1x16.size a ≤ S704x64.size a := fun v827 k0_hw294 => k0_hw294.2.2.2

def k0_off1240 (v848 : BitVec 32) : Fin 2 → Nat :=
  let v849 : Index := Scalar.indexCast v848
  let c0_271 : Index := 0#32
  ![v849.toNat, 0]

def k0_off1241 (v848 : BitVec 32) : Fin 2 → Nat :=
  let v853 : Index := Scalar.indexCast v848
  let c16_272 : Index := 16#32
  ![v853.toNat, 16]
def k0_off1242 (v848 : BitVec 32) : Fin 2 → Nat :=
  let v857 : Index := Scalar.indexCast v848
  let c32_273 : Index := 32#32
  ![v857.toNat, 32]
def k0_off1243 (v848 : BitVec 32) : Fin 2 → Nat :=
  let v861 : Index := Scalar.indexCast v848
  let c48_274 : Index := 48#32
  ![v861.toNat, 48]

def k0_chk295 (v848 : BitVec 32) : Prop :=
  (∀ a, (k0_off1240 v848) a + S1x16.size a ≤ S704x64.size a) ∧
  (∀ a, (k0_off1241 v848) a + S1x16.size a ≤ S704x64.size a) ∧
  (∀ a, (k0_off1242 v848) a + S1x16.size a ≤ S704x64.size a) ∧
  (∀ a, (k0_off1243 v848) a + S1x16.size a ≤ S704x64.size a)
theorem k0_off1240_inb : ∀ (v848 : BitVec 32) (k0_hw295 : k0_chk295 v848), ∀ a, (k0_off1240 v848) a + S1x16.size a ≤ S704x64.size a := fun v848 k0_hw295 => k0_hw295.1
theorem k0_off1241_inb : ∀ (v848 : BitVec 32) (k0_hw295 : k0_chk295 v848), ∀ a, (k0_off1241 v848) a + S1x16.size a ≤ S704x64.size a := fun v848 k0_hw295 => k0_hw295.2.1
theorem k0_off1242_inb : ∀ (v848 : BitVec 32) (k0_hw295 : k0_chk295 v848), ∀ a, (k0_off1242 v848) a + S1x16.size a ≤ S704x64.size a := fun v848 k0_hw295 => k0_hw295.2.2.1
theorem k0_off1243_inb : ∀ (v848 : BitVec 32) (k0_hw295 : k0_chk295 v848), ∀ a, (k0_off1243 v848) a + S1x16.size a ≤ S704x64.size a := fun v848 k0_hw295 => k0_hw295.2.2.2

def k0_off1244 (v869 : BitVec 32) : Fin 2 → Nat :=
  let v870 : Index := Scalar.indexCast v869
  let c0_275 : Index := 0#32
  ![v870.toNat, 0]

def k0_off1245 (v869 : BitVec 32) : Fin 2 → Nat :=
  let v874 : Index := Scalar.indexCast v869
  let c16_276 : Index := 16#32
  ![v874.toNat, 16]
def k0_off1246 (v869 : BitVec 32) : Fin 2 → Nat :=
  let v878 : Index := Scalar.indexCast v869
  let c32_277 : Index := 32#32
  ![v878.toNat, 32]
def k0_off1247 (v869 : BitVec 32) : Fin 2 → Nat :=
  let v882 : Index := Scalar.indexCast v869
  let c48_278 : Index := 48#32
  ![v882.toNat, 48]

def k0_chk296 (v869 : BitVec 32) : Prop :=
  (∀ a, (k0_off1244 v869) a + S1x16.size a ≤ S704x64.size a) ∧
  (∀ a, (k0_off1245 v869) a + S1x16.size a ≤ S704x64.size a) ∧
  (∀ a, (k0_off1246 v869) a + S1x16.size a ≤ S704x64.size a) ∧
  (∀ a, (k0_off1247 v869) a + S1x16.size a ≤ S704x64.size a)
theorem k0_off1244_inb : ∀ (v869 : BitVec 32) (k0_hw296 : k0_chk296 v869), ∀ a, (k0_off1244 v869) a + S1x16.size a ≤ S704x64.size a := fun v869 k0_hw296 => k0_hw296.1
theorem k0_off1245_inb : ∀ (v869 : BitVec 32) (k0_hw296 : k0_chk296 v869), ∀ a, (k0_off1245 v869) a + S1x16.size a ≤ S704x64.size a := fun v869 k0_hw296 => k0_hw296.2.1
theorem k0_off1246_inb : ∀ (v869 : BitVec 32) (k0_hw296 : k0_chk296 v869), ∀ a, (k0_off1246 v869) a + S1x16.size a ≤ S704x64.size a := fun v869 k0_hw296 => k0_hw296.2.2.1
theorem k0_off1247_inb : ∀ (v869 : BitVec 32) (k0_hw296 : k0_chk296 v869), ∀ a, (k0_off1247 v869) a + S1x16.size a ≤ S704x64.size a := fun v869 k0_hw296 => k0_hw296.2.2.2

def k0_off1248 (v890 : BitVec 32) : Fin 2 → Nat :=
  let v891 : Index := Scalar.indexCast v890
  let c0_279 : Index := 0#32
  ![v891.toNat, 0]

def k0_off1249 (v890 : BitVec 32) : Fin 2 → Nat :=
  let v895 : Index := Scalar.indexCast v890
  let c16_280 : Index := 16#32
  ![v895.toNat, 16]
def k0_off1250 (v890 : BitVec 32) : Fin 2 → Nat :=
  let v899 : Index := Scalar.indexCast v890
  let c32_281 : Index := 32#32
  ![v899.toNat, 32]
def k0_off1251 (v890 : BitVec 32) : Fin 2 → Nat :=
  let v903 : Index := Scalar.indexCast v890
  let c48_282 : Index := 48#32
  ![v903.toNat, 48]

def k0_chk297 (v890 : BitVec 32) : Prop :=
  (∀ a, (k0_off1248 v890) a + S1x16.size a ≤ S704x64.size a) ∧
  (∀ a, (k0_off1249 v890) a + S1x16.size a ≤ S704x64.size a) ∧
  (∀ a, (k0_off1250 v890) a + S1x16.size a ≤ S704x64.size a) ∧
  (∀ a, (k0_off1251 v890) a + S1x16.size a ≤ S704x64.size a)
theorem k0_off1248_inb : ∀ (v890 : BitVec 32) (k0_hw297 : k0_chk297 v890), ∀ a, (k0_off1248 v890) a + S1x16.size a ≤ S704x64.size a := fun v890 k0_hw297 => k0_hw297.1
theorem k0_off1249_inb : ∀ (v890 : BitVec 32) (k0_hw297 : k0_chk297 v890), ∀ a, (k0_off1249 v890) a + S1x16.size a ≤ S704x64.size a := fun v890 k0_hw297 => k0_hw297.2.1
theorem k0_off1250_inb : ∀ (v890 : BitVec 32) (k0_hw297 : k0_chk297 v890), ∀ a, (k0_off1250 v890) a + S1x16.size a ≤ S704x64.size a := fun v890 k0_hw297 => k0_hw297.2.2.1
theorem k0_off1251_inb : ∀ (v890 : BitVec 32) (k0_hw297 : k0_chk297 v890), ∀ a, (k0_off1251 v890) a + S1x16.size a ≤ S704x64.size a := fun v890 k0_hw297 => k0_hw297.2.2.2

def k0_off1252 (k0_t5 : Fin k0_t5_loop.trips) : Fin 2 → Nat :=
  let c2_i32_143 : BitVec 32 := 2#32
  let c0_i32_94 : BitVec 32 := 0#32
  let c1_i32_96 : BitVec 32 := 1#32
  let arg13 : BitVec 32 := Scf.iv c0_i32_94 c1_i32_96 k0_t5
  let v189 : BitVec 32 := Scalar.muli c2_i32_143 arg13
  let v907 : Index := Scalar.indexCast v189
  let c0_283 : Index := 0#32
  ![v907.toNat, 0]
def k0_off1253 (k0_t5 : Fin k0_t5_loop.trips) : Fin 2 → Nat :=
  let c2_i32_143 : BitVec 32 := 2#32
  let c0_i32_94 : BitVec 32 := 0#32
  let c1_i32_96 : BitVec 32 := 1#32
  let arg13 : BitVec 32 := Scf.iv c0_i32_94 c1_i32_96 k0_t5
  let v189 : BitVec 32 := Scalar.muli c2_i32_143 arg13
  let v909 : Index := Scalar.indexCast v189
  let c16_284 : Index := 16#32
  ![v909.toNat, 16]
def k0_off1254 (k0_t5 : Fin k0_t5_loop.trips) : Fin 2 → Nat :=
  let c2_i32_143 : BitVec 32 := 2#32
  let c0_i32_94 : BitVec 32 := 0#32
  let c1_i32_96 : BitVec 32 := 1#32
  let arg13 : BitVec 32 := Scf.iv c0_i32_94 c1_i32_96 k0_t5
  let v189 : BitVec 32 := Scalar.muli c2_i32_143 arg13
  let v911 : Index := Scalar.indexCast v189
  let c32_285 : Index := 32#32
  ![v911.toNat, 32]
def k0_off1255 (k0_t5 : Fin k0_t5_loop.trips) : Fin 2 → Nat :=
  let c2_i32_143 : BitVec 32 := 2#32
  let c0_i32_94 : BitVec 32 := 0#32
  let c1_i32_96 : BitVec 32 := 1#32
  let arg13 : BitVec 32 := Scf.iv c0_i32_94 c1_i32_96 k0_t5
  let v189 : BitVec 32 := Scalar.muli c2_i32_143 arg13
  let v913 : Index := Scalar.indexCast v189
  let c48_286 : Index := 48#32
  ![v913.toNat, 48]
def k0_off1256 (k0_t5 : Fin k0_t5_loop.trips) : Fin 2 → Nat :=
  let c2_i32_144 : BitVec 32 := 2#32
  let c0_i32_94 : BitVec 32 := 0#32
  let c1_i32_96 : BitVec 32 := 1#32
  let arg13 : BitVec 32 := Scf.iv c0_i32_94 c1_i32_96 k0_t5
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off1257 (k0_t5 : Fin k0_t5_loop.trips) : Fin 2 → Nat :=
  let c2_i32_144 : BitVec 32 := 2#32
  let c0_i32_94 : BitVec 32 := 0#32
  let c1_i32_96 : BitVec 32 := 1#32
  let arg13 : BitVec 32 := Scf.iv c0_i32_94 c1_i32_96 k0_t5
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off1258 (k0_t5 : Fin k0_t5_loop.trips) : Fin 2 → Nat :=
  let c2_i32_144 : BitVec 32 := 2#32
  let c0_i32_94 : BitVec 32 := 0#32
  let c1_i32_96 : BitVec 32 := 1#32
  let arg13 : BitVec 32 := Scf.iv c0_i32_94 c1_i32_96 k0_t5
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off1259 (v941 : BitVec 32) : Fin 2 → Nat :=
  let v942 : Index := Scalar.indexCast v941
  let c0_297 : Index := 0#32
  ![v942.toNat, 0]

def k0_off1260 (v941 : BitVec 32) : Fin 2 → Nat :=
  let v946 : Index := Scalar.indexCast v941
  let c16_298 : Index := 16#32
  ![v946.toNat, 16]
def k0_off1261 (v941 : BitVec 32) : Fin 2 → Nat :=
  let v950 : Index := Scalar.indexCast v941
  let c32_299 : Index := 32#32
  ![v950.toNat, 32]
def k0_off1262 (v941 : BitVec 32) : Fin 2 → Nat :=
  let v954 : Index := Scalar.indexCast v941
  let c48_300 : Index := 48#32
  ![v954.toNat, 48]

def k0_chk298 (v941 : BitVec 32) : Prop :=
  (∀ a, (k0_off1259 v941) a + S1x16.size a ≤ S704x64.size a) ∧
  (∀ a, (k0_off1260 v941) a + S1x16.size a ≤ S704x64.size a) ∧
  (∀ a, (k0_off1261 v941) a + S1x16.size a ≤ S704x64.size a) ∧
  (∀ a, (k0_off1262 v941) a + S1x16.size a ≤ S704x64.size a)
theorem k0_off1259_inb : ∀ (v941 : BitVec 32) (k0_hw298 : k0_chk298 v941), ∀ a, (k0_off1259 v941) a + S1x16.size a ≤ S704x64.size a := fun v941 k0_hw298 => k0_hw298.1
theorem k0_off1260_inb : ∀ (v941 : BitVec 32) (k0_hw298 : k0_chk298 v941), ∀ a, (k0_off1260 v941) a + S1x16.size a ≤ S704x64.size a := fun v941 k0_hw298 => k0_hw298.2.1
theorem k0_off1261_inb : ∀ (v941 : BitVec 32) (k0_hw298 : k0_chk298 v941), ∀ a, (k0_off1261 v941) a + S1x16.size a ≤ S704x64.size a := fun v941 k0_hw298 => k0_hw298.2.2.1
theorem k0_off1262_inb : ∀ (v941 : BitVec 32) (k0_hw298 : k0_chk298 v941), ∀ a, (k0_off1262 v941) a + S1x16.size a ≤ S704x64.size a := fun v941 k0_hw298 => k0_hw298.2.2.2

def k0_off1263 (v962 : BitVec 32) : Fin 2 → Nat :=
  let v963 : Index := Scalar.indexCast v962
  let c0_301 : Index := 0#32
  ![v963.toNat, 0]

def k0_off1264 (v962 : BitVec 32) : Fin 2 → Nat :=
  let v967 : Index := Scalar.indexCast v962
  let c16_302 : Index := 16#32
  ![v967.toNat, 16]
def k0_off1265 (v962 : BitVec 32) : Fin 2 → Nat :=
  let v971 : Index := Scalar.indexCast v962
  let c32_303 : Index := 32#32
  ![v971.toNat, 32]
def k0_off1266 (v962 : BitVec 32) : Fin 2 → Nat :=
  let v975 : Index := Scalar.indexCast v962
  let c48_304 : Index := 48#32
  ![v975.toNat, 48]

def k0_chk299 (v962 : BitVec 32) : Prop :=
  (∀ a, (k0_off1263 v962) a + S1x16.size a ≤ S704x64.size a) ∧
  (∀ a, (k0_off1264 v962) a + S1x16.size a ≤ S704x64.size a) ∧
  (∀ a, (k0_off1265 v962) a + S1x16.size a ≤ S704x64.size a) ∧
  (∀ a, (k0_off1266 v962) a + S1x16.size a ≤ S704x64.size a)
theorem k0_off1263_inb : ∀ (v962 : BitVec 32) (k0_hw299 : k0_chk299 v962), ∀ a, (k0_off1263 v962) a + S1x16.size a ≤ S704x64.size a := fun v962 k0_hw299 => k0_hw299.1
theorem k0_off1264_inb : ∀ (v962 : BitVec 32) (k0_hw299 : k0_chk299 v962), ∀ a, (k0_off1264 v962) a + S1x16.size a ≤ S704x64.size a := fun v962 k0_hw299 => k0_hw299.2.1
theorem k0_off1265_inb : ∀ (v962 : BitVec 32) (k0_hw299 : k0_chk299 v962), ∀ a, (k0_off1265 v962) a + S1x16.size a ≤ S704x64.size a := fun v962 k0_hw299 => k0_hw299.2.2.1
theorem k0_off1266_inb : ∀ (v962 : BitVec 32) (k0_hw299 : k0_chk299 v962), ∀ a, (k0_off1266 v962) a + S1x16.size a ≤ S704x64.size a := fun v962 k0_hw299 => k0_hw299.2.2.2

def k0_off1267 (v983 : BitVec 32) : Fin 2 → Nat :=
  let v984 : Index := Scalar.indexCast v983
  let c0_305 : Index := 0#32
  ![v984.toNat, 0]

def k0_off1268 (v983 : BitVec 32) : Fin 2 → Nat :=
  let v988 : Index := Scalar.indexCast v983
  let c16_306 : Index := 16#32
  ![v988.toNat, 16]
def k0_off1269 (v983 : BitVec 32) : Fin 2 → Nat :=
  let v992 : Index := Scalar.indexCast v983
  let c32_307 : Index := 32#32
  ![v992.toNat, 32]
def k0_off1270 (v983 : BitVec 32) : Fin 2 → Nat :=
  let v996 : Index := Scalar.indexCast v983
  let c48_308 : Index := 48#32
  ![v996.toNat, 48]

def k0_chk300 (v983 : BitVec 32) : Prop :=
  (∀ a, (k0_off1267 v983) a + S1x16.size a ≤ S704x64.size a) ∧
  (∀ a, (k0_off1268 v983) a + S1x16.size a ≤ S704x64.size a) ∧
  (∀ a, (k0_off1269 v983) a + S1x16.size a ≤ S704x64.size a) ∧
  (∀ a, (k0_off1270 v983) a + S1x16.size a ≤ S704x64.size a)
theorem k0_off1267_inb : ∀ (v983 : BitVec 32) (k0_hw300 : k0_chk300 v983), ∀ a, (k0_off1267 v983) a + S1x16.size a ≤ S704x64.size a := fun v983 k0_hw300 => k0_hw300.1
theorem k0_off1268_inb : ∀ (v983 : BitVec 32) (k0_hw300 : k0_chk300 v983), ∀ a, (k0_off1268 v983) a + S1x16.size a ≤ S704x64.size a := fun v983 k0_hw300 => k0_hw300.2.1
theorem k0_off1269_inb : ∀ (v983 : BitVec 32) (k0_hw300 : k0_chk300 v983), ∀ a, (k0_off1269 v983) a + S1x16.size a ≤ S704x64.size a := fun v983 k0_hw300 => k0_hw300.2.2.1
theorem k0_off1270_inb : ∀ (v983 : BitVec 32) (k0_hw300 : k0_chk300 v983), ∀ a, (k0_off1270 v983) a + S1x16.size a ≤ S704x64.size a := fun v983 k0_hw300 => k0_hw300.2.2.2

def k0_off1271 (v1004 : BitVec 32) : Fin 2 → Nat :=
  let v1005 : Index := Scalar.indexCast v1004
  let c0_309 : Index := 0#32
  ![v1005.toNat, 0]

def k0_off1272 (v1004 : BitVec 32) : Fin 2 → Nat :=
  let v1009 : Index := Scalar.indexCast v1004
  let c16_310 : Index := 16#32
  ![v1009.toNat, 16]
def k0_off1273 (v1004 : BitVec 32) : Fin 2 → Nat :=
  let v1013 : Index := Scalar.indexCast v1004
  let c32_311 : Index := 32#32
  ![v1013.toNat, 32]
def k0_off1274 (v1004 : BitVec 32) : Fin 2 → Nat :=
  let v1017 : Index := Scalar.indexCast v1004
  let c48_312 : Index := 48#32
  ![v1017.toNat, 48]

def k0_chk301 (v1004 : BitVec 32) : Prop :=
  (∀ a, (k0_off1271 v1004) a + S1x16.size a ≤ S704x64.size a) ∧
  (∀ a, (k0_off1272 v1004) a + S1x16.size a ≤ S704x64.size a) ∧
  (∀ a, (k0_off1273 v1004) a + S1x16.size a ≤ S704x64.size a) ∧
  (∀ a, (k0_off1274 v1004) a + S1x16.size a ≤ S704x64.size a)
theorem k0_off1271_inb : ∀ (v1004 : BitVec 32) (k0_hw301 : k0_chk301 v1004), ∀ a, (k0_off1271 v1004) a + S1x16.size a ≤ S704x64.size a := fun v1004 k0_hw301 => k0_hw301.1
theorem k0_off1272_inb : ∀ (v1004 : BitVec 32) (k0_hw301 : k0_chk301 v1004), ∀ a, (k0_off1272 v1004) a + S1x16.size a ≤ S704x64.size a := fun v1004 k0_hw301 => k0_hw301.2.1
theorem k0_off1273_inb : ∀ (v1004 : BitVec 32) (k0_hw301 : k0_chk301 v1004), ∀ a, (k0_off1273 v1004) a + S1x16.size a ≤ S704x64.size a := fun v1004 k0_hw301 => k0_hw301.2.2.1
theorem k0_off1274_inb : ∀ (v1004 : BitVec 32) (k0_hw301 : k0_chk301 v1004), ∀ a, (k0_off1274 v1004) a + S1x16.size a ≤ S704x64.size a := fun v1004 k0_hw301 => k0_hw301.2.2.2

def k0_off1275 (v1025 : BitVec 32) : Fin 2 → Nat :=
  let v1026 : Index := Scalar.indexCast v1025
  let c0_313 : Index := 0#32
  ![v1026.toNat, 0]

def k0_off1276 (v1025 : BitVec 32) : Fin 2 → Nat :=
  let v1030 : Index := Scalar.indexCast v1025
  let c16_314 : Index := 16#32
  ![v1030.toNat, 16]
def k0_off1277 (v1025 : BitVec 32) : Fin 2 → Nat :=
  let v1034 : Index := Scalar.indexCast v1025
  let c32_315 : Index := 32#32
  ![v1034.toNat, 32]
def k0_off1278 (v1025 : BitVec 32) : Fin 2 → Nat :=
  let v1038 : Index := Scalar.indexCast v1025
  let c48_316 : Index := 48#32
  ![v1038.toNat, 48]

def k0_chk302 (v1025 : BitVec 32) : Prop :=
  (∀ a, (k0_off1275 v1025) a + S1x16.size a ≤ S704x64.size a) ∧
  (∀ a, (k0_off1276 v1025) a + S1x16.size a ≤ S704x64.size a) ∧
  (∀ a, (k0_off1277 v1025) a + S1x16.size a ≤ S704x64.size a) ∧
  (∀ a, (k0_off1278 v1025) a + S1x16.size a ≤ S704x64.size a)
theorem k0_off1275_inb : ∀ (v1025 : BitVec 32) (k0_hw302 : k0_chk302 v1025), ∀ a, (k0_off1275 v1025) a + S1x16.size a ≤ S704x64.size a := fun v1025 k0_hw302 => k0_hw302.1
theorem k0_off1276_inb : ∀ (v1025 : BitVec 32) (k0_hw302 : k0_chk302 v1025), ∀ a, (k0_off1276 v1025) a + S1x16.size a ≤ S704x64.size a := fun v1025 k0_hw302 => k0_hw302.2.1
theorem k0_off1277_inb : ∀ (v1025 : BitVec 32) (k0_hw302 : k0_chk302 v1025), ∀ a, (k0_off1277 v1025) a + S1x16.size a ≤ S704x64.size a := fun v1025 k0_hw302 => k0_hw302.2.2.1
theorem k0_off1278_inb : ∀ (v1025 : BitVec 32) (k0_hw302 : k0_chk302 v1025), ∀ a, (k0_off1278 v1025) a + S1x16.size a ≤ S704x64.size a := fun v1025 k0_hw302 => k0_hw302.2.2.2

def k0_off1279 (v1046 : BitVec 32) : Fin 2 → Nat :=
  let v1047 : Index := Scalar.indexCast v1046
  let c0_317 : Index := 0#32
  ![v1047.toNat, 0]

def k0_off1280 (v1046 : BitVec 32) : Fin 2 → Nat :=
  let v1051 : Index := Scalar.indexCast v1046
  let c16_318 : Index := 16#32
  ![v1051.toNat, 16]
def k0_off1281 (v1046 : BitVec 32) : Fin 2 → Nat :=
  let v1055 : Index := Scalar.indexCast v1046
  let c32_319 : Index := 32#32
  ![v1055.toNat, 32]
def k0_off1282 (v1046 : BitVec 32) : Fin 2 → Nat :=
  let v1059 : Index := Scalar.indexCast v1046
  let c48_320 : Index := 48#32
  ![v1059.toNat, 48]

def k0_chk303 (v1046 : BitVec 32) : Prop :=
  (∀ a, (k0_off1279 v1046) a + S1x16.size a ≤ S704x64.size a) ∧
  (∀ a, (k0_off1280 v1046) a + S1x16.size a ≤ S704x64.size a) ∧
  (∀ a, (k0_off1281 v1046) a + S1x16.size a ≤ S704x64.size a) ∧
  (∀ a, (k0_off1282 v1046) a + S1x16.size a ≤ S704x64.size a)
theorem k0_off1279_inb : ∀ (v1046 : BitVec 32) (k0_hw303 : k0_chk303 v1046), ∀ a, (k0_off1279 v1046) a + S1x16.size a ≤ S704x64.size a := fun v1046 k0_hw303 => k0_hw303.1
theorem k0_off1280_inb : ∀ (v1046 : BitVec 32) (k0_hw303 : k0_chk303 v1046), ∀ a, (k0_off1280 v1046) a + S1x16.size a ≤ S704x64.size a := fun v1046 k0_hw303 => k0_hw303.2.1
theorem k0_off1281_inb : ∀ (v1046 : BitVec 32) (k0_hw303 : k0_chk303 v1046), ∀ a, (k0_off1281 v1046) a + S1x16.size a ≤ S704x64.size a := fun v1046 k0_hw303 => k0_hw303.2.2.1
theorem k0_off1282_inb : ∀ (v1046 : BitVec 32) (k0_hw303 : k0_chk303 v1046), ∀ a, (k0_off1282 v1046) a + S1x16.size a ≤ S704x64.size a := fun v1046 k0_hw303 => k0_hw303.2.2.2

def k0_off1283 (v1067 : BitVec 32) : Fin 2 → Nat :=
  let v1068 : Index := Scalar.indexCast v1067
  let c0_321 : Index := 0#32
  ![v1068.toNat, 0]

def k0_off1284 (v1067 : BitVec 32) : Fin 2 → Nat :=
  let v1072 : Index := Scalar.indexCast v1067
  let c16_322 : Index := 16#32
  ![v1072.toNat, 16]
def k0_off1285 (v1067 : BitVec 32) : Fin 2 → Nat :=
  let v1076 : Index := Scalar.indexCast v1067
  let c32_323 : Index := 32#32
  ![v1076.toNat, 32]
def k0_off1286 (v1067 : BitVec 32) : Fin 2 → Nat :=
  let v1080 : Index := Scalar.indexCast v1067
  let c48_324 : Index := 48#32
  ![v1080.toNat, 48]

def k0_chk304 (v1067 : BitVec 32) : Prop :=
  (∀ a, (k0_off1283 v1067) a + S1x16.size a ≤ S704x64.size a) ∧
  (∀ a, (k0_off1284 v1067) a + S1x16.size a ≤ S704x64.size a) ∧
  (∀ a, (k0_off1285 v1067) a + S1x16.size a ≤ S704x64.size a) ∧
  (∀ a, (k0_off1286 v1067) a + S1x16.size a ≤ S704x64.size a)
theorem k0_off1283_inb : ∀ (v1067 : BitVec 32) (k0_hw304 : k0_chk304 v1067), ∀ a, (k0_off1283 v1067) a + S1x16.size a ≤ S704x64.size a := fun v1067 k0_hw304 => k0_hw304.1
theorem k0_off1284_inb : ∀ (v1067 : BitVec 32) (k0_hw304 : k0_chk304 v1067), ∀ a, (k0_off1284 v1067) a + S1x16.size a ≤ S704x64.size a := fun v1067 k0_hw304 => k0_hw304.2.1
theorem k0_off1285_inb : ∀ (v1067 : BitVec 32) (k0_hw304 : k0_chk304 v1067), ∀ a, (k0_off1285 v1067) a + S1x16.size a ≤ S704x64.size a := fun v1067 k0_hw304 => k0_hw304.2.2.1
theorem k0_off1286_inb : ∀ (v1067 : BitVec 32) (k0_hw304 : k0_chk304 v1067), ∀ a, (k0_off1286 v1067) a + S1x16.size a ≤ S704x64.size a := fun v1067 k0_hw304 => k0_hw304.2.2.2

def k0_off1287 (v1088 : BitVec 32) : Fin 2 → Nat :=
  let v1089 : Index := Scalar.indexCast v1088
  let c0_325 : Index := 0#32
  ![v1089.toNat, 0]

def k0_off1288 (v1088 : BitVec 32) : Fin 2 → Nat :=
  let v1093 : Index := Scalar.indexCast v1088
  let c16_326 : Index := 16#32
  ![v1093.toNat, 16]
def k0_off1289 (v1088 : BitVec 32) : Fin 2 → Nat :=
  let v1097 : Index := Scalar.indexCast v1088
  let c32_327 : Index := 32#32
  ![v1097.toNat, 32]
def k0_off1290 (v1088 : BitVec 32) : Fin 2 → Nat :=
  let v1101 : Index := Scalar.indexCast v1088
  let c48_328 : Index := 48#32
  ![v1101.toNat, 48]

def k0_chk305 (v1088 : BitVec 32) : Prop :=
  (∀ a, (k0_off1287 v1088) a + S1x16.size a ≤ S704x64.size a) ∧
  (∀ a, (k0_off1288 v1088) a + S1x16.size a ≤ S704x64.size a) ∧
  (∀ a, (k0_off1289 v1088) a + S1x16.size a ≤ S704x64.size a) ∧
  (∀ a, (k0_off1290 v1088) a + S1x16.size a ≤ S704x64.size a)
theorem k0_off1287_inb : ∀ (v1088 : BitVec 32) (k0_hw305 : k0_chk305 v1088), ∀ a, (k0_off1287 v1088) a + S1x16.size a ≤ S704x64.size a := fun v1088 k0_hw305 => k0_hw305.1
theorem k0_off1288_inb : ∀ (v1088 : BitVec 32) (k0_hw305 : k0_chk305 v1088), ∀ a, (k0_off1288 v1088) a + S1x16.size a ≤ S704x64.size a := fun v1088 k0_hw305 => k0_hw305.2.1
theorem k0_off1289_inb : ∀ (v1088 : BitVec 32) (k0_hw305 : k0_chk305 v1088), ∀ a, (k0_off1289 v1088) a + S1x16.size a ≤ S704x64.size a := fun v1088 k0_hw305 => k0_hw305.2.2.1
theorem k0_off1290_inb : ∀ (v1088 : BitVec 32) (k0_hw305 : k0_chk305 v1088), ∀ a, (k0_off1290 v1088) a + S1x16.size a ≤ S704x64.size a := fun v1088 k0_hw305 => k0_hw305.2.2.2

def k0_off1291 (v1109 : BitVec 32) : Fin 2 → Nat :=
  let v1110 : Index := Scalar.indexCast v1109
  let c0_329 : Index := 0#32
  ![v1110.toNat, 0]

def k0_off1292 (v1109 : BitVec 32) : Fin 2 → Nat :=
  let v1114 : Index := Scalar.indexCast v1109
  let c16_330 : Index := 16#32
  ![v1114.toNat, 16]
def k0_off1293 (v1109 : BitVec 32) : Fin 2 → Nat :=
  let v1118 : Index := Scalar.indexCast v1109
  let c32_331 : Index := 32#32
  ![v1118.toNat, 32]
def k0_off1294 (v1109 : BitVec 32) : Fin 2 → Nat :=
  let v1122 : Index := Scalar.indexCast v1109
  let c48_332 : Index := 48#32
  ![v1122.toNat, 48]

def k0_chk306 (v1109 : BitVec 32) : Prop :=
  (∀ a, (k0_off1291 v1109) a + S1x16.size a ≤ S704x64.size a) ∧
  (∀ a, (k0_off1292 v1109) a + S1x16.size a ≤ S704x64.size a) ∧
  (∀ a, (k0_off1293 v1109) a + S1x16.size a ≤ S704x64.size a) ∧
  (∀ a, (k0_off1294 v1109) a + S1x16.size a ≤ S704x64.size a)
theorem k0_off1291_inb : ∀ (v1109 : BitVec 32) (k0_hw306 : k0_chk306 v1109), ∀ a, (k0_off1291 v1109) a + S1x16.size a ≤ S704x64.size a := fun v1109 k0_hw306 => k0_hw306.1
theorem k0_off1292_inb : ∀ (v1109 : BitVec 32) (k0_hw306 : k0_chk306 v1109), ∀ a, (k0_off1292 v1109) a + S1x16.size a ≤ S704x64.size a := fun v1109 k0_hw306 => k0_hw306.2.1
theorem k0_off1293_inb : ∀ (v1109 : BitVec 32) (k0_hw306 : k0_chk306 v1109), ∀ a, (k0_off1293 v1109) a + S1x16.size a ≤ S704x64.size a := fun v1109 k0_hw306 => k0_hw306.2.2.1
theorem k0_off1294_inb : ∀ (v1109 : BitVec 32) (k0_hw306 : k0_chk306 v1109), ∀ a, (k0_off1294 v1109) a + S1x16.size a ≤ S704x64.size a := fun v1109 k0_hw306 => k0_hw306.2.2.2

def k0_off1295 (v1130 : BitVec 32) : Fin 2 → Nat :=
  let v1131 : Index := Scalar.indexCast v1130
  let c0_333 : Index := 0#32
  ![v1131.toNat, 0]

def k0_off1296 (v1130 : BitVec 32) : Fin 2 → Nat :=
  let v1135 : Index := Scalar.indexCast v1130
  let c16_334 : Index := 16#32
  ![v1135.toNat, 16]
def k0_off1297 (v1130 : BitVec 32) : Fin 2 → Nat :=
  let v1139 : Index := Scalar.indexCast v1130
  let c32_335 : Index := 32#32
  ![v1139.toNat, 32]
def k0_off1298 (v1130 : BitVec 32) : Fin 2 → Nat :=
  let v1143 : Index := Scalar.indexCast v1130
  let c48_336 : Index := 48#32
  ![v1143.toNat, 48]

def k0_chk307 (v1130 : BitVec 32) : Prop :=
  (∀ a, (k0_off1295 v1130) a + S1x16.size a ≤ S704x64.size a) ∧
  (∀ a, (k0_off1296 v1130) a + S1x16.size a ≤ S704x64.size a) ∧
  (∀ a, (k0_off1297 v1130) a + S1x16.size a ≤ S704x64.size a) ∧
  (∀ a, (k0_off1298 v1130) a + S1x16.size a ≤ S704x64.size a)
theorem k0_off1295_inb : ∀ (v1130 : BitVec 32) (k0_hw307 : k0_chk307 v1130), ∀ a, (k0_off1295 v1130) a + S1x16.size a ≤ S704x64.size a := fun v1130 k0_hw307 => k0_hw307.1
theorem k0_off1296_inb : ∀ (v1130 : BitVec 32) (k0_hw307 : k0_chk307 v1130), ∀ a, (k0_off1296 v1130) a + S1x16.size a ≤ S704x64.size a := fun v1130 k0_hw307 => k0_hw307.2.1
theorem k0_off1297_inb : ∀ (v1130 : BitVec 32) (k0_hw307 : k0_chk307 v1130), ∀ a, (k0_off1297 v1130) a + S1x16.size a ≤ S704x64.size a := fun v1130 k0_hw307 => k0_hw307.2.2.1
theorem k0_off1298_inb : ∀ (v1130 : BitVec 32) (k0_hw307 : k0_chk307 v1130), ∀ a, (k0_off1298 v1130) a + S1x16.size a ≤ S704x64.size a := fun v1130 k0_hw307 => k0_hw307.2.2.2

def k0_off1299 (v1151 : BitVec 32) : Fin 2 → Nat :=
  let v1152 : Index := Scalar.indexCast v1151
  let c0_337 : Index := 0#32
  ![v1152.toNat, 0]

def k0_off1300 (v1151 : BitVec 32) : Fin 2 → Nat :=
  let v1156 : Index := Scalar.indexCast v1151
  let c16_338 : Index := 16#32
  ![v1156.toNat, 16]
def k0_off1301 (v1151 : BitVec 32) : Fin 2 → Nat :=
  let v1160 : Index := Scalar.indexCast v1151
  let c32_339 : Index := 32#32
  ![v1160.toNat, 32]
def k0_off1302 (v1151 : BitVec 32) : Fin 2 → Nat :=
  let v1164 : Index := Scalar.indexCast v1151
  let c48_340 : Index := 48#32
  ![v1164.toNat, 48]

def k0_chk308 (v1151 : BitVec 32) : Prop :=
  (∀ a, (k0_off1299 v1151) a + S1x16.size a ≤ S704x64.size a) ∧
  (∀ a, (k0_off1300 v1151) a + S1x16.size a ≤ S704x64.size a) ∧
  (∀ a, (k0_off1301 v1151) a + S1x16.size a ≤ S704x64.size a) ∧
  (∀ a, (k0_off1302 v1151) a + S1x16.size a ≤ S704x64.size a)
theorem k0_off1299_inb : ∀ (v1151 : BitVec 32) (k0_hw308 : k0_chk308 v1151), ∀ a, (k0_off1299 v1151) a + S1x16.size a ≤ S704x64.size a := fun v1151 k0_hw308 => k0_hw308.1
theorem k0_off1300_inb : ∀ (v1151 : BitVec 32) (k0_hw308 : k0_chk308 v1151), ∀ a, (k0_off1300 v1151) a + S1x16.size a ≤ S704x64.size a := fun v1151 k0_hw308 => k0_hw308.2.1
theorem k0_off1301_inb : ∀ (v1151 : BitVec 32) (k0_hw308 : k0_chk308 v1151), ∀ a, (k0_off1301 v1151) a + S1x16.size a ≤ S704x64.size a := fun v1151 k0_hw308 => k0_hw308.2.2.1
theorem k0_off1302_inb : ∀ (v1151 : BitVec 32) (k0_hw308 : k0_chk308 v1151), ∀ a, (k0_off1302 v1151) a + S1x16.size a ≤ S704x64.size a := fun v1151 k0_hw308 => k0_hw308.2.2.2

def k0_off1303 (v1172 : BitVec 32) : Fin 2 → Nat :=
  let v1173 : Index := Scalar.indexCast v1172
  let c0_341 : Index := 0#32
  ![v1173.toNat, 0]

def k0_off1304 (v1172 : BitVec 32) : Fin 2 → Nat :=
  let v1177 : Index := Scalar.indexCast v1172
  let c16_342 : Index := 16#32
  ![v1177.toNat, 16]
def k0_off1305 (v1172 : BitVec 32) : Fin 2 → Nat :=
  let v1181 : Index := Scalar.indexCast v1172
  let c32_343 : Index := 32#32
  ![v1181.toNat, 32]
def k0_off1306 (v1172 : BitVec 32) : Fin 2 → Nat :=
  let v1185 : Index := Scalar.indexCast v1172
  let c48_344 : Index := 48#32
  ![v1185.toNat, 48]

def k0_chk309 (v1172 : BitVec 32) : Prop :=
  (∀ a, (k0_off1303 v1172) a + S1x16.size a ≤ S704x64.size a) ∧
  (∀ a, (k0_off1304 v1172) a + S1x16.size a ≤ S704x64.size a) ∧
  (∀ a, (k0_off1305 v1172) a + S1x16.size a ≤ S704x64.size a) ∧
  (∀ a, (k0_off1306 v1172) a + S1x16.size a ≤ S704x64.size a)
theorem k0_off1303_inb : ∀ (v1172 : BitVec 32) (k0_hw309 : k0_chk309 v1172), ∀ a, (k0_off1303 v1172) a + S1x16.size a ≤ S704x64.size a := fun v1172 k0_hw309 => k0_hw309.1
theorem k0_off1304_inb : ∀ (v1172 : BitVec 32) (k0_hw309 : k0_chk309 v1172), ∀ a, (k0_off1304 v1172) a + S1x16.size a ≤ S704x64.size a := fun v1172 k0_hw309 => k0_hw309.2.1
theorem k0_off1305_inb : ∀ (v1172 : BitVec 32) (k0_hw309 : k0_chk309 v1172), ∀ a, (k0_off1305 v1172) a + S1x16.size a ≤ S704x64.size a := fun v1172 k0_hw309 => k0_hw309.2.2.1
theorem k0_off1306_inb : ∀ (v1172 : BitVec 32) (k0_hw309 : k0_chk309 v1172), ∀ a, (k0_off1306 v1172) a + S1x16.size a ≤ S704x64.size a := fun v1172 k0_hw309 => k0_hw309.2.2.2

def k0_off1307 (v1193 : BitVec 32) : Fin 2 → Nat :=
  let v1194 : Index := Scalar.indexCast v1193
  let c0_345 : Index := 0#32
  ![v1194.toNat, 0]

def k0_off1308 (v1193 : BitVec 32) : Fin 2 → Nat :=
  let v1198 : Index := Scalar.indexCast v1193
  let c16_346 : Index := 16#32
  ![v1198.toNat, 16]
def k0_off1309 (v1193 : BitVec 32) : Fin 2 → Nat :=
  let v1202 : Index := Scalar.indexCast v1193
  let c32_347 : Index := 32#32
  ![v1202.toNat, 32]
def k0_off1310 (v1193 : BitVec 32) : Fin 2 → Nat :=
  let v1206 : Index := Scalar.indexCast v1193
  let c48_348 : Index := 48#32
  ![v1206.toNat, 48]

def k0_chk310 (v1193 : BitVec 32) : Prop :=
  (∀ a, (k0_off1307 v1193) a + S1x16.size a ≤ S704x64.size a) ∧
  (∀ a, (k0_off1308 v1193) a + S1x16.size a ≤ S704x64.size a) ∧
  (∀ a, (k0_off1309 v1193) a + S1x16.size a ≤ S704x64.size a) ∧
  (∀ a, (k0_off1310 v1193) a + S1x16.size a ≤ S704x64.size a)
theorem k0_off1307_inb : ∀ (v1193 : BitVec 32) (k0_hw310 : k0_chk310 v1193), ∀ a, (k0_off1307 v1193) a + S1x16.size a ≤ S704x64.size a := fun v1193 k0_hw310 => k0_hw310.1
theorem k0_off1308_inb : ∀ (v1193 : BitVec 32) (k0_hw310 : k0_chk310 v1193), ∀ a, (k0_off1308 v1193) a + S1x16.size a ≤ S704x64.size a := fun v1193 k0_hw310 => k0_hw310.2.1
theorem k0_off1309_inb : ∀ (v1193 : BitVec 32) (k0_hw310 : k0_chk310 v1193), ∀ a, (k0_off1309 v1193) a + S1x16.size a ≤ S704x64.size a := fun v1193 k0_hw310 => k0_hw310.2.2.1
theorem k0_off1310_inb : ∀ (v1193 : BitVec 32) (k0_hw310 : k0_chk310 v1193), ∀ a, (k0_off1310 v1193) a + S1x16.size a ≤ S704x64.size a := fun v1193 k0_hw310 => k0_hw310.2.2.2

def k0_off1311 (v1214 : BitVec 32) : Fin 2 → Nat :=
  let v1215 : Index := Scalar.indexCast v1214
  let c0_349 : Index := 0#32
  ![v1215.toNat, 0]

def k0_off1312 (v1214 : BitVec 32) : Fin 2 → Nat :=
  let v1219 : Index := Scalar.indexCast v1214
  let c16_350 : Index := 16#32
  ![v1219.toNat, 16]
def k0_off1313 (v1214 : BitVec 32) : Fin 2 → Nat :=
  let v1223 : Index := Scalar.indexCast v1214
  let c32_351 : Index := 32#32
  ![v1223.toNat, 32]
def k0_off1314 (v1214 : BitVec 32) : Fin 2 → Nat :=
  let v1227 : Index := Scalar.indexCast v1214
  let c48_352 : Index := 48#32
  ![v1227.toNat, 48]

def k0_chk311 (v1214 : BitVec 32) : Prop :=
  (∀ a, (k0_off1311 v1214) a + S1x16.size a ≤ S704x64.size a) ∧
  (∀ a, (k0_off1312 v1214) a + S1x16.size a ≤ S704x64.size a) ∧
  (∀ a, (k0_off1313 v1214) a + S1x16.size a ≤ S704x64.size a) ∧
  (∀ a, (k0_off1314 v1214) a + S1x16.size a ≤ S704x64.size a)
theorem k0_off1311_inb : ∀ (v1214 : BitVec 32) (k0_hw311 : k0_chk311 v1214), ∀ a, (k0_off1311 v1214) a + S1x16.size a ≤ S704x64.size a := fun v1214 k0_hw311 => k0_hw311.1
theorem k0_off1312_inb : ∀ (v1214 : BitVec 32) (k0_hw311 : k0_chk311 v1214), ∀ a, (k0_off1312 v1214) a + S1x16.size a ≤ S704x64.size a := fun v1214 k0_hw311 => k0_hw311.2.1
theorem k0_off1313_inb : ∀ (v1214 : BitVec 32) (k0_hw311 : k0_chk311 v1214), ∀ a, (k0_off1313 v1214) a + S1x16.size a ≤ S704x64.size a := fun v1214 k0_hw311 => k0_hw311.2.2.1
theorem k0_off1314_inb : ∀ (v1214 : BitVec 32) (k0_hw311 : k0_chk311 v1214), ∀ a, (k0_off1314 v1214) a + S1x16.size a ≤ S704x64.size a := fun v1214 k0_hw311 => k0_hw311.2.2.2

def k0_off1315 (v1235 : BitVec 32) : Fin 2 → Nat :=
  let v1236 : Index := Scalar.indexCast v1235
  let c0_353 : Index := 0#32
  ![v1236.toNat, 0]

def k0_off1316 (v1235 : BitVec 32) : Fin 2 → Nat :=
  let v1240 : Index := Scalar.indexCast v1235
  let c16_354 : Index := 16#32
  ![v1240.toNat, 16]
def k0_off1317 (v1235 : BitVec 32) : Fin 2 → Nat :=
  let v1244 : Index := Scalar.indexCast v1235
  let c32_355 : Index := 32#32
  ![v1244.toNat, 32]
def k0_off1318 (v1235 : BitVec 32) : Fin 2 → Nat :=
  let v1248 : Index := Scalar.indexCast v1235
  let c48_356 : Index := 48#32
  ![v1248.toNat, 48]

def k0_chk312 (v1235 : BitVec 32) : Prop :=
  (∀ a, (k0_off1315 v1235) a + S1x16.size a ≤ S704x64.size a) ∧
  (∀ a, (k0_off1316 v1235) a + S1x16.size a ≤ S704x64.size a) ∧
  (∀ a, (k0_off1317 v1235) a + S1x16.size a ≤ S704x64.size a) ∧
  (∀ a, (k0_off1318 v1235) a + S1x16.size a ≤ S704x64.size a)
theorem k0_off1315_inb : ∀ (v1235 : BitVec 32) (k0_hw312 : k0_chk312 v1235), ∀ a, (k0_off1315 v1235) a + S1x16.size a ≤ S704x64.size a := fun v1235 k0_hw312 => k0_hw312.1
theorem k0_off1316_inb : ∀ (v1235 : BitVec 32) (k0_hw312 : k0_chk312 v1235), ∀ a, (k0_off1316 v1235) a + S1x16.size a ≤ S704x64.size a := fun v1235 k0_hw312 => k0_hw312.2.1
theorem k0_off1317_inb : ∀ (v1235 : BitVec 32) (k0_hw312 : k0_chk312 v1235), ∀ a, (k0_off1317 v1235) a + S1x16.size a ≤ S704x64.size a := fun v1235 k0_hw312 => k0_hw312.2.2.1
theorem k0_off1318_inb : ∀ (v1235 : BitVec 32) (k0_hw312 : k0_chk312 v1235), ∀ a, (k0_off1318 v1235) a + S1x16.size a ≤ S704x64.size a := fun v1235 k0_hw312 => k0_hw312.2.2.2

def k0_off1319 (v1256 : BitVec 32) : Fin 2 → Nat :=
  let v1257 : Index := Scalar.indexCast v1256
  let c0_357 : Index := 0#32
  ![v1257.toNat, 0]

def k0_off1320 (v1256 : BitVec 32) : Fin 2 → Nat :=
  let v1261 : Index := Scalar.indexCast v1256
  let c16_358 : Index := 16#32
  ![v1261.toNat, 16]
def k0_off1321 (v1256 : BitVec 32) : Fin 2 → Nat :=
  let v1265 : Index := Scalar.indexCast v1256
  let c32_359 : Index := 32#32
  ![v1265.toNat, 32]
def k0_off1322 (v1256 : BitVec 32) : Fin 2 → Nat :=
  let v1269 : Index := Scalar.indexCast v1256
  let c48_360 : Index := 48#32
  ![v1269.toNat, 48]

def k0_chk313 (v1256 : BitVec 32) : Prop :=
  (∀ a, (k0_off1319 v1256) a + S1x16.size a ≤ S704x64.size a) ∧
  (∀ a, (k0_off1320 v1256) a + S1x16.size a ≤ S704x64.size a) ∧
  (∀ a, (k0_off1321 v1256) a + S1x16.size a ≤ S704x64.size a) ∧
  (∀ a, (k0_off1322 v1256) a + S1x16.size a ≤ S704x64.size a)
theorem k0_off1319_inb : ∀ (v1256 : BitVec 32) (k0_hw313 : k0_chk313 v1256), ∀ a, (k0_off1319 v1256) a + S1x16.size a ≤ S704x64.size a := fun v1256 k0_hw313 => k0_hw313.1
theorem k0_off1320_inb : ∀ (v1256 : BitVec 32) (k0_hw313 : k0_chk313 v1256), ∀ a, (k0_off1320 v1256) a + S1x16.size a ≤ S704x64.size a := fun v1256 k0_hw313 => k0_hw313.2.1
theorem k0_off1321_inb : ∀ (v1256 : BitVec 32) (k0_hw313 : k0_chk313 v1256), ∀ a, (k0_off1321 v1256) a + S1x16.size a ≤ S704x64.size a := fun v1256 k0_hw313 => k0_hw313.2.2.1
theorem k0_off1322_inb : ∀ (v1256 : BitVec 32) (k0_hw313 : k0_chk313 v1256), ∀ a, (k0_off1322 v1256) a + S1x16.size a ≤ S704x64.size a := fun v1256 k0_hw313 => k0_hw313.2.2.2

def k0_off1323 (v1277 : BitVec 32) : Fin 2 → Nat :=
  let v1278 : Index := Scalar.indexCast v1277
  let c0_361 : Index := 0#32
  ![v1278.toNat, 0]

def k0_off1324 (v1277 : BitVec 32) : Fin 2 → Nat :=
  let v1282 : Index := Scalar.indexCast v1277
  let c16_362 : Index := 16#32
  ![v1282.toNat, 16]
def k0_off1325 (v1277 : BitVec 32) : Fin 2 → Nat :=
  let v1286 : Index := Scalar.indexCast v1277
  let c32_363 : Index := 32#32
  ![v1286.toNat, 32]
def k0_off1326 (v1277 : BitVec 32) : Fin 2 → Nat :=
  let v1290 : Index := Scalar.indexCast v1277
  let c48_364 : Index := 48#32
  ![v1290.toNat, 48]

def k0_chk314 (v1277 : BitVec 32) : Prop :=
  (∀ a, (k0_off1323 v1277) a + S1x16.size a ≤ S704x64.size a) ∧
  (∀ a, (k0_off1324 v1277) a + S1x16.size a ≤ S704x64.size a) ∧
  (∀ a, (k0_off1325 v1277) a + S1x16.size a ≤ S704x64.size a) ∧
  (∀ a, (k0_off1326 v1277) a + S1x16.size a ≤ S704x64.size a)
theorem k0_off1323_inb : ∀ (v1277 : BitVec 32) (k0_hw314 : k0_chk314 v1277), ∀ a, (k0_off1323 v1277) a + S1x16.size a ≤ S704x64.size a := fun v1277 k0_hw314 => k0_hw314.1
theorem k0_off1324_inb : ∀ (v1277 : BitVec 32) (k0_hw314 : k0_chk314 v1277), ∀ a, (k0_off1324 v1277) a + S1x16.size a ≤ S704x64.size a := fun v1277 k0_hw314 => k0_hw314.2.1
theorem k0_off1325_inb : ∀ (v1277 : BitVec 32) (k0_hw314 : k0_chk314 v1277), ∀ a, (k0_off1325 v1277) a + S1x16.size a ≤ S704x64.size a := fun v1277 k0_hw314 => k0_hw314.2.2.1
theorem k0_off1326_inb : ∀ (v1277 : BitVec 32) (k0_hw314 : k0_chk314 v1277), ∀ a, (k0_off1326 v1277) a + S1x16.size a ≤ S704x64.size a := fun v1277 k0_hw314 => k0_hw314.2.2.2

def k0_off1327 (v1298 : BitVec 32) : Fin 2 → Nat :=
  let v1299 : Index := Scalar.indexCast v1298
  let c0_365 : Index := 0#32
  ![v1299.toNat, 0]

def k0_off1328 (v1298 : BitVec 32) : Fin 2 → Nat :=
  let v1303 : Index := Scalar.indexCast v1298
  let c16_366 : Index := 16#32
  ![v1303.toNat, 16]
def k0_off1329 (v1298 : BitVec 32) : Fin 2 → Nat :=
  let v1307 : Index := Scalar.indexCast v1298
  let c32_367 : Index := 32#32
  ![v1307.toNat, 32]
def k0_off1330 (v1298 : BitVec 32) : Fin 2 → Nat :=
  let v1311 : Index := Scalar.indexCast v1298
  let c48_368 : Index := 48#32
  ![v1311.toNat, 48]

def k0_chk315 (v1298 : BitVec 32) : Prop :=
  (∀ a, (k0_off1327 v1298) a + S1x16.size a ≤ S704x64.size a) ∧
  (∀ a, (k0_off1328 v1298) a + S1x16.size a ≤ S704x64.size a) ∧
  (∀ a, (k0_off1329 v1298) a + S1x16.size a ≤ S704x64.size a) ∧
  (∀ a, (k0_off1330 v1298) a + S1x16.size a ≤ S704x64.size a)
theorem k0_off1327_inb : ∀ (v1298 : BitVec 32) (k0_hw315 : k0_chk315 v1298), ∀ a, (k0_off1327 v1298) a + S1x16.size a ≤ S704x64.size a := fun v1298 k0_hw315 => k0_hw315.1
theorem k0_off1328_inb : ∀ (v1298 : BitVec 32) (k0_hw315 : k0_chk315 v1298), ∀ a, (k0_off1328 v1298) a + S1x16.size a ≤ S704x64.size a := fun v1298 k0_hw315 => k0_hw315.2.1
theorem k0_off1329_inb : ∀ (v1298 : BitVec 32) (k0_hw315 : k0_chk315 v1298), ∀ a, (k0_off1329 v1298) a + S1x16.size a ≤ S704x64.size a := fun v1298 k0_hw315 => k0_hw315.2.2.1
theorem k0_off1330_inb : ∀ (v1298 : BitVec 32) (k0_hw315 : k0_chk315 v1298), ∀ a, (k0_off1330 v1298) a + S1x16.size a ≤ S704x64.size a := fun v1298 k0_hw315 => k0_hw315.2.2.2

def k0_off1331 (v1319 : BitVec 32) : Fin 2 → Nat :=
  let v1320 : Index := Scalar.indexCast v1319
  let c0_369 : Index := 0#32
  ![v1320.toNat, 0]

def k0_off1332 (v1319 : BitVec 32) : Fin 2 → Nat :=
  let v1324 : Index := Scalar.indexCast v1319
  let c16_370 : Index := 16#32
  ![v1324.toNat, 16]
def k0_off1333 (v1319 : BitVec 32) : Fin 2 → Nat :=
  let v1328 : Index := Scalar.indexCast v1319
  let c32_371 : Index := 32#32
  ![v1328.toNat, 32]
def k0_off1334 (v1319 : BitVec 32) : Fin 2 → Nat :=
  let v1332 : Index := Scalar.indexCast v1319
  let c48_372 : Index := 48#32
  ![v1332.toNat, 48]

def k0_chk316 (v1319 : BitVec 32) : Prop :=
  (∀ a, (k0_off1331 v1319) a + S1x16.size a ≤ S704x64.size a) ∧
  (∀ a, (k0_off1332 v1319) a + S1x16.size a ≤ S704x64.size a) ∧
  (∀ a, (k0_off1333 v1319) a + S1x16.size a ≤ S704x64.size a) ∧
  (∀ a, (k0_off1334 v1319) a + S1x16.size a ≤ S704x64.size a)
theorem k0_off1331_inb : ∀ (v1319 : BitVec 32) (k0_hw316 : k0_chk316 v1319), ∀ a, (k0_off1331 v1319) a + S1x16.size a ≤ S704x64.size a := fun v1319 k0_hw316 => k0_hw316.1
theorem k0_off1332_inb : ∀ (v1319 : BitVec 32) (k0_hw316 : k0_chk316 v1319), ∀ a, (k0_off1332 v1319) a + S1x16.size a ≤ S704x64.size a := fun v1319 k0_hw316 => k0_hw316.2.1
theorem k0_off1333_inb : ∀ (v1319 : BitVec 32) (k0_hw316 : k0_chk316 v1319), ∀ a, (k0_off1333 v1319) a + S1x16.size a ≤ S704x64.size a := fun v1319 k0_hw316 => k0_hw316.2.2.1
theorem k0_off1334_inb : ∀ (v1319 : BitVec 32) (k0_hw316 : k0_chk316 v1319), ∀ a, (k0_off1334 v1319) a + S1x16.size a ≤ S704x64.size a := fun v1319 k0_hw316 => k0_hw316.2.2.2

def k0_off1335 (v1340 : BitVec 32) : Fin 2 → Nat :=
  let v1341 : Index := Scalar.indexCast v1340
  let c0_373 : Index := 0#32
  ![v1341.toNat, 0]

def k0_off1336 (v1340 : BitVec 32) : Fin 2 → Nat :=
  let v1345 : Index := Scalar.indexCast v1340
  let c16_374 : Index := 16#32
  ![v1345.toNat, 16]
def k0_off1337 (v1340 : BitVec 32) : Fin 2 → Nat :=
  let v1349 : Index := Scalar.indexCast v1340
  let c32_375 : Index := 32#32
  ![v1349.toNat, 32]
def k0_off1338 (v1340 : BitVec 32) : Fin 2 → Nat :=
  let v1353 : Index := Scalar.indexCast v1340
  let c48_376 : Index := 48#32
  ![v1353.toNat, 48]

def k0_chk317 (v1340 : BitVec 32) : Prop :=
  (∀ a, (k0_off1335 v1340) a + S1x16.size a ≤ S704x64.size a) ∧
  (∀ a, (k0_off1336 v1340) a + S1x16.size a ≤ S704x64.size a) ∧
  (∀ a, (k0_off1337 v1340) a + S1x16.size a ≤ S704x64.size a) ∧
  (∀ a, (k0_off1338 v1340) a + S1x16.size a ≤ S704x64.size a)
theorem k0_off1335_inb : ∀ (v1340 : BitVec 32) (k0_hw317 : k0_chk317 v1340), ∀ a, (k0_off1335 v1340) a + S1x16.size a ≤ S704x64.size a := fun v1340 k0_hw317 => k0_hw317.1
theorem k0_off1336_inb : ∀ (v1340 : BitVec 32) (k0_hw317 : k0_chk317 v1340), ∀ a, (k0_off1336 v1340) a + S1x16.size a ≤ S704x64.size a := fun v1340 k0_hw317 => k0_hw317.2.1
theorem k0_off1337_inb : ∀ (v1340 : BitVec 32) (k0_hw317 : k0_chk317 v1340), ∀ a, (k0_off1337 v1340) a + S1x16.size a ≤ S704x64.size a := fun v1340 k0_hw317 => k0_hw317.2.2.1
theorem k0_off1338_inb : ∀ (v1340 : BitVec 32) (k0_hw317 : k0_chk317 v1340), ∀ a, (k0_off1338 v1340) a + S1x16.size a ≤ S704x64.size a := fun v1340 k0_hw317 => k0_hw317.2.2.2

def k0_off1339 (v1361 : BitVec 32) : Fin 2 → Nat :=
  let v1362 : Index := Scalar.indexCast v1361
  let c0_377 : Index := 0#32
  ![v1362.toNat, 0]

def k0_off1340 (v1361 : BitVec 32) : Fin 2 → Nat :=
  let v1366 : Index := Scalar.indexCast v1361
  let c16_378 : Index := 16#32
  ![v1366.toNat, 16]
def k0_off1341 (v1361 : BitVec 32) : Fin 2 → Nat :=
  let v1370 : Index := Scalar.indexCast v1361
  let c32_379 : Index := 32#32
  ![v1370.toNat, 32]
def k0_off1342 (v1361 : BitVec 32) : Fin 2 → Nat :=
  let v1374 : Index := Scalar.indexCast v1361
  let c48_380 : Index := 48#32
  ![v1374.toNat, 48]

def k0_chk318 (v1361 : BitVec 32) : Prop :=
  (∀ a, (k0_off1339 v1361) a + S1x16.size a ≤ S704x64.size a) ∧
  (∀ a, (k0_off1340 v1361) a + S1x16.size a ≤ S704x64.size a) ∧
  (∀ a, (k0_off1341 v1361) a + S1x16.size a ≤ S704x64.size a) ∧
  (∀ a, (k0_off1342 v1361) a + S1x16.size a ≤ S704x64.size a)
theorem k0_off1339_inb : ∀ (v1361 : BitVec 32) (k0_hw318 : k0_chk318 v1361), ∀ a, (k0_off1339 v1361) a + S1x16.size a ≤ S704x64.size a := fun v1361 k0_hw318 => k0_hw318.1
theorem k0_off1340_inb : ∀ (v1361 : BitVec 32) (k0_hw318 : k0_chk318 v1361), ∀ a, (k0_off1340 v1361) a + S1x16.size a ≤ S704x64.size a := fun v1361 k0_hw318 => k0_hw318.2.1
theorem k0_off1341_inb : ∀ (v1361 : BitVec 32) (k0_hw318 : k0_chk318 v1361), ∀ a, (k0_off1341 v1361) a + S1x16.size a ≤ S704x64.size a := fun v1361 k0_hw318 => k0_hw318.2.2.1
theorem k0_off1342_inb : ∀ (v1361 : BitVec 32) (k0_hw318 : k0_chk318 v1361), ∀ a, (k0_off1342 v1361) a + S1x16.size a ≤ S704x64.size a := fun v1361 k0_hw318 => k0_hw318.2.2.2

def k0_off1343 (v1382 : BitVec 32) : Fin 2 → Nat :=
  let v1383 : Index := Scalar.indexCast v1382
  let c0_381 : Index := 0#32
  ![v1383.toNat, 0]

def k0_off1344 (v1382 : BitVec 32) : Fin 2 → Nat :=
  let v1387 : Index := Scalar.indexCast v1382
  let c16_382 : Index := 16#32
  ![v1387.toNat, 16]
def k0_off1345 (v1382 : BitVec 32) : Fin 2 → Nat :=
  let v1391 : Index := Scalar.indexCast v1382
  let c32_383 : Index := 32#32
  ![v1391.toNat, 32]
def k0_off1346 (v1382 : BitVec 32) : Fin 2 → Nat :=
  let v1395 : Index := Scalar.indexCast v1382
  let c48_384 : Index := 48#32
  ![v1395.toNat, 48]

def k0_chk319 (v1382 : BitVec 32) : Prop :=
  (∀ a, (k0_off1343 v1382) a + S1x16.size a ≤ S704x64.size a) ∧
  (∀ a, (k0_off1344 v1382) a + S1x16.size a ≤ S704x64.size a) ∧
  (∀ a, (k0_off1345 v1382) a + S1x16.size a ≤ S704x64.size a) ∧
  (∀ a, (k0_off1346 v1382) a + S1x16.size a ≤ S704x64.size a)
theorem k0_off1343_inb : ∀ (v1382 : BitVec 32) (k0_hw319 : k0_chk319 v1382), ∀ a, (k0_off1343 v1382) a + S1x16.size a ≤ S704x64.size a := fun v1382 k0_hw319 => k0_hw319.1
theorem k0_off1344_inb : ∀ (v1382 : BitVec 32) (k0_hw319 : k0_chk319 v1382), ∀ a, (k0_off1344 v1382) a + S1x16.size a ≤ S704x64.size a := fun v1382 k0_hw319 => k0_hw319.2.1
theorem k0_off1345_inb : ∀ (v1382 : BitVec 32) (k0_hw319 : k0_chk319 v1382), ∀ a, (k0_off1345 v1382) a + S1x16.size a ≤ S704x64.size a := fun v1382 k0_hw319 => k0_hw319.2.2.1
theorem k0_off1346_inb : ∀ (v1382 : BitVec 32) (k0_hw319 : k0_chk319 v1382), ∀ a, (k0_off1346 v1382) a + S1x16.size a ≤ S704x64.size a := fun v1382 k0_hw319 => k0_hw319.2.2.2

def k0_off1347 (v1403 : BitVec 32) : Fin 2 → Nat :=
  let v1404 : Index := Scalar.indexCast v1403
  let c0_385 : Index := 0#32
  ![v1404.toNat, 0]

def k0_off1348 (v1403 : BitVec 32) : Fin 2 → Nat :=
  let v1408 : Index := Scalar.indexCast v1403
  let c16_386 : Index := 16#32
  ![v1408.toNat, 16]
def k0_off1349 (v1403 : BitVec 32) : Fin 2 → Nat :=
  let v1412 : Index := Scalar.indexCast v1403
  let c32_387 : Index := 32#32
  ![v1412.toNat, 32]
def k0_off1350 (v1403 : BitVec 32) : Fin 2 → Nat :=
  let v1416 : Index := Scalar.indexCast v1403
  let c48_388 : Index := 48#32
  ![v1416.toNat, 48]

def k0_chk320 (v1403 : BitVec 32) : Prop :=
  (∀ a, (k0_off1347 v1403) a + S1x16.size a ≤ S704x64.size a) ∧
  (∀ a, (k0_off1348 v1403) a + S1x16.size a ≤ S704x64.size a) ∧
  (∀ a, (k0_off1349 v1403) a + S1x16.size a ≤ S704x64.size a) ∧
  (∀ a, (k0_off1350 v1403) a + S1x16.size a ≤ S704x64.size a)
theorem k0_off1347_inb : ∀ (v1403 : BitVec 32) (k0_hw320 : k0_chk320 v1403), ∀ a, (k0_off1347 v1403) a + S1x16.size a ≤ S704x64.size a := fun v1403 k0_hw320 => k0_hw320.1
theorem k0_off1348_inb : ∀ (v1403 : BitVec 32) (k0_hw320 : k0_chk320 v1403), ∀ a, (k0_off1348 v1403) a + S1x16.size a ≤ S704x64.size a := fun v1403 k0_hw320 => k0_hw320.2.1
theorem k0_off1349_inb : ∀ (v1403 : BitVec 32) (k0_hw320 : k0_chk320 v1403), ∀ a, (k0_off1349 v1403) a + S1x16.size a ≤ S704x64.size a := fun v1403 k0_hw320 => k0_hw320.2.2.1
theorem k0_off1350_inb : ∀ (v1403 : BitVec 32) (k0_hw320 : k0_chk320 v1403), ∀ a, (k0_off1350 v1403) a + S1x16.size a ≤ S704x64.size a := fun v1403 k0_hw320 => k0_hw320.2.2.2

def k0_off1351 (v1424 : BitVec 32) : Fin 2 → Nat :=
  let v1425 : Index := Scalar.indexCast v1424
  let c0_389 : Index := 0#32
  ![v1425.toNat, 0]

def k0_off1352 (v1424 : BitVec 32) : Fin 2 → Nat :=
  let v1429 : Index := Scalar.indexCast v1424
  let c16_390 : Index := 16#32
  ![v1429.toNat, 16]
def k0_off1353 (v1424 : BitVec 32) : Fin 2 → Nat :=
  let v1433 : Index := Scalar.indexCast v1424
  let c32_391 : Index := 32#32
  ![v1433.toNat, 32]
def k0_off1354 (v1424 : BitVec 32) : Fin 2 → Nat :=
  let v1437 : Index := Scalar.indexCast v1424
  let c48_392 : Index := 48#32
  ![v1437.toNat, 48]

def k0_chk321 (v1424 : BitVec 32) : Prop :=
  (∀ a, (k0_off1351 v1424) a + S1x16.size a ≤ S704x64.size a) ∧
  (∀ a, (k0_off1352 v1424) a + S1x16.size a ≤ S704x64.size a) ∧
  (∀ a, (k0_off1353 v1424) a + S1x16.size a ≤ S704x64.size a) ∧
  (∀ a, (k0_off1354 v1424) a + S1x16.size a ≤ S704x64.size a)
theorem k0_off1351_inb : ∀ (v1424 : BitVec 32) (k0_hw321 : k0_chk321 v1424), ∀ a, (k0_off1351 v1424) a + S1x16.size a ≤ S704x64.size a := fun v1424 k0_hw321 => k0_hw321.1
theorem k0_off1352_inb : ∀ (v1424 : BitVec 32) (k0_hw321 : k0_chk321 v1424), ∀ a, (k0_off1352 v1424) a + S1x16.size a ≤ S704x64.size a := fun v1424 k0_hw321 => k0_hw321.2.1
theorem k0_off1353_inb : ∀ (v1424 : BitVec 32) (k0_hw321 : k0_chk321 v1424), ∀ a, (k0_off1353 v1424) a + S1x16.size a ≤ S704x64.size a := fun v1424 k0_hw321 => k0_hw321.2.2.1
theorem k0_off1354_inb : ∀ (v1424 : BitVec 32) (k0_hw321 : k0_chk321 v1424), ∀ a, (k0_off1354 v1424) a + S1x16.size a ≤ S704x64.size a := fun v1424 k0_hw321 => k0_hw321.2.2.2

def k0_off1355 (v1445 : BitVec 32) : Fin 2 → Nat :=
  let v1446 : Index := Scalar.indexCast v1445
  let c0_393 : Index := 0#32
  ![v1446.toNat, 0]

def k0_off1356 (v1445 : BitVec 32) : Fin 2 → Nat :=
  let v1450 : Index := Scalar.indexCast v1445
  let c16_394 : Index := 16#32
  ![v1450.toNat, 16]
def k0_off1357 (v1445 : BitVec 32) : Fin 2 → Nat :=
  let v1454 : Index := Scalar.indexCast v1445
  let c32_395 : Index := 32#32
  ![v1454.toNat, 32]
def k0_off1358 (v1445 : BitVec 32) : Fin 2 → Nat :=
  let v1458 : Index := Scalar.indexCast v1445
  let c48_396 : Index := 48#32
  ![v1458.toNat, 48]

def k0_chk322 (v1445 : BitVec 32) : Prop :=
  (∀ a, (k0_off1355 v1445) a + S1x16.size a ≤ S704x64.size a) ∧
  (∀ a, (k0_off1356 v1445) a + S1x16.size a ≤ S704x64.size a) ∧
  (∀ a, (k0_off1357 v1445) a + S1x16.size a ≤ S704x64.size a) ∧
  (∀ a, (k0_off1358 v1445) a + S1x16.size a ≤ S704x64.size a)
theorem k0_off1355_inb : ∀ (v1445 : BitVec 32) (k0_hw322 : k0_chk322 v1445), ∀ a, (k0_off1355 v1445) a + S1x16.size a ≤ S704x64.size a := fun v1445 k0_hw322 => k0_hw322.1
theorem k0_off1356_inb : ∀ (v1445 : BitVec 32) (k0_hw322 : k0_chk322 v1445), ∀ a, (k0_off1356 v1445) a + S1x16.size a ≤ S704x64.size a := fun v1445 k0_hw322 => k0_hw322.2.1
theorem k0_off1357_inb : ∀ (v1445 : BitVec 32) (k0_hw322 : k0_chk322 v1445), ∀ a, (k0_off1357 v1445) a + S1x16.size a ≤ S704x64.size a := fun v1445 k0_hw322 => k0_hw322.2.2.1
theorem k0_off1358_inb : ∀ (v1445 : BitVec 32) (k0_hw322 : k0_chk322 v1445), ∀ a, (k0_off1358 v1445) a + S1x16.size a ≤ S704x64.size a := fun v1445 k0_hw322 => k0_hw322.2.2.2

def k0_off1359 (v1466 : BitVec 32) : Fin 2 → Nat :=
  let v1467 : Index := Scalar.indexCast v1466
  let c0_397 : Index := 0#32
  ![v1467.toNat, 0]

def k0_off1360 (v1466 : BitVec 32) : Fin 2 → Nat :=
  let v1471 : Index := Scalar.indexCast v1466
  let c16_398 : Index := 16#32
  ![v1471.toNat, 16]
def k0_off1361 (v1466 : BitVec 32) : Fin 2 → Nat :=
  let v1475 : Index := Scalar.indexCast v1466
  let c32_399 : Index := 32#32
  ![v1475.toNat, 32]
def k0_off1362 (v1466 : BitVec 32) : Fin 2 → Nat :=
  let v1479 : Index := Scalar.indexCast v1466
  let c48_400 : Index := 48#32
  ![v1479.toNat, 48]

def k0_chk323 (v1466 : BitVec 32) : Prop :=
  (∀ a, (k0_off1359 v1466) a + S1x16.size a ≤ S704x64.size a) ∧
  (∀ a, (k0_off1360 v1466) a + S1x16.size a ≤ S704x64.size a) ∧
  (∀ a, (k0_off1361 v1466) a + S1x16.size a ≤ S704x64.size a) ∧
  (∀ a, (k0_off1362 v1466) a + S1x16.size a ≤ S704x64.size a)
theorem k0_off1359_inb : ∀ (v1466 : BitVec 32) (k0_hw323 : k0_chk323 v1466), ∀ a, (k0_off1359 v1466) a + S1x16.size a ≤ S704x64.size a := fun v1466 k0_hw323 => k0_hw323.1
theorem k0_off1360_inb : ∀ (v1466 : BitVec 32) (k0_hw323 : k0_chk323 v1466), ∀ a, (k0_off1360 v1466) a + S1x16.size a ≤ S704x64.size a := fun v1466 k0_hw323 => k0_hw323.2.1
theorem k0_off1361_inb : ∀ (v1466 : BitVec 32) (k0_hw323 : k0_chk323 v1466), ∀ a, (k0_off1361 v1466) a + S1x16.size a ≤ S704x64.size a := fun v1466 k0_hw323 => k0_hw323.2.2.1
theorem k0_off1362_inb : ∀ (v1466 : BitVec 32) (k0_hw323 : k0_chk323 v1466), ∀ a, (k0_off1362 v1466) a + S1x16.size a ≤ S704x64.size a := fun v1466 k0_hw323 => k0_hw323.2.2.2

def k0_off1363 (v1487 : BitVec 32) : Fin 2 → Nat :=
  let v1488 : Index := Scalar.indexCast v1487
  let c0_401 : Index := 0#32
  ![v1488.toNat, 0]

def k0_off1364 (v1487 : BitVec 32) : Fin 2 → Nat :=
  let v1492 : Index := Scalar.indexCast v1487
  let c16_402 : Index := 16#32
  ![v1492.toNat, 16]
def k0_off1365 (v1487 : BitVec 32) : Fin 2 → Nat :=
  let v1496 : Index := Scalar.indexCast v1487
  let c32_403 : Index := 32#32
  ![v1496.toNat, 32]
def k0_off1366 (v1487 : BitVec 32) : Fin 2 → Nat :=
  let v1500 : Index := Scalar.indexCast v1487
  let c48_404 : Index := 48#32
  ![v1500.toNat, 48]

def k0_chk324 (v1487 : BitVec 32) : Prop :=
  (∀ a, (k0_off1363 v1487) a + S1x16.size a ≤ S704x64.size a) ∧
  (∀ a, (k0_off1364 v1487) a + S1x16.size a ≤ S704x64.size a) ∧
  (∀ a, (k0_off1365 v1487) a + S1x16.size a ≤ S704x64.size a) ∧
  (∀ a, (k0_off1366 v1487) a + S1x16.size a ≤ S704x64.size a)
theorem k0_off1363_inb : ∀ (v1487 : BitVec 32) (k0_hw324 : k0_chk324 v1487), ∀ a, (k0_off1363 v1487) a + S1x16.size a ≤ S704x64.size a := fun v1487 k0_hw324 => k0_hw324.1
theorem k0_off1364_inb : ∀ (v1487 : BitVec 32) (k0_hw324 : k0_chk324 v1487), ∀ a, (k0_off1364 v1487) a + S1x16.size a ≤ S704x64.size a := fun v1487 k0_hw324 => k0_hw324.2.1
theorem k0_off1365_inb : ∀ (v1487 : BitVec 32) (k0_hw324 : k0_chk324 v1487), ∀ a, (k0_off1365 v1487) a + S1x16.size a ≤ S704x64.size a := fun v1487 k0_hw324 => k0_hw324.2.2.1
theorem k0_off1366_inb : ∀ (v1487 : BitVec 32) (k0_hw324 : k0_chk324 v1487), ∀ a, (k0_off1366 v1487) a + S1x16.size a ≤ S704x64.size a := fun v1487 k0_hw324 => k0_hw324.2.2.2

def k0_off1367 (v1508 : BitVec 32) : Fin 2 → Nat :=
  let v1509 : Index := Scalar.indexCast v1508
  let c0_405 : Index := 0#32
  ![v1509.toNat, 0]

def k0_off1368 (v1508 : BitVec 32) : Fin 2 → Nat :=
  let v1513 : Index := Scalar.indexCast v1508
  let c16_406 : Index := 16#32
  ![v1513.toNat, 16]
def k0_off1369 (v1508 : BitVec 32) : Fin 2 → Nat :=
  let v1517 : Index := Scalar.indexCast v1508
  let c32_407 : Index := 32#32
  ![v1517.toNat, 32]
def k0_off1370 (v1508 : BitVec 32) : Fin 2 → Nat :=
  let v1521 : Index := Scalar.indexCast v1508
  let c48_408 : Index := 48#32
  ![v1521.toNat, 48]

def k0_chk325 (v1508 : BitVec 32) : Prop :=
  (∀ a, (k0_off1367 v1508) a + S1x16.size a ≤ S704x64.size a) ∧
  (∀ a, (k0_off1368 v1508) a + S1x16.size a ≤ S704x64.size a) ∧
  (∀ a, (k0_off1369 v1508) a + S1x16.size a ≤ S704x64.size a) ∧
  (∀ a, (k0_off1370 v1508) a + S1x16.size a ≤ S704x64.size a)
theorem k0_off1367_inb : ∀ (v1508 : BitVec 32) (k0_hw325 : k0_chk325 v1508), ∀ a, (k0_off1367 v1508) a + S1x16.size a ≤ S704x64.size a := fun v1508 k0_hw325 => k0_hw325.1
theorem k0_off1368_inb : ∀ (v1508 : BitVec 32) (k0_hw325 : k0_chk325 v1508), ∀ a, (k0_off1368 v1508) a + S1x16.size a ≤ S704x64.size a := fun v1508 k0_hw325 => k0_hw325.2.1
theorem k0_off1369_inb : ∀ (v1508 : BitVec 32) (k0_hw325 : k0_chk325 v1508), ∀ a, (k0_off1369 v1508) a + S1x16.size a ≤ S704x64.size a := fun v1508 k0_hw325 => k0_hw325.2.2.1
theorem k0_off1370_inb : ∀ (v1508 : BitVec 32) (k0_hw325 : k0_chk325 v1508), ∀ a, (k0_off1370 v1508) a + S1x16.size a ≤ S704x64.size a := fun v1508 k0_hw325 => k0_hw325.2.2.2

def k0_off1371 (v1529 : BitVec 32) : Fin 2 → Nat :=
  let v1530 : Index := Scalar.indexCast v1529
  let c0_409 : Index := 0#32
  ![v1530.toNat, 0]

def k0_off1372 (v1529 : BitVec 32) : Fin 2 → Nat :=
  let v1534 : Index := Scalar.indexCast v1529
  let c16_410 : Index := 16#32
  ![v1534.toNat, 16]
def k0_off1373 (v1529 : BitVec 32) : Fin 2 → Nat :=
  let v1538 : Index := Scalar.indexCast v1529
  let c32_411 : Index := 32#32
  ![v1538.toNat, 32]
def k0_off1374 (v1529 : BitVec 32) : Fin 2 → Nat :=
  let v1542 : Index := Scalar.indexCast v1529
  let c48_412 : Index := 48#32
  ![v1542.toNat, 48]

def k0_chk326 (v1529 : BitVec 32) : Prop :=
  (∀ a, (k0_off1371 v1529) a + S1x16.size a ≤ S704x64.size a) ∧
  (∀ a, (k0_off1372 v1529) a + S1x16.size a ≤ S704x64.size a) ∧
  (∀ a, (k0_off1373 v1529) a + S1x16.size a ≤ S704x64.size a) ∧
  (∀ a, (k0_off1374 v1529) a + S1x16.size a ≤ S704x64.size a)
theorem k0_off1371_inb : ∀ (v1529 : BitVec 32) (k0_hw326 : k0_chk326 v1529), ∀ a, (k0_off1371 v1529) a + S1x16.size a ≤ S704x64.size a := fun v1529 k0_hw326 => k0_hw326.1
theorem k0_off1372_inb : ∀ (v1529 : BitVec 32) (k0_hw326 : k0_chk326 v1529), ∀ a, (k0_off1372 v1529) a + S1x16.size a ≤ S704x64.size a := fun v1529 k0_hw326 => k0_hw326.2.1
theorem k0_off1373_inb : ∀ (v1529 : BitVec 32) (k0_hw326 : k0_chk326 v1529), ∀ a, (k0_off1373 v1529) a + S1x16.size a ≤ S704x64.size a := fun v1529 k0_hw326 => k0_hw326.2.2.1
theorem k0_off1374_inb : ∀ (v1529 : BitVec 32) (k0_hw326 : k0_chk326 v1529), ∀ a, (k0_off1374 v1529) a + S1x16.size a ≤ S704x64.size a := fun v1529 k0_hw326 => k0_hw326.2.2.2

def k0_off1375 (v1550 : BitVec 32) : Fin 2 → Nat :=
  let v1551 : Index := Scalar.indexCast v1550
  let c0_413 : Index := 0#32
  ![v1551.toNat, 0]

def k0_off1376 (v1550 : BitVec 32) : Fin 2 → Nat :=
  let v1555 : Index := Scalar.indexCast v1550
  let c16_414 : Index := 16#32
  ![v1555.toNat, 16]
def k0_off1377 (v1550 : BitVec 32) : Fin 2 → Nat :=
  let v1559 : Index := Scalar.indexCast v1550
  let c32_415 : Index := 32#32
  ![v1559.toNat, 32]
def k0_off1378 (v1550 : BitVec 32) : Fin 2 → Nat :=
  let v1563 : Index := Scalar.indexCast v1550
  let c48_416 : Index := 48#32
  ![v1563.toNat, 48]

def k0_chk327 (v1550 : BitVec 32) : Prop :=
  (∀ a, (k0_off1375 v1550) a + S1x16.size a ≤ S704x64.size a) ∧
  (∀ a, (k0_off1376 v1550) a + S1x16.size a ≤ S704x64.size a) ∧
  (∀ a, (k0_off1377 v1550) a + S1x16.size a ≤ S704x64.size a) ∧
  (∀ a, (k0_off1378 v1550) a + S1x16.size a ≤ S704x64.size a)
theorem k0_off1375_inb : ∀ (v1550 : BitVec 32) (k0_hw327 : k0_chk327 v1550), ∀ a, (k0_off1375 v1550) a + S1x16.size a ≤ S704x64.size a := fun v1550 k0_hw327 => k0_hw327.1
theorem k0_off1376_inb : ∀ (v1550 : BitVec 32) (k0_hw327 : k0_chk327 v1550), ∀ a, (k0_off1376 v1550) a + S1x16.size a ≤ S704x64.size a := fun v1550 k0_hw327 => k0_hw327.2.1
theorem k0_off1377_inb : ∀ (v1550 : BitVec 32) (k0_hw327 : k0_chk327 v1550), ∀ a, (k0_off1377 v1550) a + S1x16.size a ≤ S704x64.size a := fun v1550 k0_hw327 => k0_hw327.2.2.1
theorem k0_off1378_inb : ∀ (v1550 : BitVec 32) (k0_hw327 : k0_chk327 v1550), ∀ a, (k0_off1378 v1550) a + S1x16.size a ≤ S704x64.size a := fun v1550 k0_hw327 => k0_hw327.2.2.2

def k0_off1379 (v1571 : BitVec 32) : Fin 2 → Nat :=
  let v1572 : Index := Scalar.indexCast v1571
  let c0_417 : Index := 0#32
  ![v1572.toNat, 0]

def k0_off1380 (v1571 : BitVec 32) : Fin 2 → Nat :=
  let v1576 : Index := Scalar.indexCast v1571
  let c16_418 : Index := 16#32
  ![v1576.toNat, 16]
def k0_off1381 (v1571 : BitVec 32) : Fin 2 → Nat :=
  let v1580 : Index := Scalar.indexCast v1571
  let c32_419 : Index := 32#32
  ![v1580.toNat, 32]
def k0_off1382 (v1571 : BitVec 32) : Fin 2 → Nat :=
  let v1584 : Index := Scalar.indexCast v1571
  let c48_420 : Index := 48#32
  ![v1584.toNat, 48]

def k0_chk328 (v1571 : BitVec 32) : Prop :=
  (∀ a, (k0_off1379 v1571) a + S1x16.size a ≤ S704x64.size a) ∧
  (∀ a, (k0_off1380 v1571) a + S1x16.size a ≤ S704x64.size a) ∧
  (∀ a, (k0_off1381 v1571) a + S1x16.size a ≤ S704x64.size a) ∧
  (∀ a, (k0_off1382 v1571) a + S1x16.size a ≤ S704x64.size a)
theorem k0_off1379_inb : ∀ (v1571 : BitVec 32) (k0_hw328 : k0_chk328 v1571), ∀ a, (k0_off1379 v1571) a + S1x16.size a ≤ S704x64.size a := fun v1571 k0_hw328 => k0_hw328.1
theorem k0_off1380_inb : ∀ (v1571 : BitVec 32) (k0_hw328 : k0_chk328 v1571), ∀ a, (k0_off1380 v1571) a + S1x16.size a ≤ S704x64.size a := fun v1571 k0_hw328 => k0_hw328.2.1
theorem k0_off1381_inb : ∀ (v1571 : BitVec 32) (k0_hw328 : k0_chk328 v1571), ∀ a, (k0_off1381 v1571) a + S1x16.size a ≤ S704x64.size a := fun v1571 k0_hw328 => k0_hw328.2.2.1
theorem k0_off1382_inb : ∀ (v1571 : BitVec 32) (k0_hw328 : k0_chk328 v1571), ∀ a, (k0_off1382 v1571) a + S1x16.size a ≤ S704x64.size a := fun v1571 k0_hw328 => k0_hw328.2.2.2

def k0_off1383 (v1592 : BitVec 32) : Fin 2 → Nat :=
  let v1593 : Index := Scalar.indexCast v1592
  let c0_421 : Index := 0#32
  ![v1593.toNat, 0]

def k0_off1384 (v1592 : BitVec 32) : Fin 2 → Nat :=
  let v1597 : Index := Scalar.indexCast v1592
  let c16_422 : Index := 16#32
  ![v1597.toNat, 16]
def k0_off1385 (v1592 : BitVec 32) : Fin 2 → Nat :=
  let v1601 : Index := Scalar.indexCast v1592
  let c32_423 : Index := 32#32
  ![v1601.toNat, 32]
def k0_off1386 (v1592 : BitVec 32) : Fin 2 → Nat :=
  let v1605 : Index := Scalar.indexCast v1592
  let c48_424 : Index := 48#32
  ![v1605.toNat, 48]

def k0_chk329 (v1592 : BitVec 32) : Prop :=
  (∀ a, (k0_off1383 v1592) a + S1x16.size a ≤ S704x64.size a) ∧
  (∀ a, (k0_off1384 v1592) a + S1x16.size a ≤ S704x64.size a) ∧
  (∀ a, (k0_off1385 v1592) a + S1x16.size a ≤ S704x64.size a) ∧
  (∀ a, (k0_off1386 v1592) a + S1x16.size a ≤ S704x64.size a)
theorem k0_off1383_inb : ∀ (v1592 : BitVec 32) (k0_hw329 : k0_chk329 v1592), ∀ a, (k0_off1383 v1592) a + S1x16.size a ≤ S704x64.size a := fun v1592 k0_hw329 => k0_hw329.1
theorem k0_off1384_inb : ∀ (v1592 : BitVec 32) (k0_hw329 : k0_chk329 v1592), ∀ a, (k0_off1384 v1592) a + S1x16.size a ≤ S704x64.size a := fun v1592 k0_hw329 => k0_hw329.2.1
theorem k0_off1385_inb : ∀ (v1592 : BitVec 32) (k0_hw329 : k0_chk329 v1592), ∀ a, (k0_off1385 v1592) a + S1x16.size a ≤ S704x64.size a := fun v1592 k0_hw329 => k0_hw329.2.2.1
theorem k0_off1386_inb : ∀ (v1592 : BitVec 32) (k0_hw329 : k0_chk329 v1592), ∀ a, (k0_off1386 v1592) a + S1x16.size a ≤ S704x64.size a := fun v1592 k0_hw329 => k0_hw329.2.2.2

def k0_off1387 (v1613 : BitVec 32) : Fin 2 → Nat :=
  let v1614 : Index := Scalar.indexCast v1613
  let c0_425 : Index := 0#32
  ![v1614.toNat, 0]

def k0_off1388 (v1613 : BitVec 32) : Fin 2 → Nat :=
  let v1618 : Index := Scalar.indexCast v1613
  let c16_426 : Index := 16#32
  ![v1618.toNat, 16]
def k0_off1389 (v1613 : BitVec 32) : Fin 2 → Nat :=
  let v1622 : Index := Scalar.indexCast v1613
  let c32_427 : Index := 32#32
  ![v1622.toNat, 32]
def k0_off1390 (v1613 : BitVec 32) : Fin 2 → Nat :=
  let v1626 : Index := Scalar.indexCast v1613
  let c48_428 : Index := 48#32
  ![v1626.toNat, 48]

def k0_chk330 (v1613 : BitVec 32) : Prop :=
  (∀ a, (k0_off1387 v1613) a + S1x16.size a ≤ S704x64.size a) ∧
  (∀ a, (k0_off1388 v1613) a + S1x16.size a ≤ S704x64.size a) ∧
  (∀ a, (k0_off1389 v1613) a + S1x16.size a ≤ S704x64.size a) ∧
  (∀ a, (k0_off1390 v1613) a + S1x16.size a ≤ S704x64.size a)
theorem k0_off1387_inb : ∀ (v1613 : BitVec 32) (k0_hw330 : k0_chk330 v1613), ∀ a, (k0_off1387 v1613) a + S1x16.size a ≤ S704x64.size a := fun v1613 k0_hw330 => k0_hw330.1
theorem k0_off1388_inb : ∀ (v1613 : BitVec 32) (k0_hw330 : k0_chk330 v1613), ∀ a, (k0_off1388 v1613) a + S1x16.size a ≤ S704x64.size a := fun v1613 k0_hw330 => k0_hw330.2.1
theorem k0_off1389_inb : ∀ (v1613 : BitVec 32) (k0_hw330 : k0_chk330 v1613), ∀ a, (k0_off1389 v1613) a + S1x16.size a ≤ S704x64.size a := fun v1613 k0_hw330 => k0_hw330.2.2.1
theorem k0_off1390_inb : ∀ (v1613 : BitVec 32) (k0_hw330 : k0_chk330 v1613), ∀ a, (k0_off1390 v1613) a + S1x16.size a ≤ S704x64.size a := fun v1613 k0_hw330 => k0_hw330.2.2.2

def k0_off1391 (k0_t5 : Fin k0_t5_loop.trips) : Fin 2 → Nat :=
  let c2_i32_144 : BitVec 32 := 2#32
  let c0_i32_94 : BitVec 32 := 0#32
  let c1_i32_96 : BitVec 32 := 1#32
  let arg13 : BitVec 32 := Scf.iv c0_i32_94 c1_i32_96 k0_t5
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off1392 (k0_t5 : Fin k0_t5_loop.trips) : Fin 2 → Nat :=
  let c2_i32_144 : BitVec 32 := 2#32
  let c0_i32_94 : BitVec 32 := 0#32
  let c1_i32_96 : BitVec 32 := 1#32
  let arg13 : BitVec 32 := Scf.iv c0_i32_94 c1_i32_96 k0_t5
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off1393 (k0_t5 : Fin k0_t5_loop.trips) : Fin 2 → Nat :=
  let c2_i32_144 : BitVec 32 := 2#32
  let c0_i32_94 : BitVec 32 := 0#32
  let c1_i32_96 : BitVec 32 := 1#32
  let arg13 : BitVec 32 := Scf.iv c0_i32_94 c1_i32_96 k0_t5
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off1394 (k0_t5 : Fin k0_t5_loop.trips) : Fin 2 → Nat :=
  let c2_i32_144 : BitVec 32 := 2#32
  let c0_i32_94 : BitVec 32 := 0#32
  let c1_i32_96 : BitVec 32 := 1#32
  let arg13 : BitVec 32 := Scf.iv c0_i32_94 c1_i32_96 k0_t5
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_99 : BitVec 32 := 8#32
  let v140 : BitVec 32 := Scalar.muli v28 c8_i32_99
  let c5_i32_100 : BitVec 32 := 5#32
  let v141 : BitVec 32 := Scalar.addi v140 c5_i32_100
  let c128_i32_101 : BitVec 32 := 128#32
  let v142 : BitVec 32 := Scalar.muli v141 c128_i32_101
  v142
def k0_mult13 (i : grid0.Coords) : BitVec 32 :=
  let c1344_i32_108 : BitVec 32 := 1344#32
  let c0_i32_107 : BitVec 32 := 0#32
  let c0_i32_105 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_103 : BitVec 32 := 8#32
  let v147 : BitVec 32 := Scalar.muli v28 c8_i32_103
  let c6_i32 : BitVec 32 := 6#32
  let v148 : BitVec 32 := Scalar.addi v147 c6_i32
  let c128_i32_104 : BitVec 32 := 128#32
  let v149 : BitVec 32 := Scalar.muli v148 c128_i32_104
  let v150 : BitVec 32 := Scalar.addi c0_i32_105 v149
  let c288_i32_106 : BitVec 32 := 288#32
  let v151 : BitVec 32 := Scalar.subi v150 c288_i32_106
  let v152 : BitVec 32 := Scalar.maxsi c0_i32_107 v151
  let v153 : BitVec 32 := Scalar.minsi c1344_i32_108 v152
  v153
@[reducible] def k0_t6_loop : Scf.Loop 32 :=
  let c0_i32_111 : BitVec 32 := 0#32
  let c64_i32_112 : BitVec 32 := 64#32
  let v158 : BitVec 32 := Scalar.addi c0_i32_111 c64_i32_112
  let c1_i32_113 : BitVec 32 := 1#32
  ⟨c0_i32_111, v158, c1_i32_113⟩
def k0_off1395 (k0_t6 : Fin k0_t6_loop.trips) : Fin 2 → Nat :=
  let c2_i32_143 : BitVec 32 := 2#32
  let c0_i32_111 : BitVec 32 := 0#32
  let c1_i32_113 : BitVec 32 := 1#32
  let arg13 : BitVec 32 := Scf.iv c0_i32_111 c1_i32_113 k0_t6
  let v189 : BitVec 32 := Scalar.muli c2_i32_143 arg13
  let v192 : Index := Scalar.indexCast v189
  let c0 : Index := 0#32
  ![v192.toNat, 0]
def k0_off1396 (k0_t6 : Fin k0_t6_loop.trips) : Fin 2 → Nat :=
  let c2_i32_143 : BitVec 32 := 2#32
  let c0_i32_111 : BitVec 32 := 0#32
  let c1_i32_113 : BitVec 32 := 1#32
  let arg13 : BitVec 32 := Scf.iv c0_i32_111 c1_i32_113 k0_t6
  let v189 : BitVec 32 := Scalar.muli c2_i32_143 arg13
  let v194 : Index := Scalar.indexCast v189
  let c16 : Index := 16#32
  ![v194.toNat, 16]
def k0_off1397 (k0_t6 : Fin k0_t6_loop.trips) : Fin 2 → Nat :=
  let c2_i32_143 : BitVec 32 := 2#32
  let c0_i32_111 : BitVec 32 := 0#32
  let c1_i32_113 : BitVec 32 := 1#32
  let arg13 : BitVec 32 := Scf.iv c0_i32_111 c1_i32_113 k0_t6
  let v189 : BitVec 32 := Scalar.muli c2_i32_143 arg13
  let v196 : Index := Scalar.indexCast v189
  let c32 : Index := 32#32
  ![v196.toNat, 32]
def k0_off1398 (v218 : BitVec 32) : Fin 2 → Nat :=
  let v219 : Index := Scalar.indexCast v218
  let c0_152 : Index := 0#32
  ![v219.toNat, 0]

def k0_off1399 (v218 : BitVec 32) : Fin 2 → Nat :=
  let v223 : Index := Scalar.indexCast v218
  let c16_153 : Index := 16#32
  ![v223.toNat, 16]
def k0_off1400 (v218 : BitVec 32) : Fin 2 → Nat :=
  let v227 : Index := Scalar.indexCast v218
  let c32_154 : Index := 32#32
  ![v227.toNat, 32]
def k0_off1401 (v218 : BitVec 32) : Fin 2 → Nat :=
  let v231 : Index := Scalar.indexCast v218
  let c48 : Index := 48#32
  ![v231.toNat, 48]

def k0_chk331 (v218 : BitVec 32) : Prop :=
  (∀ a, (k0_off1398 v218) a + S1x16.size a ≤ S704x64.size a) ∧
  (∀ a, (k0_off1399 v218) a + S1x16.size a ≤ S704x64.size a) ∧
  (∀ a, (k0_off1400 v218) a + S1x16.size a ≤ S704x64.size a) ∧
  (∀ a, (k0_off1401 v218) a + S1x16.size a ≤ S704x64.size a)
theorem k0_off1398_inb : ∀ (v218 : BitVec 32) (k0_hw331 : k0_chk331 v218), ∀ a, (k0_off1398 v218) a + S1x16.size a ≤ S704x64.size a := fun v218 k0_hw331 => k0_hw331.1
theorem k0_off1399_inb : ∀ (v218 : BitVec 32) (k0_hw331 : k0_chk331 v218), ∀ a, (k0_off1399 v218) a + S1x16.size a ≤ S704x64.size a := fun v218 k0_hw331 => k0_hw331.2.1
theorem k0_off1400_inb : ∀ (v218 : BitVec 32) (k0_hw331 : k0_chk331 v218), ∀ a, (k0_off1400 v218) a + S1x16.size a ≤ S704x64.size a := fun v218 k0_hw331 => k0_hw331.2.2.1
theorem k0_off1401_inb : ∀ (v218 : BitVec 32) (k0_hw331 : k0_chk331 v218), ∀ a, (k0_off1401 v218) a + S1x16.size a ≤ S704x64.size a := fun v218 k0_hw331 => k0_hw331.2.2.2

def k0_off1402 (v239 : BitVec 32) : Fin 2 → Nat :=
  let v240 : Index := Scalar.indexCast v239
  let c0_155 : Index := 0#32
  ![v240.toNat, 0]

def k0_off1403 (v239 : BitVec 32) : Fin 2 → Nat :=
  let v244 : Index := Scalar.indexCast v239
  let c16_156 : Index := 16#32
  ![v244.toNat, 16]
def k0_off1404 (v239 : BitVec 32) : Fin 2 → Nat :=
  let v248 : Index := Scalar.indexCast v239
  let c32_157 : Index := 32#32
  ![v248.toNat, 32]
def k0_off1405 (v239 : BitVec 32) : Fin 2 → Nat :=
  let v252 : Index := Scalar.indexCast v239
  let c48_158 : Index := 48#32
  ![v252.toNat, 48]

def k0_chk332 (v239 : BitVec 32) : Prop :=
  (∀ a, (k0_off1402 v239) a + S1x16.size a ≤ S704x64.size a) ∧
  (∀ a, (k0_off1403 v239) a + S1x16.size a ≤ S704x64.size a) ∧
  (∀ a, (k0_off1404 v239) a + S1x16.size a ≤ S704x64.size a) ∧
  (∀ a, (k0_off1405 v239) a + S1x16.size a ≤ S704x64.size a)
theorem k0_off1402_inb : ∀ (v239 : BitVec 32) (k0_hw332 : k0_chk332 v239), ∀ a, (k0_off1402 v239) a + S1x16.size a ≤ S704x64.size a := fun v239 k0_hw332 => k0_hw332.1
theorem k0_off1403_inb : ∀ (v239 : BitVec 32) (k0_hw332 : k0_chk332 v239), ∀ a, (k0_off1403 v239) a + S1x16.size a ≤ S704x64.size a := fun v239 k0_hw332 => k0_hw332.2.1
theorem k0_off1404_inb : ∀ (v239 : BitVec 32) (k0_hw332 : k0_chk332 v239), ∀ a, (k0_off1404 v239) a + S1x16.size a ≤ S704x64.size a := fun v239 k0_hw332 => k0_hw332.2.2.1
theorem k0_off1405_inb : ∀ (v239 : BitVec 32) (k0_hw332 : k0_chk332 v239), ∀ a, (k0_off1405 v239) a + S1x16.size a ≤ S704x64.size a := fun v239 k0_hw332 => k0_hw332.2.2.2

def k0_off1406 (v260 : BitVec 32) : Fin 2 → Nat :=
  let v261 : Index := Scalar.indexCast v260
  let c0_159 : Index := 0#32
  ![v261.toNat, 0]

def k0_off1407 (v260 : BitVec 32) : Fin 2 → Nat :=
  let v265 : Index := Scalar.indexCast v260
  let c16_160 : Index := 16#32
  ![v265.toNat, 16]
def k0_off1408 (v260 : BitVec 32) : Fin 2 → Nat :=
  let v269 : Index := Scalar.indexCast v260
  let c32_161 : Index := 32#32
  ![v269.toNat, 32]
def k0_off1409 (v260 : BitVec 32) : Fin 2 → Nat :=
  let v273 : Index := Scalar.indexCast v260
  let c48_162 : Index := 48#32
  ![v273.toNat, 48]

def k0_chk333 (v260 : BitVec 32) : Prop :=
  (∀ a, (k0_off1406 v260) a + S1x16.size a ≤ S704x64.size a) ∧
  (∀ a, (k0_off1407 v260) a + S1x16.size a ≤ S704x64.size a) ∧
  (∀ a, (k0_off1408 v260) a + S1x16.size a ≤ S704x64.size a) ∧
  (∀ a, (k0_off1409 v260) a + S1x16.size a ≤ S704x64.size a)
theorem k0_off1406_inb : ∀ (v260 : BitVec 32) (k0_hw333 : k0_chk333 v260), ∀ a, (k0_off1406 v260) a + S1x16.size a ≤ S704x64.size a := fun v260 k0_hw333 => k0_hw333.1
theorem k0_off1407_inb : ∀ (v260 : BitVec 32) (k0_hw333 : k0_chk333 v260), ∀ a, (k0_off1407 v260) a + S1x16.size a ≤ S704x64.size a := fun v260 k0_hw333 => k0_hw333.2.1
theorem k0_off1408_inb : ∀ (v260 : BitVec 32) (k0_hw333 : k0_chk333 v260), ∀ a, (k0_off1408 v260) a + S1x16.size a ≤ S704x64.size a := fun v260 k0_hw333 => k0_hw333.2.2.1
theorem k0_off1409_inb : ∀ (v260 : BitVec 32) (k0_hw333 : k0_chk333 v260), ∀ a, (k0_off1409 v260) a + S1x16.size a ≤ S704x64.size a := fun v260 k0_hw333 => k0_hw333.2.2.2

def k0_off1410 (v281 : BitVec 32) : Fin 2 → Nat :=
  let v282 : Index := Scalar.indexCast v281
  let c0_163 : Index := 0#32
  ![v282.toNat, 0]

def k0_off1411 (v281 : BitVec 32) : Fin 2 → Nat :=
  let v286 : Index := Scalar.indexCast v281
  let c16_164 : Index := 16#32
  ![v286.toNat, 16]
def k0_off1412 (v281 : BitVec 32) : Fin 2 → Nat :=
  let v290 : Index := Scalar.indexCast v281
  let c32_165 : Index := 32#32
  ![v290.toNat, 32]
def k0_off1413 (v281 : BitVec 32) : Fin 2 → Nat :=
  let v294 : Index := Scalar.indexCast v281
  let c48_166 : Index := 48#32
  ![v294.toNat, 48]

def k0_chk334 (v281 : BitVec 32) : Prop :=
  (∀ a, (k0_off1410 v281) a + S1x16.size a ≤ S704x64.size a) ∧
  (∀ a, (k0_off1411 v281) a + S1x16.size a ≤ S704x64.size a) ∧
  (∀ a, (k0_off1412 v281) a + S1x16.size a ≤ S704x64.size a) ∧
  (∀ a, (k0_off1413 v281) a + S1x16.size a ≤ S704x64.size a)
theorem k0_off1410_inb : ∀ (v281 : BitVec 32) (k0_hw334 : k0_chk334 v281), ∀ a, (k0_off1410 v281) a + S1x16.size a ≤ S704x64.size a := fun v281 k0_hw334 => k0_hw334.1
theorem k0_off1411_inb : ∀ (v281 : BitVec 32) (k0_hw334 : k0_chk334 v281), ∀ a, (k0_off1411 v281) a + S1x16.size a ≤ S704x64.size a := fun v281 k0_hw334 => k0_hw334.2.1
theorem k0_off1412_inb : ∀ (v281 : BitVec 32) (k0_hw334 : k0_chk334 v281), ∀ a, (k0_off1412 v281) a + S1x16.size a ≤ S704x64.size a := fun v281 k0_hw334 => k0_hw334.2.2.1
theorem k0_off1413_inb : ∀ (v281 : BitVec 32) (k0_hw334 : k0_chk334 v281), ∀ a, (k0_off1413 v281) a + S1x16.size a ≤ S704x64.size a := fun v281 k0_hw334 => k0_hw334.2.2.2

def k0_off1414 (v302 : BitVec 32) : Fin 2 → Nat :=
  let v303 : Index := Scalar.indexCast v302
  let c0_167 : Index := 0#32
  ![v303.toNat, 0]

def k0_off1415 (v302 : BitVec 32) : Fin 2 → Nat :=
  let v307 : Index := Scalar.indexCast v302
  let c16_168 : Index := 16#32
  ![v307.toNat, 16]
def k0_off1416 (v302 : BitVec 32) : Fin 2 → Nat :=
  let v311 : Index := Scalar.indexCast v302
  let c32_169 : Index := 32#32
  ![v311.toNat, 32]
def k0_off1417 (v302 : BitVec 32) : Fin 2 → Nat :=
  let v315 : Index := Scalar.indexCast v302
  let c48_170 : Index := 48#32
  ![v315.toNat, 48]

def k0_chk335 (v302 : BitVec 32) : Prop :=
  (∀ a, (k0_off1414 v302) a + S1x16.size a ≤ S704x64.size a) ∧
  (∀ a, (k0_off1415 v302) a + S1x16.size a ≤ S704x64.size a) ∧
  (∀ a, (k0_off1416 v302) a + S1x16.size a ≤ S704x64.size a) ∧
  (∀ a, (k0_off1417 v302) a + S1x16.size a ≤ S704x64.size a)
theorem k0_off1414_inb : ∀ (v302 : BitVec 32) (k0_hw335 : k0_chk335 v302), ∀ a, (k0_off1414 v302) a + S1x16.size a ≤ S704x64.size a := fun v302 k0_hw335 => k0_hw335.1
theorem k0_off1415_inb : ∀ (v302 : BitVec 32) (k0_hw335 : k0_chk335 v302), ∀ a, (k0_off1415 v302) a + S1x16.size a ≤ S704x64.size a := fun v302 k0_hw335 => k0_hw335.2.1
theorem k0_off1416_inb : ∀ (v302 : BitVec 32) (k0_hw335 : k0_chk335 v302), ∀ a, (k0_off1416 v302) a + S1x16.size a ≤ S704x64.size a := fun v302 k0_hw335 => k0_hw335.2.2.1
theorem k0_off1417_inb : ∀ (v302 : BitVec 32) (k0_hw335 : k0_chk335 v302), ∀ a, (k0_off1417 v302) a + S1x16.size a ≤ S704x64.size a := fun v302 k0_hw335 => k0_hw335.2.2.2

def k0_off1418 (v323 : BitVec 32) : Fin 2 → Nat :=
  let v324 : Index := Scalar.indexCast v323
  let c0_171 : Index := 0#32
  ![v324.toNat, 0]

def k0_off1419 (v323 : BitVec 32) : Fin 2 → Nat :=
  let v328 : Index := Scalar.indexCast v323
  let c16_172 : Index := 16#32
  ![v328.toNat, 16]
def k0_off1420 (v323 : BitVec 32) : Fin 2 → Nat :=
  let v332 : Index := Scalar.indexCast v323
  let c32_173 : Index := 32#32
  ![v332.toNat, 32]
def k0_off1421 (v323 : BitVec 32) : Fin 2 → Nat :=
  let v336 : Index := Scalar.indexCast v323
  let c48_174 : Index := 48#32
  ![v336.toNat, 48]

def k0_chk336 (v323 : BitVec 32) : Prop :=
  (∀ a, (k0_off1418 v323) a + S1x16.size a ≤ S704x64.size a) ∧
  (∀ a, (k0_off1419 v323) a + S1x16.size a ≤ S704x64.size a) ∧
  (∀ a, (k0_off1420 v323) a + S1x16.size a ≤ S704x64.size a) ∧
  (∀ a, (k0_off1421 v323) a + S1x16.size a ≤ S704x64.size a)
theorem k0_off1418_inb : ∀ (v323 : BitVec 32) (k0_hw336 : k0_chk336 v323), ∀ a, (k0_off1418 v323) a + S1x16.size a ≤ S704x64.size a := fun v323 k0_hw336 => k0_hw336.1
theorem k0_off1419_inb : ∀ (v323 : BitVec 32) (k0_hw336 : k0_chk336 v323), ∀ a, (k0_off1419 v323) a + S1x16.size a ≤ S704x64.size a := fun v323 k0_hw336 => k0_hw336.2.1
theorem k0_off1420_inb : ∀ (v323 : BitVec 32) (k0_hw336 : k0_chk336 v323), ∀ a, (k0_off1420 v323) a + S1x16.size a ≤ S704x64.size a := fun v323 k0_hw336 => k0_hw336.2.2.1
theorem k0_off1421_inb : ∀ (v323 : BitVec 32) (k0_hw336 : k0_chk336 v323), ∀ a, (k0_off1421 v323) a + S1x16.size a ≤ S704x64.size a := fun v323 k0_hw336 => k0_hw336.2.2.2

def k0_off1422 (v344 : BitVec 32) : Fin 2 → Nat :=
  let v345 : Index := Scalar.indexCast v344
  let c0_175 : Index := 0#32
  ![v345.toNat, 0]

def k0_off1423 (v344 : BitVec 32) : Fin 2 → Nat :=
  let v349 : Index := Scalar.indexCast v344
  let c16_176 : Index := 16#32
  ![v349.toNat, 16]
def k0_off1424 (v344 : BitVec 32) : Fin 2 → Nat :=
  let v353 : Index := Scalar.indexCast v344
  let c32_177 : Index := 32#32
  ![v353.toNat, 32]
def k0_off1425 (v344 : BitVec 32) : Fin 2 → Nat :=
  let v357 : Index := Scalar.indexCast v344
  let c48_178 : Index := 48#32
  ![v357.toNat, 48]

def k0_chk337 (v344 : BitVec 32) : Prop :=
  (∀ a, (k0_off1422 v344) a + S1x16.size a ≤ S704x64.size a) ∧
  (∀ a, (k0_off1423 v344) a + S1x16.size a ≤ S704x64.size a) ∧
  (∀ a, (k0_off1424 v344) a + S1x16.size a ≤ S704x64.size a) ∧
  (∀ a, (k0_off1425 v344) a + S1x16.size a ≤ S704x64.size a)
theorem k0_off1422_inb : ∀ (v344 : BitVec 32) (k0_hw337 : k0_chk337 v344), ∀ a, (k0_off1422 v344) a + S1x16.size a ≤ S704x64.size a := fun v344 k0_hw337 => k0_hw337.1
theorem k0_off1423_inb : ∀ (v344 : BitVec 32) (k0_hw337 : k0_chk337 v344), ∀ a, (k0_off1423 v344) a + S1x16.size a ≤ S704x64.size a := fun v344 k0_hw337 => k0_hw337.2.1
theorem k0_off1424_inb : ∀ (v344 : BitVec 32) (k0_hw337 : k0_chk337 v344), ∀ a, (k0_off1424 v344) a + S1x16.size a ≤ S704x64.size a := fun v344 k0_hw337 => k0_hw337.2.2.1
theorem k0_off1425_inb : ∀ (v344 : BitVec 32) (k0_hw337 : k0_chk337 v344), ∀ a, (k0_off1425 v344) a + S1x16.size a ≤ S704x64.size a := fun v344 k0_hw337 => k0_hw337.2.2.2

def k0_off1426 (v365 : BitVec 32) : Fin 2 → Nat :=
  let v366 : Index := Scalar.indexCast v365
  let c0_179 : Index := 0#32
  ![v366.toNat, 0]

def k0_off1427 (v365 : BitVec 32) : Fin 2 → Nat :=
  let v370 : Index := Scalar.indexCast v365
  let c16_180 : Index := 16#32
  ![v370.toNat, 16]
def k0_off1428 (v365 : BitVec 32) : Fin 2 → Nat :=
  let v374 : Index := Scalar.indexCast v365
  let c32_181 : Index := 32#32
  ![v374.toNat, 32]
def k0_off1429 (v365 : BitVec 32) : Fin 2 → Nat :=
  let v378 : Index := Scalar.indexCast v365
  let c48_182 : Index := 48#32
  ![v378.toNat, 48]

def k0_chk338 (v365 : BitVec 32) : Prop :=
  (∀ a, (k0_off1426 v365) a + S1x16.size a ≤ S704x64.size a) ∧
  (∀ a, (k0_off1427 v365) a + S1x16.size a ≤ S704x64.size a) ∧
  (∀ a, (k0_off1428 v365) a + S1x16.size a ≤ S704x64.size a) ∧
  (∀ a, (k0_off1429 v365) a + S1x16.size a ≤ S704x64.size a)
theorem k0_off1426_inb : ∀ (v365 : BitVec 32) (k0_hw338 : k0_chk338 v365), ∀ a, (k0_off1426 v365) a + S1x16.size a ≤ S704x64.size a := fun v365 k0_hw338 => k0_hw338.1
theorem k0_off1427_inb : ∀ (v365 : BitVec 32) (k0_hw338 : k0_chk338 v365), ∀ a, (k0_off1427 v365) a + S1x16.size a ≤ S704x64.size a := fun v365 k0_hw338 => k0_hw338.2.1
theorem k0_off1428_inb : ∀ (v365 : BitVec 32) (k0_hw338 : k0_chk338 v365), ∀ a, (k0_off1428 v365) a + S1x16.size a ≤ S704x64.size a := fun v365 k0_hw338 => k0_hw338.2.2.1
theorem k0_off1429_inb : ∀ (v365 : BitVec 32) (k0_hw338 : k0_chk338 v365), ∀ a, (k0_off1429 v365) a + S1x16.size a ≤ S704x64.size a := fun v365 k0_hw338 => k0_hw338.2.2.2

def k0_off1430 (v386 : BitVec 32) : Fin 2 → Nat :=
  let v387 : Index := Scalar.indexCast v386
  let c0_183 : Index := 0#32
  ![v387.toNat, 0]

def k0_off1431 (v386 : BitVec 32) : Fin 2 → Nat :=
  let v391 : Index := Scalar.indexCast v386
  let c16_184 : Index := 16#32
  ![v391.toNat, 16]
def k0_off1432 (v386 : BitVec 32) : Fin 2 → Nat :=
  let v395 : Index := Scalar.indexCast v386
  let c32_185 : Index := 32#32
  ![v395.toNat, 32]
def k0_off1433 (v386 : BitVec 32) : Fin 2 → Nat :=
  let v399 : Index := Scalar.indexCast v386
  let c48_186 : Index := 48#32
  ![v399.toNat, 48]

def k0_chk339 (v386 : BitVec 32) : Prop :=
  (∀ a, (k0_off1430 v386) a + S1x16.size a ≤ S704x64.size a) ∧
  (∀ a, (k0_off1431 v386) a + S1x16.size a ≤ S704x64.size a) ∧
  (∀ a, (k0_off1432 v386) a + S1x16.size a ≤ S704x64.size a) ∧
  (∀ a, (k0_off1433 v386) a + S1x16.size a ≤ S704x64.size a)
theorem k0_off1430_inb : ∀ (v386 : BitVec 32) (k0_hw339 : k0_chk339 v386), ∀ a, (k0_off1430 v386) a + S1x16.size a ≤ S704x64.size a := fun v386 k0_hw339 => k0_hw339.1
theorem k0_off1431_inb : ∀ (v386 : BitVec 32) (k0_hw339 : k0_chk339 v386), ∀ a, (k0_off1431 v386) a + S1x16.size a ≤ S704x64.size a := fun v386 k0_hw339 => k0_hw339.2.1
theorem k0_off1432_inb : ∀ (v386 : BitVec 32) (k0_hw339 : k0_chk339 v386), ∀ a, (k0_off1432 v386) a + S1x16.size a ≤ S704x64.size a := fun v386 k0_hw339 => k0_hw339.2.2.1
theorem k0_off1433_inb : ∀ (v386 : BitVec 32) (k0_hw339 : k0_chk339 v386), ∀ a, (k0_off1433 v386) a + S1x16.size a ≤ S704x64.size a := fun v386 k0_hw339 => k0_hw339.2.2.2

def k0_off1434 (v407 : BitVec 32) : Fin 2 → Nat :=
  let v408 : Index := Scalar.indexCast v407
  let c0_187 : Index := 0#32
  ![v408.toNat, 0]

def k0_off1435 (v407 : BitVec 32) : Fin 2 → Nat :=
  let v412 : Index := Scalar.indexCast v407
  let c16_188 : Index := 16#32
  ![v412.toNat, 16]
def k0_off1436 (v407 : BitVec 32) : Fin 2 → Nat :=
  let v416 : Index := Scalar.indexCast v407
  let c32_189 : Index := 32#32
  ![v416.toNat, 32]
def k0_off1437 (v407 : BitVec 32) : Fin 2 → Nat :=
  let v420 : Index := Scalar.indexCast v407
  let c48_190 : Index := 48#32
  ![v420.toNat, 48]

def k0_chk340 (v407 : BitVec 32) : Prop :=
  (∀ a, (k0_off1434 v407) a + S1x16.size a ≤ S704x64.size a) ∧
  (∀ a, (k0_off1435 v407) a + S1x16.size a ≤ S704x64.size a) ∧
  (∀ a, (k0_off1436 v407) a + S1x16.size a ≤ S704x64.size a) ∧
  (∀ a, (k0_off1437 v407) a + S1x16.size a ≤ S704x64.size a)
theorem k0_off1434_inb : ∀ (v407 : BitVec 32) (k0_hw340 : k0_chk340 v407), ∀ a, (k0_off1434 v407) a + S1x16.size a ≤ S704x64.size a := fun v407 k0_hw340 => k0_hw340.1
theorem k0_off1435_inb : ∀ (v407 : BitVec 32) (k0_hw340 : k0_chk340 v407), ∀ a, (k0_off1435 v407) a + S1x16.size a ≤ S704x64.size a := fun v407 k0_hw340 => k0_hw340.2.1
theorem k0_off1436_inb : ∀ (v407 : BitVec 32) (k0_hw340 : k0_chk340 v407), ∀ a, (k0_off1436 v407) a + S1x16.size a ≤ S704x64.size a := fun v407 k0_hw340 => k0_hw340.2.2.1
theorem k0_off1437_inb : ∀ (v407 : BitVec 32) (k0_hw340 : k0_chk340 v407), ∀ a, (k0_off1437 v407) a + S1x16.size a ≤ S704x64.size a := fun v407 k0_hw340 => k0_hw340.2.2.2

def k0_off1438 (v428 : BitVec 32) : Fin 2 → Nat :=
  let v429 : Index := Scalar.indexCast v428
  let c0_191 : Index := 0#32
  ![v429.toNat, 0]

def k0_off1439 (v428 : BitVec 32) : Fin 2 → Nat :=
  let v433 : Index := Scalar.indexCast v428
  let c16_192 : Index := 16#32
  ![v433.toNat, 16]
def k0_off1440 (v428 : BitVec 32) : Fin 2 → Nat :=
  let v437 : Index := Scalar.indexCast v428
  let c32_193 : Index := 32#32
  ![v437.toNat, 32]
def k0_off1441 (v428 : BitVec 32) : Fin 2 → Nat :=
  let v441 : Index := Scalar.indexCast v428
  let c48_194 : Index := 48#32
  ![v441.toNat, 48]

def k0_chk341 (v428 : BitVec 32) : Prop :=
  (∀ a, (k0_off1438 v428) a + S1x16.size a ≤ S704x64.size a) ∧
  (∀ a, (k0_off1439 v428) a + S1x16.size a ≤ S704x64.size a) ∧
  (∀ a, (k0_off1440 v428) a + S1x16.size a ≤ S704x64.size a) ∧
  (∀ a, (k0_off1441 v428) a + S1x16.size a ≤ S704x64.size a)
theorem k0_off1438_inb : ∀ (v428 : BitVec 32) (k0_hw341 : k0_chk341 v428), ∀ a, (k0_off1438 v428) a + S1x16.size a ≤ S704x64.size a := fun v428 k0_hw341 => k0_hw341.1
theorem k0_off1439_inb : ∀ (v428 : BitVec 32) (k0_hw341 : k0_chk341 v428), ∀ a, (k0_off1439 v428) a + S1x16.size a ≤ S704x64.size a := fun v428 k0_hw341 => k0_hw341.2.1
theorem k0_off1440_inb : ∀ (v428 : BitVec 32) (k0_hw341 : k0_chk341 v428), ∀ a, (k0_off1440 v428) a + S1x16.size a ≤ S704x64.size a := fun v428 k0_hw341 => k0_hw341.2.2.1
theorem k0_off1441_inb : ∀ (v428 : BitVec 32) (k0_hw341 : k0_chk341 v428), ∀ a, (k0_off1441 v428) a + S1x16.size a ≤ S704x64.size a := fun v428 k0_hw341 => k0_hw341.2.2.2

def k0_off1442 (v449 : BitVec 32) : Fin 2 → Nat :=
  let v450 : Index := Scalar.indexCast v449
  let c0_195 : Index := 0#32
  ![v450.toNat, 0]

def k0_off1443 (v449 : BitVec 32) : Fin 2 → Nat :=
  let v454 : Index := Scalar.indexCast v449
  let c16_196 : Index := 16#32
  ![v454.toNat, 16]
def k0_off1444 (v449 : BitVec 32) : Fin 2 → Nat :=
  let v458 : Index := Scalar.indexCast v449
  let c32_197 : Index := 32#32
  ![v458.toNat, 32]
def k0_off1445 (v449 : BitVec 32) : Fin 2 → Nat :=
  let v462 : Index := Scalar.indexCast v449
  let c48_198 : Index := 48#32
  ![v462.toNat, 48]

def k0_chk342 (v449 : BitVec 32) : Prop :=
  (∀ a, (k0_off1442 v449) a + S1x16.size a ≤ S704x64.size a) ∧
  (∀ a, (k0_off1443 v449) a + S1x16.size a ≤ S704x64.size a) ∧
  (∀ a, (k0_off1444 v449) a + S1x16.size a ≤ S704x64.size a) ∧
  (∀ a, (k0_off1445 v449) a + S1x16.size a ≤ S704x64.size a)
theorem k0_off1442_inb : ∀ (v449 : BitVec 32) (k0_hw342 : k0_chk342 v449), ∀ a, (k0_off1442 v449) a + S1x16.size a ≤ S704x64.size a := fun v449 k0_hw342 => k0_hw342.1
theorem k0_off1443_inb : ∀ (v449 : BitVec 32) (k0_hw342 : k0_chk342 v449), ∀ a, (k0_off1443 v449) a + S1x16.size a ≤ S704x64.size a := fun v449 k0_hw342 => k0_hw342.2.1
theorem k0_off1444_inb : ∀ (v449 : BitVec 32) (k0_hw342 : k0_chk342 v449), ∀ a, (k0_off1444 v449) a + S1x16.size a ≤ S704x64.size a := fun v449 k0_hw342 => k0_hw342.2.2.1
theorem k0_off1445_inb : ∀ (v449 : BitVec 32) (k0_hw342 : k0_chk342 v449), ∀ a, (k0_off1445 v449) a + S1x16.size a ≤ S704x64.size a := fun v449 k0_hw342 => k0_hw342.2.2.2

def k0_off1446 (v470 : BitVec 32) : Fin 2 → Nat :=
  let v471 : Index := Scalar.indexCast v470
  let c0_199 : Index := 0#32
  ![v471.toNat, 0]

def k0_off1447 (v470 : BitVec 32) : Fin 2 → Nat :=
  let v475 : Index := Scalar.indexCast v470
  let c16_200 : Index := 16#32
  ![v475.toNat, 16]
def k0_off1448 (v470 : BitVec 32) : Fin 2 → Nat :=
  let v479 : Index := Scalar.indexCast v470
  let c32_201 : Index := 32#32
  ![v479.toNat, 32]
def k0_off1449 (v470 : BitVec 32) : Fin 2 → Nat :=
  let v483 : Index := Scalar.indexCast v470
  let c48_202 : Index := 48#32
  ![v483.toNat, 48]

def k0_chk343 (v470 : BitVec 32) : Prop :=
  (∀ a, (k0_off1446 v470) a + S1x16.size a ≤ S704x64.size a) ∧
  (∀ a, (k0_off1447 v470) a + S1x16.size a ≤ S704x64.size a) ∧
  (∀ a, (k0_off1448 v470) a + S1x16.size a ≤ S704x64.size a) ∧
  (∀ a, (k0_off1449 v470) a + S1x16.size a ≤ S704x64.size a)
theorem k0_off1446_inb : ∀ (v470 : BitVec 32) (k0_hw343 : k0_chk343 v470), ∀ a, (k0_off1446 v470) a + S1x16.size a ≤ S704x64.size a := fun v470 k0_hw343 => k0_hw343.1
theorem k0_off1447_inb : ∀ (v470 : BitVec 32) (k0_hw343 : k0_chk343 v470), ∀ a, (k0_off1447 v470) a + S1x16.size a ≤ S704x64.size a := fun v470 k0_hw343 => k0_hw343.2.1
theorem k0_off1448_inb : ∀ (v470 : BitVec 32) (k0_hw343 : k0_chk343 v470), ∀ a, (k0_off1448 v470) a + S1x16.size a ≤ S704x64.size a := fun v470 k0_hw343 => k0_hw343.2.2.1
theorem k0_off1449_inb : ∀ (v470 : BitVec 32) (k0_hw343 : k0_chk343 v470), ∀ a, (k0_off1449 v470) a + S1x16.size a ≤ S704x64.size a := fun v470 k0_hw343 => k0_hw343.2.2.2

def k0_off1450 (v491 : BitVec 32) : Fin 2 → Nat :=
  let v492 : Index := Scalar.indexCast v491
  let c0_203 : Index := 0#32
  ![v492.toNat, 0]

def k0_off1451 (v491 : BitVec 32) : Fin 2 → Nat :=
  let v496 : Index := Scalar.indexCast v491
  let c16_204 : Index := 16#32
  ![v496.toNat, 16]
def k0_off1452 (v491 : BitVec 32) : Fin 2 → Nat :=
  let v500 : Index := Scalar.indexCast v491
  let c32_205 : Index := 32#32
  ![v500.toNat, 32]
def k0_off1453 (v491 : BitVec 32) : Fin 2 → Nat :=
  let v504 : Index := Scalar.indexCast v491
  let c48_206 : Index := 48#32
  ![v504.toNat, 48]

def k0_chk344 (v491 : BitVec 32) : Prop :=
  (∀ a, (k0_off1450 v491) a + S1x16.size a ≤ S704x64.size a) ∧
  (∀ a, (k0_off1451 v491) a + S1x16.size a ≤ S704x64.size a) ∧
  (∀ a, (k0_off1452 v491) a + S1x16.size a ≤ S704x64.size a) ∧
  (∀ a, (k0_off1453 v491) a + S1x16.size a ≤ S704x64.size a)
theorem k0_off1450_inb : ∀ (v491 : BitVec 32) (k0_hw344 : k0_chk344 v491), ∀ a, (k0_off1450 v491) a + S1x16.size a ≤ S704x64.size a := fun v491 k0_hw344 => k0_hw344.1
theorem k0_off1451_inb : ∀ (v491 : BitVec 32) (k0_hw344 : k0_chk344 v491), ∀ a, (k0_off1451 v491) a + S1x16.size a ≤ S704x64.size a := fun v491 k0_hw344 => k0_hw344.2.1
theorem k0_off1452_inb : ∀ (v491 : BitVec 32) (k0_hw344 : k0_chk344 v491), ∀ a, (k0_off1452 v491) a + S1x16.size a ≤ S704x64.size a := fun v491 k0_hw344 => k0_hw344.2.2.1
theorem k0_off1453_inb : ∀ (v491 : BitVec 32) (k0_hw344 : k0_chk344 v491), ∀ a, (k0_off1453 v491) a + S1x16.size a ≤ S704x64.size a := fun v491 k0_hw344 => k0_hw344.2.2.2

def k0_off1454 (v512 : BitVec 32) : Fin 2 → Nat :=
  let v513 : Index := Scalar.indexCast v512
  let c0_207 : Index := 0#32
  ![v513.toNat, 0]

def k0_off1455 (v512 : BitVec 32) : Fin 2 → Nat :=
  let v517 : Index := Scalar.indexCast v512
  let c16_208 : Index := 16#32
  ![v517.toNat, 16]
def k0_off1456 (v512 : BitVec 32) : Fin 2 → Nat :=
  let v521 : Index := Scalar.indexCast v512
  let c32_209 : Index := 32#32
  ![v521.toNat, 32]
def k0_off1457 (v512 : BitVec 32) : Fin 2 → Nat :=
  let v525 : Index := Scalar.indexCast v512
  let c48_210 : Index := 48#32
  ![v525.toNat, 48]

def k0_chk345 (v512 : BitVec 32) : Prop :=
  (∀ a, (k0_off1454 v512) a + S1x16.size a ≤ S704x64.size a) ∧
  (∀ a, (k0_off1455 v512) a + S1x16.size a ≤ S704x64.size a) ∧
  (∀ a, (k0_off1456 v512) a + S1x16.size a ≤ S704x64.size a) ∧
  (∀ a, (k0_off1457 v512) a + S1x16.size a ≤ S704x64.size a)
theorem k0_off1454_inb : ∀ (v512 : BitVec 32) (k0_hw345 : k0_chk345 v512), ∀ a, (k0_off1454 v512) a + S1x16.size a ≤ S704x64.size a := fun v512 k0_hw345 => k0_hw345.1
theorem k0_off1455_inb : ∀ (v512 : BitVec 32) (k0_hw345 : k0_chk345 v512), ∀ a, (k0_off1455 v512) a + S1x16.size a ≤ S704x64.size a := fun v512 k0_hw345 => k0_hw345.2.1
theorem k0_off1456_inb : ∀ (v512 : BitVec 32) (k0_hw345 : k0_chk345 v512), ∀ a, (k0_off1456 v512) a + S1x16.size a ≤ S704x64.size a := fun v512 k0_hw345 => k0_hw345.2.2.1
theorem k0_off1457_inb : ∀ (v512 : BitVec 32) (k0_hw345 : k0_chk345 v512), ∀ a, (k0_off1457 v512) a + S1x16.size a ≤ S704x64.size a := fun v512 k0_hw345 => k0_hw345.2.2.2

def k0_off1458 (v533 : BitVec 32) : Fin 2 → Nat :=
  let v534 : Index := Scalar.indexCast v533
  let c0_211 : Index := 0#32
  ![v534.toNat, 0]

def k0_off1459 (v533 : BitVec 32) : Fin 2 → Nat :=
  let v538 : Index := Scalar.indexCast v533
  let c16_212 : Index := 16#32
  ![v538.toNat, 16]
def k0_off1460 (v533 : BitVec 32) : Fin 2 → Nat :=
  let v542 : Index := Scalar.indexCast v533
  let c32_213 : Index := 32#32
  ![v542.toNat, 32]
def k0_off1461 (v533 : BitVec 32) : Fin 2 → Nat :=
  let v546 : Index := Scalar.indexCast v533
  let c48_214 : Index := 48#32
  ![v546.toNat, 48]

def k0_chk346 (v533 : BitVec 32) : Prop :=
  (∀ a, (k0_off1458 v533) a + S1x16.size a ≤ S704x64.size a) ∧
  (∀ a, (k0_off1459 v533) a + S1x16.size a ≤ S704x64.size a) ∧
  (∀ a, (k0_off1460 v533) a + S1x16.size a ≤ S704x64.size a) ∧
  (∀ a, (k0_off1461 v533) a + S1x16.size a ≤ S704x64.size a)
theorem k0_off1458_inb : ∀ (v533 : BitVec 32) (k0_hw346 : k0_chk346 v533), ∀ a, (k0_off1458 v533) a + S1x16.size a ≤ S704x64.size a := fun v533 k0_hw346 => k0_hw346.1
theorem k0_off1459_inb : ∀ (v533 : BitVec 32) (k0_hw346 : k0_chk346 v533), ∀ a, (k0_off1459 v533) a + S1x16.size a ≤ S704x64.size a := fun v533 k0_hw346 => k0_hw346.2.1
theorem k0_off1460_inb : ∀ (v533 : BitVec 32) (k0_hw346 : k0_chk346 v533), ∀ a, (k0_off1460 v533) a + S1x16.size a ≤ S704x64.size a := fun v533 k0_hw346 => k0_hw346.2.2.1
theorem k0_off1461_inb : ∀ (v533 : BitVec 32) (k0_hw346 : k0_chk346 v533), ∀ a, (k0_off1461 v533) a + S1x16.size a ≤ S704x64.size a := fun v533 k0_hw346 => k0_hw346.2.2.2

def k0_off1462 (v554 : BitVec 32) : Fin 2 → Nat :=
  let v555 : Index := Scalar.indexCast v554
  let c0_215 : Index := 0#32
  ![v555.toNat, 0]

def k0_off1463 (v554 : BitVec 32) : Fin 2 → Nat :=
  let v559 : Index := Scalar.indexCast v554
  let c16_216 : Index := 16#32
  ![v559.toNat, 16]
def k0_off1464 (v554 : BitVec 32) : Fin 2 → Nat :=
  let v563 : Index := Scalar.indexCast v554
  let c32_217 : Index := 32#32
  ![v563.toNat, 32]
def k0_off1465 (v554 : BitVec 32) : Fin 2 → Nat :=
  let v567 : Index := Scalar.indexCast v554
  let c48_218 : Index := 48#32
  ![v567.toNat, 48]

def k0_chk347 (v554 : BitVec 32) : Prop :=
  (∀ a, (k0_off1462 v554) a + S1x16.size a ≤ S704x64.size a) ∧
  (∀ a, (k0_off1463 v554) a + S1x16.size a ≤ S704x64.size a) ∧
  (∀ a, (k0_off1464 v554) a + S1x16.size a ≤ S704x64.size a) ∧
  (∀ a, (k0_off1465 v554) a + S1x16.size a ≤ S704x64.size a)
theorem k0_off1462_inb : ∀ (v554 : BitVec 32) (k0_hw347 : k0_chk347 v554), ∀ a, (k0_off1462 v554) a + S1x16.size a ≤ S704x64.size a := fun v554 k0_hw347 => k0_hw347.1
theorem k0_off1463_inb : ∀ (v554 : BitVec 32) (k0_hw347 : k0_chk347 v554), ∀ a, (k0_off1463 v554) a + S1x16.size a ≤ S704x64.size a := fun v554 k0_hw347 => k0_hw347.2.1
theorem k0_off1464_inb : ∀ (v554 : BitVec 32) (k0_hw347 : k0_chk347 v554), ∀ a, (k0_off1464 v554) a + S1x16.size a ≤ S704x64.size a := fun v554 k0_hw347 => k0_hw347.2.2.1
theorem k0_off1465_inb : ∀ (v554 : BitVec 32) (k0_hw347 : k0_chk347 v554), ∀ a, (k0_off1465 v554) a + S1x16.size a ≤ S704x64.size a := fun v554 k0_hw347 => k0_hw347.2.2.2

def k0_off1466 (v575 : BitVec 32) : Fin 2 → Nat :=
  let v576 : Index := Scalar.indexCast v575
  let c0_219 : Index := 0#32
  ![v576.toNat, 0]

def k0_off1467 (v575 : BitVec 32) : Fin 2 → Nat :=
  let v580 : Index := Scalar.indexCast v575
  let c16_220 : Index := 16#32
  ![v580.toNat, 16]
def k0_off1468 (v575 : BitVec 32) : Fin 2 → Nat :=
  let v584 : Index := Scalar.indexCast v575
  let c32_221 : Index := 32#32
  ![v584.toNat, 32]
def k0_off1469 (v575 : BitVec 32) : Fin 2 → Nat :=
  let v588 : Index := Scalar.indexCast v575
  let c48_222 : Index := 48#32
  ![v588.toNat, 48]

def k0_chk348 (v575 : BitVec 32) : Prop :=
  (∀ a, (k0_off1466 v575) a + S1x16.size a ≤ S704x64.size a) ∧
  (∀ a, (k0_off1467 v575) a + S1x16.size a ≤ S704x64.size a) ∧
  (∀ a, (k0_off1468 v575) a + S1x16.size a ≤ S704x64.size a) ∧
  (∀ a, (k0_off1469 v575) a + S1x16.size a ≤ S704x64.size a)
theorem k0_off1466_inb : ∀ (v575 : BitVec 32) (k0_hw348 : k0_chk348 v575), ∀ a, (k0_off1466 v575) a + S1x16.size a ≤ S704x64.size a := fun v575 k0_hw348 => k0_hw348.1
theorem k0_off1467_inb : ∀ (v575 : BitVec 32) (k0_hw348 : k0_chk348 v575), ∀ a, (k0_off1467 v575) a + S1x16.size a ≤ S704x64.size a := fun v575 k0_hw348 => k0_hw348.2.1
theorem k0_off1468_inb : ∀ (v575 : BitVec 32) (k0_hw348 : k0_chk348 v575), ∀ a, (k0_off1468 v575) a + S1x16.size a ≤ S704x64.size a := fun v575 k0_hw348 => k0_hw348.2.2.1
theorem k0_off1469_inb : ∀ (v575 : BitVec 32) (k0_hw348 : k0_chk348 v575), ∀ a, (k0_off1469 v575) a + S1x16.size a ≤ S704x64.size a := fun v575 k0_hw348 => k0_hw348.2.2.2

def k0_off1470 (v596 : BitVec 32) : Fin 2 → Nat :=
  let v597 : Index := Scalar.indexCast v596
  let c0_223 : Index := 0#32
  ![v597.toNat, 0]

def k0_off1471 (v596 : BitVec 32) : Fin 2 → Nat :=
  let v601 : Index := Scalar.indexCast v596
  let c16_224 : Index := 16#32
  ![v601.toNat, 16]
def k0_off1472 (v596 : BitVec 32) : Fin 2 → Nat :=
  let v605 : Index := Scalar.indexCast v596
  let c32_225 : Index := 32#32
  ![v605.toNat, 32]
def k0_off1473 (v596 : BitVec 32) : Fin 2 → Nat :=
  let v609 : Index := Scalar.indexCast v596
  let c48_226 : Index := 48#32
  ![v609.toNat, 48]

def k0_chk349 (v596 : BitVec 32) : Prop :=
  (∀ a, (k0_off1470 v596) a + S1x16.size a ≤ S704x64.size a) ∧
  (∀ a, (k0_off1471 v596) a + S1x16.size a ≤ S704x64.size a) ∧
  (∀ a, (k0_off1472 v596) a + S1x16.size a ≤ S704x64.size a) ∧
  (∀ a, (k0_off1473 v596) a + S1x16.size a ≤ S704x64.size a)
theorem k0_off1470_inb : ∀ (v596 : BitVec 32) (k0_hw349 : k0_chk349 v596), ∀ a, (k0_off1470 v596) a + S1x16.size a ≤ S704x64.size a := fun v596 k0_hw349 => k0_hw349.1
theorem k0_off1471_inb : ∀ (v596 : BitVec 32) (k0_hw349 : k0_chk349 v596), ∀ a, (k0_off1471 v596) a + S1x16.size a ≤ S704x64.size a := fun v596 k0_hw349 => k0_hw349.2.1
theorem k0_off1472_inb : ∀ (v596 : BitVec 32) (k0_hw349 : k0_chk349 v596), ∀ a, (k0_off1472 v596) a + S1x16.size a ≤ S704x64.size a := fun v596 k0_hw349 => k0_hw349.2.2.1
theorem k0_off1473_inb : ∀ (v596 : BitVec 32) (k0_hw349 : k0_chk349 v596), ∀ a, (k0_off1473 v596) a + S1x16.size a ≤ S704x64.size a := fun v596 k0_hw349 => k0_hw349.2.2.2

def k0_off1474 (v617 : BitVec 32) : Fin 2 → Nat :=
  let v618 : Index := Scalar.indexCast v617
  let c0_227 : Index := 0#32
  ![v618.toNat, 0]

def k0_off1475 (v617 : BitVec 32) : Fin 2 → Nat :=
  let v622 : Index := Scalar.indexCast v617
  let c16_228 : Index := 16#32
  ![v622.toNat, 16]
def k0_off1476 (v617 : BitVec 32) : Fin 2 → Nat :=
  let v626 : Index := Scalar.indexCast v617
  let c32_229 : Index := 32#32
  ![v626.toNat, 32]
def k0_off1477 (v617 : BitVec 32) : Fin 2 → Nat :=
  let v630 : Index := Scalar.indexCast v617
  let c48_230 : Index := 48#32
  ![v630.toNat, 48]

def k0_chk350 (v617 : BitVec 32) : Prop :=
  (∀ a, (k0_off1474 v617) a + S1x16.size a ≤ S704x64.size a) ∧
  (∀ a, (k0_off1475 v617) a + S1x16.size a ≤ S704x64.size a) ∧
  (∀ a, (k0_off1476 v617) a + S1x16.size a ≤ S704x64.size a) ∧
  (∀ a, (k0_off1477 v617) a + S1x16.size a ≤ S704x64.size a)
theorem k0_off1474_inb : ∀ (v617 : BitVec 32) (k0_hw350 : k0_chk350 v617), ∀ a, (k0_off1474 v617) a + S1x16.size a ≤ S704x64.size a := fun v617 k0_hw350 => k0_hw350.1
theorem k0_off1475_inb : ∀ (v617 : BitVec 32) (k0_hw350 : k0_chk350 v617), ∀ a, (k0_off1475 v617) a + S1x16.size a ≤ S704x64.size a := fun v617 k0_hw350 => k0_hw350.2.1
theorem k0_off1476_inb : ∀ (v617 : BitVec 32) (k0_hw350 : k0_chk350 v617), ∀ a, (k0_off1476 v617) a + S1x16.size a ≤ S704x64.size a := fun v617 k0_hw350 => k0_hw350.2.2.1
theorem k0_off1477_inb : ∀ (v617 : BitVec 32) (k0_hw350 : k0_chk350 v617), ∀ a, (k0_off1477 v617) a + S1x16.size a ≤ S704x64.size a := fun v617 k0_hw350 => k0_hw350.2.2.2

def k0_off1478 (v638 : BitVec 32) : Fin 2 → Nat :=
  let v639 : Index := Scalar.indexCast v638
  let c0_231 : Index := 0#32
  ![v639.toNat, 0]

def k0_off1479 (v638 : BitVec 32) : Fin 2 → Nat :=
  let v643 : Index := Scalar.indexCast v638
  let c16_232 : Index := 16#32
  ![v643.toNat, 16]
def k0_off1480 (v638 : BitVec 32) : Fin 2 → Nat :=
  let v647 : Index := Scalar.indexCast v638
  let c32_233 : Index := 32#32
  ![v647.toNat, 32]
def k0_off1481 (v638 : BitVec 32) : Fin 2 → Nat :=
  let v651 : Index := Scalar.indexCast v638
  let c48_234 : Index := 48#32
  ![v651.toNat, 48]

def k0_chk351 (v638 : BitVec 32) : Prop :=
  (∀ a, (k0_off1478 v638) a + S1x16.size a ≤ S704x64.size a) ∧
  (∀ a, (k0_off1479 v638) a + S1x16.size a ≤ S704x64.size a) ∧
  (∀ a, (k0_off1480 v638) a + S1x16.size a ≤ S704x64.size a) ∧
  (∀ a, (k0_off1481 v638) a + S1x16.size a ≤ S704x64.size a)
theorem k0_off1478_inb : ∀ (v638 : BitVec 32) (k0_hw351 : k0_chk351 v638), ∀ a, (k0_off1478 v638) a + S1x16.size a ≤ S704x64.size a := fun v638 k0_hw351 => k0_hw351.1
theorem k0_off1479_inb : ∀ (v638 : BitVec 32) (k0_hw351 : k0_chk351 v638), ∀ a, (k0_off1479 v638) a + S1x16.size a ≤ S704x64.size a := fun v638 k0_hw351 => k0_hw351.2.1
theorem k0_off1480_inb : ∀ (v638 : BitVec 32) (k0_hw351 : k0_chk351 v638), ∀ a, (k0_off1480 v638) a + S1x16.size a ≤ S704x64.size a := fun v638 k0_hw351 => k0_hw351.2.2.1
theorem k0_off1481_inb : ∀ (v638 : BitVec 32) (k0_hw351 : k0_chk351 v638), ∀ a, (k0_off1481 v638) a + S1x16.size a ≤ S704x64.size a := fun v638 k0_hw351 => k0_hw351.2.2.2

def k0_off1482 (v659 : BitVec 32) : Fin 2 → Nat :=
  let v660 : Index := Scalar.indexCast v659
  let c0_235 : Index := 0#32
  ![v660.toNat, 0]

def k0_off1483 (v659 : BitVec 32) : Fin 2 → Nat :=
  let v664 : Index := Scalar.indexCast v659
  let c16_236 : Index := 16#32
  ![v664.toNat, 16]
def k0_off1484 (v659 : BitVec 32) : Fin 2 → Nat :=
  let v668 : Index := Scalar.indexCast v659
  let c32_237 : Index := 32#32
  ![v668.toNat, 32]
def k0_off1485 (v659 : BitVec 32) : Fin 2 → Nat :=
  let v672 : Index := Scalar.indexCast v659
  let c48_238 : Index := 48#32
  ![v672.toNat, 48]

def k0_chk352 (v659 : BitVec 32) : Prop :=
  (∀ a, (k0_off1482 v659) a + S1x16.size a ≤ S704x64.size a) ∧
  (∀ a, (k0_off1483 v659) a + S1x16.size a ≤ S704x64.size a) ∧
  (∀ a, (k0_off1484 v659) a + S1x16.size a ≤ S704x64.size a) ∧
  (∀ a, (k0_off1485 v659) a + S1x16.size a ≤ S704x64.size a)
theorem k0_off1482_inb : ∀ (v659 : BitVec 32) (k0_hw352 : k0_chk352 v659), ∀ a, (k0_off1482 v659) a + S1x16.size a ≤ S704x64.size a := fun v659 k0_hw352 => k0_hw352.1
theorem k0_off1483_inb : ∀ (v659 : BitVec 32) (k0_hw352 : k0_chk352 v659), ∀ a, (k0_off1483 v659) a + S1x16.size a ≤ S704x64.size a := fun v659 k0_hw352 => k0_hw352.2.1
theorem k0_off1484_inb : ∀ (v659 : BitVec 32) (k0_hw352 : k0_chk352 v659), ∀ a, (k0_off1484 v659) a + S1x16.size a ≤ S704x64.size a := fun v659 k0_hw352 => k0_hw352.2.2.1
theorem k0_off1485_inb : ∀ (v659 : BitVec 32) (k0_hw352 : k0_chk352 v659), ∀ a, (k0_off1485 v659) a + S1x16.size a ≤ S704x64.size a := fun v659 k0_hw352 => k0_hw352.2.2.2

def k0_off1486 (v680 : BitVec 32) : Fin 2 → Nat :=
  let v681 : Index := Scalar.indexCast v680
  let c0_239 : Index := 0#32
  ![v681.toNat, 0]

def k0_off1487 (v680 : BitVec 32) : Fin 2 → Nat :=
  let v685 : Index := Scalar.indexCast v680
  let c16_240 : Index := 16#32
  ![v685.toNat, 16]
def k0_off1488 (v680 : BitVec 32) : Fin 2 → Nat :=
  let v689 : Index := Scalar.indexCast v680
  let c32_241 : Index := 32#32
  ![v689.toNat, 32]
def k0_off1489 (v680 : BitVec 32) : Fin 2 → Nat :=
  let v693 : Index := Scalar.indexCast v680
  let c48_242 : Index := 48#32
  ![v693.toNat, 48]

def k0_chk353 (v680 : BitVec 32) : Prop :=
  (∀ a, (k0_off1486 v680) a + S1x16.size a ≤ S704x64.size a) ∧
  (∀ a, (k0_off1487 v680) a + S1x16.size a ≤ S704x64.size a) ∧
  (∀ a, (k0_off1488 v680) a + S1x16.size a ≤ S704x64.size a) ∧
  (∀ a, (k0_off1489 v680) a + S1x16.size a ≤ S704x64.size a)
theorem k0_off1486_inb : ∀ (v680 : BitVec 32) (k0_hw353 : k0_chk353 v680), ∀ a, (k0_off1486 v680) a + S1x16.size a ≤ S704x64.size a := fun v680 k0_hw353 => k0_hw353.1
theorem k0_off1487_inb : ∀ (v680 : BitVec 32) (k0_hw353 : k0_chk353 v680), ∀ a, (k0_off1487 v680) a + S1x16.size a ≤ S704x64.size a := fun v680 k0_hw353 => k0_hw353.2.1
theorem k0_off1488_inb : ∀ (v680 : BitVec 32) (k0_hw353 : k0_chk353 v680), ∀ a, (k0_off1488 v680) a + S1x16.size a ≤ S704x64.size a := fun v680 k0_hw353 => k0_hw353.2.2.1
theorem k0_off1489_inb : ∀ (v680 : BitVec 32) (k0_hw353 : k0_chk353 v680), ∀ a, (k0_off1489 v680) a + S1x16.size a ≤ S704x64.size a := fun v680 k0_hw353 => k0_hw353.2.2.2

def k0_off1490 (v701 : BitVec 32) : Fin 2 → Nat :=
  let v702 : Index := Scalar.indexCast v701
  let c0_243 : Index := 0#32
  ![v702.toNat, 0]

def k0_off1491 (v701 : BitVec 32) : Fin 2 → Nat :=
  let v706 : Index := Scalar.indexCast v701
  let c16_244 : Index := 16#32
  ![v706.toNat, 16]
def k0_off1492 (v701 : BitVec 32) : Fin 2 → Nat :=
  let v710 : Index := Scalar.indexCast v701
  let c32_245 : Index := 32#32
  ![v710.toNat, 32]
def k0_off1493 (v701 : BitVec 32) : Fin 2 → Nat :=
  let v714 : Index := Scalar.indexCast v701
  let c48_246 : Index := 48#32
  ![v714.toNat, 48]

def k0_chk354 (v701 : BitVec 32) : Prop :=
  (∀ a, (k0_off1490 v701) a + S1x16.size a ≤ S704x64.size a) ∧
  (∀ a, (k0_off1491 v701) a + S1x16.size a ≤ S704x64.size a) ∧
  (∀ a, (k0_off1492 v701) a + S1x16.size a ≤ S704x64.size a) ∧
  (∀ a, (k0_off1493 v701) a + S1x16.size a ≤ S704x64.size a)
theorem k0_off1490_inb : ∀ (v701 : BitVec 32) (k0_hw354 : k0_chk354 v701), ∀ a, (k0_off1490 v701) a + S1x16.size a ≤ S704x64.size a := fun v701 k0_hw354 => k0_hw354.1
theorem k0_off1491_inb : ∀ (v701 : BitVec 32) (k0_hw354 : k0_chk354 v701), ∀ a, (k0_off1491 v701) a + S1x16.size a ≤ S704x64.size a := fun v701 k0_hw354 => k0_hw354.2.1
theorem k0_off1492_inb : ∀ (v701 : BitVec 32) (k0_hw354 : k0_chk354 v701), ∀ a, (k0_off1492 v701) a + S1x16.size a ≤ S704x64.size a := fun v701 k0_hw354 => k0_hw354.2.2.1
theorem k0_off1493_inb : ∀ (v701 : BitVec 32) (k0_hw354 : k0_chk354 v701), ∀ a, (k0_off1493 v701) a + S1x16.size a ≤ S704x64.size a := fun v701 k0_hw354 => k0_hw354.2.2.2

def k0_off1494 (v722 : BitVec 32) : Fin 2 → Nat :=
  let v723 : Index := Scalar.indexCast v722
  let c0_247 : Index := 0#32
  ![v723.toNat, 0]

def k0_off1495 (v722 : BitVec 32) : Fin 2 → Nat :=
  let v727 : Index := Scalar.indexCast v722
  let c16_248 : Index := 16#32
  ![v727.toNat, 16]
def k0_off1496 (v722 : BitVec 32) : Fin 2 → Nat :=
  let v731 : Index := Scalar.indexCast v722
  let c32_249 : Index := 32#32
  ![v731.toNat, 32]
def k0_off1497 (v722 : BitVec 32) : Fin 2 → Nat :=
  let v735 : Index := Scalar.indexCast v722
  let c48_250 : Index := 48#32
  ![v735.toNat, 48]

def k0_chk355 (v722 : BitVec 32) : Prop :=
  (∀ a, (k0_off1494 v722) a + S1x16.size a ≤ S704x64.size a) ∧
  (∀ a, (k0_off1495 v722) a + S1x16.size a ≤ S704x64.size a) ∧
  (∀ a, (k0_off1496 v722) a + S1x16.size a ≤ S704x64.size a) ∧
  (∀ a, (k0_off1497 v722) a + S1x16.size a ≤ S704x64.size a)
theorem k0_off1494_inb : ∀ (v722 : BitVec 32) (k0_hw355 : k0_chk355 v722), ∀ a, (k0_off1494 v722) a + S1x16.size a ≤ S704x64.size a := fun v722 k0_hw355 => k0_hw355.1
theorem k0_off1495_inb : ∀ (v722 : BitVec 32) (k0_hw355 : k0_chk355 v722), ∀ a, (k0_off1495 v722) a + S1x16.size a ≤ S704x64.size a := fun v722 k0_hw355 => k0_hw355.2.1
theorem k0_off1496_inb : ∀ (v722 : BitVec 32) (k0_hw355 : k0_chk355 v722), ∀ a, (k0_off1496 v722) a + S1x16.size a ≤ S704x64.size a := fun v722 k0_hw355 => k0_hw355.2.2.1
theorem k0_off1497_inb : ∀ (v722 : BitVec 32) (k0_hw355 : k0_chk355 v722), ∀ a, (k0_off1497 v722) a + S1x16.size a ≤ S704x64.size a := fun v722 k0_hw355 => k0_hw355.2.2.2

def k0_off1498 (v743 : BitVec 32) : Fin 2 → Nat :=
  let v744 : Index := Scalar.indexCast v743
  let c0_251 : Index := 0#32
  ![v744.toNat, 0]

def k0_off1499 (v743 : BitVec 32) : Fin 2 → Nat :=
  let v748 : Index := Scalar.indexCast v743
  let c16_252 : Index := 16#32
  ![v748.toNat, 16]
def k0_off1500 (v743 : BitVec 32) : Fin 2 → Nat :=
  let v752 : Index := Scalar.indexCast v743
  let c32_253 : Index := 32#32
  ![v752.toNat, 32]
def k0_off1501 (v743 : BitVec 32) : Fin 2 → Nat :=
  let v756 : Index := Scalar.indexCast v743
  let c48_254 : Index := 48#32
  ![v756.toNat, 48]

def k0_chk356 (v743 : BitVec 32) : Prop :=
  (∀ a, (k0_off1498 v743) a + S1x16.size a ≤ S704x64.size a) ∧
  (∀ a, (k0_off1499 v743) a + S1x16.size a ≤ S704x64.size a) ∧
  (∀ a, (k0_off1500 v743) a + S1x16.size a ≤ S704x64.size a) ∧
  (∀ a, (k0_off1501 v743) a + S1x16.size a ≤ S704x64.size a)
theorem k0_off1498_inb : ∀ (v743 : BitVec 32) (k0_hw356 : k0_chk356 v743), ∀ a, (k0_off1498 v743) a + S1x16.size a ≤ S704x64.size a := fun v743 k0_hw356 => k0_hw356.1
theorem k0_off1499_inb : ∀ (v743 : BitVec 32) (k0_hw356 : k0_chk356 v743), ∀ a, (k0_off1499 v743) a + S1x16.size a ≤ S704x64.size a := fun v743 k0_hw356 => k0_hw356.2.1
theorem k0_off1500_inb : ∀ (v743 : BitVec 32) (k0_hw356 : k0_chk356 v743), ∀ a, (k0_off1500 v743) a + S1x16.size a ≤ S704x64.size a := fun v743 k0_hw356 => k0_hw356.2.2.1
theorem k0_off1501_inb : ∀ (v743 : BitVec 32) (k0_hw356 : k0_chk356 v743), ∀ a, (k0_off1501 v743) a + S1x16.size a ≤ S704x64.size a := fun v743 k0_hw356 => k0_hw356.2.2.2

def k0_off1502 (v764 : BitVec 32) : Fin 2 → Nat :=
  let v765 : Index := Scalar.indexCast v764
  let c0_255 : Index := 0#32
  ![v765.toNat, 0]

def k0_off1503 (v764 : BitVec 32) : Fin 2 → Nat :=
  let v769 : Index := Scalar.indexCast v764
  let c16_256 : Index := 16#32
  ![v769.toNat, 16]
def k0_off1504 (v764 : BitVec 32) : Fin 2 → Nat :=
  let v773 : Index := Scalar.indexCast v764
  let c32_257 : Index := 32#32
  ![v773.toNat, 32]
def k0_off1505 (v764 : BitVec 32) : Fin 2 → Nat :=
  let v777 : Index := Scalar.indexCast v764
  let c48_258 : Index := 48#32
  ![v777.toNat, 48]

def k0_chk357 (v764 : BitVec 32) : Prop :=
  (∀ a, (k0_off1502 v764) a + S1x16.size a ≤ S704x64.size a) ∧
  (∀ a, (k0_off1503 v764) a + S1x16.size a ≤ S704x64.size a) ∧
  (∀ a, (k0_off1504 v764) a + S1x16.size a ≤ S704x64.size a) ∧
  (∀ a, (k0_off1505 v764) a + S1x16.size a ≤ S704x64.size a)
theorem k0_off1502_inb : ∀ (v764 : BitVec 32) (k0_hw357 : k0_chk357 v764), ∀ a, (k0_off1502 v764) a + S1x16.size a ≤ S704x64.size a := fun v764 k0_hw357 => k0_hw357.1
theorem k0_off1503_inb : ∀ (v764 : BitVec 32) (k0_hw357 : k0_chk357 v764), ∀ a, (k0_off1503 v764) a + S1x16.size a ≤ S704x64.size a := fun v764 k0_hw357 => k0_hw357.2.1
theorem k0_off1504_inb : ∀ (v764 : BitVec 32) (k0_hw357 : k0_chk357 v764), ∀ a, (k0_off1504 v764) a + S1x16.size a ≤ S704x64.size a := fun v764 k0_hw357 => k0_hw357.2.2.1
theorem k0_off1505_inb : ∀ (v764 : BitVec 32) (k0_hw357 : k0_chk357 v764), ∀ a, (k0_off1505 v764) a + S1x16.size a ≤ S704x64.size a := fun v764 k0_hw357 => k0_hw357.2.2.2

def k0_off1506 (v785 : BitVec 32) : Fin 2 → Nat :=
  let v786 : Index := Scalar.indexCast v785
  let c0_259 : Index := 0#32
  ![v786.toNat, 0]

def k0_off1507 (v785 : BitVec 32) : Fin 2 → Nat :=
  let v790 : Index := Scalar.indexCast v785
  let c16_260 : Index := 16#32
  ![v790.toNat, 16]
def k0_off1508 (v785 : BitVec 32) : Fin 2 → Nat :=
  let v794 : Index := Scalar.indexCast v785
  let c32_261 : Index := 32#32
  ![v794.toNat, 32]
def k0_off1509 (v785 : BitVec 32) : Fin 2 → Nat :=
  let v798 : Index := Scalar.indexCast v785
  let c48_262 : Index := 48#32
  ![v798.toNat, 48]

def k0_chk358 (v785 : BitVec 32) : Prop :=
  (∀ a, (k0_off1506 v785) a + S1x16.size a ≤ S704x64.size a) ∧
  (∀ a, (k0_off1507 v785) a + S1x16.size a ≤ S704x64.size a) ∧
  (∀ a, (k0_off1508 v785) a + S1x16.size a ≤ S704x64.size a) ∧
  (∀ a, (k0_off1509 v785) a + S1x16.size a ≤ S704x64.size a)
theorem k0_off1506_inb : ∀ (v785 : BitVec 32) (k0_hw358 : k0_chk358 v785), ∀ a, (k0_off1506 v785) a + S1x16.size a ≤ S704x64.size a := fun v785 k0_hw358 => k0_hw358.1
theorem k0_off1507_inb : ∀ (v785 : BitVec 32) (k0_hw358 : k0_chk358 v785), ∀ a, (k0_off1507 v785) a + S1x16.size a ≤ S704x64.size a := fun v785 k0_hw358 => k0_hw358.2.1
theorem k0_off1508_inb : ∀ (v785 : BitVec 32) (k0_hw358 : k0_chk358 v785), ∀ a, (k0_off1508 v785) a + S1x16.size a ≤ S704x64.size a := fun v785 k0_hw358 => k0_hw358.2.2.1
theorem k0_off1509_inb : ∀ (v785 : BitVec 32) (k0_hw358 : k0_chk358 v785), ∀ a, (k0_off1509 v785) a + S1x16.size a ≤ S704x64.size a := fun v785 k0_hw358 => k0_hw358.2.2.2

def k0_off1510 (v806 : BitVec 32) : Fin 2 → Nat :=
  let v807 : Index := Scalar.indexCast v806
  let c0_263 : Index := 0#32
  ![v807.toNat, 0]

def k0_off1511 (v806 : BitVec 32) : Fin 2 → Nat :=
  let v811 : Index := Scalar.indexCast v806
  let c16_264 : Index := 16#32
  ![v811.toNat, 16]
def k0_off1512 (v806 : BitVec 32) : Fin 2 → Nat :=
  let v815 : Index := Scalar.indexCast v806
  let c32_265 : Index := 32#32
  ![v815.toNat, 32]
def k0_off1513 (v806 : BitVec 32) : Fin 2 → Nat :=
  let v819 : Index := Scalar.indexCast v806
  let c48_266 : Index := 48#32
  ![v819.toNat, 48]

def k0_chk359 (v806 : BitVec 32) : Prop :=
  (∀ a, (k0_off1510 v806) a + S1x16.size a ≤ S704x64.size a) ∧
  (∀ a, (k0_off1511 v806) a + S1x16.size a ≤ S704x64.size a) ∧
  (∀ a, (k0_off1512 v806) a + S1x16.size a ≤ S704x64.size a) ∧
  (∀ a, (k0_off1513 v806) a + S1x16.size a ≤ S704x64.size a)
theorem k0_off1510_inb : ∀ (v806 : BitVec 32) (k0_hw359 : k0_chk359 v806), ∀ a, (k0_off1510 v806) a + S1x16.size a ≤ S704x64.size a := fun v806 k0_hw359 => k0_hw359.1
theorem k0_off1511_inb : ∀ (v806 : BitVec 32) (k0_hw359 : k0_chk359 v806), ∀ a, (k0_off1511 v806) a + S1x16.size a ≤ S704x64.size a := fun v806 k0_hw359 => k0_hw359.2.1
theorem k0_off1512_inb : ∀ (v806 : BitVec 32) (k0_hw359 : k0_chk359 v806), ∀ a, (k0_off1512 v806) a + S1x16.size a ≤ S704x64.size a := fun v806 k0_hw359 => k0_hw359.2.2.1
theorem k0_off1513_inb : ∀ (v806 : BitVec 32) (k0_hw359 : k0_chk359 v806), ∀ a, (k0_off1513 v806) a + S1x16.size a ≤ S704x64.size a := fun v806 k0_hw359 => k0_hw359.2.2.2

def k0_off1514 (v827 : BitVec 32) : Fin 2 → Nat :=
  let v828 : Index := Scalar.indexCast v827
  let c0_267 : Index := 0#32
  ![v828.toNat, 0]

def k0_off1515 (v827 : BitVec 32) : Fin 2 → Nat :=
  let v832 : Index := Scalar.indexCast v827
  let c16_268 : Index := 16#32
  ![v832.toNat, 16]
def k0_off1516 (v827 : BitVec 32) : Fin 2 → Nat :=
  let v836 : Index := Scalar.indexCast v827
  let c32_269 : Index := 32#32
  ![v836.toNat, 32]
def k0_off1517 (v827 : BitVec 32) : Fin 2 → Nat :=
  let v840 : Index := Scalar.indexCast v827
  let c48_270 : Index := 48#32
  ![v840.toNat, 48]

def k0_chk360 (v827 : BitVec 32) : Prop :=
  (∀ a, (k0_off1514 v827) a + S1x16.size a ≤ S704x64.size a) ∧
  (∀ a, (k0_off1515 v827) a + S1x16.size a ≤ S704x64.size a) ∧
  (∀ a, (k0_off1516 v827) a + S1x16.size a ≤ S704x64.size a) ∧
  (∀ a, (k0_off1517 v827) a + S1x16.size a ≤ S704x64.size a)
theorem k0_off1514_inb : ∀ (v827 : BitVec 32) (k0_hw360 : k0_chk360 v827), ∀ a, (k0_off1514 v827) a + S1x16.size a ≤ S704x64.size a := fun v827 k0_hw360 => k0_hw360.1
theorem k0_off1515_inb : ∀ (v827 : BitVec 32) (k0_hw360 : k0_chk360 v827), ∀ a, (k0_off1515 v827) a + S1x16.size a ≤ S704x64.size a := fun v827 k0_hw360 => k0_hw360.2.1
theorem k0_off1516_inb : ∀ (v827 : BitVec 32) (k0_hw360 : k0_chk360 v827), ∀ a, (k0_off1516 v827) a + S1x16.size a ≤ S704x64.size a := fun v827 k0_hw360 => k0_hw360.2.2.1
theorem k0_off1517_inb : ∀ (v827 : BitVec 32) (k0_hw360 : k0_chk360 v827), ∀ a, (k0_off1517 v827) a + S1x16.size a ≤ S704x64.size a := fun v827 k0_hw360 => k0_hw360.2.2.2

def k0_off1518 (v848 : BitVec 32) : Fin 2 → Nat :=
  let v849 : Index := Scalar.indexCast v848
  let c0_271 : Index := 0#32
  ![v849.toNat, 0]

def k0_off1519 (v848 : BitVec 32) : Fin 2 → Nat :=
  let v853 : Index := Scalar.indexCast v848
  let c16_272 : Index := 16#32
  ![v853.toNat, 16]
def k0_off1520 (v848 : BitVec 32) : Fin 2 → Nat :=
  let v857 : Index := Scalar.indexCast v848
  let c32_273 : Index := 32#32
  ![v857.toNat, 32]
def k0_off1521 (v848 : BitVec 32) : Fin 2 → Nat :=
  let v861 : Index := Scalar.indexCast v848
  let c48_274 : Index := 48#32
  ![v861.toNat, 48]

def k0_chk361 (v848 : BitVec 32) : Prop :=
  (∀ a, (k0_off1518 v848) a + S1x16.size a ≤ S704x64.size a) ∧
  (∀ a, (k0_off1519 v848) a + S1x16.size a ≤ S704x64.size a) ∧
  (∀ a, (k0_off1520 v848) a + S1x16.size a ≤ S704x64.size a) ∧
  (∀ a, (k0_off1521 v848) a + S1x16.size a ≤ S704x64.size a)
theorem k0_off1518_inb : ∀ (v848 : BitVec 32) (k0_hw361 : k0_chk361 v848), ∀ a, (k0_off1518 v848) a + S1x16.size a ≤ S704x64.size a := fun v848 k0_hw361 => k0_hw361.1
theorem k0_off1519_inb : ∀ (v848 : BitVec 32) (k0_hw361 : k0_chk361 v848), ∀ a, (k0_off1519 v848) a + S1x16.size a ≤ S704x64.size a := fun v848 k0_hw361 => k0_hw361.2.1
theorem k0_off1520_inb : ∀ (v848 : BitVec 32) (k0_hw361 : k0_chk361 v848), ∀ a, (k0_off1520 v848) a + S1x16.size a ≤ S704x64.size a := fun v848 k0_hw361 => k0_hw361.2.2.1
theorem k0_off1521_inb : ∀ (v848 : BitVec 32) (k0_hw361 : k0_chk361 v848), ∀ a, (k0_off1521 v848) a + S1x16.size a ≤ S704x64.size a := fun v848 k0_hw361 => k0_hw361.2.2.2

def k0_off1522 (v869 : BitVec 32) : Fin 2 → Nat :=
  let v870 : Index := Scalar.indexCast v869
  let c0_275 : Index := 0#32
  ![v870.toNat, 0]

def k0_off1523 (v869 : BitVec 32) : Fin 2 → Nat :=
  let v874 : Index := Scalar.indexCast v869
  let c16_276 : Index := 16#32
  ![v874.toNat, 16]
def k0_off1524 (v869 : BitVec 32) : Fin 2 → Nat :=
  let v878 : Index := Scalar.indexCast v869
  let c32_277 : Index := 32#32
  ![v878.toNat, 32]
def k0_off1525 (v869 : BitVec 32) : Fin 2 → Nat :=
  let v882 : Index := Scalar.indexCast v869
  let c48_278 : Index := 48#32
  ![v882.toNat, 48]

def k0_chk362 (v869 : BitVec 32) : Prop :=
  (∀ a, (k0_off1522 v869) a + S1x16.size a ≤ S704x64.size a) ∧
  (∀ a, (k0_off1523 v869) a + S1x16.size a ≤ S704x64.size a) ∧
  (∀ a, (k0_off1524 v869) a + S1x16.size a ≤ S704x64.size a) ∧
  (∀ a, (k0_off1525 v869) a + S1x16.size a ≤ S704x64.size a)
theorem k0_off1522_inb : ∀ (v869 : BitVec 32) (k0_hw362 : k0_chk362 v869), ∀ a, (k0_off1522 v869) a + S1x16.size a ≤ S704x64.size a := fun v869 k0_hw362 => k0_hw362.1
theorem k0_off1523_inb : ∀ (v869 : BitVec 32) (k0_hw362 : k0_chk362 v869), ∀ a, (k0_off1523 v869) a + S1x16.size a ≤ S704x64.size a := fun v869 k0_hw362 => k0_hw362.2.1
theorem k0_off1524_inb : ∀ (v869 : BitVec 32) (k0_hw362 : k0_chk362 v869), ∀ a, (k0_off1524 v869) a + S1x16.size a ≤ S704x64.size a := fun v869 k0_hw362 => k0_hw362.2.2.1
theorem k0_off1525_inb : ∀ (v869 : BitVec 32) (k0_hw362 : k0_chk362 v869), ∀ a, (k0_off1525 v869) a + S1x16.size a ≤ S704x64.size a := fun v869 k0_hw362 => k0_hw362.2.2.2

def k0_off1526 (v890 : BitVec 32) : Fin 2 → Nat :=
  let v891 : Index := Scalar.indexCast v890
  let c0_279 : Index := 0#32
  ![v891.toNat, 0]

def k0_off1527 (v890 : BitVec 32) : Fin 2 → Nat :=
  let v895 : Index := Scalar.indexCast v890
  let c16_280 : Index := 16#32
  ![v895.toNat, 16]
def k0_off1528 (v890 : BitVec 32) : Fin 2 → Nat :=
  let v899 : Index := Scalar.indexCast v890
  let c32_281 : Index := 32#32
  ![v899.toNat, 32]
def k0_off1529 (v890 : BitVec 32) : Fin 2 → Nat :=
  let v903 : Index := Scalar.indexCast v890
  let c48_282 : Index := 48#32
  ![v903.toNat, 48]

def k0_chk363 (v890 : BitVec 32) : Prop :=
  (∀ a, (k0_off1526 v890) a + S1x16.size a ≤ S704x64.size a) ∧
  (∀ a, (k0_off1527 v890) a + S1x16.size a ≤ S704x64.size a) ∧
  (∀ a, (k0_off1528 v890) a + S1x16.size a ≤ S704x64.size a) ∧
  (∀ a, (k0_off1529 v890) a + S1x16.size a ≤ S704x64.size a)
theorem k0_off1526_inb : ∀ (v890 : BitVec 32) (k0_hw363 : k0_chk363 v890), ∀ a, (k0_off1526 v890) a + S1x16.size a ≤ S704x64.size a := fun v890 k0_hw363 => k0_hw363.1
theorem k0_off1527_inb : ∀ (v890 : BitVec 32) (k0_hw363 : k0_chk363 v890), ∀ a, (k0_off1527 v890) a + S1x16.size a ≤ S704x64.size a := fun v890 k0_hw363 => k0_hw363.2.1
theorem k0_off1528_inb : ∀ (v890 : BitVec 32) (k0_hw363 : k0_chk363 v890), ∀ a, (k0_off1528 v890) a + S1x16.size a ≤ S704x64.size a := fun v890 k0_hw363 => k0_hw363.2.2.1
theorem k0_off1529_inb : ∀ (v890 : BitVec 32) (k0_hw363 : k0_chk363 v890), ∀ a, (k0_off1529 v890) a + S1x16.size a ≤ S704x64.size a := fun v890 k0_hw363 => k0_hw363.2.2.2

def k0_off1530 (k0_t6 : Fin k0_t6_loop.trips) : Fin 2 → Nat :=
  let c2_i32_143 : BitVec 32 := 2#32
  let c0_i32_111 : BitVec 32 := 0#32
  let c1_i32_113 : BitVec 32 := 1#32
  let arg13 : BitVec 32 := Scf.iv c0_i32_111 c1_i32_113 k0_t6
  let v189 : BitVec 32 := Scalar.muli c2_i32_143 arg13
  let v907 : Index := Scalar.indexCast v189
  let c0_283 : Index := 0#32
  ![v907.toNat, 0]
def k0_off1531 (k0_t6 : Fin k0_t6_loop.trips) : Fin 2 → Nat :=
  let c2_i32_143 : BitVec 32 := 2#32
  let c0_i32_111 : BitVec 32 := 0#32
  let c1_i32_113 : BitVec 32 := 1#32
  let arg13 : BitVec 32 := Scf.iv c0_i32_111 c1_i32_113 k0_t6
  let v189 : BitVec 32 := Scalar.muli c2_i32_143 arg13
  let v909 : Index := Scalar.indexCast v189
  let c16_284 : Index := 16#32
  ![v909.toNat, 16]
def k0_off1532 (k0_t6 : Fin k0_t6_loop.trips) : Fin 2 → Nat :=
  let c2_i32_143 : BitVec 32 := 2#32
  let c0_i32_111 : BitVec 32 := 0#32
  let c1_i32_113 : BitVec 32 := 1#32
  let arg13 : BitVec 32 := Scf.iv c0_i32_111 c1_i32_113 k0_t6
  let v189 : BitVec 32 := Scalar.muli c2_i32_143 arg13
  let v911 : Index := Scalar.indexCast v189
  let c32_285 : Index := 32#32
  ![v911.toNat, 32]
def k0_off1533 (k0_t6 : Fin k0_t6_loop.trips) : Fin 2 → Nat :=
  let c2_i32_143 : BitVec 32 := 2#32
  let c0_i32_111 : BitVec 32 := 0#32
  let c1_i32_113 : BitVec 32 := 1#32
  let arg13 : BitVec 32 := Scf.iv c0_i32_111 c1_i32_113 k0_t6
  let v189 : BitVec 32 := Scalar.muli c2_i32_143 arg13
  let v913 : Index := Scalar.indexCast v189
  let c48_286 : Index := 48#32
  ![v913.toNat, 48]
def k0_off1534 (k0_t6 : Fin k0_t6_loop.trips) : Fin 2 → Nat :=
  let c2_i32_144 : BitVec 32 := 2#32
  let c0_i32_111 : BitVec 32 := 0#32
  let c1_i32_113 : BitVec 32 := 1#32
  let arg13 : BitVec 32 := Scf.iv c0_i32_111 c1_i32_113 k0_t6
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off1535 (k0_t6 : Fin k0_t6_loop.trips) : Fin 2 → Nat :=
  let c2_i32_144 : BitVec 32 := 2#32
  let c0_i32_111 : BitVec 32 := 0#32
  let c1_i32_113 : BitVec 32 := 1#32
  let arg13 : BitVec 32 := Scf.iv c0_i32_111 c1_i32_113 k0_t6
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off1536 (k0_t6 : Fin k0_t6_loop.trips) : Fin 2 → Nat :=
  let c2_i32_144 : BitVec 32 := 2#32
  let c0_i32_111 : BitVec 32 := 0#32
  let c1_i32_113 : BitVec 32 := 1#32
  let arg13 : BitVec 32 := Scf.iv c0_i32_111 c1_i32_113 k0_t6
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off1537 (v941 : BitVec 32) : Fin 2 → Nat :=
  let v942 : Index := Scalar.indexCast v941
  let c0_297 : Index := 0#32
  ![v942.toNat, 0]

def k0_off1538 (v941 : BitVec 32) : Fin 2 → Nat :=
  let v946 : Index := Scalar.indexCast v941
  let c16_298 : Index := 16#32
  ![v946.toNat, 16]
def k0_off1539 (v941 : BitVec 32) : Fin 2 → Nat :=
  let v950 : Index := Scalar.indexCast v941
  let c32_299 : Index := 32#32
  ![v950.toNat, 32]
def k0_off1540 (v941 : BitVec 32) : Fin 2 → Nat :=
  let v954 : Index := Scalar.indexCast v941
  let c48_300 : Index := 48#32
  ![v954.toNat, 48]

def k0_chk364 (v941 : BitVec 32) : Prop :=
  (∀ a, (k0_off1537 v941) a + S1x16.size a ≤ S704x64.size a) ∧
  (∀ a, (k0_off1538 v941) a + S1x16.size a ≤ S704x64.size a) ∧
  (∀ a, (k0_off1539 v941) a + S1x16.size a ≤ S704x64.size a) ∧
  (∀ a, (k0_off1540 v941) a + S1x16.size a ≤ S704x64.size a)
theorem k0_off1537_inb : ∀ (v941 : BitVec 32) (k0_hw364 : k0_chk364 v941), ∀ a, (k0_off1537 v941) a + S1x16.size a ≤ S704x64.size a := fun v941 k0_hw364 => k0_hw364.1
theorem k0_off1538_inb : ∀ (v941 : BitVec 32) (k0_hw364 : k0_chk364 v941), ∀ a, (k0_off1538 v941) a + S1x16.size a ≤ S704x64.size a := fun v941 k0_hw364 => k0_hw364.2.1
theorem k0_off1539_inb : ∀ (v941 : BitVec 32) (k0_hw364 : k0_chk364 v941), ∀ a, (k0_off1539 v941) a + S1x16.size a ≤ S704x64.size a := fun v941 k0_hw364 => k0_hw364.2.2.1
theorem k0_off1540_inb : ∀ (v941 : BitVec 32) (k0_hw364 : k0_chk364 v941), ∀ a, (k0_off1540 v941) a + S1x16.size a ≤ S704x64.size a := fun v941 k0_hw364 => k0_hw364.2.2.2

def k0_off1541 (v962 : BitVec 32) : Fin 2 → Nat :=
  let v963 : Index := Scalar.indexCast v962
  let c0_301 : Index := 0#32
  ![v963.toNat, 0]

def k0_off1542 (v962 : BitVec 32) : Fin 2 → Nat :=
  let v967 : Index := Scalar.indexCast v962
  let c16_302 : Index := 16#32
  ![v967.toNat, 16]
def k0_off1543 (v962 : BitVec 32) : Fin 2 → Nat :=
  let v971 : Index := Scalar.indexCast v962
  let c32_303 : Index := 32#32
  ![v971.toNat, 32]
def k0_off1544 (v962 : BitVec 32) : Fin 2 → Nat :=
  let v975 : Index := Scalar.indexCast v962
  let c48_304 : Index := 48#32
  ![v975.toNat, 48]

def k0_chk365 (v962 : BitVec 32) : Prop :=
  (∀ a, (k0_off1541 v962) a + S1x16.size a ≤ S704x64.size a) ∧
  (∀ a, (k0_off1542 v962) a + S1x16.size a ≤ S704x64.size a) ∧
  (∀ a, (k0_off1543 v962) a + S1x16.size a ≤ S704x64.size a) ∧
  (∀ a, (k0_off1544 v962) a + S1x16.size a ≤ S704x64.size a)
theorem k0_off1541_inb : ∀ (v962 : BitVec 32) (k0_hw365 : k0_chk365 v962), ∀ a, (k0_off1541 v962) a + S1x16.size a ≤ S704x64.size a := fun v962 k0_hw365 => k0_hw365.1
theorem k0_off1542_inb : ∀ (v962 : BitVec 32) (k0_hw365 : k0_chk365 v962), ∀ a, (k0_off1542 v962) a + S1x16.size a ≤ S704x64.size a := fun v962 k0_hw365 => k0_hw365.2.1
theorem k0_off1543_inb : ∀ (v962 : BitVec 32) (k0_hw365 : k0_chk365 v962), ∀ a, (k0_off1543 v962) a + S1x16.size a ≤ S704x64.size a := fun v962 k0_hw365 => k0_hw365.2.2.1
theorem k0_off1544_inb : ∀ (v962 : BitVec 32) (k0_hw365 : k0_chk365 v962), ∀ a, (k0_off1544 v962) a + S1x16.size a ≤ S704x64.size a := fun v962 k0_hw365 => k0_hw365.2.2.2

def k0_off1545 (v983 : BitVec 32) : Fin 2 → Nat :=
  let v984 : Index := Scalar.indexCast v983
  let c0_305 : Index := 0#32
  ![v984.toNat, 0]

def k0_off1546 (v983 : BitVec 32) : Fin 2 → Nat :=
  let v988 : Index := Scalar.indexCast v983
  let c16_306 : Index := 16#32
  ![v988.toNat, 16]
def k0_off1547 (v983 : BitVec 32) : Fin 2 → Nat :=
  let v992 : Index := Scalar.indexCast v983
  let c32_307 : Index := 32#32
  ![v992.toNat, 32]
def k0_off1548 (v983 : BitVec 32) : Fin 2 → Nat :=
  let v996 : Index := Scalar.indexCast v983
  let c48_308 : Index := 48#32
  ![v996.toNat, 48]

def k0_chk366 (v983 : BitVec 32) : Prop :=
  (∀ a, (k0_off1545 v983) a + S1x16.size a ≤ S704x64.size a) ∧
  (∀ a, (k0_off1546 v983) a + S1x16.size a ≤ S704x64.size a) ∧
  (∀ a, (k0_off1547 v983) a + S1x16.size a ≤ S704x64.size a) ∧
  (∀ a, (k0_off1548 v983) a + S1x16.size a ≤ S704x64.size a)
theorem k0_off1545_inb : ∀ (v983 : BitVec 32) (k0_hw366 : k0_chk366 v983), ∀ a, (k0_off1545 v983) a + S1x16.size a ≤ S704x64.size a := fun v983 k0_hw366 => k0_hw366.1
theorem k0_off1546_inb : ∀ (v983 : BitVec 32) (k0_hw366 : k0_chk366 v983), ∀ a, (k0_off1546 v983) a + S1x16.size a ≤ S704x64.size a := fun v983 k0_hw366 => k0_hw366.2.1
theorem k0_off1547_inb : ∀ (v983 : BitVec 32) (k0_hw366 : k0_chk366 v983), ∀ a, (k0_off1547 v983) a + S1x16.size a ≤ S704x64.size a := fun v983 k0_hw366 => k0_hw366.2.2.1
theorem k0_off1548_inb : ∀ (v983 : BitVec 32) (k0_hw366 : k0_chk366 v983), ∀ a, (k0_off1548 v983) a + S1x16.size a ≤ S704x64.size a := fun v983 k0_hw366 => k0_hw366.2.2.2

def k0_off1549 (v1004 : BitVec 32) : Fin 2 → Nat :=
  let v1005 : Index := Scalar.indexCast v1004
  let c0_309 : Index := 0#32
  ![v1005.toNat, 0]

def k0_off1550 (v1004 : BitVec 32) : Fin 2 → Nat :=
  let v1009 : Index := Scalar.indexCast v1004
  let c16_310 : Index := 16#32
  ![v1009.toNat, 16]
def k0_off1551 (v1004 : BitVec 32) : Fin 2 → Nat :=
  let v1013 : Index := Scalar.indexCast v1004
  let c32_311 : Index := 32#32
  ![v1013.toNat, 32]
def k0_off1552 (v1004 : BitVec 32) : Fin 2 → Nat :=
  let v1017 : Index := Scalar.indexCast v1004
  let c48_312 : Index := 48#32
  ![v1017.toNat, 48]

def k0_chk367 (v1004 : BitVec 32) : Prop :=
  (∀ a, (k0_off1549 v1004) a + S1x16.size a ≤ S704x64.size a) ∧
  (∀ a, (k0_off1550 v1004) a + S1x16.size a ≤ S704x64.size a) ∧
  (∀ a, (k0_off1551 v1004) a + S1x16.size a ≤ S704x64.size a) ∧
  (∀ a, (k0_off1552 v1004) a + S1x16.size a ≤ S704x64.size a)
theorem k0_off1549_inb : ∀ (v1004 : BitVec 32) (k0_hw367 : k0_chk367 v1004), ∀ a, (k0_off1549 v1004) a + S1x16.size a ≤ S704x64.size a := fun v1004 k0_hw367 => k0_hw367.1
theorem k0_off1550_inb : ∀ (v1004 : BitVec 32) (k0_hw367 : k0_chk367 v1004), ∀ a, (k0_off1550 v1004) a + S1x16.size a ≤ S704x64.size a := fun v1004 k0_hw367 => k0_hw367.2.1
theorem k0_off1551_inb : ∀ (v1004 : BitVec 32) (k0_hw367 : k0_chk367 v1004), ∀ a, (k0_off1551 v1004) a + S1x16.size a ≤ S704x64.size a := fun v1004 k0_hw367 => k0_hw367.2.2.1
theorem k0_off1552_inb : ∀ (v1004 : BitVec 32) (k0_hw367 : k0_chk367 v1004), ∀ a, (k0_off1552 v1004) a + S1x16.size a ≤ S704x64.size a := fun v1004 k0_hw367 => k0_hw367.2.2.2

def k0_off1553 (v1025 : BitVec 32) : Fin 2 → Nat :=
  let v1026 : Index := Scalar.indexCast v1025
  let c0_313 : Index := 0#32
  ![v1026.toNat, 0]

def k0_off1554 (v1025 : BitVec 32) : Fin 2 → Nat :=
  let v1030 : Index := Scalar.indexCast v1025
  let c16_314 : Index := 16#32
  ![v1030.toNat, 16]
def k0_off1555 (v1025 : BitVec 32) : Fin 2 → Nat :=
  let v1034 : Index := Scalar.indexCast v1025
  let c32_315 : Index := 32#32
  ![v1034.toNat, 32]
def k0_off1556 (v1025 : BitVec 32) : Fin 2 → Nat :=
  let v1038 : Index := Scalar.indexCast v1025
  let c48_316 : Index := 48#32
  ![v1038.toNat, 48]

def k0_chk368 (v1025 : BitVec 32) : Prop :=
  (∀ a, (k0_off1553 v1025) a + S1x16.size a ≤ S704x64.size a) ∧
  (∀ a, (k0_off1554 v1025) a + S1x16.size a ≤ S704x64.size a) ∧
  (∀ a, (k0_off1555 v1025) a + S1x16.size a ≤ S704x64.size a) ∧
  (∀ a, (k0_off1556 v1025) a + S1x16.size a ≤ S704x64.size a)
theorem k0_off1553_inb : ∀ (v1025 : BitVec 32) (k0_hw368 : k0_chk368 v1025), ∀ a, (k0_off1553 v1025) a + S1x16.size a ≤ S704x64.size a := fun v1025 k0_hw368 => k0_hw368.1
theorem k0_off1554_inb : ∀ (v1025 : BitVec 32) (k0_hw368 : k0_chk368 v1025), ∀ a, (k0_off1554 v1025) a + S1x16.size a ≤ S704x64.size a := fun v1025 k0_hw368 => k0_hw368.2.1
theorem k0_off1555_inb : ∀ (v1025 : BitVec 32) (k0_hw368 : k0_chk368 v1025), ∀ a, (k0_off1555 v1025) a + S1x16.size a ≤ S704x64.size a := fun v1025 k0_hw368 => k0_hw368.2.2.1
theorem k0_off1556_inb : ∀ (v1025 : BitVec 32) (k0_hw368 : k0_chk368 v1025), ∀ a, (k0_off1556 v1025) a + S1x16.size a ≤ S704x64.size a := fun v1025 k0_hw368 => k0_hw368.2.2.2

def k0_off1557 (v1046 : BitVec 32) : Fin 2 → Nat :=
  let v1047 : Index := Scalar.indexCast v1046
  let c0_317 : Index := 0#32
  ![v1047.toNat, 0]

def k0_off1558 (v1046 : BitVec 32) : Fin 2 → Nat :=
  let v1051 : Index := Scalar.indexCast v1046
  let c16_318 : Index := 16#32
  ![v1051.toNat, 16]
def k0_off1559 (v1046 : BitVec 32) : Fin 2 → Nat :=
  let v1055 : Index := Scalar.indexCast v1046
  let c32_319 : Index := 32#32
  ![v1055.toNat, 32]
def k0_off1560 (v1046 : BitVec 32) : Fin 2 → Nat :=
  let v1059 : Index := Scalar.indexCast v1046
  let c48_320 : Index := 48#32
  ![v1059.toNat, 48]

def k0_chk369 (v1046 : BitVec 32) : Prop :=
  (∀ a, (k0_off1557 v1046) a + S1x16.size a ≤ S704x64.size a) ∧
  (∀ a, (k0_off1558 v1046) a + S1x16.size a ≤ S704x64.size a) ∧
  (∀ a, (k0_off1559 v1046) a + S1x16.size a ≤ S704x64.size a) ∧
  (∀ a, (k0_off1560 v1046) a + S1x16.size a ≤ S704x64.size a)
theorem k0_off1557_inb : ∀ (v1046 : BitVec 32) (k0_hw369 : k0_chk369 v1046), ∀ a, (k0_off1557 v1046) a + S1x16.size a ≤ S704x64.size a := fun v1046 k0_hw369 => k0_hw369.1
theorem k0_off1558_inb : ∀ (v1046 : BitVec 32) (k0_hw369 : k0_chk369 v1046), ∀ a, (k0_off1558 v1046) a + S1x16.size a ≤ S704x64.size a := fun v1046 k0_hw369 => k0_hw369.2.1
theorem k0_off1559_inb : ∀ (v1046 : BitVec 32) (k0_hw369 : k0_chk369 v1046), ∀ a, (k0_off1559 v1046) a + S1x16.size a ≤ S704x64.size a := fun v1046 k0_hw369 => k0_hw369.2.2.1
theorem k0_off1560_inb : ∀ (v1046 : BitVec 32) (k0_hw369 : k0_chk369 v1046), ∀ a, (k0_off1560 v1046) a + S1x16.size a ≤ S704x64.size a := fun v1046 k0_hw369 => k0_hw369.2.2.2

def k0_off1561 (v1067 : BitVec 32) : Fin 2 → Nat :=
  let v1068 : Index := Scalar.indexCast v1067
  let c0_321 : Index := 0#32
  ![v1068.toNat, 0]

def k0_off1562 (v1067 : BitVec 32) : Fin 2 → Nat :=
  let v1072 : Index := Scalar.indexCast v1067
  let c16_322 : Index := 16#32
  ![v1072.toNat, 16]
def k0_off1563 (v1067 : BitVec 32) : Fin 2 → Nat :=
  let v1076 : Index := Scalar.indexCast v1067
  let c32_323 : Index := 32#32
  ![v1076.toNat, 32]
def k0_off1564 (v1067 : BitVec 32) : Fin 2 → Nat :=
  let v1080 : Index := Scalar.indexCast v1067
  let c48_324 : Index := 48#32
  ![v1080.toNat, 48]

def k0_chk370 (v1067 : BitVec 32) : Prop :=
  (∀ a, (k0_off1561 v1067) a + S1x16.size a ≤ S704x64.size a) ∧
  (∀ a, (k0_off1562 v1067) a + S1x16.size a ≤ S704x64.size a) ∧
  (∀ a, (k0_off1563 v1067) a + S1x16.size a ≤ S704x64.size a) ∧
  (∀ a, (k0_off1564 v1067) a + S1x16.size a ≤ S704x64.size a)
theorem k0_off1561_inb : ∀ (v1067 : BitVec 32) (k0_hw370 : k0_chk370 v1067), ∀ a, (k0_off1561 v1067) a + S1x16.size a ≤ S704x64.size a := fun v1067 k0_hw370 => k0_hw370.1
theorem k0_off1562_inb : ∀ (v1067 : BitVec 32) (k0_hw370 : k0_chk370 v1067), ∀ a, (k0_off1562 v1067) a + S1x16.size a ≤ S704x64.size a := fun v1067 k0_hw370 => k0_hw370.2.1
theorem k0_off1563_inb : ∀ (v1067 : BitVec 32) (k0_hw370 : k0_chk370 v1067), ∀ a, (k0_off1563 v1067) a + S1x16.size a ≤ S704x64.size a := fun v1067 k0_hw370 => k0_hw370.2.2.1
theorem k0_off1564_inb : ∀ (v1067 : BitVec 32) (k0_hw370 : k0_chk370 v1067), ∀ a, (k0_off1564 v1067) a + S1x16.size a ≤ S704x64.size a := fun v1067 k0_hw370 => k0_hw370.2.2.2

def k0_off1565 (v1088 : BitVec 32) : Fin 2 → Nat :=
  let v1089 : Index := Scalar.indexCast v1088
  let c0_325 : Index := 0#32
  ![v1089.toNat, 0]

def k0_off1566 (v1088 : BitVec 32) : Fin 2 → Nat :=
  let v1093 : Index := Scalar.indexCast v1088
  let c16_326 : Index := 16#32
  ![v1093.toNat, 16]
def k0_off1567 (v1088 : BitVec 32) : Fin 2 → Nat :=
  let v1097 : Index := Scalar.indexCast v1088
  let c32_327 : Index := 32#32
  ![v1097.toNat, 32]
def k0_off1568 (v1088 : BitVec 32) : Fin 2 → Nat :=
  let v1101 : Index := Scalar.indexCast v1088
  let c48_328 : Index := 48#32
  ![v1101.toNat, 48]

def k0_chk371 (v1088 : BitVec 32) : Prop :=
  (∀ a, (k0_off1565 v1088) a + S1x16.size a ≤ S704x64.size a) ∧
  (∀ a, (k0_off1566 v1088) a + S1x16.size a ≤ S704x64.size a) ∧
  (∀ a, (k0_off1567 v1088) a + S1x16.size a ≤ S704x64.size a) ∧
  (∀ a, (k0_off1568 v1088) a + S1x16.size a ≤ S704x64.size a)
theorem k0_off1565_inb : ∀ (v1088 : BitVec 32) (k0_hw371 : k0_chk371 v1088), ∀ a, (k0_off1565 v1088) a + S1x16.size a ≤ S704x64.size a := fun v1088 k0_hw371 => k0_hw371.1
theorem k0_off1566_inb : ∀ (v1088 : BitVec 32) (k0_hw371 : k0_chk371 v1088), ∀ a, (k0_off1566 v1088) a + S1x16.size a ≤ S704x64.size a := fun v1088 k0_hw371 => k0_hw371.2.1
theorem k0_off1567_inb : ∀ (v1088 : BitVec 32) (k0_hw371 : k0_chk371 v1088), ∀ a, (k0_off1567 v1088) a + S1x16.size a ≤ S704x64.size a := fun v1088 k0_hw371 => k0_hw371.2.2.1
theorem k0_off1568_inb : ∀ (v1088 : BitVec 32) (k0_hw371 : k0_chk371 v1088), ∀ a, (k0_off1568 v1088) a + S1x16.size a ≤ S704x64.size a := fun v1088 k0_hw371 => k0_hw371.2.2.2

def k0_off1569 (v1109 : BitVec 32) : Fin 2 → Nat :=
  let v1110 : Index := Scalar.indexCast v1109
  let c0_329 : Index := 0#32
  ![v1110.toNat, 0]

def k0_off1570 (v1109 : BitVec 32) : Fin 2 → Nat :=
  let v1114 : Index := Scalar.indexCast v1109
  let c16_330 : Index := 16#32
  ![v1114.toNat, 16]
def k0_off1571 (v1109 : BitVec 32) : Fin 2 → Nat :=
  let v1118 : Index := Scalar.indexCast v1109
  let c32_331 : Index := 32#32
  ![v1118.toNat, 32]
def k0_off1572 (v1109 : BitVec 32) : Fin 2 → Nat :=
  let v1122 : Index := Scalar.indexCast v1109
  let c48_332 : Index := 48#32
  ![v1122.toNat, 48]

def k0_chk372 (v1109 : BitVec 32) : Prop :=
  (∀ a, (k0_off1569 v1109) a + S1x16.size a ≤ S704x64.size a) ∧
  (∀ a, (k0_off1570 v1109) a + S1x16.size a ≤ S704x64.size a) ∧
  (∀ a, (k0_off1571 v1109) a + S1x16.size a ≤ S704x64.size a) ∧
  (∀ a, (k0_off1572 v1109) a + S1x16.size a ≤ S704x64.size a)
theorem k0_off1569_inb : ∀ (v1109 : BitVec 32) (k0_hw372 : k0_chk372 v1109), ∀ a, (k0_off1569 v1109) a + S1x16.size a ≤ S704x64.size a := fun v1109 k0_hw372 => k0_hw372.1
theorem k0_off1570_inb : ∀ (v1109 : BitVec 32) (k0_hw372 : k0_chk372 v1109), ∀ a, (k0_off1570 v1109) a + S1x16.size a ≤ S704x64.size a := fun v1109 k0_hw372 => k0_hw372.2.1
theorem k0_off1571_inb : ∀ (v1109 : BitVec 32) (k0_hw372 : k0_chk372 v1109), ∀ a, (k0_off1571 v1109) a + S1x16.size a ≤ S704x64.size a := fun v1109 k0_hw372 => k0_hw372.2.2.1
theorem k0_off1572_inb : ∀ (v1109 : BitVec 32) (k0_hw372 : k0_chk372 v1109), ∀ a, (k0_off1572 v1109) a + S1x16.size a ≤ S704x64.size a := fun v1109 k0_hw372 => k0_hw372.2.2.2

def k0_off1573 (v1130 : BitVec 32) : Fin 2 → Nat :=
  let v1131 : Index := Scalar.indexCast v1130
  let c0_333 : Index := 0#32
  ![v1131.toNat, 0]

def k0_off1574 (v1130 : BitVec 32) : Fin 2 → Nat :=
  let v1135 : Index := Scalar.indexCast v1130
  let c16_334 : Index := 16#32
  ![v1135.toNat, 16]
def k0_off1575 (v1130 : BitVec 32) : Fin 2 → Nat :=
  let v1139 : Index := Scalar.indexCast v1130
  let c32_335 : Index := 32#32
  ![v1139.toNat, 32]
def k0_off1576 (v1130 : BitVec 32) : Fin 2 → Nat :=
  let v1143 : Index := Scalar.indexCast v1130
  let c48_336 : Index := 48#32
  ![v1143.toNat, 48]

def k0_chk373 (v1130 : BitVec 32) : Prop :=
  (∀ a, (k0_off1573 v1130) a + S1x16.size a ≤ S704x64.size a) ∧
  (∀ a, (k0_off1574 v1130) a + S1x16.size a ≤ S704x64.size a) ∧
  (∀ a, (k0_off1575 v1130) a + S1x16.size a ≤ S704x64.size a) ∧
  (∀ a, (k0_off1576 v1130) a + S1x16.size a ≤ S704x64.size a)
theorem k0_off1573_inb : ∀ (v1130 : BitVec 32) (k0_hw373 : k0_chk373 v1130), ∀ a, (k0_off1573 v1130) a + S1x16.size a ≤ S704x64.size a := fun v1130 k0_hw373 => k0_hw373.1
theorem k0_off1574_inb : ∀ (v1130 : BitVec 32) (k0_hw373 : k0_chk373 v1130), ∀ a, (k0_off1574 v1130) a + S1x16.size a ≤ S704x64.size a := fun v1130 k0_hw373 => k0_hw373.2.1
theorem k0_off1575_inb : ∀ (v1130 : BitVec 32) (k0_hw373 : k0_chk373 v1130), ∀ a, (k0_off1575 v1130) a + S1x16.size a ≤ S704x64.size a := fun v1130 k0_hw373 => k0_hw373.2.2.1
theorem k0_off1576_inb : ∀ (v1130 : BitVec 32) (k0_hw373 : k0_chk373 v1130), ∀ a, (k0_off1576 v1130) a + S1x16.size a ≤ S704x64.size a := fun v1130 k0_hw373 => k0_hw373.2.2.2

def k0_off1577 (v1151 : BitVec 32) : Fin 2 → Nat :=
  let v1152 : Index := Scalar.indexCast v1151
  let c0_337 : Index := 0#32
  ![v1152.toNat, 0]

def k0_off1578 (v1151 : BitVec 32) : Fin 2 → Nat :=
  let v1156 : Index := Scalar.indexCast v1151
  let c16_338 : Index := 16#32
  ![v1156.toNat, 16]
def k0_off1579 (v1151 : BitVec 32) : Fin 2 → Nat :=
  let v1160 : Index := Scalar.indexCast v1151
  let c32_339 : Index := 32#32
  ![v1160.toNat, 32]
def k0_off1580 (v1151 : BitVec 32) : Fin 2 → Nat :=
  let v1164 : Index := Scalar.indexCast v1151
  let c48_340 : Index := 48#32
  ![v1164.toNat, 48]

def k0_chk374 (v1151 : BitVec 32) : Prop :=
  (∀ a, (k0_off1577 v1151) a + S1x16.size a ≤ S704x64.size a) ∧
  (∀ a, (k0_off1578 v1151) a + S1x16.size a ≤ S704x64.size a) ∧
  (∀ a, (k0_off1579 v1151) a + S1x16.size a ≤ S704x64.size a) ∧
  (∀ a, (k0_off1580 v1151) a + S1x16.size a ≤ S704x64.size a)
theorem k0_off1577_inb : ∀ (v1151 : BitVec 32) (k0_hw374 : k0_chk374 v1151), ∀ a, (k0_off1577 v1151) a + S1x16.size a ≤ S704x64.size a := fun v1151 k0_hw374 => k0_hw374.1
theorem k0_off1578_inb : ∀ (v1151 : BitVec 32) (k0_hw374 : k0_chk374 v1151), ∀ a, (k0_off1578 v1151) a + S1x16.size a ≤ S704x64.size a := fun v1151 k0_hw374 => k0_hw374.2.1
theorem k0_off1579_inb : ∀ (v1151 : BitVec 32) (k0_hw374 : k0_chk374 v1151), ∀ a, (k0_off1579 v1151) a + S1x16.size a ≤ S704x64.size a := fun v1151 k0_hw374 => k0_hw374.2.2.1
theorem k0_off1580_inb : ∀ (v1151 : BitVec 32) (k0_hw374 : k0_chk374 v1151), ∀ a, (k0_off1580 v1151) a + S1x16.size a ≤ S704x64.size a := fun v1151 k0_hw374 => k0_hw374.2.2.2

def k0_off1581 (v1172 : BitVec 32) : Fin 2 → Nat :=
  let v1173 : Index := Scalar.indexCast v1172
  let c0_341 : Index := 0#32
  ![v1173.toNat, 0]

def k0_off1582 (v1172 : BitVec 32) : Fin 2 → Nat :=
  let v1177 : Index := Scalar.indexCast v1172
  let c16_342 : Index := 16#32
  ![v1177.toNat, 16]
def k0_off1583 (v1172 : BitVec 32) : Fin 2 → Nat :=
  let v1181 : Index := Scalar.indexCast v1172
  let c32_343 : Index := 32#32
  ![v1181.toNat, 32]
def k0_off1584 (v1172 : BitVec 32) : Fin 2 → Nat :=
  let v1185 : Index := Scalar.indexCast v1172
  let c48_344 : Index := 48#32
  ![v1185.toNat, 48]

def k0_chk375 (v1172 : BitVec 32) : Prop :=
  (∀ a, (k0_off1581 v1172) a + S1x16.size a ≤ S704x64.size a) ∧
  (∀ a, (k0_off1582 v1172) a + S1x16.size a ≤ S704x64.size a) ∧
  (∀ a, (k0_off1583 v1172) a + S1x16.size a ≤ S704x64.size a) ∧
  (∀ a, (k0_off1584 v1172) a + S1x16.size a ≤ S704x64.size a)
theorem k0_off1581_inb : ∀ (v1172 : BitVec 32) (k0_hw375 : k0_chk375 v1172), ∀ a, (k0_off1581 v1172) a + S1x16.size a ≤ S704x64.size a := fun v1172 k0_hw375 => k0_hw375.1
theorem k0_off1582_inb : ∀ (v1172 : BitVec 32) (k0_hw375 : k0_chk375 v1172), ∀ a, (k0_off1582 v1172) a + S1x16.size a ≤ S704x64.size a := fun v1172 k0_hw375 => k0_hw375.2.1
theorem k0_off1583_inb : ∀ (v1172 : BitVec 32) (k0_hw375 : k0_chk375 v1172), ∀ a, (k0_off1583 v1172) a + S1x16.size a ≤ S704x64.size a := fun v1172 k0_hw375 => k0_hw375.2.2.1
theorem k0_off1584_inb : ∀ (v1172 : BitVec 32) (k0_hw375 : k0_chk375 v1172), ∀ a, (k0_off1584 v1172) a + S1x16.size a ≤ S704x64.size a := fun v1172 k0_hw375 => k0_hw375.2.2.2

def k0_off1585 (v1193 : BitVec 32) : Fin 2 → Nat :=
  let v1194 : Index := Scalar.indexCast v1193
  let c0_345 : Index := 0#32
  ![v1194.toNat, 0]

def k0_off1586 (v1193 : BitVec 32) : Fin 2 → Nat :=
  let v1198 : Index := Scalar.indexCast v1193
  let c16_346 : Index := 16#32
  ![v1198.toNat, 16]
def k0_off1587 (v1193 : BitVec 32) : Fin 2 → Nat :=
  let v1202 : Index := Scalar.indexCast v1193
  let c32_347 : Index := 32#32
  ![v1202.toNat, 32]
def k0_off1588 (v1193 : BitVec 32) : Fin 2 → Nat :=
  let v1206 : Index := Scalar.indexCast v1193
  let c48_348 : Index := 48#32
  ![v1206.toNat, 48]

def k0_chk376 (v1193 : BitVec 32) : Prop :=
  (∀ a, (k0_off1585 v1193) a + S1x16.size a ≤ S704x64.size a) ∧
  (∀ a, (k0_off1586 v1193) a + S1x16.size a ≤ S704x64.size a) ∧
  (∀ a, (k0_off1587 v1193) a + S1x16.size a ≤ S704x64.size a) ∧
  (∀ a, (k0_off1588 v1193) a + S1x16.size a ≤ S704x64.size a)
theorem k0_off1585_inb : ∀ (v1193 : BitVec 32) (k0_hw376 : k0_chk376 v1193), ∀ a, (k0_off1585 v1193) a + S1x16.size a ≤ S704x64.size a := fun v1193 k0_hw376 => k0_hw376.1
theorem k0_off1586_inb : ∀ (v1193 : BitVec 32) (k0_hw376 : k0_chk376 v1193), ∀ a, (k0_off1586 v1193) a + S1x16.size a ≤ S704x64.size a := fun v1193 k0_hw376 => k0_hw376.2.1
theorem k0_off1587_inb : ∀ (v1193 : BitVec 32) (k0_hw376 : k0_chk376 v1193), ∀ a, (k0_off1587 v1193) a + S1x16.size a ≤ S704x64.size a := fun v1193 k0_hw376 => k0_hw376.2.2.1
theorem k0_off1588_inb : ∀ (v1193 : BitVec 32) (k0_hw376 : k0_chk376 v1193), ∀ a, (k0_off1588 v1193) a + S1x16.size a ≤ S704x64.size a := fun v1193 k0_hw376 => k0_hw376.2.2.2

def k0_off1589 (v1214 : BitVec 32) : Fin 2 → Nat :=
  let v1215 : Index := Scalar.indexCast v1214
  let c0_349 : Index := 0#32
  ![v1215.toNat, 0]

def k0_off1590 (v1214 : BitVec 32) : Fin 2 → Nat :=
  let v1219 : Index := Scalar.indexCast v1214
  let c16_350 : Index := 16#32
  ![v1219.toNat, 16]
def k0_off1591 (v1214 : BitVec 32) : Fin 2 → Nat :=
  let v1223 : Index := Scalar.indexCast v1214
  let c32_351 : Index := 32#32
  ![v1223.toNat, 32]
def k0_off1592 (v1214 : BitVec 32) : Fin 2 → Nat :=
  let v1227 : Index := Scalar.indexCast v1214
  let c48_352 : Index := 48#32
  ![v1227.toNat, 48]

def k0_chk377 (v1214 : BitVec 32) : Prop :=
  (∀ a, (k0_off1589 v1214) a + S1x16.size a ≤ S704x64.size a) ∧
  (∀ a, (k0_off1590 v1214) a + S1x16.size a ≤ S704x64.size a) ∧
  (∀ a, (k0_off1591 v1214) a + S1x16.size a ≤ S704x64.size a) ∧
  (∀ a, (k0_off1592 v1214) a + S1x16.size a ≤ S704x64.size a)
theorem k0_off1589_inb : ∀ (v1214 : BitVec 32) (k0_hw377 : k0_chk377 v1214), ∀ a, (k0_off1589 v1214) a + S1x16.size a ≤ S704x64.size a := fun v1214 k0_hw377 => k0_hw377.1
theorem k0_off1590_inb : ∀ (v1214 : BitVec 32) (k0_hw377 : k0_chk377 v1214), ∀ a, (k0_off1590 v1214) a + S1x16.size a ≤ S704x64.size a := fun v1214 k0_hw377 => k0_hw377.2.1
theorem k0_off1591_inb : ∀ (v1214 : BitVec 32) (k0_hw377 : k0_chk377 v1214), ∀ a, (k0_off1591 v1214) a + S1x16.size a ≤ S704x64.size a := fun v1214 k0_hw377 => k0_hw377.2.2.1
theorem k0_off1592_inb : ∀ (v1214 : BitVec 32) (k0_hw377 : k0_chk377 v1214), ∀ a, (k0_off1592 v1214) a + S1x16.size a ≤ S704x64.size a := fun v1214 k0_hw377 => k0_hw377.2.2.2

def k0_off1593 (v1235 : BitVec 32) : Fin 2 → Nat :=
  let v1236 : Index := Scalar.indexCast v1235
  let c0_353 : Index := 0#32
  ![v1236.toNat, 0]

def k0_off1594 (v1235 : BitVec 32) : Fin 2 → Nat :=
  let v1240 : Index := Scalar.indexCast v1235
  let c16_354 : Index := 16#32
  ![v1240.toNat, 16]
def k0_off1595 (v1235 : BitVec 32) : Fin 2 → Nat :=
  let v1244 : Index := Scalar.indexCast v1235
  let c32_355 : Index := 32#32
  ![v1244.toNat, 32]
def k0_off1596 (v1235 : BitVec 32) : Fin 2 → Nat :=
  let v1248 : Index := Scalar.indexCast v1235
  let c48_356 : Index := 48#32
  ![v1248.toNat, 48]

def k0_chk378 (v1235 : BitVec 32) : Prop :=
  (∀ a, (k0_off1593 v1235) a + S1x16.size a ≤ S704x64.size a) ∧
  (∀ a, (k0_off1594 v1235) a + S1x16.size a ≤ S704x64.size a) ∧
  (∀ a, (k0_off1595 v1235) a + S1x16.size a ≤ S704x64.size a) ∧
  (∀ a, (k0_off1596 v1235) a + S1x16.size a ≤ S704x64.size a)
theorem k0_off1593_inb : ∀ (v1235 : BitVec 32) (k0_hw378 : k0_chk378 v1235), ∀ a, (k0_off1593 v1235) a + S1x16.size a ≤ S704x64.size a := fun v1235 k0_hw378 => k0_hw378.1
theorem k0_off1594_inb : ∀ (v1235 : BitVec 32) (k0_hw378 : k0_chk378 v1235), ∀ a, (k0_off1594 v1235) a + S1x16.size a ≤ S704x64.size a := fun v1235 k0_hw378 => k0_hw378.2.1
theorem k0_off1595_inb : ∀ (v1235 : BitVec 32) (k0_hw378 : k0_chk378 v1235), ∀ a, (k0_off1595 v1235) a + S1x16.size a ≤ S704x64.size a := fun v1235 k0_hw378 => k0_hw378.2.2.1
theorem k0_off1596_inb : ∀ (v1235 : BitVec 32) (k0_hw378 : k0_chk378 v1235), ∀ a, (k0_off1596 v1235) a + S1x16.size a ≤ S704x64.size a := fun v1235 k0_hw378 => k0_hw378.2.2.2

def k0_off1597 (v1256 : BitVec 32) : Fin 2 → Nat :=
  let v1257 : Index := Scalar.indexCast v1256
  let c0_357 : Index := 0#32
  ![v1257.toNat, 0]

def k0_off1598 (v1256 : BitVec 32) : Fin 2 → Nat :=
  let v1261 : Index := Scalar.indexCast v1256
  let c16_358 : Index := 16#32
  ![v1261.toNat, 16]
def k0_off1599 (v1256 : BitVec 32) : Fin 2 → Nat :=
  let v1265 : Index := Scalar.indexCast v1256
  let c32_359 : Index := 32#32
  ![v1265.toNat, 32]
def k0_off1600 (v1256 : BitVec 32) : Fin 2 → Nat :=
  let v1269 : Index := Scalar.indexCast v1256
  let c48_360 : Index := 48#32
  ![v1269.toNat, 48]

def k0_chk379 (v1256 : BitVec 32) : Prop :=
  (∀ a, (k0_off1597 v1256) a + S1x16.size a ≤ S704x64.size a) ∧
  (∀ a, (k0_off1598 v1256) a + S1x16.size a ≤ S704x64.size a) ∧
  (∀ a, (k0_off1599 v1256) a + S1x16.size a ≤ S704x64.size a) ∧
  (∀ a, (k0_off1600 v1256) a + S1x16.size a ≤ S704x64.size a)
theorem k0_off1597_inb : ∀ (v1256 : BitVec 32) (k0_hw379 : k0_chk379 v1256), ∀ a, (k0_off1597 v1256) a + S1x16.size a ≤ S704x64.size a := fun v1256 k0_hw379 => k0_hw379.1
theorem k0_off1598_inb : ∀ (v1256 : BitVec 32) (k0_hw379 : k0_chk379 v1256), ∀ a, (k0_off1598 v1256) a + S1x16.size a ≤ S704x64.size a := fun v1256 k0_hw379 => k0_hw379.2.1
theorem k0_off1599_inb : ∀ (v1256 : BitVec 32) (k0_hw379 : k0_chk379 v1256), ∀ a, (k0_off1599 v1256) a + S1x16.size a ≤ S704x64.size a := fun v1256 k0_hw379 => k0_hw379.2.2.1
theorem k0_off1600_inb : ∀ (v1256 : BitVec 32) (k0_hw379 : k0_chk379 v1256), ∀ a, (k0_off1600 v1256) a + S1x16.size a ≤ S704x64.size a := fun v1256 k0_hw379 => k0_hw379.2.2.2

def k0_off1601 (v1277 : BitVec 32) : Fin 2 → Nat :=
  let v1278 : Index := Scalar.indexCast v1277
  let c0_361 : Index := 0#32
  ![v1278.toNat, 0]

def k0_off1602 (v1277 : BitVec 32) : Fin 2 → Nat :=
  let v1282 : Index := Scalar.indexCast v1277
  let c16_362 : Index := 16#32
  ![v1282.toNat, 16]
def k0_off1603 (v1277 : BitVec 32) : Fin 2 → Nat :=
  let v1286 : Index := Scalar.indexCast v1277
  let c32_363 : Index := 32#32
  ![v1286.toNat, 32]
def k0_off1604 (v1277 : BitVec 32) : Fin 2 → Nat :=
  let v1290 : Index := Scalar.indexCast v1277
  let c48_364 : Index := 48#32
  ![v1290.toNat, 48]

def k0_chk380 (v1277 : BitVec 32) : Prop :=
  (∀ a, (k0_off1601 v1277) a + S1x16.size a ≤ S704x64.size a) ∧
  (∀ a, (k0_off1602 v1277) a + S1x16.size a ≤ S704x64.size a) ∧
  (∀ a, (k0_off1603 v1277) a + S1x16.size a ≤ S704x64.size a) ∧
  (∀ a, (k0_off1604 v1277) a + S1x16.size a ≤ S704x64.size a)
theorem k0_off1601_inb : ∀ (v1277 : BitVec 32) (k0_hw380 : k0_chk380 v1277), ∀ a, (k0_off1601 v1277) a + S1x16.size a ≤ S704x64.size a := fun v1277 k0_hw380 => k0_hw380.1
theorem k0_off1602_inb : ∀ (v1277 : BitVec 32) (k0_hw380 : k0_chk380 v1277), ∀ a, (k0_off1602 v1277) a + S1x16.size a ≤ S704x64.size a := fun v1277 k0_hw380 => k0_hw380.2.1
theorem k0_off1603_inb : ∀ (v1277 : BitVec 32) (k0_hw380 : k0_chk380 v1277), ∀ a, (k0_off1603 v1277) a + S1x16.size a ≤ S704x64.size a := fun v1277 k0_hw380 => k0_hw380.2.2.1
theorem k0_off1604_inb : ∀ (v1277 : BitVec 32) (k0_hw380 : k0_chk380 v1277), ∀ a, (k0_off1604 v1277) a + S1x16.size a ≤ S704x64.size a := fun v1277 k0_hw380 => k0_hw380.2.2.2

def k0_off1605 (v1298 : BitVec 32) : Fin 2 → Nat :=
  let v1299 : Index := Scalar.indexCast v1298
  let c0_365 : Index := 0#32
  ![v1299.toNat, 0]

def k0_off1606 (v1298 : BitVec 32) : Fin 2 → Nat :=
  let v1303 : Index := Scalar.indexCast v1298
  let c16_366 : Index := 16#32
  ![v1303.toNat, 16]
def k0_off1607 (v1298 : BitVec 32) : Fin 2 → Nat :=
  let v1307 : Index := Scalar.indexCast v1298
  let c32_367 : Index := 32#32
  ![v1307.toNat, 32]
def k0_off1608 (v1298 : BitVec 32) : Fin 2 → Nat :=
  let v1311 : Index := Scalar.indexCast v1298
  let c48_368 : Index := 48#32
  ![v1311.toNat, 48]

def k0_chk381 (v1298 : BitVec 32) : Prop :=
  (∀ a, (k0_off1605 v1298) a + S1x16.size a ≤ S704x64.size a) ∧
  (∀ a, (k0_off1606 v1298) a + S1x16.size a ≤ S704x64.size a) ∧
  (∀ a, (k0_off1607 v1298) a + S1x16.size a ≤ S704x64.size a) ∧
  (∀ a, (k0_off1608 v1298) a + S1x16.size a ≤ S704x64.size a)
theorem k0_off1605_inb : ∀ (v1298 : BitVec 32) (k0_hw381 : k0_chk381 v1298), ∀ a, (k0_off1605 v1298) a + S1x16.size a ≤ S704x64.size a := fun v1298 k0_hw381 => k0_hw381.1
theorem k0_off1606_inb : ∀ (v1298 : BitVec 32) (k0_hw381 : k0_chk381 v1298), ∀ a, (k0_off1606 v1298) a + S1x16.size a ≤ S704x64.size a := fun v1298 k0_hw381 => k0_hw381.2.1
theorem k0_off1607_inb : ∀ (v1298 : BitVec 32) (k0_hw381 : k0_chk381 v1298), ∀ a, (k0_off1607 v1298) a + S1x16.size a ≤ S704x64.size a := fun v1298 k0_hw381 => k0_hw381.2.2.1
theorem k0_off1608_inb : ∀ (v1298 : BitVec 32) (k0_hw381 : k0_chk381 v1298), ∀ a, (k0_off1608 v1298) a + S1x16.size a ≤ S704x64.size a := fun v1298 k0_hw381 => k0_hw381.2.2.2

def k0_off1609 (v1319 : BitVec 32) : Fin 2 → Nat :=
  let v1320 : Index := Scalar.indexCast v1319
  let c0_369 : Index := 0#32
  ![v1320.toNat, 0]

def k0_off1610 (v1319 : BitVec 32) : Fin 2 → Nat :=
  let v1324 : Index := Scalar.indexCast v1319
  let c16_370 : Index := 16#32
  ![v1324.toNat, 16]
def k0_off1611 (v1319 : BitVec 32) : Fin 2 → Nat :=
  let v1328 : Index := Scalar.indexCast v1319
  let c32_371 : Index := 32#32
  ![v1328.toNat, 32]
def k0_off1612 (v1319 : BitVec 32) : Fin 2 → Nat :=
  let v1332 : Index := Scalar.indexCast v1319
  let c48_372 : Index := 48#32
  ![v1332.toNat, 48]

def k0_chk382 (v1319 : BitVec 32) : Prop :=
  (∀ a, (k0_off1609 v1319) a + S1x16.size a ≤ S704x64.size a) ∧
  (∀ a, (k0_off1610 v1319) a + S1x16.size a ≤ S704x64.size a) ∧
  (∀ a, (k0_off1611 v1319) a + S1x16.size a ≤ S704x64.size a) ∧
  (∀ a, (k0_off1612 v1319) a + S1x16.size a ≤ S704x64.size a)
theorem k0_off1609_inb : ∀ (v1319 : BitVec 32) (k0_hw382 : k0_chk382 v1319), ∀ a, (k0_off1609 v1319) a + S1x16.size a ≤ S704x64.size a := fun v1319 k0_hw382 => k0_hw382.1
theorem k0_off1610_inb : ∀ (v1319 : BitVec 32) (k0_hw382 : k0_chk382 v1319), ∀ a, (k0_off1610 v1319) a + S1x16.size a ≤ S704x64.size a := fun v1319 k0_hw382 => k0_hw382.2.1
theorem k0_off1611_inb : ∀ (v1319 : BitVec 32) (k0_hw382 : k0_chk382 v1319), ∀ a, (k0_off1611 v1319) a + S1x16.size a ≤ S704x64.size a := fun v1319 k0_hw382 => k0_hw382.2.2.1
theorem k0_off1612_inb : ∀ (v1319 : BitVec 32) (k0_hw382 : k0_chk382 v1319), ∀ a, (k0_off1612 v1319) a + S1x16.size a ≤ S704x64.size a := fun v1319 k0_hw382 => k0_hw382.2.2.2

def k0_off1613 (v1340 : BitVec 32) : Fin 2 → Nat :=
  let v1341 : Index := Scalar.indexCast v1340
  let c0_373 : Index := 0#32
  ![v1341.toNat, 0]

def k0_off1614 (v1340 : BitVec 32) : Fin 2 → Nat :=
  let v1345 : Index := Scalar.indexCast v1340
  let c16_374 : Index := 16#32
  ![v1345.toNat, 16]
def k0_off1615 (v1340 : BitVec 32) : Fin 2 → Nat :=
  let v1349 : Index := Scalar.indexCast v1340
  let c32_375 : Index := 32#32
  ![v1349.toNat, 32]
def k0_off1616 (v1340 : BitVec 32) : Fin 2 → Nat :=
  let v1353 : Index := Scalar.indexCast v1340
  let c48_376 : Index := 48#32
  ![v1353.toNat, 48]

def k0_chk383 (v1340 : BitVec 32) : Prop :=
  (∀ a, (k0_off1613 v1340) a + S1x16.size a ≤ S704x64.size a) ∧
  (∀ a, (k0_off1614 v1340) a + S1x16.size a ≤ S704x64.size a) ∧
  (∀ a, (k0_off1615 v1340) a + S1x16.size a ≤ S704x64.size a) ∧
  (∀ a, (k0_off1616 v1340) a + S1x16.size a ≤ S704x64.size a)
theorem k0_off1613_inb : ∀ (v1340 : BitVec 32) (k0_hw383 : k0_chk383 v1340), ∀ a, (k0_off1613 v1340) a + S1x16.size a ≤ S704x64.size a := fun v1340 k0_hw383 => k0_hw383.1
theorem k0_off1614_inb : ∀ (v1340 : BitVec 32) (k0_hw383 : k0_chk383 v1340), ∀ a, (k0_off1614 v1340) a + S1x16.size a ≤ S704x64.size a := fun v1340 k0_hw383 => k0_hw383.2.1
theorem k0_off1615_inb : ∀ (v1340 : BitVec 32) (k0_hw383 : k0_chk383 v1340), ∀ a, (k0_off1615 v1340) a + S1x16.size a ≤ S704x64.size a := fun v1340 k0_hw383 => k0_hw383.2.2.1
theorem k0_off1616_inb : ∀ (v1340 : BitVec 32) (k0_hw383 : k0_chk383 v1340), ∀ a, (k0_off1616 v1340) a + S1x16.size a ≤ S704x64.size a := fun v1340 k0_hw383 => k0_hw383.2.2.2

def k0_off1617 (v1361 : BitVec 32) : Fin 2 → Nat :=
  let v1362 : Index := Scalar.indexCast v1361
  let c0_377 : Index := 0#32
  ![v1362.toNat, 0]

def k0_off1618 (v1361 : BitVec 32) : Fin 2 → Nat :=
  let v1366 : Index := Scalar.indexCast v1361
  let c16_378 : Index := 16#32
  ![v1366.toNat, 16]
def k0_off1619 (v1361 : BitVec 32) : Fin 2 → Nat :=
  let v1370 : Index := Scalar.indexCast v1361
  let c32_379 : Index := 32#32
  ![v1370.toNat, 32]
def k0_off1620 (v1361 : BitVec 32) : Fin 2 → Nat :=
  let v1374 : Index := Scalar.indexCast v1361
  let c48_380 : Index := 48#32
  ![v1374.toNat, 48]

def k0_chk384 (v1361 : BitVec 32) : Prop :=
  (∀ a, (k0_off1617 v1361) a + S1x16.size a ≤ S704x64.size a) ∧
  (∀ a, (k0_off1618 v1361) a + S1x16.size a ≤ S704x64.size a) ∧
  (∀ a, (k0_off1619 v1361) a + S1x16.size a ≤ S704x64.size a) ∧
  (∀ a, (k0_off1620 v1361) a + S1x16.size a ≤ S704x64.size a)
theorem k0_off1617_inb : ∀ (v1361 : BitVec 32) (k0_hw384 : k0_chk384 v1361), ∀ a, (k0_off1617 v1361) a + S1x16.size a ≤ S704x64.size a := fun v1361 k0_hw384 => k0_hw384.1
theorem k0_off1618_inb : ∀ (v1361 : BitVec 32) (k0_hw384 : k0_chk384 v1361), ∀ a, (k0_off1618 v1361) a + S1x16.size a ≤ S704x64.size a := fun v1361 k0_hw384 => k0_hw384.2.1
theorem k0_off1619_inb : ∀ (v1361 : BitVec 32) (k0_hw384 : k0_chk384 v1361), ∀ a, (k0_off1619 v1361) a + S1x16.size a ≤ S704x64.size a := fun v1361 k0_hw384 => k0_hw384.2.2.1
theorem k0_off1620_inb : ∀ (v1361 : BitVec 32) (k0_hw384 : k0_chk384 v1361), ∀ a, (k0_off1620 v1361) a + S1x16.size a ≤ S704x64.size a := fun v1361 k0_hw384 => k0_hw384.2.2.2

def k0_off1621 (v1382 : BitVec 32) : Fin 2 → Nat :=
  let v1383 : Index := Scalar.indexCast v1382
  let c0_381 : Index := 0#32
  ![v1383.toNat, 0]

def k0_off1622 (v1382 : BitVec 32) : Fin 2 → Nat :=
  let v1387 : Index := Scalar.indexCast v1382
  let c16_382 : Index := 16#32
  ![v1387.toNat, 16]
def k0_off1623 (v1382 : BitVec 32) : Fin 2 → Nat :=
  let v1391 : Index := Scalar.indexCast v1382
  let c32_383 : Index := 32#32
  ![v1391.toNat, 32]
def k0_off1624 (v1382 : BitVec 32) : Fin 2 → Nat :=
  let v1395 : Index := Scalar.indexCast v1382
  let c48_384 : Index := 48#32
  ![v1395.toNat, 48]

def k0_chk385 (v1382 : BitVec 32) : Prop :=
  (∀ a, (k0_off1621 v1382) a + S1x16.size a ≤ S704x64.size a) ∧
  (∀ a, (k0_off1622 v1382) a + S1x16.size a ≤ S704x64.size a) ∧
  (∀ a, (k0_off1623 v1382) a + S1x16.size a ≤ S704x64.size a) ∧
  (∀ a, (k0_off1624 v1382) a + S1x16.size a ≤ S704x64.size a)
theorem k0_off1621_inb : ∀ (v1382 : BitVec 32) (k0_hw385 : k0_chk385 v1382), ∀ a, (k0_off1621 v1382) a + S1x16.size a ≤ S704x64.size a := fun v1382 k0_hw385 => k0_hw385.1
theorem k0_off1622_inb : ∀ (v1382 : BitVec 32) (k0_hw385 : k0_chk385 v1382), ∀ a, (k0_off1622 v1382) a + S1x16.size a ≤ S704x64.size a := fun v1382 k0_hw385 => k0_hw385.2.1
theorem k0_off1623_inb : ∀ (v1382 : BitVec 32) (k0_hw385 : k0_chk385 v1382), ∀ a, (k0_off1623 v1382) a + S1x16.size a ≤ S704x64.size a := fun v1382 k0_hw385 => k0_hw385.2.2.1
theorem k0_off1624_inb : ∀ (v1382 : BitVec 32) (k0_hw385 : k0_chk385 v1382), ∀ a, (k0_off1624 v1382) a + S1x16.size a ≤ S704x64.size a := fun v1382 k0_hw385 => k0_hw385.2.2.2

def k0_off1625 (v1403 : BitVec 32) : Fin 2 → Nat :=
  let v1404 : Index := Scalar.indexCast v1403
  let c0_385 : Index := 0#32
  ![v1404.toNat, 0]

def k0_off1626 (v1403 : BitVec 32) : Fin 2 → Nat :=
  let v1408 : Index := Scalar.indexCast v1403
  let c16_386 : Index := 16#32
  ![v1408.toNat, 16]
def k0_off1627 (v1403 : BitVec 32) : Fin 2 → Nat :=
  let v1412 : Index := Scalar.indexCast v1403
  let c32_387 : Index := 32#32
  ![v1412.toNat, 32]
def k0_off1628 (v1403 : BitVec 32) : Fin 2 → Nat :=
  let v1416 : Index := Scalar.indexCast v1403
  let c48_388 : Index := 48#32
  ![v1416.toNat, 48]

def k0_chk386 (v1403 : BitVec 32) : Prop :=
  (∀ a, (k0_off1625 v1403) a + S1x16.size a ≤ S704x64.size a) ∧
  (∀ a, (k0_off1626 v1403) a + S1x16.size a ≤ S704x64.size a) ∧
  (∀ a, (k0_off1627 v1403) a + S1x16.size a ≤ S704x64.size a) ∧
  (∀ a, (k0_off1628 v1403) a + S1x16.size a ≤ S704x64.size a)
theorem k0_off1625_inb : ∀ (v1403 : BitVec 32) (k0_hw386 : k0_chk386 v1403), ∀ a, (k0_off1625 v1403) a + S1x16.size a ≤ S704x64.size a := fun v1403 k0_hw386 => k0_hw386.1
theorem k0_off1626_inb : ∀ (v1403 : BitVec 32) (k0_hw386 : k0_chk386 v1403), ∀ a, (k0_off1626 v1403) a + S1x16.size a ≤ S704x64.size a := fun v1403 k0_hw386 => k0_hw386.2.1
theorem k0_off1627_inb : ∀ (v1403 : BitVec 32) (k0_hw386 : k0_chk386 v1403), ∀ a, (k0_off1627 v1403) a + S1x16.size a ≤ S704x64.size a := fun v1403 k0_hw386 => k0_hw386.2.2.1
theorem k0_off1628_inb : ∀ (v1403 : BitVec 32) (k0_hw386 : k0_chk386 v1403), ∀ a, (k0_off1628 v1403) a + S1x16.size a ≤ S704x64.size a := fun v1403 k0_hw386 => k0_hw386.2.2.2

def k0_off1629 (v1424 : BitVec 32) : Fin 2 → Nat :=
  let v1425 : Index := Scalar.indexCast v1424
  let c0_389 : Index := 0#32
  ![v1425.toNat, 0]

def k0_off1630 (v1424 : BitVec 32) : Fin 2 → Nat :=
  let v1429 : Index := Scalar.indexCast v1424
  let c16_390 : Index := 16#32
  ![v1429.toNat, 16]
def k0_off1631 (v1424 : BitVec 32) : Fin 2 → Nat :=
  let v1433 : Index := Scalar.indexCast v1424
  let c32_391 : Index := 32#32
  ![v1433.toNat, 32]
def k0_off1632 (v1424 : BitVec 32) : Fin 2 → Nat :=
  let v1437 : Index := Scalar.indexCast v1424
  let c48_392 : Index := 48#32
  ![v1437.toNat, 48]

def k0_chk387 (v1424 : BitVec 32) : Prop :=
  (∀ a, (k0_off1629 v1424) a + S1x16.size a ≤ S704x64.size a) ∧
  (∀ a, (k0_off1630 v1424) a + S1x16.size a ≤ S704x64.size a) ∧
  (∀ a, (k0_off1631 v1424) a + S1x16.size a ≤ S704x64.size a) ∧
  (∀ a, (k0_off1632 v1424) a + S1x16.size a ≤ S704x64.size a)
theorem k0_off1629_inb : ∀ (v1424 : BitVec 32) (k0_hw387 : k0_chk387 v1424), ∀ a, (k0_off1629 v1424) a + S1x16.size a ≤ S704x64.size a := fun v1424 k0_hw387 => k0_hw387.1
theorem k0_off1630_inb : ∀ (v1424 : BitVec 32) (k0_hw387 : k0_chk387 v1424), ∀ a, (k0_off1630 v1424) a + S1x16.size a ≤ S704x64.size a := fun v1424 k0_hw387 => k0_hw387.2.1
theorem k0_off1631_inb : ∀ (v1424 : BitVec 32) (k0_hw387 : k0_chk387 v1424), ∀ a, (k0_off1631 v1424) a + S1x16.size a ≤ S704x64.size a := fun v1424 k0_hw387 => k0_hw387.2.2.1
theorem k0_off1632_inb : ∀ (v1424 : BitVec 32) (k0_hw387 : k0_chk387 v1424), ∀ a, (k0_off1632 v1424) a + S1x16.size a ≤ S704x64.size a := fun v1424 k0_hw387 => k0_hw387.2.2.2

def k0_off1633 (v1445 : BitVec 32) : Fin 2 → Nat :=
  let v1446 : Index := Scalar.indexCast v1445
  let c0_393 : Index := 0#32
  ![v1446.toNat, 0]

def k0_off1634 (v1445 : BitVec 32) : Fin 2 → Nat :=
  let v1450 : Index := Scalar.indexCast v1445
  let c16_394 : Index := 16#32
  ![v1450.toNat, 16]
def k0_off1635 (v1445 : BitVec 32) : Fin 2 → Nat :=
  let v1454 : Index := Scalar.indexCast v1445
  let c32_395 : Index := 32#32
  ![v1454.toNat, 32]
def k0_off1636 (v1445 : BitVec 32) : Fin 2 → Nat :=
  let v1458 : Index := Scalar.indexCast v1445
  let c48_396 : Index := 48#32
  ![v1458.toNat, 48]

def k0_chk388 (v1445 : BitVec 32) : Prop :=
  (∀ a, (k0_off1633 v1445) a + S1x16.size a ≤ S704x64.size a) ∧
  (∀ a, (k0_off1634 v1445) a + S1x16.size a ≤ S704x64.size a) ∧
  (∀ a, (k0_off1635 v1445) a + S1x16.size a ≤ S704x64.size a) ∧
  (∀ a, (k0_off1636 v1445) a + S1x16.size a ≤ S704x64.size a)
theorem k0_off1633_inb : ∀ (v1445 : BitVec 32) (k0_hw388 : k0_chk388 v1445), ∀ a, (k0_off1633 v1445) a + S1x16.size a ≤ S704x64.size a := fun v1445 k0_hw388 => k0_hw388.1
theorem k0_off1634_inb : ∀ (v1445 : BitVec 32) (k0_hw388 : k0_chk388 v1445), ∀ a, (k0_off1634 v1445) a + S1x16.size a ≤ S704x64.size a := fun v1445 k0_hw388 => k0_hw388.2.1
theorem k0_off1635_inb : ∀ (v1445 : BitVec 32) (k0_hw388 : k0_chk388 v1445), ∀ a, (k0_off1635 v1445) a + S1x16.size a ≤ S704x64.size a := fun v1445 k0_hw388 => k0_hw388.2.2.1
theorem k0_off1636_inb : ∀ (v1445 : BitVec 32) (k0_hw388 : k0_chk388 v1445), ∀ a, (k0_off1636 v1445) a + S1x16.size a ≤ S704x64.size a := fun v1445 k0_hw388 => k0_hw388.2.2.2

def k0_off1637 (v1466 : BitVec 32) : Fin 2 → Nat :=
  let v1467 : Index := Scalar.indexCast v1466
  let c0_397 : Index := 0#32
  ![v1467.toNat, 0]

def k0_off1638 (v1466 : BitVec 32) : Fin 2 → Nat :=
  let v1471 : Index := Scalar.indexCast v1466
  let c16_398 : Index := 16#32
  ![v1471.toNat, 16]
def k0_off1639 (v1466 : BitVec 32) : Fin 2 → Nat :=
  let v1475 : Index := Scalar.indexCast v1466
  let c32_399 : Index := 32#32
  ![v1475.toNat, 32]
def k0_off1640 (v1466 : BitVec 32) : Fin 2 → Nat :=
  let v1479 : Index := Scalar.indexCast v1466
  let c48_400 : Index := 48#32
  ![v1479.toNat, 48]

def k0_chk389 (v1466 : BitVec 32) : Prop :=
  (∀ a, (k0_off1637 v1466) a + S1x16.size a ≤ S704x64.size a) ∧
  (∀ a, (k0_off1638 v1466) a + S1x16.size a ≤ S704x64.size a) ∧
  (∀ a, (k0_off1639 v1466) a + S1x16.size a ≤ S704x64.size a) ∧
  (∀ a, (k0_off1640 v1466) a + S1x16.size a ≤ S704x64.size a)
theorem k0_off1637_inb : ∀ (v1466 : BitVec 32) (k0_hw389 : k0_chk389 v1466), ∀ a, (k0_off1637 v1466) a + S1x16.size a ≤ S704x64.size a := fun v1466 k0_hw389 => k0_hw389.1
theorem k0_off1638_inb : ∀ (v1466 : BitVec 32) (k0_hw389 : k0_chk389 v1466), ∀ a, (k0_off1638 v1466) a + S1x16.size a ≤ S704x64.size a := fun v1466 k0_hw389 => k0_hw389.2.1
theorem k0_off1639_inb : ∀ (v1466 : BitVec 32) (k0_hw389 : k0_chk389 v1466), ∀ a, (k0_off1639 v1466) a + S1x16.size a ≤ S704x64.size a := fun v1466 k0_hw389 => k0_hw389.2.2.1
theorem k0_off1640_inb : ∀ (v1466 : BitVec 32) (k0_hw389 : k0_chk389 v1466), ∀ a, (k0_off1640 v1466) a + S1x16.size a ≤ S704x64.size a := fun v1466 k0_hw389 => k0_hw389.2.2.2

def k0_off1641 (v1487 : BitVec 32) : Fin 2 → Nat :=
  let v1488 : Index := Scalar.indexCast v1487
  let c0_401 : Index := 0#32
  ![v1488.toNat, 0]

def k0_off1642 (v1487 : BitVec 32) : Fin 2 → Nat :=
  let v1492 : Index := Scalar.indexCast v1487
  let c16_402 : Index := 16#32
  ![v1492.toNat, 16]
def k0_off1643 (v1487 : BitVec 32) : Fin 2 → Nat :=
  let v1496 : Index := Scalar.indexCast v1487
  let c32_403 : Index := 32#32
  ![v1496.toNat, 32]
def k0_off1644 (v1487 : BitVec 32) : Fin 2 → Nat :=
  let v1500 : Index := Scalar.indexCast v1487
  let c48_404 : Index := 48#32
  ![v1500.toNat, 48]

def k0_chk390 (v1487 : BitVec 32) : Prop :=
  (∀ a, (k0_off1641 v1487) a + S1x16.size a ≤ S704x64.size a) ∧
  (∀ a, (k0_off1642 v1487) a + S1x16.size a ≤ S704x64.size a) ∧
  (∀ a, (k0_off1643 v1487) a + S1x16.size a ≤ S704x64.size a) ∧
  (∀ a, (k0_off1644 v1487) a + S1x16.size a ≤ S704x64.size a)
theorem k0_off1641_inb : ∀ (v1487 : BitVec 32) (k0_hw390 : k0_chk390 v1487), ∀ a, (k0_off1641 v1487) a + S1x16.size a ≤ S704x64.size a := fun v1487 k0_hw390 => k0_hw390.1
theorem k0_off1642_inb : ∀ (v1487 : BitVec 32) (k0_hw390 : k0_chk390 v1487), ∀ a, (k0_off1642 v1487) a + S1x16.size a ≤ S704x64.size a := fun v1487 k0_hw390 => k0_hw390.2.1
theorem k0_off1643_inb : ∀ (v1487 : BitVec 32) (k0_hw390 : k0_chk390 v1487), ∀ a, (k0_off1643 v1487) a + S1x16.size a ≤ S704x64.size a := fun v1487 k0_hw390 => k0_hw390.2.2.1
theorem k0_off1644_inb : ∀ (v1487 : BitVec 32) (k0_hw390 : k0_chk390 v1487), ∀ a, (k0_off1644 v1487) a + S1x16.size a ≤ S704x64.size a := fun v1487 k0_hw390 => k0_hw390.2.2.2

def k0_off1645 (v1508 : BitVec 32) : Fin 2 → Nat :=
  let v1509 : Index := Scalar.indexCast v1508
  let c0_405 : Index := 0#32
  ![v1509.toNat, 0]

def k0_off1646 (v1508 : BitVec 32) : Fin 2 → Nat :=
  let v1513 : Index := Scalar.indexCast v1508
  let c16_406 : Index := 16#32
  ![v1513.toNat, 16]
def k0_off1647 (v1508 : BitVec 32) : Fin 2 → Nat :=
  let v1517 : Index := Scalar.indexCast v1508
  let c32_407 : Index := 32#32
  ![v1517.toNat, 32]
def k0_off1648 (v1508 : BitVec 32) : Fin 2 → Nat :=
  let v1521 : Index := Scalar.indexCast v1508
  let c48_408 : Index := 48#32
  ![v1521.toNat, 48]

def k0_chk391 (v1508 : BitVec 32) : Prop :=
  (∀ a, (k0_off1645 v1508) a + S1x16.size a ≤ S704x64.size a) ∧
  (∀ a, (k0_off1646 v1508) a + S1x16.size a ≤ S704x64.size a) ∧
  (∀ a, (k0_off1647 v1508) a + S1x16.size a ≤ S704x64.size a) ∧
  (∀ a, (k0_off1648 v1508) a + S1x16.size a ≤ S704x64.size a)
theorem k0_off1645_inb : ∀ (v1508 : BitVec 32) (k0_hw391 : k0_chk391 v1508), ∀ a, (k0_off1645 v1508) a + S1x16.size a ≤ S704x64.size a := fun v1508 k0_hw391 => k0_hw391.1
theorem k0_off1646_inb : ∀ (v1508 : BitVec 32) (k0_hw391 : k0_chk391 v1508), ∀ a, (k0_off1646 v1508) a + S1x16.size a ≤ S704x64.size a := fun v1508 k0_hw391 => k0_hw391.2.1
theorem k0_off1647_inb : ∀ (v1508 : BitVec 32) (k0_hw391 : k0_chk391 v1508), ∀ a, (k0_off1647 v1508) a + S1x16.size a ≤ S704x64.size a := fun v1508 k0_hw391 => k0_hw391.2.2.1
theorem k0_off1648_inb : ∀ (v1508 : BitVec 32) (k0_hw391 : k0_chk391 v1508), ∀ a, (k0_off1648 v1508) a + S1x16.size a ≤ S704x64.size a := fun v1508 k0_hw391 => k0_hw391.2.2.2

def k0_off1649 (v1529 : BitVec 32) : Fin 2 → Nat :=
  let v1530 : Index := Scalar.indexCast v1529
  let c0_409 : Index := 0#32
  ![v1530.toNat, 0]

def k0_off1650 (v1529 : BitVec 32) : Fin 2 → Nat :=
  let v1534 : Index := Scalar.indexCast v1529
  let c16_410 : Index := 16#32
  ![v1534.toNat, 16]
def k0_off1651 (v1529 : BitVec 32) : Fin 2 → Nat :=
  let v1538 : Index := Scalar.indexCast v1529
  let c32_411 : Index := 32#32
  ![v1538.toNat, 32]
def k0_off1652 (v1529 : BitVec 32) : Fin 2 → Nat :=
  let v1542 : Index := Scalar.indexCast v1529
  let c48_412 : Index := 48#32
  ![v1542.toNat, 48]

def k0_chk392 (v1529 : BitVec 32) : Prop :=
  (∀ a, (k0_off1649 v1529) a + S1x16.size a ≤ S704x64.size a) ∧
  (∀ a, (k0_off1650 v1529) a + S1x16.size a ≤ S704x64.size a) ∧
  (∀ a, (k0_off1651 v1529) a + S1x16.size a ≤ S704x64.size a) ∧
  (∀ a, (k0_off1652 v1529) a + S1x16.size a ≤ S704x64.size a)
theorem k0_off1649_inb : ∀ (v1529 : BitVec 32) (k0_hw392 : k0_chk392 v1529), ∀ a, (k0_off1649 v1529) a + S1x16.size a ≤ S704x64.size a := fun v1529 k0_hw392 => k0_hw392.1
theorem k0_off1650_inb : ∀ (v1529 : BitVec 32) (k0_hw392 : k0_chk392 v1529), ∀ a, (k0_off1650 v1529) a + S1x16.size a ≤ S704x64.size a := fun v1529 k0_hw392 => k0_hw392.2.1
theorem k0_off1651_inb : ∀ (v1529 : BitVec 32) (k0_hw392 : k0_chk392 v1529), ∀ a, (k0_off1651 v1529) a + S1x16.size a ≤ S704x64.size a := fun v1529 k0_hw392 => k0_hw392.2.2.1
theorem k0_off1652_inb : ∀ (v1529 : BitVec 32) (k0_hw392 : k0_chk392 v1529), ∀ a, (k0_off1652 v1529) a + S1x16.size a ≤ S704x64.size a := fun v1529 k0_hw392 => k0_hw392.2.2.2

def k0_off1653 (v1550 : BitVec 32) : Fin 2 → Nat :=
  let v1551 : Index := Scalar.indexCast v1550
  let c0_413 : Index := 0#32
  ![v1551.toNat, 0]

def k0_off1654 (v1550 : BitVec 32) : Fin 2 → Nat :=
  let v1555 : Index := Scalar.indexCast v1550
  let c16_414 : Index := 16#32
  ![v1555.toNat, 16]
def k0_off1655 (v1550 : BitVec 32) : Fin 2 → Nat :=
  let v1559 : Index := Scalar.indexCast v1550
  let c32_415 : Index := 32#32
  ![v1559.toNat, 32]
def k0_off1656 (v1550 : BitVec 32) : Fin 2 → Nat :=
  let v1563 : Index := Scalar.indexCast v1550
  let c48_416 : Index := 48#32
  ![v1563.toNat, 48]

def k0_chk393 (v1550 : BitVec 32) : Prop :=
  (∀ a, (k0_off1653 v1550) a + S1x16.size a ≤ S704x64.size a) ∧
  (∀ a, (k0_off1654 v1550) a + S1x16.size a ≤ S704x64.size a) ∧
  (∀ a, (k0_off1655 v1550) a + S1x16.size a ≤ S704x64.size a) ∧
  (∀ a, (k0_off1656 v1550) a + S1x16.size a ≤ S704x64.size a)
theorem k0_off1653_inb : ∀ (v1550 : BitVec 32) (k0_hw393 : k0_chk393 v1550), ∀ a, (k0_off1653 v1550) a + S1x16.size a ≤ S704x64.size a := fun v1550 k0_hw393 => k0_hw393.1
theorem k0_off1654_inb : ∀ (v1550 : BitVec 32) (k0_hw393 : k0_chk393 v1550), ∀ a, (k0_off1654 v1550) a + S1x16.size a ≤ S704x64.size a := fun v1550 k0_hw393 => k0_hw393.2.1
theorem k0_off1655_inb : ∀ (v1550 : BitVec 32) (k0_hw393 : k0_chk393 v1550), ∀ a, (k0_off1655 v1550) a + S1x16.size a ≤ S704x64.size a := fun v1550 k0_hw393 => k0_hw393.2.2.1
theorem k0_off1656_inb : ∀ (v1550 : BitVec 32) (k0_hw393 : k0_chk393 v1550), ∀ a, (k0_off1656 v1550) a + S1x16.size a ≤ S704x64.size a := fun v1550 k0_hw393 => k0_hw393.2.2.2

def k0_off1657 (v1571 : BitVec 32) : Fin 2 → Nat :=
  let v1572 : Index := Scalar.indexCast v1571
  let c0_417 : Index := 0#32
  ![v1572.toNat, 0]

def k0_off1658 (v1571 : BitVec 32) : Fin 2 → Nat :=
  let v1576 : Index := Scalar.indexCast v1571
  let c16_418 : Index := 16#32
  ![v1576.toNat, 16]
def k0_off1659 (v1571 : BitVec 32) : Fin 2 → Nat :=
  let v1580 : Index := Scalar.indexCast v1571
  let c32_419 : Index := 32#32
  ![v1580.toNat, 32]
def k0_off1660 (v1571 : BitVec 32) : Fin 2 → Nat :=
  let v1584 : Index := Scalar.indexCast v1571
  let c48_420 : Index := 48#32
  ![v1584.toNat, 48]

def k0_chk394 (v1571 : BitVec 32) : Prop :=
  (∀ a, (k0_off1657 v1571) a + S1x16.size a ≤ S704x64.size a) ∧
  (∀ a, (k0_off1658 v1571) a + S1x16.size a ≤ S704x64.size a) ∧
  (∀ a, (k0_off1659 v1571) a + S1x16.size a ≤ S704x64.size a) ∧
  (∀ a, (k0_off1660 v1571) a + S1x16.size a ≤ S704x64.size a)
theorem k0_off1657_inb : ∀ (v1571 : BitVec 32) (k0_hw394 : k0_chk394 v1571), ∀ a, (k0_off1657 v1571) a + S1x16.size a ≤ S704x64.size a := fun v1571 k0_hw394 => k0_hw394.1
theorem k0_off1658_inb : ∀ (v1571 : BitVec 32) (k0_hw394 : k0_chk394 v1571), ∀ a, (k0_off1658 v1571) a + S1x16.size a ≤ S704x64.size a := fun v1571 k0_hw394 => k0_hw394.2.1
theorem k0_off1659_inb : ∀ (v1571 : BitVec 32) (k0_hw394 : k0_chk394 v1571), ∀ a, (k0_off1659 v1571) a + S1x16.size a ≤ S704x64.size a := fun v1571 k0_hw394 => k0_hw394.2.2.1
theorem k0_off1660_inb : ∀ (v1571 : BitVec 32) (k0_hw394 : k0_chk394 v1571), ∀ a, (k0_off1660 v1571) a + S1x16.size a ≤ S704x64.size a := fun v1571 k0_hw394 => k0_hw394.2.2.2

def k0_off1661 (v1592 : BitVec 32) : Fin 2 → Nat :=
  let v1593 : Index := Scalar.indexCast v1592
  let c0_421 : Index := 0#32
  ![v1593.toNat, 0]

def k0_off1662 (v1592 : BitVec 32) : Fin 2 → Nat :=
  let v1597 : Index := Scalar.indexCast v1592
  let c16_422 : Index := 16#32
  ![v1597.toNat, 16]
def k0_off1663 (v1592 : BitVec 32) : Fin 2 → Nat :=
  let v1601 : Index := Scalar.indexCast v1592
  let c32_423 : Index := 32#32
  ![v1601.toNat, 32]
def k0_off1664 (v1592 : BitVec 32) : Fin 2 → Nat :=
  let v1605 : Index := Scalar.indexCast v1592
  let c48_424 : Index := 48#32
  ![v1605.toNat, 48]

def k0_chk395 (v1592 : BitVec 32) : Prop :=
  (∀ a, (k0_off1661 v1592) a + S1x16.size a ≤ S704x64.size a) ∧
  (∀ a, (k0_off1662 v1592) a + S1x16.size a ≤ S704x64.size a) ∧
  (∀ a, (k0_off1663 v1592) a + S1x16.size a ≤ S704x64.size a) ∧
  (∀ a, (k0_off1664 v1592) a + S1x16.size a ≤ S704x64.size a)
theorem k0_off1661_inb : ∀ (v1592 : BitVec 32) (k0_hw395 : k0_chk395 v1592), ∀ a, (k0_off1661 v1592) a + S1x16.size a ≤ S704x64.size a := fun v1592 k0_hw395 => k0_hw395.1
theorem k0_off1662_inb : ∀ (v1592 : BitVec 32) (k0_hw395 : k0_chk395 v1592), ∀ a, (k0_off1662 v1592) a + S1x16.size a ≤ S704x64.size a := fun v1592 k0_hw395 => k0_hw395.2.1
theorem k0_off1663_inb : ∀ (v1592 : BitVec 32) (k0_hw395 : k0_chk395 v1592), ∀ a, (k0_off1663 v1592) a + S1x16.size a ≤ S704x64.size a := fun v1592 k0_hw395 => k0_hw395.2.2.1
theorem k0_off1664_inb : ∀ (v1592 : BitVec 32) (k0_hw395 : k0_chk395 v1592), ∀ a, (k0_off1664 v1592) a + S1x16.size a ≤ S704x64.size a := fun v1592 k0_hw395 => k0_hw395.2.2.2

def k0_off1665 (v1613 : BitVec 32) : Fin 2 → Nat :=
  let v1614 : Index := Scalar.indexCast v1613
  let c0_425 : Index := 0#32
  ![v1614.toNat, 0]

def k0_off1666 (v1613 : BitVec 32) : Fin 2 → Nat :=
  let v1618 : Index := Scalar.indexCast v1613
  let c16_426 : Index := 16#32
  ![v1618.toNat, 16]
def k0_off1667 (v1613 : BitVec 32) : Fin 2 → Nat :=
  let v1622 : Index := Scalar.indexCast v1613
  let c32_427 : Index := 32#32
  ![v1622.toNat, 32]
def k0_off1668 (v1613 : BitVec 32) : Fin 2 → Nat :=
  let v1626 : Index := Scalar.indexCast v1613
  let c48_428 : Index := 48#32
  ![v1626.toNat, 48]

def k0_chk396 (v1613 : BitVec 32) : Prop :=
  (∀ a, (k0_off1665 v1613) a + S1x16.size a ≤ S704x64.size a) ∧
  (∀ a, (k0_off1666 v1613) a + S1x16.size a ≤ S704x64.size a) ∧
  (∀ a, (k0_off1667 v1613) a + S1x16.size a ≤ S704x64.size a) ∧
  (∀ a, (k0_off1668 v1613) a + S1x16.size a ≤ S704x64.size a)
theorem k0_off1665_inb : ∀ (v1613 : BitVec 32) (k0_hw396 : k0_chk396 v1613), ∀ a, (k0_off1665 v1613) a + S1x16.size a ≤ S704x64.size a := fun v1613 k0_hw396 => k0_hw396.1
theorem k0_off1666_inb : ∀ (v1613 : BitVec 32) (k0_hw396 : k0_chk396 v1613), ∀ a, (k0_off1666 v1613) a + S1x16.size a ≤ S704x64.size a := fun v1613 k0_hw396 => k0_hw396.2.1
theorem k0_off1667_inb : ∀ (v1613 : BitVec 32) (k0_hw396 : k0_chk396 v1613), ∀ a, (k0_off1667 v1613) a + S1x16.size a ≤ S704x64.size a := fun v1613 k0_hw396 => k0_hw396.2.2.1
theorem k0_off1668_inb : ∀ (v1613 : BitVec 32) (k0_hw396 : k0_chk396 v1613), ∀ a, (k0_off1668 v1613) a + S1x16.size a ≤ S704x64.size a := fun v1613 k0_hw396 => k0_hw396.2.2.2

def k0_off1669 (k0_t6 : Fin k0_t6_loop.trips) : Fin 2 → Nat :=
  let c2_i32_144 : BitVec 32 := 2#32
  let c0_i32_111 : BitVec 32 := 0#32
  let c1_i32_113 : BitVec 32 := 1#32
  let arg13 : BitVec 32 := Scf.iv c0_i32_111 c1_i32_113 k0_t6
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off1670 (k0_t6 : Fin k0_t6_loop.trips) : Fin 2 → Nat :=
  let c2_i32_144 : BitVec 32 := 2#32
  let c0_i32_111 : BitVec 32 := 0#32
  let c1_i32_113 : BitVec 32 := 1#32
  let arg13 : BitVec 32 := Scf.iv c0_i32_111 c1_i32_113 k0_t6
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off1671 (k0_t6 : Fin k0_t6_loop.trips) : Fin 2 → Nat :=
  let c2_i32_144 : BitVec 32 := 2#32
  let c0_i32_111 : BitVec 32 := 0#32
  let c1_i32_113 : BitVec 32 := 1#32
  let arg13 : BitVec 32 := Scf.iv c0_i32_111 c1_i32_113 k0_t6
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off1672 (k0_t6 : Fin k0_t6_loop.trips) : Fin 2 → Nat :=
  let c2_i32_144 : BitVec 32 := 2#32
  let c0_i32_111 : BitVec 32 := 0#32
  let c1_i32_113 : BitVec 32 := 1#32
  let arg13 : BitVec 32 := Scf.iv c0_i32_111 c1_i32_113 k0_t6
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_116 : BitVec 32 := 8#32
  let v160 : BitVec 32 := Scalar.muli v28 c8_i32_116
  let c6_i32_117 : BitVec 32 := 6#32
  let v161 : BitVec 32 := Scalar.addi v160 c6_i32_117
  let c128_i32_118 : BitVec 32 := 128#32
  let v162 : BitVec 32 := Scalar.muli v161 c128_i32_118
  v162
def k0_mult15 (i : grid0.Coords) : BitVec 32 :=
  let c1344_i32_125 : BitVec 32 := 1344#32
  let c0_i32_124 : BitVec 32 := 0#32
  let c0_i32_122 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_120 : BitVec 32 := 8#32
  let v167 : BitVec 32 := Scalar.muli v28 c8_i32_120
  let c7_i32 : BitVec 32 := 7#32
  let v168 : BitVec 32 := Scalar.addi v167 c7_i32
  let c128_i32_121 : BitVec 32 := 128#32
  let v169 : BitVec 32 := Scalar.muli v168 c128_i32_121
  let v170 : BitVec 32 := Scalar.addi c0_i32_122 v169
  let c288_i32_123 : BitVec 32 := 288#32
  let v171 : BitVec 32 := Scalar.subi v170 c288_i32_123
  let v172 : BitVec 32 := Scalar.maxsi c0_i32_124 v171
  let v173 : BitVec 32 := Scalar.minsi c1344_i32_125 v172
  v173
@[reducible] def k0_t7_loop : Scf.Loop 32 :=
  let c0_i32_128 : BitVec 32 := 0#32
  let c64_i32_129 : BitVec 32 := 64#32
  let v178 : BitVec 32 := Scalar.addi c0_i32_128 c64_i32_129
  let c1_i32_130 : BitVec 32 := 1#32
  ⟨c0_i32_128, v178, c1_i32_130⟩
def k0_off1673 (k0_t7 : Fin k0_t7_loop.trips) : Fin 2 → Nat :=
  let c2_i32_143 : BitVec 32 := 2#32
  let c0_i32_128 : BitVec 32 := 0#32
  let c1_i32_130 : BitVec 32 := 1#32
  let arg13 : BitVec 32 := Scf.iv c0_i32_128 c1_i32_130 k0_t7
  let v189 : BitVec 32 := Scalar.muli c2_i32_143 arg13
  let v192 : Index := Scalar.indexCast v189
  let c0 : Index := 0#32
  ![v192.toNat, 0]
def k0_off1674 (k0_t7 : Fin k0_t7_loop.trips) : Fin 2 → Nat :=
  let c2_i32_143 : BitVec 32 := 2#32
  let c0_i32_128 : BitVec 32 := 0#32
  let c1_i32_130 : BitVec 32 := 1#32
  let arg13 : BitVec 32 := Scf.iv c0_i32_128 c1_i32_130 k0_t7
  let v189 : BitVec 32 := Scalar.muli c2_i32_143 arg13
  let v194 : Index := Scalar.indexCast v189
  let c16 : Index := 16#32
  ![v194.toNat, 16]
def k0_off1675 (k0_t7 : Fin k0_t7_loop.trips) : Fin 2 → Nat :=
  let c2_i32_143 : BitVec 32 := 2#32
  let c0_i32_128 : BitVec 32 := 0#32
  let c1_i32_130 : BitVec 32 := 1#32
  let arg13 : BitVec 32 := Scf.iv c0_i32_128 c1_i32_130 k0_t7
  let v189 : BitVec 32 := Scalar.muli c2_i32_143 arg13
  let v196 : Index := Scalar.indexCast v189
  let c32 : Index := 32#32
  ![v196.toNat, 32]
def k0_off1676 (v218 : BitVec 32) : Fin 2 → Nat :=
  let v219 : Index := Scalar.indexCast v218
  let c0_152 : Index := 0#32
  ![v219.toNat, 0]

def k0_off1677 (v218 : BitVec 32) : Fin 2 → Nat :=
  let v223 : Index := Scalar.indexCast v218
  let c16_153 : Index := 16#32
  ![v223.toNat, 16]
def k0_off1678 (v218 : BitVec 32) : Fin 2 → Nat :=
  let v227 : Index := Scalar.indexCast v218
  let c32_154 : Index := 32#32
  ![v227.toNat, 32]
def k0_off1679 (v218 : BitVec 32) : Fin 2 → Nat :=
  let v231 : Index := Scalar.indexCast v218
  let c48 : Index := 48#32
  ![v231.toNat, 48]

def k0_chk397 (v218 : BitVec 32) : Prop :=
  (∀ a, (k0_off1676 v218) a + S1x16.size a ≤ S704x64.size a) ∧
  (∀ a, (k0_off1677 v218) a + S1x16.size a ≤ S704x64.size a) ∧
  (∀ a, (k0_off1678 v218) a + S1x16.size a ≤ S704x64.size a) ∧
  (∀ a, (k0_off1679 v218) a + S1x16.size a ≤ S704x64.size a)
theorem k0_off1676_inb : ∀ (v218 : BitVec 32) (k0_hw397 : k0_chk397 v218), ∀ a, (k0_off1676 v218) a + S1x16.size a ≤ S704x64.size a := fun v218 k0_hw397 => k0_hw397.1
theorem k0_off1677_inb : ∀ (v218 : BitVec 32) (k0_hw397 : k0_chk397 v218), ∀ a, (k0_off1677 v218) a + S1x16.size a ≤ S704x64.size a := fun v218 k0_hw397 => k0_hw397.2.1
theorem k0_off1678_inb : ∀ (v218 : BitVec 32) (k0_hw397 : k0_chk397 v218), ∀ a, (k0_off1678 v218) a + S1x16.size a ≤ S704x64.size a := fun v218 k0_hw397 => k0_hw397.2.2.1
theorem k0_off1679_inb : ∀ (v218 : BitVec 32) (k0_hw397 : k0_chk397 v218), ∀ a, (k0_off1679 v218) a + S1x16.size a ≤ S704x64.size a := fun v218 k0_hw397 => k0_hw397.2.2.2

def k0_off1680 (v239 : BitVec 32) : Fin 2 → Nat :=
  let v240 : Index := Scalar.indexCast v239
  let c0_155 : Index := 0#32
  ![v240.toNat, 0]

def k0_off1681 (v239 : BitVec 32) : Fin 2 → Nat :=
  let v244 : Index := Scalar.indexCast v239
  let c16_156 : Index := 16#32
  ![v244.toNat, 16]
def k0_off1682 (v239 : BitVec 32) : Fin 2 → Nat :=
  let v248 : Index := Scalar.indexCast v239
  let c32_157 : Index := 32#32
  ![v248.toNat, 32]
def k0_off1683 (v239 : BitVec 32) : Fin 2 → Nat :=
  let v252 : Index := Scalar.indexCast v239
  let c48_158 : Index := 48#32
  ![v252.toNat, 48]

def k0_chk398 (v239 : BitVec 32) : Prop :=
  (∀ a, (k0_off1680 v239) a + S1x16.size a ≤ S704x64.size a) ∧
  (∀ a, (k0_off1681 v239) a + S1x16.size a ≤ S704x64.size a) ∧
  (∀ a, (k0_off1682 v239) a + S1x16.size a ≤ S704x64.size a) ∧
  (∀ a, (k0_off1683 v239) a + S1x16.size a ≤ S704x64.size a)
theorem k0_off1680_inb : ∀ (v239 : BitVec 32) (k0_hw398 : k0_chk398 v239), ∀ a, (k0_off1680 v239) a + S1x16.size a ≤ S704x64.size a := fun v239 k0_hw398 => k0_hw398.1
theorem k0_off1681_inb : ∀ (v239 : BitVec 32) (k0_hw398 : k0_chk398 v239), ∀ a, (k0_off1681 v239) a + S1x16.size a ≤ S704x64.size a := fun v239 k0_hw398 => k0_hw398.2.1
theorem k0_off1682_inb : ∀ (v239 : BitVec 32) (k0_hw398 : k0_chk398 v239), ∀ a, (k0_off1682 v239) a + S1x16.size a ≤ S704x64.size a := fun v239 k0_hw398 => k0_hw398.2.2.1
theorem k0_off1683_inb : ∀ (v239 : BitVec 32) (k0_hw398 : k0_chk398 v239), ∀ a, (k0_off1683 v239) a + S1x16.size a ≤ S704x64.size a := fun v239 k0_hw398 => k0_hw398.2.2.2

def k0_off1684 (v260 : BitVec 32) : Fin 2 → Nat :=
  let v261 : Index := Scalar.indexCast v260
  let c0_159 : Index := 0#32
  ![v261.toNat, 0]

def k0_off1685 (v260 : BitVec 32) : Fin 2 → Nat :=
  let v265 : Index := Scalar.indexCast v260
  let c16_160 : Index := 16#32
  ![v265.toNat, 16]
def k0_off1686 (v260 : BitVec 32) : Fin 2 → Nat :=
  let v269 : Index := Scalar.indexCast v260
  let c32_161 : Index := 32#32
  ![v269.toNat, 32]
def k0_off1687 (v260 : BitVec 32) : Fin 2 → Nat :=
  let v273 : Index := Scalar.indexCast v260
  let c48_162 : Index := 48#32
  ![v273.toNat, 48]

def k0_chk399 (v260 : BitVec 32) : Prop :=
  (∀ a, (k0_off1684 v260) a + S1x16.size a ≤ S704x64.size a) ∧
  (∀ a, (k0_off1685 v260) a + S1x16.size a ≤ S704x64.size a) ∧
  (∀ a, (k0_off1686 v260) a + S1x16.size a ≤ S704x64.size a) ∧
  (∀ a, (k0_off1687 v260) a + S1x16.size a ≤ S704x64.size a)
theorem k0_off1684_inb : ∀ (v260 : BitVec 32) (k0_hw399 : k0_chk399 v260), ∀ a, (k0_off1684 v260) a + S1x16.size a ≤ S704x64.size a := fun v260 k0_hw399 => k0_hw399.1
theorem k0_off1685_inb : ∀ (v260 : BitVec 32) (k0_hw399 : k0_chk399 v260), ∀ a, (k0_off1685 v260) a + S1x16.size a ≤ S704x64.size a := fun v260 k0_hw399 => k0_hw399.2.1
theorem k0_off1686_inb : ∀ (v260 : BitVec 32) (k0_hw399 : k0_chk399 v260), ∀ a, (k0_off1686 v260) a + S1x16.size a ≤ S704x64.size a := fun v260 k0_hw399 => k0_hw399.2.2.1
theorem k0_off1687_inb : ∀ (v260 : BitVec 32) (k0_hw399 : k0_chk399 v260), ∀ a, (k0_off1687 v260) a + S1x16.size a ≤ S704x64.size a := fun v260 k0_hw399 => k0_hw399.2.2.2

def k0_off1688 (v281 : BitVec 32) : Fin 2 → Nat :=
  let v282 : Index := Scalar.indexCast v281
  let c0_163 : Index := 0#32
  ![v282.toNat, 0]

def k0_off1689 (v281 : BitVec 32) : Fin 2 → Nat :=
  let v286 : Index := Scalar.indexCast v281
  let c16_164 : Index := 16#32
  ![v286.toNat, 16]
def k0_off1690 (v281 : BitVec 32) : Fin 2 → Nat :=
  let v290 : Index := Scalar.indexCast v281
  let c32_165 : Index := 32#32
  ![v290.toNat, 32]
def k0_off1691 (v281 : BitVec 32) : Fin 2 → Nat :=
  let v294 : Index := Scalar.indexCast v281
  let c48_166 : Index := 48#32
  ![v294.toNat, 48]

def k0_chk400 (v281 : BitVec 32) : Prop :=
  (∀ a, (k0_off1688 v281) a + S1x16.size a ≤ S704x64.size a) ∧
  (∀ a, (k0_off1689 v281) a + S1x16.size a ≤ S704x64.size a) ∧
  (∀ a, (k0_off1690 v281) a + S1x16.size a ≤ S704x64.size a) ∧
  (∀ a, (k0_off1691 v281) a + S1x16.size a ≤ S704x64.size a)
theorem k0_off1688_inb : ∀ (v281 : BitVec 32) (k0_hw400 : k0_chk400 v281), ∀ a, (k0_off1688 v281) a + S1x16.size a ≤ S704x64.size a := fun v281 k0_hw400 => k0_hw400.1
theorem k0_off1689_inb : ∀ (v281 : BitVec 32) (k0_hw400 : k0_chk400 v281), ∀ a, (k0_off1689 v281) a + S1x16.size a ≤ S704x64.size a := fun v281 k0_hw400 => k0_hw400.2.1
theorem k0_off1690_inb : ∀ (v281 : BitVec 32) (k0_hw400 : k0_chk400 v281), ∀ a, (k0_off1690 v281) a + S1x16.size a ≤ S704x64.size a := fun v281 k0_hw400 => k0_hw400.2.2.1
theorem k0_off1691_inb : ∀ (v281 : BitVec 32) (k0_hw400 : k0_chk400 v281), ∀ a, (k0_off1691 v281) a + S1x16.size a ≤ S704x64.size a := fun v281 k0_hw400 => k0_hw400.2.2.2

def k0_off1692 (v302 : BitVec 32) : Fin 2 → Nat :=
  let v303 : Index := Scalar.indexCast v302
  let c0_167 : Index := 0#32
  ![v303.toNat, 0]

def k0_off1693 (v302 : BitVec 32) : Fin 2 → Nat :=
  let v307 : Index := Scalar.indexCast v302
  let c16_168 : Index := 16#32
  ![v307.toNat, 16]
def k0_off1694 (v302 : BitVec 32) : Fin 2 → Nat :=
  let v311 : Index := Scalar.indexCast v302
  let c32_169 : Index := 32#32
  ![v311.toNat, 32]
def k0_off1695 (v302 : BitVec 32) : Fin 2 → Nat :=
  let v315 : Index := Scalar.indexCast v302
  let c48_170 : Index := 48#32
  ![v315.toNat, 48]

def k0_chk401 (v302 : BitVec 32) : Prop :=
  (∀ a, (k0_off1692 v302) a + S1x16.size a ≤ S704x64.size a) ∧
  (∀ a, (k0_off1693 v302) a + S1x16.size a ≤ S704x64.size a) ∧
  (∀ a, (k0_off1694 v302) a + S1x16.size a ≤ S704x64.size a) ∧
  (∀ a, (k0_off1695 v302) a + S1x16.size a ≤ S704x64.size a)
theorem k0_off1692_inb : ∀ (v302 : BitVec 32) (k0_hw401 : k0_chk401 v302), ∀ a, (k0_off1692 v302) a + S1x16.size a ≤ S704x64.size a := fun v302 k0_hw401 => k0_hw401.1
theorem k0_off1693_inb : ∀ (v302 : BitVec 32) (k0_hw401 : k0_chk401 v302), ∀ a, (k0_off1693 v302) a + S1x16.size a ≤ S704x64.size a := fun v302 k0_hw401 => k0_hw401.2.1
theorem k0_off1694_inb : ∀ (v302 : BitVec 32) (k0_hw401 : k0_chk401 v302), ∀ a, (k0_off1694 v302) a + S1x16.size a ≤ S704x64.size a := fun v302 k0_hw401 => k0_hw401.2.2.1
theorem k0_off1695_inb : ∀ (v302 : BitVec 32) (k0_hw401 : k0_chk401 v302), ∀ a, (k0_off1695 v302) a + S1x16.size a ≤ S704x64.size a := fun v302 k0_hw401 => k0_hw401.2.2.2

def k0_off1696 (v323 : BitVec 32) : Fin 2 → Nat :=
  let v324 : Index := Scalar.indexCast v323
  let c0_171 : Index := 0#32
  ![v324.toNat, 0]

def k0_off1697 (v323 : BitVec 32) : Fin 2 → Nat :=
  let v328 : Index := Scalar.indexCast v323
  let c16_172 : Index := 16#32
  ![v328.toNat, 16]
def k0_off1698 (v323 : BitVec 32) : Fin 2 → Nat :=
  let v332 : Index := Scalar.indexCast v323
  let c32_173 : Index := 32#32
  ![v332.toNat, 32]
def k0_off1699 (v323 : BitVec 32) : Fin 2 → Nat :=
  let v336 : Index := Scalar.indexCast v323
  let c48_174 : Index := 48#32
  ![v336.toNat, 48]

def k0_chk402 (v323 : BitVec 32) : Prop :=
  (∀ a, (k0_off1696 v323) a + S1x16.size a ≤ S704x64.size a) ∧
  (∀ a, (k0_off1697 v323) a + S1x16.size a ≤ S704x64.size a) ∧
  (∀ a, (k0_off1698 v323) a + S1x16.size a ≤ S704x64.size a) ∧
  (∀ a, (k0_off1699 v323) a + S1x16.size a ≤ S704x64.size a)
theorem k0_off1696_inb : ∀ (v323 : BitVec 32) (k0_hw402 : k0_chk402 v323), ∀ a, (k0_off1696 v323) a + S1x16.size a ≤ S704x64.size a := fun v323 k0_hw402 => k0_hw402.1
theorem k0_off1697_inb : ∀ (v323 : BitVec 32) (k0_hw402 : k0_chk402 v323), ∀ a, (k0_off1697 v323) a + S1x16.size a ≤ S704x64.size a := fun v323 k0_hw402 => k0_hw402.2.1
theorem k0_off1698_inb : ∀ (v323 : BitVec 32) (k0_hw402 : k0_chk402 v323), ∀ a, (k0_off1698 v323) a + S1x16.size a ≤ S704x64.size a := fun v323 k0_hw402 => k0_hw402.2.2.1
theorem k0_off1699_inb : ∀ (v323 : BitVec 32) (k0_hw402 : k0_chk402 v323), ∀ a, (k0_off1699 v323) a + S1x16.size a ≤ S704x64.size a := fun v323 k0_hw402 => k0_hw402.2.2.2

def k0_off1700 (v344 : BitVec 32) : Fin 2 → Nat :=
  let v345 : Index := Scalar.indexCast v344
  let c0_175 : Index := 0#32
  ![v345.toNat, 0]

def k0_off1701 (v344 : BitVec 32) : Fin 2 → Nat :=
  let v349 : Index := Scalar.indexCast v344
  let c16_176 : Index := 16#32
  ![v349.toNat, 16]
def k0_off1702 (v344 : BitVec 32) : Fin 2 → Nat :=
  let v353 : Index := Scalar.indexCast v344
  let c32_177 : Index := 32#32
  ![v353.toNat, 32]
def k0_off1703 (v344 : BitVec 32) : Fin 2 → Nat :=
  let v357 : Index := Scalar.indexCast v344
  let c48_178 : Index := 48#32
  ![v357.toNat, 48]

def k0_chk403 (v344 : BitVec 32) : Prop :=
  (∀ a, (k0_off1700 v344) a + S1x16.size a ≤ S704x64.size a) ∧
  (∀ a, (k0_off1701 v344) a + S1x16.size a ≤ S704x64.size a) ∧
  (∀ a, (k0_off1702 v344) a + S1x16.size a ≤ S704x64.size a) ∧
  (∀ a, (k0_off1703 v344) a + S1x16.size a ≤ S704x64.size a)
theorem k0_off1700_inb : ∀ (v344 : BitVec 32) (k0_hw403 : k0_chk403 v344), ∀ a, (k0_off1700 v344) a + S1x16.size a ≤ S704x64.size a := fun v344 k0_hw403 => k0_hw403.1
theorem k0_off1701_inb : ∀ (v344 : BitVec 32) (k0_hw403 : k0_chk403 v344), ∀ a, (k0_off1701 v344) a + S1x16.size a ≤ S704x64.size a := fun v344 k0_hw403 => k0_hw403.2.1
theorem k0_off1702_inb : ∀ (v344 : BitVec 32) (k0_hw403 : k0_chk403 v344), ∀ a, (k0_off1702 v344) a + S1x16.size a ≤ S704x64.size a := fun v344 k0_hw403 => k0_hw403.2.2.1
theorem k0_off1703_inb : ∀ (v344 : BitVec 32) (k0_hw403 : k0_chk403 v344), ∀ a, (k0_off1703 v344) a + S1x16.size a ≤ S704x64.size a := fun v344 k0_hw403 => k0_hw403.2.2.2

def k0_off1704 (v365 : BitVec 32) : Fin 2 → Nat :=
  let v366 : Index := Scalar.indexCast v365
  let c0_179 : Index := 0#32
  ![v366.toNat, 0]

def k0_off1705 (v365 : BitVec 32) : Fin 2 → Nat :=
  let v370 : Index := Scalar.indexCast v365
  let c16_180 : Index := 16#32
  ![v370.toNat, 16]
def k0_off1706 (v365 : BitVec 32) : Fin 2 → Nat :=
  let v374 : Index := Scalar.indexCast v365
  let c32_181 : Index := 32#32
  ![v374.toNat, 32]
def k0_off1707 (v365 : BitVec 32) : Fin 2 → Nat :=
  let v378 : Index := Scalar.indexCast v365
  let c48_182 : Index := 48#32
  ![v378.toNat, 48]

def k0_chk404 (v365 : BitVec 32) : Prop :=
  (∀ a, (k0_off1704 v365) a + S1x16.size a ≤ S704x64.size a) ∧
  (∀ a, (k0_off1705 v365) a + S1x16.size a ≤ S704x64.size a) ∧
  (∀ a, (k0_off1706 v365) a + S1x16.size a ≤ S704x64.size a) ∧
  (∀ a, (k0_off1707 v365) a + S1x16.size a ≤ S704x64.size a)
theorem k0_off1704_inb : ∀ (v365 : BitVec 32) (k0_hw404 : k0_chk404 v365), ∀ a, (k0_off1704 v365) a + S1x16.size a ≤ S704x64.size a := fun v365 k0_hw404 => k0_hw404.1
theorem k0_off1705_inb : ∀ (v365 : BitVec 32) (k0_hw404 : k0_chk404 v365), ∀ a, (k0_off1705 v365) a + S1x16.size a ≤ S704x64.size a := fun v365 k0_hw404 => k0_hw404.2.1
theorem k0_off1706_inb : ∀ (v365 : BitVec 32) (k0_hw404 : k0_chk404 v365), ∀ a, (k0_off1706 v365) a + S1x16.size a ≤ S704x64.size a := fun v365 k0_hw404 => k0_hw404.2.2.1
theorem k0_off1707_inb : ∀ (v365 : BitVec 32) (k0_hw404 : k0_chk404 v365), ∀ a, (k0_off1707 v365) a + S1x16.size a ≤ S704x64.size a := fun v365 k0_hw404 => k0_hw404.2.2.2

def k0_off1708 (v386 : BitVec 32) : Fin 2 → Nat :=
  let v387 : Index := Scalar.indexCast v386
  let c0_183 : Index := 0#32
  ![v387.toNat, 0]

def k0_off1709 (v386 : BitVec 32) : Fin 2 → Nat :=
  let v391 : Index := Scalar.indexCast v386
  let c16_184 : Index := 16#32
  ![v391.toNat, 16]
def k0_off1710 (v386 : BitVec 32) : Fin 2 → Nat :=
  let v395 : Index := Scalar.indexCast v386
  let c32_185 : Index := 32#32
  ![v395.toNat, 32]
def k0_off1711 (v386 : BitVec 32) : Fin 2 → Nat :=
  let v399 : Index := Scalar.indexCast v386
  let c48_186 : Index := 48#32
  ![v399.toNat, 48]

def k0_chk405 (v386 : BitVec 32) : Prop :=
  (∀ a, (k0_off1708 v386) a + S1x16.size a ≤ S704x64.size a) ∧
  (∀ a, (k0_off1709 v386) a + S1x16.size a ≤ S704x64.size a) ∧
  (∀ a, (k0_off1710 v386) a + S1x16.size a ≤ S704x64.size a) ∧
  (∀ a, (k0_off1711 v386) a + S1x16.size a ≤ S704x64.size a)
theorem k0_off1708_inb : ∀ (v386 : BitVec 32) (k0_hw405 : k0_chk405 v386), ∀ a, (k0_off1708 v386) a + S1x16.size a ≤ S704x64.size a := fun v386 k0_hw405 => k0_hw405.1
theorem k0_off1709_inb : ∀ (v386 : BitVec 32) (k0_hw405 : k0_chk405 v386), ∀ a, (k0_off1709 v386) a + S1x16.size a ≤ S704x64.size a := fun v386 k0_hw405 => k0_hw405.2.1
theorem k0_off1710_inb : ∀ (v386 : BitVec 32) (k0_hw405 : k0_chk405 v386), ∀ a, (k0_off1710 v386) a + S1x16.size a ≤ S704x64.size a := fun v386 k0_hw405 => k0_hw405.2.2.1
theorem k0_off1711_inb : ∀ (v386 : BitVec 32) (k0_hw405 : k0_chk405 v386), ∀ a, (k0_off1711 v386) a + S1x16.size a ≤ S704x64.size a := fun v386 k0_hw405 => k0_hw405.2.2.2

def k0_off1712 (v407 : BitVec 32) : Fin 2 → Nat :=
  let v408 : Index := Scalar.indexCast v407
  let c0_187 : Index := 0#32
  ![v408.toNat, 0]

def k0_off1713 (v407 : BitVec 32) : Fin 2 → Nat :=
  let v412 : Index := Scalar.indexCast v407
  let c16_188 : Index := 16#32
  ![v412.toNat, 16]
def k0_off1714 (v407 : BitVec 32) : Fin 2 → Nat :=
  let v416 : Index := Scalar.indexCast v407
  let c32_189 : Index := 32#32
  ![v416.toNat, 32]
def k0_off1715 (v407 : BitVec 32) : Fin 2 → Nat :=
  let v420 : Index := Scalar.indexCast v407
  let c48_190 : Index := 48#32
  ![v420.toNat, 48]

def k0_chk406 (v407 : BitVec 32) : Prop :=
  (∀ a, (k0_off1712 v407) a + S1x16.size a ≤ S704x64.size a) ∧
  (∀ a, (k0_off1713 v407) a + S1x16.size a ≤ S704x64.size a) ∧
  (∀ a, (k0_off1714 v407) a + S1x16.size a ≤ S704x64.size a) ∧
  (∀ a, (k0_off1715 v407) a + S1x16.size a ≤ S704x64.size a)
theorem k0_off1712_inb : ∀ (v407 : BitVec 32) (k0_hw406 : k0_chk406 v407), ∀ a, (k0_off1712 v407) a + S1x16.size a ≤ S704x64.size a := fun v407 k0_hw406 => k0_hw406.1
theorem k0_off1713_inb : ∀ (v407 : BitVec 32) (k0_hw406 : k0_chk406 v407), ∀ a, (k0_off1713 v407) a + S1x16.size a ≤ S704x64.size a := fun v407 k0_hw406 => k0_hw406.2.1
theorem k0_off1714_inb : ∀ (v407 : BitVec 32) (k0_hw406 : k0_chk406 v407), ∀ a, (k0_off1714 v407) a + S1x16.size a ≤ S704x64.size a := fun v407 k0_hw406 => k0_hw406.2.2.1
theorem k0_off1715_inb : ∀ (v407 : BitVec 32) (k0_hw406 : k0_chk406 v407), ∀ a, (k0_off1715 v407) a + S1x16.size a ≤ S704x64.size a := fun v407 k0_hw406 => k0_hw406.2.2.2

def k0_off1716 (v428 : BitVec 32) : Fin 2 → Nat :=
  let v429 : Index := Scalar.indexCast v428
  let c0_191 : Index := 0#32
  ![v429.toNat, 0]

def k0_off1717 (v428 : BitVec 32) : Fin 2 → Nat :=
  let v433 : Index := Scalar.indexCast v428
  let c16_192 : Index := 16#32
  ![v433.toNat, 16]
def k0_off1718 (v428 : BitVec 32) : Fin 2 → Nat :=
  let v437 : Index := Scalar.indexCast v428
  let c32_193 : Index := 32#32
  ![v437.toNat, 32]
def k0_off1719 (v428 : BitVec 32) : Fin 2 → Nat :=
  let v441 : Index := Scalar.indexCast v428
  let c48_194 : Index := 48#32
  ![v441.toNat, 48]

def k0_chk407 (v428 : BitVec 32) : Prop :=
  (∀ a, (k0_off1716 v428) a + S1x16.size a ≤ S704x64.size a) ∧
  (∀ a, (k0_off1717 v428) a + S1x16.size a ≤ S704x64.size a) ∧
  (∀ a, (k0_off1718 v428) a + S1x16.size a ≤ S704x64.size a) ∧
  (∀ a, (k0_off1719 v428) a + S1x16.size a ≤ S704x64.size a)
theorem k0_off1716_inb : ∀ (v428 : BitVec 32) (k0_hw407 : k0_chk407 v428), ∀ a, (k0_off1716 v428) a + S1x16.size a ≤ S704x64.size a := fun v428 k0_hw407 => k0_hw407.1
theorem k0_off1717_inb : ∀ (v428 : BitVec 32) (k0_hw407 : k0_chk407 v428), ∀ a, (k0_off1717 v428) a + S1x16.size a ≤ S704x64.size a := fun v428 k0_hw407 => k0_hw407.2.1
theorem k0_off1718_inb : ∀ (v428 : BitVec 32) (k0_hw407 : k0_chk407 v428), ∀ a, (k0_off1718 v428) a + S1x16.size a ≤ S704x64.size a := fun v428 k0_hw407 => k0_hw407.2.2.1
theorem k0_off1719_inb : ∀ (v428 : BitVec 32) (k0_hw407 : k0_chk407 v428), ∀ a, (k0_off1719 v428) a + S1x16.size a ≤ S704x64.size a := fun v428 k0_hw407 => k0_hw407.2.2.2

def k0_off1720 (v449 : BitVec 32) : Fin 2 → Nat :=
  let v450 : Index := Scalar.indexCast v449
  let c0_195 : Index := 0#32
  ![v450.toNat, 0]

def k0_off1721 (v449 : BitVec 32) : Fin 2 → Nat :=
  let v454 : Index := Scalar.indexCast v449
  let c16_196 : Index := 16#32
  ![v454.toNat, 16]
def k0_off1722 (v449 : BitVec 32) : Fin 2 → Nat :=
  let v458 : Index := Scalar.indexCast v449
  let c32_197 : Index := 32#32
  ![v458.toNat, 32]
def k0_off1723 (v449 : BitVec 32) : Fin 2 → Nat :=
  let v462 : Index := Scalar.indexCast v449
  let c48_198 : Index := 48#32
  ![v462.toNat, 48]

def k0_chk408 (v449 : BitVec 32) : Prop :=
  (∀ a, (k0_off1720 v449) a + S1x16.size a ≤ S704x64.size a) ∧
  (∀ a, (k0_off1721 v449) a + S1x16.size a ≤ S704x64.size a) ∧
  (∀ a, (k0_off1722 v449) a + S1x16.size a ≤ S704x64.size a) ∧
  (∀ a, (k0_off1723 v449) a + S1x16.size a ≤ S704x64.size a)
theorem k0_off1720_inb : ∀ (v449 : BitVec 32) (k0_hw408 : k0_chk408 v449), ∀ a, (k0_off1720 v449) a + S1x16.size a ≤ S704x64.size a := fun v449 k0_hw408 => k0_hw408.1
theorem k0_off1721_inb : ∀ (v449 : BitVec 32) (k0_hw408 : k0_chk408 v449), ∀ a, (k0_off1721 v449) a + S1x16.size a ≤ S704x64.size a := fun v449 k0_hw408 => k0_hw408.2.1
theorem k0_off1722_inb : ∀ (v449 : BitVec 32) (k0_hw408 : k0_chk408 v449), ∀ a, (k0_off1722 v449) a + S1x16.size a ≤ S704x64.size a := fun v449 k0_hw408 => k0_hw408.2.2.1
theorem k0_off1723_inb : ∀ (v449 : BitVec 32) (k0_hw408 : k0_chk408 v449), ∀ a, (k0_off1723 v449) a + S1x16.size a ≤ S704x64.size a := fun v449 k0_hw408 => k0_hw408.2.2.2

def k0_off1724 (v470 : BitVec 32) : Fin 2 → Nat :=
  let v471 : Index := Scalar.indexCast v470
  let c0_199 : Index := 0#32
  ![v471.toNat, 0]

def k0_off1725 (v470 : BitVec 32) : Fin 2 → Nat :=
  let v475 : Index := Scalar.indexCast v470
  let c16_200 : Index := 16#32
  ![v475.toNat, 16]
def k0_off1726 (v470 : BitVec 32) : Fin 2 → Nat :=
  let v479 : Index := Scalar.indexCast v470
  let c32_201 : Index := 32#32
  ![v479.toNat, 32]
def k0_off1727 (v470 : BitVec 32) : Fin 2 → Nat :=
  let v483 : Index := Scalar.indexCast v470
  let c48_202 : Index := 48#32
  ![v483.toNat, 48]

def k0_chk409 (v470 : BitVec 32) : Prop :=
  (∀ a, (k0_off1724 v470) a + S1x16.size a ≤ S704x64.size a) ∧
  (∀ a, (k0_off1725 v470) a + S1x16.size a ≤ S704x64.size a) ∧
  (∀ a, (k0_off1726 v470) a + S1x16.size a ≤ S704x64.size a) ∧
  (∀ a, (k0_off1727 v470) a + S1x16.size a ≤ S704x64.size a)
theorem k0_off1724_inb : ∀ (v470 : BitVec 32) (k0_hw409 : k0_chk409 v470), ∀ a, (k0_off1724 v470) a + S1x16.size a ≤ S704x64.size a := fun v470 k0_hw409 => k0_hw409.1
theorem k0_off1725_inb : ∀ (v470 : BitVec 32) (k0_hw409 : k0_chk409 v470), ∀ a, (k0_off1725 v470) a + S1x16.size a ≤ S704x64.size a := fun v470 k0_hw409 => k0_hw409.2.1
theorem k0_off1726_inb : ∀ (v470 : BitVec 32) (k0_hw409 : k0_chk409 v470), ∀ a, (k0_off1726 v470) a + S1x16.size a ≤ S704x64.size a := fun v470 k0_hw409 => k0_hw409.2.2.1
theorem k0_off1727_inb : ∀ (v470 : BitVec 32) (k0_hw409 : k0_chk409 v470), ∀ a, (k0_off1727 v470) a + S1x16.size a ≤ S704x64.size a := fun v470 k0_hw409 => k0_hw409.2.2.2

def k0_off1728 (v491 : BitVec 32) : Fin 2 → Nat :=
  let v492 : Index := Scalar.indexCast v491
  let c0_203 : Index := 0#32
  ![v492.toNat, 0]

def k0_off1729 (v491 : BitVec 32) : Fin 2 → Nat :=
  let v496 : Index := Scalar.indexCast v491
  let c16_204 : Index := 16#32
  ![v496.toNat, 16]
def k0_off1730 (v491 : BitVec 32) : Fin 2 → Nat :=
  let v500 : Index := Scalar.indexCast v491
  let c32_205 : Index := 32#32
  ![v500.toNat, 32]
def k0_off1731 (v491 : BitVec 32) : Fin 2 → Nat :=
  let v504 : Index := Scalar.indexCast v491
  let c48_206 : Index := 48#32
  ![v504.toNat, 48]

def k0_chk410 (v491 : BitVec 32) : Prop :=
  (∀ a, (k0_off1728 v491) a + S1x16.size a ≤ S704x64.size a) ∧
  (∀ a, (k0_off1729 v491) a + S1x16.size a ≤ S704x64.size a) ∧
  (∀ a, (k0_off1730 v491) a + S1x16.size a ≤ S704x64.size a) ∧
  (∀ a, (k0_off1731 v491) a + S1x16.size a ≤ S704x64.size a)
theorem k0_off1728_inb : ∀ (v491 : BitVec 32) (k0_hw410 : k0_chk410 v491), ∀ a, (k0_off1728 v491) a + S1x16.size a ≤ S704x64.size a := fun v491 k0_hw410 => k0_hw410.1
theorem k0_off1729_inb : ∀ (v491 : BitVec 32) (k0_hw410 : k0_chk410 v491), ∀ a, (k0_off1729 v491) a + S1x16.size a ≤ S704x64.size a := fun v491 k0_hw410 => k0_hw410.2.1
theorem k0_off1730_inb : ∀ (v491 : BitVec 32) (k0_hw410 : k0_chk410 v491), ∀ a, (k0_off1730 v491) a + S1x16.size a ≤ S704x64.size a := fun v491 k0_hw410 => k0_hw410.2.2.1
theorem k0_off1731_inb : ∀ (v491 : BitVec 32) (k0_hw410 : k0_chk410 v491), ∀ a, (k0_off1731 v491) a + S1x16.size a ≤ S704x64.size a := fun v491 k0_hw410 => k0_hw410.2.2.2

def k0_off1732 (v512 : BitVec 32) : Fin 2 → Nat :=
  let v513 : Index := Scalar.indexCast v512
  let c0_207 : Index := 0#32
  ![v513.toNat, 0]

def k0_off1733 (v512 : BitVec 32) : Fin 2 → Nat :=
  let v517 : Index := Scalar.indexCast v512
  let c16_208 : Index := 16#32
  ![v517.toNat, 16]
def k0_off1734 (v512 : BitVec 32) : Fin 2 → Nat :=
  let v521 : Index := Scalar.indexCast v512
  let c32_209 : Index := 32#32
  ![v521.toNat, 32]
def k0_off1735 (v512 : BitVec 32) : Fin 2 → Nat :=
  let v525 : Index := Scalar.indexCast v512
  let c48_210 : Index := 48#32
  ![v525.toNat, 48]

def k0_chk411 (v512 : BitVec 32) : Prop :=
  (∀ a, (k0_off1732 v512) a + S1x16.size a ≤ S704x64.size a) ∧
  (∀ a, (k0_off1733 v512) a + S1x16.size a ≤ S704x64.size a) ∧
  (∀ a, (k0_off1734 v512) a + S1x16.size a ≤ S704x64.size a) ∧
  (∀ a, (k0_off1735 v512) a + S1x16.size a ≤ S704x64.size a)
theorem k0_off1732_inb : ∀ (v512 : BitVec 32) (k0_hw411 : k0_chk411 v512), ∀ a, (k0_off1732 v512) a + S1x16.size a ≤ S704x64.size a := fun v512 k0_hw411 => k0_hw411.1
theorem k0_off1733_inb : ∀ (v512 : BitVec 32) (k0_hw411 : k0_chk411 v512), ∀ a, (k0_off1733 v512) a + S1x16.size a ≤ S704x64.size a := fun v512 k0_hw411 => k0_hw411.2.1
theorem k0_off1734_inb : ∀ (v512 : BitVec 32) (k0_hw411 : k0_chk411 v512), ∀ a, (k0_off1734 v512) a + S1x16.size a ≤ S704x64.size a := fun v512 k0_hw411 => k0_hw411.2.2.1
theorem k0_off1735_inb : ∀ (v512 : BitVec 32) (k0_hw411 : k0_chk411 v512), ∀ a, (k0_off1735 v512) a + S1x16.size a ≤ S704x64.size a := fun v512 k0_hw411 => k0_hw411.2.2.2

def k0_off1736 (v533 : BitVec 32) : Fin 2 → Nat :=
  let v534 : Index := Scalar.indexCast v533
  let c0_211 : Index := 0#32
  ![v534.toNat, 0]

def k0_off1737 (v533 : BitVec 32) : Fin 2 → Nat :=
  let v538 : Index := Scalar.indexCast v533
  let c16_212 : Index := 16#32
  ![v538.toNat, 16]
def k0_off1738 (v533 : BitVec 32) : Fin 2 → Nat :=
  let v542 : Index := Scalar.indexCast v533
  let c32_213 : Index := 32#32
  ![v542.toNat, 32]
def k0_off1739 (v533 : BitVec 32) : Fin 2 → Nat :=
  let v546 : Index := Scalar.indexCast v533
  let c48_214 : Index := 48#32
  ![v546.toNat, 48]

def k0_chk412 (v533 : BitVec 32) : Prop :=
  (∀ a, (k0_off1736 v533) a + S1x16.size a ≤ S704x64.size a) ∧
  (∀ a, (k0_off1737 v533) a + S1x16.size a ≤ S704x64.size a) ∧
  (∀ a, (k0_off1738 v533) a + S1x16.size a ≤ S704x64.size a) ∧
  (∀ a, (k0_off1739 v533) a + S1x16.size a ≤ S704x64.size a)
theorem k0_off1736_inb : ∀ (v533 : BitVec 32) (k0_hw412 : k0_chk412 v533), ∀ a, (k0_off1736 v533) a + S1x16.size a ≤ S704x64.size a := fun v533 k0_hw412 => k0_hw412.1
theorem k0_off1737_inb : ∀ (v533 : BitVec 32) (k0_hw412 : k0_chk412 v533), ∀ a, (k0_off1737 v533) a + S1x16.size a ≤ S704x64.size a := fun v533 k0_hw412 => k0_hw412.2.1
theorem k0_off1738_inb : ∀ (v533 : BitVec 32) (k0_hw412 : k0_chk412 v533), ∀ a, (k0_off1738 v533) a + S1x16.size a ≤ S704x64.size a := fun v533 k0_hw412 => k0_hw412.2.2.1
theorem k0_off1739_inb : ∀ (v533 : BitVec 32) (k0_hw412 : k0_chk412 v533), ∀ a, (k0_off1739 v533) a + S1x16.size a ≤ S704x64.size a := fun v533 k0_hw412 => k0_hw412.2.2.2

def k0_off1740 (v554 : BitVec 32) : Fin 2 → Nat :=
  let v555 : Index := Scalar.indexCast v554
  let c0_215 : Index := 0#32
  ![v555.toNat, 0]

def k0_off1741 (v554 : BitVec 32) : Fin 2 → Nat :=
  let v559 : Index := Scalar.indexCast v554
  let c16_216 : Index := 16#32
  ![v559.toNat, 16]
def k0_off1742 (v554 : BitVec 32) : Fin 2 → Nat :=
  let v563 : Index := Scalar.indexCast v554
  let c32_217 : Index := 32#32
  ![v563.toNat, 32]
def k0_off1743 (v554 : BitVec 32) : Fin 2 → Nat :=
  let v567 : Index := Scalar.indexCast v554
  let c48_218 : Index := 48#32
  ![v567.toNat, 48]

def k0_chk413 (v554 : BitVec 32) : Prop :=
  (∀ a, (k0_off1740 v554) a + S1x16.size a ≤ S704x64.size a) ∧
  (∀ a, (k0_off1741 v554) a + S1x16.size a ≤ S704x64.size a) ∧
  (∀ a, (k0_off1742 v554) a + S1x16.size a ≤ S704x64.size a) ∧
  (∀ a, (k0_off1743 v554) a + S1x16.size a ≤ S704x64.size a)
theorem k0_off1740_inb : ∀ (v554 : BitVec 32) (k0_hw413 : k0_chk413 v554), ∀ a, (k0_off1740 v554) a + S1x16.size a ≤ S704x64.size a := fun v554 k0_hw413 => k0_hw413.1
theorem k0_off1741_inb : ∀ (v554 : BitVec 32) (k0_hw413 : k0_chk413 v554), ∀ a, (k0_off1741 v554) a + S1x16.size a ≤ S704x64.size a := fun v554 k0_hw413 => k0_hw413.2.1
theorem k0_off1742_inb : ∀ (v554 : BitVec 32) (k0_hw413 : k0_chk413 v554), ∀ a, (k0_off1742 v554) a + S1x16.size a ≤ S704x64.size a := fun v554 k0_hw413 => k0_hw413.2.2.1
theorem k0_off1743_inb : ∀ (v554 : BitVec 32) (k0_hw413 : k0_chk413 v554), ∀ a, (k0_off1743 v554) a + S1x16.size a ≤ S704x64.size a := fun v554 k0_hw413 => k0_hw413.2.2.2

def k0_off1744 (v575 : BitVec 32) : Fin 2 → Nat :=
  let v576 : Index := Scalar.indexCast v575
  let c0_219 : Index := 0#32
  ![v576.toNat, 0]

def k0_off1745 (v575 : BitVec 32) : Fin 2 → Nat :=
  let v580 : Index := Scalar.indexCast v575
  let c16_220 : Index := 16#32
  ![v580.toNat, 16]
def k0_off1746 (v575 : BitVec 32) : Fin 2 → Nat :=
  let v584 : Index := Scalar.indexCast v575
  let c32_221 : Index := 32#32
  ![v584.toNat, 32]
def k0_off1747 (v575 : BitVec 32) : Fin 2 → Nat :=
  let v588 : Index := Scalar.indexCast v575
  let c48_222 : Index := 48#32
  ![v588.toNat, 48]

def k0_chk414 (v575 : BitVec 32) : Prop :=
  (∀ a, (k0_off1744 v575) a + S1x16.size a ≤ S704x64.size a) ∧
  (∀ a, (k0_off1745 v575) a + S1x16.size a ≤ S704x64.size a) ∧
  (∀ a, (k0_off1746 v575) a + S1x16.size a ≤ S704x64.size a) ∧
  (∀ a, (k0_off1747 v575) a + S1x16.size a ≤ S704x64.size a)
theorem k0_off1744_inb : ∀ (v575 : BitVec 32) (k0_hw414 : k0_chk414 v575), ∀ a, (k0_off1744 v575) a + S1x16.size a ≤ S704x64.size a := fun v575 k0_hw414 => k0_hw414.1
theorem k0_off1745_inb : ∀ (v575 : BitVec 32) (k0_hw414 : k0_chk414 v575), ∀ a, (k0_off1745 v575) a + S1x16.size a ≤ S704x64.size a := fun v575 k0_hw414 => k0_hw414.2.1
theorem k0_off1746_inb : ∀ (v575 : BitVec 32) (k0_hw414 : k0_chk414 v575), ∀ a, (k0_off1746 v575) a + S1x16.size a ≤ S704x64.size a := fun v575 k0_hw414 => k0_hw414.2.2.1
theorem k0_off1747_inb : ∀ (v575 : BitVec 32) (k0_hw414 : k0_chk414 v575), ∀ a, (k0_off1747 v575) a + S1x16.size a ≤ S704x64.size a := fun v575 k0_hw414 => k0_hw414.2.2.2

def k0_off1748 (v596 : BitVec 32) : Fin 2 → Nat :=
  let v597 : Index := Scalar.indexCast v596
  let c0_223 : Index := 0#32
  ![v597.toNat, 0]

def k0_off1749 (v596 : BitVec 32) : Fin 2 → Nat :=
  let v601 : Index := Scalar.indexCast v596
  let c16_224 : Index := 16#32
  ![v601.toNat, 16]
def k0_off1750 (v596 : BitVec 32) : Fin 2 → Nat :=
  let v605 : Index := Scalar.indexCast v596
  let c32_225 : Index := 32#32
  ![v605.toNat, 32]
def k0_off1751 (v596 : BitVec 32) : Fin 2 → Nat :=
  let v609 : Index := Scalar.indexCast v596
  let c48_226 : Index := 48#32
  ![v609.toNat, 48]

def k0_chk415 (v596 : BitVec 32) : Prop :=
  (∀ a, (k0_off1748 v596) a + S1x16.size a ≤ S704x64.size a) ∧
  (∀ a, (k0_off1749 v596) a + S1x16.size a ≤ S704x64.size a) ∧
  (∀ a, (k0_off1750 v596) a + S1x16.size a ≤ S704x64.size a) ∧
  (∀ a, (k0_off1751 v596) a + S1x16.size a ≤ S704x64.size a)
theorem k0_off1748_inb : ∀ (v596 : BitVec 32) (k0_hw415 : k0_chk415 v596), ∀ a, (k0_off1748 v596) a + S1x16.size a ≤ S704x64.size a := fun v596 k0_hw415 => k0_hw415.1
theorem k0_off1749_inb : ∀ (v596 : BitVec 32) (k0_hw415 : k0_chk415 v596), ∀ a, (k0_off1749 v596) a + S1x16.size a ≤ S704x64.size a := fun v596 k0_hw415 => k0_hw415.2.1
theorem k0_off1750_inb : ∀ (v596 : BitVec 32) (k0_hw415 : k0_chk415 v596), ∀ a, (k0_off1750 v596) a + S1x16.size a ≤ S704x64.size a := fun v596 k0_hw415 => k0_hw415.2.2.1
theorem k0_off1751_inb : ∀ (v596 : BitVec 32) (k0_hw415 : k0_chk415 v596), ∀ a, (k0_off1751 v596) a + S1x16.size a ≤ S704x64.size a := fun v596 k0_hw415 => k0_hw415.2.2.2

def k0_off1752 (v617 : BitVec 32) : Fin 2 → Nat :=
  let v618 : Index := Scalar.indexCast v617
  let c0_227 : Index := 0#32
  ![v618.toNat, 0]

def k0_off1753 (v617 : BitVec 32) : Fin 2 → Nat :=
  let v622 : Index := Scalar.indexCast v617
  let c16_228 : Index := 16#32
  ![v622.toNat, 16]
def k0_off1754 (v617 : BitVec 32) : Fin 2 → Nat :=
  let v626 : Index := Scalar.indexCast v617
  let c32_229 : Index := 32#32
  ![v626.toNat, 32]
def k0_off1755 (v617 : BitVec 32) : Fin 2 → Nat :=
  let v630 : Index := Scalar.indexCast v617
  let c48_230 : Index := 48#32
  ![v630.toNat, 48]

def k0_chk416 (v617 : BitVec 32) : Prop :=
  (∀ a, (k0_off1752 v617) a + S1x16.size a ≤ S704x64.size a) ∧
  (∀ a, (k0_off1753 v617) a + S1x16.size a ≤ S704x64.size a) ∧
  (∀ a, (k0_off1754 v617) a + S1x16.size a ≤ S704x64.size a) ∧
  (∀ a, (k0_off1755 v617) a + S1x16.size a ≤ S704x64.size a)
theorem k0_off1752_inb : ∀ (v617 : BitVec 32) (k0_hw416 : k0_chk416 v617), ∀ a, (k0_off1752 v617) a + S1x16.size a ≤ S704x64.size a := fun v617 k0_hw416 => k0_hw416.1
theorem k0_off1753_inb : ∀ (v617 : BitVec 32) (k0_hw416 : k0_chk416 v617), ∀ a, (k0_off1753 v617) a + S1x16.size a ≤ S704x64.size a := fun v617 k0_hw416 => k0_hw416.2.1
theorem k0_off1754_inb : ∀ (v617 : BitVec 32) (k0_hw416 : k0_chk416 v617), ∀ a, (k0_off1754 v617) a + S1x16.size a ≤ S704x64.size a := fun v617 k0_hw416 => k0_hw416.2.2.1
theorem k0_off1755_inb : ∀ (v617 : BitVec 32) (k0_hw416 : k0_chk416 v617), ∀ a, (k0_off1755 v617) a + S1x16.size a ≤ S704x64.size a := fun v617 k0_hw416 => k0_hw416.2.2.2

def k0_off1756 (v638 : BitVec 32) : Fin 2 → Nat :=
  let v639 : Index := Scalar.indexCast v638
  let c0_231 : Index := 0#32
  ![v639.toNat, 0]

def k0_off1757 (v638 : BitVec 32) : Fin 2 → Nat :=
  let v643 : Index := Scalar.indexCast v638
  let c16_232 : Index := 16#32
  ![v643.toNat, 16]
def k0_off1758 (v638 : BitVec 32) : Fin 2 → Nat :=
  let v647 : Index := Scalar.indexCast v638
  let c32_233 : Index := 32#32
  ![v647.toNat, 32]
def k0_off1759 (v638 : BitVec 32) : Fin 2 → Nat :=
  let v651 : Index := Scalar.indexCast v638
  let c48_234 : Index := 48#32
  ![v651.toNat, 48]

def k0_chk417 (v638 : BitVec 32) : Prop :=
  (∀ a, (k0_off1756 v638) a + S1x16.size a ≤ S704x64.size a) ∧
  (∀ a, (k0_off1757 v638) a + S1x16.size a ≤ S704x64.size a) ∧
  (∀ a, (k0_off1758 v638) a + S1x16.size a ≤ S704x64.size a) ∧
  (∀ a, (k0_off1759 v638) a + S1x16.size a ≤ S704x64.size a)
theorem k0_off1756_inb : ∀ (v638 : BitVec 32) (k0_hw417 : k0_chk417 v638), ∀ a, (k0_off1756 v638) a + S1x16.size a ≤ S704x64.size a := fun v638 k0_hw417 => k0_hw417.1
theorem k0_off1757_inb : ∀ (v638 : BitVec 32) (k0_hw417 : k0_chk417 v638), ∀ a, (k0_off1757 v638) a + S1x16.size a ≤ S704x64.size a := fun v638 k0_hw417 => k0_hw417.2.1
theorem k0_off1758_inb : ∀ (v638 : BitVec 32) (k0_hw417 : k0_chk417 v638), ∀ a, (k0_off1758 v638) a + S1x16.size a ≤ S704x64.size a := fun v638 k0_hw417 => k0_hw417.2.2.1
theorem k0_off1759_inb : ∀ (v638 : BitVec 32) (k0_hw417 : k0_chk417 v638), ∀ a, (k0_off1759 v638) a + S1x16.size a ≤ S704x64.size a := fun v638 k0_hw417 => k0_hw417.2.2.2

def k0_off1760 (v659 : BitVec 32) : Fin 2 → Nat :=
  let v660 : Index := Scalar.indexCast v659
  let c0_235 : Index := 0#32
  ![v660.toNat, 0]

def k0_off1761 (v659 : BitVec 32) : Fin 2 → Nat :=
  let v664 : Index := Scalar.indexCast v659
  let c16_236 : Index := 16#32
  ![v664.toNat, 16]
def k0_off1762 (v659 : BitVec 32) : Fin 2 → Nat :=
  let v668 : Index := Scalar.indexCast v659
  let c32_237 : Index := 32#32
  ![v668.toNat, 32]
def k0_off1763 (v659 : BitVec 32) : Fin 2 → Nat :=
  let v672 : Index := Scalar.indexCast v659
  let c48_238 : Index := 48#32
  ![v672.toNat, 48]

def k0_chk418 (v659 : BitVec 32) : Prop :=
  (∀ a, (k0_off1760 v659) a + S1x16.size a ≤ S704x64.size a) ∧
  (∀ a, (k0_off1761 v659) a + S1x16.size a ≤ S704x64.size a) ∧
  (∀ a, (k0_off1762 v659) a + S1x16.size a ≤ S704x64.size a) ∧
  (∀ a, (k0_off1763 v659) a + S1x16.size a ≤ S704x64.size a)
theorem k0_off1760_inb : ∀ (v659 : BitVec 32) (k0_hw418 : k0_chk418 v659), ∀ a, (k0_off1760 v659) a + S1x16.size a ≤ S704x64.size a := fun v659 k0_hw418 => k0_hw418.1
theorem k0_off1761_inb : ∀ (v659 : BitVec 32) (k0_hw418 : k0_chk418 v659), ∀ a, (k0_off1761 v659) a + S1x16.size a ≤ S704x64.size a := fun v659 k0_hw418 => k0_hw418.2.1
theorem k0_off1762_inb : ∀ (v659 : BitVec 32) (k0_hw418 : k0_chk418 v659), ∀ a, (k0_off1762 v659) a + S1x16.size a ≤ S704x64.size a := fun v659 k0_hw418 => k0_hw418.2.2.1
theorem k0_off1763_inb : ∀ (v659 : BitVec 32) (k0_hw418 : k0_chk418 v659), ∀ a, (k0_off1763 v659) a + S1x16.size a ≤ S704x64.size a := fun v659 k0_hw418 => k0_hw418.2.2.2

def k0_off1764 (v680 : BitVec 32) : Fin 2 → Nat :=
  let v681 : Index := Scalar.indexCast v680
  let c0_239 : Index := 0#32
  ![v681.toNat, 0]

def k0_off1765 (v680 : BitVec 32) : Fin 2 → Nat :=
  let v685 : Index := Scalar.indexCast v680
  let c16_240 : Index := 16#32
  ![v685.toNat, 16]
def k0_off1766 (v680 : BitVec 32) : Fin 2 → Nat :=
  let v689 : Index := Scalar.indexCast v680
  let c32_241 : Index := 32#32
  ![v689.toNat, 32]
def k0_off1767 (v680 : BitVec 32) : Fin 2 → Nat :=
  let v693 : Index := Scalar.indexCast v680
  let c48_242 : Index := 48#32
  ![v693.toNat, 48]

def k0_chk419 (v680 : BitVec 32) : Prop :=
  (∀ a, (k0_off1764 v680) a + S1x16.size a ≤ S704x64.size a) ∧
  (∀ a, (k0_off1765 v680) a + S1x16.size a ≤ S704x64.size a) ∧
  (∀ a, (k0_off1766 v680) a + S1x16.size a ≤ S704x64.size a) ∧
  (∀ a, (k0_off1767 v680) a + S1x16.size a ≤ S704x64.size a)
theorem k0_off1764_inb : ∀ (v680 : BitVec 32) (k0_hw419 : k0_chk419 v680), ∀ a, (k0_off1764 v680) a + S1x16.size a ≤ S704x64.size a := fun v680 k0_hw419 => k0_hw419.1
theorem k0_off1765_inb : ∀ (v680 : BitVec 32) (k0_hw419 : k0_chk419 v680), ∀ a, (k0_off1765 v680) a + S1x16.size a ≤ S704x64.size a := fun v680 k0_hw419 => k0_hw419.2.1
theorem k0_off1766_inb : ∀ (v680 : BitVec 32) (k0_hw419 : k0_chk419 v680), ∀ a, (k0_off1766 v680) a + S1x16.size a ≤ S704x64.size a := fun v680 k0_hw419 => k0_hw419.2.2.1
theorem k0_off1767_inb : ∀ (v680 : BitVec 32) (k0_hw419 : k0_chk419 v680), ∀ a, (k0_off1767 v680) a + S1x16.size a ≤ S704x64.size a := fun v680 k0_hw419 => k0_hw419.2.2.2

def k0_off1768 (v701 : BitVec 32) : Fin 2 → Nat :=
  let v702 : Index := Scalar.indexCast v701
  let c0_243 : Index := 0#32
  ![v702.toNat, 0]

def k0_off1769 (v701 : BitVec 32) : Fin 2 → Nat :=
  let v706 : Index := Scalar.indexCast v701
  let c16_244 : Index := 16#32
  ![v706.toNat, 16]
def k0_off1770 (v701 : BitVec 32) : Fin 2 → Nat :=
  let v710 : Index := Scalar.indexCast v701
  let c32_245 : Index := 32#32
  ![v710.toNat, 32]
def k0_off1771 (v701 : BitVec 32) : Fin 2 → Nat :=
  let v714 : Index := Scalar.indexCast v701
  let c48_246 : Index := 48#32
  ![v714.toNat, 48]

def k0_chk420 (v701 : BitVec 32) : Prop :=
  (∀ a, (k0_off1768 v701) a + S1x16.size a ≤ S704x64.size a) ∧
  (∀ a, (k0_off1769 v701) a + S1x16.size a ≤ S704x64.size a) ∧
  (∀ a, (k0_off1770 v701) a + S1x16.size a ≤ S704x64.size a) ∧
  (∀ a, (k0_off1771 v701) a + S1x16.size a ≤ S704x64.size a)
theorem k0_off1768_inb : ∀ (v701 : BitVec 32) (k0_hw420 : k0_chk420 v701), ∀ a, (k0_off1768 v701) a + S1x16.size a ≤ S704x64.size a := fun v701 k0_hw420 => k0_hw420.1
theorem k0_off1769_inb : ∀ (v701 : BitVec 32) (k0_hw420 : k0_chk420 v701), ∀ a, (k0_off1769 v701) a + S1x16.size a ≤ S704x64.size a := fun v701 k0_hw420 => k0_hw420.2.1
theorem k0_off1770_inb : ∀ (v701 : BitVec 32) (k0_hw420 : k0_chk420 v701), ∀ a, (k0_off1770 v701) a + S1x16.size a ≤ S704x64.size a := fun v701 k0_hw420 => k0_hw420.2.2.1
theorem k0_off1771_inb : ∀ (v701 : BitVec 32) (k0_hw420 : k0_chk420 v701), ∀ a, (k0_off1771 v701) a + S1x16.size a ≤ S704x64.size a := fun v701 k0_hw420 => k0_hw420.2.2.2

def k0_off1772 (v722 : BitVec 32) : Fin 2 → Nat :=
  let v723 : Index := Scalar.indexCast v722
  let c0_247 : Index := 0#32
  ![v723.toNat, 0]

def k0_off1773 (v722 : BitVec 32) : Fin 2 → Nat :=
  let v727 : Index := Scalar.indexCast v722
  let c16_248 : Index := 16#32
  ![v727.toNat, 16]
def k0_off1774 (v722 : BitVec 32) : Fin 2 → Nat :=
  let v731 : Index := Scalar.indexCast v722
  let c32_249 : Index := 32#32
  ![v731.toNat, 32]
def k0_off1775 (v722 : BitVec 32) : Fin 2 → Nat :=
  let v735 : Index := Scalar.indexCast v722
  let c48_250 : Index := 48#32
  ![v735.toNat, 48]

def k0_chk421 (v722 : BitVec 32) : Prop :=
  (∀ a, (k0_off1772 v722) a + S1x16.size a ≤ S704x64.size a) ∧
  (∀ a, (k0_off1773 v722) a + S1x16.size a ≤ S704x64.size a) ∧
  (∀ a, (k0_off1774 v722) a + S1x16.size a ≤ S704x64.size a) ∧
  (∀ a, (k0_off1775 v722) a + S1x16.size a ≤ S704x64.size a)
theorem k0_off1772_inb : ∀ (v722 : BitVec 32) (k0_hw421 : k0_chk421 v722), ∀ a, (k0_off1772 v722) a + S1x16.size a ≤ S704x64.size a := fun v722 k0_hw421 => k0_hw421.1
theorem k0_off1773_inb : ∀ (v722 : BitVec 32) (k0_hw421 : k0_chk421 v722), ∀ a, (k0_off1773 v722) a + S1x16.size a ≤ S704x64.size a := fun v722 k0_hw421 => k0_hw421.2.1
theorem k0_off1774_inb : ∀ (v722 : BitVec 32) (k0_hw421 : k0_chk421 v722), ∀ a, (k0_off1774 v722) a + S1x16.size a ≤ S704x64.size a := fun v722 k0_hw421 => k0_hw421.2.2.1
theorem k0_off1775_inb : ∀ (v722 : BitVec 32) (k0_hw421 : k0_chk421 v722), ∀ a, (k0_off1775 v722) a + S1x16.size a ≤ S704x64.size a := fun v722 k0_hw421 => k0_hw421.2.2.2

def k0_off1776 (v743 : BitVec 32) : Fin 2 → Nat :=
  let v744 : Index := Scalar.indexCast v743
  let c0_251 : Index := 0#32
  ![v744.toNat, 0]

def k0_off1777 (v743 : BitVec 32) : Fin 2 → Nat :=
  let v748 : Index := Scalar.indexCast v743
  let c16_252 : Index := 16#32
  ![v748.toNat, 16]
def k0_off1778 (v743 : BitVec 32) : Fin 2 → Nat :=
  let v752 : Index := Scalar.indexCast v743
  let c32_253 : Index := 32#32
  ![v752.toNat, 32]
def k0_off1779 (v743 : BitVec 32) : Fin 2 → Nat :=
  let v756 : Index := Scalar.indexCast v743
  let c48_254 : Index := 48#32
  ![v756.toNat, 48]

def k0_chk422 (v743 : BitVec 32) : Prop :=
  (∀ a, (k0_off1776 v743) a + S1x16.size a ≤ S704x64.size a) ∧
  (∀ a, (k0_off1777 v743) a + S1x16.size a ≤ S704x64.size a) ∧
  (∀ a, (k0_off1778 v743) a + S1x16.size a ≤ S704x64.size a) ∧
  (∀ a, (k0_off1779 v743) a + S1x16.size a ≤ S704x64.size a)
theorem k0_off1776_inb : ∀ (v743 : BitVec 32) (k0_hw422 : k0_chk422 v743), ∀ a, (k0_off1776 v743) a + S1x16.size a ≤ S704x64.size a := fun v743 k0_hw422 => k0_hw422.1
theorem k0_off1777_inb : ∀ (v743 : BitVec 32) (k0_hw422 : k0_chk422 v743), ∀ a, (k0_off1777 v743) a + S1x16.size a ≤ S704x64.size a := fun v743 k0_hw422 => k0_hw422.2.1
theorem k0_off1778_inb : ∀ (v743 : BitVec 32) (k0_hw422 : k0_chk422 v743), ∀ a, (k0_off1778 v743) a + S1x16.size a ≤ S704x64.size a := fun v743 k0_hw422 => k0_hw422.2.2.1
theorem k0_off1779_inb : ∀ (v743 : BitVec 32) (k0_hw422 : k0_chk422 v743), ∀ a, (k0_off1779 v743) a + S1x16.size a ≤ S704x64.size a := fun v743 k0_hw422 => k0_hw422.2.2.2

def k0_off1780 (v764 : BitVec 32) : Fin 2 → Nat :=
  let v765 : Index := Scalar.indexCast v764
  let c0_255 : Index := 0#32
  ![v765.toNat, 0]

def k0_off1781 (v764 : BitVec 32) : Fin 2 → Nat :=
  let v769 : Index := Scalar.indexCast v764
  let c16_256 : Index := 16#32
  ![v769.toNat, 16]
def k0_off1782 (v764 : BitVec 32) : Fin 2 → Nat :=
  let v773 : Index := Scalar.indexCast v764
  let c32_257 : Index := 32#32
  ![v773.toNat, 32]
def k0_off1783 (v764 : BitVec 32) : Fin 2 → Nat :=
  let v777 : Index := Scalar.indexCast v764
  let c48_258 : Index := 48#32
  ![v777.toNat, 48]

def k0_chk423 (v764 : BitVec 32) : Prop :=
  (∀ a, (k0_off1780 v764) a + S1x16.size a ≤ S704x64.size a) ∧
  (∀ a, (k0_off1781 v764) a + S1x16.size a ≤ S704x64.size a) ∧
  (∀ a, (k0_off1782 v764) a + S1x16.size a ≤ S704x64.size a) ∧
  (∀ a, (k0_off1783 v764) a + S1x16.size a ≤ S704x64.size a)
theorem k0_off1780_inb : ∀ (v764 : BitVec 32) (k0_hw423 : k0_chk423 v764), ∀ a, (k0_off1780 v764) a + S1x16.size a ≤ S704x64.size a := fun v764 k0_hw423 => k0_hw423.1
theorem k0_off1781_inb : ∀ (v764 : BitVec 32) (k0_hw423 : k0_chk423 v764), ∀ a, (k0_off1781 v764) a + S1x16.size a ≤ S704x64.size a := fun v764 k0_hw423 => k0_hw423.2.1
theorem k0_off1782_inb : ∀ (v764 : BitVec 32) (k0_hw423 : k0_chk423 v764), ∀ a, (k0_off1782 v764) a + S1x16.size a ≤ S704x64.size a := fun v764 k0_hw423 => k0_hw423.2.2.1
theorem k0_off1783_inb : ∀ (v764 : BitVec 32) (k0_hw423 : k0_chk423 v764), ∀ a, (k0_off1783 v764) a + S1x16.size a ≤ S704x64.size a := fun v764 k0_hw423 => k0_hw423.2.2.2

def k0_off1784 (v785 : BitVec 32) : Fin 2 → Nat :=
  let v786 : Index := Scalar.indexCast v785
  let c0_259 : Index := 0#32
  ![v786.toNat, 0]

def k0_off1785 (v785 : BitVec 32) : Fin 2 → Nat :=
  let v790 : Index := Scalar.indexCast v785
  let c16_260 : Index := 16#32
  ![v790.toNat, 16]
def k0_off1786 (v785 : BitVec 32) : Fin 2 → Nat :=
  let v794 : Index := Scalar.indexCast v785
  let c32_261 : Index := 32#32
  ![v794.toNat, 32]
def k0_off1787 (v785 : BitVec 32) : Fin 2 → Nat :=
  let v798 : Index := Scalar.indexCast v785
  let c48_262 : Index := 48#32
  ![v798.toNat, 48]

def k0_chk424 (v785 : BitVec 32) : Prop :=
  (∀ a, (k0_off1784 v785) a + S1x16.size a ≤ S704x64.size a) ∧
  (∀ a, (k0_off1785 v785) a + S1x16.size a ≤ S704x64.size a) ∧
  (∀ a, (k0_off1786 v785) a + S1x16.size a ≤ S704x64.size a) ∧
  (∀ a, (k0_off1787 v785) a + S1x16.size a ≤ S704x64.size a)
theorem k0_off1784_inb : ∀ (v785 : BitVec 32) (k0_hw424 : k0_chk424 v785), ∀ a, (k0_off1784 v785) a + S1x16.size a ≤ S704x64.size a := fun v785 k0_hw424 => k0_hw424.1
theorem k0_off1785_inb : ∀ (v785 : BitVec 32) (k0_hw424 : k0_chk424 v785), ∀ a, (k0_off1785 v785) a + S1x16.size a ≤ S704x64.size a := fun v785 k0_hw424 => k0_hw424.2.1
theorem k0_off1786_inb : ∀ (v785 : BitVec 32) (k0_hw424 : k0_chk424 v785), ∀ a, (k0_off1786 v785) a + S1x16.size a ≤ S704x64.size a := fun v785 k0_hw424 => k0_hw424.2.2.1
theorem k0_off1787_inb : ∀ (v785 : BitVec 32) (k0_hw424 : k0_chk424 v785), ∀ a, (k0_off1787 v785) a + S1x16.size a ≤ S704x64.size a := fun v785 k0_hw424 => k0_hw424.2.2.2

def k0_off1788 (v806 : BitVec 32) : Fin 2 → Nat :=
  let v807 : Index := Scalar.indexCast v806
  let c0_263 : Index := 0#32
  ![v807.toNat, 0]

def k0_off1789 (v806 : BitVec 32) : Fin 2 → Nat :=
  let v811 : Index := Scalar.indexCast v806
  let c16_264 : Index := 16#32
  ![v811.toNat, 16]
def k0_off1790 (v806 : BitVec 32) : Fin 2 → Nat :=
  let v815 : Index := Scalar.indexCast v806
  let c32_265 : Index := 32#32
  ![v815.toNat, 32]
def k0_off1791 (v806 : BitVec 32) : Fin 2 → Nat :=
  let v819 : Index := Scalar.indexCast v806
  let c48_266 : Index := 48#32
  ![v819.toNat, 48]

def k0_chk425 (v806 : BitVec 32) : Prop :=
  (∀ a, (k0_off1788 v806) a + S1x16.size a ≤ S704x64.size a) ∧
  (∀ a, (k0_off1789 v806) a + S1x16.size a ≤ S704x64.size a) ∧
  (∀ a, (k0_off1790 v806) a + S1x16.size a ≤ S704x64.size a) ∧
  (∀ a, (k0_off1791 v806) a + S1x16.size a ≤ S704x64.size a)
theorem k0_off1788_inb : ∀ (v806 : BitVec 32) (k0_hw425 : k0_chk425 v806), ∀ a, (k0_off1788 v806) a + S1x16.size a ≤ S704x64.size a := fun v806 k0_hw425 => k0_hw425.1
theorem k0_off1789_inb : ∀ (v806 : BitVec 32) (k0_hw425 : k0_chk425 v806), ∀ a, (k0_off1789 v806) a + S1x16.size a ≤ S704x64.size a := fun v806 k0_hw425 => k0_hw425.2.1
theorem k0_off1790_inb : ∀ (v806 : BitVec 32) (k0_hw425 : k0_chk425 v806), ∀ a, (k0_off1790 v806) a + S1x16.size a ≤ S704x64.size a := fun v806 k0_hw425 => k0_hw425.2.2.1
theorem k0_off1791_inb : ∀ (v806 : BitVec 32) (k0_hw425 : k0_chk425 v806), ∀ a, (k0_off1791 v806) a + S1x16.size a ≤ S704x64.size a := fun v806 k0_hw425 => k0_hw425.2.2.2

def k0_off1792 (v827 : BitVec 32) : Fin 2 → Nat :=
  let v828 : Index := Scalar.indexCast v827
  let c0_267 : Index := 0#32
  ![v828.toNat, 0]

def k0_off1793 (v827 : BitVec 32) : Fin 2 → Nat :=
  let v832 : Index := Scalar.indexCast v827
  let c16_268 : Index := 16#32
  ![v832.toNat, 16]
def k0_off1794 (v827 : BitVec 32) : Fin 2 → Nat :=
  let v836 : Index := Scalar.indexCast v827
  let c32_269 : Index := 32#32
  ![v836.toNat, 32]
def k0_off1795 (v827 : BitVec 32) : Fin 2 → Nat :=
  let v840 : Index := Scalar.indexCast v827
  let c48_270 : Index := 48#32
  ![v840.toNat, 48]

def k0_chk426 (v827 : BitVec 32) : Prop :=
  (∀ a, (k0_off1792 v827) a + S1x16.size a ≤ S704x64.size a) ∧
  (∀ a, (k0_off1793 v827) a + S1x16.size a ≤ S704x64.size a) ∧
  (∀ a, (k0_off1794 v827) a + S1x16.size a ≤ S704x64.size a) ∧
  (∀ a, (k0_off1795 v827) a + S1x16.size a ≤ S704x64.size a)
theorem k0_off1792_inb : ∀ (v827 : BitVec 32) (k0_hw426 : k0_chk426 v827), ∀ a, (k0_off1792 v827) a + S1x16.size a ≤ S704x64.size a := fun v827 k0_hw426 => k0_hw426.1
theorem k0_off1793_inb : ∀ (v827 : BitVec 32) (k0_hw426 : k0_chk426 v827), ∀ a, (k0_off1793 v827) a + S1x16.size a ≤ S704x64.size a := fun v827 k0_hw426 => k0_hw426.2.1
theorem k0_off1794_inb : ∀ (v827 : BitVec 32) (k0_hw426 : k0_chk426 v827), ∀ a, (k0_off1794 v827) a + S1x16.size a ≤ S704x64.size a := fun v827 k0_hw426 => k0_hw426.2.2.1
theorem k0_off1795_inb : ∀ (v827 : BitVec 32) (k0_hw426 : k0_chk426 v827), ∀ a, (k0_off1795 v827) a + S1x16.size a ≤ S704x64.size a := fun v827 k0_hw426 => k0_hw426.2.2.2

def k0_off1796 (v848 : BitVec 32) : Fin 2 → Nat :=
  let v849 : Index := Scalar.indexCast v848
  let c0_271 : Index := 0#32
  ![v849.toNat, 0]

def k0_off1797 (v848 : BitVec 32) : Fin 2 → Nat :=
  let v853 : Index := Scalar.indexCast v848
  let c16_272 : Index := 16#32
  ![v853.toNat, 16]
def k0_off1798 (v848 : BitVec 32) : Fin 2 → Nat :=
  let v857 : Index := Scalar.indexCast v848
  let c32_273 : Index := 32#32
  ![v857.toNat, 32]
def k0_off1799 (v848 : BitVec 32) : Fin 2 → Nat :=
  let v861 : Index := Scalar.indexCast v848
  let c48_274 : Index := 48#32
  ![v861.toNat, 48]

def k0_chk427 (v848 : BitVec 32) : Prop :=
  (∀ a, (k0_off1796 v848) a + S1x16.size a ≤ S704x64.size a) ∧
  (∀ a, (k0_off1797 v848) a + S1x16.size a ≤ S704x64.size a) ∧
  (∀ a, (k0_off1798 v848) a + S1x16.size a ≤ S704x64.size a) ∧
  (∀ a, (k0_off1799 v848) a + S1x16.size a ≤ S704x64.size a)
theorem k0_off1796_inb : ∀ (v848 : BitVec 32) (k0_hw427 : k0_chk427 v848), ∀ a, (k0_off1796 v848) a + S1x16.size a ≤ S704x64.size a := fun v848 k0_hw427 => k0_hw427.1
theorem k0_off1797_inb : ∀ (v848 : BitVec 32) (k0_hw427 : k0_chk427 v848), ∀ a, (k0_off1797 v848) a + S1x16.size a ≤ S704x64.size a := fun v848 k0_hw427 => k0_hw427.2.1
theorem k0_off1798_inb : ∀ (v848 : BitVec 32) (k0_hw427 : k0_chk427 v848), ∀ a, (k0_off1798 v848) a + S1x16.size a ≤ S704x64.size a := fun v848 k0_hw427 => k0_hw427.2.2.1
theorem k0_off1799_inb : ∀ (v848 : BitVec 32) (k0_hw427 : k0_chk427 v848), ∀ a, (k0_off1799 v848) a + S1x16.size a ≤ S704x64.size a := fun v848 k0_hw427 => k0_hw427.2.2.2

def k0_off1800 (v869 : BitVec 32) : Fin 2 → Nat :=
  let v870 : Index := Scalar.indexCast v869
  let c0_275 : Index := 0#32
  ![v870.toNat, 0]

def k0_off1801 (v869 : BitVec 32) : Fin 2 → Nat :=
  let v874 : Index := Scalar.indexCast v869
  let c16_276 : Index := 16#32
  ![v874.toNat, 16]
def k0_off1802 (v869 : BitVec 32) : Fin 2 → Nat :=
  let v878 : Index := Scalar.indexCast v869
  let c32_277 : Index := 32#32
  ![v878.toNat, 32]
def k0_off1803 (v869 : BitVec 32) : Fin 2 → Nat :=
  let v882 : Index := Scalar.indexCast v869
  let c48_278 : Index := 48#32
  ![v882.toNat, 48]

def k0_chk428 (v869 : BitVec 32) : Prop :=
  (∀ a, (k0_off1800 v869) a + S1x16.size a ≤ S704x64.size a) ∧
  (∀ a, (k0_off1801 v869) a + S1x16.size a ≤ S704x64.size a) ∧
  (∀ a, (k0_off1802 v869) a + S1x16.size a ≤ S704x64.size a) ∧
  (∀ a, (k0_off1803 v869) a + S1x16.size a ≤ S704x64.size a)
theorem k0_off1800_inb : ∀ (v869 : BitVec 32) (k0_hw428 : k0_chk428 v869), ∀ a, (k0_off1800 v869) a + S1x16.size a ≤ S704x64.size a := fun v869 k0_hw428 => k0_hw428.1
theorem k0_off1801_inb : ∀ (v869 : BitVec 32) (k0_hw428 : k0_chk428 v869), ∀ a, (k0_off1801 v869) a + S1x16.size a ≤ S704x64.size a := fun v869 k0_hw428 => k0_hw428.2.1
theorem k0_off1802_inb : ∀ (v869 : BitVec 32) (k0_hw428 : k0_chk428 v869), ∀ a, (k0_off1802 v869) a + S1x16.size a ≤ S704x64.size a := fun v869 k0_hw428 => k0_hw428.2.2.1
theorem k0_off1803_inb : ∀ (v869 : BitVec 32) (k0_hw428 : k0_chk428 v869), ∀ a, (k0_off1803 v869) a + S1x16.size a ≤ S704x64.size a := fun v869 k0_hw428 => k0_hw428.2.2.2

def k0_off1804 (v890 : BitVec 32) : Fin 2 → Nat :=
  let v891 : Index := Scalar.indexCast v890
  let c0_279 : Index := 0#32
  ![v891.toNat, 0]

def k0_off1805 (v890 : BitVec 32) : Fin 2 → Nat :=
  let v895 : Index := Scalar.indexCast v890
  let c16_280 : Index := 16#32
  ![v895.toNat, 16]
def k0_off1806 (v890 : BitVec 32) : Fin 2 → Nat :=
  let v899 : Index := Scalar.indexCast v890
  let c32_281 : Index := 32#32
  ![v899.toNat, 32]
def k0_off1807 (v890 : BitVec 32) : Fin 2 → Nat :=
  let v903 : Index := Scalar.indexCast v890
  let c48_282 : Index := 48#32
  ![v903.toNat, 48]

def k0_chk429 (v890 : BitVec 32) : Prop :=
  (∀ a, (k0_off1804 v890) a + S1x16.size a ≤ S704x64.size a) ∧
  (∀ a, (k0_off1805 v890) a + S1x16.size a ≤ S704x64.size a) ∧
  (∀ a, (k0_off1806 v890) a + S1x16.size a ≤ S704x64.size a) ∧
  (∀ a, (k0_off1807 v890) a + S1x16.size a ≤ S704x64.size a)
theorem k0_off1804_inb : ∀ (v890 : BitVec 32) (k0_hw429 : k0_chk429 v890), ∀ a, (k0_off1804 v890) a + S1x16.size a ≤ S704x64.size a := fun v890 k0_hw429 => k0_hw429.1
theorem k0_off1805_inb : ∀ (v890 : BitVec 32) (k0_hw429 : k0_chk429 v890), ∀ a, (k0_off1805 v890) a + S1x16.size a ≤ S704x64.size a := fun v890 k0_hw429 => k0_hw429.2.1
theorem k0_off1806_inb : ∀ (v890 : BitVec 32) (k0_hw429 : k0_chk429 v890), ∀ a, (k0_off1806 v890) a + S1x16.size a ≤ S704x64.size a := fun v890 k0_hw429 => k0_hw429.2.2.1
theorem k0_off1807_inb : ∀ (v890 : BitVec 32) (k0_hw429 : k0_chk429 v890), ∀ a, (k0_off1807 v890) a + S1x16.size a ≤ S704x64.size a := fun v890 k0_hw429 => k0_hw429.2.2.2

def k0_off1808 (k0_t7 : Fin k0_t7_loop.trips) : Fin 2 → Nat :=
  let c2_i32_143 : BitVec 32 := 2#32
  let c0_i32_128 : BitVec 32 := 0#32
  let c1_i32_130 : BitVec 32 := 1#32
  let arg13 : BitVec 32 := Scf.iv c0_i32_128 c1_i32_130 k0_t7
  let v189 : BitVec 32 := Scalar.muli c2_i32_143 arg13
  let v907 : Index := Scalar.indexCast v189
  let c0_283 : Index := 0#32
  ![v907.toNat, 0]
def k0_off1809 (k0_t7 : Fin k0_t7_loop.trips) : Fin 2 → Nat :=
  let c2_i32_143 : BitVec 32 := 2#32
  let c0_i32_128 : BitVec 32 := 0#32
  let c1_i32_130 : BitVec 32 := 1#32
  let arg13 : BitVec 32 := Scf.iv c0_i32_128 c1_i32_130 k0_t7
  let v189 : BitVec 32 := Scalar.muli c2_i32_143 arg13
  let v909 : Index := Scalar.indexCast v189
  let c16_284 : Index := 16#32
  ![v909.toNat, 16]
def k0_off1810 (k0_t7 : Fin k0_t7_loop.trips) : Fin 2 → Nat :=
  let c2_i32_143 : BitVec 32 := 2#32
  let c0_i32_128 : BitVec 32 := 0#32
  let c1_i32_130 : BitVec 32 := 1#32
  let arg13 : BitVec 32 := Scf.iv c0_i32_128 c1_i32_130 k0_t7
  let v189 : BitVec 32 := Scalar.muli c2_i32_143 arg13
  let v911 : Index := Scalar.indexCast v189
  let c32_285 : Index := 32#32
  ![v911.toNat, 32]
def k0_off1811 (k0_t7 : Fin k0_t7_loop.trips) : Fin 2 → Nat :=
  let c2_i32_143 : BitVec 32 := 2#32
  let c0_i32_128 : BitVec 32 := 0#32
  let c1_i32_130 : BitVec 32 := 1#32
  let arg13 : BitVec 32 := Scf.iv c0_i32_128 c1_i32_130 k0_t7
  let v189 : BitVec 32 := Scalar.muli c2_i32_143 arg13
  let v913 : Index := Scalar.indexCast v189
  let c48_286 : Index := 48#32
  ![v913.toNat, 48]
def k0_off1812 (k0_t7 : Fin k0_t7_loop.trips) : Fin 2 → Nat :=
  let c2_i32_144 : BitVec 32 := 2#32
  let c0_i32_128 : BitVec 32 := 0#32
  let c1_i32_130 : BitVec 32 := 1#32
  let arg13 : BitVec 32 := Scf.iv c0_i32_128 c1_i32_130 k0_t7
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off1813 (k0_t7 : Fin k0_t7_loop.trips) : Fin 2 → Nat :=
  let c2_i32_144 : BitVec 32 := 2#32
  let c0_i32_128 : BitVec 32 := 0#32
  let c1_i32_130 : BitVec 32 := 1#32
  let arg13 : BitVec 32 := Scf.iv c0_i32_128 c1_i32_130 k0_t7
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off1814 (k0_t7 : Fin k0_t7_loop.trips) : Fin 2 → Nat :=
  let c2_i32_144 : BitVec 32 := 2#32
  let c0_i32_128 : BitVec 32 := 0#32
  let c1_i32_130 : BitVec 32 := 1#32
  let arg13 : BitVec 32 := Scf.iv c0_i32_128 c1_i32_130 k0_t7
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off1815 (v941 : BitVec 32) : Fin 2 → Nat :=
  let v942 : Index := Scalar.indexCast v941
  let c0_297 : Index := 0#32
  ![v942.toNat, 0]

def k0_off1816 (v941 : BitVec 32) : Fin 2 → Nat :=
  let v946 : Index := Scalar.indexCast v941
  let c16_298 : Index := 16#32
  ![v946.toNat, 16]
def k0_off1817 (v941 : BitVec 32) : Fin 2 → Nat :=
  let v950 : Index := Scalar.indexCast v941
  let c32_299 : Index := 32#32
  ![v950.toNat, 32]
def k0_off1818 (v941 : BitVec 32) : Fin 2 → Nat :=
  let v954 : Index := Scalar.indexCast v941
  let c48_300 : Index := 48#32
  ![v954.toNat, 48]

def k0_chk430 (v941 : BitVec 32) : Prop :=
  (∀ a, (k0_off1815 v941) a + S1x16.size a ≤ S704x64.size a) ∧
  (∀ a, (k0_off1816 v941) a + S1x16.size a ≤ S704x64.size a) ∧
  (∀ a, (k0_off1817 v941) a + S1x16.size a ≤ S704x64.size a) ∧
  (∀ a, (k0_off1818 v941) a + S1x16.size a ≤ S704x64.size a)
theorem k0_off1815_inb : ∀ (v941 : BitVec 32) (k0_hw430 : k0_chk430 v941), ∀ a, (k0_off1815 v941) a + S1x16.size a ≤ S704x64.size a := fun v941 k0_hw430 => k0_hw430.1
theorem k0_off1816_inb : ∀ (v941 : BitVec 32) (k0_hw430 : k0_chk430 v941), ∀ a, (k0_off1816 v941) a + S1x16.size a ≤ S704x64.size a := fun v941 k0_hw430 => k0_hw430.2.1
theorem k0_off1817_inb : ∀ (v941 : BitVec 32) (k0_hw430 : k0_chk430 v941), ∀ a, (k0_off1817 v941) a + S1x16.size a ≤ S704x64.size a := fun v941 k0_hw430 => k0_hw430.2.2.1
theorem k0_off1818_inb : ∀ (v941 : BitVec 32) (k0_hw430 : k0_chk430 v941), ∀ a, (k0_off1818 v941) a + S1x16.size a ≤ S704x64.size a := fun v941 k0_hw430 => k0_hw430.2.2.2

def k0_off1819 (v962 : BitVec 32) : Fin 2 → Nat :=
  let v963 : Index := Scalar.indexCast v962
  let c0_301 : Index := 0#32
  ![v963.toNat, 0]

def k0_off1820 (v962 : BitVec 32) : Fin 2 → Nat :=
  let v967 : Index := Scalar.indexCast v962
  let c16_302 : Index := 16#32
  ![v967.toNat, 16]
def k0_off1821 (v962 : BitVec 32) : Fin 2 → Nat :=
  let v971 : Index := Scalar.indexCast v962
  let c32_303 : Index := 32#32
  ![v971.toNat, 32]
def k0_off1822 (v962 : BitVec 32) : Fin 2 → Nat :=
  let v975 : Index := Scalar.indexCast v962
  let c48_304 : Index := 48#32
  ![v975.toNat, 48]

def k0_chk431 (v962 : BitVec 32) : Prop :=
  (∀ a, (k0_off1819 v962) a + S1x16.size a ≤ S704x64.size a) ∧
  (∀ a, (k0_off1820 v962) a + S1x16.size a ≤ S704x64.size a) ∧
  (∀ a, (k0_off1821 v962) a + S1x16.size a ≤ S704x64.size a) ∧
  (∀ a, (k0_off1822 v962) a + S1x16.size a ≤ S704x64.size a)
theorem k0_off1819_inb : ∀ (v962 : BitVec 32) (k0_hw431 : k0_chk431 v962), ∀ a, (k0_off1819 v962) a + S1x16.size a ≤ S704x64.size a := fun v962 k0_hw431 => k0_hw431.1
theorem k0_off1820_inb : ∀ (v962 : BitVec 32) (k0_hw431 : k0_chk431 v962), ∀ a, (k0_off1820 v962) a + S1x16.size a ≤ S704x64.size a := fun v962 k0_hw431 => k0_hw431.2.1
theorem k0_off1821_inb : ∀ (v962 : BitVec 32) (k0_hw431 : k0_chk431 v962), ∀ a, (k0_off1821 v962) a + S1x16.size a ≤ S704x64.size a := fun v962 k0_hw431 => k0_hw431.2.2.1
theorem k0_off1822_inb : ∀ (v962 : BitVec 32) (k0_hw431 : k0_chk431 v962), ∀ a, (k0_off1822 v962) a + S1x16.size a ≤ S704x64.size a := fun v962 k0_hw431 => k0_hw431.2.2.2

def k0_off1823 (v983 : BitVec 32) : Fin 2 → Nat :=
  let v984 : Index := Scalar.indexCast v983
  let c0_305 : Index := 0#32
  ![v984.toNat, 0]

def k0_off1824 (v983 : BitVec 32) : Fin 2 → Nat :=
  let v988 : Index := Scalar.indexCast v983
  let c16_306 : Index := 16#32
  ![v988.toNat, 16]
def k0_off1825 (v983 : BitVec 32) : Fin 2 → Nat :=
  let v992 : Index := Scalar.indexCast v983
  let c32_307 : Index := 32#32
  ![v992.toNat, 32]
def k0_off1826 (v983 : BitVec 32) : Fin 2 → Nat :=
  let v996 : Index := Scalar.indexCast v983
  let c48_308 : Index := 48#32
  ![v996.toNat, 48]

def k0_chk432 (v983 : BitVec 32) : Prop :=
  (∀ a, (k0_off1823 v983) a + S1x16.size a ≤ S704x64.size a) ∧
  (∀ a, (k0_off1824 v983) a + S1x16.size a ≤ S704x64.size a) ∧
  (∀ a, (k0_off1825 v983) a + S1x16.size a ≤ S704x64.size a) ∧
  (∀ a, (k0_off1826 v983) a + S1x16.size a ≤ S704x64.size a)
theorem k0_off1823_inb : ∀ (v983 : BitVec 32) (k0_hw432 : k0_chk432 v983), ∀ a, (k0_off1823 v983) a + S1x16.size a ≤ S704x64.size a := fun v983 k0_hw432 => k0_hw432.1
theorem k0_off1824_inb : ∀ (v983 : BitVec 32) (k0_hw432 : k0_chk432 v983), ∀ a, (k0_off1824 v983) a + S1x16.size a ≤ S704x64.size a := fun v983 k0_hw432 => k0_hw432.2.1
theorem k0_off1825_inb : ∀ (v983 : BitVec 32) (k0_hw432 : k0_chk432 v983), ∀ a, (k0_off1825 v983) a + S1x16.size a ≤ S704x64.size a := fun v983 k0_hw432 => k0_hw432.2.2.1
theorem k0_off1826_inb : ∀ (v983 : BitVec 32) (k0_hw432 : k0_chk432 v983), ∀ a, (k0_off1826 v983) a + S1x16.size a ≤ S704x64.size a := fun v983 k0_hw432 => k0_hw432.2.2.2

def k0_off1827 (v1004 : BitVec 32) : Fin 2 → Nat :=
  let v1005 : Index := Scalar.indexCast v1004
  let c0_309 : Index := 0#32
  ![v1005.toNat, 0]

def k0_off1828 (v1004 : BitVec 32) : Fin 2 → Nat :=
  let v1009 : Index := Scalar.indexCast v1004
  let c16_310 : Index := 16#32
  ![v1009.toNat, 16]
def k0_off1829 (v1004 : BitVec 32) : Fin 2 → Nat :=
  let v1013 : Index := Scalar.indexCast v1004
  let c32_311 : Index := 32#32
  ![v1013.toNat, 32]
def k0_off1830 (v1004 : BitVec 32) : Fin 2 → Nat :=
  let v1017 : Index := Scalar.indexCast v1004
  let c48_312 : Index := 48#32
  ![v1017.toNat, 48]

def k0_chk433 (v1004 : BitVec 32) : Prop :=
  (∀ a, (k0_off1827 v1004) a + S1x16.size a ≤ S704x64.size a) ∧
  (∀ a, (k0_off1828 v1004) a + S1x16.size a ≤ S704x64.size a) ∧
  (∀ a, (k0_off1829 v1004) a + S1x16.size a ≤ S704x64.size a) ∧
  (∀ a, (k0_off1830 v1004) a + S1x16.size a ≤ S704x64.size a)
theorem k0_off1827_inb : ∀ (v1004 : BitVec 32) (k0_hw433 : k0_chk433 v1004), ∀ a, (k0_off1827 v1004) a + S1x16.size a ≤ S704x64.size a := fun v1004 k0_hw433 => k0_hw433.1
theorem k0_off1828_inb : ∀ (v1004 : BitVec 32) (k0_hw433 : k0_chk433 v1004), ∀ a, (k0_off1828 v1004) a + S1x16.size a ≤ S704x64.size a := fun v1004 k0_hw433 => k0_hw433.2.1
theorem k0_off1829_inb : ∀ (v1004 : BitVec 32) (k0_hw433 : k0_chk433 v1004), ∀ a, (k0_off1829 v1004) a + S1x16.size a ≤ S704x64.size a := fun v1004 k0_hw433 => k0_hw433.2.2.1
theorem k0_off1830_inb : ∀ (v1004 : BitVec 32) (k0_hw433 : k0_chk433 v1004), ∀ a, (k0_off1830 v1004) a + S1x16.size a ≤ S704x64.size a := fun v1004 k0_hw433 => k0_hw433.2.2.2

def k0_off1831 (v1025 : BitVec 32) : Fin 2 → Nat :=
  let v1026 : Index := Scalar.indexCast v1025
  let c0_313 : Index := 0#32
  ![v1026.toNat, 0]

def k0_off1832 (v1025 : BitVec 32) : Fin 2 → Nat :=
  let v1030 : Index := Scalar.indexCast v1025
  let c16_314 : Index := 16#32
  ![v1030.toNat, 16]
def k0_off1833 (v1025 : BitVec 32) : Fin 2 → Nat :=
  let v1034 : Index := Scalar.indexCast v1025
  let c32_315 : Index := 32#32
  ![v1034.toNat, 32]
def k0_off1834 (v1025 : BitVec 32) : Fin 2 → Nat :=
  let v1038 : Index := Scalar.indexCast v1025
  let c48_316 : Index := 48#32
  ![v1038.toNat, 48]

def k0_chk434 (v1025 : BitVec 32) : Prop :=
  (∀ a, (k0_off1831 v1025) a + S1x16.size a ≤ S704x64.size a) ∧
  (∀ a, (k0_off1832 v1025) a + S1x16.size a ≤ S704x64.size a) ∧
  (∀ a, (k0_off1833 v1025) a + S1x16.size a ≤ S704x64.size a) ∧
  (∀ a, (k0_off1834 v1025) a + S1x16.size a ≤ S704x64.size a)
theorem k0_off1831_inb : ∀ (v1025 : BitVec 32) (k0_hw434 : k0_chk434 v1025), ∀ a, (k0_off1831 v1025) a + S1x16.size a ≤ S704x64.size a := fun v1025 k0_hw434 => k0_hw434.1
theorem k0_off1832_inb : ∀ (v1025 : BitVec 32) (k0_hw434 : k0_chk434 v1025), ∀ a, (k0_off1832 v1025) a + S1x16.size a ≤ S704x64.size a := fun v1025 k0_hw434 => k0_hw434.2.1
theorem k0_off1833_inb : ∀ (v1025 : BitVec 32) (k0_hw434 : k0_chk434 v1025), ∀ a, (k0_off1833 v1025) a + S1x16.size a ≤ S704x64.size a := fun v1025 k0_hw434 => k0_hw434.2.2.1
theorem k0_off1834_inb : ∀ (v1025 : BitVec 32) (k0_hw434 : k0_chk434 v1025), ∀ a, (k0_off1834 v1025) a + S1x16.size a ≤ S704x64.size a := fun v1025 k0_hw434 => k0_hw434.2.2.2

def k0_off1835 (v1046 : BitVec 32) : Fin 2 → Nat :=
  let v1047 : Index := Scalar.indexCast v1046
  let c0_317 : Index := 0#32
  ![v1047.toNat, 0]

def k0_off1836 (v1046 : BitVec 32) : Fin 2 → Nat :=
  let v1051 : Index := Scalar.indexCast v1046
  let c16_318 : Index := 16#32
  ![v1051.toNat, 16]
def k0_off1837 (v1046 : BitVec 32) : Fin 2 → Nat :=
  let v1055 : Index := Scalar.indexCast v1046
  let c32_319 : Index := 32#32
  ![v1055.toNat, 32]
def k0_off1838 (v1046 : BitVec 32) : Fin 2 → Nat :=
  let v1059 : Index := Scalar.indexCast v1046
  let c48_320 : Index := 48#32
  ![v1059.toNat, 48]

def k0_chk435 (v1046 : BitVec 32) : Prop :=
  (∀ a, (k0_off1835 v1046) a + S1x16.size a ≤ S704x64.size a) ∧
  (∀ a, (k0_off1836 v1046) a + S1x16.size a ≤ S704x64.size a) ∧
  (∀ a, (k0_off1837 v1046) a + S1x16.size a ≤ S704x64.size a) ∧
  (∀ a, (k0_off1838 v1046) a + S1x16.size a ≤ S704x64.size a)
theorem k0_off1835_inb : ∀ (v1046 : BitVec 32) (k0_hw435 : k0_chk435 v1046), ∀ a, (k0_off1835 v1046) a + S1x16.size a ≤ S704x64.size a := fun v1046 k0_hw435 => k0_hw435.1
theorem k0_off1836_inb : ∀ (v1046 : BitVec 32) (k0_hw435 : k0_chk435 v1046), ∀ a, (k0_off1836 v1046) a + S1x16.size a ≤ S704x64.size a := fun v1046 k0_hw435 => k0_hw435.2.1
theorem k0_off1837_inb : ∀ (v1046 : BitVec 32) (k0_hw435 : k0_chk435 v1046), ∀ a, (k0_off1837 v1046) a + S1x16.size a ≤ S704x64.size a := fun v1046 k0_hw435 => k0_hw435.2.2.1
theorem k0_off1838_inb : ∀ (v1046 : BitVec 32) (k0_hw435 : k0_chk435 v1046), ∀ a, (k0_off1838 v1046) a + S1x16.size a ≤ S704x64.size a := fun v1046 k0_hw435 => k0_hw435.2.2.2

def k0_off1839 (v1067 : BitVec 32) : Fin 2 → Nat :=
  let v1068 : Index := Scalar.indexCast v1067
  let c0_321 : Index := 0#32
  ![v1068.toNat, 0]

def k0_off1840 (v1067 : BitVec 32) : Fin 2 → Nat :=
  let v1072 : Index := Scalar.indexCast v1067
  let c16_322 : Index := 16#32
  ![v1072.toNat, 16]
def k0_off1841 (v1067 : BitVec 32) : Fin 2 → Nat :=
  let v1076 : Index := Scalar.indexCast v1067
  let c32_323 : Index := 32#32
  ![v1076.toNat, 32]
def k0_off1842 (v1067 : BitVec 32) : Fin 2 → Nat :=
  let v1080 : Index := Scalar.indexCast v1067
  let c48_324 : Index := 48#32
  ![v1080.toNat, 48]

def k0_chk436 (v1067 : BitVec 32) : Prop :=
  (∀ a, (k0_off1839 v1067) a + S1x16.size a ≤ S704x64.size a) ∧
  (∀ a, (k0_off1840 v1067) a + S1x16.size a ≤ S704x64.size a) ∧
  (∀ a, (k0_off1841 v1067) a + S1x16.size a ≤ S704x64.size a) ∧
  (∀ a, (k0_off1842 v1067) a + S1x16.size a ≤ S704x64.size a)
theorem k0_off1839_inb : ∀ (v1067 : BitVec 32) (k0_hw436 : k0_chk436 v1067), ∀ a, (k0_off1839 v1067) a + S1x16.size a ≤ S704x64.size a := fun v1067 k0_hw436 => k0_hw436.1
theorem k0_off1840_inb : ∀ (v1067 : BitVec 32) (k0_hw436 : k0_chk436 v1067), ∀ a, (k0_off1840 v1067) a + S1x16.size a ≤ S704x64.size a := fun v1067 k0_hw436 => k0_hw436.2.1
theorem k0_off1841_inb : ∀ (v1067 : BitVec 32) (k0_hw436 : k0_chk436 v1067), ∀ a, (k0_off1841 v1067) a + S1x16.size a ≤ S704x64.size a := fun v1067 k0_hw436 => k0_hw436.2.2.1
theorem k0_off1842_inb : ∀ (v1067 : BitVec 32) (k0_hw436 : k0_chk436 v1067), ∀ a, (k0_off1842 v1067) a + S1x16.size a ≤ S704x64.size a := fun v1067 k0_hw436 => k0_hw436.2.2.2

def k0_off1843 (v1088 : BitVec 32) : Fin 2 → Nat :=
  let v1089 : Index := Scalar.indexCast v1088
  let c0_325 : Index := 0#32
  ![v1089.toNat, 0]

def k0_off1844 (v1088 : BitVec 32) : Fin 2 → Nat :=
  let v1093 : Index := Scalar.indexCast v1088
  let c16_326 : Index := 16#32
  ![v1093.toNat, 16]
def k0_off1845 (v1088 : BitVec 32) : Fin 2 → Nat :=
  let v1097 : Index := Scalar.indexCast v1088
  let c32_327 : Index := 32#32
  ![v1097.toNat, 32]
def k0_off1846 (v1088 : BitVec 32) : Fin 2 → Nat :=
  let v1101 : Index := Scalar.indexCast v1088
  let c48_328 : Index := 48#32
  ![v1101.toNat, 48]

def k0_chk437 (v1088 : BitVec 32) : Prop :=
  (∀ a, (k0_off1843 v1088) a + S1x16.size a ≤ S704x64.size a) ∧
  (∀ a, (k0_off1844 v1088) a + S1x16.size a ≤ S704x64.size a) ∧
  (∀ a, (k0_off1845 v1088) a + S1x16.size a ≤ S704x64.size a) ∧
  (∀ a, (k0_off1846 v1088) a + S1x16.size a ≤ S704x64.size a)
theorem k0_off1843_inb : ∀ (v1088 : BitVec 32) (k0_hw437 : k0_chk437 v1088), ∀ a, (k0_off1843 v1088) a + S1x16.size a ≤ S704x64.size a := fun v1088 k0_hw437 => k0_hw437.1
theorem k0_off1844_inb : ∀ (v1088 : BitVec 32) (k0_hw437 : k0_chk437 v1088), ∀ a, (k0_off1844 v1088) a + S1x16.size a ≤ S704x64.size a := fun v1088 k0_hw437 => k0_hw437.2.1
theorem k0_off1845_inb : ∀ (v1088 : BitVec 32) (k0_hw437 : k0_chk437 v1088), ∀ a, (k0_off1845 v1088) a + S1x16.size a ≤ S704x64.size a := fun v1088 k0_hw437 => k0_hw437.2.2.1
theorem k0_off1846_inb : ∀ (v1088 : BitVec 32) (k0_hw437 : k0_chk437 v1088), ∀ a, (k0_off1846 v1088) a + S1x16.size a ≤ S704x64.size a := fun v1088 k0_hw437 => k0_hw437.2.2.2

def k0_off1847 (v1109 : BitVec 32) : Fin 2 → Nat :=
  let v1110 : Index := Scalar.indexCast v1109
  let c0_329 : Index := 0#32
  ![v1110.toNat, 0]

def k0_off1848 (v1109 : BitVec 32) : Fin 2 → Nat :=
  let v1114 : Index := Scalar.indexCast v1109
  let c16_330 : Index := 16#32
  ![v1114.toNat, 16]
def k0_off1849 (v1109 : BitVec 32) : Fin 2 → Nat :=
  let v1118 : Index := Scalar.indexCast v1109
  let c32_331 : Index := 32#32
  ![v1118.toNat, 32]
def k0_off1850 (v1109 : BitVec 32) : Fin 2 → Nat :=
  let v1122 : Index := Scalar.indexCast v1109
  let c48_332 : Index := 48#32
  ![v1122.toNat, 48]

def k0_chk438 (v1109 : BitVec 32) : Prop :=
  (∀ a, (k0_off1847 v1109) a + S1x16.size a ≤ S704x64.size a) ∧
  (∀ a, (k0_off1848 v1109) a + S1x16.size a ≤ S704x64.size a) ∧
  (∀ a, (k0_off1849 v1109) a + S1x16.size a ≤ S704x64.size a) ∧
  (∀ a, (k0_off1850 v1109) a + S1x16.size a ≤ S704x64.size a)
theorem k0_off1847_inb : ∀ (v1109 : BitVec 32) (k0_hw438 : k0_chk438 v1109), ∀ a, (k0_off1847 v1109) a + S1x16.size a ≤ S704x64.size a := fun v1109 k0_hw438 => k0_hw438.1
theorem k0_off1848_inb : ∀ (v1109 : BitVec 32) (k0_hw438 : k0_chk438 v1109), ∀ a, (k0_off1848 v1109) a + S1x16.size a ≤ S704x64.size a := fun v1109 k0_hw438 => k0_hw438.2.1
theorem k0_off1849_inb : ∀ (v1109 : BitVec 32) (k0_hw438 : k0_chk438 v1109), ∀ a, (k0_off1849 v1109) a + S1x16.size a ≤ S704x64.size a := fun v1109 k0_hw438 => k0_hw438.2.2.1
theorem k0_off1850_inb : ∀ (v1109 : BitVec 32) (k0_hw438 : k0_chk438 v1109), ∀ a, (k0_off1850 v1109) a + S1x16.size a ≤ S704x64.size a := fun v1109 k0_hw438 => k0_hw438.2.2.2

def k0_off1851 (v1130 : BitVec 32) : Fin 2 → Nat :=
  let v1131 : Index := Scalar.indexCast v1130
  let c0_333 : Index := 0#32
  ![v1131.toNat, 0]

def k0_off1852 (v1130 : BitVec 32) : Fin 2 → Nat :=
  let v1135 : Index := Scalar.indexCast v1130
  let c16_334 : Index := 16#32
  ![v1135.toNat, 16]
def k0_off1853 (v1130 : BitVec 32) : Fin 2 → Nat :=
  let v1139 : Index := Scalar.indexCast v1130
  let c32_335 : Index := 32#32
  ![v1139.toNat, 32]
def k0_off1854 (v1130 : BitVec 32) : Fin 2 → Nat :=
  let v1143 : Index := Scalar.indexCast v1130
  let c48_336 : Index := 48#32
  ![v1143.toNat, 48]

def k0_chk439 (v1130 : BitVec 32) : Prop :=
  (∀ a, (k0_off1851 v1130) a + S1x16.size a ≤ S704x64.size a) ∧
  (∀ a, (k0_off1852 v1130) a + S1x16.size a ≤ S704x64.size a) ∧
  (∀ a, (k0_off1853 v1130) a + S1x16.size a ≤ S704x64.size a) ∧
  (∀ a, (k0_off1854 v1130) a + S1x16.size a ≤ S704x64.size a)
theorem k0_off1851_inb : ∀ (v1130 : BitVec 32) (k0_hw439 : k0_chk439 v1130), ∀ a, (k0_off1851 v1130) a + S1x16.size a ≤ S704x64.size a := fun v1130 k0_hw439 => k0_hw439.1
theorem k0_off1852_inb : ∀ (v1130 : BitVec 32) (k0_hw439 : k0_chk439 v1130), ∀ a, (k0_off1852 v1130) a + S1x16.size a ≤ S704x64.size a := fun v1130 k0_hw439 => k0_hw439.2.1
theorem k0_off1853_inb : ∀ (v1130 : BitVec 32) (k0_hw439 : k0_chk439 v1130), ∀ a, (k0_off1853 v1130) a + S1x16.size a ≤ S704x64.size a := fun v1130 k0_hw439 => k0_hw439.2.2.1
theorem k0_off1854_inb : ∀ (v1130 : BitVec 32) (k0_hw439 : k0_chk439 v1130), ∀ a, (k0_off1854 v1130) a + S1x16.size a ≤ S704x64.size a := fun v1130 k0_hw439 => k0_hw439.2.2.2

def k0_off1855 (v1151 : BitVec 32) : Fin 2 → Nat :=
  let v1152 : Index := Scalar.indexCast v1151
  let c0_337 : Index := 0#32
  ![v1152.toNat, 0]

def k0_off1856 (v1151 : BitVec 32) : Fin 2 → Nat :=
  let v1156 : Index := Scalar.indexCast v1151
  let c16_338 : Index := 16#32
  ![v1156.toNat, 16]
def k0_off1857 (v1151 : BitVec 32) : Fin 2 → Nat :=
  let v1160 : Index := Scalar.indexCast v1151
  let c32_339 : Index := 32#32
  ![v1160.toNat, 32]
def k0_off1858 (v1151 : BitVec 32) : Fin 2 → Nat :=
  let v1164 : Index := Scalar.indexCast v1151
  let c48_340 : Index := 48#32
  ![v1164.toNat, 48]

def k0_chk440 (v1151 : BitVec 32) : Prop :=
  (∀ a, (k0_off1855 v1151) a + S1x16.size a ≤ S704x64.size a) ∧
  (∀ a, (k0_off1856 v1151) a + S1x16.size a ≤ S704x64.size a) ∧
  (∀ a, (k0_off1857 v1151) a + S1x16.size a ≤ S704x64.size a) ∧
  (∀ a, (k0_off1858 v1151) a + S1x16.size a ≤ S704x64.size a)
theorem k0_off1855_inb : ∀ (v1151 : BitVec 32) (k0_hw440 : k0_chk440 v1151), ∀ a, (k0_off1855 v1151) a + S1x16.size a ≤ S704x64.size a := fun v1151 k0_hw440 => k0_hw440.1
theorem k0_off1856_inb : ∀ (v1151 : BitVec 32) (k0_hw440 : k0_chk440 v1151), ∀ a, (k0_off1856 v1151) a + S1x16.size a ≤ S704x64.size a := fun v1151 k0_hw440 => k0_hw440.2.1
theorem k0_off1857_inb : ∀ (v1151 : BitVec 32) (k0_hw440 : k0_chk440 v1151), ∀ a, (k0_off1857 v1151) a + S1x16.size a ≤ S704x64.size a := fun v1151 k0_hw440 => k0_hw440.2.2.1
theorem k0_off1858_inb : ∀ (v1151 : BitVec 32) (k0_hw440 : k0_chk440 v1151), ∀ a, (k0_off1858 v1151) a + S1x16.size a ≤ S704x64.size a := fun v1151 k0_hw440 => k0_hw440.2.2.2

def k0_off1859 (v1172 : BitVec 32) : Fin 2 → Nat :=
  let v1173 : Index := Scalar.indexCast v1172
  let c0_341 : Index := 0#32
  ![v1173.toNat, 0]

def k0_off1860 (v1172 : BitVec 32) : Fin 2 → Nat :=
  let v1177 : Index := Scalar.indexCast v1172
  let c16_342 : Index := 16#32
  ![v1177.toNat, 16]
def k0_off1861 (v1172 : BitVec 32) : Fin 2 → Nat :=
  let v1181 : Index := Scalar.indexCast v1172
  let c32_343 : Index := 32#32
  ![v1181.toNat, 32]
def k0_off1862 (v1172 : BitVec 32) : Fin 2 → Nat :=
  let v1185 : Index := Scalar.indexCast v1172
  let c48_344 : Index := 48#32
  ![v1185.toNat, 48]

def k0_chk441 (v1172 : BitVec 32) : Prop :=
  (∀ a, (k0_off1859 v1172) a + S1x16.size a ≤ S704x64.size a) ∧
  (∀ a, (k0_off1860 v1172) a + S1x16.size a ≤ S704x64.size a) ∧
  (∀ a, (k0_off1861 v1172) a + S1x16.size a ≤ S704x64.size a) ∧
  (∀ a, (k0_off1862 v1172) a + S1x16.size a ≤ S704x64.size a)
theorem k0_off1859_inb : ∀ (v1172 : BitVec 32) (k0_hw441 : k0_chk441 v1172), ∀ a, (k0_off1859 v1172) a + S1x16.size a ≤ S704x64.size a := fun v1172 k0_hw441 => k0_hw441.1
theorem k0_off1860_inb : ∀ (v1172 : BitVec 32) (k0_hw441 : k0_chk441 v1172), ∀ a, (k0_off1860 v1172) a + S1x16.size a ≤ S704x64.size a := fun v1172 k0_hw441 => k0_hw441.2.1
theorem k0_off1861_inb : ∀ (v1172 : BitVec 32) (k0_hw441 : k0_chk441 v1172), ∀ a, (k0_off1861 v1172) a + S1x16.size a ≤ S704x64.size a := fun v1172 k0_hw441 => k0_hw441.2.2.1
theorem k0_off1862_inb : ∀ (v1172 : BitVec 32) (k0_hw441 : k0_chk441 v1172), ∀ a, (k0_off1862 v1172) a + S1x16.size a ≤ S704x64.size a := fun v1172 k0_hw441 => k0_hw441.2.2.2

def k0_off1863 (v1193 : BitVec 32) : Fin 2 → Nat :=
  let v1194 : Index := Scalar.indexCast v1193
  let c0_345 : Index := 0#32
  ![v1194.toNat, 0]

def k0_off1864 (v1193 : BitVec 32) : Fin 2 → Nat :=
  let v1198 : Index := Scalar.indexCast v1193
  let c16_346 : Index := 16#32
  ![v1198.toNat, 16]
def k0_off1865 (v1193 : BitVec 32) : Fin 2 → Nat :=
  let v1202 : Index := Scalar.indexCast v1193
  let c32_347 : Index := 32#32
  ![v1202.toNat, 32]
def k0_off1866 (v1193 : BitVec 32) : Fin 2 → Nat :=
  let v1206 : Index := Scalar.indexCast v1193
  let c48_348 : Index := 48#32
  ![v1206.toNat, 48]

def k0_chk442 (v1193 : BitVec 32) : Prop :=
  (∀ a, (k0_off1863 v1193) a + S1x16.size a ≤ S704x64.size a) ∧
  (∀ a, (k0_off1864 v1193) a + S1x16.size a ≤ S704x64.size a) ∧
  (∀ a, (k0_off1865 v1193) a + S1x16.size a ≤ S704x64.size a) ∧
  (∀ a, (k0_off1866 v1193) a + S1x16.size a ≤ S704x64.size a)
theorem k0_off1863_inb : ∀ (v1193 : BitVec 32) (k0_hw442 : k0_chk442 v1193), ∀ a, (k0_off1863 v1193) a + S1x16.size a ≤ S704x64.size a := fun v1193 k0_hw442 => k0_hw442.1
theorem k0_off1864_inb : ∀ (v1193 : BitVec 32) (k0_hw442 : k0_chk442 v1193), ∀ a, (k0_off1864 v1193) a + S1x16.size a ≤ S704x64.size a := fun v1193 k0_hw442 => k0_hw442.2.1
theorem k0_off1865_inb : ∀ (v1193 : BitVec 32) (k0_hw442 : k0_chk442 v1193), ∀ a, (k0_off1865 v1193) a + S1x16.size a ≤ S704x64.size a := fun v1193 k0_hw442 => k0_hw442.2.2.1
theorem k0_off1866_inb : ∀ (v1193 : BitVec 32) (k0_hw442 : k0_chk442 v1193), ∀ a, (k0_off1866 v1193) a + S1x16.size a ≤ S704x64.size a := fun v1193 k0_hw442 => k0_hw442.2.2.2

def k0_off1867 (v1214 : BitVec 32) : Fin 2 → Nat :=
  let v1215 : Index := Scalar.indexCast v1214
  let c0_349 : Index := 0#32
  ![v1215.toNat, 0]

def k0_off1868 (v1214 : BitVec 32) : Fin 2 → Nat :=
  let v1219 : Index := Scalar.indexCast v1214
  let c16_350 : Index := 16#32
  ![v1219.toNat, 16]
def k0_off1869 (v1214 : BitVec 32) : Fin 2 → Nat :=
  let v1223 : Index := Scalar.indexCast v1214
  let c32_351 : Index := 32#32
  ![v1223.toNat, 32]
def k0_off1870 (v1214 : BitVec 32) : Fin 2 → Nat :=
  let v1227 : Index := Scalar.indexCast v1214
  let c48_352 : Index := 48#32
  ![v1227.toNat, 48]

def k0_chk443 (v1214 : BitVec 32) : Prop :=
  (∀ a, (k0_off1867 v1214) a + S1x16.size a ≤ S704x64.size a) ∧
  (∀ a, (k0_off1868 v1214) a + S1x16.size a ≤ S704x64.size a) ∧
  (∀ a, (k0_off1869 v1214) a + S1x16.size a ≤ S704x64.size a) ∧
  (∀ a, (k0_off1870 v1214) a + S1x16.size a ≤ S704x64.size a)
theorem k0_off1867_inb : ∀ (v1214 : BitVec 32) (k0_hw443 : k0_chk443 v1214), ∀ a, (k0_off1867 v1214) a + S1x16.size a ≤ S704x64.size a := fun v1214 k0_hw443 => k0_hw443.1
theorem k0_off1868_inb : ∀ (v1214 : BitVec 32) (k0_hw443 : k0_chk443 v1214), ∀ a, (k0_off1868 v1214) a + S1x16.size a ≤ S704x64.size a := fun v1214 k0_hw443 => k0_hw443.2.1
theorem k0_off1869_inb : ∀ (v1214 : BitVec 32) (k0_hw443 : k0_chk443 v1214), ∀ a, (k0_off1869 v1214) a + S1x16.size a ≤ S704x64.size a := fun v1214 k0_hw443 => k0_hw443.2.2.1
theorem k0_off1870_inb : ∀ (v1214 : BitVec 32) (k0_hw443 : k0_chk443 v1214), ∀ a, (k0_off1870 v1214) a + S1x16.size a ≤ S704x64.size a := fun v1214 k0_hw443 => k0_hw443.2.2.2

def k0_off1871 (v1235 : BitVec 32) : Fin 2 → Nat :=
  let v1236 : Index := Scalar.indexCast v1235
  let c0_353 : Index := 0#32
  ![v1236.toNat, 0]

def k0_off1872 (v1235 : BitVec 32) : Fin 2 → Nat :=
  let v1240 : Index := Scalar.indexCast v1235
  let c16_354 : Index := 16#32
  ![v1240.toNat, 16]
def k0_off1873 (v1235 : BitVec 32) : Fin 2 → Nat :=
  let v1244 : Index := Scalar.indexCast v1235
  let c32_355 : Index := 32#32
  ![v1244.toNat, 32]
def k0_off1874 (v1235 : BitVec 32) : Fin 2 → Nat :=
  let v1248 : Index := Scalar.indexCast v1235
  let c48_356 : Index := 48#32
  ![v1248.toNat, 48]

def k0_chk444 (v1235 : BitVec 32) : Prop :=
  (∀ a, (k0_off1871 v1235) a + S1x16.size a ≤ S704x64.size a) ∧
  (∀ a, (k0_off1872 v1235) a + S1x16.size a ≤ S704x64.size a) ∧
  (∀ a, (k0_off1873 v1235) a + S1x16.size a ≤ S704x64.size a) ∧
  (∀ a, (k0_off1874 v1235) a + S1x16.size a ≤ S704x64.size a)
theorem k0_off1871_inb : ∀ (v1235 : BitVec 32) (k0_hw444 : k0_chk444 v1235), ∀ a, (k0_off1871 v1235) a + S1x16.size a ≤ S704x64.size a := fun v1235 k0_hw444 => k0_hw444.1
theorem k0_off1872_inb : ∀ (v1235 : BitVec 32) (k0_hw444 : k0_chk444 v1235), ∀ a, (k0_off1872 v1235) a + S1x16.size a ≤ S704x64.size a := fun v1235 k0_hw444 => k0_hw444.2.1
theorem k0_off1873_inb : ∀ (v1235 : BitVec 32) (k0_hw444 : k0_chk444 v1235), ∀ a, (k0_off1873 v1235) a + S1x16.size a ≤ S704x64.size a := fun v1235 k0_hw444 => k0_hw444.2.2.1
theorem k0_off1874_inb : ∀ (v1235 : BitVec 32) (k0_hw444 : k0_chk444 v1235), ∀ a, (k0_off1874 v1235) a + S1x16.size a ≤ S704x64.size a := fun v1235 k0_hw444 => k0_hw444.2.2.2

def k0_off1875 (v1256 : BitVec 32) : Fin 2 → Nat :=
  let v1257 : Index := Scalar.indexCast v1256
  let c0_357 : Index := 0#32
  ![v1257.toNat, 0]

def k0_off1876 (v1256 : BitVec 32) : Fin 2 → Nat :=
  let v1261 : Index := Scalar.indexCast v1256
  let c16_358 : Index := 16#32
  ![v1261.toNat, 16]
def k0_off1877 (v1256 : BitVec 32) : Fin 2 → Nat :=
  let v1265 : Index := Scalar.indexCast v1256
  let c32_359 : Index := 32#32
  ![v1265.toNat, 32]
def k0_off1878 (v1256 : BitVec 32) : Fin 2 → Nat :=
  let v1269 : Index := Scalar.indexCast v1256
  let c48_360 : Index := 48#32
  ![v1269.toNat, 48]

def k0_chk445 (v1256 : BitVec 32) : Prop :=
  (∀ a, (k0_off1875 v1256) a + S1x16.size a ≤ S704x64.size a) ∧
  (∀ a, (k0_off1876 v1256) a + S1x16.size a ≤ S704x64.size a) ∧
  (∀ a, (k0_off1877 v1256) a + S1x16.size a ≤ S704x64.size a) ∧
  (∀ a, (k0_off1878 v1256) a + S1x16.size a ≤ S704x64.size a)
theorem k0_off1875_inb : ∀ (v1256 : BitVec 32) (k0_hw445 : k0_chk445 v1256), ∀ a, (k0_off1875 v1256) a + S1x16.size a ≤ S704x64.size a := fun v1256 k0_hw445 => k0_hw445.1
theorem k0_off1876_inb : ∀ (v1256 : BitVec 32) (k0_hw445 : k0_chk445 v1256), ∀ a, (k0_off1876 v1256) a + S1x16.size a ≤ S704x64.size a := fun v1256 k0_hw445 => k0_hw445.2.1
theorem k0_off1877_inb : ∀ (v1256 : BitVec 32) (k0_hw445 : k0_chk445 v1256), ∀ a, (k0_off1877 v1256) a + S1x16.size a ≤ S704x64.size a := fun v1256 k0_hw445 => k0_hw445.2.2.1
theorem k0_off1878_inb : ∀ (v1256 : BitVec 32) (k0_hw445 : k0_chk445 v1256), ∀ a, (k0_off1878 v1256) a + S1x16.size a ≤ S704x64.size a := fun v1256 k0_hw445 => k0_hw445.2.2.2

def k0_off1879 (v1277 : BitVec 32) : Fin 2 → Nat :=
  let v1278 : Index := Scalar.indexCast v1277
  let c0_361 : Index := 0#32
  ![v1278.toNat, 0]

def k0_off1880 (v1277 : BitVec 32) : Fin 2 → Nat :=
  let v1282 : Index := Scalar.indexCast v1277
  let c16_362 : Index := 16#32
  ![v1282.toNat, 16]
def k0_off1881 (v1277 : BitVec 32) : Fin 2 → Nat :=
  let v1286 : Index := Scalar.indexCast v1277
  let c32_363 : Index := 32#32
  ![v1286.toNat, 32]
def k0_off1882 (v1277 : BitVec 32) : Fin 2 → Nat :=
  let v1290 : Index := Scalar.indexCast v1277
  let c48_364 : Index := 48#32
  ![v1290.toNat, 48]

def k0_chk446 (v1277 : BitVec 32) : Prop :=
  (∀ a, (k0_off1879 v1277) a + S1x16.size a ≤ S704x64.size a) ∧
  (∀ a, (k0_off1880 v1277) a + S1x16.size a ≤ S704x64.size a) ∧
  (∀ a, (k0_off1881 v1277) a + S1x16.size a ≤ S704x64.size a) ∧
  (∀ a, (k0_off1882 v1277) a + S1x16.size a ≤ S704x64.size a)
theorem k0_off1879_inb : ∀ (v1277 : BitVec 32) (k0_hw446 : k0_chk446 v1277), ∀ a, (k0_off1879 v1277) a + S1x16.size a ≤ S704x64.size a := fun v1277 k0_hw446 => k0_hw446.1
theorem k0_off1880_inb : ∀ (v1277 : BitVec 32) (k0_hw446 : k0_chk446 v1277), ∀ a, (k0_off1880 v1277) a + S1x16.size a ≤ S704x64.size a := fun v1277 k0_hw446 => k0_hw446.2.1
theorem k0_off1881_inb : ∀ (v1277 : BitVec 32) (k0_hw446 : k0_chk446 v1277), ∀ a, (k0_off1881 v1277) a + S1x16.size a ≤ S704x64.size a := fun v1277 k0_hw446 => k0_hw446.2.2.1
theorem k0_off1882_inb : ∀ (v1277 : BitVec 32) (k0_hw446 : k0_chk446 v1277), ∀ a, (k0_off1882 v1277) a + S1x16.size a ≤ S704x64.size a := fun v1277 k0_hw446 => k0_hw446.2.2.2

def k0_off1883 (v1298 : BitVec 32) : Fin 2 → Nat :=
  let v1299 : Index := Scalar.indexCast v1298
  let c0_365 : Index := 0#32
  ![v1299.toNat, 0]

def k0_off1884 (v1298 : BitVec 32) : Fin 2 → Nat :=
  let v1303 : Index := Scalar.indexCast v1298
  let c16_366 : Index := 16#32
  ![v1303.toNat, 16]
def k0_off1885 (v1298 : BitVec 32) : Fin 2 → Nat :=
  let v1307 : Index := Scalar.indexCast v1298
  let c32_367 : Index := 32#32
  ![v1307.toNat, 32]
def k0_off1886 (v1298 : BitVec 32) : Fin 2 → Nat :=
  let v1311 : Index := Scalar.indexCast v1298
  let c48_368 : Index := 48#32
  ![v1311.toNat, 48]

def k0_chk447 (v1298 : BitVec 32) : Prop :=
  (∀ a, (k0_off1883 v1298) a + S1x16.size a ≤ S704x64.size a) ∧
  (∀ a, (k0_off1884 v1298) a + S1x16.size a ≤ S704x64.size a) ∧
  (∀ a, (k0_off1885 v1298) a + S1x16.size a ≤ S704x64.size a) ∧
  (∀ a, (k0_off1886 v1298) a + S1x16.size a ≤ S704x64.size a)
theorem k0_off1883_inb : ∀ (v1298 : BitVec 32) (k0_hw447 : k0_chk447 v1298), ∀ a, (k0_off1883 v1298) a + S1x16.size a ≤ S704x64.size a := fun v1298 k0_hw447 => k0_hw447.1
theorem k0_off1884_inb : ∀ (v1298 : BitVec 32) (k0_hw447 : k0_chk447 v1298), ∀ a, (k0_off1884 v1298) a + S1x16.size a ≤ S704x64.size a := fun v1298 k0_hw447 => k0_hw447.2.1
theorem k0_off1885_inb : ∀ (v1298 : BitVec 32) (k0_hw447 : k0_chk447 v1298), ∀ a, (k0_off1885 v1298) a + S1x16.size a ≤ S704x64.size a := fun v1298 k0_hw447 => k0_hw447.2.2.1
theorem k0_off1886_inb : ∀ (v1298 : BitVec 32) (k0_hw447 : k0_chk447 v1298), ∀ a, (k0_off1886 v1298) a + S1x16.size a ≤ S704x64.size a := fun v1298 k0_hw447 => k0_hw447.2.2.2

def k0_off1887 (v1319 : BitVec 32) : Fin 2 → Nat :=
  let v1320 : Index := Scalar.indexCast v1319
  let c0_369 : Index := 0#32
  ![v1320.toNat, 0]

def k0_off1888 (v1319 : BitVec 32) : Fin 2 → Nat :=
  let v1324 : Index := Scalar.indexCast v1319
  let c16_370 : Index := 16#32
  ![v1324.toNat, 16]
def k0_off1889 (v1319 : BitVec 32) : Fin 2 → Nat :=
  let v1328 : Index := Scalar.indexCast v1319
  let c32_371 : Index := 32#32
  ![v1328.toNat, 32]
def k0_off1890 (v1319 : BitVec 32) : Fin 2 → Nat :=
  let v1332 : Index := Scalar.indexCast v1319
  let c48_372 : Index := 48#32
  ![v1332.toNat, 48]

def k0_chk448 (v1319 : BitVec 32) : Prop :=
  (∀ a, (k0_off1887 v1319) a + S1x16.size a ≤ S704x64.size a) ∧
  (∀ a, (k0_off1888 v1319) a + S1x16.size a ≤ S704x64.size a) ∧
  (∀ a, (k0_off1889 v1319) a + S1x16.size a ≤ S704x64.size a) ∧
  (∀ a, (k0_off1890 v1319) a + S1x16.size a ≤ S704x64.size a)
theorem k0_off1887_inb : ∀ (v1319 : BitVec 32) (k0_hw448 : k0_chk448 v1319), ∀ a, (k0_off1887 v1319) a + S1x16.size a ≤ S704x64.size a := fun v1319 k0_hw448 => k0_hw448.1
theorem k0_off1888_inb : ∀ (v1319 : BitVec 32) (k0_hw448 : k0_chk448 v1319), ∀ a, (k0_off1888 v1319) a + S1x16.size a ≤ S704x64.size a := fun v1319 k0_hw448 => k0_hw448.2.1
theorem k0_off1889_inb : ∀ (v1319 : BitVec 32) (k0_hw448 : k0_chk448 v1319), ∀ a, (k0_off1889 v1319) a + S1x16.size a ≤ S704x64.size a := fun v1319 k0_hw448 => k0_hw448.2.2.1
theorem k0_off1890_inb : ∀ (v1319 : BitVec 32) (k0_hw448 : k0_chk448 v1319), ∀ a, (k0_off1890 v1319) a + S1x16.size a ≤ S704x64.size a := fun v1319 k0_hw448 => k0_hw448.2.2.2

def k0_off1891 (v1340 : BitVec 32) : Fin 2 → Nat :=
  let v1341 : Index := Scalar.indexCast v1340
  let c0_373 : Index := 0#32
  ![v1341.toNat, 0]

def k0_off1892 (v1340 : BitVec 32) : Fin 2 → Nat :=
  let v1345 : Index := Scalar.indexCast v1340
  let c16_374 : Index := 16#32
  ![v1345.toNat, 16]
def k0_off1893 (v1340 : BitVec 32) : Fin 2 → Nat :=
  let v1349 : Index := Scalar.indexCast v1340
  let c32_375 : Index := 32#32
  ![v1349.toNat, 32]
def k0_off1894 (v1340 : BitVec 32) : Fin 2 → Nat :=
  let v1353 : Index := Scalar.indexCast v1340
  let c48_376 : Index := 48#32
  ![v1353.toNat, 48]

def k0_chk449 (v1340 : BitVec 32) : Prop :=
  (∀ a, (k0_off1891 v1340) a + S1x16.size a ≤ S704x64.size a) ∧
  (∀ a, (k0_off1892 v1340) a + S1x16.size a ≤ S704x64.size a) ∧
  (∀ a, (k0_off1893 v1340) a + S1x16.size a ≤ S704x64.size a) ∧
  (∀ a, (k0_off1894 v1340) a + S1x16.size a ≤ S704x64.size a)
theorem k0_off1891_inb : ∀ (v1340 : BitVec 32) (k0_hw449 : k0_chk449 v1340), ∀ a, (k0_off1891 v1340) a + S1x16.size a ≤ S704x64.size a := fun v1340 k0_hw449 => k0_hw449.1
theorem k0_off1892_inb : ∀ (v1340 : BitVec 32) (k0_hw449 : k0_chk449 v1340), ∀ a, (k0_off1892 v1340) a + S1x16.size a ≤ S704x64.size a := fun v1340 k0_hw449 => k0_hw449.2.1
theorem k0_off1893_inb : ∀ (v1340 : BitVec 32) (k0_hw449 : k0_chk449 v1340), ∀ a, (k0_off1893 v1340) a + S1x16.size a ≤ S704x64.size a := fun v1340 k0_hw449 => k0_hw449.2.2.1
theorem k0_off1894_inb : ∀ (v1340 : BitVec 32) (k0_hw449 : k0_chk449 v1340), ∀ a, (k0_off1894 v1340) a + S1x16.size a ≤ S704x64.size a := fun v1340 k0_hw449 => k0_hw449.2.2.2

def k0_off1895 (v1361 : BitVec 32) : Fin 2 → Nat :=
  let v1362 : Index := Scalar.indexCast v1361
  let c0_377 : Index := 0#32
  ![v1362.toNat, 0]

def k0_off1896 (v1361 : BitVec 32) : Fin 2 → Nat :=
  let v1366 : Index := Scalar.indexCast v1361
  let c16_378 : Index := 16#32
  ![v1366.toNat, 16]
def k0_off1897 (v1361 : BitVec 32) : Fin 2 → Nat :=
  let v1370 : Index := Scalar.indexCast v1361
  let c32_379 : Index := 32#32
  ![v1370.toNat, 32]
def k0_off1898 (v1361 : BitVec 32) : Fin 2 → Nat :=
  let v1374 : Index := Scalar.indexCast v1361
  let c48_380 : Index := 48#32
  ![v1374.toNat, 48]

def k0_chk450 (v1361 : BitVec 32) : Prop :=
  (∀ a, (k0_off1895 v1361) a + S1x16.size a ≤ S704x64.size a) ∧
  (∀ a, (k0_off1896 v1361) a + S1x16.size a ≤ S704x64.size a) ∧
  (∀ a, (k0_off1897 v1361) a + S1x16.size a ≤ S704x64.size a) ∧
  (∀ a, (k0_off1898 v1361) a + S1x16.size a ≤ S704x64.size a)
theorem k0_off1895_inb : ∀ (v1361 : BitVec 32) (k0_hw450 : k0_chk450 v1361), ∀ a, (k0_off1895 v1361) a + S1x16.size a ≤ S704x64.size a := fun v1361 k0_hw450 => k0_hw450.1
theorem k0_off1896_inb : ∀ (v1361 : BitVec 32) (k0_hw450 : k0_chk450 v1361), ∀ a, (k0_off1896 v1361) a + S1x16.size a ≤ S704x64.size a := fun v1361 k0_hw450 => k0_hw450.2.1
theorem k0_off1897_inb : ∀ (v1361 : BitVec 32) (k0_hw450 : k0_chk450 v1361), ∀ a, (k0_off1897 v1361) a + S1x16.size a ≤ S704x64.size a := fun v1361 k0_hw450 => k0_hw450.2.2.1
theorem k0_off1898_inb : ∀ (v1361 : BitVec 32) (k0_hw450 : k0_chk450 v1361), ∀ a, (k0_off1898 v1361) a + S1x16.size a ≤ S704x64.size a := fun v1361 k0_hw450 => k0_hw450.2.2.2

def k0_off1899 (v1382 : BitVec 32) : Fin 2 → Nat :=
  let v1383 : Index := Scalar.indexCast v1382
  let c0_381 : Index := 0#32
  ![v1383.toNat, 0]

def k0_off1900 (v1382 : BitVec 32) : Fin 2 → Nat :=
  let v1387 : Index := Scalar.indexCast v1382
  let c16_382 : Index := 16#32
  ![v1387.toNat, 16]
def k0_off1901 (v1382 : BitVec 32) : Fin 2 → Nat :=
  let v1391 : Index := Scalar.indexCast v1382
  let c32_383 : Index := 32#32
  ![v1391.toNat, 32]
def k0_off1902 (v1382 : BitVec 32) : Fin 2 → Nat :=
  let v1395 : Index := Scalar.indexCast v1382
  let c48_384 : Index := 48#32
  ![v1395.toNat, 48]

def k0_chk451 (v1382 : BitVec 32) : Prop :=
  (∀ a, (k0_off1899 v1382) a + S1x16.size a ≤ S704x64.size a) ∧
  (∀ a, (k0_off1900 v1382) a + S1x16.size a ≤ S704x64.size a) ∧
  (∀ a, (k0_off1901 v1382) a + S1x16.size a ≤ S704x64.size a) ∧
  (∀ a, (k0_off1902 v1382) a + S1x16.size a ≤ S704x64.size a)
theorem k0_off1899_inb : ∀ (v1382 : BitVec 32) (k0_hw451 : k0_chk451 v1382), ∀ a, (k0_off1899 v1382) a + S1x16.size a ≤ S704x64.size a := fun v1382 k0_hw451 => k0_hw451.1
theorem k0_off1900_inb : ∀ (v1382 : BitVec 32) (k0_hw451 : k0_chk451 v1382), ∀ a, (k0_off1900 v1382) a + S1x16.size a ≤ S704x64.size a := fun v1382 k0_hw451 => k0_hw451.2.1
theorem k0_off1901_inb : ∀ (v1382 : BitVec 32) (k0_hw451 : k0_chk451 v1382), ∀ a, (k0_off1901 v1382) a + S1x16.size a ≤ S704x64.size a := fun v1382 k0_hw451 => k0_hw451.2.2.1
theorem k0_off1902_inb : ∀ (v1382 : BitVec 32) (k0_hw451 : k0_chk451 v1382), ∀ a, (k0_off1902 v1382) a + S1x16.size a ≤ S704x64.size a := fun v1382 k0_hw451 => k0_hw451.2.2.2

def k0_off1903 (v1403 : BitVec 32) : Fin 2 → Nat :=
  let v1404 : Index := Scalar.indexCast v1403
  let c0_385 : Index := 0#32
  ![v1404.toNat, 0]

def k0_off1904 (v1403 : BitVec 32) : Fin 2 → Nat :=
  let v1408 : Index := Scalar.indexCast v1403
  let c16_386 : Index := 16#32
  ![v1408.toNat, 16]
def k0_off1905 (v1403 : BitVec 32) : Fin 2 → Nat :=
  let v1412 : Index := Scalar.indexCast v1403
  let c32_387 : Index := 32#32
  ![v1412.toNat, 32]
def k0_off1906 (v1403 : BitVec 32) : Fin 2 → Nat :=
  let v1416 : Index := Scalar.indexCast v1403
  let c48_388 : Index := 48#32
  ![v1416.toNat, 48]

def k0_chk452 (v1403 : BitVec 32) : Prop :=
  (∀ a, (k0_off1903 v1403) a + S1x16.size a ≤ S704x64.size a) ∧
  (∀ a, (k0_off1904 v1403) a + S1x16.size a ≤ S704x64.size a) ∧
  (∀ a, (k0_off1905 v1403) a + S1x16.size a ≤ S704x64.size a) ∧
  (∀ a, (k0_off1906 v1403) a + S1x16.size a ≤ S704x64.size a)
theorem k0_off1903_inb : ∀ (v1403 : BitVec 32) (k0_hw452 : k0_chk452 v1403), ∀ a, (k0_off1903 v1403) a + S1x16.size a ≤ S704x64.size a := fun v1403 k0_hw452 => k0_hw452.1
theorem k0_off1904_inb : ∀ (v1403 : BitVec 32) (k0_hw452 : k0_chk452 v1403), ∀ a, (k0_off1904 v1403) a + S1x16.size a ≤ S704x64.size a := fun v1403 k0_hw452 => k0_hw452.2.1
theorem k0_off1905_inb : ∀ (v1403 : BitVec 32) (k0_hw452 : k0_chk452 v1403), ∀ a, (k0_off1905 v1403) a + S1x16.size a ≤ S704x64.size a := fun v1403 k0_hw452 => k0_hw452.2.2.1
theorem k0_off1906_inb : ∀ (v1403 : BitVec 32) (k0_hw452 : k0_chk452 v1403), ∀ a, (k0_off1906 v1403) a + S1x16.size a ≤ S704x64.size a := fun v1403 k0_hw452 => k0_hw452.2.2.2

def k0_off1907 (v1424 : BitVec 32) : Fin 2 → Nat :=
  let v1425 : Index := Scalar.indexCast v1424
  let c0_389 : Index := 0#32
  ![v1425.toNat, 0]

def k0_off1908 (v1424 : BitVec 32) : Fin 2 → Nat :=
  let v1429 : Index := Scalar.indexCast v1424
  let c16_390 : Index := 16#32
  ![v1429.toNat, 16]
def k0_off1909 (v1424 : BitVec 32) : Fin 2 → Nat :=
  let v1433 : Index := Scalar.indexCast v1424
  let c32_391 : Index := 32#32
  ![v1433.toNat, 32]
def k0_off1910 (v1424 : BitVec 32) : Fin 2 → Nat :=
  let v1437 : Index := Scalar.indexCast v1424
  let c48_392 : Index := 48#32
  ![v1437.toNat, 48]

def k0_chk453 (v1424 : BitVec 32) : Prop :=
  (∀ a, (k0_off1907 v1424) a + S1x16.size a ≤ S704x64.size a) ∧
  (∀ a, (k0_off1908 v1424) a + S1x16.size a ≤ S704x64.size a) ∧
  (∀ a, (k0_off1909 v1424) a + S1x16.size a ≤ S704x64.size a) ∧
  (∀ a, (k0_off1910 v1424) a + S1x16.size a ≤ S704x64.size a)
theorem k0_off1907_inb : ∀ (v1424 : BitVec 32) (k0_hw453 : k0_chk453 v1424), ∀ a, (k0_off1907 v1424) a + S1x16.size a ≤ S704x64.size a := fun v1424 k0_hw453 => k0_hw453.1
theorem k0_off1908_inb : ∀ (v1424 : BitVec 32) (k0_hw453 : k0_chk453 v1424), ∀ a, (k0_off1908 v1424) a + S1x16.size a ≤ S704x64.size a := fun v1424 k0_hw453 => k0_hw453.2.1
theorem k0_off1909_inb : ∀ (v1424 : BitVec 32) (k0_hw453 : k0_chk453 v1424), ∀ a, (k0_off1909 v1424) a + S1x16.size a ≤ S704x64.size a := fun v1424 k0_hw453 => k0_hw453.2.2.1
theorem k0_off1910_inb : ∀ (v1424 : BitVec 32) (k0_hw453 : k0_chk453 v1424), ∀ a, (k0_off1910 v1424) a + S1x16.size a ≤ S704x64.size a := fun v1424 k0_hw453 => k0_hw453.2.2.2

def k0_off1911 (v1445 : BitVec 32) : Fin 2 → Nat :=
  let v1446 : Index := Scalar.indexCast v1445
  let c0_393 : Index := 0#32
  ![v1446.toNat, 0]

def k0_off1912 (v1445 : BitVec 32) : Fin 2 → Nat :=
  let v1450 : Index := Scalar.indexCast v1445
  let c16_394 : Index := 16#32
  ![v1450.toNat, 16]
def k0_off1913 (v1445 : BitVec 32) : Fin 2 → Nat :=
  let v1454 : Index := Scalar.indexCast v1445
  let c32_395 : Index := 32#32
  ![v1454.toNat, 32]
def k0_off1914 (v1445 : BitVec 32) : Fin 2 → Nat :=
  let v1458 : Index := Scalar.indexCast v1445
  let c48_396 : Index := 48#32
  ![v1458.toNat, 48]

def k0_chk454 (v1445 : BitVec 32) : Prop :=
  (∀ a, (k0_off1911 v1445) a + S1x16.size a ≤ S704x64.size a) ∧
  (∀ a, (k0_off1912 v1445) a + S1x16.size a ≤ S704x64.size a) ∧
  (∀ a, (k0_off1913 v1445) a + S1x16.size a ≤ S704x64.size a) ∧
  (∀ a, (k0_off1914 v1445) a + S1x16.size a ≤ S704x64.size a)
theorem k0_off1911_inb : ∀ (v1445 : BitVec 32) (k0_hw454 : k0_chk454 v1445), ∀ a, (k0_off1911 v1445) a + S1x16.size a ≤ S704x64.size a := fun v1445 k0_hw454 => k0_hw454.1
theorem k0_off1912_inb : ∀ (v1445 : BitVec 32) (k0_hw454 : k0_chk454 v1445), ∀ a, (k0_off1912 v1445) a + S1x16.size a ≤ S704x64.size a := fun v1445 k0_hw454 => k0_hw454.2.1
theorem k0_off1913_inb : ∀ (v1445 : BitVec 32) (k0_hw454 : k0_chk454 v1445), ∀ a, (k0_off1913 v1445) a + S1x16.size a ≤ S704x64.size a := fun v1445 k0_hw454 => k0_hw454.2.2.1
theorem k0_off1914_inb : ∀ (v1445 : BitVec 32) (k0_hw454 : k0_chk454 v1445), ∀ a, (k0_off1914 v1445) a + S1x16.size a ≤ S704x64.size a := fun v1445 k0_hw454 => k0_hw454.2.2.2

def k0_off1915 (v1466 : BitVec 32) : Fin 2 → Nat :=
  let v1467 : Index := Scalar.indexCast v1466
  let c0_397 : Index := 0#32
  ![v1467.toNat, 0]

def k0_off1916 (v1466 : BitVec 32) : Fin 2 → Nat :=
  let v1471 : Index := Scalar.indexCast v1466
  let c16_398 : Index := 16#32
  ![v1471.toNat, 16]
def k0_off1917 (v1466 : BitVec 32) : Fin 2 → Nat :=
  let v1475 : Index := Scalar.indexCast v1466
  let c32_399 : Index := 32#32
  ![v1475.toNat, 32]
def k0_off1918 (v1466 : BitVec 32) : Fin 2 → Nat :=
  let v1479 : Index := Scalar.indexCast v1466
  let c48_400 : Index := 48#32
  ![v1479.toNat, 48]

def k0_chk455 (v1466 : BitVec 32) : Prop :=
  (∀ a, (k0_off1915 v1466) a + S1x16.size a ≤ S704x64.size a) ∧
  (∀ a, (k0_off1916 v1466) a + S1x16.size a ≤ S704x64.size a) ∧
  (∀ a, (k0_off1917 v1466) a + S1x16.size a ≤ S704x64.size a) ∧
  (∀ a, (k0_off1918 v1466) a + S1x16.size a ≤ S704x64.size a)
theorem k0_off1915_inb : ∀ (v1466 : BitVec 32) (k0_hw455 : k0_chk455 v1466), ∀ a, (k0_off1915 v1466) a + S1x16.size a ≤ S704x64.size a := fun v1466 k0_hw455 => k0_hw455.1
theorem k0_off1916_inb : ∀ (v1466 : BitVec 32) (k0_hw455 : k0_chk455 v1466), ∀ a, (k0_off1916 v1466) a + S1x16.size a ≤ S704x64.size a := fun v1466 k0_hw455 => k0_hw455.2.1
theorem k0_off1917_inb : ∀ (v1466 : BitVec 32) (k0_hw455 : k0_chk455 v1466), ∀ a, (k0_off1917 v1466) a + S1x16.size a ≤ S704x64.size a := fun v1466 k0_hw455 => k0_hw455.2.2.1
theorem k0_off1918_inb : ∀ (v1466 : BitVec 32) (k0_hw455 : k0_chk455 v1466), ∀ a, (k0_off1918 v1466) a + S1x16.size a ≤ S704x64.size a := fun v1466 k0_hw455 => k0_hw455.2.2.2

def k0_off1919 (v1487 : BitVec 32) : Fin 2 → Nat :=
  let v1488 : Index := Scalar.indexCast v1487
  let c0_401 : Index := 0#32
  ![v1488.toNat, 0]

def k0_off1920 (v1487 : BitVec 32) : Fin 2 → Nat :=
  let v1492 : Index := Scalar.indexCast v1487
  let c16_402 : Index := 16#32
  ![v1492.toNat, 16]
def k0_off1921 (v1487 : BitVec 32) : Fin 2 → Nat :=
  let v1496 : Index := Scalar.indexCast v1487
  let c32_403 : Index := 32#32
  ![v1496.toNat, 32]
def k0_off1922 (v1487 : BitVec 32) : Fin 2 → Nat :=
  let v1500 : Index := Scalar.indexCast v1487
  let c48_404 : Index := 48#32
  ![v1500.toNat, 48]

def k0_chk456 (v1487 : BitVec 32) : Prop :=
  (∀ a, (k0_off1919 v1487) a + S1x16.size a ≤ S704x64.size a) ∧
  (∀ a, (k0_off1920 v1487) a + S1x16.size a ≤ S704x64.size a) ∧
  (∀ a, (k0_off1921 v1487) a + S1x16.size a ≤ S704x64.size a) ∧
  (∀ a, (k0_off1922 v1487) a + S1x16.size a ≤ S704x64.size a)
theorem k0_off1919_inb : ∀ (v1487 : BitVec 32) (k0_hw456 : k0_chk456 v1487), ∀ a, (k0_off1919 v1487) a + S1x16.size a ≤ S704x64.size a := fun v1487 k0_hw456 => k0_hw456.1
theorem k0_off1920_inb : ∀ (v1487 : BitVec 32) (k0_hw456 : k0_chk456 v1487), ∀ a, (k0_off1920 v1487) a + S1x16.size a ≤ S704x64.size a := fun v1487 k0_hw456 => k0_hw456.2.1
theorem k0_off1921_inb : ∀ (v1487 : BitVec 32) (k0_hw456 : k0_chk456 v1487), ∀ a, (k0_off1921 v1487) a + S1x16.size a ≤ S704x64.size a := fun v1487 k0_hw456 => k0_hw456.2.2.1
theorem k0_off1922_inb : ∀ (v1487 : BitVec 32) (k0_hw456 : k0_chk456 v1487), ∀ a, (k0_off1922 v1487) a + S1x16.size a ≤ S704x64.size a := fun v1487 k0_hw456 => k0_hw456.2.2.2

def k0_off1923 (v1508 : BitVec 32) : Fin 2 → Nat :=
  let v1509 : Index := Scalar.indexCast v1508
  let c0_405 : Index := 0#32
  ![v1509.toNat, 0]

def k0_off1924 (v1508 : BitVec 32) : Fin 2 → Nat :=
  let v1513 : Index := Scalar.indexCast v1508
  let c16_406 : Index := 16#32
  ![v1513.toNat, 16]
def k0_off1925 (v1508 : BitVec 32) : Fin 2 → Nat :=
  let v1517 : Index := Scalar.indexCast v1508
  let c32_407 : Index := 32#32
  ![v1517.toNat, 32]
def k0_off1926 (v1508 : BitVec 32) : Fin 2 → Nat :=
  let v1521 : Index := Scalar.indexCast v1508
  let c48_408 : Index := 48#32
  ![v1521.toNat, 48]

def k0_chk457 (v1508 : BitVec 32) : Prop :=
  (∀ a, (k0_off1923 v1508) a + S1x16.size a ≤ S704x64.size a) ∧
  (∀ a, (k0_off1924 v1508) a + S1x16.size a ≤ S704x64.size a) ∧
  (∀ a, (k0_off1925 v1508) a + S1x16.size a ≤ S704x64.size a) ∧
  (∀ a, (k0_off1926 v1508) a + S1x16.size a ≤ S704x64.size a)
theorem k0_off1923_inb : ∀ (v1508 : BitVec 32) (k0_hw457 : k0_chk457 v1508), ∀ a, (k0_off1923 v1508) a + S1x16.size a ≤ S704x64.size a := fun v1508 k0_hw457 => k0_hw457.1
theorem k0_off1924_inb : ∀ (v1508 : BitVec 32) (k0_hw457 : k0_chk457 v1508), ∀ a, (k0_off1924 v1508) a + S1x16.size a ≤ S704x64.size a := fun v1508 k0_hw457 => k0_hw457.2.1
theorem k0_off1925_inb : ∀ (v1508 : BitVec 32) (k0_hw457 : k0_chk457 v1508), ∀ a, (k0_off1925 v1508) a + S1x16.size a ≤ S704x64.size a := fun v1508 k0_hw457 => k0_hw457.2.2.1
theorem k0_off1926_inb : ∀ (v1508 : BitVec 32) (k0_hw457 : k0_chk457 v1508), ∀ a, (k0_off1926 v1508) a + S1x16.size a ≤ S704x64.size a := fun v1508 k0_hw457 => k0_hw457.2.2.2

def k0_off1927 (v1529 : BitVec 32) : Fin 2 → Nat :=
  let v1530 : Index := Scalar.indexCast v1529
  let c0_409 : Index := 0#32
  ![v1530.toNat, 0]

def k0_off1928 (v1529 : BitVec 32) : Fin 2 → Nat :=
  let v1534 : Index := Scalar.indexCast v1529
  let c16_410 : Index := 16#32
  ![v1534.toNat, 16]
def k0_off1929 (v1529 : BitVec 32) : Fin 2 → Nat :=
  let v1538 : Index := Scalar.indexCast v1529
  let c32_411 : Index := 32#32
  ![v1538.toNat, 32]
def k0_off1930 (v1529 : BitVec 32) : Fin 2 → Nat :=
  let v1542 : Index := Scalar.indexCast v1529
  let c48_412 : Index := 48#32
  ![v1542.toNat, 48]

def k0_chk458 (v1529 : BitVec 32) : Prop :=
  (∀ a, (k0_off1927 v1529) a + S1x16.size a ≤ S704x64.size a) ∧
  (∀ a, (k0_off1928 v1529) a + S1x16.size a ≤ S704x64.size a) ∧
  (∀ a, (k0_off1929 v1529) a + S1x16.size a ≤ S704x64.size a) ∧
  (∀ a, (k0_off1930 v1529) a + S1x16.size a ≤ S704x64.size a)
theorem k0_off1927_inb : ∀ (v1529 : BitVec 32) (k0_hw458 : k0_chk458 v1529), ∀ a, (k0_off1927 v1529) a + S1x16.size a ≤ S704x64.size a := fun v1529 k0_hw458 => k0_hw458.1
theorem k0_off1928_inb : ∀ (v1529 : BitVec 32) (k0_hw458 : k0_chk458 v1529), ∀ a, (k0_off1928 v1529) a + S1x16.size a ≤ S704x64.size a := fun v1529 k0_hw458 => k0_hw458.2.1
theorem k0_off1929_inb : ∀ (v1529 : BitVec 32) (k0_hw458 : k0_chk458 v1529), ∀ a, (k0_off1929 v1529) a + S1x16.size a ≤ S704x64.size a := fun v1529 k0_hw458 => k0_hw458.2.2.1
theorem k0_off1930_inb : ∀ (v1529 : BitVec 32) (k0_hw458 : k0_chk458 v1529), ∀ a, (k0_off1930 v1529) a + S1x16.size a ≤ S704x64.size a := fun v1529 k0_hw458 => k0_hw458.2.2.2

def k0_off1931 (v1550 : BitVec 32) : Fin 2 → Nat :=
  let v1551 : Index := Scalar.indexCast v1550
  let c0_413 : Index := 0#32
  ![v1551.toNat, 0]

def k0_off1932 (v1550 : BitVec 32) : Fin 2 → Nat :=
  let v1555 : Index := Scalar.indexCast v1550
  let c16_414 : Index := 16#32
  ![v1555.toNat, 16]
def k0_off1933 (v1550 : BitVec 32) : Fin 2 → Nat :=
  let v1559 : Index := Scalar.indexCast v1550
  let c32_415 : Index := 32#32
  ![v1559.toNat, 32]
def k0_off1934 (v1550 : BitVec 32) : Fin 2 → Nat :=
  let v1563 : Index := Scalar.indexCast v1550
  let c48_416 : Index := 48#32
  ![v1563.toNat, 48]

def k0_chk459 (v1550 : BitVec 32) : Prop :=
  (∀ a, (k0_off1931 v1550) a + S1x16.size a ≤ S704x64.size a) ∧
  (∀ a, (k0_off1932 v1550) a + S1x16.size a ≤ S704x64.size a) ∧
  (∀ a, (k0_off1933 v1550) a + S1x16.size a ≤ S704x64.size a) ∧
  (∀ a, (k0_off1934 v1550) a + S1x16.size a ≤ S704x64.size a)
theorem k0_off1931_inb : ∀ (v1550 : BitVec 32) (k0_hw459 : k0_chk459 v1550), ∀ a, (k0_off1931 v1550) a + S1x16.size a ≤ S704x64.size a := fun v1550 k0_hw459 => k0_hw459.1
theorem k0_off1932_inb : ∀ (v1550 : BitVec 32) (k0_hw459 : k0_chk459 v1550), ∀ a, (k0_off1932 v1550) a + S1x16.size a ≤ S704x64.size a := fun v1550 k0_hw459 => k0_hw459.2.1
theorem k0_off1933_inb : ∀ (v1550 : BitVec 32) (k0_hw459 : k0_chk459 v1550), ∀ a, (k0_off1933 v1550) a + S1x16.size a ≤ S704x64.size a := fun v1550 k0_hw459 => k0_hw459.2.2.1
theorem k0_off1934_inb : ∀ (v1550 : BitVec 32) (k0_hw459 : k0_chk459 v1550), ∀ a, (k0_off1934 v1550) a + S1x16.size a ≤ S704x64.size a := fun v1550 k0_hw459 => k0_hw459.2.2.2

def k0_off1935 (v1571 : BitVec 32) : Fin 2 → Nat :=
  let v1572 : Index := Scalar.indexCast v1571
  let c0_417 : Index := 0#32
  ![v1572.toNat, 0]

def k0_off1936 (v1571 : BitVec 32) : Fin 2 → Nat :=
  let v1576 : Index := Scalar.indexCast v1571
  let c16_418 : Index := 16#32
  ![v1576.toNat, 16]
def k0_off1937 (v1571 : BitVec 32) : Fin 2 → Nat :=
  let v1580 : Index := Scalar.indexCast v1571
  let c32_419 : Index := 32#32
  ![v1580.toNat, 32]
def k0_off1938 (v1571 : BitVec 32) : Fin 2 → Nat :=
  let v1584 : Index := Scalar.indexCast v1571
  let c48_420 : Index := 48#32
  ![v1584.toNat, 48]

def k0_chk460 (v1571 : BitVec 32) : Prop :=
  (∀ a, (k0_off1935 v1571) a + S1x16.size a ≤ S704x64.size a) ∧
  (∀ a, (k0_off1936 v1571) a + S1x16.size a ≤ S704x64.size a) ∧
  (∀ a, (k0_off1937 v1571) a + S1x16.size a ≤ S704x64.size a) ∧
  (∀ a, (k0_off1938 v1571) a + S1x16.size a ≤ S704x64.size a)
theorem k0_off1935_inb : ∀ (v1571 : BitVec 32) (k0_hw460 : k0_chk460 v1571), ∀ a, (k0_off1935 v1571) a + S1x16.size a ≤ S704x64.size a := fun v1571 k0_hw460 => k0_hw460.1
theorem k0_off1936_inb : ∀ (v1571 : BitVec 32) (k0_hw460 : k0_chk460 v1571), ∀ a, (k0_off1936 v1571) a + S1x16.size a ≤ S704x64.size a := fun v1571 k0_hw460 => k0_hw460.2.1
theorem k0_off1937_inb : ∀ (v1571 : BitVec 32) (k0_hw460 : k0_chk460 v1571), ∀ a, (k0_off1937 v1571) a + S1x16.size a ≤ S704x64.size a := fun v1571 k0_hw460 => k0_hw460.2.2.1
theorem k0_off1938_inb : ∀ (v1571 : BitVec 32) (k0_hw460 : k0_chk460 v1571), ∀ a, (k0_off1938 v1571) a + S1x16.size a ≤ S704x64.size a := fun v1571 k0_hw460 => k0_hw460.2.2.2

def k0_off1939 (v1592 : BitVec 32) : Fin 2 → Nat :=
  let v1593 : Index := Scalar.indexCast v1592
  let c0_421 : Index := 0#32
  ![v1593.toNat, 0]

def k0_off1940 (v1592 : BitVec 32) : Fin 2 → Nat :=
  let v1597 : Index := Scalar.indexCast v1592
  let c16_422 : Index := 16#32
  ![v1597.toNat, 16]
def k0_off1941 (v1592 : BitVec 32) : Fin 2 → Nat :=
  let v1601 : Index := Scalar.indexCast v1592
  let c32_423 : Index := 32#32
  ![v1601.toNat, 32]
def k0_off1942 (v1592 : BitVec 32) : Fin 2 → Nat :=
  let v1605 : Index := Scalar.indexCast v1592
  let c48_424 : Index := 48#32
  ![v1605.toNat, 48]

def k0_chk461 (v1592 : BitVec 32) : Prop :=
  (∀ a, (k0_off1939 v1592) a + S1x16.size a ≤ S704x64.size a) ∧
  (∀ a, (k0_off1940 v1592) a + S1x16.size a ≤ S704x64.size a) ∧
  (∀ a, (k0_off1941 v1592) a + S1x16.size a ≤ S704x64.size a) ∧
  (∀ a, (k0_off1942 v1592) a + S1x16.size a ≤ S704x64.size a)
theorem k0_off1939_inb : ∀ (v1592 : BitVec 32) (k0_hw461 : k0_chk461 v1592), ∀ a, (k0_off1939 v1592) a + S1x16.size a ≤ S704x64.size a := fun v1592 k0_hw461 => k0_hw461.1
theorem k0_off1940_inb : ∀ (v1592 : BitVec 32) (k0_hw461 : k0_chk461 v1592), ∀ a, (k0_off1940 v1592) a + S1x16.size a ≤ S704x64.size a := fun v1592 k0_hw461 => k0_hw461.2.1
theorem k0_off1941_inb : ∀ (v1592 : BitVec 32) (k0_hw461 : k0_chk461 v1592), ∀ a, (k0_off1941 v1592) a + S1x16.size a ≤ S704x64.size a := fun v1592 k0_hw461 => k0_hw461.2.2.1
theorem k0_off1942_inb : ∀ (v1592 : BitVec 32) (k0_hw461 : k0_chk461 v1592), ∀ a, (k0_off1942 v1592) a + S1x16.size a ≤ S704x64.size a := fun v1592 k0_hw461 => k0_hw461.2.2.2

def k0_off1943 (v1613 : BitVec 32) : Fin 2 → Nat :=
  let v1614 : Index := Scalar.indexCast v1613
  let c0_425 : Index := 0#32
  ![v1614.toNat, 0]

def k0_off1944 (v1613 : BitVec 32) : Fin 2 → Nat :=
  let v1618 : Index := Scalar.indexCast v1613
  let c16_426 : Index := 16#32
  ![v1618.toNat, 16]
def k0_off1945 (v1613 : BitVec 32) : Fin 2 → Nat :=
  let v1622 : Index := Scalar.indexCast v1613
  let c32_427 : Index := 32#32
  ![v1622.toNat, 32]
def k0_off1946 (v1613 : BitVec 32) : Fin 2 → Nat :=
  let v1626 : Index := Scalar.indexCast v1613
  let c48_428 : Index := 48#32
  ![v1626.toNat, 48]

def k0_chk462 (v1613 : BitVec 32) : Prop :=
  (∀ a, (k0_off1943 v1613) a + S1x16.size a ≤ S704x64.size a) ∧
  (∀ a, (k0_off1944 v1613) a + S1x16.size a ≤ S704x64.size a) ∧
  (∀ a, (k0_off1945 v1613) a + S1x16.size a ≤ S704x64.size a) ∧
  (∀ a, (k0_off1946 v1613) a + S1x16.size a ≤ S704x64.size a)
theorem k0_off1943_inb : ∀ (v1613 : BitVec 32) (k0_hw462 : k0_chk462 v1613), ∀ a, (k0_off1943 v1613) a + S1x16.size a ≤ S704x64.size a := fun v1613 k0_hw462 => k0_hw462.1
theorem k0_off1944_inb : ∀ (v1613 : BitVec 32) (k0_hw462 : k0_chk462 v1613), ∀ a, (k0_off1944 v1613) a + S1x16.size a ≤ S704x64.size a := fun v1613 k0_hw462 => k0_hw462.2.1
theorem k0_off1945_inb : ∀ (v1613 : BitVec 32) (k0_hw462 : k0_chk462 v1613), ∀ a, (k0_off1945 v1613) a + S1x16.size a ≤ S704x64.size a := fun v1613 k0_hw462 => k0_hw462.2.2.1
theorem k0_off1946_inb : ∀ (v1613 : BitVec 32) (k0_hw462 : k0_chk462 v1613), ∀ a, (k0_off1946 v1613) a + S1x16.size a ≤ S704x64.size a := fun v1613 k0_hw462 => k0_hw462.2.2.2

def k0_off1947 (k0_t7 : Fin k0_t7_loop.trips) : Fin 2 → Nat :=
  let c2_i32_144 : BitVec 32 := 2#32
  let c0_i32_128 : BitVec 32 := 0#32
  let c1_i32_130 : BitVec 32 := 1#32
  let arg13 : BitVec 32 := Scf.iv c0_i32_128 c1_i32_130 k0_t7
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off1948 (k0_t7 : Fin k0_t7_loop.trips) : Fin 2 → Nat :=
  let c2_i32_144 : BitVec 32 := 2#32
  let c0_i32_128 : BitVec 32 := 0#32
  let c1_i32_130 : BitVec 32 := 1#32
  let arg13 : BitVec 32 := Scf.iv c0_i32_128 c1_i32_130 k0_t7
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off1949 (k0_t7 : Fin k0_t7_loop.trips) : Fin 2 → Nat :=
  let c2_i32_144 : BitVec 32 := 2#32
  let c0_i32_128 : BitVec 32 := 0#32
  let c1_i32_130 : BitVec 32 := 1#32
  let arg13 : BitVec 32 := Scf.iv c0_i32_128 c1_i32_130 k0_t7
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off1950 (k0_t7 : Fin k0_t7_loop.trips) : Fin 2 → Nat :=
  let c2_i32_144 : BitVec 32 := 2#32
  let c0_i32_128 : BitVec 32 := 0#32
  let c1_i32_130 : BitVec 32 := 1#32
  let arg13 : BitVec 32 := Scf.iv c0_i32_128 c1_i32_130 k0_t7
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32_133 : BitVec 32 := 8#32
  let v180 : BitVec 32 := Scalar.muli v28 c8_i32_133
  let c7_i32_134 : BitVec 32 := 7#32
  let v181 : BitVec 32 := Scalar.addi v180 c7_i32_134
  let c128_i32_135 : BitVec 32 := 128#32
  let v182 : BitVec 32 := Scalar.muli v181 c128_i32_135
  v182
@[reducible] def k0_t8_loop : Scf.Loop 32 :=
  let c0_i32_138 : BitVec 32 := 0#32
  let c64_i32_139 : BitVec 32 := 64#32
  let v187 : BitVec 32 := Scalar.addi c0_i32_138 c64_i32_139
  let c1_i32_140 : BitVec 32 := 1#32
  ⟨c0_i32_138, v187, c1_i32_140⟩
def k0_off1951 (k0_t8 : Fin k0_t8_loop.trips) : Fin 2 → Nat :=
  let c2_i32_143 : BitVec 32 := 2#32
  let c0_i32_138 : BitVec 32 := 0#32
  let c1_i32_140 : BitVec 32 := 1#32
  let arg13 : BitVec 32 := Scf.iv c0_i32_138 c1_i32_140 k0_t8
  let v189 : BitVec 32 := Scalar.muli c2_i32_143 arg13
  let v192 : Index := Scalar.indexCast v189
  let c0 : Index := 0#32
  ![v192.toNat, 0]
def k0_off1952 (k0_t8 : Fin k0_t8_loop.trips) : Fin 2 → Nat :=
  let c2_i32_143 : BitVec 32 := 2#32
  let c0_i32_138 : BitVec 32 := 0#32
  let c1_i32_140 : BitVec 32 := 1#32
  let arg13 : BitVec 32 := Scf.iv c0_i32_138 c1_i32_140 k0_t8
  let v189 : BitVec 32 := Scalar.muli c2_i32_143 arg13
  let v194 : Index := Scalar.indexCast v189
  let c16 : Index := 16#32
  ![v194.toNat, 16]
def k0_off1953 (k0_t8 : Fin k0_t8_loop.trips) : Fin 2 → Nat :=
  let c2_i32_143 : BitVec 32 := 2#32
  let c0_i32_138 : BitVec 32 := 0#32
  let c1_i32_140 : BitVec 32 := 1#32
  let arg13 : BitVec 32 := Scf.iv c0_i32_138 c1_i32_140 k0_t8
  let v189 : BitVec 32 := Scalar.muli c2_i32_143 arg13
  let v196 : Index := Scalar.indexCast v189
  let c32 : Index := 32#32
  ![v196.toNat, 32]
def k0_off1954 (v218 : BitVec 32) : Fin 2 → Nat :=
  let v219 : Index := Scalar.indexCast v218
  let c0_152 : Index := 0#32
  ![v219.toNat, 0]

def k0_off1955 (v218 : BitVec 32) : Fin 2 → Nat :=
  let v223 : Index := Scalar.indexCast v218
  let c16_153 : Index := 16#32
  ![v223.toNat, 16]
def k0_off1956 (v218 : BitVec 32) : Fin 2 → Nat :=
  let v227 : Index := Scalar.indexCast v218
  let c32_154 : Index := 32#32
  ![v227.toNat, 32]
def k0_off1957 (v218 : BitVec 32) : Fin 2 → Nat :=
  let v231 : Index := Scalar.indexCast v218
  let c48 : Index := 48#32
  ![v231.toNat, 48]

def k0_chk463 (v218 : BitVec 32) : Prop :=
  (∀ a, (k0_off1954 v218) a + S1x16.size a ≤ S704x64.size a) ∧
  (∀ a, (k0_off1955 v218) a + S1x16.size a ≤ S704x64.size a) ∧
  (∀ a, (k0_off1956 v218) a + S1x16.size a ≤ S704x64.size a) ∧
  (∀ a, (k0_off1957 v218) a + S1x16.size a ≤ S704x64.size a)
theorem k0_off1954_inb : ∀ (v218 : BitVec 32) (k0_hw463 : k0_chk463 v218), ∀ a, (k0_off1954 v218) a + S1x16.size a ≤ S704x64.size a := fun v218 k0_hw463 => k0_hw463.1
theorem k0_off1955_inb : ∀ (v218 : BitVec 32) (k0_hw463 : k0_chk463 v218), ∀ a, (k0_off1955 v218) a + S1x16.size a ≤ S704x64.size a := fun v218 k0_hw463 => k0_hw463.2.1
theorem k0_off1956_inb : ∀ (v218 : BitVec 32) (k0_hw463 : k0_chk463 v218), ∀ a, (k0_off1956 v218) a + S1x16.size a ≤ S704x64.size a := fun v218 k0_hw463 => k0_hw463.2.2.1
theorem k0_off1957_inb : ∀ (v218 : BitVec 32) (k0_hw463 : k0_chk463 v218), ∀ a, (k0_off1957 v218) a + S1x16.size a ≤ S704x64.size a := fun v218 k0_hw463 => k0_hw463.2.2.2

def k0_off1958 (v239 : BitVec 32) : Fin 2 → Nat :=
  let v240 : Index := Scalar.indexCast v239
  let c0_155 : Index := 0#32
  ![v240.toNat, 0]

def k0_off1959 (v239 : BitVec 32) : Fin 2 → Nat :=
  let v244 : Index := Scalar.indexCast v239
  let c16_156 : Index := 16#32
  ![v244.toNat, 16]
def k0_off1960 (v239 : BitVec 32) : Fin 2 → Nat :=
  let v248 : Index := Scalar.indexCast v239
  let c32_157 : Index := 32#32
  ![v248.toNat, 32]
def k0_off1961 (v239 : BitVec 32) : Fin 2 → Nat :=
  let v252 : Index := Scalar.indexCast v239
  let c48_158 : Index := 48#32
  ![v252.toNat, 48]

def k0_chk464 (v239 : BitVec 32) : Prop :=
  (∀ a, (k0_off1958 v239) a + S1x16.size a ≤ S704x64.size a) ∧
  (∀ a, (k0_off1959 v239) a + S1x16.size a ≤ S704x64.size a) ∧
  (∀ a, (k0_off1960 v239) a + S1x16.size a ≤ S704x64.size a) ∧
  (∀ a, (k0_off1961 v239) a + S1x16.size a ≤ S704x64.size a)
theorem k0_off1958_inb : ∀ (v239 : BitVec 32) (k0_hw464 : k0_chk464 v239), ∀ a, (k0_off1958 v239) a + S1x16.size a ≤ S704x64.size a := fun v239 k0_hw464 => k0_hw464.1
theorem k0_off1959_inb : ∀ (v239 : BitVec 32) (k0_hw464 : k0_chk464 v239), ∀ a, (k0_off1959 v239) a + S1x16.size a ≤ S704x64.size a := fun v239 k0_hw464 => k0_hw464.2.1
theorem k0_off1960_inb : ∀ (v239 : BitVec 32) (k0_hw464 : k0_chk464 v239), ∀ a, (k0_off1960 v239) a + S1x16.size a ≤ S704x64.size a := fun v239 k0_hw464 => k0_hw464.2.2.1
theorem k0_off1961_inb : ∀ (v239 : BitVec 32) (k0_hw464 : k0_chk464 v239), ∀ a, (k0_off1961 v239) a + S1x16.size a ≤ S704x64.size a := fun v239 k0_hw464 => k0_hw464.2.2.2

def k0_off1962 (v260 : BitVec 32) : Fin 2 → Nat :=
  let v261 : Index := Scalar.indexCast v260
  let c0_159 : Index := 0#32
  ![v261.toNat, 0]

def k0_off1963 (v260 : BitVec 32) : Fin 2 → Nat :=
  let v265 : Index := Scalar.indexCast v260
  let c16_160 : Index := 16#32
  ![v265.toNat, 16]
def k0_off1964 (v260 : BitVec 32) : Fin 2 → Nat :=
  let v269 : Index := Scalar.indexCast v260
  let c32_161 : Index := 32#32
  ![v269.toNat, 32]
def k0_off1965 (v260 : BitVec 32) : Fin 2 → Nat :=
  let v273 : Index := Scalar.indexCast v260
  let c48_162 : Index := 48#32
  ![v273.toNat, 48]

def k0_chk465 (v260 : BitVec 32) : Prop :=
  (∀ a, (k0_off1962 v260) a + S1x16.size a ≤ S704x64.size a) ∧
  (∀ a, (k0_off1963 v260) a + S1x16.size a ≤ S704x64.size a) ∧
  (∀ a, (k0_off1964 v260) a + S1x16.size a ≤ S704x64.size a) ∧
  (∀ a, (k0_off1965 v260) a + S1x16.size a ≤ S704x64.size a)
theorem k0_off1962_inb : ∀ (v260 : BitVec 32) (k0_hw465 : k0_chk465 v260), ∀ a, (k0_off1962 v260) a + S1x16.size a ≤ S704x64.size a := fun v260 k0_hw465 => k0_hw465.1
theorem k0_off1963_inb : ∀ (v260 : BitVec 32) (k0_hw465 : k0_chk465 v260), ∀ a, (k0_off1963 v260) a + S1x16.size a ≤ S704x64.size a := fun v260 k0_hw465 => k0_hw465.2.1
theorem k0_off1964_inb : ∀ (v260 : BitVec 32) (k0_hw465 : k0_chk465 v260), ∀ a, (k0_off1964 v260) a + S1x16.size a ≤ S704x64.size a := fun v260 k0_hw465 => k0_hw465.2.2.1
theorem k0_off1965_inb : ∀ (v260 : BitVec 32) (k0_hw465 : k0_chk465 v260), ∀ a, (k0_off1965 v260) a + S1x16.size a ≤ S704x64.size a := fun v260 k0_hw465 => k0_hw465.2.2.2

def k0_off1966 (v281 : BitVec 32) : Fin 2 → Nat :=
  let v282 : Index := Scalar.indexCast v281
  let c0_163 : Index := 0#32
  ![v282.toNat, 0]

def k0_off1967 (v281 : BitVec 32) : Fin 2 → Nat :=
  let v286 : Index := Scalar.indexCast v281
  let c16_164 : Index := 16#32
  ![v286.toNat, 16]
def k0_off1968 (v281 : BitVec 32) : Fin 2 → Nat :=
  let v290 : Index := Scalar.indexCast v281
  let c32_165 : Index := 32#32
  ![v290.toNat, 32]
def k0_off1969 (v281 : BitVec 32) : Fin 2 → Nat :=
  let v294 : Index := Scalar.indexCast v281
  let c48_166 : Index := 48#32
  ![v294.toNat, 48]

def k0_chk466 (v281 : BitVec 32) : Prop :=
  (∀ a, (k0_off1966 v281) a + S1x16.size a ≤ S704x64.size a) ∧
  (∀ a, (k0_off1967 v281) a + S1x16.size a ≤ S704x64.size a) ∧
  (∀ a, (k0_off1968 v281) a + S1x16.size a ≤ S704x64.size a) ∧
  (∀ a, (k0_off1969 v281) a + S1x16.size a ≤ S704x64.size a)
theorem k0_off1966_inb : ∀ (v281 : BitVec 32) (k0_hw466 : k0_chk466 v281), ∀ a, (k0_off1966 v281) a + S1x16.size a ≤ S704x64.size a := fun v281 k0_hw466 => k0_hw466.1
theorem k0_off1967_inb : ∀ (v281 : BitVec 32) (k0_hw466 : k0_chk466 v281), ∀ a, (k0_off1967 v281) a + S1x16.size a ≤ S704x64.size a := fun v281 k0_hw466 => k0_hw466.2.1
theorem k0_off1968_inb : ∀ (v281 : BitVec 32) (k0_hw466 : k0_chk466 v281), ∀ a, (k0_off1968 v281) a + S1x16.size a ≤ S704x64.size a := fun v281 k0_hw466 => k0_hw466.2.2.1
theorem k0_off1969_inb : ∀ (v281 : BitVec 32) (k0_hw466 : k0_chk466 v281), ∀ a, (k0_off1969 v281) a + S1x16.size a ≤ S704x64.size a := fun v281 k0_hw466 => k0_hw466.2.2.2

def k0_off1970 (v302 : BitVec 32) : Fin 2 → Nat :=
  let v303 : Index := Scalar.indexCast v302
  let c0_167 : Index := 0#32
  ![v303.toNat, 0]

def k0_off1971 (v302 : BitVec 32) : Fin 2 → Nat :=
  let v307 : Index := Scalar.indexCast v302
  let c16_168 : Index := 16#32
  ![v307.toNat, 16]
def k0_off1972 (v302 : BitVec 32) : Fin 2 → Nat :=
  let v311 : Index := Scalar.indexCast v302
  let c32_169 : Index := 32#32
  ![v311.toNat, 32]
def k0_off1973 (v302 : BitVec 32) : Fin 2 → Nat :=
  let v315 : Index := Scalar.indexCast v302
  let c48_170 : Index := 48#32
  ![v315.toNat, 48]

def k0_chk467 (v302 : BitVec 32) : Prop :=
  (∀ a, (k0_off1970 v302) a + S1x16.size a ≤ S704x64.size a) ∧
  (∀ a, (k0_off1971 v302) a + S1x16.size a ≤ S704x64.size a) ∧
  (∀ a, (k0_off1972 v302) a + S1x16.size a ≤ S704x64.size a) ∧
  (∀ a, (k0_off1973 v302) a + S1x16.size a ≤ S704x64.size a)
theorem k0_off1970_inb : ∀ (v302 : BitVec 32) (k0_hw467 : k0_chk467 v302), ∀ a, (k0_off1970 v302) a + S1x16.size a ≤ S704x64.size a := fun v302 k0_hw467 => k0_hw467.1
theorem k0_off1971_inb : ∀ (v302 : BitVec 32) (k0_hw467 : k0_chk467 v302), ∀ a, (k0_off1971 v302) a + S1x16.size a ≤ S704x64.size a := fun v302 k0_hw467 => k0_hw467.2.1
theorem k0_off1972_inb : ∀ (v302 : BitVec 32) (k0_hw467 : k0_chk467 v302), ∀ a, (k0_off1972 v302) a + S1x16.size a ≤ S704x64.size a := fun v302 k0_hw467 => k0_hw467.2.2.1
theorem k0_off1973_inb : ∀ (v302 : BitVec 32) (k0_hw467 : k0_chk467 v302), ∀ a, (k0_off1973 v302) a + S1x16.size a ≤ S704x64.size a := fun v302 k0_hw467 => k0_hw467.2.2.2

def k0_off1974 (v323 : BitVec 32) : Fin 2 → Nat :=
  let v324 : Index := Scalar.indexCast v323
  let c0_171 : Index := 0#32
  ![v324.toNat, 0]

def k0_off1975 (v323 : BitVec 32) : Fin 2 → Nat :=
  let v328 : Index := Scalar.indexCast v323
  let c16_172 : Index := 16#32
  ![v328.toNat, 16]
def k0_off1976 (v323 : BitVec 32) : Fin 2 → Nat :=
  let v332 : Index := Scalar.indexCast v323
  let c32_173 : Index := 32#32
  ![v332.toNat, 32]
def k0_off1977 (v323 : BitVec 32) : Fin 2 → Nat :=
  let v336 : Index := Scalar.indexCast v323
  let c48_174 : Index := 48#32
  ![v336.toNat, 48]

def k0_chk468 (v323 : BitVec 32) : Prop :=
  (∀ a, (k0_off1974 v323) a + S1x16.size a ≤ S704x64.size a) ∧
  (∀ a, (k0_off1975 v323) a + S1x16.size a ≤ S704x64.size a) ∧
  (∀ a, (k0_off1976 v323) a + S1x16.size a ≤ S704x64.size a) ∧
  (∀ a, (k0_off1977 v323) a + S1x16.size a ≤ S704x64.size a)
theorem k0_off1974_inb : ∀ (v323 : BitVec 32) (k0_hw468 : k0_chk468 v323), ∀ a, (k0_off1974 v323) a + S1x16.size a ≤ S704x64.size a := fun v323 k0_hw468 => k0_hw468.1
theorem k0_off1975_inb : ∀ (v323 : BitVec 32) (k0_hw468 : k0_chk468 v323), ∀ a, (k0_off1975 v323) a + S1x16.size a ≤ S704x64.size a := fun v323 k0_hw468 => k0_hw468.2.1
theorem k0_off1976_inb : ∀ (v323 : BitVec 32) (k0_hw468 : k0_chk468 v323), ∀ a, (k0_off1976 v323) a + S1x16.size a ≤ S704x64.size a := fun v323 k0_hw468 => k0_hw468.2.2.1
theorem k0_off1977_inb : ∀ (v323 : BitVec 32) (k0_hw468 : k0_chk468 v323), ∀ a, (k0_off1977 v323) a + S1x16.size a ≤ S704x64.size a := fun v323 k0_hw468 => k0_hw468.2.2.2

def k0_off1978 (v344 : BitVec 32) : Fin 2 → Nat :=
  let v345 : Index := Scalar.indexCast v344
  let c0_175 : Index := 0#32
  ![v345.toNat, 0]

def k0_off1979 (v344 : BitVec 32) : Fin 2 → Nat :=
  let v349 : Index := Scalar.indexCast v344
  let c16_176 : Index := 16#32
  ![v349.toNat, 16]
def k0_off1980 (v344 : BitVec 32) : Fin 2 → Nat :=
  let v353 : Index := Scalar.indexCast v344
  let c32_177 : Index := 32#32
  ![v353.toNat, 32]
def k0_off1981 (v344 : BitVec 32) : Fin 2 → Nat :=
  let v357 : Index := Scalar.indexCast v344
  let c48_178 : Index := 48#32
  ![v357.toNat, 48]

def k0_chk469 (v344 : BitVec 32) : Prop :=
  (∀ a, (k0_off1978 v344) a + S1x16.size a ≤ S704x64.size a) ∧
  (∀ a, (k0_off1979 v344) a + S1x16.size a ≤ S704x64.size a) ∧
  (∀ a, (k0_off1980 v344) a + S1x16.size a ≤ S704x64.size a) ∧
  (∀ a, (k0_off1981 v344) a + S1x16.size a ≤ S704x64.size a)
theorem k0_off1978_inb : ∀ (v344 : BitVec 32) (k0_hw469 : k0_chk469 v344), ∀ a, (k0_off1978 v344) a + S1x16.size a ≤ S704x64.size a := fun v344 k0_hw469 => k0_hw469.1
theorem k0_off1979_inb : ∀ (v344 : BitVec 32) (k0_hw469 : k0_chk469 v344), ∀ a, (k0_off1979 v344) a + S1x16.size a ≤ S704x64.size a := fun v344 k0_hw469 => k0_hw469.2.1
theorem k0_off1980_inb : ∀ (v344 : BitVec 32) (k0_hw469 : k0_chk469 v344), ∀ a, (k0_off1980 v344) a + S1x16.size a ≤ S704x64.size a := fun v344 k0_hw469 => k0_hw469.2.2.1
theorem k0_off1981_inb : ∀ (v344 : BitVec 32) (k0_hw469 : k0_chk469 v344), ∀ a, (k0_off1981 v344) a + S1x16.size a ≤ S704x64.size a := fun v344 k0_hw469 => k0_hw469.2.2.2

def k0_off1982 (v365 : BitVec 32) : Fin 2 → Nat :=
  let v366 : Index := Scalar.indexCast v365
  let c0_179 : Index := 0#32
  ![v366.toNat, 0]

def k0_off1983 (v365 : BitVec 32) : Fin 2 → Nat :=
  let v370 : Index := Scalar.indexCast v365
  let c16_180 : Index := 16#32
  ![v370.toNat, 16]
def k0_off1984 (v365 : BitVec 32) : Fin 2 → Nat :=
  let v374 : Index := Scalar.indexCast v365
  let c32_181 : Index := 32#32
  ![v374.toNat, 32]
def k0_off1985 (v365 : BitVec 32) : Fin 2 → Nat :=
  let v378 : Index := Scalar.indexCast v365
  let c48_182 : Index := 48#32
  ![v378.toNat, 48]

def k0_chk470 (v365 : BitVec 32) : Prop :=
  (∀ a, (k0_off1982 v365) a + S1x16.size a ≤ S704x64.size a) ∧
  (∀ a, (k0_off1983 v365) a + S1x16.size a ≤ S704x64.size a) ∧
  (∀ a, (k0_off1984 v365) a + S1x16.size a ≤ S704x64.size a) ∧
  (∀ a, (k0_off1985 v365) a + S1x16.size a ≤ S704x64.size a)
theorem k0_off1982_inb : ∀ (v365 : BitVec 32) (k0_hw470 : k0_chk470 v365), ∀ a, (k0_off1982 v365) a + S1x16.size a ≤ S704x64.size a := fun v365 k0_hw470 => k0_hw470.1
theorem k0_off1983_inb : ∀ (v365 : BitVec 32) (k0_hw470 : k0_chk470 v365), ∀ a, (k0_off1983 v365) a + S1x16.size a ≤ S704x64.size a := fun v365 k0_hw470 => k0_hw470.2.1
theorem k0_off1984_inb : ∀ (v365 : BitVec 32) (k0_hw470 : k0_chk470 v365), ∀ a, (k0_off1984 v365) a + S1x16.size a ≤ S704x64.size a := fun v365 k0_hw470 => k0_hw470.2.2.1
theorem k0_off1985_inb : ∀ (v365 : BitVec 32) (k0_hw470 : k0_chk470 v365), ∀ a, (k0_off1985 v365) a + S1x16.size a ≤ S704x64.size a := fun v365 k0_hw470 => k0_hw470.2.2.2

def k0_off1986 (v386 : BitVec 32) : Fin 2 → Nat :=
  let v387 : Index := Scalar.indexCast v386
  let c0_183 : Index := 0#32
  ![v387.toNat, 0]

def k0_off1987 (v386 : BitVec 32) : Fin 2 → Nat :=
  let v391 : Index := Scalar.indexCast v386
  let c16_184 : Index := 16#32
  ![v391.toNat, 16]
def k0_off1988 (v386 : BitVec 32) : Fin 2 → Nat :=
  let v395 : Index := Scalar.indexCast v386
  let c32_185 : Index := 32#32
  ![v395.toNat, 32]
def k0_off1989 (v386 : BitVec 32) : Fin 2 → Nat :=
  let v399 : Index := Scalar.indexCast v386
  let c48_186 : Index := 48#32
  ![v399.toNat, 48]

def k0_chk471 (v386 : BitVec 32) : Prop :=
  (∀ a, (k0_off1986 v386) a + S1x16.size a ≤ S704x64.size a) ∧
  (∀ a, (k0_off1987 v386) a + S1x16.size a ≤ S704x64.size a) ∧
  (∀ a, (k0_off1988 v386) a + S1x16.size a ≤ S704x64.size a) ∧
  (∀ a, (k0_off1989 v386) a + S1x16.size a ≤ S704x64.size a)
theorem k0_off1986_inb : ∀ (v386 : BitVec 32) (k0_hw471 : k0_chk471 v386), ∀ a, (k0_off1986 v386) a + S1x16.size a ≤ S704x64.size a := fun v386 k0_hw471 => k0_hw471.1
theorem k0_off1987_inb : ∀ (v386 : BitVec 32) (k0_hw471 : k0_chk471 v386), ∀ a, (k0_off1987 v386) a + S1x16.size a ≤ S704x64.size a := fun v386 k0_hw471 => k0_hw471.2.1
theorem k0_off1988_inb : ∀ (v386 : BitVec 32) (k0_hw471 : k0_chk471 v386), ∀ a, (k0_off1988 v386) a + S1x16.size a ≤ S704x64.size a := fun v386 k0_hw471 => k0_hw471.2.2.1
theorem k0_off1989_inb : ∀ (v386 : BitVec 32) (k0_hw471 : k0_chk471 v386), ∀ a, (k0_off1989 v386) a + S1x16.size a ≤ S704x64.size a := fun v386 k0_hw471 => k0_hw471.2.2.2

def k0_off1990 (v407 : BitVec 32) : Fin 2 → Nat :=
  let v408 : Index := Scalar.indexCast v407
  let c0_187 : Index := 0#32
  ![v408.toNat, 0]

def k0_off1991 (v407 : BitVec 32) : Fin 2 → Nat :=
  let v412 : Index := Scalar.indexCast v407
  let c16_188 : Index := 16#32
  ![v412.toNat, 16]
def k0_off1992 (v407 : BitVec 32) : Fin 2 → Nat :=
  let v416 : Index := Scalar.indexCast v407
  let c32_189 : Index := 32#32
  ![v416.toNat, 32]
def k0_off1993 (v407 : BitVec 32) : Fin 2 → Nat :=
  let v420 : Index := Scalar.indexCast v407
  let c48_190 : Index := 48#32
  ![v420.toNat, 48]

def k0_chk472 (v407 : BitVec 32) : Prop :=
  (∀ a, (k0_off1990 v407) a + S1x16.size a ≤ S704x64.size a) ∧
  (∀ a, (k0_off1991 v407) a + S1x16.size a ≤ S704x64.size a) ∧
  (∀ a, (k0_off1992 v407) a + S1x16.size a ≤ S704x64.size a) ∧
  (∀ a, (k0_off1993 v407) a + S1x16.size a ≤ S704x64.size a)
theorem k0_off1990_inb : ∀ (v407 : BitVec 32) (k0_hw472 : k0_chk472 v407), ∀ a, (k0_off1990 v407) a + S1x16.size a ≤ S704x64.size a := fun v407 k0_hw472 => k0_hw472.1
theorem k0_off1991_inb : ∀ (v407 : BitVec 32) (k0_hw472 : k0_chk472 v407), ∀ a, (k0_off1991 v407) a + S1x16.size a ≤ S704x64.size a := fun v407 k0_hw472 => k0_hw472.2.1
theorem k0_off1992_inb : ∀ (v407 : BitVec 32) (k0_hw472 : k0_chk472 v407), ∀ a, (k0_off1992 v407) a + S1x16.size a ≤ S704x64.size a := fun v407 k0_hw472 => k0_hw472.2.2.1
theorem k0_off1993_inb : ∀ (v407 : BitVec 32) (k0_hw472 : k0_chk472 v407), ∀ a, (k0_off1993 v407) a + S1x16.size a ≤ S704x64.size a := fun v407 k0_hw472 => k0_hw472.2.2.2

def k0_off1994 (v428 : BitVec 32) : Fin 2 → Nat :=
  let v429 : Index := Scalar.indexCast v428
  let c0_191 : Index := 0#32
  ![v429.toNat, 0]

def k0_off1995 (v428 : BitVec 32) : Fin 2 → Nat :=
  let v433 : Index := Scalar.indexCast v428
  let c16_192 : Index := 16#32
  ![v433.toNat, 16]
def k0_off1996 (v428 : BitVec 32) : Fin 2 → Nat :=
  let v437 : Index := Scalar.indexCast v428
  let c32_193 : Index := 32#32
  ![v437.toNat, 32]
def k0_off1997 (v428 : BitVec 32) : Fin 2 → Nat :=
  let v441 : Index := Scalar.indexCast v428
  let c48_194 : Index := 48#32
  ![v441.toNat, 48]

def k0_chk473 (v428 : BitVec 32) : Prop :=
  (∀ a, (k0_off1994 v428) a + S1x16.size a ≤ S704x64.size a) ∧
  (∀ a, (k0_off1995 v428) a + S1x16.size a ≤ S704x64.size a) ∧
  (∀ a, (k0_off1996 v428) a + S1x16.size a ≤ S704x64.size a) ∧
  (∀ a, (k0_off1997 v428) a + S1x16.size a ≤ S704x64.size a)
theorem k0_off1994_inb : ∀ (v428 : BitVec 32) (k0_hw473 : k0_chk473 v428), ∀ a, (k0_off1994 v428) a + S1x16.size a ≤ S704x64.size a := fun v428 k0_hw473 => k0_hw473.1
theorem k0_off1995_inb : ∀ (v428 : BitVec 32) (k0_hw473 : k0_chk473 v428), ∀ a, (k0_off1995 v428) a + S1x16.size a ≤ S704x64.size a := fun v428 k0_hw473 => k0_hw473.2.1
theorem k0_off1996_inb : ∀ (v428 : BitVec 32) (k0_hw473 : k0_chk473 v428), ∀ a, (k0_off1996 v428) a + S1x16.size a ≤ S704x64.size a := fun v428 k0_hw473 => k0_hw473.2.2.1
theorem k0_off1997_inb : ∀ (v428 : BitVec 32) (k0_hw473 : k0_chk473 v428), ∀ a, (k0_off1997 v428) a + S1x16.size a ≤ S704x64.size a := fun v428 k0_hw473 => k0_hw473.2.2.2

def k0_off1998 (v449 : BitVec 32) : Fin 2 → Nat :=
  let v450 : Index := Scalar.indexCast v449
  let c0_195 : Index := 0#32
  ![v450.toNat, 0]

def k0_off1999 (v449 : BitVec 32) : Fin 2 → Nat :=
  let v454 : Index := Scalar.indexCast v449
  let c16_196 : Index := 16#32
  ![v454.toNat, 16]
def k0_off2000 (v449 : BitVec 32) : Fin 2 → Nat :=
  let v458 : Index := Scalar.indexCast v449
  let c32_197 : Index := 32#32
  ![v458.toNat, 32]
def k0_off2001 (v449 : BitVec 32) : Fin 2 → Nat :=
  let v462 : Index := Scalar.indexCast v449
  let c48_198 : Index := 48#32
  ![v462.toNat, 48]

def k0_chk474 (v449 : BitVec 32) : Prop :=
  (∀ a, (k0_off1998 v449) a + S1x16.size a ≤ S704x64.size a) ∧
  (∀ a, (k0_off1999 v449) a + S1x16.size a ≤ S704x64.size a) ∧
  (∀ a, (k0_off2000 v449) a + S1x16.size a ≤ S704x64.size a) ∧
  (∀ a, (k0_off2001 v449) a + S1x16.size a ≤ S704x64.size a)
theorem k0_off1998_inb : ∀ (v449 : BitVec 32) (k0_hw474 : k0_chk474 v449), ∀ a, (k0_off1998 v449) a + S1x16.size a ≤ S704x64.size a := fun v449 k0_hw474 => k0_hw474.1
theorem k0_off1999_inb : ∀ (v449 : BitVec 32) (k0_hw474 : k0_chk474 v449), ∀ a, (k0_off1999 v449) a + S1x16.size a ≤ S704x64.size a := fun v449 k0_hw474 => k0_hw474.2.1
theorem k0_off2000_inb : ∀ (v449 : BitVec 32) (k0_hw474 : k0_chk474 v449), ∀ a, (k0_off2000 v449) a + S1x16.size a ≤ S704x64.size a := fun v449 k0_hw474 => k0_hw474.2.2.1
theorem k0_off2001_inb : ∀ (v449 : BitVec 32) (k0_hw474 : k0_chk474 v449), ∀ a, (k0_off2001 v449) a + S1x16.size a ≤ S704x64.size a := fun v449 k0_hw474 => k0_hw474.2.2.2

def k0_off2002 (v470 : BitVec 32) : Fin 2 → Nat :=
  let v471 : Index := Scalar.indexCast v470
  let c0_199 : Index := 0#32
  ![v471.toNat, 0]

def k0_off2003 (v470 : BitVec 32) : Fin 2 → Nat :=
  let v475 : Index := Scalar.indexCast v470
  let c16_200 : Index := 16#32
  ![v475.toNat, 16]
def k0_off2004 (v470 : BitVec 32) : Fin 2 → Nat :=
  let v479 : Index := Scalar.indexCast v470
  let c32_201 : Index := 32#32
  ![v479.toNat, 32]
def k0_off2005 (v470 : BitVec 32) : Fin 2 → Nat :=
  let v483 : Index := Scalar.indexCast v470
  let c48_202 : Index := 48#32
  ![v483.toNat, 48]

def k0_chk475 (v470 : BitVec 32) : Prop :=
  (∀ a, (k0_off2002 v470) a + S1x16.size a ≤ S704x64.size a) ∧
  (∀ a, (k0_off2003 v470) a + S1x16.size a ≤ S704x64.size a) ∧
  (∀ a, (k0_off2004 v470) a + S1x16.size a ≤ S704x64.size a) ∧
  (∀ a, (k0_off2005 v470) a + S1x16.size a ≤ S704x64.size a)
theorem k0_off2002_inb : ∀ (v470 : BitVec 32) (k0_hw475 : k0_chk475 v470), ∀ a, (k0_off2002 v470) a + S1x16.size a ≤ S704x64.size a := fun v470 k0_hw475 => k0_hw475.1
theorem k0_off2003_inb : ∀ (v470 : BitVec 32) (k0_hw475 : k0_chk475 v470), ∀ a, (k0_off2003 v470) a + S1x16.size a ≤ S704x64.size a := fun v470 k0_hw475 => k0_hw475.2.1
theorem k0_off2004_inb : ∀ (v470 : BitVec 32) (k0_hw475 : k0_chk475 v470), ∀ a, (k0_off2004 v470) a + S1x16.size a ≤ S704x64.size a := fun v470 k0_hw475 => k0_hw475.2.2.1
theorem k0_off2005_inb : ∀ (v470 : BitVec 32) (k0_hw475 : k0_chk475 v470), ∀ a, (k0_off2005 v470) a + S1x16.size a ≤ S704x64.size a := fun v470 k0_hw475 => k0_hw475.2.2.2

def k0_off2006 (v491 : BitVec 32) : Fin 2 → Nat :=
  let v492 : Index := Scalar.indexCast v491
  let c0_203 : Index := 0#32
  ![v492.toNat, 0]

def k0_off2007 (v491 : BitVec 32) : Fin 2 → Nat :=
  let v496 : Index := Scalar.indexCast v491
  let c16_204 : Index := 16#32
  ![v496.toNat, 16]
def k0_off2008 (v491 : BitVec 32) : Fin 2 → Nat :=
  let v500 : Index := Scalar.indexCast v491
  let c32_205 : Index := 32#32
  ![v500.toNat, 32]
def k0_off2009 (v491 : BitVec 32) : Fin 2 → Nat :=
  let v504 : Index := Scalar.indexCast v491
  let c48_206 : Index := 48#32
  ![v504.toNat, 48]

def k0_chk476 (v491 : BitVec 32) : Prop :=
  (∀ a, (k0_off2006 v491) a + S1x16.size a ≤ S704x64.size a) ∧
  (∀ a, (k0_off2007 v491) a + S1x16.size a ≤ S704x64.size a) ∧
  (∀ a, (k0_off2008 v491) a + S1x16.size a ≤ S704x64.size a) ∧
  (∀ a, (k0_off2009 v491) a + S1x16.size a ≤ S704x64.size a)
theorem k0_off2006_inb : ∀ (v491 : BitVec 32) (k0_hw476 : k0_chk476 v491), ∀ a, (k0_off2006 v491) a + S1x16.size a ≤ S704x64.size a := fun v491 k0_hw476 => k0_hw476.1
theorem k0_off2007_inb : ∀ (v491 : BitVec 32) (k0_hw476 : k0_chk476 v491), ∀ a, (k0_off2007 v491) a + S1x16.size a ≤ S704x64.size a := fun v491 k0_hw476 => k0_hw476.2.1
theorem k0_off2008_inb : ∀ (v491 : BitVec 32) (k0_hw476 : k0_chk476 v491), ∀ a, (k0_off2008 v491) a + S1x16.size a ≤ S704x64.size a := fun v491 k0_hw476 => k0_hw476.2.2.1
theorem k0_off2009_inb : ∀ (v491 : BitVec 32) (k0_hw476 : k0_chk476 v491), ∀ a, (k0_off2009 v491) a + S1x16.size a ≤ S704x64.size a := fun v491 k0_hw476 => k0_hw476.2.2.2

def k0_off2010 (v512 : BitVec 32) : Fin 2 → Nat :=
  let v513 : Index := Scalar.indexCast v512
  let c0_207 : Index := 0#32
  ![v513.toNat, 0]

def k0_off2011 (v512 : BitVec 32) : Fin 2 → Nat :=
  let v517 : Index := Scalar.indexCast v512
  let c16_208 : Index := 16#32
  ![v517.toNat, 16]
def k0_off2012 (v512 : BitVec 32) : Fin 2 → Nat :=
  let v521 : Index := Scalar.indexCast v512
  let c32_209 : Index := 32#32
  ![v521.toNat, 32]
def k0_off2013 (v512 : BitVec 32) : Fin 2 → Nat :=
  let v525 : Index := Scalar.indexCast v512
  let c48_210 : Index := 48#32
  ![v525.toNat, 48]

def k0_chk477 (v512 : BitVec 32) : Prop :=
  (∀ a, (k0_off2010 v512) a + S1x16.size a ≤ S704x64.size a) ∧
  (∀ a, (k0_off2011 v512) a + S1x16.size a ≤ S704x64.size a) ∧
  (∀ a, (k0_off2012 v512) a + S1x16.size a ≤ S704x64.size a) ∧
  (∀ a, (k0_off2013 v512) a + S1x16.size a ≤ S704x64.size a)
theorem k0_off2010_inb : ∀ (v512 : BitVec 32) (k0_hw477 : k0_chk477 v512), ∀ a, (k0_off2010 v512) a + S1x16.size a ≤ S704x64.size a := fun v512 k0_hw477 => k0_hw477.1
theorem k0_off2011_inb : ∀ (v512 : BitVec 32) (k0_hw477 : k0_chk477 v512), ∀ a, (k0_off2011 v512) a + S1x16.size a ≤ S704x64.size a := fun v512 k0_hw477 => k0_hw477.2.1
theorem k0_off2012_inb : ∀ (v512 : BitVec 32) (k0_hw477 : k0_chk477 v512), ∀ a, (k0_off2012 v512) a + S1x16.size a ≤ S704x64.size a := fun v512 k0_hw477 => k0_hw477.2.2.1
theorem k0_off2013_inb : ∀ (v512 : BitVec 32) (k0_hw477 : k0_chk477 v512), ∀ a, (k0_off2013 v512) a + S1x16.size a ≤ S704x64.size a := fun v512 k0_hw477 => k0_hw477.2.2.2

def k0_off2014 (v533 : BitVec 32) : Fin 2 → Nat :=
  let v534 : Index := Scalar.indexCast v533
  let c0_211 : Index := 0#32
  ![v534.toNat, 0]

def k0_off2015 (v533 : BitVec 32) : Fin 2 → Nat :=
  let v538 : Index := Scalar.indexCast v533
  let c16_212 : Index := 16#32
  ![v538.toNat, 16]
def k0_off2016 (v533 : BitVec 32) : Fin 2 → Nat :=
  let v542 : Index := Scalar.indexCast v533
  let c32_213 : Index := 32#32
  ![v542.toNat, 32]
def k0_off2017 (v533 : BitVec 32) : Fin 2 → Nat :=
  let v546 : Index := Scalar.indexCast v533
  let c48_214 : Index := 48#32
  ![v546.toNat, 48]

def k0_chk478 (v533 : BitVec 32) : Prop :=
  (∀ a, (k0_off2014 v533) a + S1x16.size a ≤ S704x64.size a) ∧
  (∀ a, (k0_off2015 v533) a + S1x16.size a ≤ S704x64.size a) ∧
  (∀ a, (k0_off2016 v533) a + S1x16.size a ≤ S704x64.size a) ∧
  (∀ a, (k0_off2017 v533) a + S1x16.size a ≤ S704x64.size a)
theorem k0_off2014_inb : ∀ (v533 : BitVec 32) (k0_hw478 : k0_chk478 v533), ∀ a, (k0_off2014 v533) a + S1x16.size a ≤ S704x64.size a := fun v533 k0_hw478 => k0_hw478.1
theorem k0_off2015_inb : ∀ (v533 : BitVec 32) (k0_hw478 : k0_chk478 v533), ∀ a, (k0_off2015 v533) a + S1x16.size a ≤ S704x64.size a := fun v533 k0_hw478 => k0_hw478.2.1
theorem k0_off2016_inb : ∀ (v533 : BitVec 32) (k0_hw478 : k0_chk478 v533), ∀ a, (k0_off2016 v533) a + S1x16.size a ≤ S704x64.size a := fun v533 k0_hw478 => k0_hw478.2.2.1
theorem k0_off2017_inb : ∀ (v533 : BitVec 32) (k0_hw478 : k0_chk478 v533), ∀ a, (k0_off2017 v533) a + S1x16.size a ≤ S704x64.size a := fun v533 k0_hw478 => k0_hw478.2.2.2

def k0_off2018 (v554 : BitVec 32) : Fin 2 → Nat :=
  let v555 : Index := Scalar.indexCast v554
  let c0_215 : Index := 0#32
  ![v555.toNat, 0]

def k0_off2019 (v554 : BitVec 32) : Fin 2 → Nat :=
  let v559 : Index := Scalar.indexCast v554
  let c16_216 : Index := 16#32
  ![v559.toNat, 16]
def k0_off2020 (v554 : BitVec 32) : Fin 2 → Nat :=
  let v563 : Index := Scalar.indexCast v554
  let c32_217 : Index := 32#32
  ![v563.toNat, 32]
def k0_off2021 (v554 : BitVec 32) : Fin 2 → Nat :=
  let v567 : Index := Scalar.indexCast v554
  let c48_218 : Index := 48#32
  ![v567.toNat, 48]

def k0_chk479 (v554 : BitVec 32) : Prop :=
  (∀ a, (k0_off2018 v554) a + S1x16.size a ≤ S704x64.size a) ∧
  (∀ a, (k0_off2019 v554) a + S1x16.size a ≤ S704x64.size a) ∧
  (∀ a, (k0_off2020 v554) a + S1x16.size a ≤ S704x64.size a) ∧
  (∀ a, (k0_off2021 v554) a + S1x16.size a ≤ S704x64.size a)
theorem k0_off2018_inb : ∀ (v554 : BitVec 32) (k0_hw479 : k0_chk479 v554), ∀ a, (k0_off2018 v554) a + S1x16.size a ≤ S704x64.size a := fun v554 k0_hw479 => k0_hw479.1
theorem k0_off2019_inb : ∀ (v554 : BitVec 32) (k0_hw479 : k0_chk479 v554), ∀ a, (k0_off2019 v554) a + S1x16.size a ≤ S704x64.size a := fun v554 k0_hw479 => k0_hw479.2.1
theorem k0_off2020_inb : ∀ (v554 : BitVec 32) (k0_hw479 : k0_chk479 v554), ∀ a, (k0_off2020 v554) a + S1x16.size a ≤ S704x64.size a := fun v554 k0_hw479 => k0_hw479.2.2.1
theorem k0_off2021_inb : ∀ (v554 : BitVec 32) (k0_hw479 : k0_chk479 v554), ∀ a, (k0_off2021 v554) a + S1x16.size a ≤ S704x64.size a := fun v554 k0_hw479 => k0_hw479.2.2.2

def k0_off2022 (v575 : BitVec 32) : Fin 2 → Nat :=
  let v576 : Index := Scalar.indexCast v575
  let c0_219 : Index := 0#32
  ![v576.toNat, 0]

def k0_off2023 (v575 : BitVec 32) : Fin 2 → Nat :=
  let v580 : Index := Scalar.indexCast v575
  let c16_220 : Index := 16#32
  ![v580.toNat, 16]
def k0_off2024 (v575 : BitVec 32) : Fin 2 → Nat :=
  let v584 : Index := Scalar.indexCast v575
  let c32_221 : Index := 32#32
  ![v584.toNat, 32]
def k0_off2025 (v575 : BitVec 32) : Fin 2 → Nat :=
  let v588 : Index := Scalar.indexCast v575
  let c48_222 : Index := 48#32
  ![v588.toNat, 48]

def k0_chk480 (v575 : BitVec 32) : Prop :=
  (∀ a, (k0_off2022 v575) a + S1x16.size a ≤ S704x64.size a) ∧
  (∀ a, (k0_off2023 v575) a + S1x16.size a ≤ S704x64.size a) ∧
  (∀ a, (k0_off2024 v575) a + S1x16.size a ≤ S704x64.size a) ∧
  (∀ a, (k0_off2025 v575) a + S1x16.size a ≤ S704x64.size a)
theorem k0_off2022_inb : ∀ (v575 : BitVec 32) (k0_hw480 : k0_chk480 v575), ∀ a, (k0_off2022 v575) a + S1x16.size a ≤ S704x64.size a := fun v575 k0_hw480 => k0_hw480.1
theorem k0_off2023_inb : ∀ (v575 : BitVec 32) (k0_hw480 : k0_chk480 v575), ∀ a, (k0_off2023 v575) a + S1x16.size a ≤ S704x64.size a := fun v575 k0_hw480 => k0_hw480.2.1
theorem k0_off2024_inb : ∀ (v575 : BitVec 32) (k0_hw480 : k0_chk480 v575), ∀ a, (k0_off2024 v575) a + S1x16.size a ≤ S704x64.size a := fun v575 k0_hw480 => k0_hw480.2.2.1
theorem k0_off2025_inb : ∀ (v575 : BitVec 32) (k0_hw480 : k0_chk480 v575), ∀ a, (k0_off2025 v575) a + S1x16.size a ≤ S704x64.size a := fun v575 k0_hw480 => k0_hw480.2.2.2

def k0_off2026 (v596 : BitVec 32) : Fin 2 → Nat :=
  let v597 : Index := Scalar.indexCast v596
  let c0_223 : Index := 0#32
  ![v597.toNat, 0]

def k0_off2027 (v596 : BitVec 32) : Fin 2 → Nat :=
  let v601 : Index := Scalar.indexCast v596
  let c16_224 : Index := 16#32
  ![v601.toNat, 16]
def k0_off2028 (v596 : BitVec 32) : Fin 2 → Nat :=
  let v605 : Index := Scalar.indexCast v596
  let c32_225 : Index := 32#32
  ![v605.toNat, 32]
def k0_off2029 (v596 : BitVec 32) : Fin 2 → Nat :=
  let v609 : Index := Scalar.indexCast v596
  let c48_226 : Index := 48#32
  ![v609.toNat, 48]

def k0_chk481 (v596 : BitVec 32) : Prop :=
  (∀ a, (k0_off2026 v596) a + S1x16.size a ≤ S704x64.size a) ∧
  (∀ a, (k0_off2027 v596) a + S1x16.size a ≤ S704x64.size a) ∧
  (∀ a, (k0_off2028 v596) a + S1x16.size a ≤ S704x64.size a) ∧
  (∀ a, (k0_off2029 v596) a + S1x16.size a ≤ S704x64.size a)
theorem k0_off2026_inb : ∀ (v596 : BitVec 32) (k0_hw481 : k0_chk481 v596), ∀ a, (k0_off2026 v596) a + S1x16.size a ≤ S704x64.size a := fun v596 k0_hw481 => k0_hw481.1
theorem k0_off2027_inb : ∀ (v596 : BitVec 32) (k0_hw481 : k0_chk481 v596), ∀ a, (k0_off2027 v596) a + S1x16.size a ≤ S704x64.size a := fun v596 k0_hw481 => k0_hw481.2.1
theorem k0_off2028_inb : ∀ (v596 : BitVec 32) (k0_hw481 : k0_chk481 v596), ∀ a, (k0_off2028 v596) a + S1x16.size a ≤ S704x64.size a := fun v596 k0_hw481 => k0_hw481.2.2.1
theorem k0_off2029_inb : ∀ (v596 : BitVec 32) (k0_hw481 : k0_chk481 v596), ∀ a, (k0_off2029 v596) a + S1x16.size a ≤ S704x64.size a := fun v596 k0_hw481 => k0_hw481.2.2.2

def k0_off2030 (v617 : BitVec 32) : Fin 2 → Nat :=
  let v618 : Index := Scalar.indexCast v617
  let c0_227 : Index := 0#32
  ![v618.toNat, 0]

def k0_off2031 (v617 : BitVec 32) : Fin 2 → Nat :=
  let v622 : Index := Scalar.indexCast v617
  let c16_228 : Index := 16#32
  ![v622.toNat, 16]
def k0_off2032 (v617 : BitVec 32) : Fin 2 → Nat :=
  let v626 : Index := Scalar.indexCast v617
  let c32_229 : Index := 32#32
  ![v626.toNat, 32]
def k0_off2033 (v617 : BitVec 32) : Fin 2 → Nat :=
  let v630 : Index := Scalar.indexCast v617
  let c48_230 : Index := 48#32
  ![v630.toNat, 48]

def k0_chk482 (v617 : BitVec 32) : Prop :=
  (∀ a, (k0_off2030 v617) a + S1x16.size a ≤ S704x64.size a) ∧
  (∀ a, (k0_off2031 v617) a + S1x16.size a ≤ S704x64.size a) ∧
  (∀ a, (k0_off2032 v617) a + S1x16.size a ≤ S704x64.size a) ∧
  (∀ a, (k0_off2033 v617) a + S1x16.size a ≤ S704x64.size a)
theorem k0_off2030_inb : ∀ (v617 : BitVec 32) (k0_hw482 : k0_chk482 v617), ∀ a, (k0_off2030 v617) a + S1x16.size a ≤ S704x64.size a := fun v617 k0_hw482 => k0_hw482.1
theorem k0_off2031_inb : ∀ (v617 : BitVec 32) (k0_hw482 : k0_chk482 v617), ∀ a, (k0_off2031 v617) a + S1x16.size a ≤ S704x64.size a := fun v617 k0_hw482 => k0_hw482.2.1
theorem k0_off2032_inb : ∀ (v617 : BitVec 32) (k0_hw482 : k0_chk482 v617), ∀ a, (k0_off2032 v617) a + S1x16.size a ≤ S704x64.size a := fun v617 k0_hw482 => k0_hw482.2.2.1
theorem k0_off2033_inb : ∀ (v617 : BitVec 32) (k0_hw482 : k0_chk482 v617), ∀ a, (k0_off2033 v617) a + S1x16.size a ≤ S704x64.size a := fun v617 k0_hw482 => k0_hw482.2.2.2

def k0_off2034 (v638 : BitVec 32) : Fin 2 → Nat :=
  let v639 : Index := Scalar.indexCast v638
  let c0_231 : Index := 0#32
  ![v639.toNat, 0]

def k0_off2035 (v638 : BitVec 32) : Fin 2 → Nat :=
  let v643 : Index := Scalar.indexCast v638
  let c16_232 : Index := 16#32
  ![v643.toNat, 16]
def k0_off2036 (v638 : BitVec 32) : Fin 2 → Nat :=
  let v647 : Index := Scalar.indexCast v638
  let c32_233 : Index := 32#32
  ![v647.toNat, 32]
def k0_off2037 (v638 : BitVec 32) : Fin 2 → Nat :=
  let v651 : Index := Scalar.indexCast v638
  let c48_234 : Index := 48#32
  ![v651.toNat, 48]

def k0_chk483 (v638 : BitVec 32) : Prop :=
  (∀ a, (k0_off2034 v638) a + S1x16.size a ≤ S704x64.size a) ∧
  (∀ a, (k0_off2035 v638) a + S1x16.size a ≤ S704x64.size a) ∧
  (∀ a, (k0_off2036 v638) a + S1x16.size a ≤ S704x64.size a) ∧
  (∀ a, (k0_off2037 v638) a + S1x16.size a ≤ S704x64.size a)
theorem k0_off2034_inb : ∀ (v638 : BitVec 32) (k0_hw483 : k0_chk483 v638), ∀ a, (k0_off2034 v638) a + S1x16.size a ≤ S704x64.size a := fun v638 k0_hw483 => k0_hw483.1
theorem k0_off2035_inb : ∀ (v638 : BitVec 32) (k0_hw483 : k0_chk483 v638), ∀ a, (k0_off2035 v638) a + S1x16.size a ≤ S704x64.size a := fun v638 k0_hw483 => k0_hw483.2.1
theorem k0_off2036_inb : ∀ (v638 : BitVec 32) (k0_hw483 : k0_chk483 v638), ∀ a, (k0_off2036 v638) a + S1x16.size a ≤ S704x64.size a := fun v638 k0_hw483 => k0_hw483.2.2.1
theorem k0_off2037_inb : ∀ (v638 : BitVec 32) (k0_hw483 : k0_chk483 v638), ∀ a, (k0_off2037 v638) a + S1x16.size a ≤ S704x64.size a := fun v638 k0_hw483 => k0_hw483.2.2.2

def k0_off2038 (v659 : BitVec 32) : Fin 2 → Nat :=
  let v660 : Index := Scalar.indexCast v659
  let c0_235 : Index := 0#32
  ![v660.toNat, 0]

def k0_off2039 (v659 : BitVec 32) : Fin 2 → Nat :=
  let v664 : Index := Scalar.indexCast v659
  let c16_236 : Index := 16#32
  ![v664.toNat, 16]
def k0_off2040 (v659 : BitVec 32) : Fin 2 → Nat :=
  let v668 : Index := Scalar.indexCast v659
  let c32_237 : Index := 32#32
  ![v668.toNat, 32]
def k0_off2041 (v659 : BitVec 32) : Fin 2 → Nat :=
  let v672 : Index := Scalar.indexCast v659
  let c48_238 : Index := 48#32
  ![v672.toNat, 48]

def k0_chk484 (v659 : BitVec 32) : Prop :=
  (∀ a, (k0_off2038 v659) a + S1x16.size a ≤ S704x64.size a) ∧
  (∀ a, (k0_off2039 v659) a + S1x16.size a ≤ S704x64.size a) ∧
  (∀ a, (k0_off2040 v659) a + S1x16.size a ≤ S704x64.size a) ∧
  (∀ a, (k0_off2041 v659) a + S1x16.size a ≤ S704x64.size a)
theorem k0_off2038_inb : ∀ (v659 : BitVec 32) (k0_hw484 : k0_chk484 v659), ∀ a, (k0_off2038 v659) a + S1x16.size a ≤ S704x64.size a := fun v659 k0_hw484 => k0_hw484.1
theorem k0_off2039_inb : ∀ (v659 : BitVec 32) (k0_hw484 : k0_chk484 v659), ∀ a, (k0_off2039 v659) a + S1x16.size a ≤ S704x64.size a := fun v659 k0_hw484 => k0_hw484.2.1
theorem k0_off2040_inb : ∀ (v659 : BitVec 32) (k0_hw484 : k0_chk484 v659), ∀ a, (k0_off2040 v659) a + S1x16.size a ≤ S704x64.size a := fun v659 k0_hw484 => k0_hw484.2.2.1
theorem k0_off2041_inb : ∀ (v659 : BitVec 32) (k0_hw484 : k0_chk484 v659), ∀ a, (k0_off2041 v659) a + S1x16.size a ≤ S704x64.size a := fun v659 k0_hw484 => k0_hw484.2.2.2

def k0_off2042 (v680 : BitVec 32) : Fin 2 → Nat :=
  let v681 : Index := Scalar.indexCast v680
  let c0_239 : Index := 0#32
  ![v681.toNat, 0]

def k0_off2043 (v680 : BitVec 32) : Fin 2 → Nat :=
  let v685 : Index := Scalar.indexCast v680
  let c16_240 : Index := 16#32
  ![v685.toNat, 16]
def k0_off2044 (v680 : BitVec 32) : Fin 2 → Nat :=
  let v689 : Index := Scalar.indexCast v680
  let c32_241 : Index := 32#32
  ![v689.toNat, 32]
def k0_off2045 (v680 : BitVec 32) : Fin 2 → Nat :=
  let v693 : Index := Scalar.indexCast v680
  let c48_242 : Index := 48#32
  ![v693.toNat, 48]

def k0_chk485 (v680 : BitVec 32) : Prop :=
  (∀ a, (k0_off2042 v680) a + S1x16.size a ≤ S704x64.size a) ∧
  (∀ a, (k0_off2043 v680) a + S1x16.size a ≤ S704x64.size a) ∧
  (∀ a, (k0_off2044 v680) a + S1x16.size a ≤ S704x64.size a) ∧
  (∀ a, (k0_off2045 v680) a + S1x16.size a ≤ S704x64.size a)
theorem k0_off2042_inb : ∀ (v680 : BitVec 32) (k0_hw485 : k0_chk485 v680), ∀ a, (k0_off2042 v680) a + S1x16.size a ≤ S704x64.size a := fun v680 k0_hw485 => k0_hw485.1
theorem k0_off2043_inb : ∀ (v680 : BitVec 32) (k0_hw485 : k0_chk485 v680), ∀ a, (k0_off2043 v680) a + S1x16.size a ≤ S704x64.size a := fun v680 k0_hw485 => k0_hw485.2.1
theorem k0_off2044_inb : ∀ (v680 : BitVec 32) (k0_hw485 : k0_chk485 v680), ∀ a, (k0_off2044 v680) a + S1x16.size a ≤ S704x64.size a := fun v680 k0_hw485 => k0_hw485.2.2.1
theorem k0_off2045_inb : ∀ (v680 : BitVec 32) (k0_hw485 : k0_chk485 v680), ∀ a, (k0_off2045 v680) a + S1x16.size a ≤ S704x64.size a := fun v680 k0_hw485 => k0_hw485.2.2.2

def k0_off2046 (v701 : BitVec 32) : Fin 2 → Nat :=
  let v702 : Index := Scalar.indexCast v701
  let c0_243 : Index := 0#32
  ![v702.toNat, 0]

def k0_off2047 (v701 : BitVec 32) : Fin 2 → Nat :=
  let v706 : Index := Scalar.indexCast v701
  let c16_244 : Index := 16#32
  ![v706.toNat, 16]
def k0_off2048 (v701 : BitVec 32) : Fin 2 → Nat :=
  let v710 : Index := Scalar.indexCast v701
  let c32_245 : Index := 32#32
  ![v710.toNat, 32]
def k0_off2049 (v701 : BitVec 32) : Fin 2 → Nat :=
  let v714 : Index := Scalar.indexCast v701
  let c48_246 : Index := 48#32
  ![v714.toNat, 48]

def k0_chk486 (v701 : BitVec 32) : Prop :=
  (∀ a, (k0_off2046 v701) a + S1x16.size a ≤ S704x64.size a) ∧
  (∀ a, (k0_off2047 v701) a + S1x16.size a ≤ S704x64.size a) ∧
  (∀ a, (k0_off2048 v701) a + S1x16.size a ≤ S704x64.size a) ∧
  (∀ a, (k0_off2049 v701) a + S1x16.size a ≤ S704x64.size a)
theorem k0_off2046_inb : ∀ (v701 : BitVec 32) (k0_hw486 : k0_chk486 v701), ∀ a, (k0_off2046 v701) a + S1x16.size a ≤ S704x64.size a := fun v701 k0_hw486 => k0_hw486.1
theorem k0_off2047_inb : ∀ (v701 : BitVec 32) (k0_hw486 : k0_chk486 v701), ∀ a, (k0_off2047 v701) a + S1x16.size a ≤ S704x64.size a := fun v701 k0_hw486 => k0_hw486.2.1
theorem k0_off2048_inb : ∀ (v701 : BitVec 32) (k0_hw486 : k0_chk486 v701), ∀ a, (k0_off2048 v701) a + S1x16.size a ≤ S704x64.size a := fun v701 k0_hw486 => k0_hw486.2.2.1
theorem k0_off2049_inb : ∀ (v701 : BitVec 32) (k0_hw486 : k0_chk486 v701), ∀ a, (k0_off2049 v701) a + S1x16.size a ≤ S704x64.size a := fun v701 k0_hw486 => k0_hw486.2.2.2

def k0_off2050 (v722 : BitVec 32) : Fin 2 → Nat :=
  let v723 : Index := Scalar.indexCast v722
  let c0_247 : Index := 0#32
  ![v723.toNat, 0]

def k0_off2051 (v722 : BitVec 32) : Fin 2 → Nat :=
  let v727 : Index := Scalar.indexCast v722
  let c16_248 : Index := 16#32
  ![v727.toNat, 16]
def k0_off2052 (v722 : BitVec 32) : Fin 2 → Nat :=
  let v731 : Index := Scalar.indexCast v722
  let c32_249 : Index := 32#32
  ![v731.toNat, 32]
def k0_off2053 (v722 : BitVec 32) : Fin 2 → Nat :=
  let v735 : Index := Scalar.indexCast v722
  let c48_250 : Index := 48#32
  ![v735.toNat, 48]

def k0_chk487 (v722 : BitVec 32) : Prop :=
  (∀ a, (k0_off2050 v722) a + S1x16.size a ≤ S704x64.size a) ∧
  (∀ a, (k0_off2051 v722) a + S1x16.size a ≤ S704x64.size a) ∧
  (∀ a, (k0_off2052 v722) a + S1x16.size a ≤ S704x64.size a) ∧
  (∀ a, (k0_off2053 v722) a + S1x16.size a ≤ S704x64.size a)
theorem k0_off2050_inb : ∀ (v722 : BitVec 32) (k0_hw487 : k0_chk487 v722), ∀ a, (k0_off2050 v722) a + S1x16.size a ≤ S704x64.size a := fun v722 k0_hw487 => k0_hw487.1
theorem k0_off2051_inb : ∀ (v722 : BitVec 32) (k0_hw487 : k0_chk487 v722), ∀ a, (k0_off2051 v722) a + S1x16.size a ≤ S704x64.size a := fun v722 k0_hw487 => k0_hw487.2.1
theorem k0_off2052_inb : ∀ (v722 : BitVec 32) (k0_hw487 : k0_chk487 v722), ∀ a, (k0_off2052 v722) a + S1x16.size a ≤ S704x64.size a := fun v722 k0_hw487 => k0_hw487.2.2.1
theorem k0_off2053_inb : ∀ (v722 : BitVec 32) (k0_hw487 : k0_chk487 v722), ∀ a, (k0_off2053 v722) a + S1x16.size a ≤ S704x64.size a := fun v722 k0_hw487 => k0_hw487.2.2.2

def k0_off2054 (v743 : BitVec 32) : Fin 2 → Nat :=
  let v744 : Index := Scalar.indexCast v743
  let c0_251 : Index := 0#32
  ![v744.toNat, 0]

def k0_off2055 (v743 : BitVec 32) : Fin 2 → Nat :=
  let v748 : Index := Scalar.indexCast v743
  let c16_252 : Index := 16#32
  ![v748.toNat, 16]
def k0_off2056 (v743 : BitVec 32) : Fin 2 → Nat :=
  let v752 : Index := Scalar.indexCast v743
  let c32_253 : Index := 32#32
  ![v752.toNat, 32]
def k0_off2057 (v743 : BitVec 32) : Fin 2 → Nat :=
  let v756 : Index := Scalar.indexCast v743
  let c48_254 : Index := 48#32
  ![v756.toNat, 48]

def k0_chk488 (v743 : BitVec 32) : Prop :=
  (∀ a, (k0_off2054 v743) a + S1x16.size a ≤ S704x64.size a) ∧
  (∀ a, (k0_off2055 v743) a + S1x16.size a ≤ S704x64.size a) ∧
  (∀ a, (k0_off2056 v743) a + S1x16.size a ≤ S704x64.size a) ∧
  (∀ a, (k0_off2057 v743) a + S1x16.size a ≤ S704x64.size a)
theorem k0_off2054_inb : ∀ (v743 : BitVec 32) (k0_hw488 : k0_chk488 v743), ∀ a, (k0_off2054 v743) a + S1x16.size a ≤ S704x64.size a := fun v743 k0_hw488 => k0_hw488.1
theorem k0_off2055_inb : ∀ (v743 : BitVec 32) (k0_hw488 : k0_chk488 v743), ∀ a, (k0_off2055 v743) a + S1x16.size a ≤ S704x64.size a := fun v743 k0_hw488 => k0_hw488.2.1
theorem k0_off2056_inb : ∀ (v743 : BitVec 32) (k0_hw488 : k0_chk488 v743), ∀ a, (k0_off2056 v743) a + S1x16.size a ≤ S704x64.size a := fun v743 k0_hw488 => k0_hw488.2.2.1
theorem k0_off2057_inb : ∀ (v743 : BitVec 32) (k0_hw488 : k0_chk488 v743), ∀ a, (k0_off2057 v743) a + S1x16.size a ≤ S704x64.size a := fun v743 k0_hw488 => k0_hw488.2.2.2

def k0_off2058 (v764 : BitVec 32) : Fin 2 → Nat :=
  let v765 : Index := Scalar.indexCast v764
  let c0_255 : Index := 0#32
  ![v765.toNat, 0]

def k0_off2059 (v764 : BitVec 32) : Fin 2 → Nat :=
  let v769 : Index := Scalar.indexCast v764
  let c16_256 : Index := 16#32
  ![v769.toNat, 16]
def k0_off2060 (v764 : BitVec 32) : Fin 2 → Nat :=
  let v773 : Index := Scalar.indexCast v764
  let c32_257 : Index := 32#32
  ![v773.toNat, 32]
def k0_off2061 (v764 : BitVec 32) : Fin 2 → Nat :=
  let v777 : Index := Scalar.indexCast v764
  let c48_258 : Index := 48#32
  ![v777.toNat, 48]

def k0_chk489 (v764 : BitVec 32) : Prop :=
  (∀ a, (k0_off2058 v764) a + S1x16.size a ≤ S704x64.size a) ∧
  (∀ a, (k0_off2059 v764) a + S1x16.size a ≤ S704x64.size a) ∧
  (∀ a, (k0_off2060 v764) a + S1x16.size a ≤ S704x64.size a) ∧
  (∀ a, (k0_off2061 v764) a + S1x16.size a ≤ S704x64.size a)
theorem k0_off2058_inb : ∀ (v764 : BitVec 32) (k0_hw489 : k0_chk489 v764), ∀ a, (k0_off2058 v764) a + S1x16.size a ≤ S704x64.size a := fun v764 k0_hw489 => k0_hw489.1
theorem k0_off2059_inb : ∀ (v764 : BitVec 32) (k0_hw489 : k0_chk489 v764), ∀ a, (k0_off2059 v764) a + S1x16.size a ≤ S704x64.size a := fun v764 k0_hw489 => k0_hw489.2.1
theorem k0_off2060_inb : ∀ (v764 : BitVec 32) (k0_hw489 : k0_chk489 v764), ∀ a, (k0_off2060 v764) a + S1x16.size a ≤ S704x64.size a := fun v764 k0_hw489 => k0_hw489.2.2.1
theorem k0_off2061_inb : ∀ (v764 : BitVec 32) (k0_hw489 : k0_chk489 v764), ∀ a, (k0_off2061 v764) a + S1x16.size a ≤ S704x64.size a := fun v764 k0_hw489 => k0_hw489.2.2.2

def k0_off2062 (v785 : BitVec 32) : Fin 2 → Nat :=
  let v786 : Index := Scalar.indexCast v785
  let c0_259 : Index := 0#32
  ![v786.toNat, 0]

def k0_off2063 (v785 : BitVec 32) : Fin 2 → Nat :=
  let v790 : Index := Scalar.indexCast v785
  let c16_260 : Index := 16#32
  ![v790.toNat, 16]
def k0_off2064 (v785 : BitVec 32) : Fin 2 → Nat :=
  let v794 : Index := Scalar.indexCast v785
  let c32_261 : Index := 32#32
  ![v794.toNat, 32]
def k0_off2065 (v785 : BitVec 32) : Fin 2 → Nat :=
  let v798 : Index := Scalar.indexCast v785
  let c48_262 : Index := 48#32
  ![v798.toNat, 48]

def k0_chk490 (v785 : BitVec 32) : Prop :=
  (∀ a, (k0_off2062 v785) a + S1x16.size a ≤ S704x64.size a) ∧
  (∀ a, (k0_off2063 v785) a + S1x16.size a ≤ S704x64.size a) ∧
  (∀ a, (k0_off2064 v785) a + S1x16.size a ≤ S704x64.size a) ∧
  (∀ a, (k0_off2065 v785) a + S1x16.size a ≤ S704x64.size a)
theorem k0_off2062_inb : ∀ (v785 : BitVec 32) (k0_hw490 : k0_chk490 v785), ∀ a, (k0_off2062 v785) a + S1x16.size a ≤ S704x64.size a := fun v785 k0_hw490 => k0_hw490.1
theorem k0_off2063_inb : ∀ (v785 : BitVec 32) (k0_hw490 : k0_chk490 v785), ∀ a, (k0_off2063 v785) a + S1x16.size a ≤ S704x64.size a := fun v785 k0_hw490 => k0_hw490.2.1
theorem k0_off2064_inb : ∀ (v785 : BitVec 32) (k0_hw490 : k0_chk490 v785), ∀ a, (k0_off2064 v785) a + S1x16.size a ≤ S704x64.size a := fun v785 k0_hw490 => k0_hw490.2.2.1
theorem k0_off2065_inb : ∀ (v785 : BitVec 32) (k0_hw490 : k0_chk490 v785), ∀ a, (k0_off2065 v785) a + S1x16.size a ≤ S704x64.size a := fun v785 k0_hw490 => k0_hw490.2.2.2

def k0_off2066 (v806 : BitVec 32) : Fin 2 → Nat :=
  let v807 : Index := Scalar.indexCast v806
  let c0_263 : Index := 0#32
  ![v807.toNat, 0]

def k0_off2067 (v806 : BitVec 32) : Fin 2 → Nat :=
  let v811 : Index := Scalar.indexCast v806
  let c16_264 : Index := 16#32
  ![v811.toNat, 16]
def k0_off2068 (v806 : BitVec 32) : Fin 2 → Nat :=
  let v815 : Index := Scalar.indexCast v806
  let c32_265 : Index := 32#32
  ![v815.toNat, 32]
def k0_off2069 (v806 : BitVec 32) : Fin 2 → Nat :=
  let v819 : Index := Scalar.indexCast v806
  let c48_266 : Index := 48#32
  ![v819.toNat, 48]

def k0_chk491 (v806 : BitVec 32) : Prop :=
  (∀ a, (k0_off2066 v806) a + S1x16.size a ≤ S704x64.size a) ∧
  (∀ a, (k0_off2067 v806) a + S1x16.size a ≤ S704x64.size a) ∧
  (∀ a, (k0_off2068 v806) a + S1x16.size a ≤ S704x64.size a) ∧
  (∀ a, (k0_off2069 v806) a + S1x16.size a ≤ S704x64.size a)
theorem k0_off2066_inb : ∀ (v806 : BitVec 32) (k0_hw491 : k0_chk491 v806), ∀ a, (k0_off2066 v806) a + S1x16.size a ≤ S704x64.size a := fun v806 k0_hw491 => k0_hw491.1
theorem k0_off2067_inb : ∀ (v806 : BitVec 32) (k0_hw491 : k0_chk491 v806), ∀ a, (k0_off2067 v806) a + S1x16.size a ≤ S704x64.size a := fun v806 k0_hw491 => k0_hw491.2.1
theorem k0_off2068_inb : ∀ (v806 : BitVec 32) (k0_hw491 : k0_chk491 v806), ∀ a, (k0_off2068 v806) a + S1x16.size a ≤ S704x64.size a := fun v806 k0_hw491 => k0_hw491.2.2.1
theorem k0_off2069_inb : ∀ (v806 : BitVec 32) (k0_hw491 : k0_chk491 v806), ∀ a, (k0_off2069 v806) a + S1x16.size a ≤ S704x64.size a := fun v806 k0_hw491 => k0_hw491.2.2.2

def k0_off2070 (v827 : BitVec 32) : Fin 2 → Nat :=
  let v828 : Index := Scalar.indexCast v827
  let c0_267 : Index := 0#32
  ![v828.toNat, 0]

def k0_off2071 (v827 : BitVec 32) : Fin 2 → Nat :=
  let v832 : Index := Scalar.indexCast v827
  let c16_268 : Index := 16#32
  ![v832.toNat, 16]
def k0_off2072 (v827 : BitVec 32) : Fin 2 → Nat :=
  let v836 : Index := Scalar.indexCast v827
  let c32_269 : Index := 32#32
  ![v836.toNat, 32]
def k0_off2073 (v827 : BitVec 32) : Fin 2 → Nat :=
  let v840 : Index := Scalar.indexCast v827
  let c48_270 : Index := 48#32
  ![v840.toNat, 48]

def k0_chk492 (v827 : BitVec 32) : Prop :=
  (∀ a, (k0_off2070 v827) a + S1x16.size a ≤ S704x64.size a) ∧
  (∀ a, (k0_off2071 v827) a + S1x16.size a ≤ S704x64.size a) ∧
  (∀ a, (k0_off2072 v827) a + S1x16.size a ≤ S704x64.size a) ∧
  (∀ a, (k0_off2073 v827) a + S1x16.size a ≤ S704x64.size a)
theorem k0_off2070_inb : ∀ (v827 : BitVec 32) (k0_hw492 : k0_chk492 v827), ∀ a, (k0_off2070 v827) a + S1x16.size a ≤ S704x64.size a := fun v827 k0_hw492 => k0_hw492.1
theorem k0_off2071_inb : ∀ (v827 : BitVec 32) (k0_hw492 : k0_chk492 v827), ∀ a, (k0_off2071 v827) a + S1x16.size a ≤ S704x64.size a := fun v827 k0_hw492 => k0_hw492.2.1
theorem k0_off2072_inb : ∀ (v827 : BitVec 32) (k0_hw492 : k0_chk492 v827), ∀ a, (k0_off2072 v827) a + S1x16.size a ≤ S704x64.size a := fun v827 k0_hw492 => k0_hw492.2.2.1
theorem k0_off2073_inb : ∀ (v827 : BitVec 32) (k0_hw492 : k0_chk492 v827), ∀ a, (k0_off2073 v827) a + S1x16.size a ≤ S704x64.size a := fun v827 k0_hw492 => k0_hw492.2.2.2

def k0_off2074 (v848 : BitVec 32) : Fin 2 → Nat :=
  let v849 : Index := Scalar.indexCast v848
  let c0_271 : Index := 0#32
  ![v849.toNat, 0]

def k0_off2075 (v848 : BitVec 32) : Fin 2 → Nat :=
  let v853 : Index := Scalar.indexCast v848
  let c16_272 : Index := 16#32
  ![v853.toNat, 16]
def k0_off2076 (v848 : BitVec 32) : Fin 2 → Nat :=
  let v857 : Index := Scalar.indexCast v848
  let c32_273 : Index := 32#32
  ![v857.toNat, 32]
def k0_off2077 (v848 : BitVec 32) : Fin 2 → Nat :=
  let v861 : Index := Scalar.indexCast v848
  let c48_274 : Index := 48#32
  ![v861.toNat, 48]

def k0_chk493 (v848 : BitVec 32) : Prop :=
  (∀ a, (k0_off2074 v848) a + S1x16.size a ≤ S704x64.size a) ∧
  (∀ a, (k0_off2075 v848) a + S1x16.size a ≤ S704x64.size a) ∧
  (∀ a, (k0_off2076 v848) a + S1x16.size a ≤ S704x64.size a) ∧
  (∀ a, (k0_off2077 v848) a + S1x16.size a ≤ S704x64.size a)
theorem k0_off2074_inb : ∀ (v848 : BitVec 32) (k0_hw493 : k0_chk493 v848), ∀ a, (k0_off2074 v848) a + S1x16.size a ≤ S704x64.size a := fun v848 k0_hw493 => k0_hw493.1
theorem k0_off2075_inb : ∀ (v848 : BitVec 32) (k0_hw493 : k0_chk493 v848), ∀ a, (k0_off2075 v848) a + S1x16.size a ≤ S704x64.size a := fun v848 k0_hw493 => k0_hw493.2.1
theorem k0_off2076_inb : ∀ (v848 : BitVec 32) (k0_hw493 : k0_chk493 v848), ∀ a, (k0_off2076 v848) a + S1x16.size a ≤ S704x64.size a := fun v848 k0_hw493 => k0_hw493.2.2.1
theorem k0_off2077_inb : ∀ (v848 : BitVec 32) (k0_hw493 : k0_chk493 v848), ∀ a, (k0_off2077 v848) a + S1x16.size a ≤ S704x64.size a := fun v848 k0_hw493 => k0_hw493.2.2.2

def k0_off2078 (v869 : BitVec 32) : Fin 2 → Nat :=
  let v870 : Index := Scalar.indexCast v869
  let c0_275 : Index := 0#32
  ![v870.toNat, 0]

def k0_off2079 (v869 : BitVec 32) : Fin 2 → Nat :=
  let v874 : Index := Scalar.indexCast v869
  let c16_276 : Index := 16#32
  ![v874.toNat, 16]
def k0_off2080 (v869 : BitVec 32) : Fin 2 → Nat :=
  let v878 : Index := Scalar.indexCast v869
  let c32_277 : Index := 32#32
  ![v878.toNat, 32]
def k0_off2081 (v869 : BitVec 32) : Fin 2 → Nat :=
  let v882 : Index := Scalar.indexCast v869
  let c48_278 : Index := 48#32
  ![v882.toNat, 48]

def k0_chk494 (v869 : BitVec 32) : Prop :=
  (∀ a, (k0_off2078 v869) a + S1x16.size a ≤ S704x64.size a) ∧
  (∀ a, (k0_off2079 v869) a + S1x16.size a ≤ S704x64.size a) ∧
  (∀ a, (k0_off2080 v869) a + S1x16.size a ≤ S704x64.size a) ∧
  (∀ a, (k0_off2081 v869) a + S1x16.size a ≤ S704x64.size a)
theorem k0_off2078_inb : ∀ (v869 : BitVec 32) (k0_hw494 : k0_chk494 v869), ∀ a, (k0_off2078 v869) a + S1x16.size a ≤ S704x64.size a := fun v869 k0_hw494 => k0_hw494.1
theorem k0_off2079_inb : ∀ (v869 : BitVec 32) (k0_hw494 : k0_chk494 v869), ∀ a, (k0_off2079 v869) a + S1x16.size a ≤ S704x64.size a := fun v869 k0_hw494 => k0_hw494.2.1
theorem k0_off2080_inb : ∀ (v869 : BitVec 32) (k0_hw494 : k0_chk494 v869), ∀ a, (k0_off2080 v869) a + S1x16.size a ≤ S704x64.size a := fun v869 k0_hw494 => k0_hw494.2.2.1
theorem k0_off2081_inb : ∀ (v869 : BitVec 32) (k0_hw494 : k0_chk494 v869), ∀ a, (k0_off2081 v869) a + S1x16.size a ≤ S704x64.size a := fun v869 k0_hw494 => k0_hw494.2.2.2

def k0_off2082 (v890 : BitVec 32) : Fin 2 → Nat :=
  let v891 : Index := Scalar.indexCast v890
  let c0_279 : Index := 0#32
  ![v891.toNat, 0]

def k0_off2083 (v890 : BitVec 32) : Fin 2 → Nat :=
  let v895 : Index := Scalar.indexCast v890
  let c16_280 : Index := 16#32
  ![v895.toNat, 16]
def k0_off2084 (v890 : BitVec 32) : Fin 2 → Nat :=
  let v899 : Index := Scalar.indexCast v890
  let c32_281 : Index := 32#32
  ![v899.toNat, 32]
def k0_off2085 (v890 : BitVec 32) : Fin 2 → Nat :=
  let v903 : Index := Scalar.indexCast v890
  let c48_282 : Index := 48#32
  ![v903.toNat, 48]

def k0_chk495 (v890 : BitVec 32) : Prop :=
  (∀ a, (k0_off2082 v890) a + S1x16.size a ≤ S704x64.size a) ∧
  (∀ a, (k0_off2083 v890) a + S1x16.size a ≤ S704x64.size a) ∧
  (∀ a, (k0_off2084 v890) a + S1x16.size a ≤ S704x64.size a) ∧
  (∀ a, (k0_off2085 v890) a + S1x16.size a ≤ S704x64.size a)
theorem k0_off2082_inb : ∀ (v890 : BitVec 32) (k0_hw495 : k0_chk495 v890), ∀ a, (k0_off2082 v890) a + S1x16.size a ≤ S704x64.size a := fun v890 k0_hw495 => k0_hw495.1
theorem k0_off2083_inb : ∀ (v890 : BitVec 32) (k0_hw495 : k0_chk495 v890), ∀ a, (k0_off2083 v890) a + S1x16.size a ≤ S704x64.size a := fun v890 k0_hw495 => k0_hw495.2.1
theorem k0_off2084_inb : ∀ (v890 : BitVec 32) (k0_hw495 : k0_chk495 v890), ∀ a, (k0_off2084 v890) a + S1x16.size a ≤ S704x64.size a := fun v890 k0_hw495 => k0_hw495.2.2.1
theorem k0_off2085_inb : ∀ (v890 : BitVec 32) (k0_hw495 : k0_chk495 v890), ∀ a, (k0_off2085 v890) a + S1x16.size a ≤ S704x64.size a := fun v890 k0_hw495 => k0_hw495.2.2.2

def k0_off2086 (k0_t8 : Fin k0_t8_loop.trips) : Fin 2 → Nat :=
  let c2_i32_143 : BitVec 32 := 2#32
  let c0_i32_138 : BitVec 32 := 0#32
  let c1_i32_140 : BitVec 32 := 1#32
  let arg13 : BitVec 32 := Scf.iv c0_i32_138 c1_i32_140 k0_t8
  let v189 : BitVec 32 := Scalar.muli c2_i32_143 arg13
  let v907 : Index := Scalar.indexCast v189
  let c0_283 : Index := 0#32
  ![v907.toNat, 0]
def k0_off2087 (k0_t8 : Fin k0_t8_loop.trips) : Fin 2 → Nat :=
  let c2_i32_143 : BitVec 32 := 2#32
  let c0_i32_138 : BitVec 32 := 0#32
  let c1_i32_140 : BitVec 32 := 1#32
  let arg13 : BitVec 32 := Scf.iv c0_i32_138 c1_i32_140 k0_t8
  let v189 : BitVec 32 := Scalar.muli c2_i32_143 arg13
  let v909 : Index := Scalar.indexCast v189
  let c16_284 : Index := 16#32
  ![v909.toNat, 16]
def k0_off2088 (k0_t8 : Fin k0_t8_loop.trips) : Fin 2 → Nat :=
  let c2_i32_143 : BitVec 32 := 2#32
  let c0_i32_138 : BitVec 32 := 0#32
  let c1_i32_140 : BitVec 32 := 1#32
  let arg13 : BitVec 32 := Scf.iv c0_i32_138 c1_i32_140 k0_t8
  let v189 : BitVec 32 := Scalar.muli c2_i32_143 arg13
  let v911 : Index := Scalar.indexCast v189
  let c32_285 : Index := 32#32
  ![v911.toNat, 32]
def k0_off2089 (k0_t8 : Fin k0_t8_loop.trips) : Fin 2 → Nat :=
  let c2_i32_143 : BitVec 32 := 2#32
  let c0_i32_138 : BitVec 32 := 0#32
  let c1_i32_140 : BitVec 32 := 1#32
  let arg13 : BitVec 32 := Scf.iv c0_i32_138 c1_i32_140 k0_t8
  let v189 : BitVec 32 := Scalar.muli c2_i32_143 arg13
  let v913 : Index := Scalar.indexCast v189
  let c48_286 : Index := 48#32
  ![v913.toNat, 48]
def k0_off2090 (k0_t8 : Fin k0_t8_loop.trips) : Fin 2 → Nat :=
  let c2_i32_144 : BitVec 32 := 2#32
  let c0_i32_138 : BitVec 32 := 0#32
  let c1_i32_140 : BitVec 32 := 1#32
  let arg13 : BitVec 32 := Scf.iv c0_i32_138 c1_i32_140 k0_t8
  let v190 : BitVec 32 := Scalar.muli c2_i32_144 arg13
  let c1_i32_145 : BitVec 32 := 1#32
  let v191 : BitVec 32 := Scalar.addi v190 c1_i32_145
  let v915 : Index := Scalar.indexCast v191
  let c0_287 : Index := 0#32
  ![v915.toNat, 0]
def k0_off2091 (k0_t8 : Fin k0_t8_loop.trips) : Fin 2 → Nat :=
  let c2_i32_144 : BitVec 32 := 2#32
  let c0_i32_138 : BitVec 32 := 0#32
  let c1_i32_140 : BitVec 32 := 1#32
  let arg13 : BitVec 32 := Scf.iv c0_i32_138 c1_i32_140 k0_t8
  let v190 : BitVec 32 := Scalar.muli c2_i32_144 arg13
  let c1_i32_145 : BitVec 32 := 1#32
  let v191 : BitVec 32 := Scalar.addi v190 c1_i32_145
  let v917 : Index := Scalar.indexCast v191
  let c16_288 : Index := 16#32
  ![v917.toNat, 16]
def k0_off2092 (k0_t8 : Fin k0_t8_loop.trips) : Fin 2 → Nat :=
  let c2_i32_144 : BitVec 32 := 2#32
  let c0_i32_138 : BitVec 32 := 0#32
  let c1_i32_140 : BitVec 32 := 1#32
  let arg13 : BitVec 32 := Scf.iv c0_i32_138 c1_i32_140 k0_t8
  let v190 : BitVec 32 := Scalar.muli c2_i32_144 arg13
  let c1_i32_145 : BitVec 32 := 1#32
  let v191 : BitVec 32 := Scalar.addi v190 c1_i32_145
  let v919 : Index := Scalar.indexCast v191
  let c32_289 : Index := 32#32
  ![v919.toNat, 32]
def k0_off2093 (v941 : BitVec 32) : Fin 2 → Nat :=
  let v942 : Index := Scalar.indexCast v941
  let c0_297 : Index := 0#32
  ![v942.toNat, 0]

def k0_off2094 (v941 : BitVec 32) : Fin 2 → Nat :=
  let v946 : Index := Scalar.indexCast v941
  let c16_298 : Index := 16#32
  ![v946.toNat, 16]
def k0_off2095 (v941 : BitVec 32) : Fin 2 → Nat :=
  let v950 : Index := Scalar.indexCast v941
  let c32_299 : Index := 32#32
  ![v950.toNat, 32]
def k0_off2096 (v941 : BitVec 32) : Fin 2 → Nat :=
  let v954 : Index := Scalar.indexCast v941
  let c48_300 : Index := 48#32
  ![v954.toNat, 48]

def k0_chk496 (v941 : BitVec 32) : Prop :=
  (∀ a, (k0_off2093 v941) a + S1x16.size a ≤ S704x64.size a) ∧
  (∀ a, (k0_off2094 v941) a + S1x16.size a ≤ S704x64.size a) ∧
  (∀ a, (k0_off2095 v941) a + S1x16.size a ≤ S704x64.size a) ∧
  (∀ a, (k0_off2096 v941) a + S1x16.size a ≤ S704x64.size a)
theorem k0_off2093_inb : ∀ (v941 : BitVec 32) (k0_hw496 : k0_chk496 v941), ∀ a, (k0_off2093 v941) a + S1x16.size a ≤ S704x64.size a := fun v941 k0_hw496 => k0_hw496.1
theorem k0_off2094_inb : ∀ (v941 : BitVec 32) (k0_hw496 : k0_chk496 v941), ∀ a, (k0_off2094 v941) a + S1x16.size a ≤ S704x64.size a := fun v941 k0_hw496 => k0_hw496.2.1
theorem k0_off2095_inb : ∀ (v941 : BitVec 32) (k0_hw496 : k0_chk496 v941), ∀ a, (k0_off2095 v941) a + S1x16.size a ≤ S704x64.size a := fun v941 k0_hw496 => k0_hw496.2.2.1
theorem k0_off2096_inb : ∀ (v941 : BitVec 32) (k0_hw496 : k0_chk496 v941), ∀ a, (k0_off2096 v941) a + S1x16.size a ≤ S704x64.size a := fun v941 k0_hw496 => k0_hw496.2.2.2

def k0_off2097 (v962 : BitVec 32) : Fin 2 → Nat :=
  let v963 : Index := Scalar.indexCast v962
  let c0_301 : Index := 0#32
  ![v963.toNat, 0]

def k0_off2098 (v962 : BitVec 32) : Fin 2 → Nat :=
  let v967 : Index := Scalar.indexCast v962
  let c16_302 : Index := 16#32
  ![v967.toNat, 16]
def k0_off2099 (v962 : BitVec 32) : Fin 2 → Nat :=
  let v971 : Index := Scalar.indexCast v962
  let c32_303 : Index := 32#32
  ![v971.toNat, 32]
def k0_off2100 (v962 : BitVec 32) : Fin 2 → Nat :=
  let v975 : Index := Scalar.indexCast v962
  let c48_304 : Index := 48#32
  ![v975.toNat, 48]

def k0_chk497 (v962 : BitVec 32) : Prop :=
  (∀ a, (k0_off2097 v962) a + S1x16.size a ≤ S704x64.size a) ∧
  (∀ a, (k0_off2098 v962) a + S1x16.size a ≤ S704x64.size a) ∧
  (∀ a, (k0_off2099 v962) a + S1x16.size a ≤ S704x64.size a) ∧
  (∀ a, (k0_off2100 v962) a + S1x16.size a ≤ S704x64.size a)
theorem k0_off2097_inb : ∀ (v962 : BitVec 32) (k0_hw497 : k0_chk497 v962), ∀ a, (k0_off2097 v962) a + S1x16.size a ≤ S704x64.size a := fun v962 k0_hw497 => k0_hw497.1
theorem k0_off2098_inb : ∀ (v962 : BitVec 32) (k0_hw497 : k0_chk497 v962), ∀ a, (k0_off2098 v962) a + S1x16.size a ≤ S704x64.size a := fun v962 k0_hw497 => k0_hw497.2.1
theorem k0_off2099_inb : ∀ (v962 : BitVec 32) (k0_hw497 : k0_chk497 v962), ∀ a, (k0_off2099 v962) a + S1x16.size a ≤ S704x64.size a := fun v962 k0_hw497 => k0_hw497.2.2.1
theorem k0_off2100_inb : ∀ (v962 : BitVec 32) (k0_hw497 : k0_chk497 v962), ∀ a, (k0_off2100 v962) a + S1x16.size a ≤ S704x64.size a := fun v962 k0_hw497 => k0_hw497.2.2.2

def k0_off2101 (v983 : BitVec 32) : Fin 2 → Nat :=
  let v984 : Index := Scalar.indexCast v983
  let c0_305 : Index := 0#32
  ![v984.toNat, 0]

def k0_off2102 (v983 : BitVec 32) : Fin 2 → Nat :=
  let v988 : Index := Scalar.indexCast v983
  let c16_306 : Index := 16#32
  ![v988.toNat, 16]
def k0_off2103 (v983 : BitVec 32) : Fin 2 → Nat :=
  let v992 : Index := Scalar.indexCast v983
  let c32_307 : Index := 32#32
  ![v992.toNat, 32]
def k0_off2104 (v983 : BitVec 32) : Fin 2 → Nat :=
  let v996 : Index := Scalar.indexCast v983
  let c48_308 : Index := 48#32
  ![v996.toNat, 48]

def k0_chk498 (v983 : BitVec 32) : Prop :=
  (∀ a, (k0_off2101 v983) a + S1x16.size a ≤ S704x64.size a) ∧
  (∀ a, (k0_off2102 v983) a + S1x16.size a ≤ S704x64.size a) ∧
  (∀ a, (k0_off2103 v983) a + S1x16.size a ≤ S704x64.size a) ∧
  (∀ a, (k0_off2104 v983) a + S1x16.size a ≤ S704x64.size a)
theorem k0_off2101_inb : ∀ (v983 : BitVec 32) (k0_hw498 : k0_chk498 v983), ∀ a, (k0_off2101 v983) a + S1x16.size a ≤ S704x64.size a := fun v983 k0_hw498 => k0_hw498.1
theorem k0_off2102_inb : ∀ (v983 : BitVec 32) (k0_hw498 : k0_chk498 v983), ∀ a, (k0_off2102 v983) a + S1x16.size a ≤ S704x64.size a := fun v983 k0_hw498 => k0_hw498.2.1
theorem k0_off2103_inb : ∀ (v983 : BitVec 32) (k0_hw498 : k0_chk498 v983), ∀ a, (k0_off2103 v983) a + S1x16.size a ≤ S704x64.size a := fun v983 k0_hw498 => k0_hw498.2.2.1
theorem k0_off2104_inb : ∀ (v983 : BitVec 32) (k0_hw498 : k0_chk498 v983), ∀ a, (k0_off2104 v983) a + S1x16.size a ≤ S704x64.size a := fun v983 k0_hw498 => k0_hw498.2.2.2

def k0_off2105 (v1004 : BitVec 32) : Fin 2 → Nat :=
  let v1005 : Index := Scalar.indexCast v1004
  let c0_309 : Index := 0#32
  ![v1005.toNat, 0]

def k0_off2106 (v1004 : BitVec 32) : Fin 2 → Nat :=
  let v1009 : Index := Scalar.indexCast v1004
  let c16_310 : Index := 16#32
  ![v1009.toNat, 16]
def k0_off2107 (v1004 : BitVec 32) : Fin 2 → Nat :=
  let v1013 : Index := Scalar.indexCast v1004
  let c32_311 : Index := 32#32
  ![v1013.toNat, 32]
def k0_off2108 (v1004 : BitVec 32) : Fin 2 → Nat :=
  let v1017 : Index := Scalar.indexCast v1004
  let c48_312 : Index := 48#32
  ![v1017.toNat, 48]

def k0_chk499 (v1004 : BitVec 32) : Prop :=
  (∀ a, (k0_off2105 v1004) a + S1x16.size a ≤ S704x64.size a) ∧
  (∀ a, (k0_off2106 v1004) a + S1x16.size a ≤ S704x64.size a) ∧
  (∀ a, (k0_off2107 v1004) a + S1x16.size a ≤ S704x64.size a) ∧
  (∀ a, (k0_off2108 v1004) a + S1x16.size a ≤ S704x64.size a)
theorem k0_off2105_inb : ∀ (v1004 : BitVec 32) (k0_hw499 : k0_chk499 v1004), ∀ a, (k0_off2105 v1004) a + S1x16.size a ≤ S704x64.size a := fun v1004 k0_hw499 => k0_hw499.1
theorem k0_off2106_inb : ∀ (v1004 : BitVec 32) (k0_hw499 : k0_chk499 v1004), ∀ a, (k0_off2106 v1004) a + S1x16.size a ≤ S704x64.size a := fun v1004 k0_hw499 => k0_hw499.2.1
theorem k0_off2107_inb : ∀ (v1004 : BitVec 32) (k0_hw499 : k0_chk499 v1004), ∀ a, (k0_off2107 v1004) a + S1x16.size a ≤ S704x64.size a := fun v1004 k0_hw499 => k0_hw499.2.2.1
theorem k0_off2108_inb : ∀ (v1004 : BitVec 32) (k0_hw499 : k0_chk499 v1004), ∀ a, (k0_off2108 v1004) a + S1x16.size a ≤ S704x64.size a := fun v1004 k0_hw499 => k0_hw499.2.2.2

def k0_off2109 (v1025 : BitVec 32) : Fin 2 → Nat :=
  let v1026 : Index := Scalar.indexCast v1025
  let c0_313 : Index := 0#32
  ![v1026.toNat, 0]

def k0_off2110 (v1025 : BitVec 32) : Fin 2 → Nat :=
  let v1030 : Index := Scalar.indexCast v1025
  let c16_314 : Index := 16#32
  ![v1030.toNat, 16]
def k0_off2111 (v1025 : BitVec 32) : Fin 2 → Nat :=
  let v1034 : Index := Scalar.indexCast v1025
  let c32_315 : Index := 32#32
  ![v1034.toNat, 32]
def k0_off2112 (v1025 : BitVec 32) : Fin 2 → Nat :=
  let v1038 : Index := Scalar.indexCast v1025
  let c48_316 : Index := 48#32
  ![v1038.toNat, 48]

def k0_chk500 (v1025 : BitVec 32) : Prop :=
  (∀ a, (k0_off2109 v1025) a + S1x16.size a ≤ S704x64.size a) ∧
  (∀ a, (k0_off2110 v1025) a + S1x16.size a ≤ S704x64.size a) ∧
  (∀ a, (k0_off2111 v1025) a + S1x16.size a ≤ S704x64.size a) ∧
  (∀ a, (k0_off2112 v1025) a + S1x16.size a ≤ S704x64.size a)
theorem k0_off2109_inb : ∀ (v1025 : BitVec 32) (k0_hw500 : k0_chk500 v1025), ∀ a, (k0_off2109 v1025) a + S1x16.size a ≤ S704x64.size a := fun v1025 k0_hw500 => k0_hw500.1
theorem k0_off2110_inb : ∀ (v1025 : BitVec 32) (k0_hw500 : k0_chk500 v1025), ∀ a, (k0_off2110 v1025) a + S1x16.size a ≤ S704x64.size a := fun v1025 k0_hw500 => k0_hw500.2.1
theorem k0_off2111_inb : ∀ (v1025 : BitVec 32) (k0_hw500 : k0_chk500 v1025), ∀ a, (k0_off2111 v1025) a + S1x16.size a ≤ S704x64.size a := fun v1025 k0_hw500 => k0_hw500.2.2.1
theorem k0_off2112_inb : ∀ (v1025 : BitVec 32) (k0_hw500 : k0_chk500 v1025), ∀ a, (k0_off2112 v1025) a + S1x16.size a ≤ S704x64.size a := fun v1025 k0_hw500 => k0_hw500.2.2.2

def k0_off2113 (v1046 : BitVec 32) : Fin 2 → Nat :=
  let v1047 : Index := Scalar.indexCast v1046
  let c0_317 : Index := 0#32
  ![v1047.toNat, 0]

def k0_off2114 (v1046 : BitVec 32) : Fin 2 → Nat :=
  let v1051 : Index := Scalar.indexCast v1046
  let c16_318 : Index := 16#32
  ![v1051.toNat, 16]
def k0_off2115 (v1046 : BitVec 32) : Fin 2 → Nat :=
  let v1055 : Index := Scalar.indexCast v1046
  let c32_319 : Index := 32#32
  ![v1055.toNat, 32]
def k0_off2116 (v1046 : BitVec 32) : Fin 2 → Nat :=
  let v1059 : Index := Scalar.indexCast v1046
  let c48_320 : Index := 48#32
  ![v1059.toNat, 48]

def k0_chk501 (v1046 : BitVec 32) : Prop :=
  (∀ a, (k0_off2113 v1046) a + S1x16.size a ≤ S704x64.size a) ∧
  (∀ a, (k0_off2114 v1046) a + S1x16.size a ≤ S704x64.size a) ∧
  (∀ a, (k0_off2115 v1046) a + S1x16.size a ≤ S704x64.size a) ∧
  (∀ a, (k0_off2116 v1046) a + S1x16.size a ≤ S704x64.size a)
theorem k0_off2113_inb : ∀ (v1046 : BitVec 32) (k0_hw501 : k0_chk501 v1046), ∀ a, (k0_off2113 v1046) a + S1x16.size a ≤ S704x64.size a := fun v1046 k0_hw501 => k0_hw501.1
theorem k0_off2114_inb : ∀ (v1046 : BitVec 32) (k0_hw501 : k0_chk501 v1046), ∀ a, (k0_off2114 v1046) a + S1x16.size a ≤ S704x64.size a := fun v1046 k0_hw501 => k0_hw501.2.1
theorem k0_off2115_inb : ∀ (v1046 : BitVec 32) (k0_hw501 : k0_chk501 v1046), ∀ a, (k0_off2115 v1046) a + S1x16.size a ≤ S704x64.size a := fun v1046 k0_hw501 => k0_hw501.2.2.1
theorem k0_off2116_inb : ∀ (v1046 : BitVec 32) (k0_hw501 : k0_chk501 v1046), ∀ a, (k0_off2116 v1046) a + S1x16.size a ≤ S704x64.size a := fun v1046 k0_hw501 => k0_hw501.2.2.2

def k0_off2117 (v1067 : BitVec 32) : Fin 2 → Nat :=
  let v1068 : Index := Scalar.indexCast v1067
  let c0_321 : Index := 0#32
  ![v1068.toNat, 0]

def k0_off2118 (v1067 : BitVec 32) : Fin 2 → Nat :=
  let v1072 : Index := Scalar.indexCast v1067
  let c16_322 : Index := 16#32
  ![v1072.toNat, 16]
def k0_off2119 (v1067 : BitVec 32) : Fin 2 → Nat :=
  let v1076 : Index := Scalar.indexCast v1067
  let c32_323 : Index := 32#32
  ![v1076.toNat, 32]
def k0_off2120 (v1067 : BitVec 32) : Fin 2 → Nat :=
  let v1080 : Index := Scalar.indexCast v1067
  let c48_324 : Index := 48#32
  ![v1080.toNat, 48]

def k0_chk502 (v1067 : BitVec 32) : Prop :=
  (∀ a, (k0_off2117 v1067) a + S1x16.size a ≤ S704x64.size a) ∧
  (∀ a, (k0_off2118 v1067) a + S1x16.size a ≤ S704x64.size a) ∧
  (∀ a, (k0_off2119 v1067) a + S1x16.size a ≤ S704x64.size a) ∧
  (∀ a, (k0_off2120 v1067) a + S1x16.size a ≤ S704x64.size a)
theorem k0_off2117_inb : ∀ (v1067 : BitVec 32) (k0_hw502 : k0_chk502 v1067), ∀ a, (k0_off2117 v1067) a + S1x16.size a ≤ S704x64.size a := fun v1067 k0_hw502 => k0_hw502.1
theorem k0_off2118_inb : ∀ (v1067 : BitVec 32) (k0_hw502 : k0_chk502 v1067), ∀ a, (k0_off2118 v1067) a + S1x16.size a ≤ S704x64.size a := fun v1067 k0_hw502 => k0_hw502.2.1
theorem k0_off2119_inb : ∀ (v1067 : BitVec 32) (k0_hw502 : k0_chk502 v1067), ∀ a, (k0_off2119 v1067) a + S1x16.size a ≤ S704x64.size a := fun v1067 k0_hw502 => k0_hw502.2.2.1
theorem k0_off2120_inb : ∀ (v1067 : BitVec 32) (k0_hw502 : k0_chk502 v1067), ∀ a, (k0_off2120 v1067) a + S1x16.size a ≤ S704x64.size a := fun v1067 k0_hw502 => k0_hw502.2.2.2

def k0_off2121 (v1088 : BitVec 32) : Fin 2 → Nat :=
  let v1089 : Index := Scalar.indexCast v1088
  let c0_325 : Index := 0#32
  ![v1089.toNat, 0]

def k0_off2122 (v1088 : BitVec 32) : Fin 2 → Nat :=
  let v1093 : Index := Scalar.indexCast v1088
  let c16_326 : Index := 16#32
  ![v1093.toNat, 16]
def k0_off2123 (v1088 : BitVec 32) : Fin 2 → Nat :=
  let v1097 : Index := Scalar.indexCast v1088
  let c32_327 : Index := 32#32
  ![v1097.toNat, 32]
def k0_off2124 (v1088 : BitVec 32) : Fin 2 → Nat :=
  let v1101 : Index := Scalar.indexCast v1088
  let c48_328 : Index := 48#32
  ![v1101.toNat, 48]

def k0_chk503 (v1088 : BitVec 32) : Prop :=
  (∀ a, (k0_off2121 v1088) a + S1x16.size a ≤ S704x64.size a) ∧
  (∀ a, (k0_off2122 v1088) a + S1x16.size a ≤ S704x64.size a) ∧
  (∀ a, (k0_off2123 v1088) a + S1x16.size a ≤ S704x64.size a) ∧
  (∀ a, (k0_off2124 v1088) a + S1x16.size a ≤ S704x64.size a)
theorem k0_off2121_inb : ∀ (v1088 : BitVec 32) (k0_hw503 : k0_chk503 v1088), ∀ a, (k0_off2121 v1088) a + S1x16.size a ≤ S704x64.size a := fun v1088 k0_hw503 => k0_hw503.1
theorem k0_off2122_inb : ∀ (v1088 : BitVec 32) (k0_hw503 : k0_chk503 v1088), ∀ a, (k0_off2122 v1088) a + S1x16.size a ≤ S704x64.size a := fun v1088 k0_hw503 => k0_hw503.2.1
theorem k0_off2123_inb : ∀ (v1088 : BitVec 32) (k0_hw503 : k0_chk503 v1088), ∀ a, (k0_off2123 v1088) a + S1x16.size a ≤ S704x64.size a := fun v1088 k0_hw503 => k0_hw503.2.2.1
theorem k0_off2124_inb : ∀ (v1088 : BitVec 32) (k0_hw503 : k0_chk503 v1088), ∀ a, (k0_off2124 v1088) a + S1x16.size a ≤ S704x64.size a := fun v1088 k0_hw503 => k0_hw503.2.2.2

def k0_off2125 (v1109 : BitVec 32) : Fin 2 → Nat :=
  let v1110 : Index := Scalar.indexCast v1109
  let c0_329 : Index := 0#32
  ![v1110.toNat, 0]

def k0_off2126 (v1109 : BitVec 32) : Fin 2 → Nat :=
  let v1114 : Index := Scalar.indexCast v1109
  let c16_330 : Index := 16#32
  ![v1114.toNat, 16]
def k0_off2127 (v1109 : BitVec 32) : Fin 2 → Nat :=
  let v1118 : Index := Scalar.indexCast v1109
  let c32_331 : Index := 32#32
  ![v1118.toNat, 32]
def k0_off2128 (v1109 : BitVec 32) : Fin 2 → Nat :=
  let v1122 : Index := Scalar.indexCast v1109
  let c48_332 : Index := 48#32
  ![v1122.toNat, 48]

def k0_chk504 (v1109 : BitVec 32) : Prop :=
  (∀ a, (k0_off2125 v1109) a + S1x16.size a ≤ S704x64.size a) ∧
  (∀ a, (k0_off2126 v1109) a + S1x16.size a ≤ S704x64.size a) ∧
  (∀ a, (k0_off2127 v1109) a + S1x16.size a ≤ S704x64.size a) ∧
  (∀ a, (k0_off2128 v1109) a + S1x16.size a ≤ S704x64.size a)
theorem k0_off2125_inb : ∀ (v1109 : BitVec 32) (k0_hw504 : k0_chk504 v1109), ∀ a, (k0_off2125 v1109) a + S1x16.size a ≤ S704x64.size a := fun v1109 k0_hw504 => k0_hw504.1
theorem k0_off2126_inb : ∀ (v1109 : BitVec 32) (k0_hw504 : k0_chk504 v1109), ∀ a, (k0_off2126 v1109) a + S1x16.size a ≤ S704x64.size a := fun v1109 k0_hw504 => k0_hw504.2.1
theorem k0_off2127_inb : ∀ (v1109 : BitVec 32) (k0_hw504 : k0_chk504 v1109), ∀ a, (k0_off2127 v1109) a + S1x16.size a ≤ S704x64.size a := fun v1109 k0_hw504 => k0_hw504.2.2.1
theorem k0_off2128_inb : ∀ (v1109 : BitVec 32) (k0_hw504 : k0_chk504 v1109), ∀ a, (k0_off2128 v1109) a + S1x16.size a ≤ S704x64.size a := fun v1109 k0_hw504 => k0_hw504.2.2.2

def k0_off2129 (v1130 : BitVec 32) : Fin 2 → Nat :=
  let v1131 : Index := Scalar.indexCast v1130
  let c0_333 : Index := 0#32
  ![v1131.toNat, 0]

def k0_off2130 (v1130 : BitVec 32) : Fin 2 → Nat :=
  let v1135 : Index := Scalar.indexCast v1130
  let c16_334 : Index := 16#32
  ![v1135.toNat, 16]
def k0_off2131 (v1130 : BitVec 32) : Fin 2 → Nat :=
  let v1139 : Index := Scalar.indexCast v1130
  let c32_335 : Index := 32#32
  ![v1139.toNat, 32]
def k0_off2132 (v1130 : BitVec 32) : Fin 2 → Nat :=
  let v1143 : Index := Scalar.indexCast v1130
  let c48_336 : Index := 48#32
  ![v1143.toNat, 48]

def k0_chk505 (v1130 : BitVec 32) : Prop :=
  (∀ a, (k0_off2129 v1130) a + S1x16.size a ≤ S704x64.size a) ∧
  (∀ a, (k0_off2130 v1130) a + S1x16.size a ≤ S704x64.size a) ∧
  (∀ a, (k0_off2131 v1130) a + S1x16.size a ≤ S704x64.size a) ∧
  (∀ a, (k0_off2132 v1130) a + S1x16.size a ≤ S704x64.size a)
theorem k0_off2129_inb : ∀ (v1130 : BitVec 32) (k0_hw505 : k0_chk505 v1130), ∀ a, (k0_off2129 v1130) a + S1x16.size a ≤ S704x64.size a := fun v1130 k0_hw505 => k0_hw505.1
theorem k0_off2130_inb : ∀ (v1130 : BitVec 32) (k0_hw505 : k0_chk505 v1130), ∀ a, (k0_off2130 v1130) a + S1x16.size a ≤ S704x64.size a := fun v1130 k0_hw505 => k0_hw505.2.1
theorem k0_off2131_inb : ∀ (v1130 : BitVec 32) (k0_hw505 : k0_chk505 v1130), ∀ a, (k0_off2131 v1130) a + S1x16.size a ≤ S704x64.size a := fun v1130 k0_hw505 => k0_hw505.2.2.1
theorem k0_off2132_inb : ∀ (v1130 : BitVec 32) (k0_hw505 : k0_chk505 v1130), ∀ a, (k0_off2132 v1130) a + S1x16.size a ≤ S704x64.size a := fun v1130 k0_hw505 => k0_hw505.2.2.2

def k0_off2133 (v1151 : BitVec 32) : Fin 2 → Nat :=
  let v1152 : Index := Scalar.indexCast v1151
  let c0_337 : Index := 0#32
  ![v1152.toNat, 0]

def k0_off2134 (v1151 : BitVec 32) : Fin 2 → Nat :=
  let v1156 : Index := Scalar.indexCast v1151
  let c16_338 : Index := 16#32
  ![v1156.toNat, 16]
def k0_off2135 (v1151 : BitVec 32) : Fin 2 → Nat :=
  let v1160 : Index := Scalar.indexCast v1151
  let c32_339 : Index := 32#32
  ![v1160.toNat, 32]
def k0_off2136 (v1151 : BitVec 32) : Fin 2 → Nat :=
  let v1164 : Index := Scalar.indexCast v1151
  let c48_340 : Index := 48#32
  ![v1164.toNat, 48]

def k0_chk506 (v1151 : BitVec 32) : Prop :=
  (∀ a, (k0_off2133 v1151) a + S1x16.size a ≤ S704x64.size a) ∧
  (∀ a, (k0_off2134 v1151) a + S1x16.size a ≤ S704x64.size a) ∧
  (∀ a, (k0_off2135 v1151) a + S1x16.size a ≤ S704x64.size a) ∧
  (∀ a, (k0_off2136 v1151) a + S1x16.size a ≤ S704x64.size a)
theorem k0_off2133_inb : ∀ (v1151 : BitVec 32) (k0_hw506 : k0_chk506 v1151), ∀ a, (k0_off2133 v1151) a + S1x16.size a ≤ S704x64.size a := fun v1151 k0_hw506 => k0_hw506.1
theorem k0_off2134_inb : ∀ (v1151 : BitVec 32) (k0_hw506 : k0_chk506 v1151), ∀ a, (k0_off2134 v1151) a + S1x16.size a ≤ S704x64.size a := fun v1151 k0_hw506 => k0_hw506.2.1
theorem k0_off2135_inb : ∀ (v1151 : BitVec 32) (k0_hw506 : k0_chk506 v1151), ∀ a, (k0_off2135 v1151) a + S1x16.size a ≤ S704x64.size a := fun v1151 k0_hw506 => k0_hw506.2.2.1
theorem k0_off2136_inb : ∀ (v1151 : BitVec 32) (k0_hw506 : k0_chk506 v1151), ∀ a, (k0_off2136 v1151) a + S1x16.size a ≤ S704x64.size a := fun v1151 k0_hw506 => k0_hw506.2.2.2

def k0_off2137 (v1172 : BitVec 32) : Fin 2 → Nat :=
  let v1173 : Index := Scalar.indexCast v1172
  let c0_341 : Index := 0#32
  ![v1173.toNat, 0]

def k0_off2138 (v1172 : BitVec 32) : Fin 2 → Nat :=
  let v1177 : Index := Scalar.indexCast v1172
  let c16_342 : Index := 16#32
  ![v1177.toNat, 16]
def k0_off2139 (v1172 : BitVec 32) : Fin 2 → Nat :=
  let v1181 : Index := Scalar.indexCast v1172
  let c32_343 : Index := 32#32
  ![v1181.toNat, 32]
def k0_off2140 (v1172 : BitVec 32) : Fin 2 → Nat :=
  let v1185 : Index := Scalar.indexCast v1172
  let c48_344 : Index := 48#32
  ![v1185.toNat, 48]

def k0_chk507 (v1172 : BitVec 32) : Prop :=
  (∀ a, (k0_off2137 v1172) a + S1x16.size a ≤ S704x64.size a) ∧
  (∀ a, (k0_off2138 v1172) a + S1x16.size a ≤ S704x64.size a) ∧
  (∀ a, (k0_off2139 v1172) a + S1x16.size a ≤ S704x64.size a) ∧
  (∀ a, (k0_off2140 v1172) a + S1x16.size a ≤ S704x64.size a)
theorem k0_off2137_inb : ∀ (v1172 : BitVec 32) (k0_hw507 : k0_chk507 v1172), ∀ a, (k0_off2137 v1172) a + S1x16.size a ≤ S704x64.size a := fun v1172 k0_hw507 => k0_hw507.1
theorem k0_off2138_inb : ∀ (v1172 : BitVec 32) (k0_hw507 : k0_chk507 v1172), ∀ a, (k0_off2138 v1172) a + S1x16.size a ≤ S704x64.size a := fun v1172 k0_hw507 => k0_hw507.2.1
theorem k0_off2139_inb : ∀ (v1172 : BitVec 32) (k0_hw507 : k0_chk507 v1172), ∀ a, (k0_off2139 v1172) a + S1x16.size a ≤ S704x64.size a := fun v1172 k0_hw507 => k0_hw507.2.2.1
theorem k0_off2140_inb : ∀ (v1172 : BitVec 32) (k0_hw507 : k0_chk507 v1172), ∀ a, (k0_off2140 v1172) a + S1x16.size a ≤ S704x64.size a := fun v1172 k0_hw507 => k0_hw507.2.2.2

def k0_off2141 (v1193 : BitVec 32) : Fin 2 → Nat :=
  let v1194 : Index := Scalar.indexCast v1193
  let c0_345 : Index := 0#32
  ![v1194.toNat, 0]

def k0_off2142 (v1193 : BitVec 32) : Fin 2 → Nat :=
  let v1198 : Index := Scalar.indexCast v1193
  let c16_346 : Index := 16#32
  ![v1198.toNat, 16]
def k0_off2143 (v1193 : BitVec 32) : Fin 2 → Nat :=
  let v1202 : Index := Scalar.indexCast v1193
  let c32_347 : Index := 32#32
  ![v1202.toNat, 32]
def k0_off2144 (v1193 : BitVec 32) : Fin 2 → Nat :=
  let v1206 : Index := Scalar.indexCast v1193
  let c48_348 : Index := 48#32
  ![v1206.toNat, 48]

def k0_chk508 (v1193 : BitVec 32) : Prop :=
  (∀ a, (k0_off2141 v1193) a + S1x16.size a ≤ S704x64.size a) ∧
  (∀ a, (k0_off2142 v1193) a + S1x16.size a ≤ S704x64.size a) ∧
  (∀ a, (k0_off2143 v1193) a + S1x16.size a ≤ S704x64.size a) ∧
  (∀ a, (k0_off2144 v1193) a + S1x16.size a ≤ S704x64.size a)
theorem k0_off2141_inb : ∀ (v1193 : BitVec 32) (k0_hw508 : k0_chk508 v1193), ∀ a, (k0_off2141 v1193) a + S1x16.size a ≤ S704x64.size a := fun v1193 k0_hw508 => k0_hw508.1
theorem k0_off2142_inb : ∀ (v1193 : BitVec 32) (k0_hw508 : k0_chk508 v1193), ∀ a, (k0_off2142 v1193) a + S1x16.size a ≤ S704x64.size a := fun v1193 k0_hw508 => k0_hw508.2.1
theorem k0_off2143_inb : ∀ (v1193 : BitVec 32) (k0_hw508 : k0_chk508 v1193), ∀ a, (k0_off2143 v1193) a + S1x16.size a ≤ S704x64.size a := fun v1193 k0_hw508 => k0_hw508.2.2.1
theorem k0_off2144_inb : ∀ (v1193 : BitVec 32) (k0_hw508 : k0_chk508 v1193), ∀ a, (k0_off2144 v1193) a + S1x16.size a ≤ S704x64.size a := fun v1193 k0_hw508 => k0_hw508.2.2.2

def k0_off2145 (v1214 : BitVec 32) : Fin 2 → Nat :=
  let v1215 : Index := Scalar.indexCast v1214
  let c0_349 : Index := 0#32
  ![v1215.toNat, 0]

def k0_off2146 (v1214 : BitVec 32) : Fin 2 → Nat :=
  let v1219 : Index := Scalar.indexCast v1214
  let c16_350 : Index := 16#32
  ![v1219.toNat, 16]
def k0_off2147 (v1214 : BitVec 32) : Fin 2 → Nat :=
  let v1223 : Index := Scalar.indexCast v1214
  let c32_351 : Index := 32#32
  ![v1223.toNat, 32]
def k0_off2148 (v1214 : BitVec 32) : Fin 2 → Nat :=
  let v1227 : Index := Scalar.indexCast v1214
  let c48_352 : Index := 48#32
  ![v1227.toNat, 48]

def k0_chk509 (v1214 : BitVec 32) : Prop :=
  (∀ a, (k0_off2145 v1214) a + S1x16.size a ≤ S704x64.size a) ∧
  (∀ a, (k0_off2146 v1214) a + S1x16.size a ≤ S704x64.size a) ∧
  (∀ a, (k0_off2147 v1214) a + S1x16.size a ≤ S704x64.size a) ∧
  (∀ a, (k0_off2148 v1214) a + S1x16.size a ≤ S704x64.size a)
theorem k0_off2145_inb : ∀ (v1214 : BitVec 32) (k0_hw509 : k0_chk509 v1214), ∀ a, (k0_off2145 v1214) a + S1x16.size a ≤ S704x64.size a := fun v1214 k0_hw509 => k0_hw509.1
theorem k0_off2146_inb : ∀ (v1214 : BitVec 32) (k0_hw509 : k0_chk509 v1214), ∀ a, (k0_off2146 v1214) a + S1x16.size a ≤ S704x64.size a := fun v1214 k0_hw509 => k0_hw509.2.1
theorem k0_off2147_inb : ∀ (v1214 : BitVec 32) (k0_hw509 : k0_chk509 v1214), ∀ a, (k0_off2147 v1214) a + S1x16.size a ≤ S704x64.size a := fun v1214 k0_hw509 => k0_hw509.2.2.1
theorem k0_off2148_inb : ∀ (v1214 : BitVec 32) (k0_hw509 : k0_chk509 v1214), ∀ a, (k0_off2148 v1214) a + S1x16.size a ≤ S704x64.size a := fun v1214 k0_hw509 => k0_hw509.2.2.2

def k0_off2149 (v1235 : BitVec 32) : Fin 2 → Nat :=
  let v1236 : Index := Scalar.indexCast v1235
  let c0_353 : Index := 0#32
  ![v1236.toNat, 0]

def k0_off2150 (v1235 : BitVec 32) : Fin 2 → Nat :=
  let v1240 : Index := Scalar.indexCast v1235
  let c16_354 : Index := 16#32
  ![v1240.toNat, 16]
def k0_off2151 (v1235 : BitVec 32) : Fin 2 → Nat :=
  let v1244 : Index := Scalar.indexCast v1235
  let c32_355 : Index := 32#32
  ![v1244.toNat, 32]
def k0_off2152 (v1235 : BitVec 32) : Fin 2 → Nat :=
  let v1248 : Index := Scalar.indexCast v1235
  let c48_356 : Index := 48#32
  ![v1248.toNat, 48]

def k0_chk510 (v1235 : BitVec 32) : Prop :=
  (∀ a, (k0_off2149 v1235) a + S1x16.size a ≤ S704x64.size a) ∧
  (∀ a, (k0_off2150 v1235) a + S1x16.size a ≤ S704x64.size a) ∧
  (∀ a, (k0_off2151 v1235) a + S1x16.size a ≤ S704x64.size a) ∧
  (∀ a, (k0_off2152 v1235) a + S1x16.size a ≤ S704x64.size a)
theorem k0_off2149_inb : ∀ (v1235 : BitVec 32) (k0_hw510 : k0_chk510 v1235), ∀ a, (k0_off2149 v1235) a + S1x16.size a ≤ S704x64.size a := fun v1235 k0_hw510 => k0_hw510.1
theorem k0_off2150_inb : ∀ (v1235 : BitVec 32) (k0_hw510 : k0_chk510 v1235), ∀ a, (k0_off2150 v1235) a + S1x16.size a ≤ S704x64.size a := fun v1235 k0_hw510 => k0_hw510.2.1
theorem k0_off2151_inb : ∀ (v1235 : BitVec 32) (k0_hw510 : k0_chk510 v1235), ∀ a, (k0_off2151 v1235) a + S1x16.size a ≤ S704x64.size a := fun v1235 k0_hw510 => k0_hw510.2.2.1
theorem k0_off2152_inb : ∀ (v1235 : BitVec 32) (k0_hw510 : k0_chk510 v1235), ∀ a, (k0_off2152 v1235) a + S1x16.size a ≤ S704x64.size a := fun v1235 k0_hw510 => k0_hw510.2.2.2

def k0_off2153 (v1256 : BitVec 32) : Fin 2 → Nat :=
  let v1257 : Index := Scalar.indexCast v1256
  let c0_357 : Index := 0#32
  ![v1257.toNat, 0]

def k0_off2154 (v1256 : BitVec 32) : Fin 2 → Nat :=
  let v1261 : Index := Scalar.indexCast v1256
  let c16_358 : Index := 16#32
  ![v1261.toNat, 16]
def k0_off2155 (v1256 : BitVec 32) : Fin 2 → Nat :=
  let v1265 : Index := Scalar.indexCast v1256
  let c32_359 : Index := 32#32
  ![v1265.toNat, 32]
def k0_off2156 (v1256 : BitVec 32) : Fin 2 → Nat :=
  let v1269 : Index := Scalar.indexCast v1256
  let c48_360 : Index := 48#32
  ![v1269.toNat, 48]

def k0_chk511 (v1256 : BitVec 32) : Prop :=
  (∀ a, (k0_off2153 v1256) a + S1x16.size a ≤ S704x64.size a) ∧
  (∀ a, (k0_off2154 v1256) a + S1x16.size a ≤ S704x64.size a) ∧
  (∀ a, (k0_off2155 v1256) a + S1x16.size a ≤ S704x64.size a) ∧
  (∀ a, (k0_off2156 v1256) a + S1x16.size a ≤ S704x64.size a)
theorem k0_off2153_inb : ∀ (v1256 : BitVec 32) (k0_hw511 : k0_chk511 v1256), ∀ a, (k0_off2153 v1256) a + S1x16.size a ≤ S704x64.size a := fun v1256 k0_hw511 => k0_hw511.1
theorem k0_off2154_inb : ∀ (v1256 : BitVec 32) (k0_hw511 : k0_chk511 v1256), ∀ a, (k0_off2154 v1256) a + S1x16.size a ≤ S704x64.size a := fun v1256 k0_hw511 => k0_hw511.2.1
theorem k0_off2155_inb : ∀ (v1256 : BitVec 32) (k0_hw511 : k0_chk511 v1256), ∀ a, (k0_off2155 v1256) a + S1x16.size a ≤ S704x64.size a := fun v1256 k0_hw511 => k0_hw511.2.2.1
theorem k0_off2156_inb : ∀ (v1256 : BitVec 32) (k0_hw511 : k0_chk511 v1256), ∀ a, (k0_off2156 v1256) a + S1x16.size a ≤ S704x64.size a := fun v1256 k0_hw511 => k0_hw511.2.2.2

def k0_off2157 (v1277 : BitVec 32) : Fin 2 → Nat :=
  let v1278 : Index := Scalar.indexCast v1277
  let c0_361 : Index := 0#32
  ![v1278.toNat, 0]

def k0_off2158 (v1277 : BitVec 32) : Fin 2 → Nat :=
  let v1282 : Index := Scalar.indexCast v1277
  let c16_362 : Index := 16#32
  ![v1282.toNat, 16]
def k0_off2159 (v1277 : BitVec 32) : Fin 2 → Nat :=
  let v1286 : Index := Scalar.indexCast v1277
  let c32_363 : Index := 32#32
  ![v1286.toNat, 32]
def k0_off2160 (v1277 : BitVec 32) : Fin 2 → Nat :=
  let v1290 : Index := Scalar.indexCast v1277
  let c48_364 : Index := 48#32
  ![v1290.toNat, 48]

def k0_chk512 (v1277 : BitVec 32) : Prop :=
  (∀ a, (k0_off2157 v1277) a + S1x16.size a ≤ S704x64.size a) ∧
  (∀ a, (k0_off2158 v1277) a + S1x16.size a ≤ S704x64.size a) ∧
  (∀ a, (k0_off2159 v1277) a + S1x16.size a ≤ S704x64.size a) ∧
  (∀ a, (k0_off2160 v1277) a + S1x16.size a ≤ S704x64.size a)
theorem k0_off2157_inb : ∀ (v1277 : BitVec 32) (k0_hw512 : k0_chk512 v1277), ∀ a, (k0_off2157 v1277) a + S1x16.size a ≤ S704x64.size a := fun v1277 k0_hw512 => k0_hw512.1
theorem k0_off2158_inb : ∀ (v1277 : BitVec 32) (k0_hw512 : k0_chk512 v1277), ∀ a, (k0_off2158 v1277) a + S1x16.size a ≤ S704x64.size a := fun v1277 k0_hw512 => k0_hw512.2.1
theorem k0_off2159_inb : ∀ (v1277 : BitVec 32) (k0_hw512 : k0_chk512 v1277), ∀ a, (k0_off2159 v1277) a + S1x16.size a ≤ S704x64.size a := fun v1277 k0_hw512 => k0_hw512.2.2.1
theorem k0_off2160_inb : ∀ (v1277 : BitVec 32) (k0_hw512 : k0_chk512 v1277), ∀ a, (k0_off2160 v1277) a + S1x16.size a ≤ S704x64.size a := fun v1277 k0_hw512 => k0_hw512.2.2.2

def k0_off2161 (v1298 : BitVec 32) : Fin 2 → Nat :=
  let v1299 : Index := Scalar.indexCast v1298
  let c0_365 : Index := 0#32
  ![v1299.toNat, 0]

def k0_off2162 (v1298 : BitVec 32) : Fin 2 → Nat :=
  let v1303 : Index := Scalar.indexCast v1298
  let c16_366 : Index := 16#32
  ![v1303.toNat, 16]
def k0_off2163 (v1298 : BitVec 32) : Fin 2 → Nat :=
  let v1307 : Index := Scalar.indexCast v1298
  let c32_367 : Index := 32#32
  ![v1307.toNat, 32]
def k0_off2164 (v1298 : BitVec 32) : Fin 2 → Nat :=
  let v1311 : Index := Scalar.indexCast v1298
  let c48_368 : Index := 48#32
  ![v1311.toNat, 48]

def k0_chk513 (v1298 : BitVec 32) : Prop :=
  (∀ a, (k0_off2161 v1298) a + S1x16.size a ≤ S704x64.size a) ∧
  (∀ a, (k0_off2162 v1298) a + S1x16.size a ≤ S704x64.size a) ∧
  (∀ a, (k0_off2163 v1298) a + S1x16.size a ≤ S704x64.size a) ∧
  (∀ a, (k0_off2164 v1298) a + S1x16.size a ≤ S704x64.size a)
theorem k0_off2161_inb : ∀ (v1298 : BitVec 32) (k0_hw513 : k0_chk513 v1298), ∀ a, (k0_off2161 v1298) a + S1x16.size a ≤ S704x64.size a := fun v1298 k0_hw513 => k0_hw513.1
theorem k0_off2162_inb : ∀ (v1298 : BitVec 32) (k0_hw513 : k0_chk513 v1298), ∀ a, (k0_off2162 v1298) a + S1x16.size a ≤ S704x64.size a := fun v1298 k0_hw513 => k0_hw513.2.1
theorem k0_off2163_inb : ∀ (v1298 : BitVec 32) (k0_hw513 : k0_chk513 v1298), ∀ a, (k0_off2163 v1298) a + S1x16.size a ≤ S704x64.size a := fun v1298 k0_hw513 => k0_hw513.2.2.1
theorem k0_off2164_inb : ∀ (v1298 : BitVec 32) (k0_hw513 : k0_chk513 v1298), ∀ a, (k0_off2164 v1298) a + S1x16.size a ≤ S704x64.size a := fun v1298 k0_hw513 => k0_hw513.2.2.2

def k0_off2165 (v1319 : BitVec 32) : Fin 2 → Nat :=
  let v1320 : Index := Scalar.indexCast v1319
  let c0_369 : Index := 0#32
  ![v1320.toNat, 0]

def k0_off2166 (v1319 : BitVec 32) : Fin 2 → Nat :=
  let v1324 : Index := Scalar.indexCast v1319
  let c16_370 : Index := 16#32
  ![v1324.toNat, 16]
def k0_off2167 (v1319 : BitVec 32) : Fin 2 → Nat :=
  let v1328 : Index := Scalar.indexCast v1319
  let c32_371 : Index := 32#32
  ![v1328.toNat, 32]
def k0_off2168 (v1319 : BitVec 32) : Fin 2 → Nat :=
  let v1332 : Index := Scalar.indexCast v1319
  let c48_372 : Index := 48#32
  ![v1332.toNat, 48]

def k0_chk514 (v1319 : BitVec 32) : Prop :=
  (∀ a, (k0_off2165 v1319) a + S1x16.size a ≤ S704x64.size a) ∧
  (∀ a, (k0_off2166 v1319) a + S1x16.size a ≤ S704x64.size a) ∧
  (∀ a, (k0_off2167 v1319) a + S1x16.size a ≤ S704x64.size a) ∧
  (∀ a, (k0_off2168 v1319) a + S1x16.size a ≤ S704x64.size a)
theorem k0_off2165_inb : ∀ (v1319 : BitVec 32) (k0_hw514 : k0_chk514 v1319), ∀ a, (k0_off2165 v1319) a + S1x16.size a ≤ S704x64.size a := fun v1319 k0_hw514 => k0_hw514.1
theorem k0_off2166_inb : ∀ (v1319 : BitVec 32) (k0_hw514 : k0_chk514 v1319), ∀ a, (k0_off2166 v1319) a + S1x16.size a ≤ S704x64.size a := fun v1319 k0_hw514 => k0_hw514.2.1
theorem k0_off2167_inb : ∀ (v1319 : BitVec 32) (k0_hw514 : k0_chk514 v1319), ∀ a, (k0_off2167 v1319) a + S1x16.size a ≤ S704x64.size a := fun v1319 k0_hw514 => k0_hw514.2.2.1
theorem k0_off2168_inb : ∀ (v1319 : BitVec 32) (k0_hw514 : k0_chk514 v1319), ∀ a, (k0_off2168 v1319) a + S1x16.size a ≤ S704x64.size a := fun v1319 k0_hw514 => k0_hw514.2.2.2

def k0_off2169 (v1340 : BitVec 32) : Fin 2 → Nat :=
  let v1341 : Index := Scalar.indexCast v1340
  let c0_373 : Index := 0#32
  ![v1341.toNat, 0]

def k0_off2170 (v1340 : BitVec 32) : Fin 2 → Nat :=
  let v1345 : Index := Scalar.indexCast v1340
  let c16_374 : Index := 16#32
  ![v1345.toNat, 16]
def k0_off2171 (v1340 : BitVec 32) : Fin 2 → Nat :=
  let v1349 : Index := Scalar.indexCast v1340
  let c32_375 : Index := 32#32
  ![v1349.toNat, 32]
def k0_off2172 (v1340 : BitVec 32) : Fin 2 → Nat :=
  let v1353 : Index := Scalar.indexCast v1340
  let c48_376 : Index := 48#32
  ![v1353.toNat, 48]

def k0_chk515 (v1340 : BitVec 32) : Prop :=
  (∀ a, (k0_off2169 v1340) a + S1x16.size a ≤ S704x64.size a) ∧
  (∀ a, (k0_off2170 v1340) a + S1x16.size a ≤ S704x64.size a) ∧
  (∀ a, (k0_off2171 v1340) a + S1x16.size a ≤ S704x64.size a) ∧
  (∀ a, (k0_off2172 v1340) a + S1x16.size a ≤ S704x64.size a)
theorem k0_off2169_inb : ∀ (v1340 : BitVec 32) (k0_hw515 : k0_chk515 v1340), ∀ a, (k0_off2169 v1340) a + S1x16.size a ≤ S704x64.size a := fun v1340 k0_hw515 => k0_hw515.1
theorem k0_off2170_inb : ∀ (v1340 : BitVec 32) (k0_hw515 : k0_chk515 v1340), ∀ a, (k0_off2170 v1340) a + S1x16.size a ≤ S704x64.size a := fun v1340 k0_hw515 => k0_hw515.2.1
theorem k0_off2171_inb : ∀ (v1340 : BitVec 32) (k0_hw515 : k0_chk515 v1340), ∀ a, (k0_off2171 v1340) a + S1x16.size a ≤ S704x64.size a := fun v1340 k0_hw515 => k0_hw515.2.2.1
theorem k0_off2172_inb : ∀ (v1340 : BitVec 32) (k0_hw515 : k0_chk515 v1340), ∀ a, (k0_off2172 v1340) a + S1x16.size a ≤ S704x64.size a := fun v1340 k0_hw515 => k0_hw515.2.2.2

def k0_off2173 (v1361 : BitVec 32) : Fin 2 → Nat :=
  let v1362 : Index := Scalar.indexCast v1361
  let c0_377 : Index := 0#32
  ![v1362.toNat, 0]

def k0_off2174 (v1361 : BitVec 32) : Fin 2 → Nat :=
  let v1366 : Index := Scalar.indexCast v1361
  let c16_378 : Index := 16#32
  ![v1366.toNat, 16]
def k0_off2175 (v1361 : BitVec 32) : Fin 2 → Nat :=
  let v1370 : Index := Scalar.indexCast v1361
  let c32_379 : Index := 32#32
  ![v1370.toNat, 32]
def k0_off2176 (v1361 : BitVec 32) : Fin 2 → Nat :=
  let v1374 : Index := Scalar.indexCast v1361
  let c48_380 : Index := 48#32
  ![v1374.toNat, 48]

def k0_chk516 (v1361 : BitVec 32) : Prop :=
  (∀ a, (k0_off2173 v1361) a + S1x16.size a ≤ S704x64.size a) ∧
  (∀ a, (k0_off2174 v1361) a + S1x16.size a ≤ S704x64.size a) ∧
  (∀ a, (k0_off2175 v1361) a + S1x16.size a ≤ S704x64.size a) ∧
  (∀ a, (k0_off2176 v1361) a + S1x16.size a ≤ S704x64.size a)
theorem k0_off2173_inb : ∀ (v1361 : BitVec 32) (k0_hw516 : k0_chk516 v1361), ∀ a, (k0_off2173 v1361) a + S1x16.size a ≤ S704x64.size a := fun v1361 k0_hw516 => k0_hw516.1
theorem k0_off2174_inb : ∀ (v1361 : BitVec 32) (k0_hw516 : k0_chk516 v1361), ∀ a, (k0_off2174 v1361) a + S1x16.size a ≤ S704x64.size a := fun v1361 k0_hw516 => k0_hw516.2.1
theorem k0_off2175_inb : ∀ (v1361 : BitVec 32) (k0_hw516 : k0_chk516 v1361), ∀ a, (k0_off2175 v1361) a + S1x16.size a ≤ S704x64.size a := fun v1361 k0_hw516 => k0_hw516.2.2.1
theorem k0_off2176_inb : ∀ (v1361 : BitVec 32) (k0_hw516 : k0_chk516 v1361), ∀ a, (k0_off2176 v1361) a + S1x16.size a ≤ S704x64.size a := fun v1361 k0_hw516 => k0_hw516.2.2.2

def k0_off2177 (v1382 : BitVec 32) : Fin 2 → Nat :=
  let v1383 : Index := Scalar.indexCast v1382
  let c0_381 : Index := 0#32
  ![v1383.toNat, 0]

def k0_off2178 (v1382 : BitVec 32) : Fin 2 → Nat :=
  let v1387 : Index := Scalar.indexCast v1382
  let c16_382 : Index := 16#32
  ![v1387.toNat, 16]
def k0_off2179 (v1382 : BitVec 32) : Fin 2 → Nat :=
  let v1391 : Index := Scalar.indexCast v1382
  let c32_383 : Index := 32#32
  ![v1391.toNat, 32]
def k0_off2180 (v1382 : BitVec 32) : Fin 2 → Nat :=
  let v1395 : Index := Scalar.indexCast v1382
  let c48_384 : Index := 48#32
  ![v1395.toNat, 48]

def k0_chk517 (v1382 : BitVec 32) : Prop :=
  (∀ a, (k0_off2177 v1382) a + S1x16.size a ≤ S704x64.size a) ∧
  (∀ a, (k0_off2178 v1382) a + S1x16.size a ≤ S704x64.size a) ∧
  (∀ a, (k0_off2179 v1382) a + S1x16.size a ≤ S704x64.size a) ∧
  (∀ a, (k0_off2180 v1382) a + S1x16.size a ≤ S704x64.size a)
theorem k0_off2177_inb : ∀ (v1382 : BitVec 32) (k0_hw517 : k0_chk517 v1382), ∀ a, (k0_off2177 v1382) a + S1x16.size a ≤ S704x64.size a := fun v1382 k0_hw517 => k0_hw517.1
theorem k0_off2178_inb : ∀ (v1382 : BitVec 32) (k0_hw517 : k0_chk517 v1382), ∀ a, (k0_off2178 v1382) a + S1x16.size a ≤ S704x64.size a := fun v1382 k0_hw517 => k0_hw517.2.1
theorem k0_off2179_inb : ∀ (v1382 : BitVec 32) (k0_hw517 : k0_chk517 v1382), ∀ a, (k0_off2179 v1382) a + S1x16.size a ≤ S704x64.size a := fun v1382 k0_hw517 => k0_hw517.2.2.1
theorem k0_off2180_inb : ∀ (v1382 : BitVec 32) (k0_hw517 : k0_chk517 v1382), ∀ a, (k0_off2180 v1382) a + S1x16.size a ≤ S704x64.size a := fun v1382 k0_hw517 => k0_hw517.2.2.2

def k0_off2181 (v1403 : BitVec 32) : Fin 2 → Nat :=
  let v1404 : Index := Scalar.indexCast v1403
  let c0_385 : Index := 0#32
  ![v1404.toNat, 0]

def k0_off2182 (v1403 : BitVec 32) : Fin 2 → Nat :=
  let v1408 : Index := Scalar.indexCast v1403
  let c16_386 : Index := 16#32
  ![v1408.toNat, 16]
def k0_off2183 (v1403 : BitVec 32) : Fin 2 → Nat :=
  let v1412 : Index := Scalar.indexCast v1403
  let c32_387 : Index := 32#32
  ![v1412.toNat, 32]
def k0_off2184 (v1403 : BitVec 32) : Fin 2 → Nat :=
  let v1416 : Index := Scalar.indexCast v1403
  let c48_388 : Index := 48#32
  ![v1416.toNat, 48]

def k0_chk518 (v1403 : BitVec 32) : Prop :=
  (∀ a, (k0_off2181 v1403) a + S1x16.size a ≤ S704x64.size a) ∧
  (∀ a, (k0_off2182 v1403) a + S1x16.size a ≤ S704x64.size a) ∧
  (∀ a, (k0_off2183 v1403) a + S1x16.size a ≤ S704x64.size a) ∧
  (∀ a, (k0_off2184 v1403) a + S1x16.size a ≤ S704x64.size a)
theorem k0_off2181_inb : ∀ (v1403 : BitVec 32) (k0_hw518 : k0_chk518 v1403), ∀ a, (k0_off2181 v1403) a + S1x16.size a ≤ S704x64.size a := fun v1403 k0_hw518 => k0_hw518.1
theorem k0_off2182_inb : ∀ (v1403 : BitVec 32) (k0_hw518 : k0_chk518 v1403), ∀ a, (k0_off2182 v1403) a + S1x16.size a ≤ S704x64.size a := fun v1403 k0_hw518 => k0_hw518.2.1
theorem k0_off2183_inb : ∀ (v1403 : BitVec 32) (k0_hw518 : k0_chk518 v1403), ∀ a, (k0_off2183 v1403) a + S1x16.size a ≤ S704x64.size a := fun v1403 k0_hw518 => k0_hw518.2.2.1
theorem k0_off2184_inb : ∀ (v1403 : BitVec 32) (k0_hw518 : k0_chk518 v1403), ∀ a, (k0_off2184 v1403) a + S1x16.size a ≤ S704x64.size a := fun v1403 k0_hw518 => k0_hw518.2.2.2

def k0_off2185 (v1424 : BitVec 32) : Fin 2 → Nat :=
  let v1425 : Index := Scalar.indexCast v1424
  let c0_389 : Index := 0#32
  ![v1425.toNat, 0]

def k0_off2186 (v1424 : BitVec 32) : Fin 2 → Nat :=
  let v1429 : Index := Scalar.indexCast v1424
  let c16_390 : Index := 16#32
  ![v1429.toNat, 16]
def k0_off2187 (v1424 : BitVec 32) : Fin 2 → Nat :=
  let v1433 : Index := Scalar.indexCast v1424
  let c32_391 : Index := 32#32
  ![v1433.toNat, 32]
def k0_off2188 (v1424 : BitVec 32) : Fin 2 → Nat :=
  let v1437 : Index := Scalar.indexCast v1424
  let c48_392 : Index := 48#32
  ![v1437.toNat, 48]

def k0_chk519 (v1424 : BitVec 32) : Prop :=
  (∀ a, (k0_off2185 v1424) a + S1x16.size a ≤ S704x64.size a) ∧
  (∀ a, (k0_off2186 v1424) a + S1x16.size a ≤ S704x64.size a) ∧
  (∀ a, (k0_off2187 v1424) a + S1x16.size a ≤ S704x64.size a) ∧
  (∀ a, (k0_off2188 v1424) a + S1x16.size a ≤ S704x64.size a)
theorem k0_off2185_inb : ∀ (v1424 : BitVec 32) (k0_hw519 : k0_chk519 v1424), ∀ a, (k0_off2185 v1424) a + S1x16.size a ≤ S704x64.size a := fun v1424 k0_hw519 => k0_hw519.1
theorem k0_off2186_inb : ∀ (v1424 : BitVec 32) (k0_hw519 : k0_chk519 v1424), ∀ a, (k0_off2186 v1424) a + S1x16.size a ≤ S704x64.size a := fun v1424 k0_hw519 => k0_hw519.2.1
theorem k0_off2187_inb : ∀ (v1424 : BitVec 32) (k0_hw519 : k0_chk519 v1424), ∀ a, (k0_off2187 v1424) a + S1x16.size a ≤ S704x64.size a := fun v1424 k0_hw519 => k0_hw519.2.2.1
theorem k0_off2188_inb : ∀ (v1424 : BitVec 32) (k0_hw519 : k0_chk519 v1424), ∀ a, (k0_off2188 v1424) a + S1x16.size a ≤ S704x64.size a := fun v1424 k0_hw519 => k0_hw519.2.2.2

def k0_off2189 (v1445 : BitVec 32) : Fin 2 → Nat :=
  let v1446 : Index := Scalar.indexCast v1445
  let c0_393 : Index := 0#32
  ![v1446.toNat, 0]

def k0_off2190 (v1445 : BitVec 32) : Fin 2 → Nat :=
  let v1450 : Index := Scalar.indexCast v1445
  let c16_394 : Index := 16#32
  ![v1450.toNat, 16]
def k0_off2191 (v1445 : BitVec 32) : Fin 2 → Nat :=
  let v1454 : Index := Scalar.indexCast v1445
  let c32_395 : Index := 32#32
  ![v1454.toNat, 32]
def k0_off2192 (v1445 : BitVec 32) : Fin 2 → Nat :=
  let v1458 : Index := Scalar.indexCast v1445
  let c48_396 : Index := 48#32
  ![v1458.toNat, 48]

def k0_chk520 (v1445 : BitVec 32) : Prop :=
  (∀ a, (k0_off2189 v1445) a + S1x16.size a ≤ S704x64.size a) ∧
  (∀ a, (k0_off2190 v1445) a + S1x16.size a ≤ S704x64.size a) ∧
  (∀ a, (k0_off2191 v1445) a + S1x16.size a ≤ S704x64.size a) ∧
  (∀ a, (k0_off2192 v1445) a + S1x16.size a ≤ S704x64.size a)
theorem k0_off2189_inb : ∀ (v1445 : BitVec 32) (k0_hw520 : k0_chk520 v1445), ∀ a, (k0_off2189 v1445) a + S1x16.size a ≤ S704x64.size a := fun v1445 k0_hw520 => k0_hw520.1
theorem k0_off2190_inb : ∀ (v1445 : BitVec 32) (k0_hw520 : k0_chk520 v1445), ∀ a, (k0_off2190 v1445) a + S1x16.size a ≤ S704x64.size a := fun v1445 k0_hw520 => k0_hw520.2.1
theorem k0_off2191_inb : ∀ (v1445 : BitVec 32) (k0_hw520 : k0_chk520 v1445), ∀ a, (k0_off2191 v1445) a + S1x16.size a ≤ S704x64.size a := fun v1445 k0_hw520 => k0_hw520.2.2.1
theorem k0_off2192_inb : ∀ (v1445 : BitVec 32) (k0_hw520 : k0_chk520 v1445), ∀ a, (k0_off2192 v1445) a + S1x16.size a ≤ S704x64.size a := fun v1445 k0_hw520 => k0_hw520.2.2.2

def k0_off2193 (v1466 : BitVec 32) : Fin 2 → Nat :=
  let v1467 : Index := Scalar.indexCast v1466
  let c0_397 : Index := 0#32
  ![v1467.toNat, 0]

def k0_off2194 (v1466 : BitVec 32) : Fin 2 → Nat :=
  let v1471 : Index := Scalar.indexCast v1466
  let c16_398 : Index := 16#32
  ![v1471.toNat, 16]
def k0_off2195 (v1466 : BitVec 32) : Fin 2 → Nat :=
  let v1475 : Index := Scalar.indexCast v1466
  let c32_399 : Index := 32#32
  ![v1475.toNat, 32]
def k0_off2196 (v1466 : BitVec 32) : Fin 2 → Nat :=
  let v1479 : Index := Scalar.indexCast v1466
  let c48_400 : Index := 48#32
  ![v1479.toNat, 48]

def k0_chk521 (v1466 : BitVec 32) : Prop :=
  (∀ a, (k0_off2193 v1466) a + S1x16.size a ≤ S704x64.size a) ∧
  (∀ a, (k0_off2194 v1466) a + S1x16.size a ≤ S704x64.size a) ∧
  (∀ a, (k0_off2195 v1466) a + S1x16.size a ≤ S704x64.size a) ∧
  (∀ a, (k0_off2196 v1466) a + S1x16.size a ≤ S704x64.size a)
theorem k0_off2193_inb : ∀ (v1466 : BitVec 32) (k0_hw521 : k0_chk521 v1466), ∀ a, (k0_off2193 v1466) a + S1x16.size a ≤ S704x64.size a := fun v1466 k0_hw521 => k0_hw521.1
theorem k0_off2194_inb : ∀ (v1466 : BitVec 32) (k0_hw521 : k0_chk521 v1466), ∀ a, (k0_off2194 v1466) a + S1x16.size a ≤ S704x64.size a := fun v1466 k0_hw521 => k0_hw521.2.1
theorem k0_off2195_inb : ∀ (v1466 : BitVec 32) (k0_hw521 : k0_chk521 v1466), ∀ a, (k0_off2195 v1466) a + S1x16.size a ≤ S704x64.size a := fun v1466 k0_hw521 => k0_hw521.2.2.1
theorem k0_off2196_inb : ∀ (v1466 : BitVec 32) (k0_hw521 : k0_chk521 v1466), ∀ a, (k0_off2196 v1466) a + S1x16.size a ≤ S704x64.size a := fun v1466 k0_hw521 => k0_hw521.2.2.2

def k0_off2197 (v1487 : BitVec 32) : Fin 2 → Nat :=
  let v1488 : Index := Scalar.indexCast v1487
  let c0_401 : Index := 0#32
  ![v1488.toNat, 0]

def k0_off2198 (v1487 : BitVec 32) : Fin 2 → Nat :=
  let v1492 : Index := Scalar.indexCast v1487
  let c16_402 : Index := 16#32
  ![v1492.toNat, 16]
def k0_off2199 (v1487 : BitVec 32) : Fin 2 → Nat :=
  let v1496 : Index := Scalar.indexCast v1487
  let c32_403 : Index := 32#32
  ![v1496.toNat, 32]
def k0_off2200 (v1487 : BitVec 32) : Fin 2 → Nat :=
  let v1500 : Index := Scalar.indexCast v1487
  let c48_404 : Index := 48#32
  ![v1500.toNat, 48]

def k0_chk522 (v1487 : BitVec 32) : Prop :=
  (∀ a, (k0_off2197 v1487) a + S1x16.size a ≤ S704x64.size a) ∧
  (∀ a, (k0_off2198 v1487) a + S1x16.size a ≤ S704x64.size a) ∧
  (∀ a, (k0_off2199 v1487) a + S1x16.size a ≤ S704x64.size a) ∧
  (∀ a, (k0_off2200 v1487) a + S1x16.size a ≤ S704x64.size a)
theorem k0_off2197_inb : ∀ (v1487 : BitVec 32) (k0_hw522 : k0_chk522 v1487), ∀ a, (k0_off2197 v1487) a + S1x16.size a ≤ S704x64.size a := fun v1487 k0_hw522 => k0_hw522.1
theorem k0_off2198_inb : ∀ (v1487 : BitVec 32) (k0_hw522 : k0_chk522 v1487), ∀ a, (k0_off2198 v1487) a + S1x16.size a ≤ S704x64.size a := fun v1487 k0_hw522 => k0_hw522.2.1
theorem k0_off2199_inb : ∀ (v1487 : BitVec 32) (k0_hw522 : k0_chk522 v1487), ∀ a, (k0_off2199 v1487) a + S1x16.size a ≤ S704x64.size a := fun v1487 k0_hw522 => k0_hw522.2.2.1
theorem k0_off2200_inb : ∀ (v1487 : BitVec 32) (k0_hw522 : k0_chk522 v1487), ∀ a, (k0_off2200 v1487) a + S1x16.size a ≤ S704x64.size a := fun v1487 k0_hw522 => k0_hw522.2.2.2

def k0_off2201 (v1508 : BitVec 32) : Fin 2 → Nat :=
  let v1509 : Index := Scalar.indexCast v1508
  let c0_405 : Index := 0#32
  ![v1509.toNat, 0]

def k0_off2202 (v1508 : BitVec 32) : Fin 2 → Nat :=
  let v1513 : Index := Scalar.indexCast v1508
  let c16_406 : Index := 16#32
  ![v1513.toNat, 16]
def k0_off2203 (v1508 : BitVec 32) : Fin 2 → Nat :=
  let v1517 : Index := Scalar.indexCast v1508
  let c32_407 : Index := 32#32
  ![v1517.toNat, 32]
def k0_off2204 (v1508 : BitVec 32) : Fin 2 → Nat :=
  let v1521 : Index := Scalar.indexCast v1508
  let c48_408 : Index := 48#32
  ![v1521.toNat, 48]

def k0_chk523 (v1508 : BitVec 32) : Prop :=
  (∀ a, (k0_off2201 v1508) a + S1x16.size a ≤ S704x64.size a) ∧
  (∀ a, (k0_off2202 v1508) a + S1x16.size a ≤ S704x64.size a) ∧
  (∀ a, (k0_off2203 v1508) a + S1x16.size a ≤ S704x64.size a) ∧
  (∀ a, (k0_off2204 v1508) a + S1x16.size a ≤ S704x64.size a)
theorem k0_off2201_inb : ∀ (v1508 : BitVec 32) (k0_hw523 : k0_chk523 v1508), ∀ a, (k0_off2201 v1508) a + S1x16.size a ≤ S704x64.size a := fun v1508 k0_hw523 => k0_hw523.1
theorem k0_off2202_inb : ∀ (v1508 : BitVec 32) (k0_hw523 : k0_chk523 v1508), ∀ a, (k0_off2202 v1508) a + S1x16.size a ≤ S704x64.size a := fun v1508 k0_hw523 => k0_hw523.2.1
theorem k0_off2203_inb : ∀ (v1508 : BitVec 32) (k0_hw523 : k0_chk523 v1508), ∀ a, (k0_off2203 v1508) a + S1x16.size a ≤ S704x64.size a := fun v1508 k0_hw523 => k0_hw523.2.2.1
theorem k0_off2204_inb : ∀ (v1508 : BitVec 32) (k0_hw523 : k0_chk523 v1508), ∀ a, (k0_off2204 v1508) a + S1x16.size a ≤ S704x64.size a := fun v1508 k0_hw523 => k0_hw523.2.2.2

def k0_off2205 (v1529 : BitVec 32) : Fin 2 → Nat :=
  let v1530 : Index := Scalar.indexCast v1529
  let c0_409 : Index := 0#32
  ![v1530.toNat, 0]

def k0_off2206 (v1529 : BitVec 32) : Fin 2 → Nat :=
  let v1534 : Index := Scalar.indexCast v1529
  let c16_410 : Index := 16#32
  ![v1534.toNat, 16]
def k0_off2207 (v1529 : BitVec 32) : Fin 2 → Nat :=
  let v1538 : Index := Scalar.indexCast v1529
  let c32_411 : Index := 32#32
  ![v1538.toNat, 32]
def k0_off2208 (v1529 : BitVec 32) : Fin 2 → Nat :=
  let v1542 : Index := Scalar.indexCast v1529
  let c48_412 : Index := 48#32
  ![v1542.toNat, 48]

def k0_chk524 (v1529 : BitVec 32) : Prop :=
  (∀ a, (k0_off2205 v1529) a + S1x16.size a ≤ S704x64.size a) ∧
  (∀ a, (k0_off2206 v1529) a + S1x16.size a ≤ S704x64.size a) ∧
  (∀ a, (k0_off2207 v1529) a + S1x16.size a ≤ S704x64.size a) ∧
  (∀ a, (k0_off2208 v1529) a + S1x16.size a ≤ S704x64.size a)
theorem k0_off2205_inb : ∀ (v1529 : BitVec 32) (k0_hw524 : k0_chk524 v1529), ∀ a, (k0_off2205 v1529) a + S1x16.size a ≤ S704x64.size a := fun v1529 k0_hw524 => k0_hw524.1
theorem k0_off2206_inb : ∀ (v1529 : BitVec 32) (k0_hw524 : k0_chk524 v1529), ∀ a, (k0_off2206 v1529) a + S1x16.size a ≤ S704x64.size a := fun v1529 k0_hw524 => k0_hw524.2.1
theorem k0_off2207_inb : ∀ (v1529 : BitVec 32) (k0_hw524 : k0_chk524 v1529), ∀ a, (k0_off2207 v1529) a + S1x16.size a ≤ S704x64.size a := fun v1529 k0_hw524 => k0_hw524.2.2.1
theorem k0_off2208_inb : ∀ (v1529 : BitVec 32) (k0_hw524 : k0_chk524 v1529), ∀ a, (k0_off2208 v1529) a + S1x16.size a ≤ S704x64.size a := fun v1529 k0_hw524 => k0_hw524.2.2.2

def k0_off2209 (v1550 : BitVec 32) : Fin 2 → Nat :=
  let v1551 : Index := Scalar.indexCast v1550
  let c0_413 : Index := 0#32
  ![v1551.toNat, 0]

def k0_off2210 (v1550 : BitVec 32) : Fin 2 → Nat :=
  let v1555 : Index := Scalar.indexCast v1550
  let c16_414 : Index := 16#32
  ![v1555.toNat, 16]
def k0_off2211 (v1550 : BitVec 32) : Fin 2 → Nat :=
  let v1559 : Index := Scalar.indexCast v1550
  let c32_415 : Index := 32#32
  ![v1559.toNat, 32]
def k0_off2212 (v1550 : BitVec 32) : Fin 2 → Nat :=
  let v1563 : Index := Scalar.indexCast v1550
  let c48_416 : Index := 48#32
  ![v1563.toNat, 48]

def k0_chk525 (v1550 : BitVec 32) : Prop :=
  (∀ a, (k0_off2209 v1550) a + S1x16.size a ≤ S704x64.size a) ∧
  (∀ a, (k0_off2210 v1550) a + S1x16.size a ≤ S704x64.size a) ∧
  (∀ a, (k0_off2211 v1550) a + S1x16.size a ≤ S704x64.size a) ∧
  (∀ a, (k0_off2212 v1550) a + S1x16.size a ≤ S704x64.size a)
theorem k0_off2209_inb : ∀ (v1550 : BitVec 32) (k0_hw525 : k0_chk525 v1550), ∀ a, (k0_off2209 v1550) a + S1x16.size a ≤ S704x64.size a := fun v1550 k0_hw525 => k0_hw525.1
theorem k0_off2210_inb : ∀ (v1550 : BitVec 32) (k0_hw525 : k0_chk525 v1550), ∀ a, (k0_off2210 v1550) a + S1x16.size a ≤ S704x64.size a := fun v1550 k0_hw525 => k0_hw525.2.1
theorem k0_off2211_inb : ∀ (v1550 : BitVec 32) (k0_hw525 : k0_chk525 v1550), ∀ a, (k0_off2211 v1550) a + S1x16.size a ≤ S704x64.size a := fun v1550 k0_hw525 => k0_hw525.2.2.1
theorem k0_off2212_inb : ∀ (v1550 : BitVec 32) (k0_hw525 : k0_chk525 v1550), ∀ a, (k0_off2212 v1550) a + S1x16.size a ≤ S704x64.size a := fun v1550 k0_hw525 => k0_hw525.2.2.2

def k0_off2213 (v1571 : BitVec 32) : Fin 2 → Nat :=
  let v1572 : Index := Scalar.indexCast v1571
  let c0_417 : Index := 0#32
  ![v1572.toNat, 0]

def k0_off2214 (v1571 : BitVec 32) : Fin 2 → Nat :=
  let v1576 : Index := Scalar.indexCast v1571
  let c16_418 : Index := 16#32
  ![v1576.toNat, 16]
def k0_off2215 (v1571 : BitVec 32) : Fin 2 → Nat :=
  let v1580 : Index := Scalar.indexCast v1571
  let c32_419 : Index := 32#32
  ![v1580.toNat, 32]
def k0_off2216 (v1571 : BitVec 32) : Fin 2 → Nat :=
  let v1584 : Index := Scalar.indexCast v1571
  let c48_420 : Index := 48#32
  ![v1584.toNat, 48]

def k0_chk526 (v1571 : BitVec 32) : Prop :=
  (∀ a, (k0_off2213 v1571) a + S1x16.size a ≤ S704x64.size a) ∧
  (∀ a, (k0_off2214 v1571) a + S1x16.size a ≤ S704x64.size a) ∧
  (∀ a, (k0_off2215 v1571) a + S1x16.size a ≤ S704x64.size a) ∧
  (∀ a, (k0_off2216 v1571) a + S1x16.size a ≤ S704x64.size a)
theorem k0_off2213_inb : ∀ (v1571 : BitVec 32) (k0_hw526 : k0_chk526 v1571), ∀ a, (k0_off2213 v1571) a + S1x16.size a ≤ S704x64.size a := fun v1571 k0_hw526 => k0_hw526.1
theorem k0_off2214_inb : ∀ (v1571 : BitVec 32) (k0_hw526 : k0_chk526 v1571), ∀ a, (k0_off2214 v1571) a + S1x16.size a ≤ S704x64.size a := fun v1571 k0_hw526 => k0_hw526.2.1
theorem k0_off2215_inb : ∀ (v1571 : BitVec 32) (k0_hw526 : k0_chk526 v1571), ∀ a, (k0_off2215 v1571) a + S1x16.size a ≤ S704x64.size a := fun v1571 k0_hw526 => k0_hw526.2.2.1
theorem k0_off2216_inb : ∀ (v1571 : BitVec 32) (k0_hw526 : k0_chk526 v1571), ∀ a, (k0_off2216 v1571) a + S1x16.size a ≤ S704x64.size a := fun v1571 k0_hw526 => k0_hw526.2.2.2

def k0_off2217 (v1592 : BitVec 32) : Fin 2 → Nat :=
  let v1593 : Index := Scalar.indexCast v1592
  let c0_421 : Index := 0#32
  ![v1593.toNat, 0]

def k0_off2218 (v1592 : BitVec 32) : Fin 2 → Nat :=
  let v1597 : Index := Scalar.indexCast v1592
  let c16_422 : Index := 16#32
  ![v1597.toNat, 16]
def k0_off2219 (v1592 : BitVec 32) : Fin 2 → Nat :=
  let v1601 : Index := Scalar.indexCast v1592
  let c32_423 : Index := 32#32
  ![v1601.toNat, 32]
def k0_off2220 (v1592 : BitVec 32) : Fin 2 → Nat :=
  let v1605 : Index := Scalar.indexCast v1592
  let c48_424 : Index := 48#32
  ![v1605.toNat, 48]

def k0_chk527 (v1592 : BitVec 32) : Prop :=
  (∀ a, (k0_off2217 v1592) a + S1x16.size a ≤ S704x64.size a) ∧
  (∀ a, (k0_off2218 v1592) a + S1x16.size a ≤ S704x64.size a) ∧
  (∀ a, (k0_off2219 v1592) a + S1x16.size a ≤ S704x64.size a) ∧
  (∀ a, (k0_off2220 v1592) a + S1x16.size a ≤ S704x64.size a)
theorem k0_off2217_inb : ∀ (v1592 : BitVec 32) (k0_hw527 : k0_chk527 v1592), ∀ a, (k0_off2217 v1592) a + S1x16.size a ≤ S704x64.size a := fun v1592 k0_hw527 => k0_hw527.1
theorem k0_off2218_inb : ∀ (v1592 : BitVec 32) (k0_hw527 : k0_chk527 v1592), ∀ a, (k0_off2218 v1592) a + S1x16.size a ≤ S704x64.size a := fun v1592 k0_hw527 => k0_hw527.2.1
theorem k0_off2219_inb : ∀ (v1592 : BitVec 32) (k0_hw527 : k0_chk527 v1592), ∀ a, (k0_off2219 v1592) a + S1x16.size a ≤ S704x64.size a := fun v1592 k0_hw527 => k0_hw527.2.2.1
theorem k0_off2220_inb : ∀ (v1592 : BitVec 32) (k0_hw527 : k0_chk527 v1592), ∀ a, (k0_off2220 v1592) a + S1x16.size a ≤ S704x64.size a := fun v1592 k0_hw527 => k0_hw527.2.2.2

def k0_off2221 (v1613 : BitVec 32) : Fin 2 → Nat :=
  let v1614 : Index := Scalar.indexCast v1613
  let c0_425 : Index := 0#32
  ![v1614.toNat, 0]

def k0_off2222 (v1613 : BitVec 32) : Fin 2 → Nat :=
  let v1618 : Index := Scalar.indexCast v1613
  let c16_426 : Index := 16#32
  ![v1618.toNat, 16]
def k0_off2223 (v1613 : BitVec 32) : Fin 2 → Nat :=
  let v1622 : Index := Scalar.indexCast v1613
  let c32_427 : Index := 32#32
  ![v1622.toNat, 32]
def k0_off2224 (v1613 : BitVec 32) : Fin 2 → Nat :=
  let v1626 : Index := Scalar.indexCast v1613
  let c48_428 : Index := 48#32
  ![v1626.toNat, 48]

def k0_chk528 (v1613 : BitVec 32) : Prop :=
  (∀ a, (k0_off2221 v1613) a + S1x16.size a ≤ S704x64.size a) ∧
  (∀ a, (k0_off2222 v1613) a + S1x16.size a ≤ S704x64.size a) ∧
  (∀ a, (k0_off2223 v1613) a + S1x16.size a ≤ S704x64.size a) ∧
  (∀ a, (k0_off2224 v1613) a + S1x16.size a ≤ S704x64.size a)
theorem k0_off2221_inb : ∀ (v1613 : BitVec 32) (k0_hw528 : k0_chk528 v1613), ∀ a, (k0_off2221 v1613) a + S1x16.size a ≤ S704x64.size a := fun v1613 k0_hw528 => k0_hw528.1
theorem k0_off2222_inb : ∀ (v1613 : BitVec 32) (k0_hw528 : k0_chk528 v1613), ∀ a, (k0_off2222 v1613) a + S1x16.size a ≤ S704x64.size a := fun v1613 k0_hw528 => k0_hw528.2.1
theorem k0_off2223_inb : ∀ (v1613 : BitVec 32) (k0_hw528 : k0_chk528 v1613), ∀ a, (k0_off2223 v1613) a + S1x16.size a ≤ S704x64.size a := fun v1613 k0_hw528 => k0_hw528.2.2.1
theorem k0_off2224_inb : ∀ (v1613 : BitVec 32) (k0_hw528 : k0_chk528 v1613), ∀ a, (k0_off2224 v1613) a + S1x16.size a ≤ S704x64.size a := fun v1613 k0_hw528 => k0_hw528.2.2.2

def k0_off2225 (k0_t8 : Fin k0_t8_loop.trips) : Fin 2 → Nat :=
  let c2_i32_144 : BitVec 32 := 2#32
  let c0_i32_138 : BitVec 32 := 0#32
  let c1_i32_140 : BitVec 32 := 1#32
  let arg13 : BitVec 32 := Scf.iv c0_i32_138 c1_i32_140 k0_t8
  let v190 : BitVec 32 := Scalar.muli c2_i32_144 arg13
  let c1_i32_145 : BitVec 32 := 1#32
  let v191 : BitVec 32 := Scalar.addi v190 c1_i32_145
  let v1630 : Index := Scalar.indexCast v191
  let c0_429 : Index := 0#32
  ![v1630.toNat, 0]
def k0_off2226 (k0_t8 : Fin k0_t8_loop.trips) : Fin 2 → Nat :=
  let c2_i32_144 : BitVec 32 := 2#32
  let c0_i32_138 : BitVec 32 := 0#32
  let c1_i32_140 : BitVec 32 := 1#32
  let arg13 : BitVec 32 := Scf.iv c0_i32_138 c1_i32_140 k0_t8
  let v190 : BitVec 32 := Scalar.muli c2_i32_144 arg13
  let c1_i32_145 : BitVec 32 := 1#32
  let v191 : BitVec 32 := Scalar.addi v190 c1_i32_145
  let v1632 : Index := Scalar.indexCast v191
  let c16_430 : Index := 16#32
  ![v1632.toNat, 16]
def k0_off2227 (k0_t8 : Fin k0_t8_loop.trips) : Fin 2 → Nat :=
  let c2_i32_144 : BitVec 32 := 2#32
  let c0_i32_138 : BitVec 32 := 0#32
  let c1_i32_140 : BitVec 32 := 1#32
  let arg13 : BitVec 32 := Scf.iv c0_i32_138 c1_i32_140 k0_t8
  let v190 : BitVec 32 := Scalar.muli c2_i32_144 arg13
  let c1_i32_145 : BitVec 32 := 1#32
  let v191 : BitVec 32 := Scalar.addi v190 c1_i32_145
  let v1634 : Index := Scalar.indexCast v191
  let c32_431 : Index := 32#32
  ![v1634.toNat, 32]
def k0_off2228 (k0_t8 : Fin k0_t8_loop.trips) : Fin 2 → Nat :=
  let c2_i32_144 : BitVec 32 := 2#32
  let c0_i32_138 : BitVec 32 := 0#32
  let c1_i32_140 : BitVec 32 := 1#32
  let arg13 : BitVec 32 := Scf.iv c0_i32_138 c1_i32_140 k0_t8
  let v190 : BitVec 32 := Scalar.muli c2_i32_144 arg13
  let c1_i32_145 : BitVec 32 := 1#32
  let v191 : BitVec 32 := Scalar.addi v190 c1_i32_145
  let v1636 : Index := Scalar.indexCast v191
  let c48_432 : Index := 48#32
  ![v1636.toNat, 48]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1024 : Shape := ⟨2, ![2048, 1024]⟩
abbrev S2048x48 : Shape := ⟨2, ![2048, 48]⟩
abbrev S2048x768 : Shape := ⟨2, ![2048, 768]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S2048x33 : Shape := ⟨2, ![2048, 33]⟩
abbrev S_ : Shape := ⟨0, ![]⟩
abbrev S2048x33x1 : Shape := ⟨3, ![2048, 33, 1]⟩
abbrev S2048x33x1024 : Shape := ⟨3, ![2048, 33, 1024]⟩
abbrev S2048x33x16x64 : Shape := ⟨4, ![2048, 33, 16, 64]⟩
abbrev S2048x16x33x64 : Shape := ⟨4, ![2048, 16, 33, 64]⟩
abbrev S2048x16x48 : Shape := ⟨3, ![2048, 16, 48]⟩
abbrev S2048x16x33 : Shape := ⟨3, ![2048, 16, 33]⟩
abbrev S2048x16x33x1 : Shape := ⟨4, ![2048, 16, 33, 1]⟩
abbrev S2048x16x64 : Shape := ⟨3, ![2048, 16, 64]⟩
abbrev S2048x256 : Shape := ⟨2, ![2048, 256]⟩
abbrev S1x256 : Shape := ⟨2, ![1, 256]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x48, .i32⟩
  | .hbm, ⟨2, _⟩ => ⟨S2048x768, .f32⟩
  | .hbm, ⟨3, _⟩ => ⟨S256x1024, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S1024x1024, .f32⟩
  | .hbm, ⟨8, _⟩ => ⟨S2048x33, .i32⟩
  | .hbm, ⟨9, _⟩ => ⟨S_, .i32⟩
  | .hbm, ⟨10, _⟩ => ⟨S2048x33, .i32⟩
  | .hbm, ⟨11, _⟩ => ⟨S2048x33, .i1⟩
  | .hbm, ⟨12, _⟩ => ⟨S_, .i32⟩
  | .hbm, ⟨13, _⟩ => ⟨S2048x33, .i32⟩
  | .hbm, ⟨14, _⟩ => ⟨S2048x33, .i32⟩
  | .hbm, ⟨15, _⟩ => ⟨S2048x33, .i32⟩
  | .hbm, ⟨16, _⟩ => ⟨S2048x33x1, .i32⟩
  | .hbm, ⟨17, _⟩ => ⟨S2048x33x1024, .f32⟩
  | .hbm, ⟨18, _⟩ => ⟨S2048x33x16x64, .f32⟩
  | .hbm, ⟨19, _⟩ => ⟨S2048x16x33x64, .f32⟩
  | .hbm, ⟨20, _⟩ => ⟨S2048x16x48, .f32⟩
  | .hbm, ⟨21, _⟩ => ⟨S2048x16x33, .f32⟩
  | .hbm, ⟨22, _⟩ => ⟨S2048x16x33x1, .f32⟩
  | .hbm, ⟨23, _⟩ => ⟨S2048x16x33x64, .f32⟩
  | .hbm, ⟨24, _⟩ => ⟨S2048x16x33x64, .f32⟩
  | .hbm, ⟨25, _⟩ => ⟨S_, .f32⟩
  | .hbm, ⟨26, _⟩ => ⟨S2048x16x64, .f32⟩
  | .hbm, ⟨27, _⟩ => ⟨S2048x1024, .f32⟩
  | .hbm, ⟨28, _⟩ => ⟨S1024x256, .f32⟩
  | .hbm, ⟨29, _⟩ => ⟨S2048x256, .f32⟩
  | .hbm, ⟨30, _⟩ => ⟨S1x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S_, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S256x1024, .f32⟩
  | .hbm, ⟨43, _⟩ => ⟨S2048x1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1024x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.Text.lean ====
/- The tile program, written short: one sample, one row, one trip of the row loop, one block of rows. -/
module

public import proofs.«01_k».proof.KernelIdeal

@[expose] public section

noncomputable section

namespace Cert.Tile

open Cert.KernelIdeal
open Idealize.ShloMosaic Idealize.SL.Sem
open Cert.KernelIdeal.Facts₀ Cert.KernelIdeal.Facts

variable {F : FTy → Type} [FloatOps F]
variable [Cert.KernelIdeal.Facts]

/-- The programs of the tile `i`. -/
abbrev TP (F : FTy → Type) (i : grid0.Coords) : Type → Type _ :=
  Prog (TpuEff nD τ sig (Elt F) Λ₀ (.scVector ((i 0).castLE hcore0) ((i 1).castLE hsub0)))

abbrev Win := Memref sig .scVector .vmem S704x64 .f32
abbrev IdxB := Memref sig .scVector .vmem S128x48 .i32
abbrev WtB := Memref sig .scVector .vmem S128x48 .f32
abbrev OutB := Memref sig .scVector .vmem S128x64 .f32

abbrev Trip := Fin k0_t1_loop.trips

/-- The four partial sums of one row: 16 features each. -/
structure Acc (F : FTy → Type) where
  a0 : FVec F S16 .f32
  a1 : FVec F S16 .f32
  a2 : FVec F S16 .f32
  a3 : FVec F S16 .f32

theorem lane_slices (j : Fin 16) : S16.Slices ![j.val] S1 := by revert j; decide

/-- The word in lane `j` of sixteen. -/
def laneF (v : FVec F S16 .f32) (j : Fin 16) : F .f32 :=
  extractAt ![0] (extractStridedSlice S1 ![j.val] v (lane_slices j)) inpos_S1_p0
def laneI (v : IVec S16 32) (j : Fin 16) : BitVec 32 :=
  extractAt ![0] (extractStridedSlice S1 ![j.val] v (lane_slices j)) inpos_S1_p0

/-- Sixteen features of a window's row, times the weight, added on. -/
def mac (acc : FVec F S16 .f32) (w : F .f32) (x : Vec F S1x16 .f32) : FVec F S16 .f32 :=
  addf acc (mulf (broadcast S16 w) (shapeCast S16 x shapeCasts_S1x16_S16))

/-- One sample of a row. -/
def tap {i : grid0.Coords} (buf : Win) (wv : FVec F S16 .f32) (iv : IVec S16 32) (j : Fin 16)
    (a : Acc F) : TP F i (Acc F) := do
  let h ← Prog.lift (TpuEff.assume (k0_chk1 (laneI iv j)) (k0_chk1.dec (laneI iv j)))
  let x0 ← Prog.lift (.load buf (Rect.unit (s := S704x64) (k0_off7 (laneI iv j)) S1x16.size (k0_off7_inb _ h.down)).toLoadRect (View.loadsAt_vmem h_S1x16))
  let x1 ← Prog.lift (.load buf (Rect.unit (s := S704x64) (k0_off8 (laneI iv j)) S1x16.size (k0_off8_inb _ h.down)).toLoadRect (View.loadsAt_vmem h_S1x16))
  let x2 ← Prog.lift (.load buf (Rect.unit (s := S704x64) (k0_off9 (laneI iv j)) S1x16.size (k0_off9_inb _ h.down)).toLoadRect (View.loadsAt_vmem h_S1x16))
  let x3 ← Prog.lift (.load buf (Rect.unit (s := S704x64) (k0_off10 (laneI iv j)) S1x16.size (k0_off10_inb _ h.down)).toLoadRect (View.loadsAt_vmem h_S1x16))
  pure ⟨mac a.a0 (laneF wv j) x0, mac a.a1 (laneF wv j) x1, mac a.a2 (laneF wv j) x2, mac a.a3 (laneF wv j) x3⟩

/-- Several samples in turn. -/
def taps {i : grid0.Coords} (buf : Win) (wv : FVec F S16 .f32) (iv : IVec S16 32) :
    List (Fin 16) → Acc F → TP F i (Acc F)
  | [], a => pure a
  | j :: js, a => do
    let a' ← tap buf wv iv j a
    taps buf wv iv js a'

abbrev lanes : List (Fin 16) := [0, 1, 2, 3, 4, 5, 6, 7, 8, 9, 10, 11, 12, 13, 14, 15]

/-- The offsets row `r` of a trip reads and writes at, and that they fit. -/
structure RowAt where
  o0 : Fin 2 → Nat
  o1 : Fin 2 → Nat
  o2 : Fin 2 → Nat
  h0 : ∀ a, o0 a + S1x16.size a ≤ S128x48.size a
  h1 : ∀ a, o1 a + S1x16.size a ≤ S128x48.size a
  h2 : ∀ a, o2 a + S1x16.size a ≤ S128x48.size a
  q0 : Fin 2 → Nat
  q1 : Fin 2 → Nat
  q2 : Fin 2 → Nat
  q3 : Fin 2 → Nat
  g0 : ∀ a, q0 a + S1x16.size a ≤ S128x64.size a
  g1 : ∀ a, q1 a + S1x16.size a ≤ S128x64.size a
  g2 : ∀ a, q2 a + S1x16.size a ≤ S128x64.size a
  g3 : ∀ a, q3 a + S1x16.size a ≤ S128x64.size a

/-- One store of sixteen features, after the load of what was there. -/
def put {i : grid0.Coords} (ob : OutB) (q : Fin 2 → Nat) (g : ∀ a, q a + S1x16.size a ≤ S128x64.size a)
    (v : FVec F S16 .f32) : TP F i PUnit := do
  let _ ← Prog.lift (.load ob (Rect.unit (s := S128x64) q S1x16.size g).toLoadRect (View.loadsAt_vmem h_S1x16))
  Prog.lift (.store ob (Rect.unit (s := S128x64) q S1x16.size g) (shapeCast S1x16 v shapeCasts_S16_S1x16) Finset.univ (View.stores_vmem_bits_univ h_S1x16 rfl) (.inl rfl))

/-- One row: its weights and indices, its 33 samples, its four stores. -/
def row {i : grid0.Coords} (buf : Win) (ib : IdxB) (wb : WtB) (ob : OutB) (ws : BitVec 32) (r : RowAt) : TP F i PUnit := do
  let w0 ← Prog.lift (.load wb (Rect.unit (s := S128x48) r.o0 S1x16.size r.h0).toLoadRect (View.loadsAt_vmem h_S1x16))
  let w1 ← Prog.lift (.load wb (Rect.unit (s := S128x48) r.o1 S1x16.size r.h1).toLoadRect (View.loadsAt_vmem h_S1x16))
  let w2 ← Prog.lift (.load wb (Rect.unit (s := S128x48) r.o2 S1x16.size r.h2).toLoadRect (View.loadsAt_vmem h_S1x16))
  let i0 ← Prog.lift (.load ib (Rect.unit (s := S128x48) r.o0 S1x16.size r.h0).toLoadRect (View.loadsAt_vmem h_S1x16))
  let i1 ← Prog.lift (.load ib (Rect.unit (s := S128x48) r.o1 S1x16.size r.h1).toLoadRect (View.loadsAt_vmem h_S1x16))
  let i2 ← Prog.lift (.load ib (Rect.unit (s := S128x48) r.o2 S1x16.size r.h2).toLoadRect (View.loadsAt_vmem h_S1x16))
  let z : FVec F S16 .f32 := broadcast S16 (Scalar.ofBits .f32 0x00000000#32)
  let a ← taps buf (shapeCast S16 w0 shapeCasts_S1x16_S16) (subi (shapeCast S16 i0 shapeCasts_S1x16_S16) (broadcast S16 ws)) lanes ⟨z, z, z, z⟩
  let a ← taps buf (shapeCast S16 w1 shapeCasts_S1x16_S16) (subi (shapeCast S16 i1 shapeCasts_S1x16_S16) (broadcast S16 ws)) lanes a
  let a ← taps buf (shapeCast S16 w2 shapeCasts_S1x16_S16) (subi (shapeCast S16 i2 shapeCasts_S1x16_S16) (broadcast S16 ws)) [0] a
  put ob r.q0 r.g0 a.a0
  put ob r.q1 r.g1 a.a1
  put ob r.q2 r.g2 a.a2
  put ob r.q3 r.g3 a.a3

/-- The two rows of trip `k`. -/
def row0 (k : Trip) : RowAt := ⟨_, _, _, k0_off4_inb k, k0_off5_inb k, k0_off6_inb k, _, _, _, _, k0_off139_inb k, k0_off140_inb k, k0_off141_inb k, k0_off142_inb k⟩
def row1 (k : Trip) : RowAt := ⟨_, _, _, k0_off143_inb k, k0_off144_inb k, k0_off145_inb k, _, _, _, _, k0_off278_inb k, k0_off279_inb k, k0_off280_inb k, k0_off281_inb k⟩

def trip {i : grid0.Coords} (buf : Win) (ib : IdxB) (wb : WtB) (ob : OutB) (ws : BitVec 32) (k : Trip) : TP F i PUnit := do
  row buf ib wb ob ws (row0 k)
  row buf ib wb ob ws (row1 k)

/-- The 64 trips of the row loop. -/
def rows {i : grid0.Coords} (buf : Win) (ib : IdxB) (wb : WtB) (ob : OutB) (ws : BitVec 32) : TP F i PUnit :=
  Scf.Loop.for k0_t1_loop k0_t1_ok ⟨⟩ fun k _ => trip buf ib wb ob ws k

/-- What block `n` of the tile copies in and out. -/
def winSrc (i : grid0.Coords) (arg2 : Memref sig .scVector .hbm S2048x1024 .f32) (n : Fin 8) : Memref sig .scVector .hbm S704x64 .f32 :=
  arg2.slice (Rect.unit (s := S2048x1024) (k0_off1 i (BitVec.ofNat 32 n.val)) S704x64.size (k0_off1_inb i n)) (fun _ => rfl)
def idxSrc (i : grid0.Coords) (arg3 : Memref sig .scVector .hbm S2048x48 .i32) (n : Fin 8) : Memref sig .scVector .hbm S128x48 .i32 :=
  arg3.slice (Rect.unit (s := S2048x48) (k0_off2 i (BitVec.ofNat 32 n.val)) S128x48.size (k0_off2_inb i n)) (fun _ => rfl)
def wtSrc (i : grid0.Coords) (arg4 : Memref sig .scVector .hbm S2048x768 .f32) (n : Fin 8) : Memref sig .scVector .hbm S128x48 .f32 :=
  arg4.slice (Rect.unit (s := S2048x768) (k0_off3 i (BitVec.ofNat 32 n.val)) S128x48.size (k0_off3_inb i n)) (fun _ => rfl)
def outDst (i : grid0.Coords) (arg5 : Memref sig .scVector .hbm S2048x1024 .f32) (n : Fin 8) : Memref sig .scVector .hbm S128x64 .f32 :=
  arg5.slice (Rect.unit (s := S2048x1024) (k0_off282 i (BitVec.ofNat 32 n.val)) S128x64.size (k0_off282_inb i n)) (fun _ => rfl)

def startWin (i : grid0.Coords) (arg2 : Memref sig .scVector .hbm S2048x1024 .f32) (n : Fin 8) (buf : Win) (hbuf : buf.IsWhole) (sem : DmaSems sig S_) : TP F i PUnit :=
  Prog.lift (.enqueueDma (winSrc i arg2 n) (.here buf) (.dma sem.sem) (View.wordExact_bits rfl) hbuf.wordExact ⟨Or.inl rfl, trivial⟩)
def waitWin (i : grid0.Coords) (arg2 : Memref sig .scVector .hbm S2048x1024 .f32) (n : Fin 8) (buf : Win) (hbuf : buf.IsWhole) (sem : DmaSems sig S_) : TP F i PUnit :=
  Prog.lift (.waitDma2 sem.sem (winSrc i arg2 n) buf (View.wordExact_bits rfl) hbuf.wordExact)

def fetchIdx (i : grid0.Coords) (arg3 : Memref sig .scVector .hbm S2048x48 .i32) (n : Fin 8) (ib : IdxB) (hib : ib.IsWhole) (sem : DmaSems sig S_) : TP F i PUnit := do
  Prog.lift (.enqueueDma (idxSrc i arg3 n) (.here ib) (.dma sem.sem) (View.wordExact_bits rfl) hib.wordExact ⟨Or.inl rfl, trivial⟩)
  Prog.lift (.waitDma2 sem.sem (idxSrc i arg3 n) ib (View.wordExact_bits rfl) hib.wordExact)
def fetchWt (i : grid0.Coords) (arg4 : Memref sig .scVector .hbm S2048x768 .f32) (n : Fin 8) (wb : WtB) (hwb : wb.IsWhole) (sem : DmaSems sig S_) : TP F i PUnit := do
  Prog.lift (.enqueueDma (wtSrc i arg4 n) (.here wb) (.dma sem.sem) (View.wordExact_bits rfl) hwb.wordExact ⟨Or.inl rfl, trivial⟩)
  Prog.lift (.waitDma2 sem.sem (wtSrc i arg4 n) wb (View.wordExact_bits rfl) hwb.wordExact)
def putOut (i : grid0.Coords) (arg5 : Memref sig .scVector .hbm S2048x1024 .f32) (n : Fin 8) (ob : OutB) (hob : ob.IsWhole) (sem : DmaSems sig S_) : TP F i PUnit := do
  Prog.lift (.enqueueDma ob (.here (outDst i arg5 n)) (.dma sem.sem) hob.wordExact (View.wordExact_bits rfl) ⟨Or.inl rfl, trivial⟩)
  Prog.lift (.waitDma2 sem.sem ob (outDst i arg5 n) hob.wordExact (View.wordExact_bits rfl))

/-- Which half of the rows the tile takes: its number over sixteen, as the kernel computes it. -/
def halfWord (i : grid0.Coords) : BitVec 32 :=
  let wid : BitVec 32 := Scalar.addi (Scalar.muli (BitVec.ofNat 32 (i 1).val) 2#32) (BitVec.ofNat 32 (i 0).val)
  let sgn : BitVec 32 := Scalar.subi (Scalar.extui (Scalar.cmpi .sgt wid 0#32)) (Scalar.extui (Scalar.cmpi .slt wid 0#32))
  let sgn16 : BitVec 32 := Scalar.subi (Scalar.extui (Scalar.cmpi .sgt 16#32 0#32)) (Scalar.extui (Scalar.cmpi .slt 16#32 0#32))
  let q : BitVec 32 := Scalar.divsi wid 16#32
  Scalar.select (Scalar.andi (Scalar.cmpi .ne sgn sgn16) (Scalar.cmpi .ne (Scalar.remsi wid 16#32) 0#32)) (Scalar.subi q 1#32) q

/-- The first row of block `n`'s window, from the half. -/
def winFrom (half : BitVec 32) (n : Fin 8) : BitVec 32 :=
  Scalar.minsi 1344#32 (Scalar.maxsi 0#32 (Scalar.subi (Scalar.addi 0#32
    (Scalar.muli (Scalar.addi (Scalar.muli half 8#32) (BitVec.ofNat 32 n.val)) 128#32)) 288#32))

/-- The first row of block `n`'s window. -/
def winWord (i : grid0.Coords) (n : Fin 8) : BitVec 32 := winFrom (halfWord i) n

/-- A window's buffer and the semaphore its copy signals. -/
structure Side where
  buf : Win
  whole : buf.IsWhole
  sem : DmaSems sig S_

/-- The arrays a tile reads and writes, its buffers and its semaphores. -/
structure Bufs where
  x : Memref sig .scVector .hbm S2048x1024 .f32
  hx : x.IsWhole
  idx : Memref sig .scVector .hbm S2048x48 .i32
  hidx : idx.IsWhole
  wt : Memref sig .scVector .hbm S2048x768 .f32
  hwt : wt.IsWhole
  out : Memref sig .scVector .hbm S2048x1024 .f32
  hout : out.IsWhole
  w0 : Side
  w1 : Side
  ib : IdxB
  hib : ib.IsWhole
  wb : WtB
  hwb : wb.IsWhole
  ob : OutB
  hob : ob.IsWhole
  sI : Fin 8 → DmaSems sig S_
  sW : Fin 8 → DmaSems sig S_
  sO : Fin 8 → DmaSems sig S_

/-- Block `n` up to its window's arrival. -/
def openBlk (i : grid0.Coords) (B : Bufs) (n : Fin 8) (w : Side) : TP F i PUnit := do
  fetchIdx i B.idx n B.ib B.hib (B.sI n)
  fetchWt i B.wt n B.wb B.hwb (B.sW n)
  waitWin i B.x n w.buf w.whole w.sem

/-- The rows of block `n`, and their copy out. -/
def sumBlk (i : grid0.Coords) (B : Bufs) (n : Fin 8) (w : Side) : TP F i PUnit := do
  rows w.buf B.ib B.wb B.ob (winWord i n)
  putOut i B.out n B.ob B.hob (B.sO n)

/-- Block `n`, with the start of the next one's window. -/
def stepBlk (i : grid0.Coords) (B : Bufs) (n n' : Fin 8) (w w' : Side) : TP F i PUnit := do
  openBlk i B n w
  startWin i B.x n' w'.buf w'.whole w'.sem
  sumBlk i B n w

/-- The tile's whole program. -/
def body (i : grid0.Coords) (B : Bufs) : TP F i PUnit := do
  startWin i B.x 0 B.w0.buf B.w0.whole B.w0.sem
  stepBlk i B 0 1 B.w0 B.w1
  stepBlk i B 1 2 B.w1 B.w0
  stepBlk i B 2 3 B.w0 B.w1
  stepBlk i B 3 4 B.w1 B.w0
  stepBlk i B 4 5 B.w0 B.w1
  stepBlk i B 5 6 B.w1 B.w0
  stepBlk i B 6 7 B.w0 B.w1
  openBlk i B 7 B.w1
  sumBlk i B 7 B.w1

end Cert.Tile
-- ==== Proof.Rows.lean ====
/- What a row of the tile program leaves in the output buffer, for any contents of the other buffers. -/
module

public import proofs.«01_k».proof.Proof.Text
public import proofs.«01_k».proof.Proof.Gen.KernelIdeal
public import Idealize.ShloMosaic.Lib.SparseCore.Quiescent
public import Idealize.ShloMosaic.Lib.Pipeline.Kit
public import Idealize.ShloMosaic.Lib.Pipeline.Value
public import Idealize.ShloMosaic.Lib.Pointwise.Index
public import Idealize.ShloMosaic.Lib.Tactic

@[expose] public section

noncomputable section

namespace Cert.Tile

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Values -/

/-- The multi-index of row `r` and column `c`, each taken modulo its extent. -/
def at2 {A B : ℕ} [NeZero A] [NeZero B] (r c : ℕ) : (⟨2, ![A, B]⟩ : Shape).Idx := ix2 (Fin.ofNat A r) (Fin.ofNat B c)

theorem at2_eq {A B : ℕ} [NeZero A] [NeZero B] (y : (⟨2, ![A, B]⟩ : Shape).Idx) (r c : ℕ) (h0 : (y 0).val = r) (h1 : (y 1).val = c) :
    y = at2 r c := by
  subst h0 h1
  rw [eq_ix2 y]
  unfold at2
  congr 1 <;> (apply Fin.ext; simp [Fin.ofNat]; exact (Nat.mod_eq_of_lt (Fin.isLt _)).symm)

/-- The four partial sums hold `T` at their columns. -/
def Holds (a : Acc F) (T : ℕ → F .f32) : Prop :=
  (∀ l : S16.Idx, a.a0 l = T (l 0).val) ∧ (∀ l : S16.Idx, a.a1 l = T (16 + (l 0).val)) ∧
  (∀ l : S16.Idx, a.a2 l = T (32 + (l 0).val)) ∧ (∀ l : S16.Idx, a.a3 l = T (48 + (l 0).val))

/-- Sixteen read from a row, as a row of sixteen. -/
theorem cast_row {α : Type} (x : S1x16.Idx → α) (l : S16.Idx) :
    shapeCast S16 x shapeCasts_S1x16_S16 l = x (at2 0 (l 0).val) := by
  refine (shapeCast_dropUnit_apply ![16] x shapeCasts_S1x16_S16 l).trans (congrArg x (at2_eq _ _ _ rfl rfl))

theorem row_cast {α : Type} (x : S16.Idx → α) (l : S1x16.Idx) :
    shapeCast S1x16 x shapeCasts_S16_S1x16 l = x (ix1 (l 1)) := by
  refine (shapeCast_addUnit_apply ![16] x shapeCasts_S16_S1x16 l).trans (congrArg x ?_)
  rw [eq_ix1 (fun a : Fin 1 => l a.succ)]
  rfl

theorem lane_F (v : FVec F S16 .f32) (j : Fin 16) : laneF v j = v (ix1 j) := by
  unfold laneF extractAt extractStridedSlice
  congr 1
  funext a
  match a with
  | 0 => apply Fin.ext; simp

theorem lane_I (v : IVec S16 32) (j : Fin 16) : laneI v j = v (ix1 j) := by
  unfold laneI extractAt extractStridedSlice
  congr 1
  funext a
  match a with
  | 0 => apply Fin.ext; simp

/-- What a load of sixteen reads. -/
theorem read_sixteen {A B : ℕ} [NeZero A] [NeZero B] {κ : Kind} {sp : Space} {e : EltTy} (v : View sig κ sp ⟨2, ![A, B]⟩ e)
    {off : Fin 2 → ℕ} (r o : ℕ) (hoff : off = ![r, o]) (inb : ∀ a, off a + S1x16.size a ≤ (⟨2, ![A, B]⟩ : Shape).size a)
    (g : v.ty.Contents (Elt F)) (x : S1x16.Idx) :
    v.readAt (Elt F) (Rect.unit (s := ⟨2, ![A, B]⟩) off S1x16.size inb).toLoadRect g x = v.read (Elt F) g (at2 r (o + (x 1).val)) := by
  subst hoff
  rw [View.readAt_apply]
  congr 1
  refine at2_eq _ _ _ ?_ ?_
  · show r + 1 * (x 0).val = r
    have : (x 0).val < 1 := (x 0).isLt
    omega
  · show o + 1 * (x 1).val = _
    omega

theorem read_sixteen_cast {A B : ℕ} [NeZero A] [NeZero B] {κ : Kind} {sp : Space} {e : EltTy} (v : View sig κ sp ⟨2, ![A, B]⟩ e)
    {off : Fin 2 → ℕ} (r o : ℕ) (hoff : off = ![r, o]) (inb : ∀ a, off a + S1x16.size a ≤ (⟨2, ![A, B]⟩ : Shape).size a)
    (g : v.ty.Contents (Elt F)) (l : S16.Idx) :
    shapeCast S16 (v.readAt (Elt F) (Rect.unit (s := ⟨2, ![A, B]⟩) off S1x16.size inb).toLoadRect g : S1x16.Idx → Elt F e) shapeCasts_S1x16_S16 l
      = v.read (Elt F) g (at2 r (o + (l 0).val)) := by
  rw [cast_row, read_sixteen v r o hoff]
  congr 3
  exact Nat.mod_eq_of_lt (l 0).isLt

theorem mac_read (buf : Win) {off : Fin 2 → ℕ} (r o : ℕ) (hoff : off = ![r, o]) (inb : ∀ a, off a + S1x16.size a ≤ S704x64.size a)
    (g : buf.view.ty.Contents (Elt F)) (acc : FVec F S16 .f32) (w : F .f32) (T : ℕ → F .f32) (l : S16.Idx) (h : acc l = T (o + (l 0).val)) :
    mac acc w (buf.view.readAt (Elt F) (Rect.unit (s := S704x64) off S1x16.size inb).toLoadRect g) l
      = FloatOps.addf (T (o + (l 0).val)) (FloatOps.mulf w (buf.view.read (Elt F) g (at2 r (o + (l 0).val)))) := by
  rw [← h]
  exact congrArg (fun y => FloatOps.addf (acc l) (FloatOps.mulf w y)) (read_sixteen_cast buf.view r o hoff inb g l)

/-! ## Runs -/

abbrev UU : Type := (URounds (GSem nD τ sig) ℕ × URounds (GSem nD τ sig) Unit) × Counters

abbrev 𝒱₀ : Variants := Variants.none

local notation "𝕄" => MT nD τ sig (HIx 1) (Elt F) ℕ UU ℕ

/-- Tile `i` of device `d`. -/
abbrev thr (d : Dev nD) (i : grid0.Coords) : Thread nD τ := (d, .scVector ((i 0).castLE hcore0) ((i 1).castLE hsub0))

/-- A run of a tile's program to `Q`. -/
abbrev Wp (d : Dev nD) (i : grid0.Coords) {α : Type} (p : TP F i α) (Q : α → sProp 𝕄) : sProp 𝕄 :=
  wp frame (wpE defs₀ 𝒱₀ (thr d i) none) Set.univ p Q

/-- All of a memref's elements, at contents `f`. -/
abbrev own (d : Dev nD) (i : grid0.Coords) {sp : Space} {s : Shape} {e : EltTy} (b : Memref sig .scVector sp s e)
    (f : Buf (Elt F) (b.view.loc (thr d i))) : sProp 𝕄 :=
  b.view.loc (thr d i) ↦[b.view.set]{fullShare} f

variable (d : Dev nD) (i : grid0.Coords)

/-- One sample adds its product to the sums. -/
theorem wp_tap (buf : Win) (wv : FVec F S16 .f32) (iv : IVec S16 32) (j : Fin 16) (a : Acc F) (T : ℕ → F .f32) (hT : Holds a T)
    (hj : (laneI iv j).toNat < 704) (g : Buf (Elt F) (buf.view.loc (thr d i))) {β : Type} (k : Acc F → TP F i β) (Q : β → sProp 𝕄) :
    own d i buf g ⊢ iprop((∀ a', ⌜Holds a' fun c => FloatOps.addf (T c) (FloatOps.mulf (laneF wv j) (buf.view.read (Elt F) g (at2 (laneI iv j).toNat c)))⌝
        -∗ own d i buf g -∗ Wp d i (k a') Q)
      -∗ Wp d i (tap buf wv iv j a >>= k) Q) := by
  have hc : k0_chk1 (laneI iv j) := by
    refine ⟨?_, ?_, ?_, ?_⟩ <;> (intro x; match x with
      | 0 => show (laneI iv j).toNat + 1 ≤ 704; omega
      | 1 => first | exact (by decide : 0 + 16 ≤ 64) | exact (by decide : 16 + 16 ≤ 64) | exact (by decide : 32 + 16 ≤ 64) | exact (by decide : 48 + 16 ≤ 64))
  simp only [tap, bind_assoc, Prog.bind_lift, Prog.bind_op, Prog.bind_ret, Prog.pure_eq_ret, pure_bind]
  iintro Hb Hk
  iapply (wp_assume 𝒱₀ (thr d i) none Set.univ hc)
  iapply (wp_load 𝒱₀ (thr d i) none Set.univ (m := buf) (S := buf.view.set) (View.setOn_subset_set _ _)) $$ Hb; iintro Hb
  iapply (wp_load 𝒱₀ (thr d i) none Set.univ (m := buf) (S := buf.view.set) (View.setOn_subset_set _ _)) $$ Hb; iintro Hb
  iapply (wp_load 𝒱₀ (thr d i) none Set.univ (m := buf) (S := buf.view.set) (View.setOn_subset_set _ _)) $$ Hb; iintro Hb
  iapply (wp_load 𝒱₀ (thr d i) none Set.univ (m := buf) (S := buf.view.set) (View.setOn_subset_set _ _)) $$ Hb; iintro Hb
  iapply Hk $$ [] Hb
  ipureintro
  refine ⟨fun l => ?_, fun l => mac_read buf _ 16 rfl _ g _ _ T l (hT.2.1 l), fun l => mac_read buf _ 32 rfl _ g _ _ T l (hT.2.2.1 l),
    fun l => mac_read buf _ 48 rfl _ g _ _ T l (hT.2.2.2 l)⟩
  have := mac_read buf (laneI iv j).toNat 0 rfl (hc.1) g a.a0 (laneF wv j) T l (by rw [Nat.zero_add]; exact hT.1 l)
  rwa [Nat.zero_add] at this

/-- The product of sample `j` with the window, at column `c`. -/
def term {κ : Kind} {sp : Space} (buf : View sig κ sp S704x64 .f32) (g : buf.ty.Contents (Elt F)) (wv : FVec F S16 .f32) (iv : IVec S16 32)
    (c : ℕ) (j : Fin 16) : F .f32 :=
  FloatOps.mulf (laneF wv j) (buf.read (Elt F) g (at2 (laneI iv j).toNat c))

/-- Samples in turn. -/
theorem wp_taps (buf : Win) (wv : FVec F S16 .f32) (iv : IVec S16 32) (g : Buf (Elt F) (buf.view.loc (thr d i))) {β : Type}
    (k : Acc F → TP F i β) (Q : β → sProp 𝕄) : ∀ (js : List (Fin 16)) (a : Acc F) (T : ℕ → F .f32) (_ : Holds a T)
    (_ : ∀ j ∈ js, (laneI iv j).toNat < 704),
    own d i buf g ⊢ iprop((∀ a', ⌜Holds a' fun c => js.foldl (fun t j => FloatOps.addf t (term buf.view g wv iv c j)) (T c)⌝
        -∗ own d i buf g -∗ Wp d i (k a') Q)
      -∗ Wp d i (taps buf wv iv js a >>= k) Q)
  | [], a, T, hT, _ => by
    simp only [taps, Prog.pure_eq_ret, Prog.bind_ret, List.foldl_nil]
    iintro Hb Hk
    iapply Hk $$ [] Hb
    ipureintro; exact hT
  | j :: js, a, T, hT, hj => by
    simp only [taps, bind_assoc, List.foldl_cons]
    iintro Hb Hk
    iapply (wp_tap d i buf wv iv j a T hT (hj j List.mem_cons_self) g) $$ Hb
    iintro %a' %ha' Hb
    iapply (wp_taps buf wv iv g k Q js a' _ ha' fun j' h => hj j' (List.mem_cons_of_mem _ h)) $$ Hb
    iexact Hk

/-! ## A row -/

/-- The first `n` products added up in order, from zero. -/
def dot (w x : ℕ → F .f32) : ℕ → F .f32
  | 0 => Scalar.ofBits .f32 0x00000000#32
  | n + 1 => FloatOps.addf (dot w x n) (FloatOps.mulf (w n) (x n))

/-- Row `ρ` summed at column `c`: 33 samples, each a weight times the window's row the index names from `ws` on. -/
def rowOf (X : S704x64.Idx → F .f32) (I : S128x48.Idx → BitVec 32) (W : S128x48.Idx → F .f32) (ws : BitVec 32) (ρ c : ℕ) : F .f32 :=
  dot (fun s => W (at2 ρ s)) (fun s => X (at2 (I (at2 ρ s) - ws).toNat c)) 33

/-- The same, of what the buffers hold. -/
abbrev rowSum {sp sp' sp'' : Space} (buf : View sig .scVector sp S704x64 .f32) (g : buf.ty.Contents (Elt F))
    (ib : View sig .scVector sp' S128x48 .i32) (fi : ib.ty.Contents (Elt F)) (wb : View sig .scVector sp'' S128x48 .f32) (fw : wb.ty.Contents (Elt F))
    (ws : BitVec 32) (ρ c : ℕ) : F .f32 :=
  rowOf (buf.read (Elt F) g) (ib.read (Elt F) fi) (wb.read (Elt F) fw) ws ρ c

/-- Where the row at `r` lies. -/
structure Lies (r : RowAt) (ρ : ℕ) : Prop where
  o0 : r.o0 = ![ρ, 0]
  o1 : r.o1 = ![ρ, 16]
  o2 : r.o2 = ![ρ, 32]
  q0 : r.q0 = ![ρ, 0]
  q1 : r.q1 = ![ρ, 16]
  q2 : r.q2 = ![ρ, 32]
  q3 : r.q3 = ![ρ, 48]

theorem lies0 (k : Trip) : Lies (row0 k) (2 * k.val) :=
  ⟨k0_off4_eq k, k0_off5_eq k, k0_off6_eq k, k0_off139_eq k, k0_off140_eq k, k0_off141_eq k, k0_off142_eq k⟩
theorem lies1 (k : Trip) : Lies (row1 k) (2 * k.val + 1) :=
  ⟨k0_off143_eq k, k0_off144_eq k, k0_off145_eq k, k0_off278_eq k, k0_off279_eq k, k0_off280_eq k, k0_off281_eq k⟩

theorem fold_dot (z : F .f32) (hz : z = Scalar.ofBits .f32 0x00000000#32) (w x : ℕ → F .f32) :
    [(0 : Fin 16)].foldl (fun t j => FloatOps.addf t (FloatOps.mulf (w (32 + j.val)) (x (32 + j.val))))
      (lanes.foldl (fun t j => FloatOps.addf t (FloatOps.mulf (w (16 + j.val)) (x (16 + j.val))))
        (lanes.foldl (fun t j => FloatOps.addf t (FloatOps.mulf (w (0 + j.val)) (x (0 + j.val)))) z)) = dot w x 33 := by
  subst hz; rfl

theorem term_read (buf : Win) (g : buf.view.ty.Contents (Elt F)) (ib : IdxB) (fi : ib.view.ty.Contents (Elt F)) (wb : WtB) (fw : wb.view.ty.Contents (Elt F))
    (ws : BitVec 32) (ρ o : ℕ) {off : Fin 2 → ℕ} (hoff : off = ![ρ, o]) (inb : ∀ a, off a + S1x16.size a ≤ S128x48.size a) (c : ℕ) (j : Fin 16) :
    term buf.view g (shapeCast S16 (wb.view.readAt (Elt F) (Rect.unit (s := S128x48) off S1x16.size inb).toLoadRect fw : S1x16.Idx → Elt F .f32) shapeCasts_S1x16_S16)
        (subi (shapeCast S16 (ib.view.readAt (Elt F) (Rect.unit (s := S128x48) off S1x16.size inb).toLoadRect fi : S1x16.Idx → Elt F .i32) shapeCasts_S1x16_S16) (broadcast S16 ws)) c j
      = FloatOps.mulf (wb.view.read (Elt F) fw (at2 ρ (o + j.val)))
          (buf.view.read (Elt F) g (at2 ((ib.view.read (Elt F) fi (at2 ρ (o + j.val)) : BitVec 32) - ws).toNat c)) := by
  unfold term
  rw [lane_F, lane_I]
  simp only [subi, IntOp.subi, broadcast]
  rw [read_sixteen_cast wb.view ρ o hoff inb fw (ix1 j), read_sixteen_cast ib.view ρ o hoff inb fi (ix1 j)]
  rfl

theorem lane_read (ib : IdxB) (fi : ib.view.ty.Contents (Elt F)) (ws : BitVec 32) (ρ o : ℕ) {off : Fin 2 → ℕ} (hoff : off = ![ρ, o])
    (inb : ∀ a, off a + S1x16.size a ≤ S128x48.size a) (j : Fin 16) :
    laneI (subi (shapeCast S16 (ib.view.readAt (Elt F) (Rect.unit (s := S128x48) off S1x16.size inb).toLoadRect fi : S1x16.Idx → Elt F .i32) shapeCasts_S1x16_S16) (broadcast S16 ws)) j
      = (ib.view.read (Elt F) fi (at2 ρ (o + j.val)) : BitVec 32) - ws := by
  rw [lane_I]
  simp only [subi, IntOp.subi, broadcast]
  rw [read_sixteen_cast ib.view ρ o hoff inb fi (ix1 j)]
  rfl

/-- What a store of sixteen leaves. -/
theorem read_put (ob : OutB) (ρ o : ℕ) {q : Fin 2 → ℕ} (hq : q = ![ρ, o]) (inb : ∀ a, q a + S1x16.size a ≤ S128x64.size a)
    (f : ob.view.ty.Contents (Elt F)) (v : FVec F S16 .f32) (T : ℕ → F .f32) (hv : ∀ l : S16.Idx, v l = T (o + (l 0).val)) (y : S128x64.Idx) :
    ob.view.read (Elt F) ((ob.access (Rect.unit (s := S128x64) q S1x16.size inb)).write (Elt F) f (shapeCast S1x16 v shapeCasts_S16_S1x16) Finset.univ) y
      = if (y 0).val = ρ ∧ o ≤ (y 1).val ∧ (y 1).val < o + 16 then T (y 1).val else ob.view.read (Elt F) f y := by
  subst hq
  split
  next h =>
    obtain ⟨h0, h1, h2⟩ := h
    have hy : (Rect.unit (s := S128x64) ![ρ, o] S1x16.size inb).emb (at2 (A := 1) (B := 16) 0 ((y 1).val - o)) = y := by
      funext a
      apply Fin.ext
      match a with
      | 0 => show ρ + 1 * (0 % 1) = (y 0).val; omega
      | 1 => show o + 1 * (((y 1).val - o) % 16) = (y 1).val; omega
    have := View.read_slice_write_emb (v := ob.view) (Val := Elt F) (Rect.unit (s := S128x64) ![ρ, o] S1x16.size inb) f
      (shapeCast S1x16 v shapeCasts_S16_S1x16) (M := Finset.univ) (x := at2 (A := 1) (B := 16) 0 ((y 1).val - o)) (Finset.mem_univ _)
    rw [hy] at this
    refine this.trans ((row_cast v _).trans ((hv _).trans (congrArg T ?_)))
    show o + (((y 1).val - o) % 16) = (y 1).val
    omega
  next h =>
    refine View.read_slice_write_of_not_mem _ _ _ _ fun hm => h ?_
    rw [Rect.map_emb_univ, Rect.mem_set_unit] at hm
    have a0 := hm 0
    have a1 := hm 1
    change ρ ≤ (y 0).val ∧ (y 0).val < ρ + 1 at a0
    change o ≤ (y 1).val ∧ (y 1).val < o + 16 at a1
    omega

theorem wp_put (ob : OutB) (q : Fin 2 → ℕ) (g : ∀ a, q a + S1x16.size a ≤ S128x64.size a) (v : FVec F S16 .f32)
    (f : Buf (Elt F) (ob.view.loc (thr d i))) {β : Type} (k : PUnit → TP F i β) (Q : β → sProp 𝕄) :
    own d i ob f ⊢ iprop((own d i ob ((ob.access (Rect.unit (s := S128x64) q S1x16.size g)).write (Elt F) f (shapeCast S1x16 v shapeCasts_S16_S1x16) Finset.univ)
        -∗ Wp d i (k ⟨⟩) Q) -∗ Wp d i (put ob q g v >>= k) Q) := by
  simp only [put, bind_assoc, Prog.bind_lift, Prog.bind_op, Prog.bind_ret, Prog.pure_eq_ret, pure_bind]
  iintro Hb Hk
  iapply (wp_load 𝒱₀ (thr d i) none Set.univ (m := ob) (S := ob.view.set) (View.setOn_subset_set _ _)) $$ Hb; iintro Hb
  iapply (wp_store 𝒱₀ (thr d i) none Set.univ (m := ob) (r := Rect.unit (s := S128x64) q S1x16.size g) (S := ob.view.set) ((View.setOn_subset_set _ _).trans (View.set_slice_subset _ _))) $$ Hb; iintro Hb
  iapply Hk $$ Hb

/-- A row, run: its sums at its row, the other rows as they were. -/
theorem wp_row (buf : Win) (ib : IdxB) (wb : WtB) (ob : OutB) (ws : BitVec 32) (r : RowAt) (ρ : ℕ) (hr : Lies r ρ)
    (g : Buf (Elt F) (buf.view.loc (thr d i))) (fi : Buf (Elt F) (ib.view.loc (thr d i))) (fw : Buf (Elt F) (wb.view.loc (thr d i)))
    (fo : Buf (Elt F) (ob.view.loc (thr d i)))
    (hin : ∀ s < 33, ((ib.view.read (Elt F) fi (at2 ρ s) : BitVec 32) - ws).toNat < 704)
    {β : Type} (k : PUnit → TP F i β) (Q : β → sProp 𝕄) :
    iprop(own d i buf g ∗ own d i ib fi ∗ own d i wb fw ∗ own d i ob fo) ⊢
      iprop((∀ fo', ⌜∀ y : S128x64.Idx, ob.view.read (Elt F) fo' y
            = if (y 0).val = ρ then rowSum buf.view g ib.view fi wb.view fw ws ρ (y 1).val else ob.view.read (Elt F) fo y⌝
          -∗ own d i buf g -∗ own d i ib fi -∗ own d i wb fw -∗ own d i ob fo' -∗ Wp d i (k ⟨⟩) Q)
        -∗ Wp d i (row buf ib wb ob ws r >>= k) Q) := by
  simp only [row, bind_assoc, Prog.bind_lift, Prog.bind_op, Prog.bind_ret, Prog.pure_eq_ret, pure_bind]
  iintro ⟨Hb, Hi, Hw, Ho⟩ Hk
  iapply (wp_load 𝒱₀ (thr d i) none Set.univ (m := wb) (S := wb.view.set) (View.setOn_subset_set _ _)) $$ Hw; iintro Hw
  iapply (wp_load 𝒱₀ (thr d i) none Set.univ (m := wb) (S := wb.view.set) (View.setOn_subset_set _ _)) $$ Hw; iintro Hw
  iapply (wp_load 𝒱₀ (thr d i) none Set.univ (m := wb) (S := wb.view.set) (View.setOn_subset_set _ _)) $$ Hw; iintro Hw
  iapply (wp_load 𝒱₀ (thr d i) none Set.univ (m := ib) (S := ib.view.set) (View.setOn_subset_set _ _)) $$ Hi; iintro Hi
  iapply (wp_load 𝒱₀ (thr d i) none Set.univ (m := ib) (S := ib.view.set) (View.setOn_subset_set _ _)) $$ Hi; iintro Hi
  iapply (wp_load 𝒱₀ (thr d i) none Set.univ (m := ib) (S := ib.view.set) (View.setOn_subset_set _ _)) $$ Hi; iintro Hi
  iapply (wp_taps d i buf _ _ g _ _ lanes _ (fun _ => Scalar.ofBits .f32 0x00000000#32) ⟨fun _ => rfl, fun _ => rfl, fun _ => rfl, fun _ => rfl⟩
    (fun j _ => by rw [lane_read ib fi ws ρ 0 hr.o0]; exact hin _ (by omega))) $$ Hb
  iintro %a1 %ha1 Hb
  iapply (wp_taps d i buf _ _ g _ _ lanes _ _ ha1
    (fun j _ => by rw [lane_read ib fi ws ρ 16 hr.o1]; exact hin _ (by omega))) $$ Hb
  iintro %a2 %ha2 Hb
  iapply (wp_taps d i buf _ _ g _ _ [0] _ _ ha2
    (fun j hj => by rw [lane_read ib fi ws ρ 32 hr.o2]; exact hin _ (by simp at hj; subst hj; decide))) $$ Hb
  iintro %a3 %ha3 Hb
  iapply (wp_put d i ob) $$ Ho; iintro Ho
  iapply (wp_put d i ob) $$ Ho; iintro Ho
  iapply (wp_put d i ob) $$ Ho; iintro Ho
  iapply (wp_put d i ob) $$ Ho; iintro Ho
  iapply Hk $$ [] Hb Hi Hw Ho
  ipureintro
  have hT : Holds a3 fun c => rowSum buf.view g ib.view fi wb.view fw ws ρ c := by
    have e : (fun c => rowSum buf.view g ib.view fi wb.view fw ws ρ c) = _ :=
      funext fun c => (fold_dot _ rfl (fun s => wb.view.read (Elt F) fw (at2 ρ s))
        (fun s => buf.view.read (Elt F) g (at2 ((ib.view.read (Elt F) fi (at2 ρ s) : BitVec 32) - ws).toNat c))).symm
    rw [e]
    simp only [term_read buf g ib fi wb fw ws ρ 0 hr.o0, term_read buf g ib fi wb fw ws ρ 16 hr.o1, term_read buf g ib fi wb fw ws ρ 32 hr.o2] at ha3
    exact ha3
  intro y
  have hy : (y 1).val < 64 := (y 1).isLt
  rw [read_put ob ρ 48 hr.q3 r.g3 _ _ _ hT.2.2.2, read_put ob ρ 32 hr.q2 r.g2 _ _ _ hT.2.2.1, read_put ob ρ 16 hr.q1 r.g1 _ _ _ hT.2.1,
    read_put ob ρ 0 hr.q0 r.g0 _ _ _ (fun l => by rw [Nat.zero_add]; exact hT.1 l)]
  by_cases h0 : (y 0).val = ρ
  · simp only [h0, true_and, if_true]
    split_ifs <;> first | rfl | omega
  · simp only [h0, false_and, if_false]

theorem wp_trip (buf : Win) (ib : IdxB) (wb : WtB) (ob : OutB) (ws : BitVec 32) (t : Trip)
    (g : Buf (Elt F) (buf.view.loc (thr d i))) (fi : Buf (Elt F) (ib.view.loc (thr d i))) (fw : Buf (Elt F) (wb.view.loc (thr d i)))
    (fo : Buf (Elt F) (ob.view.loc (thr d i)))
    (hin : ∀ ρ < 128, ∀ s < 33, ((ib.view.read (Elt F) fi (at2 ρ s) : BitVec 32) - ws).toNat < 704) (Q : PUnit → sProp 𝕄) :
    iprop(own d i buf g ∗ own d i ib fi ∗ own d i wb fw ∗ own d i ob fo) ⊢
      iprop((∀ fo', ⌜∀ y : S128x64.Idx, ob.view.read (Elt F) fo' y
            = if (y 0).val = 2 * t.val ∨ (y 0).val = 2 * t.val + 1 then rowSum buf.view g ib.view fi wb.view fw ws (y 0).val (y 1).val else ob.view.read (Elt F) fo y⌝
          -∗ own d i buf g -∗ own d i ib fi -∗ own d i wb fw -∗ own d i ob fo' -∗ Q ⟨⟩)
        -∗ Wp d i (trip buf ib wb ob ws t) Q) := by
  have ht : t.val < 64 := lt_of_lt_of_eq t.isLt (by decide)
  rw [show trip (F := F) (i := i) buf ib wb ob ws t
      = row buf ib wb ob ws (row0 t) >>= fun _ => row buf ib wb ob ws (row1 t) >>= fun u => pure u by unfold trip; rw [bind_pure]]
  iintro H Hk
  iapply (wp_row d i buf ib wb ob ws _ _ (lies0 t) g fi fw fo (hin _ (by omega))) $$ H
  iintro %f1 %h1 Hb Hi Hw Ho
  iapply (wp_row d i buf ib wb ob ws _ _ (lies1 t) g fi fw f1 (hin _ (by omega))) $$ [Hb Hi Hw Ho]
  · isplitl [Hb]; · iexact Hb
    isplitl [Hi]; · iexact Hi
    isplitl [Hw]; · iexact Hw
    iexact Ho
  iintro %f2 %h2 Hb Hi Hw Ho
  iapply (Entails.of_eq (wp_ret frame (wpE defs₀ 𝒱₀ (thr d i) none) Set.univ PUnit.unit Q).symm)
  imodintro
  iapply Hk $$ [] Hb Hi Hw Ho
  ipureintro
  intro y
  rw [h2 y, h1 y]
  by_cases e1 : (y 0).val = 2 * t.val + 1
  · simp [e1]
  · by_cases e0 : (y 0).val = 2 * t.val
    · simp [e0]
    · simp [e0, e1]

/-- The row loop, run: every row's sums. -/
theorem wp_rows (buf : Win) (ib : IdxB) (wb : WtB) (ob : OutB) (ws : BitVec 32)
    (g : Buf (Elt F) (buf.view.loc (thr d i))) (fi : Buf (Elt F) (ib.view.loc (thr d i))) (fw : Buf (Elt F) (wb.view.loc (thr d i)))
    (fo : Buf (Elt F) (ob.view.loc (thr d i)))
    (hin : ∀ ρ < 128, ∀ s < 33, ((ib.view.read (Elt F) fi (at2 ρ s) : BitVec 32) - ws).toNat < 704)
    {β : Type} (k : PUnit → TP F i β) (Q : β → sProp 𝕄) :
    iprop(own d i buf g ∗ own d i ib fi ∗ own d i wb fw ∗ own d i ob fo) ⊢
      iprop((∀ fo', ⌜∀ y : S128x64.Idx, ob.view.read (Elt F) fo' y = rowSum buf.view g ib.view fi wb.view fw ws (y 0).val (y 1).val⌝
          -∗ own d i buf g -∗ own d i ib fi -∗ own d i wb fw -∗ own d i ob fo' -∗ Wp d i (k ⟨⟩) Q)
        -∗ Wp d i (rows buf ib wb ob ws >>= k) Q) := by
  iintro ⟨Hb, Hi, Hw, Ho⟩ Hk
  unfold rows
  iapply (Scf.wp_for_bind frame (wpE defs₀ 𝒱₀ (thr d i) none) Set.univ _ _ _ k0_t1_ok PUnit.unit (fun t _ => trip buf ib wb ob ws t)
    (fun n _ => iprop(∃ fo', ⌜∀ y : S128x64.Idx, (y 0).val < 2 * n → ob.view.read (Elt F) fo' y = rowSum buf.view g ib.view fi wb.view fw ws (y 0).val (y 1).val⌝
      ∗ own d i buf g ∗ own d i ib fi ∗ own d i wb fw ∗ own d i ob fo')) ?_) $$ [Hb Hi Hw Ho] [Hk]
  · intro t _
    iintro ⟨%f, %hf, H⟩
    iapply (wp_trip d i buf ib wb ob ws t g fi fw f hin) $$ H
    iintro %f' %hf' Hb Hi Hw Ho
    iexists f'
    isplitr
    · ipureintro
      intro y hy
      rw [hf' y]
      split
      · rfl
      · exact hf y (by omega)
    isplitl [Hb]; · iexact Hb
    isplitl [Hi]; · iexact Hi
    isplitl [Hw]; · iexact Hw
    iexact Ho
  · iexists fo
    isplitr
    · ipureintro
      intro y hy
      omega
    isplitl [Hb]; · iexact Hb
    isplitl [Hi]; · iexact Hi
    isplitl [Hw]; · iexact Hw
    iexact Ho
  · iintro %u ⟨%f, %hf, Hb, Hi, Hw, Ho⟩
    iapply Hk $$ [] Hb Hi Hw Ho
    ipureintro
    intro y
    refine hf y ?_
    have : (y 0).val < 128 := (y 0).isLt
    exact lt_of_lt_of_le this (by decide)

end Cert.Tile
-- ==== Proof.Blocks.lean ====
/- A tile's blocks: the copies in, the rows, the copy out, for any contents of the tables. -/
module

public import proofs.«01_k».proof.Proof.Rows

@[expose] public section

noncomputable section

namespace Cert.Tile

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (d : Dev nD) (i : grid0.Coords)

/-- The tile owes `O`; it has waited on what `W` says and on cells of no level. -/
def Owed (O : CellTallies nD τ sig (HIx 1)) (W : Waits sig (HIx 1)) : sProp 𝕄 :=
  iprop(∃ W', ⌜∀ p ∈ W', p ∈ W ∨ p.2 = none⌝ ∗ owes (thr d i) O W')

/-- The tile's semaphore at zero. -/
abbrev idle (s : DmaSems sig S_) : sProp 𝕄 := semVal (thr d i, SemLoc.dma s.sem) 0

/-- A copy under way from `src` into all of `dst`. -/
def Going {sp sp' : Space} {s : Shape} {e : EltTy} (src : Memref sig .scVector sp s e) (dst : Memref sig .scVector sp' s e) (sm : DmaSems sig S_)
    (q : PosShare TreeShare) (fs : Buf (Elt F) (src.view.loc (thr d i))) : sProp 𝕄 :=
  iprop(∃ fd : Buf (Elt F) (dst.view.loc (thr d i)), Flight countersEmb (thr d i) (.dma sm.sem) (none : HIx 1) (dst.view.amount (.dma sm.sem))
    iprop(own d i dst (dst.view.write (Elt F) fd (src.view.read (Elt F) fs) Finset.univ) ∗ (src.view.loc (thr d i) ↦[src.view.set]{q} fs)))

theorem wp_start {sp sp' : Space} {s : Shape} {e : EltTy} (src : Memref sig .scVector sp s e) (dst : Memref sig .scVector sp' s e) (sm : DmaSems sig S_)
    (hs : 0 < s.numel) (hsrc : src.view.WordExact) (hdst : dst.view.WordExact) (hsem : (DmaTarget.here dst : DmaTarget nD τ sig (.scVector ((i 0).castLE hcore0) ((i 1).castLE hsub0)) sp' s e).Typed sp (.dma sm.sem))
    (q : PosShare TreeShare) (fs : Buf (Elt F) (src.view.loc (thr d i))) (fd : Buf (Elt F) (dst.view.loc (thr d i)))
    {β : Type} (k : PUnit → TP F i β) (Q : β → sProp 𝕄) :
    iprop((src.view.loc (thr d i) ↦[src.view.set]{q} fs) ∗ own d i dst fd ∗ idle d i sm) ⊢
      iprop((Going d i src dst sm q fs -∗ Wp d i (k ⟨⟩) Q)
        -∗ Wp d i (Prog.lift (.enqueueDma src (.here dst) (.dma sm.sem) hsrc hdst hsem) >>= k) Q) := by
  iintro H Hk
  iapply (Transfers.wp_dmaLocal countersEmb 𝒱₀ (thr d i) none (none : HIx 1) (dst.view.amount (.dma sm.sem)) rfl (dst.view.amount_pos _ hs) (Finset.Subset.refl _)) $$ H
  iintro H
  iapply Hk
  unfold Going
  iexists fd
  iexact H

theorem wp_wait {sp sp' : Space} {s : Shape} {e : EltTy} (src : Memref sig .scVector sp s e) (dst : Memref sig .scVector sp' s e) (sm : DmaSems sig S_)
    (hsrc : src.view.WordExact) (hdst : dst.view.WordExact)
    (q : PosShare TreeShare) (fs : Buf (Elt F) (src.view.loc (thr d i))) (O : CellTallies nD τ sig (HIx 1)) (W : Waits sig (HIx 1))
    {β : Type} (k : PUnit → TP F i β) (Q : β → sProp 𝕄) :
    iprop(Going d i src dst sm q fs ∗ Owed d i O W ∗ MayWaits (thr d i) none O) ⊢
      iprop((∀ fd, ⌜dst.view.read (Elt F) fd = src.view.read (Elt F) fs⌝ -∗ own d i dst fd -∗ (src.view.loc (thr d i) ↦[src.view.set]{q} fs)
            -∗ idle d i sm -∗ Owed d i O W -∗ Wp d i (k ⟨⟩) Q)
        -∗ Wp d i (Prog.lift (.waitDma2 sm.sem src dst hsrc hdst) >>= k) Q) := by
  unfold Going Owed
  iintro ⟨⟨%fd, HF⟩, ⟨%W', %hW, HO⟩, Hmw⟩ Hk
  iapply (Transfers.wp_waitLocalO countersEmb 𝒱₀ (thr d i) none (none : HIx 1) (N := dst.view.amount (.dma sm.sem)) rfl) $$ [HF HO Hmw]
  · isplitl [HF]; · iexact HF
    isplitl [HO]; · iexact HO
    iapply (Transfers.MayWaits.elim (SemLoc.dma sm.sem)) $$ Hmw
  iintro ⟨⟨Hd, Hs⟩, Hv, HO⟩
  iapply Hk $$ [] Hd Hs Hv [HO]
  · ipureintro; exact View.read_write_univ _ _
  iexists (insert (SemLoc.dma sm.sem, (none : HIx 1)) W')
  isplitr
  · ipureintro
    intro p hp
    rcases Finset.mem_insert.mp hp with rfl | hp
    · exact .inr rfl
    · exact hW p hp
  iexact HO

/-- A copy from part of what `A` names into all of `dst`, to its end. -/
theorem wp_copy {sp sp' : Space} {s : Shape} {e : EltTy} (src : Memref sig .scVector sp s e) (dst : Memref sig .scVector sp' s e) (sm : DmaSems sig S_)
    (hs : 0 < s.numel) (hsrc hsrc' : src.view.WordExact) (hdst hdst' : dst.view.WordExact) (hsem : (DmaTarget.here dst : DmaTarget nD τ sig (.scVector ((i 0).castLE hcore0) ((i 1).castLE hsub0)) sp' s e).Typed sp (.dma sm.sem))
    (A : Finset (Idx (src.view.loc (thr d i)))) (hA : src.view.set ⊆ A)
    (q : PosShare TreeShare) (fs : Buf (Elt F) (src.view.loc (thr d i))) (fd : Buf (Elt F) (dst.view.loc (thr d i)))
    (O : CellTallies nD τ sig (HIx 1)) (W : Waits sig (HIx 1))
    {β : Type} (k : PUnit → TP F i β) (Q : β → sProp 𝕄) :
    iprop((src.view.loc (thr d i) ↦[A]{q} fs) ∗ own d i dst fd ∗ idle d i sm ∗ Owed d i O W ∗ MayWaits (thr d i) none O) ⊢
      iprop((∀ fd, ⌜dst.view.read (Elt F) fd = src.view.read (Elt F) fs⌝ -∗ own d i dst fd -∗ (src.view.loc (thr d i) ↦[A]{q} fs)
            -∗ idle d i sm -∗ Owed d i O W -∗ Wp d i (k ⟨⟩) Q)
        -∗ Wp d i ((Prog.lift (.enqueueDma src (.here dst) (.dma sm.sem) hsrc hdst hsem) >>= fun _ => Prog.lift (.waitDma2 sm.sem src dst hsrc' hdst')) >>= k) Q) := by
  rw [bind_assoc]
  iintro ⟨HA, Hd, Hv, HO, Hmw⟩ Hk
  ihave H := (pointsTo_split_subset hA).1 $$ HA
  icases H with ⟨Hs, Hr⟩
  iapply (wp_start d i src dst sm hs hsrc hdst hsem q fs fd) $$ [Hs Hd Hv]
  · isplitl [Hs]; · iexact Hs
    isplitl [Hd]; · iexact Hd
    iexact Hv
  iintro HF
  iapply (wp_wait d i src dst sm hsrc' hdst' q fs O W) $$ [HF HO Hmw]
  · isplitl [HF]; · iexact HF
    isplitl [HO]; · iexact HO
    iexact Hmw
  iintro %fd' %h Hd Hs Hv HO
  ihave HA := (pointsTo_split_subset (q := q) (f := fs) hA).2 $$ [Hs Hr]
  · isplitl [Hs]; · iexact Hs
    iexact Hr
  iapply Hk $$ [] Hd HA Hv HO
  ipureintro; exact h

/-! ## The blocks -/

variable (B : Bufs) (qx qi qw : PosShare TreeShare)
  (fx : Buf (Elt F) (B.x.view.loc (thr d i))) (fi : Buf (Elt F) (B.idx.view.loc (thr d i))) (fw : Buf (Elt F) (B.wt.view.loc (thr d i)))

theorem win_sub (n : Fin 8) : (winSrc i B.x n).view.set ⊆ B.x.view.set := View.set_slice_subset _ _
theorem idx_sub (n : Fin 8) : (idxSrc i B.idx n).view.set ⊆ B.idx.view.set := View.set_slice_subset _ _
theorem wt_sub (n : Fin 8) : (wtSrc i B.wt n).view.set ⊆ B.wt.view.set := View.set_slice_subset _ _

/-- What block `n`'s copies read: the window, the indices, the weights. -/
abbrev winOf (n : Fin 8) : S704x64.Idx → F .f32 := (winSrc i B.x n).view.read (Elt F) fx
abbrev idxOf (n : Fin 8) : S128x48.Idx → BitVec 32 := (idxSrc i B.idx n).view.read (Elt F) fi
abbrev wtOf (n : Fin 8) : S128x48.Idx → F .f32 := (wtSrc i B.wt n).view.read (Elt F) fw

/-- Every index of every block lies in the block's window. -/
def InWindow : Prop := ∀ n : Fin 8, ∀ ρ < 128, ∀ s < 33, (idxOf d i B fi n (at2 ρ s) - winWord i n).toNat < 704

/-- A window's buffer, free. -/
def Free (w : Side) : sProp 𝕄 := iprop((∃ f, own d i w.buf f) ∗ idle d i w.sem)

/-- Block `n`'s window on its way, and the rest of the sequence. -/
def Pend (n : Fin 8) (w : Side) : sProp 𝕄 :=
  iprop(Going d i (winSrc i B.x n) w.buf w.sem qx fx ∗ (B.x.view.loc (thr d i) ↦[B.x.view.set \ (winSrc i B.x n).view.set]{qx} fx))

/-- The tables of indices and weights, and the three buffers of a block. -/
def Tools : sProp 𝕄 :=
  iprop((B.idx.view.loc (thr d i) ↦[B.idx.view.set]{qi} fi) ∗ (B.wt.view.loc (thr d i) ↦[B.wt.view.set]{qw} fw)
    ∗ (∃ f, own d i B.ib f) ∗ (∃ f, own d i B.wb f) ∗ (∃ f, own d i B.ob f))

def Sems (n : Fin 8) : sProp 𝕄 := iprop(idle d i (B.sI n) ∗ idle d i (B.sW n) ∗ idle d i (B.sO n))

/-- Block `n` before and after. -/
def Todo (n : Fin 8) : sProp 𝕄 := iprop(Sems d i B n ∗ ∃ f, own d i (outDst i B.out n) f)
def Done (n : Fin 8) : sProp 𝕄 :=
  iprop(Sems d i B n ∗ ∃ f, ⌜∀ y : S128x64.Idx, (outDst i B.out n).view.read (Elt F) f y
      = rowOf (winOf d i B fx n) (idxOf d i B fi n) (wtOf d i B fw n) (winWord i n) (y 0).val (y 1).val⌝
    ∗ own d i (outDst i B.out n) f)

variable (O : CellTallies nD τ sig (HIx 1)) (W : Waits sig (HIx 1))

/-- Starting a window. -/
theorem wp_startWin (n : Fin 8) (w : Side) {β : Type} (k : PUnit → TP F i β) (Q : β → sProp 𝕄) :
    iprop((B.x.view.loc (thr d i) ↦[B.x.view.set]{qx} fx) ∗ Free d i w) ⊢
      iprop((Pend d i B qx fx n w -∗ Wp d i (k ⟨⟩) Q) -∗ Wp d i (startWin i B.x n w.buf w.whole w.sem >>= k) Q) := by
  unfold Free Pend startWin
  iintro ⟨Hx, ⟨%f, Hb⟩, Hv⟩ Hk
  ihave H := (pointsTo_split_subset (win_sub i B n)).1 $$ Hx
  icases H with ⟨Hs, Hr⟩
  iapply (wp_start d i (winSrc i B.x n) w.buf w.sem (by decide) _ _ _ qx fx f) $$ [Hs Hb Hv]
  · isplitl [Hs]; · iexact Hs
    isplitl [Hb]; · iexact Hb
    iexact Hv
  iintro HF
  iapply Hk
  isplitl [HF]; · iexact HF
  iexact Hr

/-- A block up to its window's arrival. -/
theorem wp_openBlk (n : Fin 8) (w : Side) {β : Type} (k : PUnit → TP F i β) (Q : β → sProp 𝕄) :
    iprop(Pend d i B qx fx n w ∗ Tools d i B qi qw fi fw ∗ Todo d i B n ∗ Owed d i O W ∗ MayWaits (thr d i) none O) ⊢
      iprop((∀ g a b c f, ⌜w.buf.view.read (Elt F) g = winOf d i B fx n⌝ -∗ ⌜B.ib.view.read (Elt F) a = idxOf d i B fi n⌝
            -∗ ⌜B.wb.view.read (Elt F) b = wtOf d i B fw n⌝
            -∗ (B.x.view.loc (thr d i) ↦[B.x.view.set]{qx} fx) -∗ own d i w.buf g -∗ idle d i w.sem
            -∗ (B.idx.view.loc (thr d i) ↦[B.idx.view.set]{qi} fi) -∗ (B.wt.view.loc (thr d i) ↦[B.wt.view.set]{qw} fw)
            -∗ own d i B.ib a -∗ own d i B.wb b -∗ own d i B.ob c -∗ Sems d i B n -∗ own d i (outDst i B.out n) f -∗ Owed d i O W -∗ Wp d i (k ⟨⟩) Q)
        -∗ Wp d i (openBlk i B n w >>= k) Q) := by
  unfold Pend Tools Todo Sems openBlk fetchIdx fetchWt waitWin
  simp only [bind_assoc]
  iintro ⟨⟨HF, Hr⟩, ⟨Hti, Htw, ⟨%a, Ha⟩, ⟨%b, Hb⟩, ⟨%c, Hc⟩⟩, ⟨⟨HsI, HsW, HsO⟩, ⟨%f, Hf⟩⟩, HO, #Hmw⟩ Hk
  iapply (wp_copy d i (idxSrc i B.idx n) B.ib (B.sI n) (by decide) _ _ _ _ _ _ (idx_sub i B n) qi fi a O W) $$ [Hti Ha HsI HO]
  · isplitl [Hti]; · iexact Hti
    isplitl [Ha]; · iexact Ha
    isplitl [HsI]; · iexact HsI
    isplitl [HO]; · iexact HO
    iexact Hmw
  iintro %a' %ha Ha Hti HsI HO
  iapply (wp_copy d i (wtSrc i B.wt n) B.wb (B.sW n) (by decide) _ _ _ _ _ _ (wt_sub i B n) qw fw b O W) $$ [Htw Hb HsW HO]
  · isplitl [Htw]; · iexact Htw
    isplitl [Hb]; · iexact Hb
    isplitl [HsW]; · iexact HsW
    isplitl [HO]; · iexact HO
    iexact Hmw
  iintro %b' %hb Hb Htw HsW HO
  iapply (wp_wait d i (winSrc i B.x n) w.buf w.sem _ _ qx fx O W) $$ [HF HO]
  · isplitl [HF]; · iexact HF
    isplitl [HO]; · iexact HO
    iexact Hmw
  iintro %g %hg Hg Hs Hv HO
  ihave Hx := (pointsTo_split_subset (ℓ := B.x.view.loc (thr d i)) (q := qx) (f := fx) (win_sub i B n)).2 $$ [Hs Hr]
  · isplitl [Hs]; · iexact Hs
    iexact Hr
  iapply Hk $$ %g %a' %b' %c %f [] [] [] Hx Hg Hv [Hti] [Htw] Ha Hb Hc [HsI HsW HsO] Hf HO
  · ipureintro; exact hg
  · ipureintro; exact ha
  · ipureintro; exact hb
  · iexact Hti
  · iexact Htw
  isplitl [HsI]; · iexact HsI
  isplitl [HsW]; · iexact HsW
  iexact HsO

/-- A block's rows, and their copy out. -/
theorem wp_sumBlk (n : Fin 8) (w : Side) (hin : InWindow d i B fi)
    (g : Buf (Elt F) (w.buf.view.loc (thr d i))) (a : Buf (Elt F) (B.ib.view.loc (thr d i))) (b : Buf (Elt F) (B.wb.view.loc (thr d i)))
    (c : Buf (Elt F) (B.ob.view.loc (thr d i))) (f : Buf (Elt F) ((outDst i B.out n).view.loc (thr d i)))
    (hg : w.buf.view.read (Elt F) g = winOf d i B fx n) (ha : B.ib.view.read (Elt F) a = idxOf d i B fi n) (hb : B.wb.view.read (Elt F) b = wtOf d i B fw n)
    {β : Type} (k : PUnit → TP F i β) (Q : β → sProp 𝕄) :
    iprop(own d i w.buf g ∗ idle d i w.sem ∗ (B.idx.view.loc (thr d i) ↦[B.idx.view.set]{qi} fi) ∗ (B.wt.view.loc (thr d i) ↦[B.wt.view.set]{qw} fw)
        ∗ own d i B.ib a ∗ own d i B.wb b ∗ own d i B.ob c ∗ Sems d i B n ∗ own d i (outDst i B.out n) f ∗ Owed d i O W ∗ MayWaits (thr d i) none O) ⊢
      iprop((Free d i w -∗ Tools d i B qi qw fi fw -∗ Done d i B fx fi fw n -∗ Owed d i O W -∗ Wp d i (k ⟨⟩) Q)
        -∗ Wp d i (sumBlk i B n w >>= k) Q) := by
  unfold Free Tools Done Sems sumBlk putOut
  rw [bind_assoc]
  iintro ⟨Hg, Hv, Hti, Htw, Ha, Hb, Hc, ⟨HsI, HsW, HsO⟩, Hf, HO, Hmw⟩ Hk
  iapply (wp_rows d i w.buf B.ib B.wb B.ob (winWord i n) g a b c (by rw [ha]; exact hin n)) $$ [Hg Ha Hb Hc]
  · isplitl [Hg]; · iexact Hg
    isplitl [Ha]; · iexact Ha
    isplitl [Hb]; · iexact Hb
    iexact Hc
  iintro %c' %hc Hg Ha Hb Hc
  iapply (wp_copy d i B.ob (outDst i B.out n) (B.sO n) (by decide) _ _ _ _ _ _ (Finset.Subset.refl _) fullShare c' f O W) $$ [Hc Hf HsO HO Hmw]
  · isplitl [Hc]; · iexact Hc
    isplitl [Hf]; · iexact Hf
    isplitl [HsO]; · iexact HsO
    isplitl [HO]; · iexact HO
    iexact Hmw
  iintro %f' %hf Hf Hc HsO HO
  iapply Hk $$ [Hg Hv] [Hti Htw Ha Hb Hc] [HsI HsW HsO Hf] HO
  · isplitl [Hg]; · iexists g; iexact Hg
    iexact Hv
  · isplitl [Hti]; · iexact Hti
    isplitl [Htw]; · iexact Htw
    isplitl [Ha]; · iexists a; iexact Ha
    isplitl [Hb]; · iexists b; iexact Hb
    iexists c'; iexact Hc
  · isplitl [HsI HsW HsO]
    · isplitl [HsI]; · iexact HsI
      isplitl [HsW]; · iexact HsW
      iexact HsO
    iexists f'
    isplitr
    · ipureintro
      intro y
      rw [hf, hc y]
      unfold rowSum
      rw [hg, ha, hb]
    iexact Hf

/-- A block, with the next one's window started. -/
theorem wp_stepBlk (n n' : Fin 8) (w w' : Side) (hin : InWindow d i B fi) {β : Type} (k : PUnit → TP F i β) (Q : β → sProp 𝕄) :
    iprop(Pend d i B qx fx n w ∗ Free d i w' ∗ Tools d i B qi qw fi fw ∗ Todo d i B n ∗ Owed d i O W ∗ MayWaits (thr d i) none O) ⊢
      iprop((Pend d i B qx fx n' w' -∗ Free d i w -∗ Tools d i B qi qw fi fw -∗ Done d i B fx fi fw n -∗ Owed d i O W -∗ Wp d i (k ⟨⟩) Q)
        -∗ Wp d i (stepBlk i B n n' w w' >>= k) Q) := by
  unfold stepBlk
  simp only [bind_assoc]
  iintro ⟨HP, HF, HT, HD, HO, #Hmw⟩ Hk
  iapply (wp_openBlk d i B qx qi qw fx fi fw O W n w) $$ [HP HT HD HO]
  · isplitl [HP]; · iexact HP
    isplitl [HT]; · iexact HT
    isplitl [HD]; · iexact HD
    isplitl [HO]; · iexact HO
    iexact Hmw
  iintro %g %a %b %c %f %hg %ha %hb Hx Hg Hv Hti Htw Ha Hb Hc HS Hf HO
  iapply (wp_startWin d i B qx fx n' w') $$ [Hx HF]
  · isplitl [Hx]; · iexact Hx
    iexact HF
  iintro HP
  iapply (wp_sumBlk d i B qi qw fx fi fw O W n w hin g a b c f hg ha hb) $$ [Hg Hv Hti Htw Ha Hb Hc HS Hf HO]
  · isplitl [Hg]; · iexact Hg
    isplitl [Hv]; · iexact Hv
    isplitl [Hti]; · iexact Hti
    isplitl [Htw]; · iexact Htw
    isplitl [Ha]; · iexact Ha
    isplitl [Hb]; · iexact Hb
    isplitl [Hc]; · iexact Hc
    isplitl [HS]; · iexact HS
    isplitl [Hf]; · iexact Hf
    isplitl [HO]; · iexact HO
    iexact Hmw
  iintro HF HT HD HO
  iapply Hk $$ HP HF HT HD HO

/-- The tile's program: every block done. -/
theorem wp_body (hin : InWindow d i B fi) :
    iprop((B.x.view.loc (thr d i) ↦[B.x.view.set]{qx} fx) ∗ Tools d i B qi qw fi fw ∗ Free d i B.w0 ∗ Free d i B.w1
        ∗ (bigSep Finset.univ fun n : Fin 8 => Todo d i B n) ∗ Owed d i O W ∗ MayWaits (thr d i) none O) ⊢
      Wp d i (body i B) fun _ => iprop((B.x.view.loc (thr d i) ↦[B.x.view.set]{qx} fx) ∗ Tools d i B qi qw fi fw ∗ Free d i B.w0 ∗ Free d i B.w1
        ∗ (bigSep Finset.univ fun n : Fin 8 => Done d i B fx fi fw n) ∗ Owed d i O W) := by
  have all (Φ : Fin 8 → sProp 𝕄) : bigSep Finset.univ Φ = iprop(Φ 0 ∗ Φ 1 ∗ Φ 2 ∗ Φ 3 ∗ Φ 4 ∗ Φ 5 ∗ Φ 6 ∗ Φ 7) := by
    rw [show (Finset.univ : Finset (Fin 8)) = {0, 1, 2, 3, 4, 5, 6, 7} from by decide, bigSep_insert (by decide), bigSep_insert (by decide), bigSep_insert (by decide),
      bigSep_insert (by decide), bigSep_insert (by decide), bigSep_insert (by decide), bigSep_insert (by decide), bigSep_singleton]
    rfl
  simp only [all]
  have step (n n' : Fin 8) (w w' : Side) {β : Type} (k : PUnit → TP F i β) (Q : β → sProp 𝕄) :
      ⊢ iprop(Pend d i B qx fx n w -∗ Free d i w' -∗ Tools d i B qi qw fi fw -∗ Todo d i B n -∗ Owed d i O W -∗ MayWaits (thr d i) none O
        -∗ (Pend d i B qx fx n' w' -∗ Free d i w -∗ Tools d i B qi qw fi fw -∗ Done d i B fx fi fw n -∗ Owed d i O W -∗ Wp d i (k ⟨⟩) Q)
        -∗ Wp d i (stepBlk i B n n' w w' >>= k) Q) := by
    iintro HP HF HT HD HO Hmw Hk
    iapply (wp_stepBlk d i B qx qi qw fx fi fw O W n n' w w' hin) $$ [HP HF HT HD HO Hmw]
    · isplitl [HP]; · iexact HP
      isplitl [HF]; · iexact HF
      isplitl [HT]; · iexact HT
      isplitl [HD]; · iexact HD
      isplitl [HO]; · iexact HO
      iexact Hmw
    iexact Hk
  unfold body
  rw [← bind_pure (sumBlk i B 7 B.w1)]
  iintro ⟨Hx, HT, H0, H1, ⟨T0, T1, T2, T3, T4, T5, T6, T7⟩, HO, #Hmw⟩
  iapply (wp_startWin d i B qx fx 0 B.w0) $$ [Hx H0]
  · isplitl [Hx]; · iexact Hx
    iexact H0
  iintro HP
  iapply (step 0 1 B.w0 B.w1) $$ HP H1 HT T0 HO Hmw; iintro HP H0 HT T0 HO
  iapply (step 1 2 B.w1 B.w0) $$ HP H0 HT T1 HO Hmw; iintro HP H1 HT T1 HO
  iapply (step 2 3 B.w0 B.w1) $$ HP H1 HT T2 HO Hmw; iintro HP H0 HT T2 HO
  iapply (step 3 4 B.w1 B.w0) $$ HP H0 HT T3 HO Hmw; iintro HP H1 HT T3 HO
  iapply (step 4 5 B.w0 B.w1) $$ HP H1 HT T4 HO Hmw; iintro HP H0 HT T4 HO
  iapply (step 5 6 B.w1 B.w0) $$ HP H0 HT T5 HO Hmw; iintro HP H1 HT T5 HO
  iapply (step 6 7 B.w0 B.w1) $$ HP H1 HT T6 HO Hmw; iintro HP H0 HT T6 HO
  iapply (wp_openBlk d i B qx qi qw fx fi fw O W 7 B.w1) $$ [HP HT T7 HO]
  · isplitl [HP]; · iexact HP
    isplitl [HT]; · iexact HT
    isplitl [T7]; · iexact T7
    isplitl [HO]; · iexact HO
    iexact Hmw
  iintro %g %a %b %c %f %hg %ha %hb Hx Hg Hv Hti Htw Ha Hb Hc HS Hf HO
  iapply (wp_sumBlk d i B qi qw fx fi fw O W 7 B.w1 hin g a b c f hg ha hb) $$ [Hg Hv Hti Htw Ha Hb Hc HS Hf HO]
  · isplitl [Hg]; · iexact Hg
    isplitl [Hv]; · iexact Hv
    isplitl [Hti]; · iexact Hti
    isplitl [Htw]; · iexact Htw
    isplitl [Ha]; · iexact Ha
    isplitl [Hb]; · iexact Hb
    isplitl [Hc]; · iexact Hc
    isplitl [HS]; · iexact HS
    isplitl [Hf]; · iexact Hf
    isplitl [HO]; · iexact HO
    iexact Hmw
  iintro H1 HT T7 HO
  iapply (Entails.of_eq (wp_ret frame (wpE defs₀ 𝒱₀ (thr d i) none) Set.univ PUnit.unit _).symm)
  imodintro
  isplitl [Hx]; · iexact Hx
  isplitl [HT]; · iexact HT
  isplitl [H0]; · iexact H0
  isplitl [H1]; · iexact H1
  isplitl [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  iexact HO

end Cert.Tile
-- ==== Proof.Where.lean ====
/- Where the blocks of a tile lie, and what their sums are of the whole arrays. -/
module

public import proofs.«01_k».proof.Proof.Blocks

@[expose] public section

noncomputable section

namespace Cert.Tile

open Cert.KernelIdeal Cert.KernelIdeal.Gen
open Idealize.ShloMosaic
open Idealize.SL

variable {F : FTy → Type} [FloatOps F]

/-- The tile's number, its head, its block's first row, and the first row of the block's window. -/
def head (i : grid0.Coords) : ℕ := (2 * (i 1).val + (i 0).val) % 16
def rowAt (i : grid0.Coords) (n : Fin 8) : ℕ := 1024 * ((2 * (i 1).val + (i 0).val) / 16) + 128 * n.val
def winAt (i : grid0.Coords) (n : Fin 8) : ℕ := min 1344 (rowAt i n - 288)

theorem head_lt (i : grid0.Coords) : head i < 16 := Nat.mod_lt _ (by decide)
theorem rowAt_le (i : grid0.Coords) (n : Fin 8) : rowAt i n ≤ 1920 := by
  have h0 : (i 0).val < 2 := (i 0).isLt
  have h1 : (i 1).val < 16 := (i 1).isLt
  unfold rowAt
  omega

theorem off1_eq (i : grid0.Coords) (n : Fin 8) : k0_off1 i (BitVec.ofNat 32 n.val) = ![winAt i n, 64 * head i] := by
  revert i n; decide +kernel
theorem off2_eq (i : grid0.Coords) (n : Fin 8) : k0_off2 i (BitVec.ofNat 32 n.val) = ![rowAt i n, 0] := by
  revert i n; decide +kernel
theorem off3_eq (i : grid0.Coords) (n : Fin 8) : k0_off3 i (BitVec.ofNat 32 n.val) = ![rowAt i n, 48 * head i] := by
  revert i n; decide +kernel
theorem off282_eq (i : grid0.Coords) (n : Fin 8) : k0_off282 i (BitVec.ofNat 32 n.val) = ![rowAt i n, 64 * head i] := by
  revert i n; decide +kernel
theorem winWord_eq (i : grid0.Coords) (n : Fin 8) : (winWord i n).toNat = winAt i n := by
  revert i n; decide +kernel

/-- What a slice from `(r, c)` on reads. -/
theorem read_slice {A B A' B' : ℕ} [NeZero A] [NeZero B] [NeZero A'] [NeZero B'] {κ : Kind} {sp : Space} {e : EltTy} (v : View sig κ sp ⟨2, ![A, B]⟩ e)
    (off : Fin 2 → ℕ) (r c : ℕ) (hoff : off = ![r, c]) (inb : ∀ a, off a + (⟨2, ![A', B']⟩ : Shape).size a ≤ (⟨2, ![A, B]⟩ : Shape).size a)
    (g : v.ty.Contents (Elt F)) (x : (⟨2, ![A', B']⟩ : Shape).Idx) :
    (v.slice (Rect.unit (s := ⟨2, ![A, B]⟩) off (⟨2, ![A', B']⟩ : Shape).size inb)).read (Elt F) g x = v.read (Elt F) g (at2 (r + (x 0).val) (c + (x 1).val)) := by
  subst hoff
  show v.read (Elt F) g _ = _
  congr 1
  refine at2_eq _ _ _ ?_ ?_
  · show r + 1 * (x 0).val = _
    omega
  · show c + 1 * (x 1).val = _
    omega

theorem at2_row {A B : ℕ} [NeZero A] [NeZero B] {r : ℕ} (c : ℕ) (h : r < A) : ((at2 r c : (⟨2, ![A, B]⟩ : Shape).Idx) 0).val = r := Nat.mod_eq_of_lt h
theorem at2_col {A B : ℕ} [NeZero A] [NeZero B] (r : ℕ) {c : ℕ} (h : c < B) : ((at2 r c : (⟨2, ![A, B]⟩ : Shape).Idx) 1).val = c := Nat.mod_eq_of_lt h

theorem dot_congr {w w' x x' : ℕ → F .f32} (n : ℕ) (h : ∀ s < n, w s = w' s ∧ x s = x' s) : dot w x n = dot w' x' n := by
  induction n with
  | zero => rfl
  | succ n ih =>
    show FloatOps.addf _ _ = FloatOps.addf _ _
    rw [ih fun s hs => h s (by omega), (h n (by omega)).1, (h n (by omega)).2]

/-- The weighted sum at row `r`, column `c`: 33 samples of the column, at the rows the indices name. -/
def sumAt (X : S2048x1024.Idx → F .f32) (I : S2048x48.Idx → BitVec 32) (Wt : S2048x768.Idx → F .f32) (r c : ℕ) : F .f32 :=
  dot (fun s => Wt (at2 r (48 * (c / 64) + s))) (fun s => X (at2 (I (at2 r s)).toNat c)) 33

/-- Each of the first 33 indices of a row, the ones sampled, is a row of the sequence no more than 272 from its own. -/
def Near (I : S2048x48.Idx → BitVec 32) : Prop :=
  ∀ r < 2048, ∀ s < 33, (I (at2 r s)).toNat < 2048 ∧ (I (at2 r s)).toNat ≤ r + 272 ∧ r ≤ (I (at2 r s)).toNat + 272

/-- An index near its row lies in the row's block's window. -/
theorem in_window {I : S2048x48.Idx → BitVec 32} (h : Near I) (i : grid0.Coords) (n : Fin 8) (ρ : ℕ) (hρ : ρ < 128) (s : ℕ) (hs : s < 33) :
    (I (at2 (rowAt i n + ρ) s) - winWord i n).toNat = (I (at2 (rowAt i n + ρ) s)).toNat - winAt i n
      ∧ winAt i n ≤ (I (at2 (rowAt i n + ρ) s)).toNat ∧ (I (at2 (rowAt i n + ρ) s)).toNat < winAt i n + 704 := by
  have hr := rowAt_le i n
  obtain ⟨h1, h2, h3⟩ := h (rowAt i n + ρ) (by omega) s hs
  have hw := winWord_eq i n
  have ha : winAt i n = min 1344 (rowAt i n - 288) := rfl
  have hle : winAt i n ≤ (I (at2 (rowAt i n + ρ) s)).toNat := by omega
  refine ⟨?_, hle, by omega⟩
  rw [BitVec.toNat_sub, hw]
  omega

variable (d : Dev nD) (i : grid0.Coords) (B : Bufs)
  (fx : Buf (Elt F) (B.x.view.loc (thr d i))) (fi : Buf (Elt F) (B.idx.view.loc (thr d i))) (fw : Buf (Elt F) (B.wt.view.loc (thr d i)))

theorem winOf_at (n : Fin 8) (r c : ℕ) (hr : r < 704) (hc : c < 64) :
    winOf d i B fx n (at2 r c) = B.x.view.read (Elt F) fx (at2 (winAt i n + r) (64 * head i + c)) := by
  refine (read_slice (A' := 704) (B' := 64) B.x.view _ _ _ (off1_eq i n) _ fx (at2 r c)).trans ?_
  rw [at2_row c hr, at2_col r hc]
theorem idxOf_at (n : Fin 8) (r c : ℕ) (hr : r < 128) (hc : c < 48) :
    idxOf d i B fi n (at2 r c) = B.idx.view.read (Elt F) fi (at2 (rowAt i n + r) c) := by
  refine (read_slice (A' := 128) (B' := 48) B.idx.view _ _ _ (off2_eq i n) _ fi (at2 r c)).trans ?_
  rw [at2_row c hr, at2_col r hc, Nat.zero_add]
theorem wtOf_at (n : Fin 8) (r c : ℕ) (hr : r < 128) (hc : c < 48) :
    wtOf d i B fw n (at2 r c) = B.wt.view.read (Elt F) fw (at2 (rowAt i n + r) (48 * head i + c)) := by
  refine (read_slice (A' := 128) (B' := 48) B.wt.view _ _ _ (off3_eq i n) _ fw (at2 r c)).trans ?_
  rw [at2_row c hr, at2_col r hc]

theorem inWindow_of_near (h : Near (B.idx.view.read (Elt F) fi)) : InWindow d i B fi := by
  intro n ρ hρ s hs
  rw [idxOf_at d i B fi n ρ s hρ (by omega)]
  obtain ⟨h1, h2, h3⟩ := in_window h i n ρ hρ s (by omega)
  rw [h1]
  omega

/-- A block's sums are the whole arrays' at the block's rows and columns. -/
theorem rowOf_eq (h : Near (B.idx.view.read (Elt F) fi)) (n : Fin 8) (ρ c : ℕ) (hρ : ρ < 128) (hc : c < 64) :
    rowOf (winOf d i B fx n) (idxOf d i B fi n) (wtOf d i B fw n) (winWord i n) ρ c
      = sumAt (B.x.view.read (Elt F) fx) (B.idx.view.read (Elt F) fi) (B.wt.view.read (Elt F) fw) (rowAt i n + ρ) (64 * head i + c) := by
  refine dot_congr 33 fun s hs => ⟨?_, ?_⟩
  · rw [wtOf_at d i B fw n ρ s hρ (by omega)]
    congr 3
    omega
  · obtain ⟨h1, h2, h3⟩ := in_window h i n ρ hρ s (by omega)
    rw [idxOf_at d i B fi n ρ s hρ (by omega), h1, winOf_at d i B fx n _ c (by omega) hc]
    congr 2
    omega

end Cert.Tile
-- ==== Proof.Task.lean ====
/- A tile's task: its buffers and semaphores, from what the launch hands it to what it hands back. -/
module

public import proofs.«01_k».proof.Proof.Where

@[expose] public section

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- The arrays, buffers and semaphores of a tile. -/
def tileBufs : Bufs where
  x := Memref.whole main_arg0_scv
  hx := Memref.isWhole_whole _
  idx := Memref.whole main_arg1_scv
  hidx := Memref.isWhole_whole _
  wt := Memref.whole main_arg2_scv
  hwt := Memref.isWhole_whole _
  out := Memref.whole main_v0_scv
  hout := Memref.isWhole_whole _
  w0 := ⟨Memref.whole cc0_scratch0, Memref.isWhole_whole _, cc0_scratch5⟩
  w1 := ⟨Memref.whole cc0_scratch1, Memref.isWhole_whole _, cc0_scratch6⟩
  ib := Memref.whole cc0_scratch2
  hib := Memref.isWhole_whole _
  wb := Memref.whole cc0_scratch3
  hwb := Memref.isWhole_whole _
  ob := Memref.whole cc0_scratch4
  hob := Memref.isWhole_whole _
  sI := ![cc0_scoped0, cc0_scoped3, cc0_scoped6, cc0_scoped9, cc0_scoped12, cc0_scoped15, cc0_scoped18, cc0_scoped21]
  sW := ![cc0_scoped1, cc0_scoped4, cc0_scoped7, cc0_scoped10, cc0_scoped13, cc0_scoped16, cc0_scoped19, cc0_scoped22]
  sO := ![cc0_scoped2, cc0_scoped5, cc0_scoped8, cc0_scoped11, cc0_scoped14, cc0_scoped17, cc0_scoped20, cc0_scoped23]

/-! ## The tile's semaphores and buffers among all of its own -/

/-- The semaphores: the two windows', and the three of each block. -/
def semOf : Fin 2 ⊕ (Fin 8 × Fin 3) → DmaSem sig
  | .inl k => ![tileBufs.w0.sem, tileBufs.w1.sem] k |>.sem
  | .inr (n, k) => ![tileBufs.sI n, tileBufs.sW n, tileBufs.sO n] k |>.sem

theorem semOf_inj : Function.Injective semOf := by
  have h : ∀ a b, semOf a = semOf b → a = b := by decide +kernel
  exact fun a b => h a b

theorem semOf_scoped (k : Fin 2 ⊕ (Fin 8 × Fin 3)) : (SemLoc.dma (semOf k) : SemLoc sig).isScoped .scVector = true := by
  revert k; decide +kernel

/-- The buffers. -/
def bufOf : Fin 5 → Ref sig .scVector := ![cc0_scratch0, cc0_scratch1, cc0_scratch2, cc0_scratch3, cc0_scratch4]

theorem bufOf_inj : Function.Injective bufOf := by
  have h : ∀ a b, bufOf a = bufOf b → a = b := by decide +kernel
  exact fun a b => h a b

variable (d : Dev nD) (i : grid0.Coords)

/-- The tile's semaphores among the processor's cells. -/
def semCell : Fin 2 ⊕ (Fin 8 × Fin 3) ↪ GSem nD τ sig :=
  ⟨fun k => (thr d i, SemLoc.dma (semOf k)), fun a b e => semOf_inj (SemLoc.dma.inj (Prod.mk.inj e).2)⟩

theorem semCell_sub : Finset.univ.map (semCell d i) ⊆ ownCells (sig := sig) (thr d i) := by
  intro g hg
  obtain ⟨k, -, rfl⟩ := Finset.mem_map.mp hg
  exact mem_ownCells.mpr ⟨rfl, semOf_scoped k⟩

/-- The tile's buffers among the processor's. -/
def bufRef : Fin 5 ↪ DevRef τ sig :=
  ⟨fun k => (thr d i).2.devRef (bufOf k), fun a b e => bufOf_inj (Proc.devRef_injective _ e)⟩

theorem bufRef_sub : Finset.univ.map (bufRef d i) ⊆ ownRefs (sig := sig) (thr d i).2 := by
  intro b hb
  obtain ⟨k, -, rfl⟩ := Finset.mem_map.mp hb
  refine SparseCore.Cfg.mem_ownRefs_of_owner (p := (thr d i).2) ?_
  clear hb
  fin_cases k <;> rfl

/-- What the processor has besides. -/
def restSems : sProp 𝕄 := bigSep (ownCells (thr d i) \ Finset.univ.map (semCell d i)) fun g => semVal g 0
def restBufs : sProp 𝕄 :=
  bigSep (ownRefs (thr d i).2 \ Finset.univ.map (bufRef d i)) fun b => iprop(∃ f, (((thr d i).1, b) : Loc nD τ sig) ↦{fullShare} f)

theorem sems_eq :
    (ownSems0 (thr d i) : sProp 𝕄)
      = iprop(((idle d i tileBufs.w0.sem ∗ idle d i tileBufs.w1.sem) ∗ bigSep Finset.univ fun n : Fin 8 => Sems d i tileBufs n) ∗ restSems d i) := by
  unfold ownSems0
  rw [bigSep_sdiff_split (semCell_sub d i), bigSep_map, bigSep_univ_sum, bigSep_univ_prod, bigSep_fin_two]
  have three (n : Fin 8) : (bigSep Finset.univ fun k : Fin 3 => (semVal (semCell d i (.inr (n, k))) 0 : sProp 𝕄)) = Sems d i tileBufs n := by
    rw [show (Finset.univ : Finset (Fin 3)) = {0, 1, 2} from by decide, bigSep_insert (by decide), bigSep_insert (by decide), bigSep_singleton]
    rfl
  simp only [three]
  rfl

/-- A buffer of the tile, at some contents. -/
abbrev some' (k : Fin 5) : sProp 𝕄 := iprop(∃ f, (thr d i).loc (bufOf k) ↦{fullShare} f)

theorem bufs_eq :
    (ownBufs (thr d i) : sProp 𝕄)
      = iprop((some' d i 0 ∗ some' d i 1 ∗ some' d i 2 ∗ some' d i 3 ∗ some' d i 4) ∗ restBufs d i) := by
  unfold ownBufs
  rw [bigSep_sdiff_split (bufRef_sub d i), bigSep_map]
  rw [show (Finset.univ : Finset (Fin 5)) = {0, 1, 2, 3, 4} from by decide, bigSep_insert (by decide), bigSep_insert (by decide), bigSep_insert (by decide),
    bigSep_insert (by decide), bigSep_singleton]
  rfl

/-! ## The task -/

variable (m : (ℓ : Loc nD τ sig) → Buf (Elt F) ℓ)

abbrev xLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev oLoc (d : Dev nD) : Loc nD τ sig := (SparseCore.T d).loc main_v0

/-- The part of the result that block `n` of the tile writes. -/
abbrev piece (n : Fin 8) : Finset S2048x1024.Idx := (outDst i tileBufs.out n).view.set

/-- What the kernel leaves in the result. -/
def result : Buf (Elt F) (oLoc d) := fun y : S2048x1024.Idx =>
  sumAt (F := F) (m (xLoc d)) (m (iLoc d)) (m (wLoc d)) (y 0).val (y 1).val

/-- The block's part, written, holds the result. -/
theorem done_result (h : Near (m (iLoc d))) (n : Fin 8) (f : Buf (Elt F) ((outDst i tileBufs.out n).view.loc (thr d i)))
    (hf : ∀ y : S128x64.Idx, (outDst i tileBufs.out n).view.read (Elt F) f y
      = rowOf (winOf d i tileBufs (m (xLoc d)) n) (idxOf d i tileBufs (m (iLoc d)) n) (wtOf d i tileBufs (m (wLoc d)) n) (winWord i n) (y 0).val (y 1).val) :
    (own d i (outDst i tileBufs.out n) f : sProp 𝕄) = (oLoc d ↦[piece i n]{fullShare} result d m) := by
  refine pointsTo_congr (ℓ := oLoc d) fun z hz => ?_
  obtain ⟨y, -, rfl⟩ := Finset.mem_map.mp hz
  refine (hf y).trans ((rowOf_eq d i tileBufs (m (xLoc d)) (m (iLoc d)) (m (wLoc d)) h n _ _ (y 0).isLt (y 1).isLt).trans ?_)
  have e := off282_eq i n
  let z : S2048x1024.Idx := (outDst i tileBufs.out n).view.emb y
  have e0 : (z 0).val = rowAt i n + (y 0).val := by
    show k0_off282 i (BitVec.ofNat 32 n.val) 0 + 1 * (y 0).val = _
    rw [e]; simp
  have e1 : (z 1).val = 64 * head i + (y 1).val := by
    show k0_off282 i (BitVec.ofNat 32 n.val) 1 + 1 * (y 1).val = _
    rw [e]; simp
  show _ = sumAt (F := F) (m (xLoc d)) (m (iLoc d)) (m (wLoc d)) (z 0).val (z 1).val
  rw [e0, e1]
  rfl

/-- What the tile holds of the arrays: a share of each to read, and its part of the result. -/
def Holding (qx qi qw : PosShare TreeShare) (f : Buf (Elt F) (oLoc d)) : sProp 𝕄 :=
  iprop((xLoc d ↦{qx} m (xLoc d)) ∗ (iLoc d ↦{qi} m (iLoc d)) ∗ (wLoc d ↦{qw} m (wLoc d))
    ∗ bigSep Finset.univ fun n : Fin 8 => oLoc d ↦[piece i n]{fullShare} f)

variable (O : CellTallies nD τ sig (HIx 1)) (W : Waits sig (HIx 1))

theorem wp_task (h : Near (m (iLoc d))) (qx qi qw : PosShare TreeShare) (f : Buf (Elt F) (oLoc d)) :
    iprop(Holding d i m qx qi qw f ∗ ownBufs (thr d i) ∗ ownSems0 (thr d i) ∗ owes (thr d i) O W ∗ MayWaits (thr d i) none O) ⊢
      Wp d i (body i tileBufs) fun _ => iprop(Holding d i m qx qi qw (result d m) ∗ ownBufs (thr d i) ∗ ownSems0 (thr d i)
        ∗ ∃ W', ⌜∀ p ∈ W', p ∈ W ∨ p.2 = none⌝ ∗ owes (thr d i) O W') := by
  have hw0 : tileBufs.w0.buf.view.set = Finset.univ := View.set_whole _
  have hw1 : tileBufs.w1.buf.view.set = Finset.univ := View.set_whole _
  have hib : tileBufs.ib.view.set = Finset.univ := View.set_whole _
  have hwb : tileBufs.wb.view.set = Finset.univ := View.set_whole _
  have hob : tileBufs.ob.view.set = Finset.univ := View.set_whole _
  have hx : tileBufs.x.view.set = Finset.univ := View.set_whole _
  have hi : tileBufs.idx.view.set = Finset.univ := View.set_whole _
  have hw : tileBufs.wt.view.set = Finset.univ := View.set_whole _
  have run := wp_body d i tileBufs qx qi qw (m (xLoc d)) (m (iLoc d)) (m (wLoc d)) O W (inWindow_of_near d i tileBufs (m (iLoc d)) h)
  unfold Tools Free own at run
  rw [hw0, hw1, hib, hwb, hob, hx, hi, hw] at run
  rw [sems_eq, bufs_eq]
  unfold Holding
  iintro ⟨⟨Hx, Hi, Hw, Ho⟩, ⟨⟨H0, H1, H2, H3, H4⟩, HR⟩, ⟨⟨⟨S0, S1⟩, HS⟩, HR'⟩, HO, Hmw⟩
  have todo₁ (n : Fin 8) : iprop(Sems d i tileBufs n ∗ oLoc d ↦[piece i n]{fullShare} f) ⊢ (Todo d i tileBufs n : sProp 𝕄) := by
    unfold Todo
    iintro ⟨HS, Ho⟩
    isplitl [HS]; · iexact HS
    iexists f; iexact Ho
  have done₁ (n : Fin 8) : (Done d i tileBufs (m (xLoc d)) (m (iLoc d)) (m (wLoc d)) n : sProp 𝕄)
      ⊢ iprop(Sems d i tileBufs n ∗ oLoc d ↦[piece i n]{fullShare} result d m) := by
    unfold Done
    iintro ⟨HS, %g, %hg, Ho⟩
    isplitl [HS]; · iexact HS
    iapply (Entails.of_eq (done_result d i m h n g hg)) $$ Ho
  have todo : iprop((bigSep Finset.univ fun n : Fin 8 => Sems d i tileBufs n) ∗ bigSep Finset.univ fun n : Fin 8 => oLoc d ↦[piece i n]{fullShare} f)
      ⊢ (bigSep Finset.univ fun n : Fin 8 => (Todo d i tileBufs n : sProp 𝕄)) :=
    (Entails.of_eq (bigSep_sep' _ _ _).symm).trans (bigSep_mono fun n _ => todo₁ n)
  have done : (bigSep Finset.univ fun n : Fin 8 => (Done d i tileBufs (m (xLoc d)) (m (iLoc d)) (m (wLoc d)) n : sProp 𝕄))
      ⊢ iprop((bigSep Finset.univ fun n : Fin 8 => Sems d i tileBufs n) ∗ bigSep Finset.univ fun n : Fin 8 => oLoc d ↦[piece i n]{fullShare} result d m) :=
    (bigSep_mono fun n _ => done₁ n).trans (Entails.of_eq (bigSep_sep' _ _ _))
  ihave HT := todo $$ [HS Ho]
  · isplitl [HS]; · iexact HS
    iexact Ho
  iapply (wp_wand frame (wpE defs₀ 𝒱₀ (thr d i) none) Set.univ) $$ [Hx Hi Hw HT H0 H1 H2 H3 H4 S0 S1 HO Hmw]
  · iapply run
    isplitl [Hx]; · iexact Hx
    isplitl [Hi Hw H2 H3 H4]
    · isplitl [Hi]; · iexact Hi
      isplitl [Hw]; · iexact Hw
      isplitl [H2]; · iexact H2
      isplitl [H3]; · iexact H3
      iexact H4
    isplitl [H0 S0]
    · isplitl [H0]; · iexact H0
      iexact S0
    isplitl [H1 S1]
    · isplitl [H1]; · iexact H1
      iexact S1
    isplitl [HT]; · iexact HT
    isplitl [HO]
    · unfold Owed
      iexists W
      isplitr
      · ipureintro; exact fun p hp => .inl hp
      iexact HO
    iexact Hmw
  iintro %u ⟨Hx, ⟨Hi, Hw, H2, H3, H4⟩, ⟨H0, S0⟩, ⟨H1, S1⟩, HD, HO⟩
  ihave HD := done $$ HD
  icases HD with ⟨HS, Ho⟩
  isplitl [Hx Hi Hw Ho]
  · isplitl [Hx]; · iexact Hx
    isplitl [Hi]; · iexact Hi
    isplitl [Hw]; · iexact Hw
    iexact Ho
  isplitl [H0 H1 H2 H3 H4 HR]
  · isplitr [HR]
    · isplitl [H0]; · iexact H0
      isplitl [H1]; · iexact H1
      isplitl [H2]; · iexact H2
      isplitl [H3]; · iexact H3
      iexact H4
    iexact HR
  isplitl [S0 S1 HS HR']
  · isplitr [HR']
    · isplitr [HS]
      · isplitl [S0]; · iexact S0
        iexact S1
      iexact HS
    iexact HR'
  unfold Owed
  iexact HO

end Cert.Tile
-- ==== Proof.Same.Begin.lean ====
/- The program's opening, and its first block. -/
module

public import proofs.«01_k».proof.Proof.Text

@[expose] public section

set_option maxRecDepth 100000
set_option maxHeartbeats 0

noncomputable section

namespace Cert.Tile

open Cert.KernelIdeal
open Idealize.ShloMosaic Idealize.SL.Sem

variable {F : FTy → Type} [FloatOps F]
variable [Cert.KernelIdeal.Facts]

/-- The head the tile takes: its number modulo sixteen, as the kernel computes it. -/
def colWord (i : grid0.Coords) : BitVec 32 :=
  let wid : BitVec 32 := Scalar.addi (Scalar.muli (BitVec.ofNat 32 (i 1).val) 2#32) (BitVec.ofNat 32 (i 0).val)
  let m : BitVec 32 := Scalar.select (Scalar.cmpi .eq 16#32 0#32) 1#32 16#32
  let r : BitVec 32 := Scalar.remsi wid m
  Scalar.select (Scalar.andi (Scalar.xori (Scalar.cmpi .slt r 0#32) (Scalar.cmpi .slt m 0#32)) (Scalar.cmpi .ne r 0#32)) (Scalar.addi r m) r

theorem part281 (i : grid0.Coords) (B : Bufs)  :
    k0_part281 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7)
      = (do
        pure ⟨colWord i, halfWord i, winWord i 0⟩) := rfl

theorem part282 (i : grid0.Coords) (B : Bufs) (c half ws : BitVec 32) :
    k0_part282 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half ws
      = (do
        startWin i B.x 0 B.w0.buf B.w0.whole B.w0.sem
        fetchIdx i B.idx 0 B.ib B.hib (B.sI 0)
        fetchWt i B.wt 0 B.wb B.hwb (B.sW 0)
        waitWin i B.x 0 B.w0.buf B.w0.whole B.w0.sem
        startWin i B.x 1 B.w1.buf B.w1.whole B.w1.sem
        rows B.w0.buf B.ib B.wb B.ob ws
        pure (winFrom half 1)) := rfl

theorem part283 (i : grid0.Coords) (B : Bufs) (c half : BitVec 32) :
    k0_part283 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half
      = (do
        putOut i B.out 0 B.ob B.hob (B.sO 0)
        fetchIdx i B.idx 1 B.ib B.hib (B.sI 1)
        fetchWt i B.wt 1 B.wb B.hwb (B.sW 1)
        waitWin i B.x 1 B.w1.buf B.w1.whole B.w1.sem
        startWin i B.x 2 B.w0.buf B.w0.whole B.w0.sem
        pure ⟨winFrom half 2, 0#32⟩) := rfl

end Cert.Tile
-- ==== Proof.Same.Second.lean ====
/- The second block. -/
module

public import proofs.«01_k».proof.Proof.Text

@[expose] public section

set_option maxRecDepth 100000
set_option maxHeartbeats 0

noncomputable section

namespace Cert.Tile

open Cert.KernelIdeal
open Idealize.ShloMosaic Idealize.SL.Sem

variable {F : FTy → Type} [FloatOps F]
variable [Cert.KernelIdeal.Facts]

theorem part284 (i : grid0.Coords) (B : Bufs) (c half ws z : BitVec 32) :
    k0_part284 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half ws z
      = (do
        rows B.w1.buf B.ib B.wb B.ob ws
        putOut i B.out 1 B.ob B.hob (B.sO 1)
        fetchIdx i B.idx 2 B.ib B.hib (B.sI 2)
        fetchWt i B.wt 2 B.wb B.hwb (B.sW 2)
        waitWin i B.x 2 B.w0.buf B.w0.whole B.w0.sem
        startWin i B.x 3 B.w1.buf B.w1.whole B.w1.sem
        pure (winFrom half 3)) := rfl

end Cert.Tile
-- ==== Proof.Same.Third.lean ====
/- The third block. -/
module

public import proofs.«01_k».proof.Proof.Text

@[expose] public section

set_option maxRecDepth 100000
set_option maxHeartbeats 0

noncomputable section

namespace Cert.Tile

open Cert.KernelIdeal
open Idealize.ShloMosaic Idealize.SL.Sem

variable {F : FTy → Type} [FloatOps F]
variable [Cert.KernelIdeal.Facts]

theorem part285 (i : grid0.Coords) (B : Bufs) (c half ws : BitVec 32) :
    k0_part285 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half ws
      = (do
        rows B.w0.buf B.ib B.wb B.ob ws
        putOut i B.out 2 B.ob B.hob (B.sO 2)
        fetchIdx i B.idx 3 B.ib B.hib (B.sI 3)
        fetchWt i B.wt 3 B.wb B.hwb (B.sW 3)
        waitWin i B.x 3 B.w1.buf B.w1.whole B.w1.sem
        pure (winFrom half 4)) := rfl

end Cert.Tile
-- ==== Proof.Same.Fourth.lean ====
/- The fourth block. -/
module

public import proofs.«01_k».proof.Proof.Text

@[expose] public section

set_option maxRecDepth 100000
set_option maxHeartbeats 0

noncomputable section

namespace Cert.Tile

open Cert.KernelIdeal
open Idealize.ShloMosaic Idealize.SL.Sem

variable {F : FTy → Type} [FloatOps F]
variable [Cert.KernelIdeal.Facts]

theorem part286 (i : grid0.Coords) (B : Bufs) (c half ws : BitVec 32) :
    k0_part286 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half ws
      = (do
        startWin i B.x 4 B.w0.buf B.w0.whole B.w0.sem
        rows B.w1.buf B.ib B.wb B.ob ws
        putOut i B.out 3 B.ob B.hob (B.sO 3)
        fetchIdx i B.idx 4 B.ib B.hib (B.sI 4)
        fetchWt i B.wt 4 B.wb B.hwb (B.sW 4)
        waitWin i B.x 4 B.w0.buf B.w0.whole B.w0.sem
        pure (winFrom half 5)) := rfl

end Cert.Tile
-- ==== Proof.Same.Fifth.lean ====
/- The fifth block. -/
module

public import proofs.«01_k».proof.Proof.Text

@[expose] public section

set_option maxRecDepth 100000
set_option maxHeartbeats 0

noncomputable section

namespace Cert.Tile

open Cert.KernelIdeal
open Idealize.ShloMosaic Idealize.SL.Sem

variable {F : FTy → Type} [FloatOps F]
variable [Cert.KernelIdeal.Facts]

theorem part287 (i : grid0.Coords) (B : Bufs) (c half ws : BitVec 32) :
    k0_part287 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half ws
      = (do
        startWin i B.x 5 B.w1.buf B.w1.whole B.w1.sem
        rows B.w0.buf B.ib B.wb B.ob ws
        putOut i B.out 4 B.ob B.hob (B.sO 4)
        fetchIdx i B.idx 5 B.ib B.hib (B.sI 5)
        fetchWt i B.wt 5 B.wb B.hwb (B.sW 5)
        waitWin i B.x 5 B.w1.buf B.w1.whole B.w1.sem
        pure ⟨Scalar.subi (Scalar.addi 0#32 (Scalar.muli (Scalar.addi (Scalar.muli half 8#32) (BitVec.ofNat 32 (6 : Fin 8).val)) 128#32)) 288#32, 0#32, 1344#32⟩) := rfl

end Cert.Tile
-- ==== Proof.Same.Sixth.lean ====
/- The sixth block. -/
module

public import proofs.«01_k».proof.Proof.Text

@[expose] public section

set_option maxRecDepth 100000
set_option maxHeartbeats 0

noncomputable section

namespace Cert.Tile

open Cert.KernelIdeal
open Idealize.ShloMosaic Idealize.SL.Sem

variable {F : FTy → Type} [FloatOps F]
variable [Cert.KernelIdeal.Facts]

theorem part288 (i : grid0.Coords) (B : Bufs) (c half ws u lo hi : BitVec 32) :
    k0_part288 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half ws u lo hi
      = (do
        startWin i B.x 6 B.w0.buf B.w0.whole B.w0.sem
        rows B.w1.buf B.ib B.wb B.ob ws
        putOut i B.out 5 B.ob B.hob (B.sO 5)
        fetchIdx i B.idx 6 B.ib B.hib (B.sI 6)
        fetchWt i B.wt 6 B.wb B.hwb (B.sW 6)
        waitWin i B.x 6 B.w0.buf B.w0.whole B.w0.sem
        pure ⟨Scalar.minsi hi (Scalar.maxsi lo u), Scalar.addi 0#32 (Scalar.muli (Scalar.addi (Scalar.muli half 8#32) (BitVec.ofNat 32 (7 : Fin 8).val)) 128#32), 288#32⟩) := rfl

end Cert.Tile
-- ==== Proof.Same.Last.lean ====
/- The last blocks. -/
module

public import proofs.«01_k».proof.Proof.Text

@[expose] public section

set_option maxRecDepth 100000
set_option maxHeartbeats 0

noncomputable section

namespace Cert.Tile

open Cert.KernelIdeal
open Idealize.ShloMosaic Idealize.SL.Sem

variable {F : FTy → Type} [FloatOps F]
variable [Cert.KernelIdeal.Facts]

theorem part289 (i : grid0.Coords) (B : Bufs) (c half ws u v : BitVec 32) :
    k0_part289 (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7) c half ws u v
      = (do
        startWin i B.x 7 B.w1.buf B.w1.whole B.w1.sem
        rows B.w0.buf B.ib B.wb B.ob ws
        putOut i B.out 6 B.ob B.hob (B.sO 6)
        fetchIdx i B.idx 7 B.ib B.hib (B.sI 7)
        fetchWt i B.wt 7 B.wb B.hwb (B.sW 7)
        waitWin i B.x 7 B.w1.buf B.w1.whole B.w1.sem
        rows B.w1.buf B.ib B.wb B.ob (Scalar.minsi 1344#32 (Scalar.maxsi 0#32 (Scalar.subi u v)))
        pure ⟨⟩) := rfl

end Cert.Tile
-- ==== Proof.Same.lean ====
/- The tile program is its short form. -/
module

public import proofs.«01_k».proof.Proof.Same.Begin
public import proofs.«01_k».proof.Proof.Same.Second
public import proofs.«01_k».proof.Proof.Same.Third
public import proofs.«01_k».proof.Proof.Same.Fourth
public import proofs.«01_k».proof.Proof.Same.Fifth
public import proofs.«01_k».proof.Proof.Same.Sixth
public import proofs.«01_k».proof.Proof.Same.Last

@[expose] public section

set_option maxRecDepth 100000

noncomputable section

namespace Cert.Tile

open Cert.KernelIdeal
open Idealize.ShloMosaic Idealize.SL.Sem

variable {F : FTy → Type} [FloatOps F]
variable [Cert.KernelIdeal.Facts]

theorem printed_eq (i : grid0.Coords) (B : Bufs) :
    cc0_sc_body (F := F) i B.x B.hx B.idx B.hidx B.wt B.hwt B.out B.hout B.w0.buf B.w0.whole B.w1.buf B.w1.whole
        B.ib B.hib B.wb B.hwb B.ob B.hob B.w0.sem B.w1.sem
        (B.sI 0) (B.sW 0) (B.sO 0) (B.sI 1) (B.sW 1) (B.sO 1) (B.sI 2) (B.sW 2) (B.sO 2) (B.sI 3) (B.sW 3) (B.sO 3) (B.sI 4) (B.sW 4) (B.sO 4) (B.sI 5) (B.sW 5) (B.sO 5) (B.sI 6) (B.sW 6) (B.sO 6) (B.sI 7) (B.sW 7) (B.sO 7)
      = body i B := by
  unfold cc0_sc_body
  rw [part281, pure_bind]
  dsimp only
  simp only [part282, part283, part284, part285, part286, part287, part288, part289, bind_assoc, pure_bind]
  unfold body stepBlk openBlk sumBlk
  simp only [bind_assoc]
  rfl

end Cert.Tile
-- ==== Proof.Gate.lean ====
/- The gates' pallas_call, block by block: the two layers of the memory gate, the gated rows, and the output
   projection by its own sigmoid; the body's run over any whole buffers, the pipeline's proof data and its region. -/
module

public import proofs.«01_k».proof.Proof.Task
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value
public import Idealize.ShloMosaic.Lib.Tactic

@[expose] public section

noncomputable section

namespace Cert.Gate

open Cert.KernelIdeal Cert.KernelIdeal.Gen
open Cert.Tile (UU)
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- x · sigmoid x. -/
abbrev silu {s : Shape} (x : FVec F s .f32) : FVec F s .f32 := mulf x (logistic x)

/-- What the body computes of a block of rows and the weights. -/
def gateBlock (x : FVec F S256x1024 .f32) (w1 : FVec F S256x1024 .bf16) (b1 : FVec F S1x256 .f32) (w2 : FVec F S1024x256 .bf16)
    (b2 : FVec F S1x1024 .f32) (wo : FVec F S1024x1024 .bf16) : FVec F S256x1024 .f32 :=
  let h : FVec F S256x256 .f32 := silu (addf (matmul dot_S256x1024_S256x1024_S256x256_1_1_0_0_n_n none (truncf .bf16 x bitsLt_bf16_f32) w1 (constant S256x256 .f32 0x00000000#32))
    (broadcastTo S256x256 b1 broadcasts_S1x256_S256x256))
  let g : FVec F S256x1024 .f32 := logistic (addf (matmul dot_S256x256_S1024x256_S256x1024_1_1_0_0_n_n none (truncf .bf16 h bitsLt_bf16_f32) w2 (constant S256x1024 .f32 0x00000000#32))
    (broadcastTo S256x1024 b2 broadcasts_S1x1024_S256x1024))
  silu (matmul dot_S256x1024_S1024x1024_S256x1024_1_1_0_0_n_n none (truncf .bf16 (mulf x g) bitsLt_bf16_f32) wo (constant S256x1024 .f32 0x00000000#32))

/-- A load of everything is what the buffer reads. -/
theorem ld_all {κ : Kind} {sp : Space} {s : Shape} {e : EltTy} (v : View sig κ sp s e) (f : v.ty.Contents (Elt F)) {off : Fin s.rank → ℕ}
    (inb : ∀ a, off a + s.size a ≤ s.size a) : v.readAt (Elt F) (Rect.unit (s := s) off s.size inb).toLoadRect f = v.read (Elt F) f := by
  funext y
  rw [View.readAt_apply]
  refine congrArg (v.read (Elt F) f) (funext fun a => Fin.ext ?_)
  show off a + 1 * (y a).val = (y a).val
  have := inb a; omega

theorem ld_cast {κ : Kind} {sp : Space} {s : Shape} {e : EltTy} (v : View sig κ sp s e) (f : v.ty.Contents (Elt F)) {off : Fin s.rank → ℕ}
    (inb : ∀ a, off a + s.size a ≤ s.size a) (h : s.ShapeCasts s) :
    shapeCast s (v.readAt (Elt F) (Rect.unit (s := s) off s.size inb).toLoadRect f) h = v.read (Elt F) f :=
  (shapeCast_self _ h).trans (ld_all v f inb)

variable (c : Dev nD)

theorem gate_run (i : grid1.Coords) (M1 : Memref sig .tc .vmem S256x1024 .f32) (h1 : M1.IsWhole) (M2 : Memref sig .tc .vmem S256x1024 .bf16) (h2 : M2.IsWhole)
    (M3 : Memref sig .tc .vmem S1x256 .f32) (h3 : M3.IsWhole) (M4 : Memref sig .tc .vmem S1024x256 .bf16) (h4 : M4.IsWhole)
    (M5 : Memref sig .tc .vmem S1x1024 .f32) (h5 : M5.IsWhole) (M6 : Memref sig .tc .vmem S1024x1024 .bf16) (h6 : M6.IsWhole)
    (M7 : Memref sig .tc .vmem S256x1024 .f32) (h7 : M7.IsWhole)
    (X1 : Vec F S256x1024 .f32) (X2 : Vec F S256x1024 .bf16) (X3 : Vec F S1x256 .f32) (X4 : Vec F S1024x256 .bf16) (X5 : Vec F S1x1024 .f32)
    (X6 : Vec F S1024x1024 .bf16) (X7 : Vec F S256x1024 .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ owns (c : Thread nD τ) M5 fullShare X5 ∗ owns (c : Thread nD τ) M6 fullShare X6 ∗ owns (c : Thread nD τ) M7 fullShare X7
        ∗ (iprop(owns (c : Thread nD τ) M1 fullShare X1 ∗ owns (c : Thread nD τ) M2 fullShare X2 ∗ owns (c : Thread nD τ) M3 fullShare X3 ∗ owns (c : Thread nD τ) M4 fullShare X4
          ∗ owns (c : Thread nD τ) M5 fullShare X5 ∗ owns (c : Thread nD τ) M6 fullShare X6 ∗ owns (c : Thread nD τ) M7 fullShare (gateBlock X1 X2 X3 X4 X5 X6)) -∗ Q ⟨⟩))
      ⊢ wp frame (wpE (defs₀ (F := F)) Variants.none (c : Thread nD τ) none) Set.univ (cc1__stage3_body i M1 h1 M2 h2 M3 h3 M4 h4 M5 h5 M6 h6 M7 h7) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6 e7
  unfold cc1__stage3_body
  sl_exec!
  sl_step
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  iexists _; isplitr; swap; (· iexact H7)
  ipureintro
  funext y
  unfold gate_run.sl.H7_1
  refine (View.read_writes_cons_hit_of_coords _ _ _ _ _ y y fun a => ?_).trans ?_
  · match a with
    | ⟨0, _⟩ => show (y 0).val = 0 + 1 * (y 0).val; omega
    | ⟨1, _⟩ => show (y 1).val = 0 + 1 * (y 1).val; omega
  change (gateBlock (shapeCast S256x1024 (M1.view.readAt (Elt F) (Rect.unit (s := S256x1024) ![0, 0] S256x1024.size inb_S256x1024_S256x1024_0_0).toLoadRect f1) shapeCasts_S256x1024_S256x1024)
    (shapeCast S256x1024 (M2.view.readAt (Elt F) (Rect.unit (s := S256x1024) ![0, 0] S256x1024.size inb_S256x1024_S256x1024_0_0).toLoadRect f2) shapeCasts_S256x1024_S256x1024)
    (shapeCast S1x256 (M3.view.readAt (Elt F) (Rect.unit (s := S1x256) ![0, 0] S1x256.size inb_S1x256_S1x256_0_0).toLoadRect f3) shapeCasts_S1x256_S1x256)
    (shapeCast S1024x256 (M4.view.readAt (Elt F) (Rect.unit (s := S1024x256) ![0, 0] S1024x256.size inb_S1024x256_S1024x256_0_0).toLoadRect f4) shapeCasts_S1024x256_S1024x256)
    (shapeCast S1x1024 (M5.view.readAt (Elt F) (Rect.unit (s := S1x1024) ![0, 0] S1x1024.size inb_S1x1024_S1x1024_0_0).toLoadRect f5) shapeCasts_S1x1024_S1x1024)
    (shapeCast S1024x1024 (M6.view.readAt (Elt F) (Rect.unit (s := S1024x1024) ![0, 0] S1024x1024.size inb_S1024x1024_S1024x1024_0_0).toLoadRect f6) shapeCasts_S1024x1024_S1024x1024)) y = _
  rw [ld_cast M1.view, ld_cast M2.view, ld_cast M3.view, ld_cast M4.view, ld_cast M5.view, ld_cast M6.view]

/-! ## The proof data -/

variable (V : (c : Dev nD) → (b : Ref sig .tc) → Buf (Elt F) ((c : Thread nD τ).loc b))

/-- Window `w`'s block at point `t`, of the arrays at entry. -/
abbrev blkOf (w : Fin 7) (t : Fin cfg1.N) : ((cfg1.win w).xblock (cfg1.grid.coords t)).Idx → Elt F (cfg1.win w).elt :=
  ((cfg1.win w).blk t).view.read (Elt F) (V c (Pipeline.arrRef spec1 w))

/-- What the body leaves at point `t`. -/
abbrev leaves (t : Fin cfg1.N) : Vec F S256x1024 .f32 :=
  gateBlock (blkOf c V 0 t) (blkOf c V 1 t) (blkOf c V 2 t) (blkOf c V 3 t) (blkOf c V 4 t) (blkOf c V 5 t)

/-- What the core's earlier waits have recorded: pairs at levels of the SparseCore calls before. -/
abbrev early : Set (SemLoc sig × HIx 1) := {p | (sc (F := F)).lev ((c.tc : Thread nD τ), p.1) p.2 ≤ 8}

def dat : Dat τ (Elt F) (HIx 1) ℕ UU ℕ cfg1 c where
  A w := V c (Pipeline.arrRef spec1 w)
  after w t := match w with
    | ⟨0, _⟩ => blkOf c V 0 t
    | ⟨1, _⟩ => blkOf c V 1 t
    | ⟨2, _⟩ => blkOf c V 2 t
    | ⟨3, _⟩ => blkOf c V 3 t
    | ⟨4, _⟩ => blkOf c V 4 t
    | ⟨5, _⟩ => blkOf c V 5 t
    | ⟨6, _⟩ => leaves c V t
  Φ _ := Pipeline.scopedRest (Ix := HIx 1) (Name := ℕ) (U := UU) (Lvl := ℕ) (Val := Elt F) spec1 c
  q _ := fullShare
  owed _ := 0
  recorded _ := early (F := F) c

/-- An input window holds its block when the body runs. -/
theorem before0 (t : Fin cfg1.N) (d) : (dat c V).before 0 t d = blkOf c V 0 t :=
  (dat c V).before_in_eq_fetched 0 rfl (fun _ => rfl) (fun _ _ _ => rfl) (fun _ => rfl) t d
theorem before1 (t : Fin cfg1.N) (d) : (dat c V).before 1 t d = blkOf c V 1 t :=
  (dat c V).before_in_eq_fetched 1 rfl (fun _ => rfl) (fun _ _ _ => rfl) (fun _ => rfl) t d
theorem before2 (t : Fin cfg1.N) (d) : (dat c V).before 2 t d = blkOf c V 2 t :=
  (dat c V).before_in_eq_fetched 2 rfl (fun _ => rfl) (fun _ _ _ => rfl) (fun _ => rfl) t d
theorem before3 (t : Fin cfg1.N) (d) : (dat c V).before 3 t d = blkOf c V 3 t :=
  (dat c V).before_in_eq_fetched 3 rfl (fun _ => rfl) (fun _ _ _ => rfl) (fun _ => rfl) t d
theorem before4 (t : Fin cfg1.N) (d) : (dat c V).before 4 t d = blkOf c V 4 t :=
  (dat c V).before_in_eq_fetched 4 rfl (fun _ => rfl) (fun _ _ _ => rfl) (fun _ => rfl) t d
theorem before5 (t : Fin cfg1.N) (d) : (dat c V).before 5 t d = blkOf c V 5 t :=
  (dat c V).before_in_eq_fetched 5 rfl (fun _ => rfl) (fun _ _ _ => rfl) (fun _ => rfl) t d

theorem body_obligation : BodyObligation (dat c V) (defs₀ (F := F)) Variants.none none Set.univ := fun t => by
  rw [bigSep_W1, bigSep_W1]
  rw [show (dat c V).Φ t.succ = (dat c V).Φ t.castSucc from rfl, show (dat c V).owesAt none t.succ = (dat c V).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before0, before1, before2, before3, before4, before5]
  iapply (gate_run (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (st1_5 t) (hstage1_5 ((cfg1.slots t 5).cast nbuf1_5)) (st1_6 t) (hstage1_6 ((cfg1.slots t 6).cast nbuf1_6)))
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## The region -/

/-- The call's tables: none. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat c V

/-- The result's array after the call. -/
def gated : Buf (Elt F) ((c : Thread nD τ).loc main_v6) := (dat c V).arrAt 6 cfg1.N

/-- The unscoped buffers after the call. -/
def after (b : Ref sig .tc) : Buf (Elt F) ((c : Thread nD τ).loc b) :=
  if h : b = main_v6 then h ▸ gated c V else V c b

theorem after_out : after c V main_v6 = gated c V := by unfold after; rw [dif_pos rfl]
theorem after_ne (b : Ref sig .tc) (h : b ≠ main_v6) : after c V b = V c b := by unfold after; rw [dif_neg h]

/-- The core's waits recorded so far, all early. -/
abbrev waited : sProp 𝕄 := iprop(∃ W : Waits sig (HIx 1), ⌜∀ p ∈ W, p ∈ early (F := F) c⌝ ∗ owes (c : Thread nD τ) (0 : CellTallies nD τ sig (HIx 1)) W)

set_option backward.isDefEq.respectTransparency.types false in
def reg : Pipeline.RegionSeg (pcfgs (F := F)) adm (pdats V) none defs₀ Variants.none (sc (F := F)).L (sc (F := F)).lev 0 where
  win := launch1.win.to₀
  block_pos := launch1.block_pos
  stage_whole := launch1.stage_whole
  K := PEmpty
  osem k := k.elim
  ho := Pipeline.OwnSemFacts.none _
  hbody c := (body_obligation c V).loose
  hwaits := Pipeline.hwaits_of_owed_zero _ _ _ _ _ _ 0 fun _ _ => rfl
  pre c := iprop(unscopedBufs c (V c) ∗ waited (F := F) c)
  post c := iprop(unscopedBufs c (after c V) ∗ waited (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (after c V) ((pdats V 0 c).arrAt · cfg1.N)
      (fun w => by
        fin_cases w
        · exact ((pdats V 0 c).arrAt_in 0 rfl _).trans (after_ne c V main_v0 (by decide)).symm
        · exact ((pdats V 0 c).arrAt_in 1 rfl _).trans (after_ne c V main_v1 (by decide)).symm
        · exact ((pdats V 0 c).arrAt_in 2 rfl _).trans (after_ne c V main_v2 (by decide)).symm
        · exact ((pdats V 0 c).arrAt_in 3 rfl _).trans (after_ne c V main_v3 (by decide)).symm
        · exact ((pdats V 0 c).arrAt_in 4 rfl _).trans (after_ne c V main_v4 (by decide)).symm
        · exact ((pdats V 0 c).arrAt_in 5 rfl _).trans (after_ne c V main_v5 (by decide)).symm
        · exact (after_out c V).symm)
      (fun b hb => after_ne c V b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; (· iexact HO)
    ipureintro; intro p hp
    rcases hW hp with h | h
    · exact h
    · obtain ⟨w, s, rfl⟩ := h
      exact Nat.zero_le _

end Cert.Gate

end
-- ==== Proof.Launch.lean ====
/- The launch: what the call hands each tile and takes back, and the program's run. -/
module

public import proofs.«01_k».proof.Proof.Task
public import proofs.«01_k».proof.Proof.Same
public import proofs.«01_k».proof.Proof.Gate

@[expose] public section

noncomputable section

namespace Cert.Tile

open Cert.KernelIdeal Cert.KernelIdeal.Gen
open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-! ## The tiles' parts of the result -/

/-- The tile on core `c`, subcore `s`. -/
def tileAt (c : Fin (grid0.bound 0)) (s : Fin (grid0.bound 1)) : grid0.Coords :=
  fun | 0 => c | 1 => s | ⟨_ + 2, h⟩ => absurd h (Nat.not_lt.2 (Nat.le_add_left _ _))

theorem mem_piece (i : grid0.Coords) (n : Fin 8) (y : S2048x1024.Idx) :
    y ∈ piece i n ↔ (rowAt i n ≤ (y 0).val ∧ (y 0).val < rowAt i n + 128) ∧ 64 * head i ≤ (y 1).val ∧ (y 1).val < 64 * head i + 64 := by
  have e : piece i n = (Rect.unit (s := S2048x1024) (k0_off282 i (BitVec.ofNat 32 n.val)) S128x64.size (k0_off282_inb i n)).set :=
    View.set_slice_whole main_v0_scv _
  rw [e, Rect.mem_set_unit, off282_eq]
  constructor
  · intro h; exact ⟨h 0, h 1⟩
  · rintro ⟨h0, h1⟩ a
    match a with
    | 0 => exact h0
    | 1 => exact h1

/-- The parts of the result, each written by one block of one tile. -/
def part (t : Fin 2 × Fin 16 × Fin 8) : Finset S2048x1024.Idx := piece (tileAt t.1 t.2.1) t.2.2

theorem mem_part (t : Fin 2 × Fin 16 × Fin 8) (y : S2048x1024.Idx) :
    y ∈ part t ↔ (y 0).val / 128 = 8 * ((2 * t.2.1.val + t.1.val) / 16) + t.2.2.val ∧ (y 1).val / 64 = (2 * t.2.1.val + t.1.val) % 16 := by
  unfold part
  rw [mem_piece]
  show (1024 * ((2 * t.2.1.val + t.1.val) / 16) + 128 * t.2.2.val ≤ _ ∧ _ < 1024 * ((2 * t.2.1.val + t.1.val) / 16) + 128 * t.2.2.val + 128)
    ∧ 64 * ((2 * t.2.1.val + t.1.val) % 16) ≤ _ ∧ _ < 64 * ((2 * t.2.1.val + t.1.val) % 16) + 64 ↔ _
  omega

theorem part_disjoint : ∀ t ∈ (Finset.univ : Finset (Fin 2 × Fin 16 × Fin 8)), ∀ t' ∈ (Finset.univ : Finset (Fin 2 × Fin 16 × Fin 8)), t ≠ t' → Disjoint (part t) (part t') := by
  rintro ⟨c, s, n⟩ - ⟨c', s', n'⟩ - hne
  refine Finset.disjoint_left.mpr fun y h h' => hne ?_
  rw [mem_part] at h h'
  have := c.isLt; have := c'.isLt; have := n.isLt; have := n'.isLt
  dsimp only at h h'
  have e0 : c.val = c'.val := by omega
  have e1 : s.val = s'.val := by omega
  have e2 : n.val = n'.val := by omega
  rw [Fin.ext e0, Fin.ext e1, Fin.ext e2]

theorem part_cover : (Finset.univ : Finset (Fin 2 × Fin 16 × Fin 8)).biUnion part = Finset.univ := by
  refine Finset.eq_univ_iff_forall.mpr fun y => Finset.mem_biUnion.mpr ?_
  have h0 : (y 0).val < 2048 := (y 0).isLt
  have h1 : (y 1).val < 1024 := (y 1).isLt
  refine ⟨(⟨((y 1).val / 64) % 2, by omega⟩, ⟨((y 0).val / 1024 * 16 + (y 1).val / 64) / 2, by omega⟩, ⟨(y 0).val / 128 % 8, by omega⟩), Finset.mem_univ _, ?_⟩
  rw [mem_part]
  dsimp only
  omega

/-! ## What the call hands over -/

variable (m : (ℓ : Loc nD τ sig) → Buf (Elt F) ℓ) (ρ : Dev nD → PrngReg)

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
def EH : Emb (URounds (GSem nD τ sig) ℕ) 𝕄 :=
  ((Emb.inl : Emb (URounds (GSem nD τ sig) ℕ) (URounds (GSem nD τ sig) ℕ × URounds (GSem nD τ sig) Unit)).trans (Emb.inl : Emb _ UU)).trans
    (uEmb (nD := nD) (sig := sig) (Ix := HIx 1) (Val := Elt F) (Name := ℕ) (U := UU) (Lvl := ℕ)).toEmb

/-- The rounds of the blocks' copies. -/
def EP : Emb (URounds (GSem nD τ sig) Unit) 𝕄 :=
  ((Emb.inr : Emb (URounds (GSem nD τ sig) Unit) (URounds (GSem nD τ sig) ℕ × URounds (GSem nD τ sig) Unit)).trans (Emb.inl : Emb _ UU)).trans
    (uEmb (nD := nD) (sig := sig) (Ix := HIx 1) (Val := Elt F) (Name := ℕ) (U := UU) (Lvl := ℕ)).toEmb

instance EH_landsIn : (EH : Emb (URounds (GSem nD τ sig) ℕ) 𝕄).LandsIn (upEmb : UEmb _ 𝕄) := by unfold EH; infer_instance
instance EP_landsIn : (EP : Emb (URounds (GSem nD τ sig) Unit) 𝕄).LandsIn (upEmb : UEmb _ 𝕄) := by unfold EP; infer_instance

/-- The pipeline's cells are distinct. -/
theorem cells_inj : Function.Injective (Pipeline.cellOf (nD := nD) (τ := τ) (Pipeline.pin (pcfgs (F := F)) Gate.adm)) := launch1.cellOf_inj

/-- The tile's share of each array it reads. -/
abbrev shareOf (c : Fin 2) (s : Fin 16) : PosShare TreeShare := shareTok (shareTok fullShare 2 c) 16 s

variable [FloatOps F]

/-- What the tile on core `c`, subcore `s` holds, with `f` in its part of the result. -/
abbrev share (d : Dev nD) (c : Fin 2) (s : Fin 16) (f : Buf (Elt F) (oLoc d)) : sProp 𝕄 :=
  Holding d (tileAt c s) m (shareOf c s) (shareOf c s) (shareOf c s) f

/-- The tiles of core `c`. -/
abbrev shares (d : Dev nD) (c : Fin 2) (f : Buf (Elt F) (oLoc d)) : sProp 𝕄 := bigSep Finset.univ fun s : Fin 16 => share m d c s f

instance holding_storable (d : Dev nD) (i : grid0.Coords) (qx qi qw : PosShare TreeShare) (f : Buf (Elt F) (oLoc d)) :
    BI.Storable (upEmb : UEmb _ 𝕄) (Holding d i m qx qi qw f) := by unfold Holding; infer_instance

instance shares_storable (d : Dev nD) (c : Fin 2) (f : Buf (Elt F) (oLoc d)) : BI.Storable (upEmb : UEmb _ 𝕄) (shares m d c f) :=
  have (s : Fin 16) : BI.Storable (upEmb : UEmb _ 𝕄) (share m d c s f) := holding_storable m d (tileAt c s) _ _ _ f
  BI.Storable.bigSep (upEmb : UEmb _ 𝕄) Finset.univ fun s : Fin 16 => share m d c s f

/-- Each core is handed its tiles' holdings, each tile its own; the result's parts come back written. -/
def P : (K (F := F)).Pay (nD := nD) (Val := Elt F) (Name := ℕ) (U := UU) where
  st := fun q d c => match q with | 0 => shares m d (Fin.cast nCore_zero c) (m (oLoc d))
  dn := fun q d c => match q with | 0 => shares m d (Fin.cast nCore_zero c) (result d m)
  go := fun q d c s => match q with | 0 => share m d (Fin.cast nCore_zero c) (Fin.cast nSub_zero s) (m (oLoc d))
  td := fun q d c s => match q with | 0 => share m d (Fin.cast nCore_zero c) (Fin.cast nSub_zero s) (result d m)
  x := fun _ _ => iprop(emp)

instance P_storable : (P (F := F) m).IsStorable where
  st q d c := match q with
    | 0 => (inferInstance : BI.Storable (upEmb : UEmb _ 𝕄) (shares m d (Fin.cast nCore_zero c) (m (oLoc d))))
  dn q d c := match q with
    | 0 => (inferInstance : BI.Storable (upEmb : UEmb _ 𝕄) (shares m d (Fin.cast nCore_zero c) (result d m)))
  go q d c s := match q with
    | 0 => (inferInstance : BI.Storable (upEmb : UEmb _ 𝕄) (share m d (Fin.cast nCore_zero c) (Fin.cast nSub_zero s) (m (oLoc d))))
  td q d c s := match q with
    | 0 => (inferInstance : BI.Storable (upEmb : UEmb _ 𝕄) (share m d (Fin.cast nCore_zero c) (Fin.cast nSub_zero s) (result d m)))

/-- Every device's indices are near their rows. -/
def AllNear : Prop := ∀ d : Dev nD, Near (m (iLoc d))

/-! ## The obligations -/

theorem defs₀_vector (c : Fin τ.nSC) (s : Fin τ.nSub) :
    defs₀ (F := F) (.scVector c s) 0 () = SparseCore.onTile hcore0 hsub0 (fun c s => body (tileAt c s) tileBufs) ⟨⟩ c s := by
  simp only [← printed_eq]
  rfl

theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_run (hN : AllNear m) (d : Dev nD) (c : Fin 2) (s : Fin 16) (O : CellTallies nD τ sig (HIx 1)) (W : Waits sig (HIx 1)) (hO : ∀ g, O g none = 0) :
    iprop(levAts (K (F := F)).L (K (F := F)).lev ∗ emp ∗ share m d c s (m (oLoc d)) ∗ scopedBufs (thr d (tileAt c s)) ∗ scopedSems0 (thr d (tileAt c s))
        ∗ owes (thr d (tileAt c s)) O W) ⊢
      Wp d (tileAt c s) (body (tileAt c s) tileBufs) fun _ => iprop(share m d c s (result d m) ∗ scopedBufs (thr d (tileAt c s)) ∗ scopedSems0 (thr d (tileAt c s))
        ∗ ∃ W', ⌜∀ p ∈ W', p ∈ W ∨ p.2 = none⌝ ∗ owes (thr d (tileAt c s)) O W') := by
  have eb : (scopedBufs (thr d (tileAt c s)) : sProp 𝕄) = ownBufs (thr d (tileAt c s)) := (K (F := F)).scopedBufs_V facts d _ _
  have es : (scopedSems0 (thr d (tileAt c s)) : sProp 𝕄) = ownSems0 (thr d (tileAt c s)) := SparseCore.Cfg.scopedSems0_V (Val := Elt F) d _ _
  rw [eb, es]
  iintro ⟨Hl, -, HP, HB, HS, HO⟩
  iapply (wp_task d (tileAt c s) m O W (hN d) _ _ _ _)
  isplitl [HP]; · iexact HP
  isplitl [HB]; · iexact HB
  isplitl [HS]; · iexact HS
  isplitl [HO]; · iexact HO
  iapply ((K (F := F)).mayWaits_none (thr := thr d (tileAt c s)) hO) $$ Hl

theorem tileObl (hN : AllNear m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_run m hN d (Fin.cast nCore_zero c) (Fin.cast nSub_zero i) O W hO).trans (wp_mono frame _ _ fun _ => task_post)

theorem vecSplit : (K (F := F)).VecSplit' (P m) 0 := by
  intro d c
  show shares m d (Fin.cast nCore_zero c) (m (oLoc d)) ⊢ |={Set.univ}=> iprop(shares m d (Fin.cast nCore_zero c) (m (oLoc d))
    ∗ (shares m d (Fin.cast nCore_zero c) (result d m) -∗ shares m d (Fin.cast nCore_zero c) (result d m)))
  iintro H; imodintro
  isplitl [H]; · iexact H
  iintro H; iexact H

def u₀ : UU := ((initOf (K (F := F)).hsCells (K (F := F)).hsToks,
  initOf (Pipeline.cells (Pipeline.pin (pcfgs (F := F)) Gate.adm) cells_inj) (Pipeline.launchToks (Pipeline.pin (pcfgs (F := F)) Gate.adm) cells_inj)), 1)

theorem ownU_split (a : URounds (GSem nD τ sig) ℕ) (b : URounds (GSem nD τ sig) Unit) :
    (ownU (((a, b), 1) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one 1)))

/-- The pipeline's ghost state on a device. -/
abbrev ghost (d : Dev nD) : sProp 𝕄 :=
  iprop(Pipeline.cellsGhost (Pipeline.pin (pcfgs (F := F)) Gate.adm) EP 0 d ∗ Pipeline.toksInit (Pipeline.pin (pcfgs (F := F)) Gate.adm) EP 0 d)

theorem ghosts : (BI.own (EP (initOf (Pipeline.cells (Pipeline.pin (pcfgs (F := F)) Gate.adm) cells_inj) (Pipeline.launchToks (Pipeline.pin (pcfgs (F := F)) Gate.adm) cells_inj))) : sProp 𝕄)
    ⊢ |==> bigSep Finset.univ fun d : Dev nD => ghost (F := F) d := by
  have h := Pipeline.fund_ghost (Pipeline.pin (pcfgs (F := F)) Gate.adm) (EP (F := F)) cells_inj
  have one (A : Fin 1 → sProp 𝕄) : bigSep Finset.univ A = A 0 := by
    rw [show (Finset.univ : Finset (Fin 1)) = {0} from rfl, bigSep_singleton]
  simp only [one] at h
  unfold ghost
  simp only [one]
  exact h

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  have e2 : (bigSep Finset.univ fun thr : Thread nD τ => bigSep Finset.univ fun q : Fin 1 => (P m).x q thr) = (iprop(emp) : sProp 𝕄) :=
    (bigSep_congr fun _ _ => bigSep_emp_const _).trans (bigSep_emp_const _)
  rw [e2]
  unfold u₀
  iintro Hu
  ihave H := (ownU_split _ _) $$ Hu
  icases H with ⟨HH, HP⟩
  imod ghosts $$ HP with HP
  imodintro
  isplitl [HH]; · iexact HH
  isplitl [HP]; · iexact HP
  iempintro

/-! ## @main -/

/-- The TensorCore's unscoped buffers. -/
def arrays : Finset (DevRef τ sig) := (StableHlo.tcRefs τ sig).filter fun b => ¬ b.isScoped

theorem arrays_held (d : Dev nD) (W : Valuation τ sig (Elt F)) :
    (unscopedBufs d (fun b => W b) : sProp 𝕄) = StableHlo.held (d.tc : Thread nD τ) arrays W := by
  unfold unscopedBufs StableHlo.held arrays StableHlo.tcRefs
  rw [Finset.filter_map, bigSep_map]
  rfl

/-- The arrays the SparseCore call is given. -/
def called : Finset (DevRef τ sig) := {Proc.devRef .tc main_arg0, Proc.devRef .tc main_arg1, Proc.devRef .tc main_arg2, Proc.devRef .tc main_v0}

theorem called_sub : called ⊆ arrays := by decide

theorem called_held (d : Dev nD) (W : Valuation τ sig (Elt F)) : (StableHlo.held (d.tc : Thread nD τ) called W : sProp 𝕄)
    = iprop((xLoc d ↦{fullShare} W main_arg0) ∗ (iLoc d ↦{fullShare} W main_arg1) ∗ (wLoc d ↦{fullShare} W main_arg2) ∗ oLoc d ↦{fullShare} W main_v0) := by
  unfold StableHlo.held called
  rw [SparseCore.bigSep_insert' (by decide), SparseCore.bigSep_insert' (by decide), SparseCore.bigSep_insert' (by decide), bigSep_singleton]

/-- An array read by every tile: what is kept of it. -/
abbrev kept (ℓ : Loc nD τ sig) (f : Buf (Elt F) ℓ) : sProp 𝕄 :=
  iprop((ℓ ↦{shareDrop fullShare 2} f) ∗ bigSep Finset.univ fun c : Fin 2 => ℓ ↦{shareDrop (shareTok fullShare 2 c) 16} f)

/-- An array is what is kept and a share for each tile. -/
theorem deal (ℓ : Loc nD τ sig) (f : Buf (Elt F) ℓ) :
    (ℓ ↦{fullShare} f : sProp 𝕄) ⊢ iprop(kept ℓ f ∗ bigSep Finset.univ fun c : Fin 2 => bigSep Finset.univ fun s : Fin 16 => ℓ ↦{shareOf c s} f) := by
  have all : (bigSep Finset.univ fun c : Fin 2 => ℓ ↦{shareTok fullShare 2 c} f : sProp 𝕄)
      ⊢ bigSep Finset.univ fun c : Fin 2 => iprop((ℓ ↦{shareDrop (shareTok fullShare 2 c) 16} f) ∗ bigSep Finset.univ fun s : Fin 16 => ℓ ↦{shareOf c s} f) :=
    bigSep_mono fun c _ => pointsTo_toks_split _ _
  rw [bigSep_sep'] at all
  iintro H
  ihave H := (pointsTo_toks_split fullShare 2) $$ H
  icases H with ⟨H0, H⟩
  ihave H := all $$ H
  icases H with ⟨H1, H⟩
  isplitr [H]
  · isplitl [H0] <;> iassumption
  iexact H

theorem undeal (ℓ : Loc nD τ sig) (f : Buf (Elt F) ℓ) :
    iprop(kept ℓ f ∗ bigSep Finset.univ fun c : Fin 2 => bigSep Finset.univ fun s : Fin 16 => ℓ ↦{shareOf c s} f) ⊢ (ℓ ↦{fullShare} f : sProp 𝕄) := by
  have all : (bigSep Finset.univ fun c : Fin 2 => iprop((ℓ ↦{shareDrop (shareTok fullShare 2 c) 16} f) ∗ bigSep Finset.univ fun s : Fin 16 => ℓ ↦{shareOf c s} f))
      ⊢ (bigSep Finset.univ fun c : Fin 2 => ℓ ↦{shareTok fullShare 2 c} f : sProp 𝕄) :=
    bigSep_mono fun c _ => pointsTo_toks_join _ _
  rw [bigSep_sep'] at all
  iintro ⟨⟨H0, H1⟩, H⟩
  iapply (pointsTo_toks_join fullShare 2)
  isplitl [H0]; · iexact H0
  iapply all
  isplitl [H1] <;> iassumption

/-- The result is its parts. -/
theorem parts_eq (d : Dev nD) (f : Buf (Elt F) (oLoc d)) :
    (oLoc d ↦{fullShare} f : sProp 𝕄) = bigSep Finset.univ fun c : Fin 2 => bigSep Finset.univ fun s : Fin 16 =>
      bigSep Finset.univ fun n : Fin 8 => oLoc d ↦[piece (tileAt c s) n]{fullShare} f := by
  have e : (oLoc d ↦{fullShare} f : sProp 𝕄) = bigSep Finset.univ fun t : Fin 2 × Fin 16 × Fin 8 => oLoc d ↦[part t]{fullShare} f := by
    rw [← pointsTo_biUnion (ℓ := oLoc d) Finset.univ part part_disjoint, part_cover]
  rw [e, bigSep_univ_prod]
  exact bigSep_congr fun c _ => bigSep_univ_prod _

/-- All the tiles' holdings, from the arrays' shares and the result. -/
theorem shares_eq (d : Dev nD) (f : Buf (Elt F) (oLoc d)) :
    (bigSep Finset.univ fun c : Fin 2 => shares m d c f : sProp 𝕄)
      = iprop((bigSep Finset.univ fun c : Fin 2 => bigSep Finset.univ fun s : Fin 16 => xLoc d ↦{shareOf c s} m (xLoc d))
        ∗ (bigSep Finset.univ fun c : Fin 2 => bigSep Finset.univ fun s : Fin 16 => iLoc d ↦{shareOf c s} m (iLoc d))
        ∗ (bigSep Finset.univ fun c : Fin 2 => bigSep Finset.univ fun s : Fin 16 => wLoc d ↦{shareOf c s} m (wLoc d))
        ∗ oLoc d ↦{fullShare} f) := by
  rw [parts_eq]
  unfold shares share Holding
  simp only [bigSep_sep']

/-! The arrays at @main's start, after the SparseCore call, and after the five operations that make the weights' narrow and
    the biases' two-dimensional forms. -/

abbrev W₀ (d : Dev nD) : Valuation τ sig (Elt F) := fun b => m (d, b)
abbrev W₁ (d : Dev nD) : Valuation τ sig (Elt F) := Function.update (W₀ m d) (Proc.devRef .tc main_v0) (result d m)

abbrev op1 : HloOp τ sig (Elt F) := StableHlo.unary main_arg3 main_v1 ((truncf .bf16 · bitsLt_bf16_f32) : (⟨S256x1024, .f32⟩ : BufTy).Contents (Elt F) → (⟨S256x1024, .bf16⟩ : BufTy).Contents (Elt F))
abbrev op2 : HloOp τ sig (Elt F) := StableHlo.unary main_arg4 main_v2 (broadcastInDim S1x256 ![1] bcast_S256_S1x256_1 : (⟨S256, .f32⟩ : BufTy).Contents (Elt F) → (⟨S1x256, .f32⟩ : BufTy).Contents (Elt F))
abbrev op3 : HloOp τ sig (Elt F) := StableHlo.unary main_arg5 main_v3 ((truncf .bf16 · bitsLt_bf16_f32) : (⟨S1024x256, .f32⟩ : BufTy).Contents (Elt F) → (⟨S1024x256, .bf16⟩ : BufTy).Contents (Elt F))
abbrev op4 : HloOp τ sig (Elt F) := StableHlo.unary main_arg6 main_v4 (broadcastInDim S1x1024 ![1] bcast_S1024_S1x1024_1 : (⟨S1024, .f32⟩ : BufTy).Contents (Elt F) → (⟨S1x1024, .f32⟩ : BufTy).Contents (Elt F))
abbrev op5 : HloOp τ sig (Elt F) := StableHlo.unary main_arg7 main_v5 ((truncf .bf16 · bitsLt_bf16_f32) : (⟨S1024x1024, .f32⟩ : BufTy).Contents (Elt F) → (⟨S1024x1024, .bf16⟩ : BufTy).Contents (Elt F))

def W₂ (d : Dev nD) : Valuation τ sig (Elt F) :=
  (op5 (F := F)).result ((op4 (F := F)).result ((op3 (F := F)).result ((op2 (F := F)).result ((op1 (F := F)).result (W₁ m d)))))

/-- The arrays the gates' call starts from. -/
abbrev entered (d : Dev nD) (b : Ref sig .tc) : Buf (Elt F) ((d.tc : Thread nD τ).loc b) := W₂ m d b

/-- What the TensorCore ends with: every array, after the gates' call. -/
abbrev FIN (d : Dev nD) : sProp 𝕄 := unscopedBufs d (Gate.after d (entered m))

set_option backward.isDefEq.respectTransparency.types false in
/-- @main after the SparseCore call. -/
theorem tail [∀ e, Nonempty (Elt F e)] (d : Dev nD) (Q : PUnit → sProp 𝕄) :
    iprop(boundary (d.tc : Thread nD τ) ∗ StableHlo.held (d.tc : Thread nD τ) arrays (W₁ m d) ∗ Gate.waited (F := F) d ∗ levAts (K (F := F)).L (K (F := F)).lev ∗ ghost (F := F) d
        ∗ (iprop(boundary (d.tc : Thread nD τ) ∗ FIN m d ∗ Gate.waited (F := F) d) -∗ Q ⟨⟩))
      ⊢ wp frame (wpE ((K (F := F)).defs (D (F := F))) 𝒱 (SparseCore.T d) none) Set.univ (do
          hlo rfl (op1 (F := F)) (fun _ => .ret ⟨⟩)
          hlo rfl (op2 (F := F)) (fun _ => .ret ⟨⟩)
          hlo rfl (op3 (F := F)) (fun _ => .ret ⟨⟩)
          hlo rfl (op4 (F := F)) (fun _ => .ret ⟨⟩)
          hlo rfl (op5 (F := F)) (fun _ => .ret ⟨⟩)
          Prog.lift (.customCall (SparseCore.inner (Pipeline.entry 0)) ())
          pure ⟨⟩) Q := by
  simp only [wp_bind, wp_pure]
  iintro ⟨Hb, Hh, HW, Hl, Hg, Hk⟩
  iapply (StableHlo.wp_hlo_within 𝒱 (SparseCore.T d) none Set.univ (S := arrays) (op := op1 (F := F)) (V := W₁ m d) (by rw [StableHlo.unary_bufs]; decide)) $$ [Hb Hh]
  · isplitl [Hb] <;> iassumption
  iintro ⟨Hb, Hh⟩
  rw [wp_ret]; imodintro
  iapply (StableHlo.wp_hlo_within 𝒱 (SparseCore.T d) none Set.univ (S := arrays) (op := op2 (F := F)) (V := (op1 (F := F)).result (W₁ m d)) (by rw [StableHlo.unary_bufs]; decide)) $$ [Hb Hh]
  · isplitl [Hb] <;> iassumption
  iintro ⟨Hb, Hh⟩
  rw [wp_ret]; imodintro
  iapply (StableHlo.wp_hlo_within 𝒱 (SparseCore.T d) none Set.univ (S := arrays) (op := op3 (F := F)) (V := (op2 (F := F)).result ((op1 (F := F)).result (W₁ m d))) (by rw [StableHlo.unary_bufs]; decide)) $$ [Hb Hh]
  · isplitl [Hb] <;> iassumption
  iintro ⟨Hb, Hh⟩
  rw [wp_ret]; imodintro
  iapply (StableHlo.wp_hlo_within 𝒱 (SparseCore.T d) none Set.univ (S := arrays) (op := op4 (F := F)) (V := (op3 (F := F)).result ((op2 (F := F)).result ((op1 (F := F)).result (W₁ m d)))) (by rw [StableHlo.unary_bufs]; decide)) $$ [Hb Hh]
  · isplitl [Hb] <;> iassumption
  iintro ⟨Hb, Hh⟩
  rw [wp_ret]; imodintro
  iapply (StableHlo.wp_hlo_within 𝒱 (SparseCore.T d) none Set.univ (S := arrays) (op := op5 (F := F)) (V := (op4 (F := F)).result ((op3 (F := F)).result ((op2 (F := F)).result ((op1 (F := F)).result (W₁ m d))))) (by rw [StableHlo.unary_bufs]; decide)) $$ [Hb Hh]
  · isplitl [Hb] <;> iassumption
  iintro ⟨Hb, Hh⟩
  rw [wp_ret]; imodintro
  ihave Hu := (show StableHlo.held (SparseCore.T d) arrays ((op5 (F := F)).result ((op4 (F := F)).result ((op3 (F := F)).result ((op2 (F := F)).result ((op1 (F := F)).result (W₁ m d))))))
    ⊢ (unscopedBufs d (entered m d) : sProp 𝕄) from Entails.of_eq (arrays_held d (W₂ m d)).symm) $$ Hh
  iapply ((K (F := F)).wp_liftProg (D (F := F)) 𝒱 (SparseCore.T d) Set.univ none (Prog.lift (.customCall (Pipeline.entry 0) ())) _)
  iapply (Pipeline.RegionSeg.wp (pcfgs (F := F)) Gate.adm (Gate.pdats (entered m)) none cells_inj EP defs₀ Variants.none (K (F := F)).L (K (F := F)).lev
    (Gate.reg (entered m)) d none (fun _ h => nomatch h) Prog.ret _)
  isplitl [Hk]
  · iintro ⟨Hb, H⟩
    ihave H := (show (Gate.reg (entered m)).post d ⊢ iprop(FIN m d ∗ Gate.waited (F := F) d) from .rfl) $$ H
    icases H with ⟨Hu, HW⟩
    rw [wp_ret]; imodintro; imodintro
    iapply Hk
    isplitl [Hb]; · iexact Hb
    isplitl [Hu] <;> iassumption
  isplitl [Hb]; · iexact Hb
  isplitl [Hu HW]
  · iapply (show iprop(unscopedBufs d (entered m d) ∗ Gate.waited (F := F) d) ⊢ (Gate.reg (entered m)).pre d from .rfl)
    isplitl [Hu] <;> iassumption
  isplitl [Hl] <;> iassumption

theorem arrays_after_call (d : Dev nD) : (StableHlo.held (d.tc : Thread nD τ) arrays (W₁ m d) : sProp 𝕄)
    = iprop(((xLoc d ↦{fullShare} m (xLoc d)) ∗ (iLoc d ↦{fullShare} m (iLoc d)) ∗ (wLoc d ↦{fullShare} m (wLoc d)) ∗ oLoc d ↦{fullShare} result d m)
      ∗ StableHlo.held (d.tc : Thread nD τ) (arrays \ called) (W₀ m d)) := by
  rw [StableHlo.held_sub_split _ called_sub, called_held]
  congr 1

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have st0 : (bigSep Finset.univ fun c : Fin ((K (F := F)).nCore 0) => (P m).st 0 d c) = (bigSep Finset.univ fun c : Fin 2 => shares m d c (m (oLoc d)) : sProp 𝕄) := rfl
  have dn0 : (bigSep Finset.univ fun c : Fin ((K (F := F)).nCore 0) => (P m).dn 0 d c) = (bigSep Finset.univ fun c : Fin 2 => shares m d c (result d m) : sProp 𝕄) := rfl
  have none_owed : (K (F := F)).Otc (N := 1) d 1 = 0 := (K (F := F)).Otc_end d le_rfl
  have start : (unscopedBufs d (fun b => m ((SparseCore.T d).loc b)) : sProp 𝕄)
      = iprop(((xLoc d ↦{fullShare} m (xLoc d)) ∗ (iLoc d ↦{fullShare} m (iLoc d)) ∗ (wLoc d ↦{fullShare} m (wLoc d)) ∗ oLoc d ↦{fullShare} m (oLoc d))
        ∗ StableHlo.held (d.tc : Thread nD τ) (arrays \ called) (W₀ m d)) :=
    (arrays_held d (W₀ m d)).trans (by rw [StableHlo.held_sub_split _ called_sub, called_held])
  unfold SparseCore.Cfg.tcRes SparseCore.Cfg.tcEnd
  rw [start]
  unfold main
  rw [wp_bind]
  iintro ⟨#Hctx, Hst, ⟨Hb, ⟨⟨Hx, Hi, Hw, Ho⟩, Hrest⟩, Hts, -⟩, Hg⟩
  ihave #Hl := (SparseCore.Cfg.ctx_levAts κ) $$ Hctx
  ihave Hx := (deal (xLoc d) (m (xLoc d))) $$ Hx
  icases Hx with ⟨Hx, Hx'⟩
  ihave Hi := (deal (iLoc d) (m (iLoc d))) $$ Hi
  icases Hi with ⟨Hi, Hi'⟩
  ihave Hw := (deal (wLoc d) (m (wLoc d))) $$ Hw
  icases Hw with ⟨Hw, Hw'⟩
  iapply ((K (F := F)).wp_run (D (F := F)) 𝒱 (EH := EH) (P := P m) κ d 0) $$ [Hst Hx Hi Hw Hx' Hi' Hw' Ho Hb Hts Hrest Hg]
  isplitr; · iexact Hctx
  isplitl [Hst]; · iexact Hst
  isplitl [Hx' Hi' Hw' Ho]
  · rw [st0, shares_eq]
    isplitl [Hx']; · iexact Hx'
    isplitl [Hi']; · iexact Hi'
    isplitl [Hw']; · iexact Hw'
    iexact Ho
  iintro ⟨Hst, Hdn⟩
  ihave Hdn := (Entails.of_eq (dn0.trans (shares_eq m d (result d m)))) $$ Hdn
  icases Hdn with ⟨Hx', Hi', Hw', Ho⟩
  ihave Hx := (undeal (xLoc d) (m (xLoc d))) $$ [Hx Hx']
  · isplitl [Hx] <;> iassumption
  ihave Hi := (undeal (iLoc d) (m (iLoc d))) $$ [Hi Hi']
  · isplitl [Hi] <;> iassumption
  ihave Hw := (undeal (wLoc d) (m (wLoc d))) $$ [Hw Hw']
  · isplitl [Hw] <;> iassumption
  unfold SparseCore.Cfg.tcSt
  icases Hst with ⟨⟨%W, %hW, HO⟩, Hst⟩
  iapply (tail m d)
  isplitl [Hb]; · iexact Hb
  isplitl [Hx Hi Hw Ho Hrest]
  · rw [arrays_after_call]
    isplitr [Hrest]; swap; · iexact Hrest
    isplitl [Hx]; · iexact Hx
    isplitl [Hi]; · iexact Hi
    isplitl [Hw]; · iexact Hw
    iexact Ho
  isplitl [HO]
  · iexists W; isplitr; · ipureintro; exact hW
    iapply (show (owes (SparseCore.T d) ((K (F := F)).Otc (N := 1) d ((0 : Fin 1).val + 1)) W : sProp 𝕄) ⊢ owes (SparseCore.T d) 0 W
      from Entails.of_eq (congrArg (fun O => (owes (SparseCore.T d) O W : sProp 𝕄)) none_owed)) $$ HO
  isplitr; · iexact Hl
  isplitl [Hg]; · iexact Hg
  iintro ⟨Hb, Hfin, %W', %hW', HO⟩
  isplitl [Hst HO]
  · isplitl [HO]
    · iexists W'; isplitr; · ipureintro; exact hW'
      iapply (Entails.of_eq (congrArg (fun O => (owes (SparseCore.T d) O W' : sProp 𝕄)) none_owed).symm) $$ HO
    iexact Hst
  isplitl [Hfin]; · iexact Hfin
  isplitl [Hb] <;> iassumption

/-- What the final memory holds. -/
def fq (d : Dev nD) (s' : Phys nD τ sig (Elt F)) : Prop :=
  ∀ b : Ref sig .tc, ¬ b.isScoped → s'.mem.mem ((d.tc : Thread nD τ).loc b) = Gate.after d (entered m) b

theorem hfin (d : Dev nD) (s' : Phys nD τ sig (Elt F)) : iprop(FIN m d ∗ SI s') ⊢ (⌜fq m d s'⌝ : sProp 𝕄) := by
  unfold FIN unscopedBufs
  iintro H
  ihave H := (pointsTo_read_all (Finset.univ.filter fun b : Ref sig .tc => ¬ b.isScoped) (fun b => (d.tc : Thread nD τ).loc b) (Gate.after d (entered m)) s') $$ H
  icases H with ⟨%h, -⟩
  ipureintro; exact fun b hb => h b (Finset.mem_filter.mpr ⟨Finset.mem_univ _, hb⟩)

/-- Every array as the gates' call leaves it, every semaphore at zero. -/
def QC : PUnit × MemSt nD τ sig (Elt F) → Prop := fun r =>
  (∀ (d : Dev nD) (b : Ref sig .tc), ¬ b.isScoped → r.2.mem ((d.tc : Thread nD τ).loc b) = Gate.after d (entered m) b)
    ∧ r.2.sem = fun _ => 0

theorem run_main [∀ e, Nonempty (Elt F e)] (hN : AllNear m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hN)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

end Cert.Tile
-- ==== Proof.Formula.lean ====
/- The gates of one gathered row, over the extended reals: both programs' arithmetic, element by element. -/
module

public import Idealize.ShloMosaic.PureOps.Ideal.Laws
public import Idealize.ShloMosaic.Lib.IdealHost
public import Idealize.ShloMosaic.Lib.MatmulPlain
public import Idealize.ShloMosaic.Lib.StackMember
public import Idealize.ShloMosaic.Lib.KernelVsHost
public import Idealize.ShloMosaic.Lib.Pipeline.Value
public import Idealize.ShloMosaic.Lib.ValueIdx

@[expose] public section

noncomputable section

namespace Cert.Gate

open Idealize.ShloMosaic
open Idealize.ShloMosaic.ValueIdx (ix2)

/-! ## One row -/

section Row

variable (x : Fin 1024 → EReal) (w1 : Fin 256 → Fin 1024 → EReal) (b1 : Fin 256 → EReal) (w2 : Fin 1024 → Fin 256 → EReal) (b2 : Fin 1024 → EReal)
  (wo : Fin 1024 → Fin 1024 → EReal)

/-- a · sigmoid a. -/
def swish (a : EReal) : EReal := a * Ideal.logistic a

/-- The memory gate's hidden unit `j`. -/
def hidden (j : Fin 256) : EReal := swish ((∑ k, x k * w1 j k) + b1 j)

/-- The memory gate at column `c`. -/
def gateAt (c : Fin 1024) : EReal := Ideal.logistic ((∑ j, hidden x w1 b1 j * w2 c j) + b2 c)

/-- The row's result at column `c`: the gated row, projected, by its own sigmoid. -/
def outAt (c : Fin 1024) : EReal := swish (∑ k, (x k * gateAt x w1 b1 w2 b2 k) * wo c k)

end Row

/-! ## The operations at an element -/

variable {s : Shape}

theorem mulf_of {x y : FVec Ideal s .f32} {i : s.Idx} {a b : EReal} (hx : x i = a) (hy : y i = b) : mulf x y i = a * b := by
  subst hx hy; rfl

theorem addf_of {x y : FVec Ideal s .f32} {i : s.Idx} {a b : EReal} (hx : x i = a) (hy : y i = b) : addf x y i = a + b := by
  subst hx hy; rfl

theorem logistic_of {x : FVec Ideal s .f32} {i : s.Idx} {a : EReal} (hx : x i = a) : logistic x i = Ideal.logistic a := by
  subst hx; rfl

/-- The sigmoid as the reference writes it: one, by one and the exponential of minus the argument. -/
theorem sigmoid_of {x o p : FVec Ideal s .f32} {i : s.Idx} {a : EReal} (ho : o i = (FloatOps.ofBits .f32 0x3F800000#32 : Ideal .f32))
    (hp : p i = (FloatOps.ofBits .f32 0x3F800000#32 : Ideal .f32)) (hx : x i = a) :
    Host.divf o (addf p (Host.exp (Host.negf x))) i = Ideal.logistic a := by
  have e : (FloatOps.ofBits .f32 0x3F800000#32 : Ideal .f32) = (1 : EReal) := Ideal.ofBits_one_f32
  rw [e] at ho hp
  subst hx
  show Ideal.div (o i) ((p i : EReal) + Ideal.exp (-(x i : EReal))) = _
  rw [ho, hp]
  rfl

/-- The kernel's product of rows by rows. -/
theorem rows_of {M K N : ℕ} {φ₁ φ₂ : FTy} {A : FVec Ideal ⟨2, ![M, K]⟩ φ₁} {B : FVec Ideal ⟨2, ![N, K]⟩ φ₂} (r : Fin M) (c : Fin N)
    {a b : Fin K → EReal} (ha : ∀ k, A (ix2 r k) = a k) (hb : ∀ k, B (ix2 c k) = b k) :
    matmul (DotDims.transposedRhs M K N) none A B (constant ⟨2, ![M, N]⟩ .f32 0x00000000#32) (ix2 r c) = ∑ k, a k * b k := by
  refine (Ideal.matmul_transposedRhs_apply none A B _ r c).trans ?_
  rw [show (constant ⟨2, ![M, N]⟩ .f32 0x00000000#32 : FVec Ideal ⟨2, ![M, N]⟩ .f32) (ix2 r c) = (0 : EReal) from Ideal.ofBits_zero_f32, zero_add]
  exact Finset.sum_congr rfl fun k _ => congrArg₂ (fun u v : EReal => u * v) (ha k) (hb k)

/-- The reference's product, the right factor transposed before. -/
theorem host_of {M K N : ℕ} {φ₁ φ₂ : FTy} {A : FVec Ideal ⟨2, ![M, K]⟩ φ₁} {B : FVec Ideal ⟨2, ![N, K]⟩ φ₂}
    (ht : (⟨2, ![N, K]⟩ : Shape).Transposes [1, 0] ⟨2, ![K, N]⟩) (r : Fin M) (c : Fin N)
    {a b : Fin K → EReal} (ha : ∀ k, A (ix2 r k) = a k) (hb : ∀ k, B (ix2 c k) = b k) :
    Host.dotGeneral (DotDims.plain M K N) none A (transpose ⟨2, ![K, N]⟩ [1, 0] B ht) (ix2 r c) = ∑ k, a k * b k := by
  refine (StackMember.dotGeneral_plain_apply none A _ r c).trans ?_
  refine Finset.sum_congr rfl fun k _ => congrArg₂ (fun u v : EReal => u * v) (ha k) ((transpose_apply _ _ _ (ix2 k c) (ix2 c k) ?_).trans (hb k))
  intro a
  match a with
  | ⟨0, _⟩ => rfl
  | ⟨1, _⟩ => rfl

end Cert.Gate
-- ==== Proof.Gated.lean ====
/- The result's array after the gates' call, element by element. -/
module

public import proofs.«01_k».proof.Proof.Gate
public import proofs.«01_k».proof.Proof.Formula
public import Idealize.ShloMosaic.Lib.Pipeline.ValueKit.Geometry

@[expose] public section

noncomputable section

namespace Cert.Gate

open Cert.KernelIdeal Cert.KernelIdeal.Gen
open Idealize.ShloMosaic
open Idealize.ShloMosaic.TcCoe
open Idealize.ShloMosaic.Pipeline (Dat Cfg Window)

/-- A bias, the same for all rows. -/
theorem bias_at {M N : ℕ} (b : FVec Ideal ⟨2, ![1, N]⟩ .f32) (h : (⟨2, ![1, N]⟩ : Shape).Broadcasts ⟨2, ![M, N]⟩) (r : Fin M) (c : Fin N) (hN : N ≠ 1) :
    broadcastTo ⟨2, ![M, N]⟩ b h (ValueIdx.ix2 r c) = b (ValueIdx.ix2 0 c) := by
  refine broadcastTo_apply b h (ValueIdx.ix2 r c) (ValueIdx.ix2 0 c) fun a => ?_
  match a with
  | ⟨0, _⟩ => rfl
  | ⟨1, _⟩ => exact (if_neg hN).symm

/-- What the body computes, at row `r` and column `c` of its block. -/
theorem gateBlock_at (X : FVec Ideal S256x1024 .f32) (W1 : FVec Ideal S256x1024 .bf16) (B1 : FVec Ideal S1x256 .f32) (W2 : FVec Ideal S1024x256 .bf16)
    (B2 : FVec Ideal S1x1024 .f32) (Wo : FVec Ideal S1024x1024 .bf16) (r : Fin 256) (c : Fin 1024) :
    gateBlock X W1 B1 W2 B2 Wo (ValueIdx.ix2 r c)
      = outAt (fun k => X (ValueIdx.ix2 r k)) (fun j k => W1 (ValueIdx.ix2 j k)) (fun j => B1 (ValueIdx.ix2 0 j)) (fun k j => W2 (ValueIdx.ix2 k j)) (fun k => B2 (ValueIdx.ix2 0 k))
        (fun o k => Wo (ValueIdx.ix2 o k)) c := by
  have hh (j : Fin 256) := addf_of (rows_of (M := 256) (K := 1024) (N := 256) (A := truncf .bf16 X bitsLt_bf16_f32) (B := W1) r j (fun k => rfl) (fun k => rfl))
    (bias_at B1 broadcasts_S1x256_S256x256 r j (by decide))
  have hg (k : Fin 1024) := logistic_of (addf_of (rows_of (M := 256) (K := 256) (N := 1024) (φ₁ := .bf16) (B := W2) r k (fun j => mulf_of (hh j) (logistic_of (hh j))) (fun j => rfl))
    (bias_at B2 broadcasts_S1x1024_S256x1024 r k (by decide)))
  have ho := rows_of (M := 256) (K := 1024) (N := 1024) (φ₁ := .bf16) (B := Wo) r c (fun k => mulf_of (rfl : X (ValueIdx.ix2 r k) = X (ValueIdx.ix2 r k)) (hg k)) (fun k => rfl)
  exact mulf_of ho (logistic_of ho)

section
variable {F : FTy → Type} [FloatOps F] (c : Dev nD) (V : (c : Dev nD) → (b : Ref sig .tc) → Buf (Elt F) ((c : Thread nD τ).loc b))

theorem idx0 : ∀ t : Fin cfg1.N, win1_0.index t = ![t.val, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![0, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, win1_5.index t = ![0, 0] := (by decide +kernel : ∀ t : Fin grid1.N, _)
theorem idx6 : ∀ t : Fin cfg1.N, win1_6.index t = ![t.val, 0] := (by decide +kernel : ∀ t : Fin grid1.N, _)

theorem lt8 (t : Fin cfg1.N) : t.val < 8 := (N_1 : cfg1.N = 8) ▸ t.isLt

/-- Window 0's block at point `t` is the gathered rows 256·t … 256·t + 255. -/
theorem in0 (t : Fin cfg1.N) (r : Fin 256) (k : Fin 1024) :
    blkOf c V 0 t (ValueIdx.ix2 r k) = V c main_v0 (ValueIdx.ix2 ⟨t.val * 256 + r.val, by have := lt8 t; omega⟩ k) := by
  show V c main_v0 ((win1_0.blk t).view.emb (ValueIdx.ix2 r k)) = _
  refine congrArg (V c main_v0) (funext fun a => Fin.ext ?_)
  match a with
  | ⟨0, _⟩ => blk_simp [idx0]
  | ⟨1, _⟩ => blk_simp [idx0]

/-- Windows 1 to 5 hold whole arrays. -/
theorem in1 (t : Fin cfg1.N) (j : Fin 256) (k : Fin 1024) : blkOf c V 1 t (ValueIdx.ix2 j k) = V c main_v1 (ValueIdx.ix2 j k) := by
  show V c main_v1 ((win1_1.blk t).view.emb (ValueIdx.ix2 j k)) = _
  refine congrArg (V c main_v1) (funext fun a => Fin.ext ?_)
  match a with
  | ⟨0, _⟩ => blk_simp [idx1]
  | ⟨1, _⟩ => blk_simp [idx1]
theorem in2 (t : Fin cfg1.N) (j : Fin 256) : blkOf c V 2 t (ValueIdx.ix2 (0 : Fin 1) j) = V c main_v2 (ValueIdx.ix2 (0 : Fin 1) j) := by
  show V c main_v2 ((win1_2.blk t).view.emb (ValueIdx.ix2 (0 : Fin 1) j)) = _
  refine congrArg (V c main_v2) (funext fun a => Fin.ext ?_)
  match a with
  | ⟨0, _⟩ => blk_simp [idx2]
  | ⟨1, _⟩ => blk_simp [idx2]
theorem in3 (t : Fin cfg1.N) (k : Fin 1024) (j : Fin 256) : blkOf c V 3 t (ValueIdx.ix2 k j) = V c main_v3 (ValueIdx.ix2 k j) := by
  show V c main_v3 ((win1_3.blk t).view.emb (ValueIdx.ix2 k j)) = _
  refine congrArg (V c main_v3) (funext fun a => Fin.ext ?_)
  match a with
  | ⟨0, _⟩ => blk_simp [idx3]
  | ⟨1, _⟩ => blk_simp [idx3]
theorem in4 (t : Fin cfg1.N) (k : Fin 1024) : blkOf c V 4 t (ValueIdx.ix2 (0 : Fin 1) k) = V c main_v4 (ValueIdx.ix2 (0 : Fin 1) k) := by
  show V c main_v4 ((win1_4.blk t).view.emb (ValueIdx.ix2 (0 : Fin 1) k)) = _
  refine congrArg (V c main_v4) (funext fun a => Fin.ext ?_)
  match a with
  | ⟨0, _⟩ => blk_simp [idx4]
  | ⟨1, _⟩ => blk_simp [idx4]
theorem in5 (t : Fin cfg1.N) (o k : Fin 1024) : blkOf c V 5 t (ValueIdx.ix2 o k) = V c main_v5 (ValueIdx.ix2 o k) := by
  show V c main_v5 ((win1_5.blk t).view.emb (ValueIdx.ix2 o k)) = _
  refine congrArg (V c main_v5) (funext fun a => Fin.ext ?_)
  match a with
  | ⟨0, _⟩ => blk_simp [idx5]
  | ⟨1, _⟩ => blk_simp [idx5]

end

variable (c : Dev nD) (V : (c : Dev nD) → (b : Ref sig .tc) → Buf (Elt Ideal) ((c : Thread nD τ).loc b))

/-- The row's formula, over the arrays at entry. -/
def rowOut (y : S2048x1024.Idx) : EReal :=
  outAt (fun k => V c main_v0 (ValueIdx.ix2 (y 0) k)) (fun j k => V c main_v1 (ValueIdx.ix2 j k)) (fun j => V c main_v2 (ValueIdx.ix2 (0 : Fin 1) j))
    (fun k j => V c main_v3 (ValueIdx.ix2 k j)) (fun k => V c main_v4 (ValueIdx.ix2 (0 : Fin 1) k)) (fun o k => V c main_v5 (ValueIdx.ix2 o k)) (y 1)

theorem leaves_at (t : Fin cfg1.N) (r : Fin 256) (k : Fin 1024) :
    leaves c V t (ValueIdx.ix2 r k) = rowOut c V (ValueIdx.ix2 ⟨t.val * 256 + r.val, by have := lt8 t; omega⟩ k) := by
  refine (gateBlock_at _ _ _ _ _ _ r k).trans ?_
  simp only [in0, in1, in2, in3, in4, in5]
  rfl

/-- The result's array after the call: the formula of every row. -/
theorem gated_eq : gated c V = rowOut c V := by
  refine (dat c V).arrAt_eq_of_covers 6 _ (by decide +kernel) fun t hf y => ?_
  show leaves c V t y = rowOut c V ((win1_6.blk t).view.emb y)
  rw [ValueIdx.eq_ix2 y]
  refine (leaves_at c V t (y 0) (y 1)).trans (congrArg (rowOut c V) (funext fun a => Fin.ext ?_))
  match a with
  | ⟨0, _⟩ => blk_simp [idx6]
  | ⟨1, _⟩ => blk_simp [idx6]

end Cert.Gate
-- ==== Proof.Reference.lean ====
/- The reference's result, element by element: the same sum over the 33 samples, and the same gates. -/
module

public import proofs.«01_k».proof.Proof.Where
public import proofs.«01_k».proof.Proof.Formula
public import proofs.«01_k».proof.Proof.Gen.ReferenceIdeal.Run
public import Idealize.ShloMosaic.PureOps.Ideal.Laws
public import Idealize.ShloMosaic.Lib.Pipeline.Value
public import Idealize.ShloMosaic.Lib.ValueIdx

@[expose] public section

noncomputable section

namespace Cert.Tile

open Cert.ReferenceIdeal Cert.ReferenceIdeal.Gen
open Idealize.ShloMosaic
open Idealize.ShloMosaic.ValueIdx (eq_zero_of_ne_one select_zero)

/-- The index of sample `s` of row `r`, as the reference reads it: a negative one is counted from the end. -/
abbrev refIdx (I : IVec S2048x48 32) : IVec S2048x33x1 32 :=
  broadcastInDim S2048x33x1 ![0, 1] bcast_S2048x33_S2048x33x1_0_1 (select
    (cmpi .slt (extractStridedSlice S2048x33 ![0, 0] I slices_S2048x48_S2048x33_0_0) (broadcastInDim S2048x33 ![] bcast_S_S2048x33 (constantI S_ 32 0#32)))
    (addi (extractStridedSlice S2048x33 ![0, 0] I slices_S2048x48_S2048x33_0_0) (broadcastInDim S2048x33 ![] bcast_S_S2048x33 (constantI S_ 32 2048#32)))
    (extractStridedSlice S2048x33 ![0, 0] I slices_S2048x48_S2048x33_0_0))

/-- The gathered rows, split over the heads. -/
abbrev refRows (X : FVec Ideal S2048x1024 .f32) (J : IVec S2048x33x1 32) : FVec Ideal S2048x16x33x64 .f32 :=
  transpose S2048x16x33x64 [0, 2, 1, 3]
    (shapeCast _ (Host.gather gather_S2048x1024_S2048x33x1_S2048x33x1024_2_0_n_n_0_2_11024 X J) shapeCasts_S2048x33x1024_S2048x33x16x64)
    transposes_S2048x33x16x64_S2048x16x33x64_0_2_1_3

/-- The weights, the same for all columns of a head. -/
abbrev refWts (Wt : FVec Ideal S2048x768 .f32) : FVec Ideal S2048x16x33x64 .f32 :=
  broadcastInDim S2048x16x33x64 ![0, 1, 2, 3] bcast_S2048x16x33x1_S2048x16x33x64_0_1_2_3 (broadcastInDim S2048x16x33x1 ![0, 1, 2] bcast_S2048x16x33_S2048x16x33x1_0_1_2
    (extractStridedSlice S2048x16x33 ![0, 0, 0] (shapeCast _ Wt shapeCasts_S2048x768_S2048x16x48) slices_S2048x16x48_S2048x16x33_0_0_0))

/-- The reference's result. -/
abbrev refOf (X : FVec Ideal S2048x1024 .f32) (I : IVec S2048x48 32) (Wt : FVec Ideal S2048x768 .f32) : FVec Ideal S2048x1024 .f32 :=
  shapeCast _ (Host.reduceAdd (mulf (refRows X (refIdx I)) (refWts Wt)) (constant S_ .f32 0x00000000#32) reducesTo_S2048x16x33x64_S2048x16x64_d2 h_S_)
    shapeCasts_S2048x16x64_S2048x1024

variable (X : FVec Ideal S2048x1024 .f32) (I : IVec S2048x48 32) (Wt : FVec Ideal S2048x768 .f32)

/-- A sum from zero, term after term, is the finite sum. -/
theorem dot_eq_sum (w x : ℕ → Ideal .f32) (n : ℕ) :
    dot (F := Ideal) w x n = ((FloatOps.ofBits .f32 0x00000000#32 : Ideal .f32) : EReal) + ∑ s : Fin n, (w s : EReal) * (x s : EReal) := by
  rw [Fin.sum_univ_eq_sum_range fun s => (w s : EReal) * (x s : EReal)]
  induction n with
  | zero => rw [Finset.sum_range_zero, add_zero]; rfl
  | succ n ih =>
    rw [Finset.sum_range_succ, ← add_assoc, ← ih]
    rfl

/-- The gather read at row `r`, sample `s`, column `c`: the row the index names, kept inside the sequence. -/
theorem gather_at (J : IVec S2048x33x1 32) (r : Fin 2048) (s : Fin 33) (c : Fin 1024) :
    Host.gather gather_S2048x1024_S2048x33x1_S2048x33x1024_2_0_n_n_0_2_11024 X J (ix3 r s c)
      = X (ix2 ⟨min (J (ix3 r s 0)).toInt.toNat 2047, by omega⟩ c) := by
  let D := gather_S2048x1024_S2048x33x1_S2048x33x1024_2_0_n_n_0_2_11024
  show X (D.operandIdx (ix3 r s c) J) = _
  congr 1
  funext a
  refine Fin.ext ?_
  show D.start (ix3 r s c) J a + D.batchCoord (ix3 r s c) a + D.offCoord (ix3 r s c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ D.startIndexMap from List.mem_singleton.mpr rfl)]
    have hsi : D.siIdx (ix3 r s c) ⟨List.idxOf (0 : Fin 2) D.startIndexMap, List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl
  · have h0 : D.start (ix3 r s c) J 1 = 0 := by
      unfold GatherDims.start
      rw [dif_neg (show (1 : Fin 2) ∉ D.startIndexMap from fun h => absurd (List.mem_singleton.mp h) (by decide))]
    rw [h0, Nat.zero_add]
    unfold GatherDims.offCoord
    rw [dif_pos (show (1 : Fin 2) ∈ D.sKept from (GatherDims.mem_sKept _ _).mpr
      ⟨fun h => absurd (List.mem_singleton.mp h) (by decide), List.not_mem_nil⟩)]
    rfl

/-- An index inside the sequence is read as it is. -/
theorem refIdx_at (h : Near I) (r : Fin 2048) (s : Fin 33) : refIdx I (ix3 r s 0) = I (at2 r s) := by
  have e : extractStridedSlice S2048x33 ![0, 0] I slices_S2048x48_S2048x33_0_0 (ix2 r s) = I (at2 r s) := by
    unfold extractStridedSlice
    exact congrArg I (at2_eq _ _ _ (Nat.zero_add _) (Nat.zero_add _))
  refine (broadcastInDim_apply ![0, 1] bcast_S2048x33_S2048x33x1_0_1 _ (ix3 r s 0) (ix2 r s) ?_).trans ?_
  · intro a
    match a with
    | ⟨0, _⟩ => rfl
    | ⟨1, _⟩ => rfl
  · obtain ⟨h1, -, -⟩ := h r r.isLt s (by omega)
    show Scalar.select (IntOp.cmpi .slt (extractStridedSlice S2048x33 ![0, 0] I slices_S2048x48_S2048x33_0_0 (ix2 r s)) 0#32) _
      (extractStridedSlice S2048x33 ![0, 0] I slices_S2048x48_S2048x33_0_0 (ix2 r s)) = _
    rw [e]
    have hn : IntOp.cmpi .slt (I (at2 r s)) 0#32 = 0#1 := by
      refine eq_zero_of_ne_one fun hc => ?_
      simp only [IntOp.cmpi, BitVec.slt_eq_decide, BitVec.toInt_eq_toNat_cond, BitVec.toNat_ofNat] at hc
      rw [decide_eq_false (by omega)] at hc
      exact absurd hc (by decide)
    rw [hn, select_zero]

theorem refRows_at (h : Near I) (r : Fin 2048) (g : Fin 16) (s : Fin 33) (c : Fin 64) :
    refRows X (refIdx I) (ix4 r g s c) = X (at2 (I (at2 r s)).toNat (64 * g + c)) := by
  obtain ⟨h1, -, -⟩ := h r r.isLt s (by omega)
  have hi : (refIdx I (ix3 r s 0)).toInt.toNat = (I (at2 r s)).toNat := by
    rw [refIdx_at I h, BitVec.toInt_eq_toNat_cond]
    omega
  refine (transpose_apply _ _ _ (ix4 r g s c) (ix4 r s g c) ?_).trans ?_
  · intro k
    match k with
    | ⟨0, _⟩ => rfl
    | ⟨1, _⟩ => rfl
    | ⟨2, _⟩ => rfl
    | ⟨3, _⟩ => rfl
  refine (shapeCast_apply _ _ (ix4 r s g c) (ix3 r s ⟨64 * g + c, by omega⟩) ?_).trans ?_
  · rw [Shape.rowMajor_val_three, Shape.rowMajor_val_four]
    show (r.val * 33 + s.val) * 1024 + (64 * g.val + c.val) = ((r.val * 33 + s.val) * 16 + g.val) * 64 + c.val
    omega
  rw [gather_at]
  refine congrArg X (at2_eq _ _ _ ?_ rfl)
  show min _ 2047 = _
  rw [hi]
  omega

theorem refWts_at (r : Fin 2048) (g : Fin 16) (s : Fin 33) (c : Fin 64) : refWts Wt (ix4 r g s c) = Wt (at2 r (48 * g + s)) := by
  refine (broadcastInDim_apply _ _ _ (ix4 r g s c) (ix4 r g s 0) ?_).trans ?_
  · intro a
    match a with
    | ⟨0, _⟩ => rfl
    | ⟨1, _⟩ => rfl
    | ⟨2, _⟩ => rfl
    | ⟨3, _⟩ => rfl
  refine (broadcastInDim_apply _ _ _ (ix4 r g s 0) (ix3 r g s) ?_).trans ?_
  · intro a
    match a with
    | ⟨0, _⟩ => rfl
    | ⟨1, _⟩ => rfl
    | ⟨2, _⟩ => rfl
  refine (shapeCast_apply _ _ _ (ix2 r ⟨48 * g + s, by omega⟩) ?_).trans (congrArg Wt (at2_eq _ _ _ rfl rfl))
  rw [Shape.rowMajor_val_two, Shape.rowMajor_val_three]
  show r.val * 768 + (48 * g.val + s.val) = ((0 + r.val) * 16 + (0 + g.val)) * 48 + (0 + s.val)
  omega

/-- The reference's result at an element is the weighted sum. -/
theorem refOf_at (h : Near I) (y : S2048x1024.Idx) : refOf X I Wt y = sumAt (F := Ideal) X I Wt (y 0).val (y 1).val := by
  have hy1 : (y 1).val < 1024 := (y 1).isLt
  have hred : S2048x16x33x64.Reduces [2] S2048x16x64 := by decide
  let r : Fin 2048 := y 0
  let g : Fin 16 := ⟨(y 1).val / 64, by omega⟩
  let c : Fin 64 := ⟨(y 1).val % 64, by omega⟩
  refine (shapeCast_apply _ _ y (ix3 r g c) ?_).trans ?_
  · rw [Shape.rowMajor_val_three, Shape.rowMajor_val_two]
    show (r.val * 16 + (y 1).val / 64) * 64 + (y 1).val % 64 = r.val * 1024 + (y 1).val
    omega
  refine (Ideal.hostReduceAdd_single reducesTo_S2048x16x33x64_S2048x16x64_d2 hred _ _ (ix3 r g c)).trans ?_
  unfold sumAt
  rw [dot_eq_sum]
  refine congrArg₂ _ rfl (Finset.sum_congr rfl fun (s : Fin 33) _ => ?_)
  have hl : hred.lift (ix3 r g c) s = ix4 r g s c := by
    funext a; refine Fin.ext ?_
    match a with
    | ⟨0, _⟩ => rfl
    | ⟨1, _⟩ => rfl
    | ⟨2, _⟩ => rfl
    | ⟨3, _⟩ => rfl
  rw [hl]
  refine (congrArg₂ (fun a b : EReal => a * b) (refRows_at X I h r g s c) (refWts_at Wt r g s c)).trans ((mul_comm _ _).trans ?_)
  have e : 64 * ((y 1).val / 64) + (y 1).val % 64 = (y 1).val := Nat.div_add_mod _ _
  show (Wt (at2 r (48 * ((y 1).val / 64) + s)) : EReal) * (X (at2 (I (at2 r s)).toNat (64 * ((y 1).val / 64) + (y 1).val % 64)) : EReal) = _
  rw [e]

/-! ## The gates -/

/-- 1 / (1 + exp (-x)), as the reference writes it. -/
abbrev refSigmoid {s : Shape} (h : S_.BroadcastsInDim s (![] : Fin 0 → Fin s.rank)) (x : FVec Ideal s .f32) : FVec Ideal s .f32 :=
  Host.divf (broadcastInDim s ![] h (constant S_ .f32 0x3F800000#32)) (addf (broadcastInDim s ![] h (constant S_ .f32 0x3F800000#32)) (Host.exp (Host.negf x)))

/-- The memory gate's first layer, before its sigmoid. -/
abbrev refLayer (P : FVec Ideal S2048x1024 .f32) (W1 : FVec Ideal S256x1024 .f32) (b1 : FVec Ideal S256 .f32) : FVec Ideal S2048x256 .f32 :=
  addf (Host.dotGeneral dot_S2048x1024_S1024x256_S2048x256_1_0_0_1_n_n none P (transpose S1024x256 [1, 0] W1 transposes_S256x1024_S1024x256_1_0))
    (broadcastInDim S2048x256 ![0, 1] bcast_S1x256_S2048x256_0_1 (broadcastInDim S1x256 ![1] bcast_S256_S1x256_1 b1))

/-- The memory gate. -/
abbrev refGate (P : FVec Ideal S2048x1024 .f32) (W1 : FVec Ideal S256x1024 .f32) (b1 : FVec Ideal S256 .f32) (W2 : FVec Ideal S1024x256 .f32)
    (b2 : FVec Ideal S1024 .f32) : FVec Ideal S2048x1024 .f32 :=
  refSigmoid bcast_S_S2048x1024 (addf (Host.dotGeneral dot_S2048x256_S256x1024_S2048x1024_1_0_0_1_n_n none
      (mulf (refLayer P W1 b1) (refSigmoid bcast_S_S2048x256 (refLayer P W1 b1))) (transpose S256x1024 [1, 0] W2 transposes_S1024x256_S256x1024_1_0))
    (broadcastInDim S2048x1024 ![0, 1] bcast_S1x1024_S2048x1024_0_1 (broadcastInDim S1x1024 ![1] bcast_S1024_S1x1024_1 b2)))

/-- The gated rows, projected. -/
abbrev refProj (P : FVec Ideal S2048x1024 .f32) (W1 : FVec Ideal S256x1024 .f32) (b1 : FVec Ideal S256 .f32) (W2 : FVec Ideal S1024x256 .f32)
    (b2 : FVec Ideal S1024 .f32) (Wo : FVec Ideal S1024x1024 .f32) : FVec Ideal S2048x1024 .f32 :=
  Host.dotGeneral dot_S2048x1024_S1024x1024_S2048x1024_1_0_0_1_n_n none (mulf P (refGate P W1 b1 W2 b2))
    (transpose S1024x1024 [1, 0] Wo transposes_S1024x1024_S1024x1024_1_0)

/-- The reference's result, of the gathered rows and the weights. -/
abbrev refOut (P : FVec Ideal S2048x1024 .f32) (W1 : FVec Ideal S256x1024 .f32) (b1 : FVec Ideal S256 .f32) (W2 : FVec Ideal S1024x256 .f32)
    (b2 : FVec Ideal S1024 .f32) (Wo : FVec Ideal S1024x1024 .f32) : FVec Ideal S2048x1024 .f32 :=
  mulf (refProj P W1 b1 W2 b2 Wo) (refSigmoid bcast_S_S2048x1024 (refProj P W1 b1 W2 b2 Wo))

section Gates

variable (P : FVec Ideal S2048x1024 .f32) (W1 : FVec Ideal S256x1024 .f32) (b1 : FVec Ideal S256 .f32) (W2 : FVec Ideal S1024x256 .f32)
  (b2 : FVec Ideal S1024 .f32) (Wo : FVec Ideal S1024x1024 .f32)

/-- A bias, the same for all rows. -/
theorem refBias_at {M N : ℕ} (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) (hN : N ≠ 1) :
    broadcastInDim ⟨2, ![M, N]⟩ ![0, 1] h2 (broadcastInDim ⟨2, ![1, N]⟩ ![1] h1 b) (ValueIdx.ix2 r c) = b (ValueIdx.ix1 c) := by
  refine (broadcastInDim_apply ![0, 1] h2 _ (ValueIdx.ix2 r c) (ValueIdx.ix2 (0 : Fin 1) c) ?_).trans (broadcastInDim_apply ![1] h1 b _ (ValueIdx.ix1 c) ?_)
  · intro a
    match a with
    | ⟨0, _⟩ => rfl
    | ⟨1, _⟩ => exact (if_neg hN).symm
  · intro a
    match a with
    | ⟨0, _⟩ => exact (if_neg hN).symm

/-- The reference's result at row `r` and column `c`. -/
theorem refOut_at (r : Fin 2048) (c : Fin 1024) :
    refOut P W1 b1 W2 b2 Wo (ValueIdx.ix2 r c)
      = Gate.outAt (fun k => P (ValueIdx.ix2 r k)) (fun j k => W1 (ValueIdx.ix2 j k)) (fun j => b1 (ValueIdx.ix1 j)) (fun k j => W2 (ValueIdx.ix2 k j))
        (fun k => b2 (ValueIdx.ix1 k)) (fun o k => Wo (ValueIdx.ix2 o k)) c := by
  have hh (j : Fin 256) := Gate.addf_of (Gate.host_of (M := 2048) (K := 1024) (N := 256) (A := P) (B := W1) transposes_S256x1024_S1024x256_1_0 r j
    (fun k => rfl) (fun k => rfl)) (refBias_at b1 bcast_S256_S1x256_1 bcast_S1x256_S2048x256_0_1 r j (by decide))
  have hg (k : Fin 1024) := Gate.sigmoid_of (o := broadcastInDim S2048x1024 ![] bcast_S_S2048x1024 (constant S_ .f32 0x3F800000#32))
    (p := broadcastInDim S2048x1024 ![] bcast_S_S2048x1024 (constant S_ .f32 0x3F800000#32)) rfl rfl
    (Gate.addf_of (Gate.host_of (M := 2048) (K := 256) (N := 1024) (φ₁ := .f32) (B := W2) transposes_S1024x256_S256x1024_1_0 r k
      (fun j => Gate.mulf_of (hh j) (Gate.sigmoid_of (o := broadcastInDim S2048x256 ![] bcast_S_S2048x256 (constant S_ .f32 0x3F800000#32))
        (p := broadcastInDim S2048x256 ![] bcast_S_S2048x256 (constant S_ .f32 0x3F800000#32)) rfl rfl (hh j))) (fun j => rfl))
      (refBias_at b2 bcast_S1024_S1x1024_1 bcast_S1x1024_S2048x1024_0_1 r k (by decide)))
  have ho := Gate.host_of (M := 2048) (K := 1024) (N := 1024) (φ₁ := .f32) (B := Wo) transposes_S1024x1024_S1024x1024_1_0 r c
    (fun k => Gate.mulf_of (rfl : P (ValueIdx.ix2 r k) = P (ValueIdx.ix2 r k)) (hg k)) (fun k => rfl)
  exact Gate.mulf_of ho (Gate.sigmoid_of (o := broadcastInDim S2048x1024 ![] bcast_S_S2048x1024 (constant S_ .f32 0x3F800000#32))
    (p := broadcastInDim S2048x1024 ![] bcast_S_S2048x1024 (constant S_ .f32 0x3F800000#32)) rfl rfl ho)

/-- The reference's result is the composed term. -/
theorem res_eq (m : (ℓ : Loc nD τ sig) → Buf (Elt Ideal) ℓ) (c : Dev nD) :
    Cert.ReferenceIdeal.Value.res_out0 m c
      = refOut (refOf (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Cert.ReferenceIdeal.Value.res_out0 Cert.ReferenceIdeal.Value.res_main_v49
  rfl

end Gates

end Cert.Tile
-- ==== Proof.Pre.lean ====
/- What the claims' precondition says of the indices. -/
module

public import proofs.«01_k».proof.Proof.Where
public import proofs.«01_k».proof.Proof.Gen.Pre_near
public import Idealize.ShloMosaic.Lib.ReduceAll

@[expose] public section

noncomputable section

namespace Cert.Tile

open Cert.Pre_near Cert.Pre_near.Gen
open Idealize.ShloMosaic

variable {F : FTy → Type} [FloatOps F]

/-- The four comparisons at one element: an index not negative, below 2048, and within 272 of its row. -/
theorem word_near (v : BitVec 32) (r : ℕ) (hr : r < 2048) (h0 : IntOp.cmpi .sge v 0#32 = 1#1) (h1 : IntOp.cmpi .slt v 2048#32 = 1#1)
    (h2 : IntOp.cmpi .sle v (BitVec.ofNat 32 r + 272#32) = 1#1) (h3 : IntOp.cmpi .sge v (BitVec.ofNat 32 r - 272#32) = 1#1) :
    v.toNat < 2048 ∧ v.toNat ≤ r + 272 ∧ r ≤ v.toNat + 272 := by
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_add, BitVec.toNat_sub,
    BitVec.toNat_ofNat, Nat.reducePow, Nat.reduceMod] at h0 h1 h2 h3
  omega

/-- The precondition at the indices a row samples. -/
theorem near_of_pre (X : FVec F S2048x1024 .f32) (I : IVec S2048x48 32) (Wt : FVec F S2048x768 .f32)
    (W1 : FVec F S256x1024 .f32) (b1 : FVec F S256 .f32) (W2 : FVec F S1024x256 .f32) (b2 : FVec F S1024 .f32) (Wo : FVec F S1024x1024 .f32)
    (h : Cert.Pre_near.fn (F := F) X I Wt W1 b1 W2 b2 Wo = fun _ => 1#1) : Near I := by
  intro r hr s hs
  have : Subsingleton S_.Idx := ⟨fun a b => funext fun k => k.elim0⟩
  have e := congrFun h fun k => k.elim0
  unfold fn fn_part1 at e
  dsimp only at e
  unfold andi at e
  obtain ⟨e012, e3⟩ := IntOp.andi_eq_one.1 e
  obtain ⟨e01, e2⟩ := IntOp.andi_eq_one.1 e012
  obtain ⟨e0, e1⟩ := IntOp.andi_eq_one.1 e01
  have hv : ((at2 r s : S2048x33.Idx) 0).val = r := at2_row s hr
  have hx : extractStridedSlice S2048x33 ![0, 0] I slices_S2048x48_S2048x33_0_0 (at2 r s) = I (at2 r s) := by
    unfold extractStridedSlice
    exact congrArg I (at2_eq _ _ _ ((Nat.zero_add _).trans hv) ((Nat.zero_add _).trans (Nat.mod_eq_of_lt hs)))
  have a0 := Host.reduce_andi_all _ _ _ _ _ e0 (at2 r s)
  have a1 := Host.reduce_andi_all _ _ _ _ _ e1 (at2 r s)
  have a2 := Host.reduce_andi_all _ _ _ _ _ e2 (at2 r s)
  have a3 := Host.reduce_andi_all _ _ _ _ _ e3 (at2 r s)
  simp only [cmpi, addi, subi, broadcastInDim, constantI, iotaInDim, hv, hx] at a0 a1 a2 a3
  exact word_near _ _ hr a0 a1 a2 a3

end Cert.Tile
-- ==== Proof.PrintedA.lean ====
/- The tile's program and its reading with exact arithmetic agree: the first two blocks. -/
module

public import proofs.«01_k».proof.Proof.Gen.Kernel
public import proofs.«01_k».proof.Proof.Gen.KernelIdeal

@[expose] public section

noncomputable section

namespace Cert.Tile

open Idealize.ShloMosaic

variable {F : FTy → Type} [FloatOps F]

set_option maxHeartbeats 0 in
/-- The tile's number, and the first window's row. -/
theorem alike281 : Cert.Kernel.k0_part281 (F := F) = Cert.KernelIdeal.k0_part281 (F := F) := rfl

set_option maxHeartbeats 0 in
/-- The first block's copies and loop. -/
theorem alike282 : Cert.Kernel.k0_part282 (F := F) = Cert.KernelIdeal.k0_part282 (F := F) := rfl

set_option maxHeartbeats 0 in
/-- Between the first block's loop and the second's. -/
theorem alike283 : Cert.Kernel.k0_part283 (F := F) = Cert.KernelIdeal.k0_part283 (F := F) := rfl

set_option maxHeartbeats 0 in
/-- The second block's loop. -/
theorem alike284 : Cert.Kernel.k0_part284 (F := F) = Cert.KernelIdeal.k0_part284 (F := F) := rfl

end Cert.Tile
-- ==== Proof.PrintedB.lean ====
/- The tile's program and its reading with exact arithmetic agree: the third and fourth blocks. -/
module

public import proofs.«01_k».proof.Proof.Gen.Kernel
public import proofs.«01_k».proof.Proof.Gen.KernelIdeal

@[expose] public section

noncomputable section

namespace Cert.Tile

open Idealize.ShloMosaic

variable {F : FTy → Type} [FloatOps F]

set_option maxHeartbeats 0 in
/-- The third block's loop. -/
theorem alike285 : Cert.Kernel.k0_part285 (F := F) = Cert.KernelIdeal.k0_part285 (F := F) := rfl

set_option maxHeartbeats 0 in
/-- The fourth block's loop. -/
theorem alike286 : Cert.Kernel.k0_part286 (F := F) = Cert.KernelIdeal.k0_part286 (F := F) := rfl

end Cert.Tile
-- ==== Proof.PrintedC.lean ====
/- The tile's program and its reading with exact arithmetic agree: the fifth and sixth blocks. -/
module

public import proofs.«01_k».proof.Proof.Gen.Kernel
public import proofs.«01_k».proof.Proof.Gen.KernelIdeal

@[expose] public section

noncomputable section

namespace Cert.Tile

open Idealize.ShloMosaic

variable {F : FTy → Type} [FloatOps F]

set_option maxHeartbeats 0 in
/-- The fifth block's loop. -/
theorem alike287 : Cert.Kernel.k0_part287 (F := F) = Cert.KernelIdeal.k0_part287 (F := F) := rfl

set_option maxHeartbeats 0 in
/-- The sixth block's loop. -/
theorem alike288 : Cert.Kernel.k0_part288 (F := F) = Cert.KernelIdeal.k0_part288 (F := F) := rfl

end Cert.Tile
-- ==== Proof.PrintedD.lean ====
/- The tile's program and its reading with exact arithmetic agree: the seventh block on. -/
module

public import proofs.«01_k».proof.Proof.Gen.Kernel
public import proofs.«01_k».proof.Proof.Gen.KernelIdeal

@[expose] public section

noncomputable section

namespace Cert.Tile

open Idealize.ShloMosaic

variable {F : FTy → Type} [FloatOps F]

set_option maxHeartbeats 0 in
/-- The seventh block's loop and on. -/
theorem alike289 : Cert.Kernel.k0_part289 (F := F) = Cert.KernelIdeal.k0_part289 (F := F) := rfl

end Cert.Tile
-- ==== Proof.Printed.lean ====
/- The kernel's own program and its reading with exact arithmetic are one text. -/
module

public import proofs.«01_k».proof.Proof.PrintedA
public import proofs.«01_k».proof.Proof.PrintedB
public import proofs.«01_k».proof.Proof.PrintedC
public import proofs.«01_k».proof.Proof.PrintedD

@[expose] public section

noncomputable section

namespace Cert.Tile

open Idealize.ShloMosaic

variable {F : FTy → Type} [FloatOps F]

/-- The same threads. -/
theorem threads_same : Cert.Kernel.threads (F := F) = Cert.KernelIdeal.threads (F := F) := rfl

set_option maxHeartbeats 0 in
/-- The tile's program: each of its parts agrees, and what joins them is read off. -/
theorem tile_same : Cert.Kernel.cc0_sc_body (F := F) = Cert.KernelIdeal.cc0_sc_body (F := F) := by
  unfold Cert.Kernel.cc0_sc_body Cert.KernelIdeal.cc0_sc_body
  simp only [alike281, alike282, alike283, alike284, alike285, alike286, alike287, alike288, alike289]
  rfl

/-- The table's entry for a tile. -/
theorem tile_entry (c s a) :
    Cert.Kernel.defs₀ (F := F) (.scVector c s) 0 a
      = Cert.KernelIdeal.defs₀ (F := F) (.scVector c s) 0 a := by
  unfold Cert.Kernel.defs₀ Cert.KernelIdeal.defs₀
  dsimp only
  rw [tile_same]
  rfl

/-- The table's entry for the gate. -/
theorem gate_entry (a) :
    Cert.Kernel.defs₀ (F := F) .tc 1 a = Cert.KernelIdeal.defs₀ (F := F) .tc 1 a := rfl

/-- The table of bodies, entry by entry. -/
theorem table_same : Cert.Kernel.defs₀ (F := F) = Cert.KernelIdeal.defs₀ (F := F) := by
  funext p ℓ a
  match p, ℓ with
  | .scVector c s, 0 => exact tile_entry c s a
  | .scVector c s, 1 => rfl
  | .scScalar c, 0 => rfl
  | .scScalar c, 1 => rfl
  | .tc, 0 => rfl
  | .tc, 1 => exact gate_entry a

/-- The same definitions: the launch and the pipeline are built alike from the one table. -/
theorem defs_same : Cert.Kernel.defs (F := F) = Cert.KernelIdeal.defs (F := F) :=
  congrArg (fun D => (Cert.KernelIdeal.sc (F := F)).defs
    (Pipeline.defs (Cert.KernelIdeal.pcfgs (F := F)) D)) table_same

end Cert.Tile
-- ==== Proof.Claims.lean ====
/- The claims, from the program's run and the reference's. -/
module

public import proofs.«01_k».proof.Defs
public import proofs.«01_k».proof.Proof.Launch
public import proofs.«01_k».proof.Proof.Gated
public import proofs.«01_k».proof.Proof.Reference
public import proofs.«01_k».proof.Proof.Pre
public import proofs.«01_k».proof.Proof.Printed

@[expose] public section

noncomputable section

namespace Cert.Tile

open Idealize.ShloMosaic Idealize.SL.Sem

section Entry

open Cert.KernelIdeal Cert.KernelIdeal.Gen
open Idealize.ShloMosaic.TcCoe

variable {F : FTy → Type} [FloatOps F] (m : (ℓ : Loc nD τ sig) → Buf (Elt F) ℓ) (d : Dev nD)

/-- An array no operation before the gates' call writes is as it was. -/
theorem entered_arg (b : Ref sig .tc) (h0 : b ≠ main_v0) (h1 : b ≠ main_v1) (h2 : b ≠ main_v2) (h3 : b ≠ main_v3) (h4 : b ≠ main_v4) (h5 : b ≠ main_v5) :
    entered m d b = m ((d.tc : Thread nD τ).loc b) := by
  unfold entered W₂
  rw [StableHlo.unary_result_ne (h := h5), StableHlo.unary_result_ne (h := h4), StableHlo.unary_result_ne (h := h3), StableHlo.unary_result_ne (h := h2),
    StableHlo.unary_result_ne (h := h1)]
  exact Function.update_of_ne (fun h => h0 (Proc.devRef_injective _ h)) _ _

/-- The gathered rows are the SparseCore call's result. -/
theorem entered_rows : entered m d main_v0 = result d m := by
  unfold entered W₂
  rw [StableHlo.unary_result_ne (h := by decide), StableHlo.unary_result_ne (h := by decide), StableHlo.unary_result_ne (h := by decide),
    StableHlo.unary_result_ne (h := by decide), StableHlo.unary_result_ne (h := by decide)]
  exact Function.update_self _ _ _

/-- The weights as the gates' call takes them. -/
theorem entered_w1 : entered m d main_v1 = truncf .bf16 (m ((d.tc : Thread nD τ).loc main_arg3)) bitsLt_bf16_f32 := by
  unfold entered W₂
  rw [StableHlo.unary_result_ne (h := by decide), StableHlo.unary_result_ne (h := by decide), StableHlo.unary_result_ne (h := by decide),
    StableHlo.unary_result_ne (h := by decide), StableHlo.unary_result]
  rfl
theorem entered_b1 : entered m d main_v2 = broadcastInDim S1x256 ![1] bcast_S256_S1x256_1 (m ((d.tc : Thread nD τ).loc main_arg4)) := by
  unfold entered W₂
  rw [StableHlo.unary_result_ne (h := by decide), StableHlo.unary_result_ne (h := by decide), StableHlo.unary_result_ne (h := by decide),
    StableHlo.unary_result, StableHlo.unary_result_ne (h := by decide)]
  rfl
theorem entered_w2 : entered m d main_v3 = truncf .bf16 (m ((d.tc : Thread nD τ).loc main_arg5)) bitsLt_bf16_f32 := by
  unfold entered W₂
  rw [StableHlo.unary_result_ne (h := by decide), StableHlo.unary_result_ne (h := by decide), StableHlo.unary_result, StableHlo.unary_result_ne (h := by decide),
    StableHlo.unary_result_ne (h := by decide)]
  rfl
theorem entered_b2 : entered m d main_v4 = broadcastInDim S1x1024 ![1] bcast_S1024_S1x1024_1 (m ((d.tc : Thread nD τ).loc main_arg6)) := by
  unfold entered W₂
  rw [StableHlo.unary_result_ne (h := by decide), StableHlo.unary_result, StableHlo.unary_result_ne (h := by decide), StableHlo.unary_result_ne (h := by decide),
    StableHlo.unary_result_ne (h := by decide)]
  rfl
theorem entered_wo : entered m d main_v5 = truncf .bf16 (m ((d.tc : Thread nD τ).loc main_arg7)) bitsLt_bf16_f32 := by
  unfold entered W₂
  rw [StableHlo.unary_result, StableHlo.unary_result_ne (h := by decide), StableHlo.unary_result_ne (h := by decide), StableHlo.unary_result_ne (h := by decide),
    StableHlo.unary_result_ne (h := by decide)]
  rfl

/-- An argument at the end of the program. -/
theorem ends_arg (b : Ref sig .tc) (h0 : b ≠ main_v0) (h1 : b ≠ main_v1) (h2 : b ≠ main_v2) (h3 : b ≠ main_v3) (h4 : b ≠ main_v4) (h5 : b ≠ main_v5)
    (h6 : b ≠ main_v6) : Gate.after d (entered m) b = m ((d.tc : Thread nD τ).loc b) :=
  (Gate.after_ne d (entered m) b h6).trans (entered_arg m d b h0 h1 h2 h3 h4 h5)

/-- All arguments are as they were. -/
theorem ends_args (r : PUnit × MemSt nD τ sig (Elt F))
    (h : ∀ (b : Ref sig .tc), ¬ b.isScoped → r.2.mem ((d.tc : Thread nD τ).loc b) = Gate.after d (entered m) b) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7) :=
  ⟨(h main_arg0 (by decide)).trans (ends_arg m d _ (by decide) (by decide) (by decide) (by decide) (by decide) (by decide) (by decide)),
    (h main_arg1 (by decide)).trans (ends_arg m d _ (by decide) (by decide) (by decide) (by decide) (by decide) (by decide) (by decide)),
    (h main_arg2 (by decide)).trans (ends_arg m d _ (by decide) (by decide) (by decide) (by decide) (by decide) (by decide) (by decide)),
    (h main_arg3 (by decide)).trans (ends_arg m d _ (by decide) (by decide) (by decide) (by decide) (by decide) (by decide) (by decide)),
    (h main_arg4 (by decide)).trans (ends_arg m d _ (by decide) (by decide) (by decide) (by decide) (by decide) (by decide) (by decide)),
    (h main_arg5 (by decide)).trans (ends_arg m d _ (by decide) (by decide) (by decide) (by decide) (by decide) (by decide) (by decide)),
    (h main_arg6 (by decide)).trans (ends_arg m d _ (by decide) (by decide) (by decide) (by decide) (by decide) (by decide) (by decide)),
    (h main_arg7 (by decide)).trans (ends_arg m d _ (by decide) (by decide) (by decide) (by decide) (by decide) (by decide) (by decide))⟩

end Entry

/-- A bias laid in one row, read. -/
theorem row_bias {N : ℕ} (b : FVec Ideal ⟨1, ![N]⟩ .f32) (h : (⟨1, ![N]⟩ : Shape).BroadcastsInDim ⟨2, ![1, N]⟩ ![1]) (c : Fin N) (hN : N ≠ 1) :
    broadcastInDim ⟨2, ![1, N]⟩ ![1] h b (ValueIdx.ix2 (0 : Fin 1) c) = b (ValueIdx.ix1 c) := by
  refine broadcastInDim_apply ![1] h b _ (ValueIdx.ix1 c) fun a => ?_
  match a with
  | ⟨0, _⟩ => exact (if_neg hN).symm

/-- The gates' call, from the SparseCore call's rows, leaves the reference's result. -/
theorem gated_ref (m : (ℓ : Loc Cert.KernelIdeal.nD Cert.KernelIdeal.τ Cert.KernelIdeal.sig) → Buf (Elt Ideal) ℓ) (d : Dev Cert.KernelIdeal.nD)
    (hN : Near (m (iLoc d))) :
    refOut (refOf (m (xLoc d)) (m (iLoc d)) (m (wLoc d))) (m ((d.tc : Thread Cert.KernelIdeal.nD Cert.KernelIdeal.τ).loc Cert.KernelIdeal.main_arg3))
      (m ((d.tc : Thread Cert.KernelIdeal.nD Cert.KernelIdeal.τ).loc Cert.KernelIdeal.main_arg4))
      (m ((d.tc : Thread Cert.KernelIdeal.nD Cert.KernelIdeal.τ).loc Cert.KernelIdeal.main_arg5))
      (m ((d.tc : Thread Cert.KernelIdeal.nD Cert.KernelIdeal.τ).loc Cert.KernelIdeal.main_arg6))
      (m ((d.tc : Thread Cert.KernelIdeal.nD Cert.KernelIdeal.τ).loc Cert.KernelIdeal.main_arg7))
      = Gate.gated d (entered m) := by
  have e : refOf (m (xLoc d)) (m (iLoc d)) (m (wLoc d)) = result d m := funext fun y => refOf_at (m (xLoc d)) (m (iLoc d)) (m (wLoc d)) hN y
  rw [e, Gate.gated_eq]
  funext y
  obtain ⟨r, c, rfl⟩ : ∃ r c, y = ValueIdx.ix2 r c := ⟨y 0, y 1, ValueIdx.eq_ix2 y⟩
  refine (refOut_at _ _ _ _ _ _ r c).trans ?_
  unfold Gate.rowOut
  rw [entered_rows, entered_w1, entered_b1, entered_w2, entered_b2, entered_wo]
  have e1 := funext fun j => (row_bias (m ((d.tc : Thread Cert.KernelIdeal.nD Cert.KernelIdeal.τ).loc Cert.KernelIdeal.main_arg4)) Cert.KernelIdeal.Gen.bcast_S256_S1x256_1 j (by decide)).symm
  have e2 := funext fun j => (row_bias (m ((d.tc : Thread Cert.KernelIdeal.nD Cert.KernelIdeal.τ).loc Cert.KernelIdeal.main_arg6)) Cert.KernelIdeal.Gen.bcast_S1024_S1x1024_1 j (by decide)).symm
  exact congrArg₂ (fun b1 b2 => Gate.outAt (fun k => result d m (ValueIdx.ix2 r k)) (fun j k => m ((d.tc : Thread Cert.KernelIdeal.nD Cert.KernelIdeal.τ).loc Cert.KernelIdeal.main_arg3) (ValueIdx.ix2 j k)) b1
    (fun k j => m ((d.tc : Thread Cert.KernelIdeal.nD Cert.KernelIdeal.τ).loc Cert.KernelIdeal.main_arg5) (ValueIdx.ix2 k j)) b2
    (fun o k => m ((d.tc : Thread Cert.KernelIdeal.nD Cert.KernelIdeal.τ).loc Cert.KernelIdeal.main_arg7) (ValueIdx.ix2 o k)) c) e1 e2

/-- The idealized program ends, with its arguments as they were. -/
theorem frame_ideal : Cert.quiescent_KernelIdeal := fun m ρ hpre =>
  (θ_run Cert.KernelIdeal.defs _ _).mono (fun r h => ⟨fun c => ends_args m c r (h.1 c), h.2⟩)
    (run_main (F := Ideal) m ρ fun d => near_of_pre _ _ _ _ _ _ _ _ (hpre d))

/-- The kernel's own program, at the machine's arithmetic, ends, with its arguments as they were. -/
theorem frame_kernel : Cert.quiescent_Kernel := by
  intro m ρ hpre
  rw [defs_same, threads_same]
  exact (θ_run Cert.KernelIdeal.defs _ _).mono (fun r h => ⟨fun c => ends_args m c r (h.1 c), h.2⟩)
    (run_main (F := Bits) m ρ fun d => near_of_pre _ _ _ _ _ _ _ _ (hpre d))

/-- The reference ends, with its arguments as they were, from any arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And so it does from the arguments the comparison is made at. -/
theorem frame_reference_near : Cert.quiescent_ReferenceIdeal_pre_near := fun m ρ _ => frame_reference m ρ trivial

/-- From the same arguments the program and the reference end with equal results. -/
theorem value : Cert.algebraic_KernelIdeal_ReferenceIdeal := by
  intro m g m' g' hpre hagree
  have hN : AllNear m := fun d => near_of_pre _ _ _ _ _ _ _ _ (hpre d)
  refine ⟨fun c => Gate.gated c (entered m), ?_, ?_⟩
  · exact (θ_run Cert.KernelIdeal.defs _ _).mono (fun r h c => ⟨(h.1 c Cert.KernelIdeal.main_v6 (by decide)).trans (Gate.after_out c (entered m)), ends_args m c r (h.1 c)⟩)
      (run_main (F := Ideal) m g hN)
  · refine (θ_run Cert.ReferenceIdeal.defs _ _).mono (fun r h c => ⟨(h c).1.trans ((res_eq m' c).trans ?_), (h c).2⟩) (Cert.ReferenceIdeal.Value.run (F := Ideal) m' g')
    obtain ⟨a0, a1, a2, a3, a4, a5, a6, a7⟩ := hagree c
    rw [a0, a1, a2, a3, a4, a5, a6, a7]
    exact gated_ref m c (hN c)

end Cert.Tile
-- ==== Proof.lean ====
/- The claims: the program and its idealized reading end with their arguments as they were, so does the
   reference, idealizing changed nothing, and the idealized program and the reference end with equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_near
public import proofs.«01_k».proof.Proof.Gen.KernelIdeal.Launch
public import proofs.«01_k».proof.Proof.Gen.KernelIdeal.Points
public import proofs.«01_k».proof.Proof.Gen.ReferenceIdeal.Run
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Pre_near.Gen.facts,
    Cert.Tile.frame_kernel, Cert.Tile.frame_ideal, Cert.Tile.frame_reference, Cert.Tile.frame_reference_near, trivial, Cert.Tile.value⟩

end Cert.Proof

end
